-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def preserves_Kernel_KernelIdeal : Prop :=
  IdealRules.named_const.Statement Cert.KernelIdeal.κ "c" .f32 0x3D372713#32 ((8943 / 200000 : ℝ) : EReal)
  ∧ IdealRules.named_const.Statement Cert.KernelIdeal.κ "c3" .f32 0x3E095D4F#32 ((26829 / 200000 : ℝ) : EReal)

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)) (v4 : (c : Dev Cert.KernelIdeal.nD) → Buf (Elt Ideal) ((c.tc : Thread Cert.KernelIdeal.nD Cert.KernelIdeal.τ).loc Cert.KernelIdeal.main_v13_4)) (v5 : (c : Dev Cert.KernelIdeal.nD) → Buf (Elt Ideal) ((c.tc : Thread Cert.KernelIdeal.nD Cert.KernelIdeal.τ).loc Cert.KernelIdeal.main_v13_5)) (v6 : (c : Dev Cert.KernelIdeal.nD) → Buf (Elt Ideal) ((c.tc : Thread Cert.KernelIdeal.nD Cert.KernelIdeal.τ).loc Cert.KernelIdeal.main_v13_6)) (v7 : (c : Dev Cert.KernelIdeal.nD) → Buf (Elt Ideal) ((c.tc : Thread Cert.KernelIdeal.nD Cert.KernelIdeal.τ).loc Cert.KernelIdeal.main_v13_7)) (v8 : (c : Dev Cert.KernelIdeal.nD) → Buf (Elt Ideal) ((c.tc : Thread Cert.KernelIdeal.nD Cert.KernelIdeal.τ).loc Cert.KernelIdeal.main_v13_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v13_0) i = v0 c i)
          ∧ (∀ i : (⟨2, ![8192, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v13_1) i = v1 c i)
          ∧ (∀ i : (⟨3, ![8, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.KernelIdeal.nD Cert.KernelIdeal.τ).loc Cert.KernelIdeal.main_v13_2) i = v2 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.KernelIdeal.nD Cert.KernelIdeal.τ).loc Cert.KernelIdeal.main_v13_3) i = v3 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.KernelIdeal.nD Cert.KernelIdeal.τ).loc Cert.KernelIdeal.main_v13_4) i = v4 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.KernelIdeal.nD Cert.KernelIdeal.τ).loc Cert.KernelIdeal.main_v13_5) i = v5 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.KernelIdeal.nD Cert.KernelIdeal.τ).loc Cert.KernelIdeal.main_v13_6) i = v6 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.KernelIdeal.nD Cert.KernelIdeal.τ).loc Cert.KernelIdeal.main_v13_7) i = v7 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 i = 1#1 → r.2.mem ((c.tc : Thread Cert.KernelIdeal.nD Cert.KernelIdeal.τ).loc Cert.KernelIdeal.main_v13_8) i = v8 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 2048]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v203) i = v0 c i)
          ∧ (∀ i : (⟨2, ![8192, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v134) i = v1 c i)
          ∧ (∀ i : (⟨3, ![8, 128, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 i = 1#1 → r.2.mem ((c.tc : Thread Cert.ReferenceIdeal.nD Cert.ReferenceIdeal.τ).loc Cert.ReferenceIdeal.main_v148) i = v2 c i)
          ∧ (∀ i : (⟨2, ![8, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 i = 1#1 → r.2.mem ((c.tc : Thread Cert.ReferenceIdeal.nD Cert.ReferenceIdeal.τ).loc Cert.ReferenceIdeal.main_v146) i = v3 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 i = 1#1 → r.2.mem ((c.tc : Thread Cert.ReferenceIdeal.nD Cert.ReferenceIdeal.τ).loc Cert.ReferenceIdeal.main_v204) i = v4 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 i = 1#1 → r.2.mem ((c.tc : Thread Cert.ReferenceIdeal.nD Cert.ReferenceIdeal.τ).loc Cert.ReferenceIdeal.main_v205) i = v5 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 i = 1#1 → r.2.mem ((c.tc : Thread Cert.ReferenceIdeal.nD Cert.ReferenceIdeal.τ).loc Cert.ReferenceIdeal.main_v206) i = v6 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 i = 1#1 → r.2.mem ((c.tc : Thread Cert.ReferenceIdeal.nD Cert.ReferenceIdeal.τ).loc Cert.ReferenceIdeal.main_v207) i = v7 c i)
          ∧ (∀ i : (⟨2, ![1, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 i = 1#1 → r.2.mem ((c.tc : Thread Cert.ReferenceIdeal.nD Cert.ReferenceIdeal.τ).loc Cert.ReferenceIdeal.main_v208) i = v8 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v20_0)) (v1 : (c : Dev Cert.Kernel5Ideal.nD) → Buf (Elt Ideal) ((c.tc : Thread Cert.Kernel5Ideal.nD Cert.Kernel5Ideal.τ).loc Cert.Kernel5Ideal.main_v20_1)) (v2 : (c : Dev Cert.Kernel5Ideal.nD) → Buf (Elt Ideal) ((c.tc : Thread Cert.Kernel5Ideal.nD Cert.Kernel5Ideal.τ).loc Cert.Kernel5Ideal.main_v20_2)) (v3 : (c : Dev Cert.Kernel5Ideal.nD) → Buf (Elt Ideal) ((c.tc : Thread Cert.Kernel5Ideal.nD Cert.Kernel5Ideal.τ).loc Cert.Kernel5Ideal.main_v20_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20_0) = v0 c
          ∧ r.2.mem ((c.tc : Thread Cert.Kernel5Ideal.nD Cert.Kernel5Ideal.τ).loc Cert.Kernel5Ideal.main_v20_1) = v1 c
          ∧ r.2.mem ((c.tc : Thread Cert.Kernel5Ideal.nD Cert.Kernel5Ideal.τ).loc Cert.Kernel5Ideal.main_v20_2) = v2 c
          ∧ r.2.mem ((c.tc : Thread Cert.Kernel5Ideal.nD Cert.Kernel5Ideal.τ).loc Cert.Kernel5Ideal.main_v20_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v52) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_v81) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v40) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v14) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v37) = v0 c
          ∧ r.2.mem ((c.tc : Thread Cert.Reference12Ideal.nD Cert.Reference12Ideal.τ).loc Cert.Reference12Ideal.main_v38) = v1 c
          ∧ r.2.mem ((c.tc : Thread Cert.Reference12Ideal.nD Cert.Reference12Ideal.τ).loc Cert.Reference12Ideal.main_v39) = v2 c
          ∧ r.2.mem ((c.tc : Thread Cert.Reference12Ideal.nD Cert.Reference12Ideal.τ).loc Cert.Reference12Ideal.main_v40) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v22) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v39) = v0 c
          ∧ r.2.mem ((c.tc : Thread Cert.Reference15Ideal.nD Cert.Reference15Ideal.τ).loc Cert.Reference15Ideal.main_v40) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2_0)) (v1 : (c : Dev Cert.Kernel16Ideal.nD) → Buf (Elt Ideal) ((c.tc : Thread Cert.Kernel16Ideal.nD Cert.Kernel16Ideal.τ).loc Cert.Kernel16Ideal.main_v2_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2_0) = v0 c
          ∧ r.2.mem ((c.tc : Thread Cert.Kernel16Ideal.nD Cert.Kernel16Ideal.τ).loc Cert.Kernel16Ideal.main_v2_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v3_0)) (v1 : (c : Dev Cert.Kernel17Ideal.nD) → Buf (Elt Ideal) ((c.tc : Thread Cert.Kernel17Ideal.nD Cert.Kernel17Ideal.τ).loc Cert.Kernel17Ideal.main_v3_1)) (v2 : (c : Dev Cert.Kernel17Ideal.nD) → Buf (Elt Ideal) ((c.tc : Thread Cert.Kernel17Ideal.nD Cert.Kernel17Ideal.τ).loc Cert.Kernel17Ideal.main_v3_2)) (v3 : (c : Dev Cert.Kernel17Ideal.nD) → Buf (Elt Ideal) ((c.tc : Thread Cert.Kernel17Ideal.nD Cert.Kernel17Ideal.τ).loc Cert.Kernel17Ideal.main_v3_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3_0) = v0 c
          ∧ r.2.mem ((c.tc : Thread Cert.Kernel17Ideal.nD Cert.Kernel17Ideal.τ).loc Cert.Kernel17Ideal.main_v3_1) = v1 c
          ∧ r.2.mem ((c.tc : Thread Cert.Kernel17Ideal.nD Cert.Kernel17Ideal.τ).loc Cert.Kernel17Ideal.main_v3_2) = v2 c
          ∧ r.2.mem ((c.tc : Thread Cert.Kernel17Ideal.nD Cert.Kernel17Ideal.τ).loc Cert.Kernel17Ideal.main_v3_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v37) = v0 c
          ∧ r.2.mem ((c.tc : Thread Cert.Reference17Ideal.nD Cert.Reference17Ideal.τ).loc Cert.Reference17Ideal.main_v38) = v1 c
          ∧ r.2.mem ((c.tc : Thread Cert.Reference17Ideal.nD Cert.Reference17Ideal.τ).loc Cert.Reference17Ideal.main_v39) = v2 c
          ∧ r.2.mem ((c.tc : Thread Cert.Reference17Ideal.nD Cert.Reference17Ideal.τ).loc Cert.Reference17Ideal.main_v40) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)) (v2 : (c : Dev Cert.Kernel18Ideal.nD) → Buf (Elt Ideal) ((c.tc : Thread Cert.Kernel18Ideal.nD Cert.Kernel18Ideal.τ).loc Cert.Kernel18Ideal.main_v3_2)) (v3 : (c : Dev Cert.Kernel18Ideal.nD) → Buf (Elt Ideal) ((c.tc : Thread Cert.Kernel18Ideal.nD Cert.Kernel18Ideal.τ).loc Cert.Kernel18Ideal.main_v3_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_v3_2) = v2 c
          ∧ r.2.mem ((c.tc : Thread Cert.Kernel18Ideal.nD Cert.Kernel18Ideal.τ).loc Cert.Kernel18Ideal.main_v3_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v31) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v33) = v2 c
          ∧ r.2.mem ((c.tc : Thread Cert.Reference18Ideal.nD Cert.Reference18Ideal.τ).loc Cert.Reference18Ideal.main_v34) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)) (v3 : (c : Dev Cert.Kernel19Ideal.nD) → Buf (Elt Ideal) ((c.tc : Thread Cert.Kernel19Ideal.nD Cert.Kernel19Ideal.τ).loc Cert.Kernel19Ideal.main_v3_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_v3_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v31) = v0 c
          ∧ r.2.mem ((c.tc : Thread Cert.Reference19Ideal.nD Cert.Reference19Ideal.τ).loc Cert.Reference19Ideal.main_v32) = v1 c
          ∧ r.2.mem ((c.tc : Thread Cert.Reference19Ideal.nD Cert.Reference19Ideal.τ).loc Cert.Reference19Ideal.main_v33) = v2 c
          ∧ r.2.mem ((c.tc : Thread Cert.Reference19Ideal.nD Cert.Reference19Ideal.τ).loc Cert.Reference19Ideal.main_v34) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v3_0)) (v1 : (c : Dev Cert.Kernel20Ideal.nD) → Buf (Elt Ideal) ((c.tc : Thread Cert.Kernel20Ideal.nD Cert.Kernel20Ideal.τ).loc Cert.Kernel20Ideal.main_v3_1)) (v2 : (c : Dev Cert.Kernel20Ideal.nD) → Buf (Elt Ideal) ((c.tc : Thread Cert.Kernel20Ideal.nD Cert.Kernel20Ideal.τ).loc Cert.Kernel20Ideal.main_v3_2)) (v3 : (c : Dev Cert.Kernel20Ideal.nD) → Buf (Elt Ideal) ((c.tc : Thread Cert.Kernel20Ideal.nD Cert.Kernel20Ideal.τ).loc Cert.Kernel20Ideal.main_v3_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3_0) = v0 c
          ∧ r.2.mem ((c.tc : Thread Cert.Kernel20Ideal.nD Cert.Kernel20Ideal.τ).loc Cert.Kernel20Ideal.main_v3_1) = v1 c
          ∧ r.2.mem ((c.tc : Thread Cert.Kernel20Ideal.nD Cert.Kernel20Ideal.τ).loc Cert.Kernel20Ideal.main_v3_2) = v2 c
          ∧ r.2.mem ((c.tc : Thread Cert.Kernel20Ideal.nD Cert.Kernel20Ideal.τ).loc Cert.Kernel20Ideal.main_v3_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v31) = v0 c
          ∧ r.2.mem ((c.tc : Thread Cert.Reference20Ideal.nD Cert.Reference20Ideal.τ).loc Cert.Reference20Ideal.main_v32) = v1 c
          ∧ r.2.mem ((c.tc : Thread Cert.Reference20Ideal.nD Cert.Reference20Ideal.τ).loc Cert.Reference20Ideal.main_v33) = v2 c
          ∧ r.2.mem ((c.tc : Thread Cert.Reference20Ideal.nD Cert.Reference20Ideal.τ).loc Cert.Reference20Ideal.main_v34) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hPre_finite : Cert.Pre_finite.Facts) (hOn_written : Cert.On_written.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== On_written.lean ====
abbrev S8192x1024 : Shape := ⟨2, ![8192, 1024]⟩
abbrev S8192x2048 : Shape := ⟨2, ![8192, 2048]⟩
abbrev S8192x512 : Shape := ⟨2, ![8192, 512]⟩
abbrev S8x128x128 : Shape := ⟨3, ![8, 128, 128]⟩
abbrev S8x128 : Shape := ⟨2, ![8, 128]⟩
abbrev S512 : Shape := ⟨1, ![512]⟩
abbrev S_ : Shape := ⟨0, ![]⟩
abbrev S1x512 : Shape := ⟨2, ![1, 512]⟩

class Facts : Prop where
  bcast_S_S8192x2048 : S_.BroadcastsInDim S8192x2048 (![] : Fin 0 → Fin S8192x2048.rank)
  bcast_S_S8192x512 : S_.BroadcastsInDim S8192x512 (![] : Fin 0 → Fin S8192x512.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1x512 : S_.BroadcastsInDim S1x512 (![] : Fin 0 → Fin S1x512.rank)

variable [Facts]

def fn {F : FTy → Type} [FloatOps F] (main_arg0 : FVec F S8192x1024 .f32) (main_arg1 : FVec F S8192x2048 .f32) (main_arg2 : FVec F S8192x512 .f32) (main_arg3 : FVec F S8x128x128 .f32) (main_arg4 : FVec F S8x128 .f32) (main_arg5 : FVec F S512 .f32) (main_arg6 : FVec F S512 .f32) (main_arg7 : FVec F S512 .f32) (main_arg8 : FVec F S512 .f32) (main_arg9 : FVec F S512 .f32) : IVec S8192x2048 1 × IVec S8192x512 1 × IVec S8x128x128 1 × IVec S8x128 1 × IVec S1x512 1 × IVec S1x512 1 × IVec S1x512 1 × IVec S1x512 1 × IVec S1x512 1 :=
  let main_v0 : IVec S8192x2048 32 := iotaInDim S8192x2048 32 1
  let main_c : IVec S_ 32 := constantI S_ 32 1024#32
  let main_v1 : IVec S8192x2048 32 := broadcastInDim S8192x2048 ![] bcast_S_S8192x2048 main_c
  let main_v2 : IVec S8192x2048 1 := cmpi .slt main_v0 main_v1
  let main_c_0 : IVec S_ 1 := constantI S_ 1 1#1
  let main_v3 : IVec S8192x512 1 := broadcastInDim S8192x512 ![] bcast_S_S8192x512 main_c_0
  let main_c_1 : IVec S_ 1 := constantI S_ 1 1#1
  let main_v4 : IVec S8x128x128 1 := broadcastInDim S8x128x128 ![] bcast_S_S8x128x128 main_c_1
  let main_c_2 : IVec S_ 1 := constantI S_ 1 1#1
  let main_v5 : IVec S8x128 1 := broadcastInDim S8x128 ![] bcast_S_S8x128 main_c_2
  let main_c_3 : IVec S_ 1 := constantI S_ 1 1#1
  let main_v6 : IVec S1x512 1 := broadcastInDim S1x512 ![] bcast_S_S1x512 main_c_3
  let main_c_4 : IVec S_ 1 := constantI S_ 1 1#1
  let main_v7 : IVec S1x512 1 := broadcastInDim S1x512 ![] bcast_S_S1x512 main_c_4
  let main_c_5 : IVec S_ 1 := constantI S_ 1 1#1
  let main_v8 : IVec S1x512 1 := broadcastInDim S1x512 ![] bcast_S_S1x512 main_c_5
  let main_c_6 : IVec S_ 1 := constantI S_ 1 1#1
  let main_v9 : IVec S1x512 1 := broadcastInDim S1x512 ![] bcast_S_S1x512 main_c_6
  let main_c_7 : IVec S_ 1 := constantI S_ 1 1#1
  let main_v10 : IVec S1x512 1 := broadcastInDim S1x512 ![] bcast_S_S1x512 main_c_7
  (main_v2, main_v3, main_v4, main_v5, main_v6, main_v7, main_v8, main_v9, main_v10)
-- ==== Pre_finite.lean ====
abbrev S8192x1024 : Shape := ⟨2, ![8192, 1024]⟩
abbrev S8192x2048 : Shape := ⟨2, ![8192, 2048]⟩
abbrev S8192x512 : Shape := ⟨2, ![8192, 512]⟩
abbrev S8x128x128 : Shape := ⟨3, ![8, 128, 128]⟩
abbrev S8x128 : Shape := ⟨2, ![8, 128]⟩
abbrev S512 : Shape := ⟨1, ![512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192x512 : S_.BroadcastsInDim S8192x512 (![] : Fin 0 → Fin S8192x512.rank)
  reducesTo_S8192x512_S_d0_1 : S8192x512.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512 .f32) (main_arg9 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S8x128 .f32) (main_arg5 : FVec F S512 .f32) (main_arg6 : FVec F S512 .f32) (main_arg7 : FVec F S512 .f32) (main_arg8 : FVec F S512 .f32) (main_arg9 : FVec F S512 .f32) (main_v13 : IVec S_ 1) (main_v16 : IVec S8x128x128 1) : IVec S_ 1 :=
  let main_c_5 : IVec S_ 1 := constantI S_ 1 1#1
  let main_v17 : IVec S_ 1 := (fun x v => Host.reduce IntOp.andi x v reducesTo_S8x128x128_S_d0_1_2 h_S_) main_v16 main_c_5
  let main_v18 : IVec S_ 1 := andi main_v13 main_v17
  let main_v19 : FVec F S8x128 .f32 := Host.absf main_arg4
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x2048 .f32) (main_arg2 : FVec F S8192x512 .f32) (main_arg3 : FVec F S8x128x128 .f32) (main_arg4 : FVec F S8x128 .f32) (main_arg5 : FVec F S512 .f32) (main_arg6 : FVec F S512 .f32) (main_arg7 : FVec F S512 .f32) (main_arg8 : FVec F S512 .f32) (main_arg9 : FVec F S512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8x128x128 .f32 := Host.absf main_arg3
  let main_cst_4 : FVec F S_ .f32 := constant S_ .f32 0x7F800000#32
  let main_v15 : FVec F S8x128x128 .f32 := broadcastInDim S8x128x128 ![] bcast_S_S8x128x128 main_cst_4
  let main_v16 : IVec S8x128x128 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S8192x2048 : Shape := ⟨2, ![8192, 2048]⟩
abbrev S8192x512 : Shape := ⟨2, ![8192, 512]⟩
abbrev S8x128x128 : Shape := ⟨3, ![8, 128, 128]⟩
abbrev S8x128 : Shape := ⟨2, ![8, 128]⟩
abbrev S512 : Shape := ⟨1, ![512]⟩
abbrev S128x8 : Shape := ⟨2, ![128, 8]⟩
abbrev S128x8x64 : Shape := ⟨3, ![128, 8, 64]⟩
abbrev S128x512 : Shape := ⟨2, ![128, 512]⟩
abbrev S1x512 : Shape := ⟨2, ![1, 512]⟩
abbrev S512x512 : Shape := ⟨2, ![512, 512]⟩
abbrev S512x1024 : Shape := ⟨2, ![512, 1024]⟩
abbrev S512x1 : Shape := ⟨2, ![512, 1]⟩
abbrev S128x128 : Shape := ⟨2, ![128, 128]⟩
abbrev S1x128x128 : Shape := ⟨3, ![1, 128, 128]⟩
abbrev S8x512 : Shape := ⟨2, ![8, 512]⟩

abbrev nBuf : Space → Nat
  | .hbm => 32
  | .vmem => 32
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S8x128x128, .f32⟩
  | .hbm, ⟨4, _⟩ => ⟨S8x128, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S8x128x128, .bf16⟩
  | .hbm, ⟨11, _⟩ => ⟨S8x128x128, .f32⟩
  | .hbm, ⟨12, _⟩ => ⟨S8x128x128, .bf16⟩
  | .hbm, ⟨13, _⟩ => ⟨S128x8, .f32⟩
  | .hbm, ⟨14, _⟩ => ⟨S128x8x64, .f32⟩
  | .hbm, ⟨15, _⟩ => ⟨S128x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S8192x2048, .bf16⟩
  | .hbm, ⟨24, _⟩ => ⟨S8192x512, .f32⟩
  | .hbm, ⟨25, _⟩ => ⟨S8x128x128, .f32⟩
  | .hbm, ⟨26, _⟩ => ⟨S8x128, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x128x128, .bf16⟩
  | .local _ .vmem, ⟨11, _⟩ => ⟨S8x128x128, .bf16⟩
  | .local _ .vmem, ⟨12, _⟩ => ⟨S128x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S512x1024, .bf16⟩
  | .local _ .vmem, ⟨18, _⟩ => ⟨S512x1024, .bf16⟩
  | .local _ .vmem, ⟨19, _⟩ => ⟨S512x512, .f32⟩
  | .local _ .vmem, ⟨20, _⟩ => ⟨S512x512, .f32⟩
  | .local _ .vmem, ⟨21, _⟩ => ⟨S8x128x128, .f32⟩
  | .local _ .vmem, ⟨22, _⟩ => ⟨S8x128, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v13_4 : Ref sig .tc := ⟨.hbm, 27, rfl⟩
abbrev main_v13_5 : Ref sig .tc := ⟨.hbm, 28, rfl⟩
abbrev main_v13_6 : Ref sig .tc := ⟨.hbm, 29, rfl⟩
abbrev main_v13_7 : Ref sig .tc := ⟨.hbm, 30, rfl⟩
abbrev main_v13_8 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_stg20_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26
abbrev cc0_sem20_0 : DmaSem sig := 27

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v627 : BitVec 32 := Scalar.extui v0
  let c0_i32_357 : BitVec 32 := 0#32
  let v628 : BitVec 1 := Scalar.cmpi .ne v627 c0_i32_357
  v628

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v629 : BitVec 1 := Scalar.xori v0 v_true
  let v630 : BitVec 32 := Scalar.extui v629
  let c0_i32_359 : BitVec 32 := 0#32
  let v631 : BitVec 1 := Scalar.cmpi .ne v630 c0_i32_359
  v631

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v633 : BitVec 32 := Scalar.extui v0
  let c0_i32_362 : BitVec 32 := 0#32
  let v634 : BitVec 1 := Scalar.cmpi .ne v633 c0_i32_362
  v634

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_363 : BitVec 1 := 1#1
  let v635 : BitVec 1 := Scalar.xori v0 true_363
  let v636 : BitVec 32 := Scalar.extui v635
  let c0_i32_365 : BitVec 32 := 0#32
  let v637 : BitVec 1 := Scalar.cmpi .ne v636 c0_i32_365
  v637

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v700 : BitVec 32 := Scalar.extui v0
  let c0_i32_401 : BitVec 32 := 0#32
  let v701 : BitVec 1 := Scalar.cmpi .ne v700 c0_i32_401
  v701

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_402 : BitVec 1 := 1#1
  let v702 : BitVec 1 := Scalar.xori v0 true_402
  let v703 : BitVec 32 := Scalar.extui v702
  let c0_i32_404 : BitVec 32 := 0#32
  let v704 : BitVec 1 := Scalar.cmpi .ne v703 c0_i32_404
  v704

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v706 : BitVec 32 := Scalar.extui v0
  let c0_i32_406 : BitVec 32 := 0#32
  let v707 : BitVec 1 := Scalar.cmpi .ne v706 c0_i32_406
  v707

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_407 : BitVec 1 := 1#1
  let v708 : BitVec 1 := Scalar.xori v0 true_407
  let v709 : BitVec 32 := Scalar.extui v708
  let c0_i32_409 : BitVec 32 := 0#32
  let v710 : BitVec 1 := Scalar.cmpi .ne v709 c0_i32_409
  v710

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let v773 : BitVec 32 := Scalar.extui v0
  let c0_i32_445 : BitVec 32 := 0#32
  let v774 : BitVec 1 := Scalar.cmpi .ne v773 c0_i32_445
  v774

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let true_446 : BitVec 1 := 1#1
  let v775 : BitVec 1 := Scalar.xori v0 true_446
  let v776 : BitVec 32 := Scalar.extui v775
  let c0_i32_448 : BitVec 32 := 0#32
  let v777 : BitVec 1 := Scalar.cmpi .ne v776 c0_i32_448
  v777

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let v779 : BitVec 32 := Scalar.extui v0
  let c0_i32_450 : BitVec 32 := 0#32
  let v780 : BitVec 1 := Scalar.cmpi .ne v779 c0_i32_450
  v780

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let true_451 : BitVec 1 := 1#1
  let v781 : BitVec 1 := Scalar.xori v0 true_451
  let v782 : BitVec 32 := Scalar.extui v781
  let c0_i32_453 : BitVec 32 := 0#32
  let v783 : BitVec 1 := Scalar.cmpi .ne v782 c0_i32_453
  v783

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let v846 : BitVec 32 := Scalar.extui v0
  let c0_i32_489 : BitVec 32 := 0#32
  let v847 : BitVec 1 := Scalar.cmpi .ne v846 c0_i32_489
  v847

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let true_490 : BitVec 1 := 1#1
  let v848 : BitVec 1 := Scalar.xori v0 true_490
  let v849 : BitVec 32 := Scalar.extui v848
  let c0_i32_492 : BitVec 32 := 0#32
  let v850 : BitVec 1 := Scalar.cmpi .ne v849 c0_i32_492
  v850

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let v852 : BitVec 32 := Scalar.extui v0
  let c0_i32_494 : BitVec 32 := 0#32
  let v853 : BitVec 1 := Scalar.cmpi .ne v852 c0_i32_494
  v853

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let true_495 : BitVec 1 := 1#1
  let v854 : BitVec 1 := Scalar.xori v0 true_495
  let v855 : BitVec 32 := Scalar.extui v854
  let c0_i32_497 : BitVec 32 := 0#32
  let v856 : BitVec 1 := Scalar.cmpi .ne v855 c0_i32_497
  v856

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let v907 : BitVec 32 := Scalar.extui v0
  let c0_i32_510 : BitVec 32 := 0#32
  let v908 : BitVec 1 := Scalar.cmpi .ne v907 c0_i32_510
  v908

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let true_511 : BitVec 1 := 1#1
  let v909 : BitVec 1 := Scalar.xori v0 true_511
  let v910 : BitVec 32 := Scalar.extui v909
  let c0_i32_512 : BitVec 32 := 0#32
  let v911 : BitVec 1 := Scalar.cmpi .ne v910 c0_i32_512
  v911

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let v916 : BitVec 32 := Scalar.extui v0
  let c0_i32_516 : BitVec 32 := 0#32
  let v917 : BitVec 1 := Scalar.cmpi .ne v916 c0_i32_516
  v917

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let true_517 : BitVec 1 := 1#1
  let v918 : BitVec 1 := Scalar.xori v0 true_517
  let v919 : BitVec 32 := Scalar.extui v918
  let c0_i32_518 : BitVec 32 := 0#32
  let v920 : BitVec 1 := Scalar.cmpi .ne v919 c0_i32_518
  v920

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let v923 : BitVec 32 := Scalar.extui v0
  let c0_i32_520 : BitVec 32 := 0#32
  let v924 : BitVec 1 := Scalar.cmpi .ne v923 c0_i32_520
  v924

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let true_521 : BitVec 1 := 1#1
  let v925 : BitVec 1 := Scalar.xori v0 true_521
  let v926 : BitVec 32 := Scalar.extui v925
  let c0_i32_522 : BitVec 32 := 0#32
  let v927 : BitVec 1 := Scalar.cmpi .ne v926 c0_i32_522
  v927

def k0_cond23 (i : grid0.Coords) : BitVec 1 :=
  let arg0 : BitVec 32 := BitVec.ofNat 32 (i 0).val
  let c0_i32 : BitVec 32 := 0#32
  let v0 : BitVec 1 := Scalar.cmpi .eq arg0 c0_i32
  let v1021 : BitVec 32 := Scalar.extui v0
  let c0_i32_557 : BitVec 32 := 0#32
  let v1022 : BitVec 1 := Scalar.cmpi .ne v1021 c0_i32_557
  v1022

def k0_cond24 (i : grid0.Coords) : BitVec 1 :=
  let arg0 : BitVec 32 := BitVec.ofNat 32 (i 0).val
  let c0_i32 : BitVec 32 := 0#32
  let v0 : BitVec 1 := Scalar.cmpi .eq arg0 c0_i32
  let true_558 : BitVec 1 := 1#1
  let v1023 : BitVec 1 := Scalar.xori v0 true_558
  let v1024 : BitVec 32 := Scalar.extui v1023
  let c0_i32_559 : BitVec 32 := 0#32
  let v1025 : BitVec 1 := Scalar.cmpi .ne v1024 c0_i32_559
  v1025

def k0_cond25 (i : grid0.Coords) : BitVec 1 :=
  let arg0 : BitVec 32 := BitVec.ofNat 32 (i 0).val
  let c0_i32 : BitVec 32 := 0#32
  let v0 : BitVec 1 := Scalar.cmpi .eq arg0 c0_i32
  let v1028 : BitVec 32 := Scalar.extui v0
  let c0_i32_561 : BitVec 32 := 0#32
  let v1029 : BitVec 1 := Scalar.cmpi .ne v1028 c0_i32_561
  v1029

def k0_cond26 (i : grid0.Coords) : BitVec 1 :=
  let arg0 : BitVec 32 := BitVec.ofNat 32 (i 0).val
  let c0_i32 : BitVec 32 := 0#32
  let v0 : BitVec 1 := Scalar.cmpi .eq arg0 c0_i32
  let true_562 : BitVec 1 := 1#1
  let v1030 : BitVec 1 := Scalar.xori v0 true_562
  let v1031 : BitVec 32 := Scalar.extui v1030
  let c0_i32_563 : BitVec 32 := 0#32
  let v1032 : BitVec 1 := Scalar.cmpi .ne v1031 c0_i32_563
  v1032

def k0_cond27 (i : grid0.Coords) : BitVec 1 :=
  let arg0 : BitVec 32 := BitVec.ofNat 32 (i 0).val
  let c0_i32 : BitVec 32 := 0#32
  let v0 : BitVec 1 := Scalar.cmpi .eq arg0 c0_i32
  let v1056 : BitVec 32 := Scalar.extui v0
  let c0_i32_573 : BitVec 32 := 0#32
  let v1057 : BitVec 1 := Scalar.cmpi .ne v1056 c0_i32_573
  v1057

def k0_cond28 (i : grid0.Coords) : BitVec 1 :=
  let arg0 : BitVec 32 := BitVec.ofNat 32 (i 0).val
  let c0_i32 : BitVec 32 := 0#32
  let v0 : BitVec 1 := Scalar.cmpi .eq arg0 c0_i32
  let true_574 : BitVec 1 := 1#1
  let v1058 : BitVec 1 := Scalar.xori v0 true_574
  let v1059 : BitVec 32 := Scalar.extui v1058
  let c0_i32_575 : BitVec 32 := 0#32
  let v1060 : BitVec 1 := Scalar.cmpi .ne v1059 c0_i32_575
  v1060

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "c" => some ((8943 / 200000 : ℝ) : EReal)
  | "c3" => some ((26829 / 200000 : ℝ) : EReal)
  | _ => none
-- ==== ReferenceIdeal.lean ====
abbrev S8192x1024 : Shape := ⟨2, ![8192, 1024]⟩
abbrev S8192x2048 : Shape := ⟨2, ![8192, 2048]⟩
abbrev S8192x512 : Shape := ⟨2, ![8192, 512]⟩
abbrev S8x128x128 : Shape := ⟨3, ![8, 128, 128]⟩
abbrev S8x128 : Shape := ⟨2, ![8, 128]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S64x128x8x64 : Shape := ⟨4, ![64, 128, 8, 64]⟩
abbrev S8x64x64x128 : Shape := ⟨4, ![8, 64, 64, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 290
  | .vmem => 0
  | .smem => 0
  | _ => 0

abbrev hbmTy0_0 (i : Nat) : BufTy := match i % 128 with
  | 0 => ⟨S8192x1024, .f32⟩
  | 1 => ⟨S8192x2048, .f32⟩
  | 2 => ⟨S8192x512, .f32⟩
  | 3 => ⟨S8x128x128, .f32⟩
  | 4 => ⟨S8x128, .f32⟩
  | 5 => ⟨S512, .f32⟩
  | 6 => ⟨S512, .f32⟩
  | 7 => ⟨S512, .f32⟩
  | 8 => ⟨S512, .f32⟩
  | 9 => ⟨S512, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S_, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x512, .f32⟩
  | 43 => ⟨S8192x512, .f32⟩
  | 44 => ⟨S_, .f32⟩
  | 45 => ⟨S8192, .f32⟩
  | 46 => ⟨S8192x1, .f32⟩
  | 47 => ⟨S_, .f32⟩
  | 48 => ⟨S8192x1, .f32⟩
  | 49 => ⟨S8192x1, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S8192x512, .f32⟩
  | 63 => ⟨S8192x512, .f32⟩
  | 64 => ⟨S_, .f32⟩
  | 65 => ⟨S8192x1, .f32⟩
  | 66 => ⟨S8192x1, .f32⟩
  | 67 => ⟨S8192x1, .f32⟩
  | 68 => ⟨S8192x1, .f32⟩
  | 69 => ⟨S_, .f32⟩
  | 70 => ⟨S8192x1, .f32⟩
  | 71 => ⟨S8192x1, .f32⟩
  | 72 => ⟨S8192x512, .f32⟩
  | 73 => ⟨S8192x512, .f32⟩
  | 74 => ⟨S1x512, .f32⟩
  | 75 => ⟨S8192x512, .f32⟩
  | 76 => ⟨S8192x512, .f32⟩
  | 77 => ⟨S1x512, .f32⟩
  | 78 => ⟨S8192x512, .f32⟩
  | 79 => ⟨S8192x512, .f32⟩
  | 80 => ⟨S64x128x8x64, .f32⟩
  | 81 => ⟨S8x64x64x128, .f32⟩
  | 82 => ⟨S64x128x8x64, .f32⟩
  | 83 => ⟨S128x8, .f32⟩
  | 84 => ⟨S128x8x1, .f32⟩
  | 85 => ⟨S1x128x8x1, .f32⟩
  | 86 => ⟨S64x128x8x64, .f32⟩
  | 87 => ⟨S64x128x8x64, .f32⟩
  | 88 => ⟨S8192x512, .f32⟩
  | 89 => ⟨S8192x512, .f32⟩
  | 90 => ⟨S1x512, .f32⟩
  | 91 => ⟨S8192x512, .f32⟩
  | 92 => ⟨S8192x512, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S8192x512, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S_, .f32⟩
  | 106 => ⟨S8192, .f32⟩
  | 107 => ⟨S8192x1, .f32⟩
  | 108 => ⟨S_, .f32⟩
  | 109 => ⟨S8192x1, .f32⟩
  | 110 => ⟨S8192x1, .f32⟩
  | 111 => ⟨S8192x512, .f32⟩
  | 112 => ⟨S8192x512, .f32⟩
  | 113 => ⟨S_, .f32⟩
  | 114 => ⟨S8192x1, .f32⟩
  | 115 => ⟨S8192x1, .f32⟩
  | 116 => ⟨S8192x1, .f32⟩
  | 117 => ⟨S8192x1, .f32⟩
  | 118 => ⟨S_, .f32⟩
  | 119 => ⟨S8192x1, .f32⟩
  | 120 => ⟨S8192x1, .f32⟩
  | 121 => ⟨S8192x512, .f32⟩
  | 122 => ⟨S8192x512, .f32⟩
  | 123 => ⟨S1x512, .f32⟩
  | 124 => ⟨S8192x512, .f32⟩
  | 125 => ⟨S8192x512, .f32⟩
  | 126 => ⟨S1x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S_, .f32⟩
  | 4 => ⟨S8192x512, .f32⟩
  | 5 => ⟨S8192x512, .f32⟩
  | 6 => ⟨S_, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S8192x512, .f32⟩
  | 13 => ⟨S8192x512, .f32⟩
  | 14 => ⟨S8192x1024, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S_, .f32⟩
  | 22 => ⟨S512, .f32⟩
  | 23 => ⟨S1x512, .f32⟩
  | 24 => ⟨S_, .f32⟩
  | 25 => ⟨S512, .f32⟩
  | 26 => ⟨S8192x512, .f32⟩
  | 27 => ⟨S_, .f32⟩
  | 28 => ⟨S512, .f32⟩
  | 29 => ⟨S1x512, .f32⟩
  | 30 => ⟨S8192x512, .f32⟩
  | 31 => ⟨S8192x512, .f32⟩
  | 32 => ⟨S_, .f32⟩
  | 33 => ⟨S512, .f32⟩
  | 34 => ⟨S8192x512, .f32⟩
  | 35 => ⟨S_, .f32⟩
  | 36 => ⟨S8192, .f32⟩
  | 37 => ⟨S8192x1, .f32⟩
  | 38 => ⟨S8192x512, .f32⟩
  | 39 => ⟨S8192x512, .f32⟩
  | 40 => ⟨S8192x1, .f32⟩
  | 41 => ⟨S8192x512, .f32⟩
  | 42 => ⟨S_, .f32⟩
  | 43 => ⟨S8192, .f32⟩
  | 44 => ⟨S8192x1, .f32⟩
  | 45 => ⟨S_, .f32⟩
  | 46 => ⟨S8192x1, .f32⟩
  | 47 => ⟨S8192x1, .f32⟩
  | 48 => ⟨S_, .f32⟩
  | 49 => ⟨S8192, .f32⟩
  | 50 => ⟨S8192x512, .f32⟩
  | 51 => ⟨S8192x512, .f32⟩
  | 52 => ⟨S8192x512, .f32⟩
  | 53 => ⟨S_, .f32⟩
  | 54 => ⟨S8192, .f32⟩
  | 55 => ⟨S8192x1, .f32⟩
  | 56 => ⟨S8192x512, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S8192x512, .f32⟩
  | 64 => ⟨S8192x512, .f32⟩
  | 65 => ⟨S_, .f32⟩
  | 66 => ⟨S512, .f32⟩
  | 67 => ⟨S1x512, .f32⟩
  | 68 => ⟨S_, .f32⟩
  | 69 => ⟨S512, .f32⟩
  | 70 => ⟨S8192x512, .f32⟩
  | 71 => ⟨S8192x512, .f32⟩
  | 72 => ⟨S64x128x8x64, .f32⟩
  | 73 => ⟨S_, .f32⟩
  | 74 => ⟨S128x8, .f32⟩
  | 75 => ⟨S1x128x8x1, .f32⟩
  | 76 => ⟨S_, .f32⟩
  | 77 => ⟨S128x8, .f32⟩
  | 78 => ⟨S128x8x1, .f32⟩
  | 79 => ⟨S_, .f32⟩
  | 80 => ⟨S128x8, .f32⟩
  | 81 => ⟨S8x128, .f32⟩
  | 82 => ⟨S8x64x64x128, .f32⟩
  | 83 => ⟨S8x128x128, .f32⟩
  | 84 => ⟨S8x64x64x128, .f32⟩
  | 85 => ⟨S64x128x8x64, .f32⟩
  | 86 => ⟨S8192x512, .f32⟩
  | 87 => ⟨S_, .f32⟩
  | 88 => ⟨S512, .f32⟩
  | 89 => ⟨S1x512, .f32⟩
  | 90 => ⟨S_, .f32⟩
  | 91 => ⟨S512, .f32⟩
  | 92 => ⟨S8192x512, .f32⟩
  | 93 => ⟨S_, .f32⟩
  | 94 => ⟨S512, .f32⟩
  | 95 => ⟨S1x512, .f32⟩
  | 96 => ⟨S8192x512, .f32⟩
  | 97 => ⟨S8192x512, .f32⟩
  | 98 => ⟨S_, .f32⟩
  | 99 => ⟨S512, .f32⟩
  | 100 => ⟨S8192x512, .f32⟩
  | 101 => ⟨S_, .f32⟩
  | 102 => ⟨S8192, .f32⟩
  | 103 => ⟨S8192x1, .f32⟩
  | 104 => ⟨S8192x512, .f32⟩
  | 105 => ⟨S8192x512, .f32⟩
  | 106 => ⟨S8192x1, .f32⟩
  | 107 => ⟨S8192x512, .f32⟩
  | 108 => ⟨S_, .f32⟩
  | 109 => ⟨S8192, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x512, .f32⟩
  | 117 => ⟨S8192x512, .f32⟩
  | 118 => ⟨S8192x512, .f32⟩
  | 119 => ⟨S_, .f32⟩
  | 120 => ⟨S8192, .f32⟩
  | 121 => ⟨S8192x1, .f32⟩
  | 122 => ⟨S8192x512, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_2 (i : Nat) : BufTy := match i % 128 with
  | 0 => ⟨S8192, .f32⟩
  | 1 => ⟨S8192x512, .f32⟩
  | 2 => ⟨S8192x512, .f32⟩
  | 3 => ⟨S_, .f32⟩
  | 4 => ⟨S8192x1024, .f32⟩
  | 5 => ⟨S_, .f32⟩
  | 6 => ⟨S8192x1024, .f32⟩
  | 7 => ⟨S8192x1024, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S8192x1024, .f32⟩
  | 26 => ⟨S_, .f32⟩
  | 27 => ⟨S8192x2048, .f32⟩
  | 28 => ⟨S8192x2048, .bf16⟩
  | 29 => ⟨S1x512, .f32⟩
  | 30 => ⟨S1x512, .f32⟩
  | 31 => ⟨S1x512, .f32⟩
  | 32 => ⟨S1x512, .f32⟩
  | 33 => ⟨S1x512, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_16 : Ref sig .tc := ⟨.hbm, 102, rfl⟩
abbrev main_v75 : Ref sig .tc := ⟨.hbm, 103, rfl⟩
abbrev main_v76 : Ref sig .tc := ⟨.hbm, 104, rfl⟩
abbrev main_cst_17 : Ref sig .tc := ⟨.hbm, 105, rfl⟩
abbrev main_v77 : Ref sig .tc := ⟨.hbm, 106, rfl⟩
abbrev main_v78 : Ref sig .tc := ⟨.hbm, 107, rfl⟩
abbrev main_cst_18 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_20 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_call0_v0 : Ref sig .tc := ⟨.hbm, 129, rfl⟩
abbrev main_call0_v1 : Ref sig .tc := ⟨.hbm, 130, rfl⟩
abbrev main_call0_cst : Ref sig .tc := ⟨.hbm, 131, rfl⟩
abbrev main_call0_v2 : Ref sig .tc := ⟨.hbm, 132, rfl⟩
abbrev main_call0_v3 : Ref sig .tc := ⟨.hbm, 133, rfl⟩
abbrev main_call0_cst_0 : Ref sig .tc := ⟨.hbm, 134, rfl⟩
abbrev main_call0_v4 : Ref sig .tc := ⟨.hbm, 135, rfl⟩
abbrev main_v97_2 : Ref sig .tc := ⟨.hbm, 136, rfl⟩
abbrev main_call0_cst_1 : Ref sig .tc := ⟨.hbm, 137, rfl⟩
abbrev main_call0_v6 : Ref sig .tc := ⟨.hbm, 138, rfl⟩
abbrev main_call0_v7 : Ref sig .tc := ⟨.hbm, 139, rfl⟩
abbrev main_v97_1 : Ref sig .tc := ⟨.hbm, 140, rfl⟩
abbrev main_v97_0 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v101 : Ref sig .tc := ⟨.hbm, 148, rfl⟩
abbrev main_cst_21 : Ref sig .tc := ⟨.hbm, 149, rfl⟩
abbrev main_v102 : Ref sig .tc := ⟨.hbm, 150, rfl⟩
abbrev main_v103 : Ref sig .tc := ⟨.hbm, 151, rfl⟩
abbrev main_cst_22 : Ref sig .tc := ⟨.hbm, 152, rfl⟩
abbrev main_v104 : Ref sig .tc := ⟨.hbm, 153, rfl⟩
abbrev main_v105 : Ref sig .tc := ⟨.hbm, 154, rfl⟩
abbrev main_cst_23 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_cst_24 : Ref sig .tc := ⟨.hbm, 160, rfl⟩
abbrev main_v110 : Ref sig .tc := ⟨.hbm, 161, rfl⟩
abbrev main_v111 : Ref sig .tc := ⟨.hbm, 162, rfl⟩
abbrev main_cst_25 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_26 : Ref sig .tc := ⟨.hbm, 170, rfl⟩
abbrev main_v118 : Ref sig .tc := ⟨.hbm, 171, rfl⟩
abbrev main_v119 : Ref sig .tc := ⟨.hbm, 172, rfl⟩
abbrev main_cst_27 : Ref sig .tc := ⟨.hbm, 173, rfl⟩
abbrev main_v120 : Ref sig .tc := ⟨.hbm, 174, rfl⟩
abbrev main_v121 : Ref sig .tc := ⟨.hbm, 175, rfl⟩
abbrev main_cst_28 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_cst_29 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_30 : Ref sig .tc := ⟨.hbm, 186, rfl⟩
abbrev main_v130 : Ref sig .tc := ⟨.hbm, 187, rfl⟩
abbrev main_v131 : Ref sig .tc := ⟨.hbm, 188, rfl⟩
abbrev main_cst_31 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_cst_32 : Ref sig .tc := ⟨.hbm, 193, rfl⟩
abbrev main_v135 : Ref sig .tc := ⟨.hbm, 194, rfl⟩
abbrev main_v136 : Ref sig .tc := ⟨.hbm, 195, rfl⟩
abbrev main_cst_33 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_cst_34 : Ref sig .tc := ⟨.hbm, 201, rfl⟩
abbrev main_v141 : Ref sig .tc := ⟨.hbm, 202, rfl⟩
abbrev main_v142 : Ref sig .tc := ⟨.hbm, 203, rfl⟩
abbrev main_cst_35 : Ref sig .tc := ⟨.hbm, 204, rfl⟩
abbrev main_v143 : Ref sig .tc := ⟨.hbm, 205, rfl⟩
abbrev main_v144 : Ref sig .tc := ⟨.hbm, 206, rfl⟩
abbrev main_cst_36 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_cst_37 : Ref sig .tc := ⟨.hbm, 215, rfl⟩
abbrev main_v152 : Ref sig .tc := ⟨.hbm, 216, rfl⟩
abbrev main_v153 : Ref sig .tc := ⟨.hbm, 217, rfl⟩
abbrev main_cst_38 : Ref sig .tc := ⟨.hbm, 218, rfl⟩
abbrev main_v154 : Ref sig .tc := ⟨.hbm, 219, rfl⟩
abbrev main_v155 : Ref sig .tc := ⟨.hbm, 220, rfl⟩
abbrev main_cst_39 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_cst_40 : Ref sig .tc := ⟨.hbm, 226, rfl⟩
abbrev main_v160 : Ref sig .tc := ⟨.hbm, 227, rfl⟩
abbrev main_v161 : Ref sig .tc := ⟨.hbm, 228, rfl⟩
abbrev main_cst_41 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_42 : Ref sig .tc := ⟨.hbm, 236, rfl⟩
abbrev main_v168 : Ref sig .tc := ⟨.hbm, 237, rfl⟩
abbrev main_v169 : Ref sig .tc := ⟨.hbm, 238, rfl⟩
abbrev main_cst_43 : Ref sig .tc := ⟨.hbm, 239, rfl⟩
abbrev main_v170 : Ref sig .tc := ⟨.hbm, 240, rfl⟩
abbrev main_v171 : Ref sig .tc := ⟨.hbm, 241, rfl⟩
abbrev main_cst_44 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_cst_45 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_cst_46 : Ref sig .tc := ⟨.hbm, 252, rfl⟩
abbrev main_v180 : Ref sig .tc := ⟨.hbm, 253, rfl⟩
abbrev main_v181 : Ref sig .tc := ⟨.hbm, 254, rfl⟩
abbrev main_cst_47 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_cst_48 : Ref sig .tc := ⟨.hbm, 259, rfl⟩
abbrev main_v185 : Ref sig .tc := ⟨.hbm, 260, rfl⟩
abbrev main_cst_49 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_cst_50 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_cst_51 : Ref sig .tc := ⟨.hbm, 270, rfl⟩
abbrev main_v193 : Ref sig .tc := ⟨.hbm, 271, rfl⟩
abbrev main_v194 : Ref sig .tc := ⟨.hbm, 272, rfl⟩
abbrev main_v195 : Ref sig .tc := ⟨.hbm, 273, rfl⟩
abbrev main_cst_52 : Ref sig .tc := ⟨.hbm, 274, rfl⟩
abbrev main_v196 : Ref sig .tc := ⟨.hbm, 275, rfl⟩
abbrev main_v197 : Ref sig .tc := ⟨.hbm, 276, rfl⟩
abbrev main_cst_53 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_cst_54 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩

abbrev nD : Nat := 1
abbrev τ : Topo := Topo.v7x

variable {F : FTy → Type} [FloatOps F]
-- ==== Kernel2.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S2048x2048 : Shape := ⟨2, ![2048, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond3 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg1.toNat, v16.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8192x4096 : Shape := ⟨2, ![8192, 4096]⟩
abbrev S1024x1024 : Shape := ⟨2, ![1024, 1024]⟩
abbrev S1024x1 : Shape := ⟨2, ![1024, 1]⟩

abbrev nBuf : Space → Nat
  | .hbm => 10
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S8192x1024, .f32⟩
  | .hbm, ⟨8, _⟩ => ⟨S8192x4096, .bf16⟩
  | .hbm, ⟨9, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S8192x4096, .bf16⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 32
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1024x4096, .bf16⟩
  | .hbm, ⟨23, _⟩ => ⟨S8192x4096, .f32⟩
  | .hbm, ⟨24, _⟩ => ⟨S8192x4096, .bf16⟩
  | .hbm, ⟨25, _⟩ => ⟨S1x1024, .f32⟩
  | .hbm, ⟨26, _⟩ => ⟨S1024x4096, .bf16⟩
  | .hbm, ⟨27, _⟩ => ⟨S4096x1024, .bf16⟩
  | .hbm, ⟨28, _⟩ => ⟨S8192x1024, .f32⟩
  | .hbm, ⟨29, _⟩ => ⟨S8192x4096, .bf16⟩
  | .hbm, ⟨30, _⟩ => ⟨S1x1024, .f32⟩
  | .hbm, ⟨31, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x512, .bf16⟩
  | .local _ .vmem, ⟨14, _⟩ => ⟨S1024x512, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_17 : BitVec 32 := 0#32
  let v28 : BitVec 1 := Scalar.cmpi .ne v27 c0_i32_17
  v28

def k0_cond3 (i : grid0.Coords) : BitVec 1 :=
  let arg0 : BitVec 32 := BitVec.ofNat 32 (i 0).val
  let c0_i32_34 : BitVec 32 := 0#32
  let v61 : BitVec 1 := Scalar.cmpi .eq arg0 c0_i32_34
  let v62 : BitVec 32 := Scalar.extui v61
  let c0_i32_35 : BitVec 32 := 0#32
  let v63 : BitVec 1 := Scalar.cmpi .ne v62 c0_i32_35
  v63

def k0_cond4 (i : grid0.Coords) : BitVec 1 :=
  let arg0 : BitVec 32 := BitVec.ofNat 32 (i 0).val
  let c0_i32_36 : BitVec 32 := 0#32
  let v64 : BitVec 1 := Scalar.cmpi .sgt arg0 c0_i32_36
  let v65 : BitVec 32 := Scalar.extui v64
  let c0_i32_37 : BitVec 32 := 0#32
  let v66 : BitVec 1 := Scalar.cmpi .ne v65 c0_i32_37
  v66

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference5Ideal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 111
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S8192x4096, .f32⟩
  | .hbm, ⟨90, _⟩ => ⟨S_, .f32⟩
  | .hbm, ⟨91, _⟩ => ⟨S8192x4096, .f32⟩
  | .hbm, ⟨92, _⟩ => ⟨S8192x4096, .f32⟩
  | .hbm, ⟨93, _⟩ => ⟨S_, .f32⟩
  | .hbm, ⟨94, _⟩ => ⟨S8192x4096, .f32⟩
  | .hbm, ⟨95, _⟩ => ⟨S8192x4096, .i1⟩
  | .hbm, ⟨96, _⟩ => ⟨S_, .f32⟩
  | .hbm, ⟨97, _⟩ => ⟨S8192x4096, .f32⟩
  | .hbm, ⟨98, _⟩ => ⟨S8192x4096, .f32⟩
  | .hbm, ⟨99, _⟩ => ⟨S_, .f32⟩
  | .hbm, ⟨100, _⟩ => ⟨S8192x4096, .f32⟩
  | .hbm, ⟨101, _⟩ => ⟨S8192x4096, .f32⟩
  | .hbm, ⟨102, _⟩ => ⟨S8192x1024, .f32⟩
  | .hbm, ⟨103, _⟩ => ⟨S8192x4096, .f32⟩
  | .hbm, ⟨104, _⟩ => ⟨S8192x4096, .f32⟩
  | .hbm, ⟨105, _⟩ => ⟨S_, .f32⟩
  | .hbm, ⟨106, _⟩ => ⟨S8192x4096, .f32⟩
  | .hbm, ⟨107, _⟩ => ⟨S8192x4096, .f32⟩
  | .hbm, ⟨108, _⟩ => ⟨S8192x4096, .bf16⟩
  | .hbm, ⟨109, _⟩ => ⟨S1x1024, .f32⟩
  | .hbm, ⟨110, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S1024x1024, .bf16⟩
  | .hbm, ⟨4, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S1024x1024, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x3072, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x3072 : Shape := ⟨2, ![8192, 3072]⟩
abbrev S1024x3072 : Shape := ⟨2, ![1024, 3072]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S1024x3072, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x3072, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel9.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S8192x3072 : Shape := ⟨2, ![8192, 3072]⟩
abbrev S1024x1024 : Shape := ⟨2, ![1024, 1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S8192x3072, .f32⟩
  | .hbm, ⟨6, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel10.lean ====
abbrev S8192x1024 : Shape := ⟨2, ![8192, 1024]⟩
abbrev S8192x3072 : Shape := ⟨2, ![8192, 3072]⟩
abbrev S1024x3072 : Shape := ⟨2, ![1024, 3072]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![arg1.toNat, v16.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg1.toNat, v16.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8x1024x512 : Shape := ⟨3, ![8, 1024, 512]⟩
abbrev S4x1024x512 : Shape := ⟨3, ![4, 1024, 512]⟩
abbrev S4096x512 : Shape := ⟨2, ![4096, 512]⟩
abbrev S8x256x512 : Shape := ⟨3, ![8, 256, 512]⟩
abbrev S256x512 : Shape := ⟨2, ![256, 512]⟩
abbrev S1x256x512 : Shape := ⟨3, ![1, 256, 512]⟩

abbrev nBuf : Space → Nat
  | .hbm => 14
  | .vmem => 22
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .local _ .vmem, ⟨0, _⟩ => ⟨S8x256x512, .bf16⟩
  | .local _ .vmem, ⟨1, _⟩ => ⟨S8x256x512, .bf16⟩
  | .local _ .vmem, ⟨2, _⟩ => ⟨S8x256x512, .bf16⟩
  | .local _ .vmem, ⟨3, _⟩ => ⟨S8x256x512, .bf16⟩
  | .local _ .vmem, ⟨4, _⟩ => ⟨S8x256x512, .bf16⟩
  | .local _ .vmem, ⟨5, _⟩ => ⟨S8x256x512, .bf16⟩
  | .local _ .vmem, ⟨6, _⟩ => ⟨S8x256x512, .bf16⟩
  | .local _ .vmem, ⟨7, _⟩ => ⟨S8x256x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference12Ideal.lean ====
abbrev S8x1024x512 : Shape := ⟨3, ![8, 1024, 512]⟩
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩
abbrev S4096x512 : Shape := ⟨2, ![4096, 512]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S8x1024x512, .bf16⟩
  | .hbm, ⟨3, _⟩ => ⟨S8x1024x512, .bf16⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S8x1024x512, .f32⟩
  | .hbm, ⟨8, _⟩ => ⟨S_, .f32⟩
  | .hbm, ⟨9, _⟩ => ⟨S1024x512, .f32⟩
  | .hbm, ⟨10, _⟩ => ⟨S8x1024x512, .f32⟩
  | .hbm, ⟨11, _⟩ => ⟨S_, .f32⟩
  | .hbm, ⟨12, _⟩ => ⟨S1024x512, .f32⟩
  | .hbm, ⟨13, _⟩ => ⟨S8x1024x512, .f32⟩
  | .hbm, ⟨14, _⟩ => ⟨S_, .f32⟩
  | .hbm, ⟨15, _⟩ => ⟨S1024x512, .f32⟩
  | .hbm, ⟨16, _⟩ => ⟨S8x1024x512, .f32⟩
  | .hbm, ⟨17, _⟩ => ⟨S_, .f32⟩
  | .hbm, ⟨18, _⟩ => ⟨S1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S4x1024x512, .f32⟩
  | .hbm, ⟨24, _⟩ => ⟨S_, .f32⟩
  | .hbm, ⟨25, _⟩ => ⟨S4x1024x512, .f32⟩
  | .hbm, ⟨26, _⟩ => ⟨S4x1024x512, .f32⟩
  | .hbm, ⟨27, _⟩ => ⟨S_, .f32⟩
  | .hbm, ⟨28, _⟩ => ⟨S4x1024x512, .f32⟩
  | .hbm, ⟨29, _⟩ => ⟨S4x1024x512, .f32⟩
  | .hbm, ⟨30, _⟩ => ⟨S4x1024x512, .f32⟩
  | .hbm, ⟨31, _⟩ => ⟨S_, .f32⟩
  | .hbm, ⟨32, _⟩ => ⟨S4x1024x512, .f32⟩
  | .hbm, ⟨33, _⟩ => ⟨S4x1024x512, .f32⟩
  | .hbm, ⟨34, _⟩ => ⟨S4x1024x512, .f32⟩
  | .hbm, ⟨35, _⟩ => ⟨S_, .f32⟩
  | .hbm, ⟨36, _⟩ => ⟨S4x1024x512, .f32⟩
  | .hbm, ⟨37, _⟩ => ⟨S4x1024x512, .f32⟩
  | .hbm, ⟨38, _⟩ => ⟨S4x1024x512, .f32⟩
  | .hbm, ⟨39, _⟩ => ⟨S_, .f32⟩
  | .hbm, ⟨40, _⟩ => ⟨S4x1024x512, .f32⟩
  | .hbm, ⟨41, _⟩ => ⟨S4x1024x512, .f32⟩
  | .hbm, ⟨42, _⟩ => ⟨S_, .f32⟩
  | .hbm, ⟨43, _⟩ => ⟨S4x1024x512, .f32⟩
  | .hbm, ⟨44, _⟩ => ⟨S4x1024x512, .f32⟩
  | .hbm, ⟨45, _⟩ => ⟨S4x1024x512, .f32⟩
  | .hbm, ⟨46, _⟩ => ⟨S_, .f32⟩
  | .hbm, ⟨47, _⟩ => ⟨S4x1024x512, .f32⟩
  | .hbm, ⟨48, _⟩ => ⟨S4x1024x512, .f32⟩
  | .hbm, ⟨49, _⟩ => ⟨S4x1024x512, .f32⟩
  | .hbm, ⟨50, _⟩ => ⟨S_, .f32⟩
  | .hbm, ⟨51, _⟩ => ⟨S4x1024x512, .f32⟩
  | .hbm, ⟨52, _⟩ => ⟨S4x1024x512, .f32⟩
  | .hbm, ⟨53, _⟩ => ⟨S4x1024x512, .f32⟩
  | .hbm, ⟨54, _⟩ => ⟨S_, .f32⟩
  | .hbm, ⟨55, _⟩ => ⟨S4x1024x512, .f32⟩
  | .hbm, ⟨56, _⟩ => ⟨S4x1024x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S4096x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel13.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v11 : BitVec 1 := Scalar.cmpi .eq arg0 c0_i32
  let v12 : BitVec 32 := Scalar.extui v11
  let c0_i32_7 : BitVec 32 := 0#32
  let v13 : BitVec 1 := Scalar.cmpi .ne v12 c0_i32_7
  v13

def k0_cond2 (i : grid0.Coords) : BitVec 1 :=
  let arg0 : BitVec 32 := BitVec.ofNat 32 (i 0).val
  let c0_i32_8 : BitVec 32 := 0#32
  let v14 : BitVec 1 := Scalar.cmpi .sgt arg0 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference13Ideal.lean ====
abbrev S8192x1024 : Shape := ⟨2, ![8192, 1024]⟩
abbrev S_ : Shape := ⟨0, ![]⟩
abbrev S8192 : Shape := ⟨1, ![8192]⟩
abbrev S1024 : Shape := ⟨1, ![1024]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_cst_8 : Ref sig .tc := ⟨.hbm, 30, rfl⟩
abbrev main_v19 : Ref sig .tc := ⟨.hbm, 31, rfl⟩
abbrev main_v20 : Ref sig .tc := ⟨.hbm, 32, rfl⟩
abbrev main_cst_9 : Ref sig .tc := ⟨.hbm, 33, rfl⟩
abbrev main_v21 : Ref sig .tc := ⟨.hbm, 34, rfl⟩
abbrev main_v22 : Ref sig .tc := ⟨.hbm, 35, rfl⟩

abbrev nD : Nat := 1
abbrev τ : Topo := Topo.v7x

variable {F : FTy → Type} [FloatOps F]
-- ==== Kernel14.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  ![arg1.toNat, v16.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference14Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1024x2048, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S8192x2048 : Shape := ⟨2, ![8192, 2048]⟩
abbrev S1024x2048 : Shape := ⟨2, ![1024, 2048]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1024x2048, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2048, .f32⟩
  | .hbm, ⟨26, _⟩ => ⟨S8192x2048, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel16.lean ====
abbrev S8192x1024 : Shape := ⟨2, ![8192, 1024]⟩
abbrev S1024 : Shape := ⟨1, ![1024]⟩
abbrev S1024x2048 : Shape := ⟨2, ![1024, 2048]⟩
abbrev S1x1024 : Shape := ⟨2, ![1, 1024]⟩
abbrev S8192x2048 : Shape := ⟨2, ![8192, 2048]⟩
abbrev S1024x1024 : Shape := ⟨2, ![1024, 1024]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S8192x2048, .f32⟩
  | .hbm, ⟨6, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference16Ideal.lean ====
abbrev S8192x1024 : Shape := ⟨2, ![8192, 1024]⟩
abbrev S1024 : Shape := ⟨1, ![1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2048 : Shape := ⟨2, ![8192, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2048, .f32⟩
  | .hbm, ⟨20, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel17.lean ====
abbrev S8x512x1024 : Shape := ⟨3, ![8, 512, 1024]⟩
abbrev S4x512x1024 : Shape := ⟨3, ![4, 512, 1024]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S8x256x1024, .bf16⟩
  | .local _ .vmem, ⟨3, _⟩ => ⟨S8x256x1024, .bf16⟩
  | .local _ .vmem, ⟨4, _⟩ => ⟨S8x256x1024, .bf16⟩
  | .local _ .vmem, ⟨5, _⟩ => ⟨S8x256x1024, .bf16⟩
  | .local _ .vmem, ⟨6, _⟩ => ⟨S8x256x1024, .bf16⟩
  | .local _ .vmem, ⟨7, _⟩ => ⟨S8x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference17Ideal.lean ====
abbrev S8x512x1024 : Shape := ⟨3, ![8, 512, 1024]⟩
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩
abbrev S2048x1024 : Shape := ⟨2, ![2048, 1024]⟩

abbrev nBuf : Space → Nat
  | .hbm => 61
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S8x512x1024, .bf16⟩
  | .hbm, ⟨3, _⟩ => ⟨S8x512x1024, .bf16⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S8x512x1024, .f32⟩
  | .hbm, ⟨8, _⟩ => ⟨S_, .f32⟩
  | .hbm, ⟨9, _⟩ => ⟨S512x1024, .f32⟩
  | .hbm, ⟨10, _⟩ => ⟨S8x512x1024, .f32⟩
  | .hbm, ⟨11, _⟩ => ⟨S_, .f32⟩
  | .hbm, ⟨12, _⟩ => ⟨S512x1024, .f32⟩
  | .hbm, ⟨13, _⟩ => ⟨S8x512x1024, .f32⟩
  | .hbm, ⟨14, _⟩ => ⟨S_, .f32⟩
  | .hbm, ⟨15, _⟩ => ⟨S512x1024, .f32⟩
  | .hbm, ⟨16, _⟩ => ⟨S8x512x1024, .f32⟩
  | .hbm, ⟨17, _⟩ => ⟨S_, .f32⟩
  | .hbm, ⟨18, _⟩ => ⟨S512x1024, .f32⟩
  | .hbm, ⟨19, _⟩ => ⟨S1x512x1024, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S4x512x1024, .f32⟩
  | .hbm, ⟨24, _⟩ => ⟨S_, .f32⟩
  | .hbm, ⟨25, _⟩ => ⟨S4x512x1024, .f32⟩
  | .hbm, ⟨26, _⟩ => ⟨S4x512x1024, .f32⟩
  | .hbm, ⟨27, _⟩ => ⟨S_, .f32⟩
  | .hbm, ⟨28, _⟩ => ⟨S4x512x1024, .f32⟩
  | .hbm, ⟨29, _⟩ => ⟨S4x512x1024, .f32⟩
  | .hbm, ⟨30, _⟩ => ⟨S4x512x1024, .f32⟩
  | .hbm, ⟨31, _⟩ => ⟨S_, .f32⟩
  | .hbm, ⟨32, _⟩ => ⟨S4x512x1024, .f32⟩
  | .hbm, ⟨33, _⟩ => ⟨S4x512x1024, .f32⟩
  | .hbm, ⟨34, _⟩ => ⟨S4x512x1024, .f32⟩
  | .hbm, ⟨35, _⟩ => ⟨S_, .f32⟩
  | .hbm, ⟨36, _⟩ => ⟨S4x512x1024, .f32⟩
  | .hbm, ⟨37, _⟩ => ⟨S4x512x1024, .f32⟩
  | .hbm, ⟨38, _⟩ => ⟨S4x512x1024, .f32⟩
  | .hbm, ⟨39, _⟩ => ⟨S_, .f32⟩
  | .hbm, ⟨40, _⟩ => ⟨S4x512x1024, .f32⟩
  | .hbm, ⟨41, _⟩ => ⟨S4x512x1024, .f32⟩
  | .hbm, ⟨42, _⟩ => ⟨S_, .f32⟩
  | .hbm, ⟨43, _⟩ => ⟨S4x512x1024, .f32⟩
  | .hbm, ⟨44, _⟩ => ⟨S4x512x1024, .f32⟩
  | .hbm, ⟨45, _⟩ => ⟨S4x512x1024, .f32⟩
  | .hbm, ⟨46, _⟩ => ⟨S_, .f32⟩
  | .hbm, ⟨47, _⟩ => ⟨S4x512x1024, .f32⟩
  | .hbm, ⟨48, _⟩ => ⟨S4x512x1024, .f32⟩
  | .hbm, ⟨49, _⟩ => ⟨S4x512x1024, .f32⟩
  | .hbm, ⟨50, _⟩ => ⟨S_, .f32⟩
  | .hbm, ⟨51, _⟩ => ⟨S4x512x1024, .f32⟩
  | .hbm, ⟨52, _⟩ => ⟨S4x512x1024, .f32⟩
  | .hbm, ⟨53, _⟩ => ⟨S4x512x1024, .f32⟩
  | .hbm, ⟨54, _⟩ => ⟨S_, .f32⟩
  | .hbm, ⟨55, _⟩ => ⟨S4x512x1024, .f32⟩
  | .hbm, ⟨56, _⟩ => ⟨S4x512x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel18.lean ====
abbrev S8x128x1024 : Shape := ⟨3, ![8, 128, 1024]⟩
abbrev S2x128x1024 : Shape := ⟨3, ![2, 128, 1024]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 12
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩
abbrev S256x1024 : Shape := ⟨2, ![256, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel19.lean ====
abbrev S8x1024x384 : Shape := ⟨3, ![8, 1024, 384]⟩
abbrev S2x1024x384 : Shape := ⟨3, ![2, 1024, 384]⟩
abbrev S2048x384 : Shape := ⟨2, ![2048, 384]⟩
abbrev S8x256x384 : Shape := ⟨3, ![8, 256, 384]⟩
abbrev S256x384 : Shape := ⟨2, ![256, 384]⟩
abbrev S1x256x384 : Shape := ⟨3, ![1, 256, 384]⟩

abbrev nBuf : Space → Nat
  | .hbm => 12
  | .vmem => 18
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S2048x384, .f32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S2048x384, .f32⟩
  | .local _ .vmem, ⟨0, _⟩ => ⟨S8x256x384, .bf16⟩
  | .local _ .vmem, ⟨1, _⟩ => ⟨S8x256x384, .bf16⟩
  | .local _ .vmem, ⟨2, _⟩ => ⟨S8x256x384, .bf16⟩
  | .local _ .vmem, ⟨3, _⟩ => ⟨S8x256x384, .bf16⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | _, _ => ⟨S8x1024x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8x1024x384 : Shape := ⟨3, ![8, 1024, 384]⟩
abbrev S2x1024x384 : Shape := ⟨3, ![2, 1024, 384]⟩
abbrev S_ : Shape := ⟨0, ![]⟩
abbrev S1024x384 : Shape := ⟨2, ![1024, 384]⟩
abbrev S1x1024x384 : Shape := ⟨3, ![1, 1024, 384]⟩
abbrev S2048x384 : Shape := ⟨2, ![2048, 384]⟩

abbrev nBuf : Space → Nat
  | .hbm => 51
  | .vmem => 0
  | .smem => 0
  | _ => 0

abbrev bufTy : (tb : Table) → Fin (tcTables nBuf tb) → BufTy
  | .hbm, ⟨0, _⟩ => ⟨S8x1024x384, .bf16⟩
  | .hbm, ⟨1, _⟩ => ⟨S8x1024x384, .bf16⟩
  | .hbm, ⟨2, _⟩ => ⟨S2x1024x384, .f32⟩
  | .hbm, ⟨3, _⟩ => ⟨S2x1024x384, .f32⟩
  | .hbm, ⟨4, _⟩ => ⟨S2x1024x384, .f32⟩
  | .hbm, ⟨5, _⟩ => ⟨S8x1024x384, .f32⟩
  | .hbm, ⟨6, _⟩ => ⟨S_, .f32⟩
  | .hbm, ⟨7, _⟩ => ⟨S1024x384, .f32⟩
  | .hbm, ⟨8, _⟩ => ⟨S8x1024x384, .f32⟩
  | .hbm, ⟨9, _⟩ => ⟨S_, .f32⟩
  | .hbm, ⟨10, _⟩ => ⟨S1024x384, .f32⟩
  | .hbm, ⟨11, _⟩ => ⟨S1x1024x384, .f32⟩
  | .hbm, ⟨12, _⟩ => ⟨S1x1024x384, .f32⟩
  | .hbm, ⟨13, _⟩ => ⟨S2x1024x384, .f32⟩
  | .hbm, ⟨14, _⟩ => ⟨S_, .f32⟩
  | .hbm, ⟨15, _⟩ => ⟨S2x1024x384, .f32⟩
  | .hbm, ⟨16, _⟩ => ⟨S2x1024x384, .f32⟩
  | .hbm, ⟨17, _⟩ => ⟨S_, .f32⟩
  | .hbm, ⟨18, _⟩ => ⟨S2x1024x384, .f32⟩
  | .hbm, ⟨19, _⟩ => ⟨S2x1024x384, .f32⟩
  | .hbm, ⟨20, _⟩ => ⟨S2x1024x384, .f32⟩
  | .hbm, ⟨21, _⟩ => ⟨S_, .f32⟩
  | .hbm, ⟨22, _⟩ => ⟨S2x1024x384, .f32⟩
  | .hbm, ⟨23, _⟩ => ⟨S2x1024x384, .f32⟩
  | .hbm, ⟨24, _⟩ => ⟨S2x1024x384, .f32⟩
  | .hbm, ⟨25, _⟩ => ⟨S_, .f32⟩
  | .hbm, ⟨26, _⟩ => ⟨S2x1024x384, .f32⟩
  | .hbm, ⟨27, _⟩ => ⟨S2x1024x384, .f32⟩
  | .hbm, ⟨28, _⟩ => ⟨S2x1024x384, .f32⟩
  | .hbm, ⟨29, _⟩ => ⟨S_, .f32⟩
  | .hbm, ⟨30, _⟩ => ⟨S2x1024x384, .f32⟩
  | .hbm, ⟨31, _⟩ => ⟨S2x1024x384, .f32⟩
  | .hbm, ⟨32, _⟩ => ⟨S_, .f32⟩
  | .hbm, ⟨33, _⟩ => ⟨S2x1024x384, .f32⟩
  | .hbm, ⟨34, _⟩ => ⟨S2x1024x384, .f32⟩
  | .hbm, ⟨35, _⟩ => ⟨S2x1024x384, .f32⟩
  | .hbm, ⟨36, _⟩ => ⟨S_, .f32⟩
  | .hbm, ⟨37, _⟩ => ⟨S2x1024x384, .f32⟩
  | .hbm, ⟨38, _⟩ => ⟨S2x1024x384, .f32⟩
  | .hbm, ⟨39, _⟩ => ⟨S2x1024x384, .f32⟩
  | .hbm, ⟨40, _⟩ => ⟨S_, .f32⟩
  | .hbm, ⟨41, _⟩ => ⟨S2x1024x384, .f32⟩
  | .hbm, ⟨42, _⟩ => ⟨S2x1024x384, .f32⟩
  | .hbm, ⟨43, _⟩ => ⟨S2x1024x384, .f32⟩
  | .hbm, ⟨44, _⟩ => ⟨S_, .f32⟩
  | .hbm, ⟨45, _⟩ => ⟨S2x1024x384, .f32⟩
  | .hbm, ⟨46, _⟩ => ⟨S2x1024x384, .f32⟩
  | .hbm, ⟨47, _⟩ => ⟨S2048x384, .f32⟩
  | .hbm, ⟨48, _⟩ => ⟨S2048x384, .f32⟩
  | .hbm, ⟨49, _⟩ => ⟨S2048x384, .f32⟩
  | .hbm, ⟨50, _⟩ => ⟨S2048x384, .f32⟩
  | _, _ => ⟨S8x1024x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel20.lean ====
abbrev S8x1024x256 : Shape := ⟨3, ![8, 1024, 256]⟩
abbrev S2x1024x256 : Shape := ⟨3, ![2, 1024, 256]⟩
abbrev S2048x256 : Shape := ⟨2, ![2048, 256]⟩
abbrev S8x256x256 : Shape := ⟨3, ![8, 256, 256]⟩
abbrev S256x256 : Shape := ⟨2, ![256, 256]⟩
abbrev S1x256x256 : Shape := ⟨3, ![1, 256, 256]⟩

abbrev nBuf : Space → Nat
  | .hbm => 12
  | .vmem => 18
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2048x256, .f32⟩
  | .hbm, ⟨6, _⟩ => ⟨S2048x256, .f32⟩
  | .hbm, ⟨7, _⟩ => ⟨S2048x256, .f32⟩
  | .hbm, ⟨8, _⟩ => ⟨S2048x256, .f32⟩
  | .hbm, ⟨9, _⟩ => ⟨S2048x256, .f32⟩
  | .hbm, ⟨10, _⟩ => ⟨S2048x256, .f32⟩
  | .hbm, ⟨11, _⟩ => ⟨S2048x256, .f32⟩
  | .local _ .vmem, ⟨0, _⟩ => ⟨S8x256x256, .bf16⟩
  | .local _ .vmem, ⟨1, _⟩ => ⟨S8x256x256, .bf16⟩
  | .local _ .vmem, ⟨2, _⟩ => ⟨S8x256x256, .bf16⟩
  | .local _ .vmem, ⟨3, _⟩ => ⟨S8x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S8x1024x256 : Shape := ⟨3, ![8, 1024, 256]⟩
abbrev S2x1024x256 : Shape := ⟨3, ![2, 1024, 256]⟩
abbrev S_ : Shape := ⟨0, ![]⟩
abbrev S1024x256 : Shape := ⟨2, ![1024, 256]⟩
abbrev S1x1024x256 : Shape := ⟨3, ![1, 1024, 256]⟩
abbrev S2048x256 : Shape := ⟨2, ![2048, 256]⟩

abbrev nBuf : Space → Nat
  | .hbm => 51
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S8x1024x256, .f32⟩
  | .hbm, ⟨6, _⟩ => ⟨S_, .f32⟩
  | .hbm, ⟨7, _⟩ => ⟨S1024x256, .f32⟩
  | .hbm, ⟨8, _⟩ => ⟨S8x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1x1024x256, .f32⟩
  | .hbm, ⟨13, _⟩ => ⟨S2x1024x256, .f32⟩
  | .hbm, ⟨14, _⟩ => ⟨S_, .f32⟩
  | .hbm, ⟨15, _⟩ => ⟨S2x1024x256, .f32⟩
  | .hbm, ⟨16, _⟩ => ⟨S2x1024x256, .f32⟩
  | .hbm, ⟨17, _⟩ => ⟨S_, .f32⟩
  | .hbm, ⟨18, _⟩ => ⟨S2x1024x256, .f32⟩
  | .hbm, ⟨19, _⟩ => ⟨S2x1024x256, .f32⟩
  | .hbm, ⟨20, _⟩ => ⟨S2x1024x256, .f32⟩
  | .hbm, ⟨21, _⟩ => ⟨S_, .f32⟩
  | .hbm, ⟨22, _⟩ => ⟨S2x1024x256, .f32⟩
  | .hbm, ⟨23, _⟩ => ⟨S2x1024x256, .f32⟩
  | .hbm, ⟨24, _⟩ => ⟨S2x1024x256, .f32⟩
  | .hbm, ⟨25, _⟩ => ⟨S_, .f32⟩
  | .hbm, ⟨26, _⟩ => ⟨S2x1024x256, .f32⟩
  | .hbm, ⟨27, _⟩ => ⟨S2x1024x256, .f32⟩
  | .hbm, ⟨28, _⟩ => ⟨S2x1024x256, .f32⟩
  | .hbm, ⟨29, _⟩ => ⟨S_, .f32⟩
  | .hbm, ⟨30, _⟩ => ⟨S2x1024x256, .f32⟩
  | .hbm, ⟨31, _⟩ => ⟨S2x1024x256, .f32⟩
  | .hbm, ⟨32, _⟩ => ⟨S_, .f32⟩
  | .hbm, ⟨33, _⟩ => ⟨S2x1024x256, .f32⟩
  | .hbm, ⟨34, _⟩ => ⟨S2x1024x256, .f32⟩
  | .hbm, ⟨35, _⟩ => ⟨S2x1024x256, .f32⟩
  | .hbm, ⟨36, _⟩ => ⟨S_, .f32⟩
  | .hbm, ⟨37, _⟩ => ⟨S2x1024x256, .f32⟩
  | .hbm, ⟨38, _⟩ => ⟨S2x1024x256, .f32⟩
  | .hbm, ⟨39, _⟩ => ⟨S2x1024x256, .f32⟩
  | .hbm, ⟨40, _⟩ => ⟨S_, .f32⟩
  | .hbm, ⟨41, _⟩ => ⟨S2x1024x256, .f32⟩
  | .hbm, ⟨42, _⟩ => ⟨S2x1024x256, .f32⟩
  | .hbm, ⟨43, _⟩ => ⟨S2x1024x256, .f32⟩
  | .hbm, ⟨44, _⟩ => ⟨S_, .f32⟩
  | .hbm, ⟨45, _⟩ => ⟨S2x1024x256, .f32⟩
  | .hbm, ⟨46, _⟩ => ⟨S2x1024x256, .f32⟩
  | .hbm, ⟨47, _⟩ => ⟨S2048x256, .f32⟩
  | .hbm, ⟨48, _⟩ => ⟨S2048x256, .f32⟩
  | .hbm, ⟨49, _⟩ => ⟨S2048x256, .f32⟩
  | .hbm, ⟨50, _⟩ => ⟨S2048x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Proof.KerTile.lean ====
/- The tiles of the spatial product, read entry by entry. -/
module

public import proofs.«01_k».proof.Proof.Gen.KernelIdeal.Skeleton
public import Idealize.ShloMosaic.Lib.Pipeline.ValueKit
public import Idealize.ShloMosaic.Lib.Pipeline.ReadBack

@[expose] public section

set_option maxRecDepth 16384

noncomputable section

namespace Tile

open Idealize.ShloMosaic Cert.KernelIdeal Cert.KernelIdeal.Gen

abbrev T128 := FVec Ideal S128x128 .f32
abbrev W128 := Vec Ideal S1x128x128 .bf16

/-- Whether a lane falls in the first half of its run of 128 lanes. -/
def msk : IVec S128x512 1 := k0_pay20

theorem msk_apply (i : S128x512.Idx) : msk i = if (i 1 : ℕ) % 128 < 64 then 1#1 else 0#1 := by
  have h : ∀ k : Fin 512, (fun n : BitVec 32 => (fun b : BitVec 32 => IntOp.cmpi .slt (Scalar.select (IntOp.andi (IntOp.xori (IntOp.cmpi .slt b 0#32)
      (Scalar.cmpi .slt n 0#32)) (IntOp.cmpi .ne b 0#32)) (IntOp.addi b n) b) 64#32) (IntOp.remsi ArithUnit.vector (BitVec.ofNat 32 k) n))
      (Scalar.select (Scalar.cmpi .eq 128#32 0#32) 1#32 128#32) = if k.val % 128 < 64 then 1#1 else 0#1 := by decide +kernel
  unfold msk k0_pay20
  pointwise
  exact h (i 1)

/-- Four tiles side by side. -/
def cat (a b c d : T128) : FVec Ideal S128x512 .f32 := k0_pay11 a b c d

theorem cat_apply (A : Fin 4 → T128) (i : S128x512.Idx) :
    cat (A 0) (A 1) (A 2) (A 3) i = A ⟨(i 1 : ℕ) / 128, by have h : (i 1 : ℕ) < 512 := (i 1).isLt; omega⟩ (ix2 (i 0) ⟨(i 1 : ℕ) % 128, by omega⟩) := by
  have hk : (i 1 : ℕ) < 512 := (i 1).isLt
  have key : ∀ (c : Fin 4) (l : Fin 128), (i 1 : ℕ) = 128 * c.val + l.val → A c (ix2 (i 0) l)
      = A ⟨(i 1 : ℕ) / 128, by omega⟩ (ix2 (i 0) ⟨(i 1 : ℕ) % 128, by omega⟩) := by
    intro c l h
    have h1 : c = ⟨(i 1 : ℕ) / 128, by omega⟩ := Fin.ext (by show c.val = (i 1 : ℕ) / 128; omega)
    have h2 : l = ⟨(i 1 : ℕ) % 128, by omega⟩ := Fin.ext (by show l.val = (i 1 : ℕ) % 128; omega)
    rw [← h1, ← h2]
  unfold cat
  pointwise [k0_pay11]
  by_cases h1 : (i 1 : ℕ) < 128
  · rw [dif_pos h1]; exact key 0 ⟨_, h1⟩ (by simp)
  rw [dif_neg h1]
  by_cases h2 : (i 1 : ℕ) - 128 < 128
  · rw [dif_pos h2]; exact key 1 ⟨_, h2⟩ (by simp; omega)
  rw [dif_neg h2]
  by_cases h3 : (i 1 : ℕ) - 128 - 128 < 128
  · rw [dif_pos h3]; exact key 2 ⟨_, h3⟩ (by simp; omega)
  rw [dif_neg h3]
  exact key 3 ⟨_, by omega⟩ (by simp; omega)

/-- The half of the lanes in the first 64 of their run, and the other half. -/
def lo (x : FVec Ideal S128x512 .f32) : FVec Ideal S128x512 .bf16 := truncf .bf16 (select msk x (broadcast S128x512 (Scalar.ofBits .f32 0x00000000#32))) bitsLt_bf16_f32
def hi (x : FVec Ideal S128x512 .f32) : FVec Ideal S128x512 .bf16 := truncf .bf16 (select msk (broadcast S128x512 (Scalar.ofBits .f32 0x00000000#32)) x) bitsLt_bf16_f32

theorem lo_apply (x : FVec Ideal S128x512 .f32) (i : S128x512.Idx) : lo x i = if (i 1 : ℕ) % 128 < 64 then x i else (0 : EReal) := by
  unfold lo
  pointwise [msk_apply]
  split_ifs <;> rfl
theorem hi_apply (x : FVec Ideal S128x512 .f32) (i : S128x512.Idx) : hi x i = if (i 1 : ℕ) % 128 < 64 then (0 : EReal) else x i := by
  unfold hi
  pointwise [msk_apply]
  split_ifs <;> rfl

def mix (x : FVec Ideal S128x512 .f32) (w1 w2 : W128) : FVec Ideal S128x512 .f32 := k0_pay23 (lo x) (hi x) w1 w2

theorem mix_apply (x : FVec Ideal S128x512 .f32) (w1 w2 : W128) (i : S128x512.Idx) :
    mix x w1 w2 i = ∑ q : Fin 128, (if (i 1 : ℕ) % 128 < 64 then w1 (ix3 0 (i 0) q) else w2 (ix3 0 (i 0) q)) * x (ix2 q (i 1)) := by
  unfold mix
  pointwise [k0_pay23, lo_apply, hi_apply]
  by_cases h : (i 1 : ℕ) % 128 < 64
  · simp [h]
  · simp [h]

theorem cat_at (A : Fin 4 → T128) (i : S128x512.Idx) (c : Fin 4) (q l : Fin 128) (h0 : (i 0 : ℕ) = q) (h1 : (i 1 : ℕ) = 128 * c + l) :
    cat (A 0) (A 1) (A 2) (A 3) i = A c (ix2 q l) := by
  rw [cat_apply]
  have e0 : i 0 = q := Fin.ext h0
  have e3 : (⟨(i 1 : ℕ) / 128, by have h : (i 1 : ℕ) < 512 := (i 1).isLt; omega⟩ : Fin 4) = c := Fin.ext (by show (i 1 : ℕ) / 128 = c; omega)
  have e4 : (⟨(i 1 : ℕ) % 128, by omega⟩ : Fin 128) = l := Fin.ext (by show (i 1 : ℕ) % 128 = l; omega)
  rw [e0, e3, e4]

/-- Tile `c` of the product of four tiles. -/
theorem mix_tile (A : Fin 4 → T128) (w1 w2 : W128) (c : Fin 4) (i : S128x512.Idx) (p l : Fin 128) (h0 : (i 0 : ℕ) = p) (h1 : (i 1 : ℕ) = 128 * c + l) :
    mix (cat (A 0) (A 1) (A 2) (A 3)) w1 w2 i = ∑ q : Fin 128, (if (l : ℕ) < 64 then w1 (ix3 0 p q) else w2 (ix3 0 p q)) * A c (ix2 q l) := by
  rw [mix_apply]
  refine Finset.sum_congr rfl fun q _ => ?_
  have e0 : i 0 = p := Fin.ext h0
  have e1 : (i 1 : ℕ) % 128 = l := by omega
  rw [cat_at A (ix2 q (i 1)) c q l rfl h1, e0, e1]

theorem dtile0 (a b c d : T128) (w1 w2 : W128) (x : S128x128.Idx) :
    k0_pay62 (F := Ideal) (k0_pay58 a b c d) (k0_pay59 a b c d) (k0_pay60 w1) w2 x
      = ∑ q : Fin 128, (if (x 1 : ℕ) < 64 then w1 (ix3 0 (x 0) q) else w2 (ix3 0 (x 0) q)) * a (ix2 q (x 1)) := by
  refine Eq.trans (b := mix (cat a b c d) w1 w2 (ix2 (x 0) ⟨0 + (x 1 : ℕ), by have h : (x 1 : ℕ) < 128 := (x 1).isLt; omega⟩)) ?_
    (mix_tile ![a, b, c, d] w1 w2 0 _ (x 0) (x 1) rfl rfl)
  pointwise [k0_pay62]
  rfl

theorem dtile1 (a b c d : T128) (w1 w2 : W128) (x : S128x128.Idx) :
    k0_pay63 (F := Ideal) (k0_pay58 a b c d) (k0_pay59 a b c d) (k0_pay60 w1) w2 x
      = ∑ q : Fin 128, (if (x 1 : ℕ) < 64 then w1 (ix3 0 (x 0) q) else w2 (ix3 0 (x 0) q)) * b (ix2 q (x 1)) := by
  refine Eq.trans (b := mix (cat a b c d) w1 w2 (ix2 (x 0) ⟨128 + (x 1 : ℕ), by have h : (x 1 : ℕ) < 128 := (x 1).isLt; omega⟩)) ?_
    (mix_tile ![a, b, c, d] w1 w2 1 _ (x 0) (x 1) rfl rfl)
  pointwise [k0_pay63]
  rfl

theorem dtile2 (a b c d : T128) (w1 w2 : W128) (x : S128x128.Idx) :
    k0_pay64 (F := Ideal) (k0_pay58 a b c d) (k0_pay59 a b c d) (k0_pay60 w1) w2 x
      = ∑ q : Fin 128, (if (x 1 : ℕ) < 64 then w1 (ix3 0 (x 0) q) else w2 (ix3 0 (x 0) q)) * c (ix2 q (x 1)) := by
  refine Eq.trans (b := mix (cat a b c d) w1 w2 (ix2 (x 0) ⟨256 + (x 1 : ℕ), by have h : (x 1 : ℕ) < 128 := (x 1).isLt; omega⟩)) ?_
    (mix_tile ![a, b, c, d] w1 w2 2 _ (x 0) (x 1) rfl rfl)
  pointwise [k0_pay64]
  rfl

theorem dtile3 (a b c d : T128) (w1 w2 : W128) (x : S128x128.Idx) :
    k0_pay65 (F := Ideal) (k0_pay58 a b c d) (k0_pay59 a b c d) (k0_pay60 w1) w2 x
      = ∑ q : Fin 128, (if (x 1 : ℕ) < 64 then w1 (ix3 0 (x 0) q) else w2 (ix3 0 (x 0) q)) * d (ix2 q (x 1)) := by
  refine Eq.trans (b := mix (cat a b c d) w1 w2 (ix2 (x 0) ⟨384 + (x 1 : ℕ), by have h : (x 1 : ℕ) < 128 := (x 1).isLt; omega⟩)) ?_
    (mix_tile ![a, b, c, d] w1 w2 3 _ (x 0) (x 1) rfl rfl)
  pointwise [k0_pay65]
  rfl

theorem stile0 (a b c d : T128) (w1 w2 : W128) (t : T128) (x : S128x128.Idx) :
    k0_pay24 (F := Ideal) (k0_pay21 a b c d) (k0_pay22 a b c d) w1 w2 t x
      = (∑ q : Fin 128, (if (x 1 : ℕ) < 64 then w1 (ix3 0 (x 0) q) else w2 (ix3 0 (x 0) q)) * a (ix2 q (x 1))) + t x := by
  refine Eq.trans (b := mix (cat a b c d) w1 w2 (ix2 (x 0) ⟨0 + (x 1 : ℕ), by have h : (x 1 : ℕ) < 128 := (x 1).isLt; omega⟩) + t x) ?_
    (congrArg (· + t x) (mix_tile ![a, b, c, d] w1 w2 0 _ (x 0) (x 1) rfl rfl))
  pointwise [k0_pay24]
  rfl

theorem stile1 (a b c d : T128) (w1 w2 : W128) (t : T128) (x : S128x128.Idx) :
    k0_pay25 (F := Ideal) (k0_pay21 a b c d) (k0_pay22 a b c d) w1 w2 t x
      = (∑ q : Fin 128, (if (x 1 : ℕ) < 64 then w1 (ix3 0 (x 0) q) else w2 (ix3 0 (x 0) q)) * b (ix2 q (x 1))) + t x := by
  refine Eq.trans (b := mix (cat a b c d) w1 w2 (ix2 (x 0) ⟨128 + (x 1 : ℕ), by have h : (x 1 : ℕ) < 128 := (x 1).isLt; omega⟩) + t x) ?_
    (congrArg (· + t x) (mix_tile ![a, b, c, d] w1 w2 1 _ (x 0) (x 1) rfl rfl))
  pointwise [k0_pay25]
  rfl

theorem stile2 (a b c d : T128) (w1 w2 : W128) (t : T128) (x : S128x128.Idx) :
    k0_pay26 (F := Ideal) (k0_pay21 a b c d) (k0_pay22 a b c d) w1 w2 t x
      = (∑ q : Fin 128, (if (x 1 : ℕ) < 64 then w1 (ix3 0 (x 0) q) else w2 (ix3 0 (x 0) q)) * c (ix2 q (x 1))) + t x := by
  refine Eq.trans (b := mix (cat a b c d) w1 w2 (ix2 (x 0) ⟨256 + (x 1 : ℕ), by have h : (x 1 : ℕ) < 128 := (x 1).isLt; omega⟩) + t x) ?_
    (congrArg (· + t x) (mix_tile ![a, b, c, d] w1 w2 2 _ (x 0) (x 1) rfl rfl))
  pointwise [k0_pay26]
  rfl

theorem stile3 (a b c d : T128) (w1 w2 : W128) (t : T128) (x : S128x128.Idx) :
    k0_pay27 (F := Ideal) (k0_pay21 a b c d) (k0_pay22 a b c d) w1 w2 t x
      = (∑ q : Fin 128, (if (x 1 : ℕ) < 64 then w1 (ix3 0 (x 0) q) else w2 (ix3 0 (x 0) q)) * d (ix2 q (x 1))) + t x := by
  refine Eq.trans (b := mix (cat a b c d) w1 w2 (ix2 (x 0) ⟨384 + (x 1 : ℕ), by have h : (x 1 : ℕ) < 128 := (x 1).isLt; omega⟩) + t x) ?_
    (congrArg (· + t x) (mix_tile ![a, b, c, d] w1 w2 3 _ (x 0) (x 1) rfl rfl))
  pointwise [k0_pay27]
  rfl

end Tile
end
end
-- ==== Proof.Spec.lean ====
/- The gradient of the spatial gating mixer as real functions of real arrays, entry by entry, and the laws that carry
   the extended reals' operations to the reals where every operand is finite. -/
module

public import Idealize.ShloMosaic.PureOps.Ideal
public import Idealize.ShloMosaic.PureOps.Ideal.Laws
public import Mathlib.Analysis.SpecialFunctions.Trigonometric.DerivHyp

@[expose] public section

noncomputable section

namespace Mix

open Idealize.ShloMosaic

/-! ## Extended reals that are real -/

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem div_real (x y : ℝ) (h : y ≠ 0) : Ideal.div (x : EReal) (y : EReal) = ((x / y : ℝ) : EReal) := by
  rw [Ideal.div_coe h, ← EReal.coe_mul, mul_one_div]

theorem rsqrt_real (x : ℝ) (h : 0 < x) : Ideal.rsqrt (x : EReal) = (((Real.sqrt x)⁻¹ : ℝ) : EReal) := by
  rw [Ideal.rsqrt_coe, if_neg (not_lt.mpr h.le), if_neg h.ne']

/-! ## The constants -/

/-- The 32-bit square root of two over pi. -/
def K : ℝ := 13386282 / 2 ^ 24
/-- The 32-bit one millionth. -/
def eps : ℝ := 8796093 / 2 ^ 43

theorem eps_pos : 0 < eps := by unfold eps; positivity

theorem c_zero : Ideal.ofBits .f32 0x00000000#32 = ((0 : ℝ) : EReal) := by
  simp [Ideal.ofBits, Ideal.ieee]
theorem c_half : Ideal.ofBits .f32 0x3F000000#32 = ((1 / 2 : ℝ) : EReal) := by
  simp [Ideal.ofBits, Ideal.ieee, -EReal.coe_mul]; norm_num
theorem c_neghalf : Ideal.ofBits .f32 0xBF000000#32 = ((-1 / 2 : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_three : Ideal.ofBits .f32 0x40400000#32 = ((3 : ℝ) : EReal) := by
  simp [Ideal.ofBits, Ideal.ieee, -EReal.coe_mul]; norm_num
theorem c_512 : Ideal.ofBits .f32 0x44000000#32 = ((512 : ℝ) : EReal) := by
  simp [Ideal.ofBits, Ideal.ieee, -EReal.coe_mul]; norm_num
theorem c_K : Ideal.ofBits .f32 0x3F4C422A#32 = (K : EReal) := by
  simp [Ideal.ofBits, Ideal.ieee, -EReal.coe_mul, K]; norm_num
theorem c_eps : Ideal.ofBits .f32 0x358637BD#32 = (eps : EReal) := by
  simp [Ideal.ofBits, Ideal.ieee, -EReal.coe_mul, eps]; norm_num

theorem c_44715 : Ideal.ofBits .f32 0x472EAB00#32 = ((44715 : ℝ) : EReal) := by
  simp [Ideal.ofBits, Ideal.ieee, -EReal.coe_mul]; norm_num
theorem c_1e6 : Ideal.ofBits .f32 0x49742400#32 = ((1000000 : ℝ) : EReal) := by
  simp [Ideal.ofBits, Ideal.ieee, -EReal.coe_mul]; norm_num

theorem div_512 (x : ℝ) : Ideal.div (x : EReal) ((512 : ℝ) : EReal) = ((x / 512 : ℝ) : EReal) :=
  div_real x 512 (by norm_num)
theorem div_1e6 (x : ℝ) : Ideal.div (x : EReal) ((1000000 : ℝ) : EReal) = ((x / 1000000 : ℝ) : EReal) :=
  div_real x 1000000 (by norm_num)
theorem div_sig (x : ℝ) : Ideal.div ((1 : ℝ) : EReal) ((1 + Real.exp x : ℝ) : EReal) = ((1 / (1 + Real.exp x) : ℝ) : EReal) :=
  div_real 1 _ (by positivity)

/-! ## The scalar functions -/

def th (x : ℝ) : ℝ := Real.tanh (K * (x + 8943 / 200000 * x * x * x))
/-- The smooth rectifier. -/
def gl (x : ℝ) : ℝ := 1 / 2 * x * (1 + th x)
/-- Its derivative. -/
def gd (x : ℝ) : ℝ := 1 / 2 * (1 + th x) + 1 / 2 * x * (1 - th x * th x) * (K * (1 + 26829 / 200000 * x * x))
def sig (x : ℝ) : ℝ := 1 / (1 + Real.exp (-x))
/-- The derivative of `y · sig y`. -/
def swg (y : ℝ) : ℝ := sig y + y * sig y * (1 - sig y)

/-! ## One row's normalisation -/

def mean (v : Fin 512 → ℝ) : ℝ := (∑ k, v k) / 512
def cen (v : Fin 512 → ℝ) (j : Fin 512) : ℝ := v j - mean v
def vare (v : Fin 512 → ℝ) : ℝ := (∑ k, cen v k * cen v k) / 512 + eps
def rst (v : Fin 512 → ℝ) : ℝ := (Real.sqrt (vare v))⁻¹
def nrm (v : Fin 512 → ℝ) (j : Fin 512) : ℝ := cen v j * rst v
/-- Its gradient at the row `v`, of the row's gradient `d` before the gain `g`. -/
def lnb (d v g : Fin 512 → ℝ) (j : Fin 512) : ℝ :=
  rst v * (d j * g j - (∑ k, d k * g k) / 512 - nrm v j * ((∑ k, d k * g k * nrm v k) / 512))

theorem vare_pos (v : Fin 512 → ℝ) : 0 < vare v := by
  have : 0 ≤ ∑ k, cen v k * cen v k := Finset.sum_nonneg fun k _ => mul_self_nonneg _
  have := eps_pos
  unfold vare; positivity

theorem rsqrt_vare (v : Fin 512 → ℝ) : Ideal.rsqrt (vare v : EReal) = (rst v : EReal) := rsqrt_real _ (vare_pos v)
theorem div_vare (x : ℝ) (v : Fin 512 → ℝ) : Ideal.div (x : EReal) (vare v : EReal) = ((x / vare v : ℝ) : EReal) :=
  div_real _ _ (vare_pos v).ne'

theorem sum_cen (v : Fin 512 → ℝ) : ∑ k, cen v k = 0 := by
  simp only [cen, mean, Finset.sum_sub_distrib, Finset.sum_const, Finset.card_univ, Fintype.card_fin]
  simp; ring

theorem rst_sq (v : Fin 512 → ℝ) : rst v * rst v = 1 / vare v := by
  unfold rst
  rw [← mul_inv, Real.mul_self_sqrt (vare_pos v).le, one_div]

/-- The chain rule through the mean, the variance and the inverse square root gives that gradient. -/
theorem lnb_chain (d v g : Fin 512 → ℝ) (j : Fin 512) :
    d j * g j * rst v + (∑ k, cen v k * (d k * g k)) * (-1 / 2 * (rst v / vare v)) / 512 * (2 * cen v j)
      + ((∑ k, -(d k * g k * rst v))
        + ∑ k, -((∑ k, cen v k * (d k * g k)) * (-1 / 2 * (rst v / vare v)) / 512 * (2 * cen v k))) / 512
      = lnb d v g j := by
  have h0 : ∑ k, -((∑ k, cen v k * (d k * g k)) * (-1 / 2 * (rst v / vare v)) / 512 * (2 * cen v k)) = 0 := by
    have : ∀ k, -((∑ k, cen v k * (d k * g k)) * (-1 / 2 * (rst v / vare v)) / 512 * (2 * cen v k))
        = (-((∑ k, cen v k * (d k * g k)) * (-1 / 2 * (rst v / vare v)) / 512 * 2)) * cen v k := fun k => by ring
    rw [Finset.sum_congr rfl fun k _ => this k, ← Finset.mul_sum, sum_cen, mul_zero]
  have h1 : ∑ k, -(d k * g k * rst v) = -((∑ k, d k * g k) * rst v) := by
    rw [Finset.sum_neg_distrib, Finset.sum_mul]
  have h2 : ∑ k, d k * g k * nrm v k = (∑ k, cen v k * (d k * g k)) * rst v := by
    rw [Finset.sum_mul]; exact Finset.sum_congr rfl fun k _ => by unfold nrm; ring
  have h3 : rst v / vare v = rst v * rst v * rst v := by rw [rst_sq]; ring
  rw [h0, h1]; unfold lnb; rw [h2, h3]; unfold nrm; ring

/-! ## The mixer's gradient -/

structure Args where
  D : Fin 8192 → Fin 1024 → ℝ
  Z : Fin 8192 → Fin 2048 → ℝ
  C : Fin 8192 → Fin 512 → ℝ
  W : Fin 8 → Fin 128 → Fin 128 → ℝ
  B : Fin 8 → Fin 128 → ℝ
  vg : Fin 512 → ℝ
  vb : Fin 512 → ℝ
  cb : Fin 512 → ℝ
  cg : Fin 512 → ℝ
  cn : Fin 512 → ℝ

/-- Row `p` of the run `n` of 128 rows. -/
def row (n : Fin 64) (p : Fin 128) : Fin 8192 := ⟨128 * n.val + p.val, by omega⟩
def chunk (R : Fin 8192) : Fin 64 := ⟨R.val / 128, by omega⟩
def pos (R : Fin 8192) : Fin 128 := ⟨R.val % 128, by omega⟩
/-- Column `c` of the group `g` of 64 columns. -/
def col (g : Fin 8) (c : Fin 64) : Fin 512 := ⟨64 * g.val + c.val, by omega⟩
def grp (j : Fin 512) : Fin 8 := ⟨j.val / 64, by omega⟩

namespace Args
variable (a : Args)

def zz (R : Fin 8192) (c : Fin 1024) : ℝ := a.Z R ⟨c.val, by omega⟩
def zu (R : Fin 8192) (j : Fin 512) : ℝ := a.Z R ⟨j.val, by omega⟩
def zv (R : Fin 8192) (j : Fin 512) : ℝ := a.Z R ⟨512 + j.val, by omega⟩
def dya (R : Fin 8192) (j : Fin 512) : ℝ := a.D R ⟨j.val, by omega⟩
def dyb (R : Fin 8192) (j : Fin 512) : ℝ := a.D R ⟨512 + j.val, by omega⟩
def V (R : Fin 8192) (j : Fin 512) : ℝ := gl (a.zv R j)
def vl (R : Fin 8192) (j : Fin 512) : ℝ := nrm (a.V R) j * a.vg j + a.vb j
def sv (R : Fin 8192) (j : Fin 512) : ℝ :=
  (∑ q, a.W (grp j) (pos R) q * a.vl (row (chunk R) q) j) + a.B (grp j) (pos R)
def dsv (R : Fin 8192) (j : Fin 512) : ℝ := a.dya R j * gl (a.zu R j)
def dvl (R : Fin 8192) (j : Fin 512) : ℝ := ∑ p, a.W (grp j) p (pos R) * a.dsv (row (chunk R) p) j
def dzl (R : Fin 8192) (j : Fin 512) : ℝ := a.dya R j * a.sv R j * gd (a.zu R j)
def dzr (R : Fin 8192) (j : Fin 512) : ℝ := lnb (a.dvl R) (a.V R) a.vg j * gd (a.zv R j)
def dw (g : Fin 8) (p q : Fin 128) : ℝ := ∑ n, ∑ c, a.dsv (row n p) (col g c) * a.vl (row n q) (col g c)
def dsb (g : Fin 8) (p : Fin 128) : ℝ := ∑ n, ∑ c, a.dsv (row n p) (col g c)
def dvg (j : Fin 512) : ℝ := ∑ R, a.dvl R j * nrm (a.V R) j
def dvb (j : Fin 512) : ℝ := ∑ R, a.dvl R j
def G (R : Fin 8192) (j : Fin 512) : ℝ := a.C R j + a.cb j
def yl (R : Fin 8192) (j : Fin 512) : ℝ := nrm (a.G R) j * a.cg j + a.cn j
def dyl (R : Fin 8192) (j : Fin 512) : ℝ := a.dyb R j * swg (a.yl R j)
def dcg (j : Fin 512) : ℝ := ∑ R, a.dyl R j * nrm (a.G R) j
def dcn (j : Fin 512) : ℝ := ∑ R, a.dyl R j
def dgc (R : Fin 8192) (j : Fin 512) : ℝ := lnb (a.dyl R) (a.G R) a.cg j
def dcb (j : Fin 512) : ℝ := ∑ R, a.dgc R j

end Args

end Mix

end
-- ==== Proof.KerReal.lean ====
/- The payloads of the kernel on blocks of real numbers. -/
module

public import proofs.«01_k».proof.Proof.KerTile
public import proofs.«01_k».proof.Proof.Spec

@[expose] public section

set_option maxRecDepth 16384

noncomputable section

namespace Blk

open Idealize.ShloMosaic Cert.KernelIdeal Cert.KernelIdeal.Gen

/-- A block, a row and a column of real numbers. -/
def blk (φ : FTy) (f : Fin 512 → Fin 512 → ℝ) : FVec Ideal S512x512 φ := fun i => ((f (i 0) (i 1) : ℝ) : EReal)
def rowv (g : Fin 512 → ℝ) : FVec Ideal S1x512 .f32 := fun i => ((g (i 1) : ℝ) : EReal)
def colv (h : Fin 512 → ℝ) : FVec Ideal S512x1 .f32 := fun i => ((h (i 0) : ℝ) : EReal)

theorem blk_apply (φ : FTy) (f : Fin 512 → Fin 512 → ℝ) (i : S512x512.Idx) : blk φ f i = ((f (i 0) (i 1) : ℝ) : EReal) := rfl
theorem rowv_apply (g : Fin 512 → ℝ) (i : S1x512.Idx) : rowv g i = ((g (i 1) : ℝ) : EReal) := rfl
theorem colv_apply (g : Fin 512 → ℝ) (i : S512x1.Idx) : colv g i = ((g (i 0) : ℝ) : EReal) := rfl

theorem nc : Named.named (F := Ideal) κ "c" (φ := .f32) 0x3D372713#32 = ((8943 / 200000 : ℝ) : EReal) :=
  IdealRules.named_const.ideal_named_scalar _ _ _ _ rfl
theorem nc3 : Named.named (F := Ideal) κ "c3" (φ := .f32) 0x3E095D4F#32 = ((26829 / 200000 : ℝ) : EReal) :=
  IdealRules.named_const.ideal_named_scalar _ _ _ _ rfl

/-- The smooth rectifier of every entry. -/
def gle (z : Fin 512 → Fin 512 → ℝ) (r j : Fin 512) : ℝ := Mix.gl (z r j)

/-! ## The value and its normalisation -/

theorem p3 (z : Fin 512 → Fin 512 → ℝ) : k0_pay3 (F := Ideal) (blk .f32 z) = blk .f32 (gle z) := by
  funext i
  pointwise [k0_pay3, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p4 (g : Fin 512 → ℝ) : k0_pay4 (F := Ideal) (rowv g) = rowv g := by
  funext i
  pointwise [k0_pay4, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p5 (g : Fin 512 → ℝ) : k0_pay5 (F := Ideal) (rowv g) = rowv g := by
  funext i
  pointwise [k0_pay5, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p6 (z : Fin 512 → Fin 512 → ℝ) : k0_pay6 (F := Ideal) (blk .f32 z) = blk .f32 (fun r => Mix.cen (gle z r)) := by
  funext i
  pointwise [k0_pay6, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p7 (z : Fin 512 → Fin 512 → ℝ) : k0_pay7 (F := Ideal) (blk .f32 z) = blk .f32 (fun r j => Mix.cen (gle z r) j * Mix.cen (gle z r) j) := by
  unfold k0_pay7
  rw [p6]
  funext i
  pointwise [blk_apply]
  simp only [← EReal.coe_mul]

theorem p8 (v : Fin 512 → Fin 512 → ℝ) : k0_pay8 (F := Ideal) (blk .f32 (fun r j => Mix.cen (v r) j * Mix.cen (v r) j)) = colv (fun r => Mix.rst (v r)) := by
  funext i
  pointwise [k0_pay8, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals exact Mix.rsqrt_vare _

theorem p9 (v : Fin 512 → Fin 512 → ℝ) : k0_pay9 (F := Ideal) (blk .f32 (fun r => Mix.cen (v r))) (blk .f32 (fun r j => Mix.cen (v r) j * Mix.cen (v r) j)) = blk .f32 (fun r => Mix.nrm (v r)) := by
  unfold k0_pay9
  rw [p8]
  funext i
  pointwise [blk_apply, colv_apply]
  simp only [← EReal.coe_mul]
  rfl

theorem p10 (v : Fin 512 → Fin 512 → ℝ) (g b : Fin 512 → ℝ) : k0_pay10 (F := Ideal) (rowv g) (rowv b) (blk .f32 (fun r => Mix.cen (v r))) (blk .f32 (fun r j => Mix.cen (v r) j * Mix.cen (v r) j))
    = blk .f32 (fun r j => Mix.nrm (v r) j * g j + b j) := by
  unfold k0_pay10
  rw [p9]
  funext i
  pointwise [blk_apply, rowv_apply]
  simp only [← EReal.coe_mul, ← EReal.coe_add]

/-! ## The gate's gradient -/

theorem p44 (d s : Fin 512 → Fin 512 → ℝ) : k0_pay44 (F := Ideal) (blk .f32 d) (blk .f32 s) = blk .f32 (fun r j => d r j * s r j) := by
  funext i
  pointwise [k0_pay44, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p45 (z : Fin 512 → Fin 512 → ℝ) : k0_pay45 (F := Ideal) (blk .f32 z) = blk .f32 (fun r j => Mix.th (z r j)) := by
  funext i
  pointwise [k0_pay45, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p46 (z d : Fin 512 → Fin 512 → ℝ) : k0_pay46 (F := Ideal) (blk .f32 z) (blk .f32 d) (blk .f32 (fun r j => Mix.th (z r j))) (Scalar.ofBits .f32 0x3F800000#32) = blk .bf16 (fun r j => d r j * Mix.gd (z r j)) := by
  funext i
  pointwise [k0_pay46, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p47 (d g : Fin 512 → Fin 512 → ℝ) : k0_pay47 (F := Ideal) (blk .f32 g) (blk .f32 d) = blk .f32 (fun r j => d r j * g r j) := by
  funext i
  pointwise [k0_pay47, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p48 (d g : Fin 512 → Fin 512 → ℝ) : k0_pay48 (F := Ideal) (blk .f32 g) (blk .f32 d) = blk .f32 (fun r j => d r j * g r j) := by
  funext i
  pointwise [k0_pay48, k0_pay47, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

/-! ## Sums down the columns -/

theorem p147 (v d : Fin 512 → Fin 512 → ℝ) : k0_pay147 (F := Ideal) (blk .f32 v) (blk .f32 d) = rowv (fun j => ∑ r, d r j * v r j) := by
  funext i
  pointwise [k0_pay147, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p149 (d : Fin 512 → Fin 512 → ℝ) : k0_pay149 (F := Ideal) (blk .f32 d) = rowv (fun j => ∑ r, d r j) := by
  funext i
  pointwise [k0_pay149, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p1 (d : Fin 512 → Fin 512 → ℝ) : k0_pay1 (F := Ideal) (blk .f32 d) = rowv (fun j => ∑ r, d r j) := by
  funext i
  pointwise [k0_pay1, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

/-! ## Back through the value's normalisation -/

theorem p151 (v d : Fin 512 → Fin 512 → ℝ) (g : Fin 512 → ℝ) : k0_pay151 (F := Ideal) (colv (fun r => Mix.rst (v r))) (blk .f32 (fun r => Mix.nrm (v r))) (blk .f32 d) (rowv g) = blk .f32 (fun r => Mix.lnb (d r) (v r) g) := by
  funext i
  pointwise [k0_pay151, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p153 (z d : Fin 512 → Fin 512 → ℝ) : k0_pay153 (F := Ideal) (blk .f32 z) (blk .f32 d) k0_pay152 = blk .bf16 (fun r j => d r j * Mix.gd (z r j)) := by
  funext i
  pointwise [k0_pay153, k0_pay152, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

/-! ## The convolution's half -/

theorem p154 (g : Fin 512 → ℝ) : k0_pay154 (F := Ideal) (rowv g) = rowv g := by
  funext i
  pointwise [k0_pay154, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p155 (g : Fin 512 → ℝ) : k0_pay155 (F := Ideal) (rowv g) = rowv g := by
  funext i
  pointwise [k0_pay155, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p156 (v : Fin 512 → Fin 512 → ℝ) : k0_pay156 (F := Ideal) (blk .f32 v) = blk .f32 (fun r => Mix.cen (v r)) := by
  funext i
  pointwise [k0_pay156, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

theorem p157 (v : Fin 512 → Fin 512 → ℝ) : k0_pay157 (F := Ideal) (blk .f32 (fun r => Mix.cen (v r))) = colv (fun r => Mix.rst (v r)) := by
  funext i
  pointwise [k0_pay157, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals exact Mix.rsqrt_vare _

theorem p158 (v : Fin 512 → Fin 512 → ℝ) : k0_pay158 (F := Ideal) (blk .f32 (fun r => Mix.cen (v r))) = blk .f32 (fun r => Mix.nrm (v r)) := by
  unfold k0_pay158
  rw [p157]
  funext i
  pointwise [blk_apply, colv_apply]
  simp only [← EReal.coe_mul]
  rfl

theorem p159 (v d : Fin 512 → Fin 512 → ℝ) (g b : Fin 512 → ℝ) : k0_pay159 (F := Ideal) (rowv g) (rowv b) (blk .f32 (fun r => Mix.cen (v r))) (blk .f32 d)
    = blk .f32 (fun r j => d r j * Mix.swg (Mix.nrm (v r) j * g j + b j)) := by
  unfold k0_pay159
  rw [p158]
  funext i
  pointwise [blk_apply, rowv_apply]
  simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  simp only [zero_sub]
  rfl

theorem p160 (v d : Fin 512 → Fin 512 → ℝ) (g b : Fin 512 → ℝ) : k0_pay160 (F := Ideal) (rowv g) (rowv b) (blk .f32 (fun r => Mix.cen (v r))) (blk .f32 d)
    = rowv (fun j => ∑ r, d r j * Mix.swg (Mix.nrm (v r) j * g j + b j) * Mix.nrm (v r) j) := by
  unfold k0_pay160
  rw [p158, p159]
  funext i
  pointwise [blk_apply, rowv_apply]
  simp only [← EReal.coe_mul, Mix.coe_sum]

theorem p162 (v d : Fin 512 → Fin 512 → ℝ) (g b : Fin 512 → ℝ) : k0_pay162 (F := Ideal) (rowv g) (rowv b) (blk .f32 (fun r => Mix.cen (v r))) (blk .f32 d)
    = rowv (fun j => ∑ r, d r j * Mix.swg (Mix.nrm (v r) j * g j + b j)) := by
  unfold k0_pay162
  rw [p159]
  funext i
  pointwise [blk_apply, rowv_apply]
  simp only [← EReal.coe_mul, Mix.coe_sum]

theorem p164 (v d : Fin 512 → Fin 512 → ℝ) (g : Fin 512 → ℝ) : k0_pay164 (F := Ideal) (colv (fun r => Mix.rst (v r))) (blk .f32 (fun r => Mix.nrm (v r))) (blk .f32 d) (rowv g) = blk .f32 (fun r => Mix.lnb (d r) (v r) g) := by
  funext i
  pointwise [k0_pay164, blk_apply, rowv_apply, colv_apply]
  all_goals simp only [nc, nc3, Mix.c_zero, Mix.c_half, Mix.c_one, Mix.c_512, Mix.c_K, Mix.c_eps, ← EReal.coe_one, ← EReal.coe_zero, Ideal.tanh_coe, Ideal.exp_coe, Mix.rsqrt_vare, Mix.div_512, Mix.div_sig, Mix.coe_sum, ← EReal.coe_mul, ← EReal.coe_add, ← EReal.coe_sub, ← EReal.coe_neg]
  all_goals rfl

end Blk
end
end
-- ==== Proof.KerSum.lean ====
/- The sums of the weight's and the bias's gradients over one block. -/
module

public import proofs.«01_k».proof.Proof.KerReal

@[expose] public section

set_option maxRecDepth 16384

noncomputable section

namespace Tile

open Idealize.ShloMosaic Cert.KernelIdeal Cert.KernelIdeal.Gen

theorem ite_mul_lo (p : Prop) [Decidable p] (a b : EReal) : (if p then a else 0) * b = if p then a * b else 0 := by split_ifs <;> simp
theorem ite_mul_hi (p : Prop) [Decidable p] (a b : EReal) : (if p then 0 else a) * b = if p then 0 else a * b := by split_ifs <;> simp

theorem sum_lo (f : Fin 512 → EReal) : (∑ k : Fin 512, if (k : ℕ) % 128 < 64 then f k else 0) = ∑ n : Fin 4, ∑ c : Fin 64, f ⟨128 * n.val + c.val, by omega⟩ := by
  have h : ∀ n : Fin 4, ∑ c : Fin 64, f ⟨128 * n.val + c.val, by omega⟩
      = ∑ l : Fin (64 + 64), if (l : ℕ) < 64 then f ⟨128 * n.val + l.val, by omega⟩ else 0 := fun n => by
    rw [Fin.sum_univ_add]
    simp
  simp only [h]
  refine Fin.sum_divmod_congr fun k hn hl => ?_
  have e : (⟨128 * ((k : ℕ) / 128) + (k : ℕ) % 128, by omega⟩ : Fin 512) = k := Fin.ext (by show 128 * ((k : ℕ) / 128) + (k : ℕ) % 128 = k; omega)
  show _ = if (k : ℕ) % 128 < 64 then f ⟨128 * ((k : ℕ) / 128) + (k : ℕ) % 128, _⟩ else 0
  rw [e]

theorem sum_hi (f : Fin 512 → EReal) : (∑ k : Fin 512, if (k : ℕ) % 128 < 64 then 0 else f k) = ∑ n : Fin 4, ∑ c : Fin 64, f ⟨128 * n.val + 64 + c.val, by omega⟩ := by
  have h : ∀ n : Fin 4, ∑ c : Fin 64, f ⟨128 * n.val + 64 + c.val, by omega⟩
      = ∑ l : Fin (64 + 64), if (l : ℕ) < 64 then 0 else f ⟨128 * n.val + l.val, by omega⟩ := fun n => by
    rw [Fin.sum_univ_add]
    simp [Nat.add_assoc]
    exact Finset.sum_congr rfl fun x _ => congrArg f (Fin.ext (by show 128 * n.val + (64 + x.val) = 128 * n.val + (x.val + 64); omega))
  simp only [h]
  refine Fin.sum_divmod_congr fun k hn hl => ?_
  have e : (⟨128 * ((k : ℕ) / 128) + (k : ℕ) % 128, by omega⟩ : Fin 512) = k := Fin.ext (by show 128 * ((k : ℕ) / 128) + (k : ℕ) % 128 = k; omega)
  show _ = if (k : ℕ) % 128 < 64 then 0 else f ⟨128 * ((k : ℕ) / 128) + (k : ℕ) % 128, _⟩
  rw [e]

/-- The product over the lanes of the first halves, and of the second. -/
def gramL (x y : FVec Ideal S128x512 .f32) : T128 := matmul dot_S128x512_S128x512_S128x128_1_1_0_0_n_n none (lo x) (addf (lo y) (hi y)) (constant S128x128 .f32 0x00000000#32)
def gramH (x y : FVec Ideal S128x512 .f32) : T128 := matmul dot_S128x512_S128x512_S128x128_1_1_0_0_n_n none (hi x) (addf (lo y) (hi y)) (constant S128x128 .f32 0x00000000#32)

theorem lohi (y : FVec Ideal S128x512 .f32) (i : S128x512.Idx) : addf (lo y) (hi y) i = y i := by
  pointwise [lo_apply, hi_apply]
  split_ifs <;> simp

theorem gramL_apply (A B : Fin 4 → T128) (i : S128x128.Idx) :
    gramL (cat (A 0) (A 1) (A 2) (A 3)) (cat (B 0) (B 1) (B 2) (B 3)) i
      = ∑ n : Fin 4, ∑ c : Fin 64, A n (ix2 (i 0) ⟨c.val, by omega⟩) * B n (ix2 (i 1) ⟨c.val, by omega⟩) := by
  unfold gramL
  pointwise [lo_apply, lohi]
  refine Eq.trans (Fin.sum_fin_congr fun k => ?_) ((sum_lo fun k => cat (A 0) (A 1) (A 2) (A 3) (ix2 (i 0) k) * cat (B 0) (B 1) (B 2) (B 3) (ix2 (i 1) k)).trans ?_)
  · exact ite_mul_lo _ _ _
  refine Finset.sum_congr rfl fun n _ => Finset.sum_congr rfl fun c _ => ?_
  rw [cat_at A _ n (i 0) ⟨c.val, by omega⟩ rfl rfl, cat_at B _ n (i 1) ⟨c.val, by omega⟩ rfl rfl]

theorem gramH_apply (A B : Fin 4 → T128) (i : S128x128.Idx) :
    gramH (cat (A 0) (A 1) (A 2) (A 3)) (cat (B 0) (B 1) (B 2) (B 3)) i
      = ∑ n : Fin 4, ∑ c : Fin 64, A n (ix2 (i 0) ⟨64 + c.val, by omega⟩) * B n (ix2 (i 1) ⟨64 + c.val, by omega⟩) := by
  unfold gramH
  pointwise [hi_apply, lohi]
  refine Eq.trans (Fin.sum_fin_congr fun k => ?_) ((sum_hi fun k => cat (A 0) (A 1) (A 2) (A 3) (ix2 (i 0) k) * cat (B 0) (B 1) (B 2) (B 3) (ix2 (i 1) k)).trans ?_)
  · exact ite_mul_hi _ _ _
  refine Finset.sum_congr rfl fun n _ => Finset.sum_congr rfl fun c _ => ?_
  rw [cat_at A _ n (i 0) ⟨64 + c.val, by omega⟩ rfl (by show 128 * n.val + 64 + c.val = 128 * n.val + (64 + c.val); omega), cat_at B _ n (i 1) ⟨64 + c.val, by omega⟩ rfl (by show 128 * n.val + 64 + c.val = 128 * n.val + (64 + c.val); omega)]

theorem p144 (d : Fin 512 → Fin 512 → ℝ) : k0_pay144 (F := Ideal) (Blk.blk .f32 d)
    = fun i => ((∑ n : Fin 4, d ⟨128 * n.val + (i 0 : ℕ), by have h : (i 0 : ℕ) < 128 := (i 0).isLt; omega⟩ (i 1) : ℝ) : EReal) := by
  funext i
  pointwise [k0_pay144, Blk.blk_apply]
  simp only [← EReal.coe_add]
  refine congrArg _ ?_
  rw [Fin.sum_univ_four]
  have e : (⟨128 * (0 : Fin 4).val + (i 0 : ℕ), by have h : (i 0 : ℕ) < 128 := (i 0).isLt; show 0 + _ < _; omega⟩ : Fin 512) = ⟨(i 0 : ℕ), by have h : (i 0 : ℕ) < 128 := (i 0).isLt; omega⟩ := Fin.ext (by simp)
  rw [e]
  rfl

theorem sum_grp (x : Fin 512 → ℝ) (g : Fin 8) : (∑ k : Fin 512, if (k : ℕ) / 64 = (g : ℕ) then x k else 0) = ∑ c : Fin 64, x (Mix.col g c) := by
  have h : ∑ c : Fin 64, x (Mix.col g c) = ∑ a : Fin 8, ∑ c : Fin 64, if a = g then x (Mix.col a c) else 0 := by
    rw [Finset.sum_comm]
    exact Finset.sum_congr rfl fun c _ => by simp
  rw [h]
  refine Fin.sum_divmod_congr fun k hn hl => ?_
  have e : Mix.col ⟨(k : ℕ) / 64, hn⟩ ⟨(k : ℕ) % 64, hl⟩ = k := Fin.ext (by show 64 * ((k : ℕ) / 64) + (k : ℕ) % 64 = k; omega)
  rw [e]
  simp only [Fin.ext_iff]

theorem p145 (x : Fin 128 → Fin 512 → ℝ) (i : S8x128.Idx) :
    k0_pay145 (F := Ideal) (fun i => ((x (i 0) (i 1) : ℝ) : EReal)) (iota .tc S8x512 32 [0] iota_S8x512_d0_w32) (iota .tc S8x512 32 [1] iota_S8x512_d1_w32) 64#32 i
      = ((∑ c : Fin 64, x (i 1) (Mix.col (i 0) c) : ℝ) : EReal) := by
  have h : ∀ (g : Fin 8) (k : Fin 512), IntOp.cmpi CmpIPredicate.eq (BitVec.ofNat 32 ↑g)
              (Scalar.select
                (IntOp.andi
                  (IntOp.cmpi CmpIPredicate.ne
                    (IntOp.subi (BitVec.setWidth 32 (IntOp.cmpi CmpIPredicate.sgt (BitVec.ofNat 32 ↑k) 0#32))
                      (BitVec.setWidth 32 (IntOp.cmpi CmpIPredicate.slt (BitVec.ofNat 32 ↑k) 0#32)))
                    (Scalar.subi (Scalar.extui (Scalar.cmpi CmpIPredicate.sgt 64#32 0#32))
                      (Scalar.extui (Scalar.cmpi CmpIPredicate.slt 64#32 0#32))))
                  (IntOp.cmpi CmpIPredicate.ne (IntOp.remsi ArithUnit.vector (BitVec.ofNat 32 ↑k) 64#32) 0#32))
                (IntOp.subi (IntOp.divsi ArithUnit.vector (BitVec.ofNat 32 ↑k) 64#32) 1#32)
                (IntOp.divsi ArithUnit.vector (BitVec.ofNat 32 ↑k) 64#32))
      = if (k : ℕ) / 64 = (g : ℕ) then 1#1 else 0#1 := by decide +kernel
  have hs : ∀ (g : Fin 8) (k : Fin 512) (y : EReal), Scalar.select (if (k : ℕ) / 64 = (g : ℕ) then 1#1 else 0#1) y 0 = if (k : ℕ) / 64 = (g : ℕ) then y else 0 := fun g k y => by
    split_ifs <;> rfl
  pointwise [k0_pay145]
  simp only [h (i 0), hs (i 0), ← EReal.coe_sub, sub_self, EReal.coe_zero, sub_zero, ite_self, Finset.sum_const_zero, add_zero]
  rw [← sum_grp (fun k => x (i 1) k) (i 0), ← Mix.coe_sum]
  refine Fin.sum_fin_congr fun k => ?_
  split_ifs <;> simp

end Tile
end
end
-- ==== Proof.KerSp.lean ====
/- The spatial product of a block, read off the sixteen tiles it is stored in. -/
module

public import proofs.«01_k».proof.Proof.KerSum
public import proofs.«01_k».proof.Proof.Gen.KernelIdeal.Frame

@[expose] public section

set_option maxRecDepth 16384

noncomputable section

namespace Blk

open Idealize.ShloMosaic Cert.KernelIdeal Cert.KernelIdeal.Gen

def wblk (W : Fin 8 → Fin 128 → Fin 128 → ℝ) : FVec Ideal S8x128x128 .bf16 := fun i => ((W (i 0) (i 1) (i 2) : ℝ) : EReal)
def bblk (B : Fin 128 → Fin 512 → ℝ) : FVec Ideal S128x512 .f32 := fun i => ((B (i 0) (i 1) : ℝ) : EReal)

def pos4 (r : Fin 512) : Fin 128 := ⟨r.val % 128, by omega⟩
/-- Row `q` of the run of 128 rows that `r` lies in. -/
def row4 (r : Fin 512) (q : Fin 128) : Fin 512 := ⟨128 * (r.val / 128) + q.val, by omega⟩

/-- Each group of 64 columns, in each run of 128 rows, under the group's own 128 by 128 weights. -/
def spR (W : Fin 8 → Fin 128 → Fin 128 → ℝ) (f : Fin 512 → Fin 512 → ℝ) (r j : Fin 512) : ℝ :=
  ∑ q : Fin 128, W (Mix.grp j) (pos4 r) q * f (row4 r q) j

theorem half0 (J y : ℕ) (h : y < 64) : (128 * J + y) / 64 = 2 * J := by omega
theorem half1 (J y : ℕ) (h : ¬y < 64) (h' : y < 128) : (128 * J + y) / 64 = 2 * J + 1 := by omega

theorem sp_tile (W : Fin 8 → Fin 128 → Fin 128 → ℝ) (f : Fin 512 → Fin 512 → ℝ) (n jp : Fin 4) (a : Tile.T128) (w1 w2 : Tile.W128)
    (x : S128x128.Idx) (i : S512x512.Idx)
    (ha : ∀ q j : Fin 128, a (ix2 q j) = ((f ⟨128 * n.val + q.val, by omega⟩ ⟨128 * jp.val + j.val, by omega⟩ : ℝ) : EReal))
    (h1 : ∀ p q : Fin 128, w1 (ix3 0 p q) = ((W ⟨2 * jp.val, by omega⟩ p q : ℝ) : EReal))
    (h2 : ∀ p q : Fin 128, w2 (ix3 0 p q) = ((W ⟨2 * jp.val + 1, by omega⟩ p q : ℝ) : EReal))
    (i0 : (i 0 : ℕ) = 128 * n.val + (x 0).val) (i1 : (i 1 : ℕ) = 128 * jp.val + (x 1).val) :
    (∑ q : Fin 128, (if (x 1 : ℕ) < 64 then w1 (ix3 0 (x 0) q) else w2 (ix3 0 (x 0) q)) * a (ix2 q (x 1))) = blk .f32 (spR W f) i := by
  have hx0 := (x 0).isLt
  have hx1 := (x 1).isLt
  show _ = ((spR W f (i 0) (i 1) : ℝ) : EReal)
  have ei : ∀ q : Fin 128, (⟨128 * n.val + q.val, by omega⟩ : Fin 512) = row4 (i 0) q := fun q => Fin.ext (by
    show 128 * n.val + q.val = 128 * ((i 0 : ℕ) / 128) + q.val
    rw [i0]; have : (x 0).val < 128 := hx0; omega)
  have ej : (⟨128 * jp.val + (x 1).val, by have : (x 1).val < 128 := hx1; omega⟩ : Fin 512) = i 1 := Fin.ext i1.symm
  have ep : x 0 = pos4 (i 0) := Fin.ext (by
    show (x 0).val = (i 0 : ℕ) % 128
    rw [i0]; have : (x 0).val < 128 := hx0; omega)
  unfold spR
  rw [← Mix.coe_sum]
  refine Finset.sum_congr rfl fun q _ => ?_
  have e3 : a (ix2 q (x 1)) = ((f (row4 (i 0) q) (i 1) : ℝ) : EReal) := by
    rw [← ei, ← ej]; exact ha q (x 1)
  have e4 : (if (x 1 : ℕ) < 64 then w1 (ix3 0 (x 0) q) else w2 (ix3 0 (x 0) q)) = ((W (Mix.grp (i 1)) (pos4 (i 0)) q : ℝ) : EReal) := by
    rw [← ep]
    by_cases h : (x 1 : ℕ) < 64
    · rw [if_pos h]
      have : Mix.grp (i 1) = ⟨2 * jp.val, by omega⟩ := Fin.ext (by
        show (i 1 : ℕ) / 64 = 2 * jp.val
        rw [i1]; exact half0 _ _ h)
      rw [this]; exact h1 (x 0) q
    · rw [if_neg h]
      have : Mix.grp (i 1) = ⟨2 * jp.val + 1, by omega⟩ := Fin.ext (by
        have hx : (x 1).val < 128 := hx1
        show (i 1 : ℕ) / 64 = 2 * jp.val + 1
        rw [i1]; exact half1 _ _ h hx)
      rw [this]; exact h2 (x 0) q
  rw [e3, e4, EReal.coe_mul]

/-- A buffer stored whole in tiles that are tiles of `G`, read whole, reads `G`. -/
theorem read_tiles {sig : RefSig} {κ : Kind} {sp : Space} (v : View sig κ sp S512x512 .f32) (G : S512x512.Idx → EReal)
    (L : List (View.Piece (Elt Ideal) S512x512 .f32))
    {off : Fin S512x512.rank → ℕ} (inb : ∀ a, off a + S512x512.size a ≤ S512x512.size a) (h0 : ∀ a, off a = 0)
    (h : View.PiecesOf G L) (hc : ∀ y, ∃ p ∈ L, y ∈ p.1.set) :
    v.readCov L (Rect.unit off (no_index S512x512.size) inb).toLoadRect = G := by
  rw [View.readCov_eq_canon']
  funext j
  have e : (Rect.unit off S512x512.size inb).toLoadRect.idx j = j := by
    funext a
    apply Fin.ext
    show off a + 1 * (j a).val = (j a).val
    rw [h0 a]; omega
  have := View.canon_append_of_piecesOf G [] L h j (hc j)
  rw [List.append_nil] at this
  exact (congrArg _ e).trans this

theorem ld_tile (f : Fin 512 → Fin 512 → ℝ) {o0 o1 : ℕ} (inb : ∀ a, (![o0, o1] : Fin 2 → ℕ) a + (![128, 128] : Fin 2 → ℕ) a ≤ S512x512.size a) (b0 b1 : ℕ)
    (h0 : o0 = b0) (h1 : o1 = b1) (q j : Fin 128) (l0 : b0 + q.val < 512) (l1 : b1 + j.val < 512) :
    View.ld (Val := Elt Ideal) (e' := .f32) (blk .f32 f) (Rect.unit (s := S512x512) ![o0, o1] ![128, 128] inb) (ix2 q j) = ((f ⟨b0 + q.val, l0⟩ ⟨b1 + j.val, l1⟩ : ℝ) : EReal) := by
  subst h0 h1
  show ((f _ _ : ℝ) : EReal) = _
  congr 2
  · apply Fin.ext; show o0 + 1 * q.val = o0 + q.val; omega
  · apply Fin.ext; show o1 + 1 * j.val = o1 + j.val; omega

theorem ld_w (W : Fin 8 → Fin 128 → Fin 128 → ℝ) {o : ℕ} (inb : ∀ a, (![o, 0, 0] : Fin 3 → ℕ) a + (![1, 128, 128] : Fin 3 → ℕ) a ≤ S8x128x128.size a)
    (b : ℕ) (h : o = b) (l : b < 8) (p q : Fin 128) :
    View.ld (Val := Elt Ideal) (e' := .bf16) (wblk W) (Rect.unit (s := S8x128x128) ![o, 0, 0] ![1, 128, 128] inb) (ix3 0 p q) = ((W ⟨b, l⟩ p q : ℝ) : EReal) := by
  subst h
  show ((W _ _ _ : ℝ) : EReal) = _
  congr 2
  · apply Fin.ext; show 0 + 1 * p.val = p.val; omega
  · apply Fin.ext; show 0 + 1 * q.val = q.val; omega

theorem ld_b (B : Fin 128 → Fin 512 → ℝ) {o : ℕ} (inb : ∀ a, (![0, o] : Fin 2 → ℕ) a + (![128, 128] : Fin 2 → ℕ) a ≤ S128x512.size a)
    (x : S128x128.Idx) (i : S512x512.Idx) (h0 : (i 0 : ℕ) % 128 = (x 0).val) (h1 : (i 1 : ℕ) = o + (x 1).val) :
    View.ld (Val := Elt Ideal) (e' := .f32) (bblk B) (Rect.unit (s := S128x512) ![0, o] ![128, 128] inb) x = ((B (pos4 (i 0)) (i 1) : ℝ) : EReal) := by
  show ((B _ _ : ℝ) : EReal) = _
  congr 2
  · apply Fin.ext; show 0 + 1 * (x 0).val = (i 0 : ℕ) % 128; omega
  · apply Fin.ext; show o + 1 * (x 1).val = (i 1 : ℕ); omega

theorem p28 (v : Tile.T128) : k0_pay28 (F := Ideal) v = v := by
  funext i
  pointwise [k0_pay28]
  all_goals rfl

theorem fill_tile {sig : RefSig} {κ : Kind} {sp : Space} (v : View sig κ sp S512x512 .f32) (w : S512x512.Idx → Elt Ideal .f32) (f : Fin 512 → Fin 512 → ℝ)
    {off : Fin S512x512.rank → ℕ} (inb : ∀ a, off a + S512x512.size a ≤ S512x512.size a) (hz : ∀ a, off a = 0)
    {o0 o1 : ℕ} (inb' : ∀ a, (![o0, o1] : Fin 2 → ℕ) a + (![128, 128] : Fin 2 → ℕ) a ≤ S512x512.size a) (b0 b1 : ℕ)
    (h0 : o0 = b0) (h1 : o1 = b1) (hw : w = blk .f32 f) (q j : Fin 128) (l0 : b0 + q.val < 512) (l1 : b1 + j.val < 512) :
    v.readCov [⟨Rect.unit off (no_index S512x512.size) inb, w⟩] (Rect.unit (s := S512x512) ![o0, o1] ![128, 128] inb').toLoadRect (ix2 q j)
      = ((f ⟨b0 + q.val, l0⟩ ⟨b1 + j.val, l1⟩ : ℝ) : EReal) := by
  rw [View.readCov_fill v inb w [] _ hz, hw]
  exact ld_tile f inb' b0 b1 h0 h1 q j l0 l1

theorem dpiece0 (W : Fin 8 → Fin 128 → Fin 128 → ℝ) (f : Fin 512 → Fin 512 → ℝ) (jp : Fin 4) (a b c d : Tile.T128) (w1 w2 : Tile.W128)
    (x : S128x128.Idx) (i : S512x512.Idx)
    (ha : ∀ q j : Fin 128, a (ix2 q j) = ((f ⟨0 + q.val, by omega⟩ ⟨128 * jp.val + j.val, by omega⟩ : ℝ) : EReal))
    (h1 : ∀ p q : Fin 128, w1 (ix3 0 p q) = ((W ⟨2 * jp.val, by omega⟩ p q : ℝ) : EReal))
    (h2 : ∀ p q : Fin 128, w2 (ix3 0 p q) = ((W ⟨2 * jp.val + 1, by omega⟩ p q : ℝ) : EReal))
    (i0 : (i 0 : ℕ) = 0 + (x 0).val) (i1 : (i 1 : ℕ) = 128 * jp.val + (x 1).val) :
    k0_pay62 (F := Ideal) (k0_pay58 a b c d) (k0_pay59 a b c d) (k0_pay60 w1) w2 x = blk .f32 (spR W f) i :=
  (Tile.dtile0 a b c d w1 w2 x).trans (sp_tile W f 0 jp a w1 w2 x i (fun q j => ha q j) h1 h2 i0 i1)

theorem spiece0 (W : Fin 8 → Fin 128 → Fin 128 → ℝ) (f : Fin 512 → Fin 512 → ℝ) (B : Fin 128 → Fin 512 → ℝ) (jp : Fin 4) (a b c d : Tile.T128) (w1 w2 : Tile.W128)
    (t : Tile.T128) (x : S128x128.Idx) (i : S512x512.Idx)
    (ha : ∀ q j : Fin 128, a (ix2 q j) = ((f ⟨0 + q.val, by omega⟩ ⟨128 * jp.val + j.val, by omega⟩ : ℝ) : EReal))
    (h1 : ∀ p q : Fin 128, w1 (ix3 0 p q) = ((W ⟨2 * jp.val, by omega⟩ p q : ℝ) : EReal))
    (h2 : ∀ p q : Fin 128, w2 (ix3 0 p q) = ((W ⟨2 * jp.val + 1, by omega⟩ p q : ℝ) : EReal))
    (ht : t x = ((B (pos4 (i 0)) (i 1) : ℝ) : EReal))
    (i0 : (i 0 : ℕ) = 0 + (x 0).val) (i1 : (i 1 : ℕ) = 128 * jp.val + (x 1).val) :
    k0_pay24 (F := Ideal) (k0_pay21 a b c d) (k0_pay22 a b c d) w1 w2 t x = blk .f32 (fun r j => spR W f r j + B (pos4 r) j) i := by
  refine (Tile.stile0 a b c d w1 w2 t x).trans ?_
  rw [ht]
  refine (congrArg (· + _) (sp_tile W f 0 jp a w1 w2 x i (fun q j => ha q j) h1 h2 i0 i1)).trans ?_
  exact (EReal.coe_add _ _).symm

theorem dpiece1 (W : Fin 8 → Fin 128 → Fin 128 → ℝ) (f : Fin 512 → Fin 512 → ℝ) (jp : Fin 4) (a b c d : Tile.T128) (w1 w2 : Tile.W128)
    (x : S128x128.Idx) (i : S512x512.Idx)
    (ha : ∀ q j : Fin 128, b (ix2 q j) = ((f ⟨128 + q.val, by omega⟩ ⟨128 * jp.val + j.val, by omega⟩ : ℝ) : EReal))
    (h1 : ∀ p q : Fin 128, w1 (ix3 0 p q) = ((W ⟨2 * jp.val, by omega⟩ p q : ℝ) : EReal))
    (h2 : ∀ p q : Fin 128, w2 (ix3 0 p q) = ((W ⟨2 * jp.val + 1, by omega⟩ p q : ℝ) : EReal))
    (i0 : (i 0 : ℕ) = 128 + (x 0).val) (i1 : (i 1 : ℕ) = 128 * jp.val + (x 1).val) :
    k0_pay63 (F := Ideal) (k0_pay58 a b c d) (k0_pay59 a b c d) (k0_pay60 w1) w2 x = blk .f32 (spR W f) i :=
  (Tile.dtile1 a b c d w1 w2 x).trans (sp_tile W f 1 jp b w1 w2 x i (fun q j => ha q j) h1 h2 i0 i1)

theorem spiece1 (W : Fin 8 → Fin 128 → Fin 128 → ℝ) (f : Fin 512 → Fin 512 → ℝ) (B : Fin 128 → Fin 512 → ℝ) (jp : Fin 4) (a b c d : Tile.T128) (w1 w2 : Tile.W128)
    (t : Tile.T128) (x : S128x128.Idx) (i : S512x512.Idx)
    (ha : ∀ q j : Fin 128, b (ix2 q j) = ((f ⟨128 + q.val, by omega⟩ ⟨128 * jp.val + j.val, by omega⟩ : ℝ) : EReal))
    (h1 : ∀ p q : Fin 128, w1 (ix3 0 p q) = ((W ⟨2 * jp.val, by omega⟩ p q : ℝ) : EReal))
    (h2 : ∀ p q : Fin 128, w2 (ix3 0 p q) = ((W ⟨2 * jp.val + 1, by omega⟩ p q : ℝ) : EReal))
    (ht : t x = ((B (pos4 (i 0)) (i 1) : ℝ) : EReal))
    (i0 : (i 0 : ℕ) = 128 + (x 0).val) (i1 : (i 1 : ℕ) = 128 * jp.val + (x 1).val) :
    k0_pay25 (F := Ideal) (k0_pay21 a b c d) (k0_pay22 a b c d) w1 w2 t x = blk .f32 (fun r j => spR W f r j + B (pos4 r) j) i := by
  refine (Tile.stile1 a b c d w1 w2 t x).trans ?_
  rw [ht]
  refine (congrArg (· + _) (sp_tile W f 1 jp b w1 w2 x i (fun q j => ha q j) h1 h2 i0 i1)).trans ?_
  exact (EReal.coe_add _ _).symm

theorem dpiece2 (W : Fin 8 → Fin 128 → Fin 128 → ℝ) (f : Fin 512 → Fin 512 → ℝ) (jp : Fin 4) (a b c d : Tile.T128) (w1 w2 : Tile.W128)
    (x : S128x128.Idx) (i : S512x512.Idx)
    (ha : ∀ q j : Fin 128, c (ix2 q j) = ((f ⟨256 + q.val, by omega⟩ ⟨128 * jp.val + j.val, by omega⟩ : ℝ) : EReal))
    (h1 : ∀ p q : Fin 128, w1 (ix3 0 p q) = ((W ⟨2 * jp.val, by omega⟩ p q : ℝ) : EReal))
    (h2 : ∀ p q : Fin 128, w2 (ix3 0 p q) = ((W ⟨2 * jp.val + 1, by omega⟩ p q : ℝ) : EReal))
    (i0 : (i 0 : ℕ) = 256 + (x 0).val) (i1 : (i 1 : ℕ) = 128 * jp.val + (x 1).val) :
    k0_pay64 (F := Ideal) (k0_pay58 a b c d) (k0_pay59 a b c d) (k0_pay60 w1) w2 x = blk .f32 (spR W f) i :=
  (Tile.dtile2 a b c d w1 w2 x).trans (sp_tile W f 2 jp c w1 w2 x i (fun q j => ha q j) h1 h2 i0 i1)

theorem spiece2 (W : Fin 8 → Fin 128 → Fin 128 → ℝ) (f : Fin 512 → Fin 512 → ℝ) (B : Fin 128 → Fin 512 → ℝ) (jp : Fin 4) (a b c d : Tile.T128) (w1 w2 : Tile.W128)
    (t : Tile.T128) (x : S128x128.Idx) (i : S512x512.Idx)
    (ha : ∀ q j : Fin 128, c (ix2 q j) = ((f ⟨256 + q.val, by omega⟩ ⟨128 * jp.val + j.val, by omega⟩ : ℝ) : EReal))
    (h1 : ∀ p q : Fin 128, w1 (ix3 0 p q) = ((W ⟨2 * jp.val, by omega⟩ p q : ℝ) : EReal))
    (h2 : ∀ p q : Fin 128, w2 (ix3 0 p q) = ((W ⟨2 * jp.val + 1, by omega⟩ p q : ℝ) : EReal))
    (ht : t x = ((B (pos4 (i 0)) (i 1) : ℝ) : EReal))
    (i0 : (i 0 : ℕ) = 256 + (x 0).val) (i1 : (i 1 : ℕ) = 128 * jp.val + (x 1).val) :
    k0_pay26 (F := Ideal) (k0_pay21 a b c d) (k0_pay22 a b c d) w1 w2 t x = blk .f32 (fun r j => spR W f r j + B (pos4 r) j) i := by
  refine (Tile.stile2 a b c d w1 w2 t x).trans ?_
  rw [ht]
  refine (congrArg (· + _) (sp_tile W f 2 jp c w1 w2 x i (fun q j => ha q j) h1 h2 i0 i1)).trans ?_
  exact (EReal.coe_add _ _).symm

theorem dpiece3 (W : Fin 8 → Fin 128 → Fin 128 → ℝ) (f : Fin 512 → Fin 512 → ℝ) (jp : Fin 4) (a b c d : Tile.T128) (w1 w2 : Tile.W128)
    (x : S128x128.Idx) (i : S512x512.Idx)
    (ha : ∀ q j : Fin 128, d (ix2 q j) = ((f ⟨384 + q.val, by omega⟩ ⟨128 * jp.val + j.val, by omega⟩ : ℝ) : EReal))
    (h1 : ∀ p q : Fin 128, w1 (ix3 0 p q) = ((W ⟨2 * jp.val, by omega⟩ p q : ℝ) : EReal))
    (h2 : ∀ p q : Fin 128, w2 (ix3 0 p q) = ((W ⟨2 * jp.val + 1, by omega⟩ p q : ℝ) : EReal))
    (i0 : (i 0 : ℕ) = 384 + (x 0).val) (i1 : (i 1 : ℕ) = 128 * jp.val + (x 1).val) :
    k0_pay65 (F := Ideal) (k0_pay58 a b c d) (k0_pay59 a b c d) (k0_pay60 w1) w2 x = blk .f32 (spR W f) i :=
  (Tile.dtile3 a b c d w1 w2 x).trans (sp_tile W f 3 jp d w1 w2 x i (fun q j => ha q j) h1 h2 i0 i1)

theorem spiece3 (W : Fin 8 → Fin 128 → Fin 128 → ℝ) (f : Fin 512 → Fin 512 → ℝ) (B : Fin 128 → Fin 512 → ℝ) (jp : Fin 4) (a b c d : Tile.T128) (w1 w2 : Tile.W128)
    (t : Tile.T128) (x : S128x128.Idx) (i : S512x512.Idx)
    (ha : ∀ q j : Fin 128, d (ix2 q j) = ((f ⟨384 + q.val, by omega⟩ ⟨128 * jp.val + j.val, by omega⟩ : ℝ) : EReal))
    (h1 : ∀ p q : Fin 128, w1 (ix3 0 p q) = ((W ⟨2 * jp.val, by omega⟩ p q : ℝ) : EReal))
    (h2 : ∀ p q : Fin 128, w2 (ix3 0 p q) = ((W ⟨2 * jp.val + 1, by omega⟩ p q : ℝ) : EReal))
    (ht : t x = ((B (pos4 (i 0)) (i 1) : ℝ) : EReal))
    (i0 : (i 0 : ℕ) = 384 + (x 0).val) (i1 : (i 1 : ℕ) = 128 * jp.val + (x 1).val) :
    k0_pay28 (F := Ideal) (k0_pay27 (k0_pay21 a b c d) (k0_pay22 a b c d) w1 w2 t) x = blk .f32 (fun r j => spR W f r j + B (pos4 r) j) i := by
  rw [p28]
  refine (Tile.stile3 a b c d w1 w2 t x).trans ?_
  rw [ht]
  refine (congrArg (· + _) (sp_tile W f 3 jp d w1 w2 x i (fun q j => ha q j) h1 h2 i0 i1)).trans ?_
  exact (EReal.coe_add _ _).symm

/-- What one point of the grid reads. -/
structure Pt where
  dya : Fin 512 → Fin 512 → ℝ
  dyb : Fin 512 → Fin 512 → ℝ
  zu : Fin 512 → Fin 512 → ℝ
  zv : Fin 512 → Fin 512 → ℝ
  gc : Fin 512 → Fin 512 → ℝ
  W : Fin 8 → Fin 128 → Fin 128 → ℝ
  WT : Fin 8 → Fin 128 → Fin 128 → ℝ
  B : Fin 128 → Fin 512 → ℝ
  vg : Fin 512 → ℝ
  vb : Fin 512 → ℝ
  cg : Fin 512 → ℝ
  cn : Fin 512 → ℝ

namespace Pt
variable (p : Pt)
def vl (r j : Fin 512) : ℝ := Mix.nrm (gle p.zv r) j * p.vg j + p.vb j
def sv (r j : Fin 512) : ℝ := spR p.W p.vl r j + p.B (pos4 r) j
def dsv (r j : Fin 512) : ℝ := p.dya r j * gle p.zu r j
def dvl : Fin 512 → Fin 512 → ℝ := spR p.WT p.dsv
end Pt

/-- The blocks point `t` reads are those reals. -/
structure Reads (m : (ℓ : Loc nD τ sig) → Buf (Elt Ideal) ℓ) (c : Dev nD) (t : Fin cfg0.N) (p : Pt) : Prop where
  x0 : iblk m c 0 t = blk .f32 p.dya
  x1 : iblk m c 1 t = blk .f32 p.dyb
  x2 : iblk m c 2 t = blk .f32 p.zu
  x3 : iblk m c 3 t = blk .f32 p.zv
  x4 : iblk m c 4 t = blk .f32 p.gc
  x5 : iblk m c 5 t = wblk p.W
  x6 : iblk m c 6 t = wblk p.WT
  x7 : iblk m c 7 t = bblk p.B
  x8 : iblk m c 8 t = rowv p.vg
  x9 : iblk m c 9 t = rowv p.vb
  x10 : iblk m c 10 t = rowv p.cg
  x11 : iblk m c 11 t = rowv p.cn

end Blk

end
-- ==== Proof.KerIn.lean ====
/- The blocks a point of the grid reads, as real blocks of the real arguments. -/
module

public import proofs.«01_k».proof.Proof.KerSp
public import Idealize.ShloMosaic.Lib.Pipeline.ValueKit

@[expose] public section

set_option maxRecDepth 16384

noncomputable section

namespace Blk

open Idealize.ShloMosaic Idealize.ShloMosaic.TcCoe Cert.KernelIdeal Cert.KernelIdeal.Gen

/-- The launch's arguments, real. -/
structure Ins (m : (ℓ : Loc nD τ sig) → Buf (Elt Ideal) ℓ) (c : Dev nD) (a : Mix.Args) : Prop where
  h0 : ∀ i : S8192x1024.Idx, (m ((c : Thread nD τ).loc main_arg0) : FVec Ideal S8192x1024 .f32) i = ((a.D (i 0) (i 1) : ℝ) : EReal)
  h1 : ∀ i : S8192x2048.Idx, (m ((c : Thread nD τ).loc main_arg1) : FVec Ideal S8192x2048 .f32) i = ((a.Z (i 0) (i 1) : ℝ) : EReal)
  h2 : ∀ i : S8192x512.Idx, (m ((c : Thread nD τ).loc main_arg2) : FVec Ideal S8192x512 .f32) i = ((a.C (i 0) (i 1) : ℝ) : EReal)
  h3 : ∀ i : S8x128x128.Idx, (m ((c : Thread nD τ).loc main_arg3) : FVec Ideal S8x128x128 .f32) i = ((a.W (i 0) (i 1) (i 2) : ℝ) : EReal)
  h4 : ∀ i : S8x128.Idx, (m ((c : Thread nD τ).loc main_arg4) : FVec Ideal S8x128 .f32) i = ((a.B (i 0) (i 1) : ℝ) : EReal)
  h5 : ∀ i : S512.Idx, (m ((c : Thread nD τ).loc main_arg5) : FVec Ideal S512 .f32) i = ((a.vg (i 0) : ℝ) : EReal)
  h6 : ∀ i : S512.Idx, (m ((c : Thread nD τ).loc main_arg6) : FVec Ideal S512 .f32) i = ((a.vb (i 0) : ℝ) : EReal)
  h7 : ∀ i : S512.Idx, (m ((c : Thread nD τ).loc main_arg7) : FVec Ideal S512 .f32) i = ((a.cb (i 0) : ℝ) : EReal)
  h8 : ∀ i : S512.Idx, (m ((c : Thread nD τ).loc main_arg8) : FVec Ideal S512 .f32) i = ((a.cg (i 0) : ℝ) : EReal)
  h9 : ∀ i : S512.Idx, (m ((c : Thread nD τ).loc main_arg9) : FVec Ideal S512 .f32) i = ((a.cn (i 0) : ℝ) : EReal)

theorem idx : ∀ t : Fin cfg0.N, win0_0.index t = ![t.val, 0] ∧ win0_1.index t = ![t.val, 1] ∧ win0_2.index t = ![t.val, 0] ∧ win0_3.index t = ![t.val, 1]
    ∧ win0_4.index t = ![t.val, 0] ∧ win0_5.index t = ![0, 0, 0] ∧ win0_6.index t = ![0, 0, 0] ∧ win0_7.index t = ![0, 0] ∧ win0_8.index t = ![0, 0]
    ∧ win0_9.index t = ![0, 0] ∧ win0_10.index t = ![0, 0] ∧ win0_11.index t = ![0, 0] ∧ win0_12.index t = ![t.val, 0] ∧ win0_13.index t = ![t.val, 0] ∧ t.val < 16 :=
  (by decide +kernel : ∀ t : Fin grid0.N, _)

/-- Row `r` of point `t`. -/
def rg (t : Fin cfg0.N) (r : Fin 512) : Fin 8192 := ⟨512 * t.val + r.val, by have := (idx t).2.2.2.2.2.2.2.2.2.2.2.2.2.2; omega⟩

def pt (a : Mix.Args) (t : Fin cfg0.N) : Pt where
  dya r j := a.dya (rg t r) j
  dyb r j := a.dyb (rg t r) j
  zu r j := a.zu (rg t r) j
  zv r j := a.zv (rg t r) j
  gc r j := a.G (rg t r) j
  W := a.W
  WT g p q := a.W g q p
  B p j := a.B (Mix.grp j) p
  vg := a.vg
  vb := a.vb
  cg := a.cg
  cn := a.cn

variable {m : (ℓ : Loc nD τ sig) → Buf (Elt Ideal) ℓ} {c : Dev nD} {a : Mix.Args}

theorem in0 (I : Ins m c a) (t : Fin cfg0.N) : iblk m c 0 t = blk .f32 (pt a t).dya := by
  funext i
  refine Eq.trans ?_ (I.h0 (ix2 (rg t (i 0)) ⟨(i 1).val, by have h : (i 1).val < 512 := (i 1).isLt; omega⟩))
  blk_ext [iblk, V, rg, idx t]
theorem in1 (I : Ins m c a) (t : Fin cfg0.N) : iblk m c 1 t = blk .f32 (pt a t).dyb := by
  funext i
  refine Eq.trans ?_ (I.h0 (ix2 (rg t (i 0)) ⟨512 + (i 1).val, by have h : (i 1).val < 512 := (i 1).isLt; omega⟩))
  blk_ext [iblk, V, rg, idx t]
theorem in2 (I : Ins m c a) (t : Fin cfg0.N) : iblk m c 2 t = blk .f32 (pt a t).zu := by
  funext i
  refine Eq.trans ?_ (I.h1 (ix2 (rg t (i 0)) ⟨(i 1).val, by have h : (i 1).val < 512 := (i 1).isLt; omega⟩))
  blk_ext [iblk, V, rg, idx t]
theorem in3 (I : Ins m c a) (t : Fin cfg0.N) : iblk m c 3 t = blk .f32 (pt a t).zv := by
  funext i
  refine Eq.trans ?_ (I.h1 (ix2 (rg t (i 0)) ⟨512 + (i 1).val, by have h : (i 1).val < 512 := (i 1).isLt; omega⟩))
  blk_ext [iblk, V, rg, idx t]

theorem v12 (I : Ins m c a) (i : S8192x512.Idx) : (V m c main_v12 : FVec Ideal S8192x512 .f32) i = ((a.G (i 0) (i 1) : ℝ) : EReal) := by
  entry_read
  pointwise
  have e : ∀ x y : EReal, x = ((a.C (i 0) (i 1) : ℝ) : EReal) → y = ((a.cb (i 1) : ℝ) : EReal) → x + y = ((a.G (i 0) (i 1) : ℝ) : EReal) := fun x y hx hy => by
    rw [hx, hy, ← EReal.coe_add]; rfl
  exact e _ _ (I.h2 i) (I.h7 (ix1 (i 1)))
theorem v0 (I : Ins m c a) (i : S8x128x128.Idx) : (V m c main_v0 : FVec Ideal S8x128x128 .bf16) i = ((a.W (i 0) (i 1) (i 2) : ℝ) : EReal) := by
  entry_read
  pointwise
  exact I.h3 i
theorem v2 (I : Ins m c a) (i : S8x128x128.Idx) : (V m c main_v2 : FVec Ideal S8x128x128 .bf16) i = ((a.W (i 0) (i 2) (i 1) : ℝ) : EReal) := by
  entry_read
  pointwise
  exact I.h3 (ix3 (i 0) (i 2) (i 1))
theorem v5 (I : Ins m c a) (i : S128x512.Idx) : (V m c main_v5 : FVec Ideal S128x512 .f32) i = ((a.B (Mix.grp (i 1)) (i 0) : ℝ) : EReal) := by
  entry_read
  pointwise
  exact I.h4 (ix2 (Mix.grp (i 1)) (i 0))
theorem v6 (I : Ins m c a) (i : S1x512.Idx) : (V m c main_v6 : FVec Ideal S1x512 .f32) i = ((a.vg (i 1) : ℝ) : EReal) := by
  entry_read
  pointwise
  exact I.h5 (ix1 (i 1))

theorem in4 (I : Ins m c a) (t : Fin cfg0.N) : iblk m c 4 t = blk .f32 (pt a t).gc := by
  funext i
  refine Eq.trans ?_ (v12 I (ix2 (rg t (i 0)) (i 1)))
  blk_ext [iblk, rg, idx t]
theorem in5 (I : Ins m c a) (t : Fin cfg0.N) : iblk m c 5 t = wblk (pt a t).W := by
  funext i
  refine Eq.trans ?_ (v0 I i)
  blk_ext [iblk, idx t]
theorem in6 (I : Ins m c a) (t : Fin cfg0.N) : iblk m c 6 t = wblk (pt a t).WT := by
  funext i
  refine Eq.trans ?_ (v2 I i)
  blk_ext [iblk, idx t]
theorem in7 (I : Ins m c a) (t : Fin cfg0.N) : iblk m c 7 t = bblk (pt a t).B := by
  funext i
  refine Eq.trans ?_ (v5 I i)
  blk_ext [iblk, idx t]
theorem in8 (I : Ins m c a) (t : Fin cfg0.N) : iblk m c 8 t = rowv (pt a t).vg := by
  funext i
  refine Eq.trans ?_ (v6 I i)
  blk_ext [iblk, idx t]

theorem v7 (I : Ins m c a) (i : S1x512.Idx) : (V m c main_v7 : FVec Ideal S1x512 .f32) i = ((a.vb (i 1) : ℝ) : EReal) := by
  entry_read
  pointwise
  exact I.h6 (ix1 (i 1))
theorem v8 (I : Ins m c a) (i : S1x512.Idx) : (V m c main_v8 : FVec Ideal S1x512 .f32) i = ((a.cg (i 1) : ℝ) : EReal) := by
  entry_read
  pointwise
  exact I.h8 (ix1 (i 1))
theorem v9 (I : Ins m c a) (i : S1x512.Idx) : (V m c main_v9 : FVec Ideal S1x512 .f32) i = ((a.cn (i 1) : ℝ) : EReal) := by
  entry_read
  pointwise
  exact I.h9 (ix1 (i 1))
theorem in9 (I : Ins m c a) (t : Fin cfg0.N) : iblk m c 9 t = rowv (pt a t).vb := by
  funext i
  refine Eq.trans ?_ (v7 I i)
  blk_ext [iblk, idx t]
theorem in10 (I : Ins m c a) (t : Fin cfg0.N) : iblk m c 10 t = rowv (pt a t).cg := by
  funext i
  refine Eq.trans ?_ (v8 I i)
  blk_ext [iblk, idx t]
theorem in11 (I : Ins m c a) (t : Fin cfg0.N) : iblk m c 11 t = rowv (pt a t).cn := by
  funext i
  refine Eq.trans ?_ (v9 I i)
  blk_ext [iblk, idx t]

theorem reads (I : Ins m c a) (t : Fin cfg0.N) : Reads m c t (pt a t) :=
  ⟨in0 I t, in1 I t, in2 I t, in3 I t, in4 I t, in5 I t, in6 I t, in7 I t, in8 I t, in9 I t, in10 I t, in11 I t⟩

end Blk
end
-- ==== Proof.KerOut.lean ====
/- What one point of the grid leaves in the first result. -/
module

public import proofs.«01_k».proof.Proof.KerSp

@[expose] public section

set_option maxRecDepth 16384

noncomputable section

namespace Blk

open Idealize.ShloMosaic Cert.KernelIdeal Cert.KernelIdeal.Gen

/-- Two blocks side by side. -/
def halves (f g : Fin 512 → Fin 512 → ℝ) (r : Fin 512) (c : Fin 1024) : ℝ :=
  if h : c.val < 512 then f r ⟨c.val, h⟩ else g r ⟨c.val - 512, by omega⟩

/-- The gradient of the layer's first two quarters at one point. -/
def Pt.dz (p : Pt) : Fin 512 → Fin 1024 → ℝ :=
  halves (fun r j => p.dya r j * p.sv r j * Mix.gd (p.zu r j)) (fun r j => Mix.lnb (p.dvl r) (gle p.zv r) p.vg j * Mix.gd (p.zv r j))

theorem fillV {m : (ℓ : Loc nD τ sig) → Buf (Elt Ideal) ℓ} {c : Dev nD} {t : Fin cfg0.N} {p : Pt} (H : Reads m c t p) :
    k0_pay10 (F := Ideal) (k0_pay4 (iblk m c 8 t)) (k0_pay5 (iblk m c 9 t)) (k0_pay6 (iblk m c 3 t)) (k0_pay7 (iblk m c 3 t)) = blk .f32 p.vl := by
  rw [H.x3, H.x8, H.x9, p4, p5, p6, p7]
  exact p10 (gle p.zv) p.vg p.vb

theorem fillD {m : (ℓ : Loc nD τ sig) → Buf (Elt Ideal) ℓ} {c : Dev nD} {t : Fin cfg0.N} {p : Pt} (H : Reads m c t p) :
    k0_pay48 (F := Ideal) (k0_pay3 (iblk m c 2 t)) (iblk m c 0 t) = blk .f32 p.dsv := by
  rw [H.x0, H.x2, p3]
  exact p48 p.dya (gle p.zu)

theorem halves_lo (f g : Fin 512 → Fin 512 → ℝ) (r r' : Fin 512) (c : Fin 1024) (j : Fin 512) (h0 : r.val = r'.val) (h1 : c.val = j.val) : f r' j = halves f g r c := by
  obtain rfl : r = r' := Fin.ext h0
  have h : c.val < 512 := by omega
  unfold halves
  rw [dif_pos h]
  exact congrArg _ (Fin.ext h1.symm)

theorem halves_hi (f g : Fin 512 → Fin 512 → ℝ) (r r' : Fin 512) (c : Fin 1024) (j : Fin 512) (h0 : r.val = r'.val) (h1 : c.val = 512 + j.val) : g r' j = halves f g r c := by
  obtain rfl : r = r' := Fin.ext h0
  have h : ¬ c.val < 512 := by omega
  unfold halves
  rw [dif_neg h]
  exact congrArg _ (Fin.ext (by show j.val = c.val - 512; omega))

theorem canon_halves (f g : Fin 512 → Fin 512 → ℝ) (inb1 : ∀ a, (![0, 512] : Fin 2 → ℕ) a + (![512, 512] : Fin 2 → ℕ) a ≤ S512x1024.size a)
    (inb0 : ∀ a, (![0, 0] : Fin 2 → ℕ) a + (![512, 512] : Fin 2 → ℕ) a ≤ S512x1024.size a) (j : S512x1024.Idx) :
    View.canon (Val := Elt Ideal) (s := S512x1024) (e := .bf16) [⟨Rect.unit ![0, 512] ![512, 512] inb1, blk .bf16 g⟩, ⟨Rect.unit ![0, 0] ![512, 512] inb0, blk .bf16 f⟩] j
      = ((halves f g (j 0) (j 1) : ℝ) : EReal) := by
  have h := View.canon_append_of_piecesOf (Val := Elt Ideal) (s := S512x1024) (e := .bf16)
    (fun j => ((halves f g (j 0) (j 1) : ℝ) : EReal)) []
    [⟨Rect.unit ![0, 512] ![512, 512] inb1, blk .bf16 g⟩, ⟨Rect.unit ![0, 0] ![512, 512] inb0, blk .bf16 f⟩]
    ⟨fun x => congrArg Real.toEReal (halves_hi f g _ _ _ _ (by show 0 + 1 * (x 0).val = (x 0).val; omega) (by show 512 + 1 * (x 1).val = 512 + (x 1).val; omega)),
     fun x => congrArg Real.toEReal (halves_lo f g _ _ _ _ (by show 0 + 1 * (x 0).val = (x 0).val; omega) (by show 0 + 1 * (x 1).val = (x 1).val; omega)),
     trivial⟩ j (View.cover_of_tiledL (s := S512x1024) _ S512x512.size (by sl_kernel_rfl) j)
  rw [List.append_nil] at h
  exact h

theorem dz_halves (z0 z1 d0 d1 : Fin 512 → Fin 512 → ℝ) (inb1 : ∀ a, (![0, 512] : Fin 2 → ℕ) a + (![512, 512] : Fin 2 → ℕ) a ≤ S512x1024.size a)
    (inb0 : ∀ a, (![0, 0] : Fin 2 → ℕ) a + (![512, 512] : Fin 2 → ℕ) a ≤ S512x1024.size a) (j : S512x1024.Idx) :
    View.canon (Val := Elt Ideal) (s := S512x1024) (e := .bf16) [⟨Rect.unit ![0, 512] ![512, 512] inb1, k0_pay153 (F := Ideal) (blk .f32 z1) (blk .f32 d1) k0_pay152⟩,
      ⟨Rect.unit ![0, 0] ![512, 512] inb0, k0_pay46 (F := Ideal) (blk .f32 z0) (blk .f32 d0) (k0_pay45 (blk .f32 z0)) (Scalar.ofBits .f32 0x3F800000#32)⟩] j
      = ((halves (fun r j => d0 r j * Mix.gd (z0 r j)) (fun r j => d1 r j * Mix.gd (z1 r j)) (j 0) (j 1) : ℝ) : EReal) := by
  rw [p153, p45, p46]
  exact canon_halves _ _ _ _ _

end Blk

end
-- ==== Proof.KerList.lean ====
/- The two spatial products as the sixteen tiles they are stored in. -/
module

public import proofs.«01_k».proof.Proof.KerOut

@[expose] public section

set_option maxRecDepth 16384

noncomputable section

namespace Blk

open Idealize.ShloMosaic Cert.KernelIdeal Cert.KernelIdeal.Gen

abbrev Sq := S512x512.Idx → Elt Ideal .f32
abbrev Wt := S8x128x128.Idx → Elt Ideal .bf16
abbrev Bs := S128x512.Idx → Elt Ideal .f32

def tl0 (w : Sq) (o0 o1 : ℕ) (h : ∀ a, (![o0, o1] : Fin 2 → ℕ) a + (![128, 128] : Fin 2 → ℕ) a ≤ S512x512.size a) : Tile.T128 :=
  (View.whole cc0_scratch0).readCov [⟨Rect.unit (s := S512x512) ![0, 0] ![512, 512] inb_S512x512_S512x512_0_0, w⟩] (Rect.unit (s := S512x512) ![o0, o1] ![128, 128] h).toLoadRect
def tl2 (w : Sq) (o0 o1 : ℕ) (h : ∀ a, (![o0, o1] : Fin 2 → ℕ) a + (![128, 128] : Fin 2 → ℕ) a ≤ S512x512.size a) : Tile.T128 :=
  (View.whole cc0_scratch2).readCov [⟨Rect.unit (s := S512x512) ![0, 0] ![512, 512] inb_S512x512_S512x512_0_0, w⟩] (Rect.unit (s := S512x512) ![o0, o1] ![128, 128] h).toLoadRect
def lw (X : Wt) (o : ℕ) (h : ∀ a, (![o, 0, 0] : Fin 3 → ℕ) a + (![1, 128, 128] : Fin 3 → ℕ) a ≤ S8x128x128.size a) : Tile.W128 :=
  View.ld X (Rect.unit (s := S8x128x128) ![o, 0, 0] ![1, 128, 128] h)
def lb (X : Bs) (o : ℕ) (h : ∀ a, (![0, o] : Fin 2 → ℕ) a + (![128, 128] : Fin 2 → ℕ) a ≤ S128x512.size a) : Tile.T128 :=
  View.ld X (Rect.unit (s := S128x512) ![0, o] ![128, 128] h)

def ldt (w : Sq) (o0 o1 : ℕ) (h : ∀ a, (![o0, o1] : Fin 2 → ℕ) a + (![128, 128] : Fin 2 → ℕ) a ≤ S512x512.size a) : Tile.T128 :=
  View.ld w (Rect.unit (s := S512x512) ![o0, o1] ![128, 128] h)
theorem ldt_real (f : Fin 512 → Fin 512 → ℝ) {o0 o1 : ℕ} (h : ∀ a, (![o0, o1] : Fin 2 → ℕ) a + (![128, 128] : Fin 2 → ℕ) a ≤ S512x512.size a) (b0 b1 : ℕ)
    (h0 : o0 = b0) (h1 : o1 = b1) (q j : Fin 128) (l0 : b0 + q.val < 512) (l1 : b1 + j.val < 512) :
    ldt (blk .f32 f) o0 o1 h (ix2 q j) = ((f ⟨b0 + q.val, l0⟩ ⟨b1 + j.val, l1⟩ : ℝ) : EReal) :=
  ld_tile f h b0 b1 h0 h1 q j l0 l1
theorem tl0_real (f : Fin 512 → Fin 512 → ℝ) {o0 o1 : ℕ} (h : ∀ a, (![o0, o1] : Fin 2 → ℕ) a + (![128, 128] : Fin 2 → ℕ) a ≤ S512x512.size a) (b0 b1 : ℕ)
    (h0 : o0 = b0) (h1 : o1 = b1) (q j : Fin 128) (l0 : b0 + q.val < 512) (l1 : b1 + j.val < 512) :
    tl0 (blk .f32 f) o0 o1 h (ix2 q j) = ((f ⟨b0 + q.val, l0⟩ ⟨b1 + j.val, l1⟩ : ℝ) : EReal) :=
  fill_tile _ _ f _ (by decide) h b0 b1 h0 h1 rfl q j l0 l1
theorem tl2_real (f : Fin 512 → Fin 512 → ℝ) {o0 o1 : ℕ} (h : ∀ a, (![o0, o1] : Fin 2 → ℕ) a + (![128, 128] : Fin 2 → ℕ) a ≤ S512x512.size a) (b0 b1 : ℕ)
    (h0 : o0 = b0) (h1 : o1 = b1) (q j : Fin 128) (l0 : b0 + q.val < 512) (l1 : b1 + j.val < 512) :
    tl2 (blk .f32 f) o0 o1 h (ix2 q j) = ((f ⟨b0 + q.val, l0⟩ ⟨b1 + j.val, l1⟩ : ℝ) : EReal) :=
  fill_tile _ _ f _ (by decide) h b0 b1 h0 h1 rfl q j l0 l1

def dL (w w0 : Sq) (X : Wt) : List (View.Piece (Elt Ideal) S512x512 .f32) :=
  [⟨Rect.unit (s := S512x512) ![384, 384] ![128, 128] (by decide), k0_pay65 (F := Ideal) (k0_pay58 (tl2 w 0 384 (by decide)) (tl2 w 128 384 (by decide)) (tl2 w 256 384 (by decide)) (tl2 w 384 384 (by decide))) (k0_pay59 (tl2 w 0 384 (by decide)) (tl2 w 128 384 (by decide)) (tl2 w 256 384 (by decide)) (tl2 w 384 384 (by decide))) (k0_pay60 (lw X 6 (by decide))) (lw X 7 (by decide))⟩,
   ⟨Rect.unit (s := S512x512) ![256, 384] ![128, 128] (by decide), k0_pay64 (F := Ideal) (k0_pay58 (tl2 w 0 384 (by decide)) (tl2 w 128 384 (by decide)) (tl2 w 256 384 (by decide)) (tl2 w 384 384 (by decide))) (k0_pay59 (tl2 w 0 384 (by decide)) (tl2 w 128 384 (by decide)) (tl2 w 256 384 (by decide)) (tl2 w 384 384 (by decide))) (k0_pay60 (lw X 6 (by decide))) (lw X 7 (by decide))⟩,
   ⟨Rect.unit (s := S512x512) ![128, 384] ![128, 128] (by decide), k0_pay63 (F := Ideal) (k0_pay58 (tl2 w 0 384 (by decide)) (tl2 w 128 384 (by decide)) (tl2 w 256 384 (by decide)) (tl2 w 384 384 (by decide))) (k0_pay59 (tl2 w 0 384 (by decide)) (tl2 w 128 384 (by decide)) (tl2 w 256 384 (by decide)) (tl2 w 384 384 (by decide))) (k0_pay60 (lw X 6 (by decide))) (lw X 7 (by decide))⟩,
   ⟨Rect.unit (s := S512x512) ![0, 384] ![128, 128] (by decide), k0_pay62 (F := Ideal) (k0_pay58 (tl2 w 0 384 (by decide)) (tl2 w 128 384 (by decide)) (tl2 w 256 384 (by decide)) (tl2 w 384 384 (by decide))) (k0_pay59 (tl2 w 0 384 (by decide)) (tl2 w 128 384 (by decide)) (tl2 w 256 384 (by decide)) (tl2 w 384 384 (by decide))) (k0_pay60 (lw X 6 (by decide))) (lw X 7 (by decide))⟩,
   ⟨Rect.unit (s := S512x512) ![384, 256] ![128, 128] (by decide), k0_pay65 (F := Ideal) (k0_pay58 (tl2 w 0 256 (by decide)) (tl2 w 128 256 (by decide)) (tl2 w 256 256 (by decide)) (tl2 w 384 256 (by decide))) (k0_pay59 (tl2 w 0 256 (by decide)) (tl2 w 128 256 (by decide)) (tl2 w 256 256 (by decide)) (tl2 w 384 256 (by decide))) (k0_pay60 (lw X 4 (by decide))) (lw X 5 (by decide))⟩,
   ⟨Rect.unit (s := S512x512) ![256, 256] ![128, 128] (by decide), k0_pay64 (F := Ideal) (k0_pay58 (tl2 w 0 256 (by decide)) (tl2 w 128 256 (by decide)) (tl2 w 256 256 (by decide)) (tl2 w 384 256 (by decide))) (k0_pay59 (tl2 w 0 256 (by decide)) (tl2 w 128 256 (by decide)) (tl2 w 256 256 (by decide)) (tl2 w 384 256 (by decide))) (k0_pay60 (lw X 4 (by decide))) (lw X 5 (by decide))⟩,
   ⟨Rect.unit (s := S512x512) ![128, 256] ![128, 128] (by decide), k0_pay63 (F := Ideal) (k0_pay58 (tl2 w 0 256 (by decide)) (tl2 w 128 256 (by decide)) (tl2 w 256 256 (by decide)) (tl2 w 384 256 (by decide))) (k0_pay59 (tl2 w 0 256 (by decide)) (tl2 w 128 256 (by decide)) (tl2 w 256 256 (by decide)) (tl2 w 384 256 (by decide))) (k0_pay60 (lw X 4 (by decide))) (lw X 5 (by decide))⟩,
   ⟨Rect.unit (s := S512x512) ![0, 256] ![128, 128] (by decide), k0_pay62 (F := Ideal) (k0_pay58 (tl2 w 0 256 (by decide)) (tl2 w 128 256 (by decide)) (tl2 w 256 256 (by decide)) (tl2 w 384 256 (by decide))) (k0_pay59 (tl2 w 0 256 (by decide)) (tl2 w 128 256 (by decide)) (tl2 w 256 256 (by decide)) (tl2 w 384 256 (by decide))) (k0_pay60 (lw X 4 (by decide))) (lw X 5 (by decide))⟩,
   ⟨Rect.unit (s := S512x512) ![384, 128] ![128, 128] (by decide), k0_pay65 (F := Ideal) (k0_pay58 (tl2 w 0 128 (by decide)) (tl2 w 128 128 (by decide)) (tl2 w 256 128 (by decide)) (tl2 w 384 128 (by decide))) (k0_pay59 (tl2 w 0 128 (by decide)) (tl2 w 128 128 (by decide)) (tl2 w 256 128 (by decide)) (tl2 w 384 128 (by decide))) (k0_pay60 (lw X 2 (by decide))) (lw X 3 (by decide))⟩,
   ⟨Rect.unit (s := S512x512) ![256, 128] ![128, 128] (by decide), k0_pay64 (F := Ideal) (k0_pay58 (tl2 w 0 128 (by decide)) (tl2 w 128 128 (by decide)) (tl2 w 256 128 (by decide)) (tl2 w 384 128 (by decide))) (k0_pay59 (tl2 w 0 128 (by decide)) (tl2 w 128 128 (by decide)) (tl2 w 256 128 (by decide)) (tl2 w 384 128 (by decide))) (k0_pay60 (lw X 2 (by decide))) (lw X 3 (by decide))⟩,
   ⟨Rect.unit (s := S512x512) ![128, 128] ![128, 128] (by decide), k0_pay63 (F := Ideal) (k0_pay58 (tl2 w 0 128 (by decide)) (tl2 w 128 128 (by decide)) (tl2 w 256 128 (by decide)) (tl2 w 384 128 (by decide))) (k0_pay59 (tl2 w 0 128 (by decide)) (tl2 w 128 128 (by decide)) (tl2 w 256 128 (by decide)) (tl2 w 384 128 (by decide))) (k0_pay60 (lw X 2 (by decide))) (lw X 3 (by decide))⟩,
   ⟨Rect.unit (s := S512x512) ![0, 128] ![128, 128] (by decide), k0_pay62 (F := Ideal) (k0_pay58 (tl2 w 0 128 (by decide)) (tl2 w 128 128 (by decide)) (tl2 w 256 128 (by decide)) (tl2 w 384 128 (by decide))) (k0_pay59 (tl2 w 0 128 (by decide)) (tl2 w 128 128 (by decide)) (tl2 w 256 128 (by decide)) (tl2 w 384 128 (by decide))) (k0_pay60 (lw X 2 (by decide))) (lw X 3 (by decide))⟩,
   ⟨Rect.unit (s := S512x512) ![384, 0] ![128, 128] (by decide), k0_pay65 (F := Ideal) (k0_pay58 (ldt w0 0 0 (by decide)) (ldt w0 128 0 (by decide)) (ldt w0 256 0 (by decide)) (ldt w0 384 0 (by decide))) (k0_pay59 (ldt w0 0 0 (by decide)) (ldt w0 128 0 (by decide)) (ldt w0 256 0 (by decide)) (ldt w0 384 0 (by decide))) (k0_pay60 (lw X 0 (by decide))) (lw X 1 (by decide))⟩,
   ⟨Rect.unit (s := S512x512) ![256, 0] ![128, 128] (by decide), k0_pay64 (F := Ideal) (k0_pay58 (ldt w0 0 0 (by decide)) (ldt w0 128 0 (by decide)) (ldt w0 256 0 (by decide)) (ldt w0 384 0 (by decide))) (k0_pay59 (ldt w0 0 0 (by decide)) (ldt w0 128 0 (by decide)) (ldt w0 256 0 (by decide)) (ldt w0 384 0 (by decide))) (k0_pay60 (lw X 0 (by decide))) (lw X 1 (by decide))⟩,
   ⟨Rect.unit (s := S512x512) ![128, 0] ![128, 128] (by decide), k0_pay63 (F := Ideal) (k0_pay58 (ldt w0 0 0 (by decide)) (ldt w0 128 0 (by decide)) (ldt w0 256 0 (by decide)) (ldt w0 384 0 (by decide))) (k0_pay59 (ldt w0 0 0 (by decide)) (ldt w0 128 0 (by decide)) (ldt w0 256 0 (by decide)) (ldt w0 384 0 (by decide))) (k0_pay60 (lw X 0 (by decide))) (lw X 1 (by decide))⟩,
   ⟨Rect.unit (s := S512x512) ![0, 0] ![128, 128] (by decide), k0_pay62 (F := Ideal) (k0_pay58 (ldt w0 0 0 (by decide)) (ldt w0 128 0 (by decide)) (ldt w0 256 0 (by decide)) (ldt w0 384 0 (by decide))) (k0_pay59 (ldt w0 0 0 (by decide)) (ldt w0 128 0 (by decide)) (ldt w0 256 0 (by decide)) (ldt w0 384 0 (by decide))) (k0_pay60 (lw X 0 (by decide))) (lw X 1 (by decide))⟩]

theorem dL_tiles (W : Fin 8 → Fin 128 → Fin 128 → ℝ) (f : Fin 512 → Fin 512 → ℝ) : View.PiecesOf (blk .f32 (spR W f)) (dL (blk .f32 f) (blk .f32 f) (wblk W)) := by
  unfold dL
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact dpiece3 W f 3 _ _ _ _ _ _ x _ (fun q j => tl2_real f _ _ _ rfl rfl q j _ _) (fun p' q => ld_w W _ _ rfl (by decide) p' q) (fun p' q => ld_w W _ _ rfl (by decide) p' q) (by show 384 + 1 * (x 0).val = 384 + (x 0).val; omega) (by show 384 + 1 * (x 1).val = 384 + (x 1).val; omega)
  · exact dpiece2 W f 3 _ _ _ _ _ _ x _ (fun q j => tl2_real f _ _ _ rfl rfl q j _ _) (fun p' q => ld_w W _ _ rfl (by decide) p' q) (fun p' q => ld_w W _ _ rfl (by decide) p' q) (by show 256 + 1 * (x 0).val = 256 + (x 0).val; omega) (by show 384 + 1 * (x 1).val = 384 + (x 1).val; omega)
  · exact dpiece1 W f 3 _ _ _ _ _ _ x _ (fun q j => tl2_real f _ _ _ rfl rfl q j _ _) (fun p' q => ld_w W _ _ rfl (by decide) p' q) (fun p' q => ld_w W _ _ rfl (by decide) p' q) (by show 128 + 1 * (x 0).val = 128 + (x 0).val; omega) (by show 384 + 1 * (x 1).val = 384 + (x 1).val; omega)
  · exact dpiece0 W f 3 _ _ _ _ _ _ x _ (fun q j => tl2_real f _ _ _ rfl rfl q j _ _) (fun p' q => ld_w W _ _ rfl (by decide) p' q) (fun p' q => ld_w W _ _ rfl (by decide) p' q) (by show 0 + 1 * (x 0).val = 0 + (x 0).val; omega) (by show 384 + 1 * (x 1).val = 384 + (x 1).val; omega)
  · exact dpiece3 W f 2 _ _ _ _ _ _ x _ (fun q j => tl2_real f _ _ _ rfl rfl q j _ _) (fun p' q => ld_w W _ _ rfl (by decide) p' q) (fun p' q => ld_w W _ _ rfl (by decide) p' q) (by show 384 + 1 * (x 0).val = 384 + (x 0).val; omega) (by show 256 + 1 * (x 1).val = 256 + (x 1).val; omega)
  · exact dpiece2 W f 2 _ _ _ _ _ _ x _ (fun q j => tl2_real f _ _ _ rfl rfl q j _ _) (fun p' q => ld_w W _ _ rfl (by decide) p' q) (fun p' q => ld_w W _ _ rfl (by decide) p' q) (by show 256 + 1 * (x 0).val = 256 + (x 0).val; omega) (by show 256 + 1 * (x 1).val = 256 + (x 1).val; omega)
  · exact dpiece1 W f 2 _ _ _ _ _ _ x _ (fun q j => tl2_real f _ _ _ rfl rfl q j _ _) (fun p' q => ld_w W _ _ rfl (by decide) p' q) (fun p' q => ld_w W _ _ rfl (by decide) p' q) (by show 128 + 1 * (x 0).val = 128 + (x 0).val; omega) (by show 256 + 1 * (x 1).val = 256 + (x 1).val; omega)
  · exact dpiece0 W f 2 _ _ _ _ _ _ x _ (fun q j => tl2_real f _ _ _ rfl rfl q j _ _) (fun p' q => ld_w W _ _ rfl (by decide) p' q) (fun p' q => ld_w W _ _ rfl (by decide) p' q) (by show 0 + 1 * (x 0).val = 0 + (x 0).val; omega) (by show 256 + 1 * (x 1).val = 256 + (x 1).val; omega)
  · exact dpiece3 W f 1 _ _ _ _ _ _ x _ (fun q j => tl2_real f _ _ _ rfl rfl q j _ _) (fun p' q => ld_w W _ _ rfl (by decide) p' q) (fun p' q => ld_w W _ _ rfl (by decide) p' q) (by show 384 + 1 * (x 0).val = 384 + (x 0).val; omega) (by show 128 + 1 * (x 1).val = 128 + (x 1).val; omega)
  · exact dpiece2 W f 1 _ _ _ _ _ _ x _ (fun q j => tl2_real f _ _ _ rfl rfl q j _ _) (fun p' q => ld_w W _ _ rfl (by decide) p' q) (fun p' q => ld_w W _ _ rfl (by decide) p' q) (by show 256 + 1 * (x 0).val = 256 + (x 0).val; omega) (by show 128 + 1 * (x 1).val = 128 + (x 1).val; omega)
  · exact dpiece1 W f 1 _ _ _ _ _ _ x _ (fun q j => tl2_real f _ _ _ rfl rfl q j _ _) (fun p' q => ld_w W _ _ rfl (by decide) p' q) (fun p' q => ld_w W _ _ rfl (by decide) p' q) (by show 128 + 1 * (x 0).val = 128 + (x 0).val; omega) (by show 128 + 1 * (x 1).val = 128 + (x 1).val; omega)
  · exact dpiece0 W f 1 _ _ _ _ _ _ x _ (fun q j => tl2_real f _ _ _ rfl rfl q j _ _) (fun p' q => ld_w W _ _ rfl (by decide) p' q) (fun p' q => ld_w W _ _ rfl (by decide) p' q) (by show 0 + 1 * (x 0).val = 0 + (x 0).val; omega) (by show 128 + 1 * (x 1).val = 128 + (x 1).val; omega)
  · exact dpiece3 W f 0 _ _ _ _ _ _ x _ (fun q j => ldt_real f _ _ _ rfl rfl q j _ _) (fun p' q => ld_w W _ _ rfl (by decide) p' q) (fun p' q => ld_w W _ _ rfl (by decide) p' q) (by show 384 + 1 * (x 0).val = 384 + (x 0).val; omega) (by show 0 + 1 * (x 1).val = 0 + (x 1).val; omega)
  · exact dpiece2 W f 0 _ _ _ _ _ _ x _ (fun q j => ldt_real f _ _ _ rfl rfl q j _ _) (fun p' q => ld_w W _ _ rfl (by decide) p' q) (fun p' q => ld_w W _ _ rfl (by decide) p' q) (by show 256 + 1 * (x 0).val = 256 + (x 0).val; omega) (by show 0 + 1 * (x 1).val = 0 + (x 1).val; omega)
  · exact dpiece1 W f 0 _ _ _ _ _ _ x _ (fun q j => ldt_real f _ _ _ rfl rfl q j _ _) (fun p' q => ld_w W _ _ rfl (by decide) p' q) (fun p' q => ld_w W _ _ rfl (by decide) p' q) (by show 128 + 1 * (x 0).val = 128 + (x 0).val; omega) (by show 0 + 1 * (x 1).val = 0 + (x 1).val; omega)
  · exact dpiece0 W f 0 _ _ _ _ _ _ x _ (fun q j => ldt_real f _ _ _ rfl rfl q j _ _) (fun p' q => ld_w W _ _ rfl (by decide) p' q) (fun p' q => ld_w W _ _ rfl (by decide) p' q) (by show 0 + 1 * (x 0).val = 0 + (x 0).val; omega) (by show 0 + 1 * (x 1).val = 0 + (x 1).val; omega)

theorem dL_cover (w w0 : Sq) (X : Wt) (y : S512x512.Idx) : ∃ p ∈ dL w w0 X, y ∈ p.1.set :=
  View.cover_of_tiledL (s := S512x512) _ S128x128.size (by sl_kernel_rfl) y

theorem dL_read {sig : RefSig} {κ : Kind} {sp : Space} (v : View sig κ sp S512x512 .f32) (W : Fin 8 → Fin 128 → Fin 128 → ℝ) (f : Fin 512 → Fin 512 → ℝ)
    {off : Fin S512x512.rank → ℕ} (inb : ∀ a, off a + S512x512.size a ≤ S512x512.size a) (h0 : ∀ a, off a = 0) :
    v.readCov (dL (blk .f32 f) (blk .f32 f) (wblk W)) (Rect.unit off (no_index S512x512.size) inb).toLoadRect = (blk .f32 (spR W f)) :=
  read_tiles v _ _ inb h0 (dL_tiles W f) (dL_cover _ _ _)

def sL (w : Sq) (X : Wt) (Y : Bs) : List (View.Piece (Elt Ideal) S512x512 .f32) :=
  [⟨Rect.unit (s := S512x512) ![384, 384] ![128, 128] (by decide), k0_pay28 (F := Ideal) (k0_pay27 (F := Ideal) (k0_pay21 (tl0 w 0 384 (by decide)) (tl0 w 128 384 (by decide)) (tl0 w 256 384 (by decide)) (tl0 w 384 384 (by decide))) (k0_pay22 (tl0 w 0 384 (by decide)) (tl0 w 128 384 (by decide)) (tl0 w 256 384 (by decide)) (tl0 w 384 384 (by decide))) (lw X 6 (by decide)) (lw X 7 (by decide)) (lb Y 384 (by decide)))⟩,
   ⟨Rect.unit (s := S512x512) ![256, 384] ![128, 128] (by decide), k0_pay26 (F := Ideal) (k0_pay21 (tl0 w 0 384 (by decide)) (tl0 w 128 384 (by decide)) (tl0 w 256 384 (by decide)) (tl0 w 384 384 (by decide))) (k0_pay22 (tl0 w 0 384 (by decide)) (tl0 w 128 384 (by decide)) (tl0 w 256 384 (by decide)) (tl0 w 384 384 (by decide))) (lw X 6 (by decide)) (lw X 7 (by decide)) (lb Y 384 (by decide))⟩,
   ⟨Rect.unit (s := S512x512) ![128, 384] ![128, 128] (by decide), k0_pay25 (F := Ideal) (k0_pay21 (tl0 w 0 384 (by decide)) (tl0 w 128 384 (by decide)) (tl0 w 256 384 (by decide)) (tl0 w 384 384 (by decide))) (k0_pay22 (tl0 w 0 384 (by decide)) (tl0 w 128 384 (by decide)) (tl0 w 256 384 (by decide)) (tl0 w 384 384 (by decide))) (lw X 6 (by decide)) (lw X 7 (by decide)) (lb Y 384 (by decide))⟩,
   ⟨Rect.unit (s := S512x512) ![0, 384] ![128, 128] (by decide), k0_pay24 (F := Ideal) (k0_pay21 (tl0 w 0 384 (by decide)) (tl0 w 128 384 (by decide)) (tl0 w 256 384 (by decide)) (tl0 w 384 384 (by decide))) (k0_pay22 (tl0 w 0 384 (by decide)) (tl0 w 128 384 (by decide)) (tl0 w 256 384 (by decide)) (tl0 w 384 384 (by decide))) (lw X 6 (by decide)) (lw X 7 (by decide)) (lb Y 384 (by decide))⟩,
   ⟨Rect.unit (s := S512x512) ![384, 256] ![128, 128] (by decide), k0_pay28 (F := Ideal) (k0_pay27 (F := Ideal) (k0_pay21 (tl0 w 0 256 (by decide)) (tl0 w 128 256 (by decide)) (tl0 w 256 256 (by decide)) (tl0 w 384 256 (by decide))) (k0_pay22 (tl0 w 0 256 (by decide)) (tl0 w 128 256 (by decide)) (tl0 w 256 256 (by decide)) (tl0 w 384 256 (by decide))) (lw X 4 (by decide)) (lw X 5 (by decide)) (lb Y 256 (by decide)))⟩,
   ⟨Rect.unit (s := S512x512) ![256, 256] ![128, 128] (by decide), k0_pay26 (F := Ideal) (k0_pay21 (tl0 w 0 256 (by decide)) (tl0 w 128 256 (by decide)) (tl0 w 256 256 (by decide)) (tl0 w 384 256 (by decide))) (k0_pay22 (tl0 w 0 256 (by decide)) (tl0 w 128 256 (by decide)) (tl0 w 256 256 (by decide)) (tl0 w 384 256 (by decide))) (lw X 4 (by decide)) (lw X 5 (by decide)) (lb Y 256 (by decide))⟩,
   ⟨Rect.unit (s := S512x512) ![128, 256] ![128, 128] (by decide), k0_pay25 (F := Ideal) (k0_pay21 (tl0 w 0 256 (by decide)) (tl0 w 128 256 (by decide)) (tl0 w 256 256 (by decide)) (tl0 w 384 256 (by decide))) (k0_pay22 (tl0 w 0 256 (by decide)) (tl0 w 128 256 (by decide)) (tl0 w 256 256 (by decide)) (tl0 w 384 256 (by decide))) (lw X 4 (by decide)) (lw X 5 (by decide)) (lb Y 256 (by decide))⟩,
   ⟨Rect.unit (s := S512x512) ![0, 256] ![128, 128] (by decide), k0_pay24 (F := Ideal) (k0_pay21 (tl0 w 0 256 (by decide)) (tl0 w 128 256 (by decide)) (tl0 w 256 256 (by decide)) (tl0 w 384 256 (by decide))) (k0_pay22 (tl0 w 0 256 (by decide)) (tl0 w 128 256 (by decide)) (tl0 w 256 256 (by decide)) (tl0 w 384 256 (by decide))) (lw X 4 (by decide)) (lw X 5 (by decide)) (lb Y 256 (by decide))⟩,
   ⟨Rect.unit (s := S512x512) ![384, 128] ![128, 128] (by decide), k0_pay28 (F := Ideal) (k0_pay27 (F := Ideal) (k0_pay21 (tl0 w 0 128 (by decide)) (tl0 w 128 128 (by decide)) (tl0 w 256 128 (by decide)) (tl0 w 384 128 (by decide))) (k0_pay22 (tl0 w 0 128 (by decide)) (tl0 w 128 128 (by decide)) (tl0 w 256 128 (by decide)) (tl0 w 384 128 (by decide))) (lw X 2 (by decide)) (lw X 3 (by decide)) (lb Y 128 (by decide)))⟩,
   ⟨Rect.unit (s := S512x512) ![256, 128] ![128, 128] (by decide), k0_pay26 (F := Ideal) (k0_pay21 (tl0 w 0 128 (by decide)) (tl0 w 128 128 (by decide)) (tl0 w 256 128 (by decide)) (tl0 w 384 128 (by decide))) (k0_pay22 (tl0 w 0 128 (by decide)) (tl0 w 128 128 (by decide)) (tl0 w 256 128 (by decide)) (tl0 w 384 128 (by decide))) (lw X 2 (by decide)) (lw X 3 (by decide)) (lb Y 128 (by decide))⟩,
   ⟨Rect.unit (s := S512x512) ![128, 128] ![128, 128] (by decide), k0_pay25 (F := Ideal) (k0_pay21 (tl0 w 0 128 (by decide)) (tl0 w 128 128 (by decide)) (tl0 w 256 128 (by decide)) (tl0 w 384 128 (by decide))) (k0_pay22 (tl0 w 0 128 (by decide)) (tl0 w 128 128 (by decide)) (tl0 w 256 128 (by decide)) (tl0 w 384 128 (by decide))) (lw X 2 (by decide)) (lw X 3 (by decide)) (lb Y 128 (by decide))⟩,
   ⟨Rect.unit (s := S512x512) ![0, 128] ![128, 128] (by decide), k0_pay24 (F := Ideal) (k0_pay21 (tl0 w 0 128 (by decide)) (tl0 w 128 128 (by decide)) (tl0 w 256 128 (by decide)) (tl0 w 384 128 (by decide))) (k0_pay22 (tl0 w 0 128 (by decide)) (tl0 w 128 128 (by decide)) (tl0 w 256 128 (by decide)) (tl0 w 384 128 (by decide))) (lw X 2 (by decide)) (lw X 3 (by decide)) (lb Y 128 (by decide))⟩,
   ⟨Rect.unit (s := S512x512) ![384, 0] ![128, 128] (by decide), k0_pay28 (F := Ideal) (k0_pay27 (F := Ideal) (k0_pay21 (tl0 w 0 0 (by decide)) (tl0 w 128 0 (by decide)) (tl0 w 256 0 (by decide)) (tl0 w 384 0 (by decide))) (k0_pay22 (tl0 w 0 0 (by decide)) (tl0 w 128 0 (by decide)) (tl0 w 256 0 (by decide)) (tl0 w 384 0 (by decide))) (lw X 0 (by decide)) (lw X 1 (by decide)) (lb Y 0 (by decide)))⟩,
   ⟨Rect.unit (s := S512x512) ![256, 0] ![128, 128] (by decide), k0_pay26 (F := Ideal) (k0_pay21 (tl0 w 0 0 (by decide)) (tl0 w 128 0 (by decide)) (tl0 w 256 0 (by decide)) (tl0 w 384 0 (by decide))) (k0_pay22 (tl0 w 0 0 (by decide)) (tl0 w 128 0 (by decide)) (tl0 w 256 0 (by decide)) (tl0 w 384 0 (by decide))) (lw X 0 (by decide)) (lw X 1 (by decide)) (lb Y 0 (by decide))⟩,
   ⟨Rect.unit (s := S512x512) ![128, 0] ![128, 128] (by decide), k0_pay25 (F := Ideal) (k0_pay21 (tl0 w 0 0 (by decide)) (tl0 w 128 0 (by decide)) (tl0 w 256 0 (by decide)) (tl0 w 384 0 (by decide))) (k0_pay22 (tl0 w 0 0 (by decide)) (tl0 w 128 0 (by decide)) (tl0 w 256 0 (by decide)) (tl0 w 384 0 (by decide))) (lw X 0 (by decide)) (lw X 1 (by decide)) (lb Y 0 (by decide))⟩,
   ⟨Rect.unit (s := S512x512) ![0, 0] ![128, 128] (by decide), k0_pay24 (F := Ideal) (k0_pay21 (tl0 w 0 0 (by decide)) (tl0 w 128 0 (by decide)) (tl0 w 256 0 (by decide)) (tl0 w 384 0 (by decide))) (k0_pay22 (tl0 w 0 0 (by decide)) (tl0 w 128 0 (by decide)) (tl0 w 256 0 (by decide)) (tl0 w 384 0 (by decide))) (lw X 0 (by decide)) (lw X 1 (by decide)) (lb Y 0 (by decide))⟩]

theorem sL_tiles (W : Fin 8 → Fin 128 → Fin 128 → ℝ) (f : Fin 512 → Fin 512 → ℝ) (B : Fin 128 → Fin 512 → ℝ) : View.PiecesOf (blk .f32 (fun r j => spR W f r j + B (pos4 r) j)) (sL (blk .f32 f) (wblk W) (bblk B)) := by
  unfold sL
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, trivial⟩
  · exact spiece3 W f B 3 _ _ _ _ _ _ _ x _ (fun q j => tl0_real f _ _ _ rfl rfl q j _ _) (fun p' q => ld_w W _ _ rfl (by decide) p' q) (fun p' q => ld_w W _ _ rfl (by decide) p' q) (ld_b B _ x _ (by show (384 + 1 * (x 0).val) % 128 = (x 0).val; have : (x 0).val < 128 := (x 0).isLt; omega) (by show 384 + 1 * (x 1).val = 384 + (x 1).val; omega)) (by show 384 + 1 * (x 0).val = 384 + (x 0).val; omega) (by show 384 + 1 * (x 1).val = 384 + (x 1).val; omega)
  · exact spiece2 W f B 3 _ _ _ _ _ _ _ x _ (fun q j => tl0_real f _ _ _ rfl rfl q j _ _) (fun p' q => ld_w W _ _ rfl (by decide) p' q) (fun p' q => ld_w W _ _ rfl (by decide) p' q) (ld_b B _ x _ (by show (256 + 1 * (x 0).val) % 128 = (x 0).val; have : (x 0).val < 128 := (x 0).isLt; omega) (by show 384 + 1 * (x 1).val = 384 + (x 1).val; omega)) (by show 256 + 1 * (x 0).val = 256 + (x 0).val; omega) (by show 384 + 1 * (x 1).val = 384 + (x 1).val; omega)
  · exact spiece1 W f B 3 _ _ _ _ _ _ _ x _ (fun q j => tl0_real f _ _ _ rfl rfl q j _ _) (fun p' q => ld_w W _ _ rfl (by decide) p' q) (fun p' q => ld_w W _ _ rfl (by decide) p' q) (ld_b B _ x _ (by show (128 + 1 * (x 0).val) % 128 = (x 0).val; have : (x 0).val < 128 := (x 0).isLt; omega) (by show 384 + 1 * (x 1).val = 384 + (x 1).val; omega)) (by show 128 + 1 * (x 0).val = 128 + (x 0).val; omega) (by show 384 + 1 * (x 1).val = 384 + (x 1).val; omega)
  · exact spiece0 W f B 3 _ _ _ _ _ _ _ x _ (fun q j => tl0_real f _ _ _ rfl rfl q j _ _) (fun p' q => ld_w W _ _ rfl (by decide) p' q) (fun p' q => ld_w W _ _ rfl (by decide) p' q) (ld_b B _ x _ (by show (0 + 1 * (x 0).val) % 128 = (x 0).val; have : (x 0).val < 128 := (x 0).isLt; omega) (by show 384 + 1 * (x 1).val = 384 + (x 1).val; omega)) (by show 0 + 1 * (x 0).val = 0 + (x 0).val; omega) (by show 384 + 1 * (x 1).val = 384 + (x 1).val; omega)
  · exact spiece3 W f B 2 _ _ _ _ _ _ _ x _ (fun q j => tl0_real f _ _ _ rfl rfl q j _ _) (fun p' q => ld_w W _ _ rfl (by decide) p' q) (fun p' q => ld_w W _ _ rfl (by decide) p' q) (ld_b B _ x _ (by show (384 + 1 * (x 0).val) % 128 = (x 0).val; have : (x 0).val < 128 := (x 0).isLt; omega) (by show 256 + 1 * (x 1).val = 256 + (x 1).val; omega)) (by show 384 + 1 * (x 0).val = 384 + (x 0).val; omega) (by show 256 + 1 * (x 1).val = 256 + (x 1).val; omega)
  · exact spiece2 W f B 2 _ _ _ _ _ _ _ x _ (fun q j => tl0_real f _ _ _ rfl rfl q j _ _) (fun p' q => ld_w W _ _ rfl (by decide) p' q) (fun p' q => ld_w W _ _ rfl (by decide) p' q) (ld_b B _ x _ (by show (256 + 1 * (x 0).val) % 128 = (x 0).val; have : (x 0).val < 128 := (x 0).isLt; omega) (by show 256 + 1 * (x 1).val = 256 + (x 1).val; omega)) (by show 256 + 1 * (x 0).val = 256 + (x 0).val; omega) (by show 256 + 1 * (x 1).val = 256 + (x 1).val; omega)
  · exact spiece1 W f B 2 _ _ _ _ _ _ _ x _ (fun q j => tl0_real f _ _ _ rfl rfl q j _ _) (fun p' q => ld_w W _ _ rfl (by decide) p' q) (fun p' q => ld_w W _ _ rfl (by decide) p' q) (ld_b B _ x _ (by show (128 + 1 * (x 0).val) % 128 = (x 0).val; have : (x 0).val < 128 := (x 0).isLt; omega) (by show 256 + 1 * (x 1).val = 256 + (x 1).val; omega)) (by show 128 + 1 * (x 0).val = 128 + (x 0).val; omega) (by show 256 + 1 * (x 1).val = 256 + (x 1).val; omega)
  · exact spiece0 W f B 2 _ _ _ _ _ _ _ x _ (fun q j => tl0_real f _ _ _ rfl rfl q j _ _) (fun p' q => ld_w W _ _ rfl (by decide) p' q) (fun p' q => ld_w W _ _ rfl (by decide) p' q) (ld_b B _ x _ (by show (0 + 1 * (x 0).val) % 128 = (x 0).val; have : (x 0).val < 128 := (x 0).isLt; omega) (by show 256 + 1 * (x 1).val = 256 + (x 1).val; omega)) (by show 0 + 1 * (x 0).val = 0 + (x 0).val; omega) (by show 256 + 1 * (x 1).val = 256 + (x 1).val; omega)
  · exact spiece3 W f B 1 _ _ _ _ _ _ _ x _ (fun q j => tl0_real f _ _ _ rfl rfl q j _ _) (fun p' q => ld_w W _ _ rfl (by decide) p' q) (fun p' q => ld_w W _ _ rfl (by decide) p' q) (ld_b B _ x _ (by show (384 + 1 * (x 0).val) % 128 = (x 0).val; have : (x 0).val < 128 := (x 0).isLt; omega) (by show 128 + 1 * (x 1).val = 128 + (x 1).val; omega)) (by show 384 + 1 * (x 0).val = 384 + (x 0).val; omega) (by show 128 + 1 * (x 1).val = 128 + (x 1).val; omega)
  · exact spiece2 W f B 1 _ _ _ _ _ _ _ x _ (fun q j => tl0_real f _ _ _ rfl rfl q j _ _) (fun p' q => ld_w W _ _ rfl (by decide) p' q) (fun p' q => ld_w W _ _ rfl (by decide) p' q) (ld_b B _ x _ (by show (256 + 1 * (x 0).val) % 128 = (x 0).val; have : (x 0).val < 128 := (x 0).isLt; omega) (by show 128 + 1 * (x 1).val = 128 + (x 1).val; omega)) (by show 256 + 1 * (x 0).val = 256 + (x 0).val; omega) (by show 128 + 1 * (x 1).val = 128 + (x 1).val; omega)
  · exact spiece1 W f B 1 _ _ _ _ _ _ _ x _ (fun q j => tl0_real f _ _ _ rfl rfl q j _ _) (fun p' q => ld_w W _ _ rfl (by decide) p' q) (fun p' q => ld_w W _ _ rfl (by decide) p' q) (ld_b B _ x _ (by show (128 + 1 * (x 0).val) % 128 = (x 0).val; have : (x 0).val < 128 := (x 0).isLt; omega) (by show 128 + 1 * (x 1).val = 128 + (x 1).val; omega)) (by show 128 + 1 * (x 0).val = 128 + (x 0).val; omega) (by show 128 + 1 * (x 1).val = 128 + (x 1).val; omega)
  · exact spiece0 W f B 1 _ _ _ _ _ _ _ x _ (fun q j => tl0_real f _ _ _ rfl rfl q j _ _) (fun p' q => ld_w W _ _ rfl (by decide) p' q) (fun p' q => ld_w W _ _ rfl (by decide) p' q) (ld_b B _ x _ (by show (0 + 1 * (x 0).val) % 128 = (x 0).val; have : (x 0).val < 128 := (x 0).isLt; omega) (by show 128 + 1 * (x 1).val = 128 + (x 1).val; omega)) (by show 0 + 1 * (x 0).val = 0 + (x 0).val; omega) (by show 128 + 1 * (x 1).val = 128 + (x 1).val; omega)
  · exact spiece3 W f B 0 _ _ _ _ _ _ _ x _ (fun q j => tl0_real f _ _ _ rfl rfl q j _ _) (fun p' q => ld_w W _ _ rfl (by decide) p' q) (fun p' q => ld_w W _ _ rfl (by decide) p' q) (ld_b B _ x _ (by show (384 + 1 * (x 0).val) % 128 = (x 0).val; have : (x 0).val < 128 := (x 0).isLt; omega) (by show 0 + 1 * (x 1).val = 0 + (x 1).val; omega)) (by show 384 + 1 * (x 0).val = 384 + (x 0).val; omega) (by show 0 + 1 * (x 1).val = 0 + (x 1).val; omega)
  · exact spiece2 W f B 0 _ _ _ _ _ _ _ x _ (fun q j => tl0_real f _ _ _ rfl rfl q j _ _) (fun p' q => ld_w W _ _ rfl (by decide) p' q) (fun p' q => ld_w W _ _ rfl (by decide) p' q) (ld_b B _ x _ (by show (256 + 1 * (x 0).val) % 128 = (x 0).val; have : (x 0).val < 128 := (x 0).isLt; omega) (by show 0 + 1 * (x 1).val = 0 + (x 1).val; omega)) (by show 256 + 1 * (x 0).val = 256 + (x 0).val; omega) (by show 0 + 1 * (x 1).val = 0 + (x 1).val; omega)
  · exact spiece1 W f B 0 _ _ _ _ _ _ _ x _ (fun q j => tl0_real f _ _ _ rfl rfl q j _ _) (fun p' q => ld_w W _ _ rfl (by decide) p' q) (fun p' q => ld_w W _ _ rfl (by decide) p' q) (ld_b B _ x _ (by show (128 + 1 * (x 0).val) % 128 = (x 0).val; have : (x 0).val < 128 := (x 0).isLt; omega) (by show 0 + 1 * (x 1).val = 0 + (x 1).val; omega)) (by show 128 + 1 * (x 0).val = 128 + (x 0).val; omega) (by show 0 + 1 * (x 1).val = 0 + (x 1).val; omega)
  · exact spiece0 W f B 0 _ _ _ _ _ _ _ x _ (fun q j => tl0_real f _ _ _ rfl rfl q j _ _) (fun p' q => ld_w W _ _ rfl (by decide) p' q) (fun p' q => ld_w W _ _ rfl (by decide) p' q) (ld_b B _ x _ (by show (0 + 1 * (x 0).val) % 128 = (x 0).val; have : (x 0).val < 128 := (x 0).isLt; omega) (by show 0 + 1 * (x 1).val = 0 + (x 1).val; omega)) (by show 0 + 1 * (x 0).val = 0 + (x 0).val; omega) (by show 0 + 1 * (x 1).val = 0 + (x 1).val; omega)

theorem sL_cover (w : Sq) (X : Wt) (Y : Bs) (y : S512x512.Idx) : ∃ p ∈ sL w X Y, y ∈ p.1.set :=
  View.cover_of_tiledL (s := S512x512) _ S128x128.size (by sl_kernel_rfl) y

theorem sL_read {sig : RefSig} {κ : Kind} {sp : Space} (v : View sig κ sp S512x512 .f32) (W : Fin 8 → Fin 128 → Fin 128 → ℝ) (f : Fin 512 → Fin 512 → ℝ) (B : Fin 128 → Fin 512 → ℝ)
    {off : Fin S512x512.rank → ℕ} (inb : ∀ a, off a + S512x512.size a ≤ S512x512.size a) (h0 : ∀ a, off a = 0) :
    v.readCov (sL (blk .f32 f) (wblk W) (bblk B)) (Rect.unit off (no_index S512x512.size) inb).toLoadRect = (blk .f32 (fun r j => spR W f r j + B (pos4 r) j)) :=
  read_tiles v _ _ inb h0 (sL_tiles W f B) (sL_cover _ _ _)

end Blk

end
-- ==== Proof.KerAcc.lean ====
/- What one point of the grid leaves in the results that add up over the points: the statements. -/
module

public import proofs.«01_k».proof.Proof.KerList

@[expose] public section

set_option maxRecDepth 16384

noncomputable section

namespace Blk

open Idealize.ShloMosaic Cert.KernelIdeal Cert.KernelIdeal.Gen

theorem p148 (v d : FVec Ideal S512x512 .f32) (x : FVec Ideal S1x512 .f32) (j : S1x512.Idx) : k0_pay148 (F := Ideal) v d x j = x j + k0_pay147 (F := Ideal) v d j := by
  unfold k0_pay148; rw [shapeCast_self]; rfl
theorem p150 (d : FVec Ideal S512x512 .f32) (x : FVec Ideal S1x512 .f32) (j : S1x512.Idx) : k0_pay150 (F := Ideal) d x j = x j + k0_pay149 (F := Ideal) d j := by
  unfold k0_pay150; rw [shapeCast_self]; rfl
theorem p2 (d : FVec Ideal S512x512 .f32) (x : FVec Ideal S1x512 .f32) (j : S1x512.Idx) : k0_pay2 (F := Ideal) d x j = x j + k0_pay1 (F := Ideal) d j := by
  unfold k0_pay2; rw [shapeCast_self]; rfl
theorem p161 (g b : FVec Ideal S1x512 .f32) (d y : FVec Ideal S512x512 .f32) (x : FVec Ideal S1x512 .f32) (j : S1x512.Idx) : k0_pay161 (F := Ideal) g b d y x j = x j + k0_pay160 (F := Ideal) g b d y j := by
  unfold k0_pay161; rw [shapeCast_self]; rfl
theorem p163 (d x : FVec Ideal S1x512 .f32) (j : S1x512.Idx) : k0_pay163 (F := Ideal) d x j = x j + d j := by
  unfold k0_pay163; rw [shapeCast_self]; rfl
theorem p146 (d x : FVec Ideal S8x128 .f32) (j : S8x128.Idx) : k0_pay146 (F := Ideal) d x j = x j + d j := by
  unfold k0_pay146; rw [shapeCast_self]; rfl

theorem p48_47 (x y : FVec Ideal S512x512 .f32) : k0_pay48 (F := Ideal) x y = k0_pay47 x y := by
  unfold k0_pay48; rw [shapeCast_self]

namespace Pt
variable (p : Pt)
/-- The gradient at the normalised convolution's scaled rows. -/
def dyl (r j : Fin 512) : ℝ := p.dyb r j * Mix.swg (Mix.nrm (p.gc r) j * p.cg j + p.cn j)
def dgc (r j : Fin 512) : ℝ := Mix.lnb (p.dyl r) (p.gc r) p.cg j
def dcb (j : Fin 512) : ℝ := ∑ r, p.dgc r j
def dcg (j : Fin 512) : ℝ := ∑ r, p.dyl r j * Mix.nrm (p.gc r) j
def dcn (j : Fin 512) : ℝ := ∑ r, p.dyl r j
def dvg (j : Fin 512) : ℝ := ∑ r, p.dvl r j * Mix.nrm (gle p.zv r) j
def dvb (j : Fin 512) : ℝ := ∑ r, p.dvl r j
def dsb (g : Fin 8) (q : Fin 128) : ℝ := ∑ c : Fin 64, ∑ n : Fin 4, p.dsv ⟨128 * n.val + q.val, by omega⟩ (Mix.col g c)
def dw (g : Fin 8) (q k : Fin 128) : ℝ := ∑ n : Fin 4, ∑ c : Fin 64, p.dsv ⟨128 * n.val + q.val, by omega⟩ (Mix.col g c) * p.vl ⟨128 * n.val + k.val, by omega⟩ (Mix.col g c)
end Pt

section
variable {m : (ℓ : Loc nD τ sig) → Buf (Elt Ideal) ℓ} {c : Dev nD} {t : Fin cfg0.N} {p : Pt}

theorem val_dgc (H : Reads m c t p) : k0_pay164 (F := Ideal) (k0_pay157 (k0_pay156 (iblk m c 4 t))) (k0_pay158 (k0_pay156 (iblk m c 4 t))) (k0_pay159 (k0_pay154 (iblk m c 10 t)) (k0_pay155 (iblk m c 11 t)) (k0_pay156 (iblk m c 4 t)) (iblk m c 1 t)) (iblk m c 10 t) = blk .f32 p.dgc := by
  rw [H.x4, H.x10, H.x11, H.x1, p154, p155, p156, p157, p158, p159]
  exact p164 p.gc p.dyl p.cg
theorem val_dcg (H : Reads m c t p) : k0_pay160 (F := Ideal) (k0_pay154 (iblk m c 10 t)) (k0_pay155 (iblk m c 11 t)) (k0_pay156 (iblk m c 4 t)) (iblk m c 1 t) = rowv p.dcg := by
  rw [H.x4, H.x10, H.x11, H.x1, p154, p155, p156, p160]; rfl
theorem val_dcn (H : Reads m c t p) : k0_pay162 (F := Ideal) (k0_pay154 (iblk m c 10 t)) (k0_pay155 (iblk m c 11 t)) (k0_pay156 (iblk m c 4 t)) (iblk m c 1 t) = rowv p.dcn := by
  rw [H.x4, H.x10, H.x11, H.x1, p154, p155, p156, p162]; rfl
theorem val_dvg (H : Reads m c t p) : k0_pay147 (F := Ideal) (k0_pay9 (k0_pay6 (iblk m c 3 t)) (k0_pay7 (iblk m c 3 t))) (blk .f32 p.dvl) = rowv p.dvg := by
  rw [H.x3, p6, p7, p9 (gle p.zv), p147]; rfl
theorem val_dsb (H : Reads m c t p) (j : S8x128.Idx) : k0_pay145 (F := Ideal) (k0_pay144 (k0_pay47 (k0_pay3 (iblk m c 2 t)) (iblk m c 0 t))) (iota .tc S8x512 32 [0] iota_S8x512_d0_w32) (iota .tc S8x512 32 [1] iota_S8x512_d1_w32) 64#32 j = ((p.dsb (j 0) (j 1) : ℝ) : EReal) := by
  have e : k0_pay47 (F := Ideal) (k0_pay3 (iblk m c 2 t)) (iblk m c 0 t) = blk .f32 p.dsv := (p48_47 _ _).symm.trans (fillD H)
  rw [e, Tile.p144]
  exact Tile.p145 (fun q k => ∑ n : Fin 4, p.dsv ⟨128 * n.val + q.val, by omega⟩ k) j
end

end Blk

end
-- ==== Proof.KerPt.lean ====
/- One point's blocks of results, as blocks of the gradient's real function. -/
module

public import proofs.«01_k».proof.Proof.KerIn
public import proofs.«01_k».proof.Proof.KerAcc

@[expose] public section

set_option maxRecDepth 16384

noncomputable section

namespace Blk

open Idealize.ShloMosaic Cert.KernelIdeal Cert.KernelIdeal.Gen

variable (a : Mix.Args) (t : Fin cfg0.N)

theorem pos_rg (r : Fin 512) : Mix.pos (rg t r) = pos4 r := Fin.ext (by
  show (512 * t.val + r.val) % 128 = r.val % 128; omega)
theorem row_rg (r : Fin 512) (q : Fin 128) : Mix.row (Mix.chunk (rg t r)) q = rg t (row4 r q) := Fin.ext (by
  show 128 * ((512 * t.val + r.val) / 128) + q.val = 512 * t.val + (128 * (r.val / 128) + q.val); omega)
theorem pt_vl (r j : Fin 512) : (pt a t).vl r j = a.vl (rg t r) j := rfl
theorem pt_dsv (r j : Fin 512) : (pt a t).dsv r j = a.dsv (rg t r) j := rfl
theorem pt_sv (r j : Fin 512) : (pt a t).sv r j = a.sv (rg t r) j := by
  unfold Mix.Args.sv
  simp only [pos_rg, row_rg]
  rfl
theorem pt_dvl (r j : Fin 512) : (pt a t).dvl r j = a.dvl (rg t r) j := by
  unfold Mix.Args.dvl
  simp only [pos_rg, row_rg]
  rfl
theorem pt_dvl' (r : Fin 512) : (pt a t).dvl r = a.dvl (rg t r) := funext fun j => pt_dvl a t r j

theorem pt_dgc (r j : Fin 512) : (pt a t).dgc r j = a.dgc (rg t r) j := rfl
theorem pt_dyl (r j : Fin 512) : (pt a t).dyl r j = a.dyl (rg t r) j := rfl

theorem pt_dcb (j : Fin 512) : (pt a t).dcb j = ∑ r, a.dgc (rg t r) j := rfl
theorem pt_dcn (j : Fin 512) : (pt a t).dcn j = ∑ r, a.dyl (rg t r) j := rfl
theorem pt_dcg (j : Fin 512) : (pt a t).dcg j = ∑ r, a.dyl (rg t r) j * Mix.nrm (a.G (rg t r)) j := rfl
theorem pt_dvb (j : Fin 512) : (pt a t).dvb j = ∑ r, a.dvl (rg t r) j := Finset.sum_congr rfl fun r _ => pt_dvl a t r j
theorem pt_dvg (j : Fin 512) : (pt a t).dvg j = ∑ r, a.dvl (rg t r) j * Mix.nrm (a.V (rg t r)) j :=
  Finset.sum_congr rfl fun r _ => by rw [pt_dvl]; rfl

theorem N16 : cfg0.N = 16 := N_0

/-- A sum over the points and their rows is a sum over all rows. -/
theorem sum_rows (f : Fin 8192 → ℝ) : ∑ t : Fin cfg0.N, ∑ r, f (rg t r) = ∑ R, f R := by
  refine (Fin.sum_divmod_congr (N := 8192) (A := cfg0.N) (S := 512) (f := fun t r => f (rg t r)) (fun R h0 h1 => ?_) (by rw [N16])).symm
  refine congrArg f (Fin.ext ?_)
  show (R : ℕ) = 512 * ((R : ℕ) / 512) + (R : ℕ) % 512
  omega

/-- The run of 128 rows that is number `n` of point `t`. -/
def run4 (t : Fin cfg0.N) (n : Fin 4) : Fin 64 := ⟨4 * t.val + n.val, by have := (idx t).2.2.2.2.2.2.2.2.2.2.2.2.2.2; omega⟩
theorem rg_run (n : Fin 4) (q : Fin 128) (h : 128 * n.val + q.val < 512) : rg t ⟨128 * n.val + q.val, h⟩ = Mix.row (run4 t n) q := Fin.ext (by
  show 512 * t.val + (128 * n.val + q.val) = 128 * (4 * t.val + n.val) + q.val; omega)

/-- A sum over the points and their runs of 128 rows is a sum over all of those. -/
theorem sum_runs (f : Fin 64 → ℝ) : ∑ t : Fin cfg0.N, ∑ n, f (run4 t n) = ∑ n, f n := by
  refine (Fin.sum_divmod_congr (N := 64) (A := cfg0.N) (S := 4) (f := fun t n => f (run4 t n)) (fun R h0 h1 => ?_) (by rw [N16])).symm
  refine congrArg f (Fin.ext ?_)
  show (R : ℕ) = 4 * ((R : ℕ) / 4) + (R : ℕ) % 4
  omega

theorem pt_dw (g : Fin 8) (q k : Fin 128) : (pt a t).dw g q k = ∑ n, ∑ c, a.dsv (Mix.row (run4 t n) q) (Mix.col g c) * a.vl (Mix.row (run4 t n) k) (Mix.col g c) := by
  unfold Pt.dw
  simp only [pt_dsv, pt_vl, rg_run]
theorem pt_dsb (g : Fin 8) (q : Fin 128) : (pt a t).dsb g q = ∑ n, ∑ c, a.dsv (Mix.row (run4 t n) q) (Mix.col g c) := by
  unfold Pt.dsb
  rw [Finset.sum_comm]
  simp only [pt_dsv, rg_run]

/-! ## All points together -/

theorem all_dw (g : Fin 8) (q k : Fin 128) : ∑ t, (pt a t).dw g q k = a.dw g q k := by
  simp only [pt_dw]
  exact sum_runs fun n => ∑ c, a.dsv (Mix.row n q) (Mix.col g c) * a.vl (Mix.row n k) (Mix.col g c)
theorem all_dsb (g : Fin 8) (q : Fin 128) : ∑ t, (pt a t).dsb g q = a.dsb g q := by
  simp only [pt_dsb]
  exact sum_runs fun n => ∑ c, a.dsv (Mix.row n q) (Mix.col g c)
theorem all_dvg (j : Fin 512) : ∑ t, (pt a t).dvg j = a.dvg j := by
  simp only [pt_dvg]
  exact sum_rows fun R => a.dvl R j * Mix.nrm (a.V R) j
theorem all_dvb (j : Fin 512) : ∑ t, (pt a t).dvb j = a.dvb j := by
  simp only [pt_dvb]
  exact sum_rows fun R => a.dvl R j
theorem all_dcg (j : Fin 512) : ∑ t, (pt a t).dcg j = a.dcg j := sum_rows fun R => a.dyl R j * Mix.nrm (a.G R) j
theorem all_dcn (j : Fin 512) : ∑ t, (pt a t).dcn j = a.dcn j := sum_rows fun R => a.dyl R j
theorem all_dcb (j : Fin 512) : ∑ t, (pt a t).dcb j = a.dcb j := sum_rows fun R => a.dgc R j

end Blk
end
-- ==== Proof.KerDzA.lean ====
/- What one point of the grid leaves in the first result. -/
module

public import proofs.«01_k».proof.Proof.KerList

@[expose] public section

set_option maxRecDepth 16384

noncomputable section

namespace Blk

open Idealize.ShloMosaic Cert.KernelIdeal Cert.KernelIdeal.Gen

set_option maxHeartbeats 1000000 in
theorem dz_A (m : (ℓ : Loc nD τ sig) → Buf (Elt Ideal) ℓ) (c : Dev nD) (t : Fin cfg0.N) (h : t.val % 16 = 0) (h' : ¬ 1 ≤ t.val) (p : Pt) (H : Reads m c t p) (j : S512x1024.Idx) :
    (outsAt0 m c t.val t.isLt).1 j = ((p.dz (j 0) (j 1) : ℝ) : EReal) := by
  rw [outsAt0_A m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := View.canon (Val := Elt Ideal) (s := S512x1024) (e := .bf16)
    [⟨Rect.unit ![0, 512] ![512, 512] inb_S512x1024_S512x512_0_512, k0_pay153 (F := Ideal) (iblk m c 3 t) (k0_pay151 (k0_pay8 (k0_pay7 (iblk m c 3 t))) (k0_pay9 (k0_pay6 (iblk m c 3 t)) (k0_pay7 (iblk m c 3 t)))
       ((View.whole cc0_scratch3).readCov (dL (k0_pay48 (F := Ideal) (k0_pay3 (View.ld (View.read (Elt Ideal) (ms0_2 t).view ((hs0_2 t).unread (iblk m c 2 t))) (Rect.unit (s := S512x512) ![0, 0] ![512, 512] inb_S512x512_S512x512_0_0))) (View.ld (View.read (Elt Ideal) (ms0_0 t).view ((hs0_0 t).unread (iblk m c 0 t))) (Rect.unit (s := S512x512) ![0, 0] ![512, 512] inb_S512x512_S512x512_0_0))) (k0_pay48 (F := Ideal) (k0_pay3 (iblk m c 2 t)) (iblk m c 0 t)) (iblk m c 6 t)) (Rect.unit (s := S512x512) ![0, 0] ![512, 512] inb_S512x512_S512x512_0_0).toLoadRect) (iblk m c 8 t)) k0_pay152⟩,
     ⟨Rect.unit ![0, 0] ![512, 512] inb_S512x1024_S512x512_0_0, k0_pay46 (F := Ideal) (iblk m c 2 t) (k0_pay44 (iblk m c 0 t)
       ((View.whole cc0_scratch1).readCov (sL (k0_pay10 (F := Ideal) (k0_pay4 (View.ld (View.read (Elt Ideal) (ms0_8 t).view ((hs0_8 t).unread (iblk m c 8 t))) (Rect.unit (s := S1x512) ![0, 0] ![1, 512] inb_S1x512_S1x512_0_0))) (k0_pay5 (View.ld (View.read (Elt Ideal) (ms0_9 t).view ((hs0_9 t).unread (iblk m c 9 t))) (Rect.unit (s := S1x512) ![0, 0] ![1, 512] inb_S1x512_S1x512_0_0))) (k0_pay6 (View.ld (View.read (Elt Ideal) (ms0_3 t).view ((hs0_3 t).unread (iblk m c 3 t))) (Rect.unit (s := S512x512) ![0, 0] ![512, 512] inb_S512x512_S512x512_0_0))) (k0_pay7 (View.ld (View.read (Elt Ideal) (ms0_3 t).view ((hs0_3 t).unread (iblk m c 3 t))) (Rect.unit (s := S512x512) ![0, 0] ![512, 512] inb_S512x512_S512x512_0_0)))) (iblk m c 5 t) (iblk m c 7 t)) (Rect.unit (s := S512x512) ![0, 0] ![512, 512] inb_S512x512_S512x512_0_0).toLoadRect)) (k0_pay45 (iblk m c 2 t)) (Scalar.ofBits .f32 0x3F800000#32)⟩] j) (by sl_kernel_rfl) ?_
  simp (disch := decide) only [Memref.IsWhole.read_unread, View.ld_unit_lit']
  rw [fillD H, fillV H, H.x6, H.x5, H.x7, dL_read _ p.WT p.dsv _ (by decide), sL_read _ p.W p.vl p.B _ (by decide), H.x0, H.x2, H.x3, H.x8, p6, p7, p8 (gle p.zv), p9 (gle p.zv), p151, p44]
  exact dz_halves _ _ _ _ _ _ j

end Blk

end
-- ==== Proof.KerDzB.lean ====
/- What one point of the grid leaves in the first result. -/
module

public import proofs.«01_k».proof.Proof.KerList

@[expose] public section

set_option maxRecDepth 16384

noncomputable section

namespace Blk

open Idealize.ShloMosaic Cert.KernelIdeal Cert.KernelIdeal.Gen

set_option maxHeartbeats 1000000 in
theorem dz_B (m : (ℓ : Loc nD τ sig) → Buf (Elt Ideal) ℓ) (c : Dev nD) (t : Fin cfg0.N) (h : ¬ t.val % 16 = 0) (h' : 1 ≤ t.val) (p : Pt) (H : Reads m c t p) (j : S512x1024.Idx) :
    (outsAt0 m c t.val t.isLt).1 j = ((p.dz (j 0) (j 1) : ℝ) : EReal) := by
  rw [outsAt0_B m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := View.canon (Val := Elt Ideal) (s := S512x1024) (e := .bf16)
    [⟨Rect.unit ![0, 512] ![512, 512] inb_S512x1024_S512x512_0_512, k0_pay153 (F := Ideal) (iblk m c 3 t) (k0_pay151 (k0_pay8 (k0_pay7 (iblk m c 3 t))) (k0_pay9 (k0_pay6 (iblk m c 3 t)) (k0_pay7 (iblk m c 3 t)))
       ((View.whole cc0_scratch3).readCov (dL (k0_pay48 (F := Ideal) (k0_pay3 (View.ld (View.read (Elt Ideal) (ms0_2 t).view ((hs0_2 t).unread (iblk m c 2 t))) (Rect.unit (s := S512x512) ![0, 0] ![512, 512] inb_S512x512_S512x512_0_0))) (View.ld (View.read (Elt Ideal) (ms0_0 t).view ((hs0_0 t).unread (iblk m c 0 t))) (Rect.unit (s := S512x512) ![0, 0] ![512, 512] inb_S512x512_S512x512_0_0))) (k0_pay48 (F := Ideal) (k0_pay3 (iblk m c 2 t)) (iblk m c 0 t)) (iblk m c 6 t)) (Rect.unit (s := S512x512) ![0, 0] ![512, 512] inb_S512x512_S512x512_0_0).toLoadRect) (iblk m c 8 t)) k0_pay152⟩,
     ⟨Rect.unit ![0, 0] ![512, 512] inb_S512x1024_S512x512_0_0, k0_pay46 (F := Ideal) (iblk m c 2 t) (k0_pay44 (iblk m c 0 t)
       ((View.whole cc0_scratch1).readCov (sL (k0_pay10 (F := Ideal) (k0_pay4 (View.ld (View.read (Elt Ideal) (ms0_8 t).view ((hs0_8 t).unread (iblk m c 8 t))) (Rect.unit (s := S1x512) ![0, 0] ![1, 512] inb_S1x512_S1x512_0_0))) (k0_pay5 (View.ld (View.read (Elt Ideal) (ms0_9 t).view ((hs0_9 t).unread (iblk m c 9 t))) (Rect.unit (s := S1x512) ![0, 0] ![1, 512] inb_S1x512_S1x512_0_0))) (k0_pay6 (View.ld (View.read (Elt Ideal) (ms0_3 t).view ((hs0_3 t).unread (iblk m c 3 t))) (Rect.unit (s := S512x512) ![0, 0] ![512, 512] inb_S512x512_S512x512_0_0))) (k0_pay7 (View.ld (View.read (Elt Ideal) (ms0_3 t).view ((hs0_3 t).unread (iblk m c 3 t))) (Rect.unit (s := S512x512) ![0, 0] ![512, 512] inb_S512x512_S512x512_0_0)))) (iblk m c 5 t) (iblk m c 7 t)) (Rect.unit (s := S512x512) ![0, 0] ![512, 512] inb_S512x512_S512x512_0_0).toLoadRect)) (k0_pay45 (iblk m c 2 t)) (Scalar.ofBits .f32 0x3F800000#32)⟩] j) (by sl_kernel_rfl) ?_
  simp (disch := decide) only [Memref.IsWhole.read_unread, View.ld_unit_lit']
  rw [fillD H, fillV H, H.x6, H.x5, H.x7, dL_read _ p.WT p.dsv _ (by decide), sL_read _ p.W p.vl p.B _ (by decide), H.x0, H.x2, H.x3, H.x8, p6, p7, p8 (gle p.zv), p9 (gle p.zv), p151, p44]
  exact dz_halves _ _ _ _ _ _ j

end Blk

end
-- ==== Proof.KerSmA.lean ====
/- What one point of the grid leaves in the small results. -/
module

public import proofs.«01_k».proof.Proof.KerAcc

@[expose] public section

set_option maxRecDepth 16384

noncomputable section

namespace Blk

open Idealize.ShloMosaic Cert.KernelIdeal Cert.KernelIdeal.Gen

set_option maxHeartbeats 1000000 in
theorem dgc_A (m : (ℓ : Loc nD τ sig) → Buf (Elt Ideal) ℓ) (c : Dev nD) (t : Fin cfg0.N) (h : t.val % 16 = 0) (h' : ¬ 1 ≤ t.val) (p : Pt) (H : Reads m c t p) (j : S512x512.Idx) :
    (outsAt0 m c t.val t.isLt).2.1 j = ((p.dgc (j 0) (j 1) : ℝ) : EReal) := by
  rw [outsAt0_A m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay164 (F := Ideal) (k0_pay157 (k0_pay156 (iblk m c 4 t))) (k0_pay158 (k0_pay156 (iblk m c 4 t))) (k0_pay159 (k0_pay154 (iblk m c 10 t)) (k0_pay155 (iblk m c 11 t)) (k0_pay156 (iblk m c 4 t)) (iblk m c 1 t)) (iblk m c 10 t)) j) (by sl_kernel_rfl) ?_
  rw [val_dgc H]; rfl

set_option maxHeartbeats 1000000 in
theorem dsb_A (m : (ℓ : Loc nD τ sig) → Buf (Elt Ideal) ℓ) (c : Dev nD) (t : Fin cfg0.N) (h : t.val % 16 = 0) (h' : ¬ 1 ≤ t.val) (p : Pt) (H : Reads m c t p) (j : S8x128.Idx) :
    (outsAt0 m c t.val t.isLt).2.2.2.1 j = ((p.dsb (j 0) (j 1) : ℝ) : EReal) := by
  rw [outsAt0_A m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay145 (F := Ideal) (k0_pay144 (k0_pay47 (k0_pay3 (iblk m c 2 t)) (iblk m c 0 t))) (iota .tc S8x512 32 [0] iota_S8x512_d0_w32) (iota .tc S8x512 32 [1] iota_S8x512_d1_w32) 64#32) j) (by sl_kernel_rfl) ?_
  exact val_dsb H j

set_option maxHeartbeats 1000000 in
theorem dvg_A (m : (ℓ : Loc nD τ sig) → Buf (Elt Ideal) ℓ) (c : Dev nD) (t : Fin cfg0.N) (h : t.val % 16 = 0) (h' : ¬ 1 ≤ t.val) (p : Pt) (H : Reads m c t p) (j : S1x512.Idx) :
    (outsAt0 m c t.val t.isLt).2.2.2.2.1 j = ((p.dvg (j 1) : ℝ) : EReal) := by
  rw [outsAt0_A m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay147 (F := Ideal) (k0_pay9 (k0_pay6 (iblk m c 3 t)) (k0_pay7 (iblk m c 3 t))) ((View.whole cc0_scratch3).readCov (dL (k0_pay48 (F := Ideal) (k0_pay3 (View.ld (View.read (Elt Ideal) (ms0_2 t).view ((hs0_2 t).unread (iblk m c 2 t))) (Rect.unit (s := S512x512) ![0, 0] ![512, 512] inb_S512x512_S512x512_0_0))) (View.ld (View.read (Elt Ideal) (ms0_0 t).view ((hs0_0 t).unread (iblk m c 0 t))) (Rect.unit (s := S512x512) ![0, 0] ![512, 512] inb_S512x512_S512x512_0_0))) (k0_pay48 (F := Ideal) (k0_pay3 (iblk m c 2 t)) (iblk m c 0 t)) (iblk m c 6 t)) (Rect.unit (s := S512x512) ![0, 0] ![512, 512] inb_S512x512_S512x512_0_0).toLoadRect)) j) (by sl_kernel_rfl) ?_
  simp (disch := decide) only [Memref.IsWhole.read_unread, View.ld_unit_lit']
  rw [fillD H, H.x6, dL_read _ p.WT p.dsv _ (by decide)]
  exact congrFun (val_dvg H) j

set_option maxHeartbeats 1000000 in
theorem dvb_A (m : (ℓ : Loc nD τ sig) → Buf (Elt Ideal) ℓ) (c : Dev nD) (t : Fin cfg0.N) (h : t.val % 16 = 0) (h' : ¬ 1 ≤ t.val) (p : Pt) (H : Reads m c t p) (j : S1x512.Idx) :
    (outsAt0 m c t.val t.isLt).2.2.2.2.2.1 j = ((p.dvb (j 1) : ℝ) : EReal) := by
  rw [outsAt0_A m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay149 (F := Ideal) ((View.whole cc0_scratch3).readCov (dL (k0_pay48 (F := Ideal) (k0_pay3 (View.ld (View.read (Elt Ideal) (ms0_2 t).view ((hs0_2 t).unread (iblk m c 2 t))) (Rect.unit (s := S512x512) ![0, 0] ![512, 512] inb_S512x512_S512x512_0_0))) (View.ld (View.read (Elt Ideal) (ms0_0 t).view ((hs0_0 t).unread (iblk m c 0 t))) (Rect.unit (s := S512x512) ![0, 0] ![512, 512] inb_S512x512_S512x512_0_0))) (k0_pay48 (F := Ideal) (k0_pay3 (iblk m c 2 t)) (iblk m c 0 t)) (iblk m c 6 t)) (Rect.unit (s := S512x512) ![0, 0] ![512, 512] inb_S512x512_S512x512_0_0).toLoadRect)) j) (by sl_kernel_rfl) ?_
  simp (disch := decide) only [Memref.IsWhole.read_unread, View.ld_unit_lit']
  rw [fillD H, H.x6, dL_read _ p.WT p.dsv _ (by decide), p149]; rfl

set_option maxHeartbeats 1000000 in
theorem dcg_A (m : (ℓ : Loc nD τ sig) → Buf (Elt Ideal) ℓ) (c : Dev nD) (t : Fin cfg0.N) (h : t.val % 16 = 0) (h' : ¬ 1 ≤ t.val) (p : Pt) (H : Reads m c t p) (j : S1x512.Idx) :
    (outsAt0 m c t.val t.isLt).2.2.2.2.2.2.1 j = ((p.dcg (j 1) : ℝ) : EReal) := by
  rw [outsAt0_A m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay160 (F := Ideal) (k0_pay154 (iblk m c 10 t)) (k0_pay155 (iblk m c 11 t)) (k0_pay156 (iblk m c 4 t)) (iblk m c 1 t)) j) (by sl_kernel_rfl) ?_
  rw [val_dcg H]; rfl

set_option maxHeartbeats 1000000 in
theorem dcn_A (m : (ℓ : Loc nD τ sig) → Buf (Elt Ideal) ℓ) (c : Dev nD) (t : Fin cfg0.N) (h : t.val % 16 = 0) (h' : ¬ 1 ≤ t.val) (p : Pt) (H : Reads m c t p) (j : S1x512.Idx) :
    (outsAt0 m c t.val t.isLt).2.2.2.2.2.2.2.1 j = ((p.dcn (j 1) : ℝ) : EReal) := by
  rw [outsAt0_A m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay162 (F := Ideal) (k0_pay154 (iblk m c 10 t)) (k0_pay155 (iblk m c 11 t)) (k0_pay156 (iblk m c 4 t)) (iblk m c 1 t)) j) (by sl_kernel_rfl) ?_
  rw [val_dcn H]; rfl

set_option maxHeartbeats 1000000 in
theorem dcb_A (m : (ℓ : Loc nD τ sig) → Buf (Elt Ideal) ℓ) (c : Dev nD) (t : Fin cfg0.N) (h : t.val % 16 = 0) (h' : ¬ 1 ≤ t.val) (p : Pt) (H : Reads m c t p) (j : S1x512.Idx) :
    (outsAt0 m c t.val t.isLt).2.2.2.2.2.2.2.2 j = ((p.dcb (j 1) : ℝ) : EReal) := by
  rw [outsAt0_A m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay1 (F := Ideal) (k0_pay164 (F := Ideal) (k0_pay157 (k0_pay156 (iblk m c 4 t))) (k0_pay158 (k0_pay156 (iblk m c 4 t))) (k0_pay159 (k0_pay154 (iblk m c 10 t)) (k0_pay155 (iblk m c 11 t)) (k0_pay156 (iblk m c 4 t)) (iblk m c 1 t)) (iblk m c 10 t))) j) (by sl_kernel_rfl) ?_
  rw [val_dgc H, p1]; rfl

end Blk

end
-- ==== Proof.KerSmB.lean ====
/- What one point of the grid leaves in the small results. -/
module

public import proofs.«01_k».proof.Proof.KerAcc

@[expose] public section

set_option maxRecDepth 16384

noncomputable section

namespace Blk

open Idealize.ShloMosaic Cert.KernelIdeal Cert.KernelIdeal.Gen

set_option maxHeartbeats 1000000 in
theorem dgc_B (m : (ℓ : Loc nD τ sig) → Buf (Elt Ideal) ℓ) (c : Dev nD) (t : Fin cfg0.N) (h : ¬ t.val % 16 = 0) (h' : 1 ≤ t.val) (p : Pt) (H : Reads m c t p) (j : S512x512.Idx) :
    (outsAt0 m c t.val t.isLt).2.1 j = ((p.dgc (j 0) (j 1) : ℝ) : EReal) := by
  rw [outsAt0_B m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay164 (F := Ideal) (k0_pay157 (k0_pay156 (iblk m c 4 t))) (k0_pay158 (k0_pay156 (iblk m c 4 t))) (k0_pay159 (k0_pay154 (iblk m c 10 t)) (k0_pay155 (iblk m c 11 t)) (k0_pay156 (iblk m c 4 t)) (iblk m c 1 t)) (iblk m c 10 t)) j) (by sl_kernel_rfl) ?_
  rw [val_dgc H]; rfl

set_option maxHeartbeats 1000000 in
theorem dsb_B (m : (ℓ : Loc nD τ sig) → Buf (Elt Ideal) ℓ) (c : Dev nD) (t : Fin cfg0.N) (h : ¬ t.val % 16 = 0) (h' : 1 ≤ t.val) (p : Pt) (H : Reads m c t p) (j : S8x128.Idx) :
    (outsAt0 m c t.val t.isLt).2.2.2.1 j = (outsAt0 m c (t.val - 1) (lt_of_le_of_lt (Nat.sub_le _ _) t.isLt)).2.2.2.1 j + ((p.dsb (j 0) (j 1) : ℝ) : EReal) := by
  rw [outsAt0_B m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay146 (F := Ideal) (k0_pay145 (F := Ideal) (k0_pay144 (k0_pay47 (k0_pay3 (iblk m c 2 t)) (iblk m c 0 t))) (iota .tc S8x512 32 [0] iota_S8x512_d0_w32) (iota .tc S8x512 32 [1] iota_S8x512_d1_w32) 64#32) (outsAt0 m c (t.val - 1) (lt_of_le_of_lt (Nat.sub_le _ _) t.isLt)).2.2.2.1) j) (by sl_kernel_rfl) ?_
  rw [p146]; exact congrArg _ (val_dsb H j)

set_option maxHeartbeats 1000000 in
theorem dvg_B (m : (ℓ : Loc nD τ sig) → Buf (Elt Ideal) ℓ) (c : Dev nD) (t : Fin cfg0.N) (h : ¬ t.val % 16 = 0) (h' : 1 ≤ t.val) (p : Pt) (H : Reads m c t p) (j : S1x512.Idx) :
    (outsAt0 m c t.val t.isLt).2.2.2.2.1 j = (outsAt0 m c (t.val - 1) (lt_of_le_of_lt (Nat.sub_le _ _) t.isLt)).2.2.2.2.1 j + ((p.dvg (j 1) : ℝ) : EReal) := by
  rw [outsAt0_B m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay148 (F := Ideal) (k0_pay9 (k0_pay6 (iblk m c 3 t)) (k0_pay7 (iblk m c 3 t))) ((View.whole cc0_scratch3).readCov (dL (k0_pay48 (F := Ideal) (k0_pay3 (View.ld (View.read (Elt Ideal) (ms0_2 t).view ((hs0_2 t).unread (iblk m c 2 t))) (Rect.unit (s := S512x512) ![0, 0] ![512, 512] inb_S512x512_S512x512_0_0))) (View.ld (View.read (Elt Ideal) (ms0_0 t).view ((hs0_0 t).unread (iblk m c 0 t))) (Rect.unit (s := S512x512) ![0, 0] ![512, 512] inb_S512x512_S512x512_0_0))) (k0_pay48 (F := Ideal) (k0_pay3 (iblk m c 2 t)) (iblk m c 0 t)) (iblk m c 6 t)) (Rect.unit (s := S512x512) ![0, 0] ![512, 512] inb_S512x512_S512x512_0_0).toLoadRect) (outsAt0 m c (t.val - 1) (lt_of_le_of_lt (Nat.sub_le _ _) t.isLt)).2.2.2.2.1) j) (by sl_kernel_rfl) ?_
  simp (disch := decide) only [Memref.IsWhole.read_unread, View.ld_unit_lit']
  rw [fillD H, H.x6, dL_read _ p.WT p.dsv _ (by decide), p148]
  exact congrArg _ (congrFun (val_dvg H) j)

set_option maxHeartbeats 1000000 in
theorem dvb_B (m : (ℓ : Loc nD τ sig) → Buf (Elt Ideal) ℓ) (c : Dev nD) (t : Fin cfg0.N) (h : ¬ t.val % 16 = 0) (h' : 1 ≤ t.val) (p : Pt) (H : Reads m c t p) (j : S1x512.Idx) :
    (outsAt0 m c t.val t.isLt).2.2.2.2.2.1 j = (outsAt0 m c (t.val - 1) (lt_of_le_of_lt (Nat.sub_le _ _) t.isLt)).2.2.2.2.2.1 j + ((p.dvb (j 1) : ℝ) : EReal) := by
  rw [outsAt0_B m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay150 (F := Ideal) ((View.whole cc0_scratch3).readCov (dL (k0_pay48 (F := Ideal) (k0_pay3 (View.ld (View.read (Elt Ideal) (ms0_2 t).view ((hs0_2 t).unread (iblk m c 2 t))) (Rect.unit (s := S512x512) ![0, 0] ![512, 512] inb_S512x512_S512x512_0_0))) (View.ld (View.read (Elt Ideal) (ms0_0 t).view ((hs0_0 t).unread (iblk m c 0 t))) (Rect.unit (s := S512x512) ![0, 0] ![512, 512] inb_S512x512_S512x512_0_0))) (k0_pay48 (F := Ideal) (k0_pay3 (iblk m c 2 t)) (iblk m c 0 t)) (iblk m c 6 t)) (Rect.unit (s := S512x512) ![0, 0] ![512, 512] inb_S512x512_S512x512_0_0).toLoadRect) (outsAt0 m c (t.val - 1) (lt_of_le_of_lt (Nat.sub_le _ _) t.isLt)).2.2.2.2.2.1) j) (by sl_kernel_rfl) ?_
  simp (disch := decide) only [Memref.IsWhole.read_unread, View.ld_unit_lit']
  rw [fillD H, H.x6, dL_read _ p.WT p.dsv _ (by decide), p150, p149]; rfl

set_option maxHeartbeats 1000000 in
theorem dcg_B (m : (ℓ : Loc nD τ sig) → Buf (Elt Ideal) ℓ) (c : Dev nD) (t : Fin cfg0.N) (h : ¬ t.val % 16 = 0) (h' : 1 ≤ t.val) (p : Pt) (H : Reads m c t p) (j : S1x512.Idx) :
    (outsAt0 m c t.val t.isLt).2.2.2.2.2.2.1 j = (outsAt0 m c (t.val - 1) (lt_of_le_of_lt (Nat.sub_le _ _) t.isLt)).2.2.2.2.2.2.1 j + ((p.dcg (j 1) : ℝ) : EReal) := by
  rw [outsAt0_B m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay161 (F := Ideal) (k0_pay154 (iblk m c 10 t)) (k0_pay155 (iblk m c 11 t)) (k0_pay156 (iblk m c 4 t)) (iblk m c 1 t) (outsAt0 m c (t.val - 1) (lt_of_le_of_lt (Nat.sub_le _ _) t.isLt)).2.2.2.2.2.2.1) j) (by sl_kernel_rfl) ?_
  rw [p161, val_dcg H]; rfl

set_option maxHeartbeats 1000000 in
theorem dcn_B (m : (ℓ : Loc nD τ sig) → Buf (Elt Ideal) ℓ) (c : Dev nD) (t : Fin cfg0.N) (h : ¬ t.val % 16 = 0) (h' : 1 ≤ t.val) (p : Pt) (H : Reads m c t p) (j : S1x512.Idx) :
    (outsAt0 m c t.val t.isLt).2.2.2.2.2.2.2.1 j = (outsAt0 m c (t.val - 1) (lt_of_le_of_lt (Nat.sub_le _ _) t.isLt)).2.2.2.2.2.2.2.1 j + ((p.dcn (j 1) : ℝ) : EReal) := by
  rw [outsAt0_B m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay163 (F := Ideal) (k0_pay162 (F := Ideal) (k0_pay154 (iblk m c 10 t)) (k0_pay155 (iblk m c 11 t)) (k0_pay156 (iblk m c 4 t)) (iblk m c 1 t)) (outsAt0 m c (t.val - 1) (lt_of_le_of_lt (Nat.sub_le _ _) t.isLt)).2.2.2.2.2.2.2.1) j) (by sl_kernel_rfl) ?_
  rw [p163, val_dcn H]; rfl

set_option maxHeartbeats 1000000 in
theorem dcb_B (m : (ℓ : Loc nD τ sig) → Buf (Elt Ideal) ℓ) (c : Dev nD) (t : Fin cfg0.N) (h : ¬ t.val % 16 = 0) (h' : 1 ≤ t.val) (p : Pt) (H : Reads m c t p) (j : S1x512.Idx) :
    (outsAt0 m c t.val t.isLt).2.2.2.2.2.2.2.2 j = (outsAt0 m c (t.val - 1) (lt_of_le_of_lt (Nat.sub_le _ _) t.isLt)).2.2.2.2.2.2.2.2 j + ((p.dcb (j 1) : ℝ) : EReal) := by
  rw [outsAt0_B m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := (k0_pay2 (F := Ideal) (k0_pay164 (F := Ideal) (k0_pay157 (k0_pay156 (iblk m c 4 t))) (k0_pay158 (k0_pay156 (iblk m c 4 t))) (k0_pay159 (k0_pay154 (iblk m c 10 t)) (k0_pay155 (iblk m c 11 t)) (k0_pay156 (iblk m c 4 t)) (iblk m c 1 t)) (iblk m c 10 t)) (outsAt0 m c (t.val - 1) (lt_of_le_of_lt (Nat.sub_le _ _) t.isLt)).2.2.2.2.2.2.2.2) j) (by sl_kernel_rfl) ?_
  rw [p2, val_dgc H, p1]; rfl

end Blk

end
-- ==== Proof.KerGram.lean ====
/- the weight's gradient: one group's product. -/
module

public import proofs.«01_k».proof.Proof.KerAcc

@[expose] public section

set_option maxRecDepth 16384

noncomputable section

namespace Blk

open Idealize.ShloMosaic Cert.KernelIdeal Cert.KernelIdeal.Gen

theorem inb2 {o b : ℕ} (ho : o + 128 ≤ 512) (hb : b + 128 ≤ 512) : ∀ a, (![b, o] : Fin 2 → ℕ) a + (![128, 128] : Fin 2 → ℕ) a ≤ S512x512.size a := by
  intro a
  match a with
  | 0 => exact hb
  | 1 => exact ho

/-- The four tiles of a column of tiles. -/
def col2 (w : Sq) (o : ℕ) (h : o + 128 ≤ 512) (n : Fin 4) : Tile.T128 := tl2 w (128 * n.val) o (inb2 h (by omega))
def col0 (w : Sq) (o : ℕ) (h : o + 128 ≤ 512) (n : Fin 4) : Tile.T128 := tl0 w (128 * n.val) o (inb2 h (by omega))
def gL (w v : Sq) (o : ℕ) (h : o + 128 ≤ 512) : Tile.T128 :=
  Tile.gramL (Tile.cat (col2 w o h 0) (col2 w o h 1) (col2 w o h 2) (col2 w o h 3)) (Tile.cat (col0 v o h 0) (col0 v o h 1) (col0 v o h 2) (col0 v o h 3))
def gH (w v : Sq) (o : ℕ) (h : o + 128 ≤ 512) : Tile.T128 :=
  Tile.gramH (Tile.cat (col2 w o h 0) (col2 w o h 1) (col2 w o h 2) (col2 w o h 3)) (Tile.cat (col0 v o h 0) (col0 v o h 1) (col0 v o h 2) (col0 v o h 3))

theorem tiles2 (f : Fin 512 → Fin 512 → ℝ) {o : ℕ} (h : o + 128 ≤ 512) (n : Fin 4) (q l : Fin 128) :
    col2 (blk .f32 f) o h n (ix2 q l) = ((f ⟨128 * n.val + q.val, by omega⟩ ⟨o + l.val, by omega⟩ : ℝ) : EReal) :=
  tl2_real f _ (128 * n.val) o rfl rfl q l _ _
theorem tiles0 (f : Fin 512 → Fin 512 → ℝ) {o : ℕ} (h : o + 128 ≤ 512) (n : Fin 4) (q l : Fin 128) :
    col0 (blk .f32 f) o h n (ix2 q l) = ((f ⟨128 * n.val + q.val, by omega⟩ ⟨o + l.val, by omega⟩ : ℝ) : EReal) :=
  tl0_real f _ (128 * n.val) o rfl rfl q l _ _

/-- One group's product of two blocks, over the runs of 128 rows and the group's columns. -/
def gram (d v : Fin 512 → Fin 512 → ℝ) (g : Fin 8) (q k : Fin 128) : ℝ :=
  ∑ n : Fin 4, ∑ c : Fin 64, d ⟨128 * n.val + q.val, by omega⟩ (Mix.col g c) * v ⟨128 * n.val + k.val, by omega⟩ (Mix.col g c)

theorem gL_real (d v : Fin 512 → Fin 512 → ℝ) {o : ℕ} (h : o + 128 ≤ 512) (g : Fin 8) (hg : o = 64 * g.val) (i : S128x128.Idx) :
    gL (blk .f32 d) (blk .f32 v) o h i = ((gram d v g (i 0) (i 1) : ℝ) : EReal) := by
  refine (Tile.gramL_apply (col2 (blk .f32 d) o h) (col0 (blk .f32 v) o h) i).trans ?_
  unfold gram
  rw [← Mix.coe_sum]
  refine Finset.sum_congr rfl fun n _ => ?_
  rw [← Mix.coe_sum]
  refine Finset.sum_congr rfl fun c _ => ?_
  rw [EReal.coe_mul]
  have e : ∀ l, (⟨o + c.val, l⟩ : Fin 512) = Mix.col g c := fun l => Fin.ext (by show o + c.val = 64 * g.val + c.val; omega)
  refine congrArg₂ (· * ·) ((tiles2 d h n _ ⟨c.val, by omega⟩).trans ?_) ((tiles0 v h n _ ⟨c.val, by omega⟩).trans ?_)
  · rw [← e]
  · rw [← e]

theorem gH_real (d v : Fin 512 → Fin 512 → ℝ) {o : ℕ} (h : o + 128 ≤ 512) (g : Fin 8) (hg : o + 64 = 64 * g.val) (i : S128x128.Idx) :
    gH (blk .f32 d) (blk .f32 v) o h i = ((gram d v g (i 0) (i 1) : ℝ) : EReal) := by
  refine (Tile.gramH_apply (col2 (blk .f32 d) o h) (col0 (blk .f32 v) o h) i).trans ?_
  unfold gram
  rw [← Mix.coe_sum]
  refine Finset.sum_congr rfl fun n _ => ?_
  rw [← Mix.coe_sum]
  refine Finset.sum_congr rfl fun c _ => ?_
  rw [EReal.coe_mul]
  have e : ∀ l, (⟨o + (64 + c.val), l⟩ : Fin 512) = Mix.col g c := fun l => Fin.ext (by show o + (64 + c.val) = 64 * g.val + c.val; omega)
  refine congrArg₂ (· * ·) ((tiles2 d h n _ ⟨64 + c.val, by omega⟩).trans ?_) ((tiles0 v h n _ ⟨64 + c.val, by omega⟩).trans ?_)
  · rw [← e]
  · rw [← e]

theorem inbg {g : ℕ} (h : g + 1 ≤ 8) : ∀ a, (![g, 0, 0] : Fin 3 → ℕ) a + (![1, 128, 128] : Fin 3 → ℕ) a ≤ S8x128x128.size a := by
  intro a
  match a with
  | 0 => exact h
  | 1 => exact le_refl 128
  | 2 => exact le_refl 128

abbrev G3 := S8x128x128.Idx → Elt Ideal .f32

/-- What the first point stores for one group. -/
def pieceA (x : Tile.T128) (g : ℕ) (h : g + 1 ≤ 8) : View.Piece (Elt Ideal) S8x128x128 .f32 :=
  ⟨Rect.unit (s := S8x128x128) ![g, 0, 0] ![1, 128, 128] (inbg h), shapeCast S1x128x128 x shapeCasts_S128x128_S1x128x128⟩
/-- What a later point stores for one group: what was there, and its own product. -/
def pieceB (Y : G3) (x : Tile.T128) (g : ℕ) (h : g + 1 ≤ 8) : View.Piece (Elt Ideal) S8x128x128 .f32 :=
  ⟨Rect.unit (s := S8x128x128) ![g, 0, 0] ![1, 128, 128] (inbg h),
    shapeCast S1x128x128 (addf (shapeCast S128x128 (View.ld Y (Rect.unit (s := S8x128x128) ![g, 0, 0] ![1, 128, 128] (inbg h)) : FVec Ideal S1x128x128 .f32) shapeCasts_S1x128x128_S128x128) x) shapeCasts_S128x128_S1x128x128⟩

def wL (w v : Sq) : List (View.Piece (Elt Ideal) S8x128x128 .f32) :=
  [pieceA (gH w v 384 (by decide)) 7 (by decide),
   pieceA (gL w v 384 (by decide)) 6 (by decide),
   pieceA (gH w v 256 (by decide)) 5 (by decide),
   pieceA (gL w v 256 (by decide)) 4 (by decide),
   pieceA (gH w v 128 (by decide)) 3 (by decide),
   pieceA (gL w v 128 (by decide)) 2 (by decide),
   pieceA (gH w v 0 (by decide)) 1 (by decide),
   pieceA (gL w v 0 (by decide)) 0 (by decide)]
def wLB (Y : G3) (w v : Sq) : List (View.Piece (Elt Ideal) S8x128x128 .f32) :=
  [pieceB Y (gH w v 384 (by decide)) 7 (by decide),
   pieceB Y (gL w v 384 (by decide)) 6 (by decide),
   pieceB Y (gH w v 256 (by decide)) 5 (by decide),
   pieceB Y (gL w v 256 (by decide)) 4 (by decide),
   pieceB Y (gH w v 128 (by decide)) 3 (by decide),
   pieceB Y (gL w v 128 (by decide)) 2 (by decide),
   pieceB Y (gH w v 0 (by decide)) 1 (by decide),
   pieceB Y (gL w v 0 (by decide)) 0 (by decide)]

theorem rect_at {g : ℕ} (h : g + 1 ≤ 8) (x : S1x128x128.Idx) :
    (Rect.unit (s := S8x128x128) ![g, 0, 0] ![1, 128, 128] (inbg h)).idx x = ix3 ⟨g, by omega⟩ (x 1) (x 2) := by
  have h0 : (x 0).val < 1 := (x 0).isLt
  funext a
  apply Fin.ext
  match a with
  | 0 => show g + 1 * (x 0).val = g; omega
  | 1 => show 0 + 1 * (x 1).val = (x 1).val; omega
  | 2 => show 0 + 1 * (x 2).val = (x 2).val; omega

theorem cast_at (y : Tile.T128) (x : S1x128x128.Idx) : (shapeCast S1x128x128 y shapeCasts_S128x128_S1x128x128 : FVec Ideal S1x128x128 .f32) x = y (ix2 (x 1) (x 2)) := by
  pointwise []
  all_goals rfl

theorem cast_back (y : FVec Ideal S1x128x128 .f32) (x : S128x128.Idx) : (shapeCast S128x128 y shapeCasts_S1x128x128_S128x128 : FVec Ideal S128x128 .f32) x = y (ix3 0 (x 0) (x 1)) := by
  pointwise []
  all_goals rfl

def gramG (d v : Fin 512 → Fin 512 → ℝ) : G3 := fun j => ((gram d v (j 0) (j 1) (j 2) : ℝ) : EReal)
def gramB (Y : G3) (d v : Fin 512 → Fin 512 → ℝ) : G3 := fun j => Y j + gramG d v j

theorem gramG_at (d v : Fin 512 → Fin 512 → ℝ) (g : Fin 8) (a b : Fin 128) : gramG d v (ix3 g a b) = ((gram d v g a b : ℝ) : EReal) := rfl
theorem gramB_at (Y : G3) (d v : Fin 512 → Fin 512 → ℝ) (g : Fin 8) (a b : Fin 128) : gramB Y d v (ix3 g a b) = Y (ix3 g a b) + ((gram d v g a b : ℝ) : EReal) := rfl

theorem pieceA_at {d v : Fin 512 → Fin 512 → ℝ} (y : Tile.T128) (g : ℕ) (h : g + 1 ≤ 8)
    (hy : ∀ a b : Fin 128, y (ix2 a b) = ((gram d v ⟨g, by omega⟩ a b : ℝ) : EReal)) (x : S1x128x128.Idx) :
    (shapeCast S1x128x128 y shapeCasts_S128x128_S1x128x128 : FVec Ideal S1x128x128 .f32) x = gramG d v ((Rect.unit (s := S8x128x128) ![g, 0, 0] ![1, 128, 128] (inbg h)).idx x) := by
  have e1 := cast_at y x
  have e2 := hy (x 1) (x 2)
  have e3 := gramG_at d v ⟨g, by omega⟩ (x 1) (x 2)
  have e4 := congrArg (gramG d v) (rect_at h x)
  exact (e1.trans e2).trans (e3.symm.trans e4.symm)

theorem pieceB_at {d v : Fin 512 → Fin 512 → ℝ} (Y : G3) (y : Tile.T128) (g : ℕ) (h : g + 1 ≤ 8)
    (hy : ∀ a b : Fin 128, y (ix2 a b) = ((gram d v ⟨g, by omega⟩ a b : ℝ) : EReal)) (x : S1x128x128.Idx) :
    (shapeCast S1x128x128 (addf (shapeCast S128x128 (View.ld Y (Rect.unit (s := S8x128x128) ![g, 0, 0] ![1, 128, 128] (inbg h)) : FVec Ideal S1x128x128 .f32) shapeCasts_S1x128x128_S128x128) y) shapeCasts_S128x128_S1x128x128 : FVec Ideal S1x128x128 .f32) x
      = gramB Y d v ((Rect.unit (s := S8x128x128) ![g, 0, 0] ![1, 128, 128] (inbg h)).idx x) := by
  have e0 := cast_back (View.ld Y (Rect.unit (s := S8x128x128) ![g, 0, 0] ![1, 128, 128] (inbg h)) : FVec Ideal S1x128x128 .f32) (ix2 (x 1) (x 2))
  have e1 : (View.ld Y (Rect.unit (s := S8x128x128) ![g, 0, 0] ![1, 128, 128] (inbg h)) : FVec Ideal S1x128x128 .f32) (ix3 0 (x 1) (x 2)) = Y (ix3 ⟨g, by omega⟩ (x 1) (x 2)) :=
    congrArg Y (rect_at h (ix3 0 (x 1) (x 2)))
  have e2 := hy (x 1) (x 2)
  have e3 := gramB_at Y d v ⟨g, by omega⟩ (x 1) (x 2)
  have e4 := congrArg (gramB Y d v) (rect_at h x)
  have e5 := e0.trans e1
  have e6 := cast_at (addf (shapeCast S128x128 (View.ld Y (Rect.unit (s := S8x128x128) ![g, 0, 0] ![1, 128, 128] (inbg h)) : FVec Ideal S1x128x128 .f32) shapeCasts_S1x128x128_S128x128) y) x
  have e7 : ∀ (u w : Tile.T128) (i : S128x128.Idx) (p q : EReal), u i = p → w i = q → addf u w i = p + q := fun u w i p q hp hq => by rw [← hp, ← hq]; rfl
  exact (e6.trans (e7 _ _ _ _ _ e5 e2)).trans (e3.symm.trans e4.symm)

theorem wL_pieces (d v : Fin 512 → Fin 512 → ℝ) : View.PiecesOf (gramG d v) (wL (blk .f32 d) (blk .f32 v)) := by
  unfold wL
  refine ⟨fun x => ?_, fun x => ?_, fun x => ?_, fun x => ?_, fun x => ?_, fun x => ?_, fun x => ?_, fun x => ?_, trivial⟩
  · exact pieceA_at _ 7 (by decide) (fun a b => gH_real d v _ ⟨7, by decide⟩ (by decide) (ix2 a b)) x
  · exact pieceA_at _ 6 (by decide) (fun a b => gL_real d v _ ⟨6, by decide⟩ (by decide) (ix2 a b)) x
  · exact pieceA_at _ 5 (by decide) (fun a b => gH_real d v _ ⟨5, by decide⟩ (by decide) (ix2 a b)) x
  · exact pieceA_at _ 4 (by decide) (fun a b => gL_real d v _ ⟨4, by decide⟩ (by decide) (ix2 a b)) x
  · exact pieceA_at _ 3 (by decide) (fun a b => gH_real d v _ ⟨3, by decide⟩ (by decide) (ix2 a b)) x
  · exact pieceA_at _ 2 (by decide) (fun a b => gL_real d v _ ⟨2, by decide⟩ (by decide) (ix2 a b)) x
  · exact pieceA_at _ 1 (by decide) (fun a b => gH_real d v _ ⟨1, by decide⟩ (by decide) (ix2 a b)) x
  · exact pieceA_at _ 0 (by decide) (fun a b => gL_real d v _ ⟨0, by decide⟩ (by decide) (ix2 a b)) x

theorem wLB_pieces (Y : G3) (d v : Fin 512 → Fin 512 → ℝ) : View.PiecesOf (gramB Y d v) (wLB Y (blk .f32 d) (blk .f32 v)) := by
  unfold wLB
  refine ⟨fun x => ?_, fun x => ?_, fun x => ?_, fun x => ?_, fun x => ?_, fun x => ?_, fun x => ?_, fun x => ?_, trivial⟩
  · exact pieceB_at Y _ 7 (by decide) (fun a b => gH_real d v _ ⟨7, by decide⟩ (by decide) (ix2 a b)) x
  · exact pieceB_at Y _ 6 (by decide) (fun a b => gL_real d v _ ⟨6, by decide⟩ (by decide) (ix2 a b)) x
  · exact pieceB_at Y _ 5 (by decide) (fun a b => gH_real d v _ ⟨5, by decide⟩ (by decide) (ix2 a b)) x
  · exact pieceB_at Y _ 4 (by decide) (fun a b => gL_real d v _ ⟨4, by decide⟩ (by decide) (ix2 a b)) x
  · exact pieceB_at Y _ 3 (by decide) (fun a b => gH_real d v _ ⟨3, by decide⟩ (by decide) (ix2 a b)) x
  · exact pieceB_at Y _ 2 (by decide) (fun a b => gL_real d v _ ⟨2, by decide⟩ (by decide) (ix2 a b)) x
  · exact pieceB_at Y _ 1 (by decide) (fun a b => gH_real d v _ ⟨1, by decide⟩ (by decide) (ix2 a b)) x
  · exact pieceB_at Y _ 0 (by decide) (fun a b => gL_real d v _ ⟨0, by decide⟩ (by decide) (ix2 a b)) x

theorem canon_pieces (Gv : G3) (L : List (View.Piece (Elt Ideal) S8x128x128 .f32)) (h : View.PiecesOf Gv L) (hc : ∀ y, ∃ p ∈ L, y ∈ p.1.set) (j : S8x128x128.Idx) :
    View.canon (Val := Elt Ideal) (s := S8x128x128) (e := .f32) L j = Gv j := by
  have := View.canon_append_of_piecesOf Gv [] L h j (hc j)
  rw [List.append_nil] at this
  exact this

theorem wL_canon (d v : Fin 512 → Fin 512 → ℝ) (j : S8x128x128.Idx) :
    View.canon (Val := Elt Ideal) (s := S8x128x128) (e := .f32) (wL (blk .f32 d) (blk .f32 v)) j = ((gram d v (j 0) (j 1) (j 2) : ℝ) : EReal) :=
  canon_pieces _ _ (wL_pieces d v) (View.cover_of_tiledL (s := S8x128x128) _ S1x128x128.size (by sl_kernel_rfl)) j
theorem wLB_canon (Y : G3) (d v : Fin 512 → Fin 512 → ℝ) (j : S8x128x128.Idx) :
    View.canon (Val := Elt Ideal) (s := S8x128x128) (e := .f32) (wLB Y (blk .f32 d) (blk .f32 v)) j = Y j + ((gram d v (j 0) (j 1) (j 2) : ℝ) : EReal) :=
  canon_pieces _ _ (wLB_pieces Y d v) (View.cover_of_tiledL (s := S8x128x128) _ S1x128x128.size (by sl_kernel_rfl)) j

end Blk

end
-- ==== Proof.KerDwA.lean ====
/- What one point of the grid leaves in the weight's gradient. -/
module

public import proofs.«01_k».proof.Proof.KerGram

@[expose] public section

set_option maxRecDepth 16384

noncomputable section

namespace Blk

open Idealize.ShloMosaic Cert.KernelIdeal Cert.KernelIdeal.Gen

set_option maxHeartbeats 1000000 in
theorem dw_A (m : (ℓ : Loc nD τ sig) → Buf (Elt Ideal) ℓ) (c : Dev nD) (t : Fin cfg0.N) (h : t.val % 16 = 0) (h' : ¬ 1 ≤ t.val) (p : Pt) (H : Reads m c t p) (j : S8x128x128.Idx) :
    (outsAt0 m c t.val t.isLt).2.2.1 j = ((p.dw (j 0) (j 1) (j 2) : ℝ) : EReal) := by
  rw [outsAt0_A m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := View.canon (Val := Elt Ideal) (s := S8x128x128) (e := .f32) (wL (k0_pay48 (F := Ideal) (k0_pay3 (View.ld (View.read (Elt Ideal) (ms0_2 t).view ((hs0_2 t).unread (iblk m c 2 t))) (Rect.unit (s := S512x512) ![0, 0] ![512, 512] inb_S512x512_S512x512_0_0))) (View.ld (View.read (Elt Ideal) (ms0_0 t).view ((hs0_0 t).unread (iblk m c 0 t))) (Rect.unit (s := S512x512) ![0, 0] ![512, 512] inb_S512x512_S512x512_0_0))) (k0_pay10 (F := Ideal) (k0_pay4 (View.ld (View.read (Elt Ideal) (ms0_8 t).view ((hs0_8 t).unread (iblk m c 8 t))) (Rect.unit (s := S1x512) ![0, 0] ![1, 512] inb_S1x512_S1x512_0_0))) (k0_pay5 (View.ld (View.read (Elt Ideal) (ms0_9 t).view ((hs0_9 t).unread (iblk m c 9 t))) (Rect.unit (s := S1x512) ![0, 0] ![1, 512] inb_S1x512_S1x512_0_0))) (k0_pay6 (View.ld (View.read (Elt Ideal) (ms0_3 t).view ((hs0_3 t).unread (iblk m c 3 t))) (Rect.unit (s := S512x512) ![0, 0] ![512, 512] inb_S512x512_S512x512_0_0))) (k0_pay7 (View.ld (View.read (Elt Ideal) (ms0_3 t).view ((hs0_3 t).unread (iblk m c 3 t))) (Rect.unit (s := S512x512) ![0, 0] ![512, 512] inb_S512x512_S512x512_0_0))))) j) (by sl_kernel_rfl) ?_
  simp (disch := decide) only [Memref.IsWhole.read_unread, View.ld_unit_lit']
  rw [fillD H, fillV H]
  exact wL_canon _ _ j

end Blk

end
-- ==== Proof.KerDwB.lean ====
/- What one point of the grid leaves in the weight's gradient. -/
module

public import proofs.«01_k».proof.Proof.KerGram

@[expose] public section

set_option maxRecDepth 16384

noncomputable section

namespace Blk

open Idealize.ShloMosaic Cert.KernelIdeal Cert.KernelIdeal.Gen

set_option maxHeartbeats 1000000 in
theorem dw_B (m : (ℓ : Loc nD τ sig) → Buf (Elt Ideal) ℓ) (c : Dev nD) (t : Fin cfg0.N) (h : ¬ t.val % 16 = 0) (h' : 1 ≤ t.val) (p : Pt) (H : Reads m c t p) (j : S8x128x128.Idx) :
    (outsAt0 m c t.val t.isLt).2.2.1 j = (outsAt0 m c (t.val - 1) (lt_of_le_of_lt (Nat.sub_le _ _) t.isLt)).2.2.1 j + ((p.dw (j 0) (j 1) (j 2) : ℝ) : EReal) := by
  rw [outsAt0_B m c t h h' h h' h h' h h' h h' h h' h h' h h' h h' h h' h h' h h' h h' h h']
  frame_open
  simp (disch := decide) only [↓ View.readCov_skip, ↓ View.readCov_cons_toLoadRect, ↓ View.readCov_fill]
  frame_out
  refine Eq.trans (b := View.canon (Val := Elt Ideal) (s := S8x128x128) (e := .f32) (wLB (outsAt0 m c (t.val - 1) (lt_of_le_of_lt (Nat.sub_le _ _) t.isLt)).2.2.1 (k0_pay48 (F := Ideal) (k0_pay3 (View.ld (View.read (Elt Ideal) (ms0_2 t).view ((hs0_2 t).unread (iblk m c 2 t))) (Rect.unit (s := S512x512) ![0, 0] ![512, 512] inb_S512x512_S512x512_0_0))) (View.ld (View.read (Elt Ideal) (ms0_0 t).view ((hs0_0 t).unread (iblk m c 0 t))) (Rect.unit (s := S512x512) ![0, 0] ![512, 512] inb_S512x512_S512x512_0_0))) (k0_pay10 (F := Ideal) (k0_pay4 (View.ld (View.read (Elt Ideal) (ms0_8 t).view ((hs0_8 t).unread (iblk m c 8 t))) (Rect.unit (s := S1x512) ![0, 0] ![1, 512] inb_S1x512_S1x512_0_0))) (k0_pay5 (View.ld (View.read (Elt Ideal) (ms0_9 t).view ((hs0_9 t).unread (iblk m c 9 t))) (Rect.unit (s := S1x512) ![0, 0] ![1, 512] inb_S1x512_S1x512_0_0))) (k0_pay6 (View.ld (View.read (Elt Ideal) (ms0_3 t).view ((hs0_3 t).unread (iblk m c 3 t))) (Rect.unit (s := S512x512) ![0, 0] ![512, 512] inb_S512x512_S512x512_0_0))) (k0_pay7 (View.ld (View.read (Elt Ideal) (ms0_3 t).view ((hs0_3 t).unread (iblk m c 3 t))) (Rect.unit (s := S512x512) ![0, 0] ![512, 512] inb_S512x512_S512x512_0_0))))) j) (by sl_kernel_rfl) ?_
  simp (disch := decide) only [Memref.IsWhole.read_unread, View.ld_unit_lit']
  rw [fillD H, fillV H]
  exact wLB_canon _ _ _ j

end Blk

end
-- ==== Proof.KerFin.lean ====
/- The result arrays after the run: the gradient's real functions of the real arguments. -/
module

public import proofs.«01_k».proof.Proof.KerPt
public import proofs.«01_k».proof.Proof.KerDzA
public import proofs.«01_k».proof.Proof.KerDzB
public import proofs.«01_k».proof.Proof.KerSmA
public import proofs.«01_k».proof.Proof.KerSmB
public import proofs.«01_k».proof.Proof.KerDwA
public import proofs.«01_k».proof.Proof.KerDwB

@[expose] public section

set_option maxRecDepth 16384

noncomputable section

namespace Blk

open Idealize.ShloMosaic Idealize.ShloMosaic.TcCoe Cert.KernelIdeal Cert.KernelIdeal.Gen

variable {m : (ℓ : Loc nD τ sig) → Buf (Elt Ideal) ℓ} {c : Dev nD} {a : Mix.Args}

theorem lt16 (t : Fin cfg0.N) : t.val < 16 := (idx t).2.2.2.2.2.2.2.2.2.2.2.2.2.2
theorem first {t : Fin cfg0.N} (h : t.val % 16 = 0) : ¬ 1 ≤ t.val := by have := lt16 t; omega
theorem later {t : Fin cfg0.N} (h : ¬ t.val % 16 = 0) : 1 ≤ t.val := by omega

theorem dz_pt (I : Ins m c a) (t : Fin cfg0.N) (j : S512x1024.Idx) : (outsAt0 m c t.val t.isLt).1 j = (((pt a t).dz (j 0) (j 1) : ℝ) : EReal) := by
  by_cases h : t.val % 16 = 0
  · exact dz_A m c t h (first h) (pt a t) (reads I t) j
  · exact dz_B m c t h (later h) (pt a t) (reads I t) j
theorem dgc_pt (I : Ins m c a) (t : Fin cfg0.N) (j : S512x512.Idx) : (outsAt0 m c t.val t.isLt).2.1 j = (((pt a t).dgc (j 0) (j 1) : ℝ) : EReal) := by
  by_cases h : t.val % 16 = 0
  · exact dgc_A m c t h (first h) (pt a t) (reads I t) j
  · exact dgc_B m c t h (later h) (pt a t) (reads I t) j

def dgcG (a : Mix.Args) (i : S8192x512.Idx) : EReal := ((a.dgc (i 0) (i 1) : ℝ) : EReal)
theorem fin_dgc (I : Ins m c a) : (dats m 0 c).arrAt 13 cfg0.N = (dgcG a : FVec Ideal S8192x512 .f32) := by
  refine (dats m 0 c).arrAt_eq_of_covers 13 _ (by decide +kernel) fun t hf y => ?_
  blk_simp
  rw [after0_13]
  refine (dgc_pt I t _).trans ?_
  refine Eq.trans (b := dgcG a (ix2 (rg t (y 0)) (y 1))) rfl ?_
  blk_ext [rg, idx t]

theorem fin_dw (I : Ins m c a) (j : S8x128x128.Idx) : ((dats m 0 c).arrAt 14 cfg0.N : FVec Ideal S8x128x128 .f32) j = ((a.dw (j 0) (j 1) (j 2) : ℝ) : EReal) := by
  have e : ((dats m 0 c).arrAt 14 cfg0.N : FVec Ideal S8x128x128 .f32) = fun j => ((a.dw (j 0) (j 1) (j 2) : ℝ) : EReal) := by
    refine (dats m 0 c).arrAt_eq_of_after_last 14 t0_15 (by decide +kernel) _ fun j => ?_
    blk_simp
    rw [after0_14, Pipeline.eq_sum_fin_of_reset_step_apply_last (fun n h => (outsAt0 m c n h).2.2.1) 16 (fun _ => 0) (fun t j => (((pt a t).dw (j 0) (j 1) (j 2) : ℝ) : EReal))
      (fun t h j => ((dw_A m c t h (first h) (pt a t) (reads I t) j).trans (zero_add _).symm))
      (fun t h j => dw_B m c t h (later h) (pt a t) (reads I t) j)
      (le_of_eq N_0) t0_15 rfl j, zero_add]
    exact (Mix.coe_sum _ _).trans (congrArg Real.toEReal (all_dw a (j 0) (j 1) (j 2)))
  exact congrFun e j

theorem fin_dsb (I : Ins m c a) (j : S8x128.Idx) : ((dats m 0 c).arrAt 15 cfg0.N : FVec Ideal S8x128 .f32) j = ((a.dsb (j 0) (j 1) : ℝ) : EReal) := by
  have e : ((dats m 0 c).arrAt 15 cfg0.N : FVec Ideal S8x128 .f32) = fun j => ((a.dsb (j 0) (j 1) : ℝ) : EReal) := by
    refine (dats m 0 c).arrAt_eq_of_after_last 15 t0_15 (by decide +kernel) _ fun j => ?_
    blk_simp
    rw [after0_15, Pipeline.eq_sum_fin_of_reset_step_apply_last (fun n h => (outsAt0 m c n h).2.2.2.1) 16 (fun _ => 0) (fun t j => (((pt a t).dsb (j 0) (j 1) : ℝ) : EReal))
      (fun t h j => ((dsb_A m c t h (first h) (pt a t) (reads I t) j).trans (zero_add _).symm))
      (fun t h j => dsb_B m c t h (later h) (pt a t) (reads I t) j)
      (le_of_eq N_0) t0_15 rfl j, zero_add]
    exact (Mix.coe_sum _ _).trans (congrArg Real.toEReal (all_dsb a (j 0) (j 1)))
  exact congrFun e j

theorem fin_dvg (I : Ins m c a) (j : S1x512.Idx) : ((dats m 0 c).arrAt 16 cfg0.N : FVec Ideal S1x512 .f32) j = ((a.dvg (j 1) : ℝ) : EReal) := by
  have e : ((dats m 0 c).arrAt 16 cfg0.N : FVec Ideal S1x512 .f32) = fun j => ((a.dvg (j 1) : ℝ) : EReal) := by
    refine (dats m 0 c).arrAt_eq_of_after_last 16 t0_15 (by decide +kernel) _ fun j => ?_
    blk_simp
    rw [after0_16, Pipeline.eq_sum_fin_of_reset_step_apply_last (fun n h => (outsAt0 m c n h).2.2.2.2.1) 16 (fun _ => 0) (fun t j => (((pt a t).dvg (j 1) : ℝ) : EReal))
      (fun t h j => ((dvg_A m c t h (first h) (pt a t) (reads I t) j).trans (zero_add _).symm))
      (fun t h j => dvg_B m c t h (later h) (pt a t) (reads I t) j)
      (le_of_eq N_0) t0_15 rfl j, zero_add]
    exact (Mix.coe_sum _ _).trans (congrArg Real.toEReal (all_dvg a (j 1)))
  exact congrFun e j

theorem fin_dvb (I : Ins m c a) (j : S1x512.Idx) : ((dats m 0 c).arrAt 17 cfg0.N : FVec Ideal S1x512 .f32) j = ((a.dvb (j 1) : ℝ) : EReal) := by
  have e : ((dats m 0 c).arrAt 17 cfg0.N : FVec Ideal S1x512 .f32) = fun j => ((a.dvb (j 1) : ℝ) : EReal) := by
    refine (dats m 0 c).arrAt_eq_of_after_last 17 t0_15 (by decide +kernel) _ fun j => ?_
    blk_simp
    rw [after0_17, Pipeline.eq_sum_fin_of_reset_step_apply_last (fun n h => (outsAt0 m c n h).2.2.2.2.2.1) 16 (fun _ => 0) (fun t j => (((pt a t).dvb (j 1) : ℝ) : EReal))
      (fun t h j => ((dvb_A m c t h (first h) (pt a t) (reads I t) j).trans (zero_add _).symm))
      (fun t h j => dvb_B m c t h (later h) (pt a t) (reads I t) j)
      (le_of_eq N_0) t0_15 rfl j, zero_add]
    exact (Mix.coe_sum _ _).trans (congrArg Real.toEReal (all_dvb a (j 1)))
  exact congrFun e j

theorem fin_dcg (I : Ins m c a) (j : S1x512.Idx) : ((dats m 0 c).arrAt 18 cfg0.N : FVec Ideal S1x512 .f32) j = ((a.dcg (j 1) : ℝ) : EReal) := by
  have e : ((dats m 0 c).arrAt 18 cfg0.N : FVec Ideal S1x512 .f32) = fun j => ((a.dcg (j 1) : ℝ) : EReal) := by
    refine (dats m 0 c).arrAt_eq_of_after_last 18 t0_15 (by decide +kernel) _ fun j => ?_
    blk_simp
    rw [after0_18, Pipeline.eq_sum_fin_of_reset_step_apply_last (fun n h => (outsAt0 m c n h).2.2.2.2.2.2.1) 16 (fun _ => 0) (fun t j => (((pt a t).dcg (j 1) : ℝ) : EReal))
      (fun t h j => ((dcg_A m c t h (first h) (pt a t) (reads I t) j).trans (zero_add _).symm))
      (fun t h j => dcg_B m c t h (later h) (pt a t) (reads I t) j)
      (le_of_eq N_0) t0_15 rfl j, zero_add]
    exact (Mix.coe_sum _ _).trans (congrArg Real.toEReal (all_dcg a (j 1)))
  exact congrFun e j

theorem fin_dcn (I : Ins m c a) (j : S1x512.Idx) : ((dats m 0 c).arrAt 19 cfg0.N : FVec Ideal S1x512 .f32) j = ((a.dcn (j 1) : ℝ) : EReal) := by
  have e : ((dats m 0 c).arrAt 19 cfg0.N : FVec Ideal S1x512 .f32) = fun j => ((a.dcn (j 1) : ℝ) : EReal) := by
    refine (dats m 0 c).arrAt_eq_of_after_last 19 t0_15 (by decide +kernel) _ fun j => ?_
    blk_simp
    rw [after0_19, Pipeline.eq_sum_fin_of_reset_step_apply_last (fun n h => (outsAt0 m c n h).2.2.2.2.2.2.2.1) 16 (fun _ => 0) (fun t j => (((pt a t).dcn (j 1) : ℝ) : EReal))
      (fun t h j => ((dcn_A m c t h (first h) (pt a t) (reads I t) j).trans (zero_add _).symm))
      (fun t h j => dcn_B m c t h (later h) (pt a t) (reads I t) j)
      (le_of_eq N_0) t0_15 rfl j, zero_add]
    exact (Mix.coe_sum _ _).trans (congrArg Real.toEReal (all_dcn a (j 1)))
  exact congrFun e j

theorem fin_dcb (I : Ins m c a) (j : S1x512.Idx) : ((dats m 0 c).arrAt 20 cfg0.N : FVec Ideal S1x512 .f32) j = ((a.dcb (j 1) : ℝ) : EReal) := by
  have e : ((dats m 0 c).arrAt 20 cfg0.N : FVec Ideal S1x512 .f32) = fun j => ((a.dcb (j 1) : ℝ) : EReal) := by
    refine (dats m 0 c).arrAt_eq_of_after_last 20 t0_15 (by decide +kernel) _ fun j => ?_
    blk_simp
    rw [after0_20, Pipeline.eq_sum_fin_of_reset_step_apply_last (fun n h => (outsAt0 m c n h).2.2.2.2.2.2.2.2) 16 (fun _ => 0) (fun t j => (((pt a t).dcb (j 1) : ℝ) : EReal))
      (fun t h j => ((dcb_A m c t h (first h) (pt a t) (reads I t) j).trans (zero_add _).symm))
      (fun t h j => dcb_B m c t h (later h) (pt a t) (reads I t) j)
      (le_of_eq N_0) t0_15 rfl j, zero_add]
    exact (Mix.coe_sum _ _).trans (congrArg Real.toEReal (all_dcb a (j 1)))
  exact congrFun e j

/-- The first result's two written quarters. -/
def dzG (a : Mix.Args) (i : S8192x2048.Idx) : EReal :=
  if h : (i 1).val < 512 then ((a.dzl (i 0) ⟨(i 1).val, h⟩ : ℝ) : EReal)
  else if h' : (i 1).val < 1024 then ((a.dzr (i 0) ⟨(i 1).val - 512, by omega⟩ : ℝ) : EReal) else 0

theorem pt_dz (t : Fin cfg0.N) (r : Fin 512) (k : Fin 1024) (i : S8192x2048.Idx) (h0 : i 0 = rg t r) (h1 : (i 1).val = k.val) :
    (((pt a t).dz r k : ℝ) : EReal) = dzG a i := by
  unfold dzG Pt.dz
  by_cases h : k.val < 512
  · have hi : (i 1).val < 512 := by omega
    rw [dif_pos hi]
    refine congrArg Real.toEReal ?_
    refine (halves_lo _ _ r r k ⟨k.val, h⟩ rfl rfl).symm.trans ?_
    have e : (⟨(i 1).val, hi⟩ : Fin 512) = ⟨k.val, h⟩ := Fin.ext h1
    rw [pt_sv, e, h0]
    rfl
  · have hi : ¬ (i 1).val < 512 := by omega
    have hk : k.val < 1024 := k.isLt
    have hi' : (i 1).val < 1024 := by omega
    rw [dif_neg hi, dif_pos hi']
    refine congrArg Real.toEReal ?_
    refine (halves_hi _ _ r r k ⟨k.val - 512, by omega⟩ rfl (by show k.val = 512 + (k.val - 512); omega)).symm.trans ?_
    have e : (⟨(i 1).val - 512, by omega⟩ : Fin 512) = ⟨k.val - 512, by omega⟩ := Fin.ext (by show (i 1).val - 512 = k.val - 512; omega)
    rw [pt_dvl', e, h0]
    rfl

theorem fin_dz (I : Ins m c a) (i : S8192x2048.Idx) (hi : (i 1).val < 1024) : ((dats m 0 c).arrAt 12 cfg0.N : FVec Ideal S8192x2048 .bf16) i = dzG a i := by
  refine ((dats m 0 c).arrAt_apply_of_coversWhere 12 (dzG a : FVec Ideal S8192x2048 .bf16) (P := fun i : S8192x2048.Idx => (i 1).val < 1024) (fun β => β 1 < 1) (by decide +kernel) (fun t hf y => ?_)
    (fun j => by blk_simp [Pipeline.Window.cell_apply]; omega) i).trans (if_pos hi)
  blk_simp
  rw [after0_12]
  refine (dz_pt I t _).trans (pt_dz t _ _ _ ?_ ?_)
  · apply Fin.ext
    blk_simp [rg, idx t]
    exact congrArg (· + _) (Nat.mul_comm _ _)
  · blk_simp [idx t]

end Blk
end
-- ==== Proof.RefA.lean ====
/- The reference's stages at arguments that are real: each is the real function of the real arguments. -/
module

public import proofs.«01_k».proof.Proof.Spec
public import proofs.«01_k».proof.Proof.Gen.ReferenceIdeal.Read

@[expose] public section

noncomputable section

namespace Stages

open Idealize.ShloMosaic Cert.ReferenceIdeal Cert.ReferenceIdeal.Read

variable (a : Mix.Args)

/-- The operations at real numbers, and the constants. -/
theorem ops :
    (∀ (φ : FTy) (x y : Ideal φ), FloatOps.mulf x y = x * y) ∧ (∀ (φ : FTy) (x y : Ideal φ), FloatOps.addf x y = x + y)
    ∧ (∀ (φ : FTy) (x y : Ideal φ), FloatOps.subf x y = x - y) ∧ (∀ (φ : FTy) (x y : Ideal φ), FloatOps.hostDivf x y = Ideal.div x y)
    ∧ (∀ (φ : FTy) (x : Ideal φ), FloatOps.hostNegf x = FloatOps.negf x) ∧ (∀ (φ : FTy) (x : Ideal φ), FloatOps.negf x = -x)
    ∧ (∀ (φ : FTy) (b : BitVec φ.bits), FloatOps.ofBits (F := Ideal) φ b = Ideal.ofBits φ b)
    ∧ (∀ (φ ψ : FTy) (h : ψ.bits < φ.bits) (x : Ideal φ), FloatOps.truncf ψ h x = x)
    ∧ (∀ (φ : FTy) (x : Ideal φ), FloatOps.hostUnary .tanh x = Ideal.tanh x) ∧ (∀ (φ : FTy) (x : Ideal φ), FloatOps.hostUnary .exp x = Ideal.exp x)
    ∧ (∀ (φ : FTy) (x : Ideal φ), FloatOps.hostUnary .rsqrt x = Ideal.rsqrt x)
    ∧ (∀ r : ℝ, Ideal.tanh r = (Real.tanh r : EReal)) ∧ (∀ r : ℝ, Ideal.exp r = (Real.exp r : EReal))
    ∧ (∀ v : Fin 512 → ℝ, Ideal.rsqrt (Mix.vare v : EReal) = (Mix.rst v : EReal))
    ∧ (∀ (x : ℝ) (v : Fin 512 → ℝ), Ideal.div (x : EReal) (Mix.vare v : EReal) = ((x / Mix.vare v : ℝ) : EReal))
    ∧ (∀ x : ℝ, Ideal.div (x : EReal) ((512 : ℝ) : EReal) = ((x / 512 : ℝ) : EReal))
    ∧ (∀ x : ℝ, Ideal.div (x : EReal) ((1000000 : ℝ) : EReal) = ((x / 1000000 : ℝ) : EReal))
    ∧ (∀ x : ℝ, Ideal.div ((1 : ℝ) : EReal) ((1 + Real.exp x : ℝ) : EReal) = ((1 / (1 + Real.exp x) : ℝ) : EReal))
    ∧ Ideal.ofBits .f32 0x00000000#32 = ((0 : ℝ) : EReal) ∧ Ideal.ofBits .f32 0x3F000000#32 = ((1 / 2 : ℝ) : EReal)
    ∧ Ideal.ofBits .f32 0xBF000000#32 = ((-1 / 2 : ℝ) : EReal) ∧ Ideal.ofBits .f32 0x3F800000#32 = ((1 : ℝ) : EReal)
    ∧ Ideal.ofBits .f32 0x40000000#32 = ((2 : ℝ) : EReal) ∧ Ideal.ofBits .f32 0x40400000#32 = ((3 : ℝ) : EReal)
    ∧ Ideal.ofBits .f32 0x44000000#32 = ((512 : ℝ) : EReal) ∧ Ideal.ofBits .f32 0x3F4C422A#32 = (Mix.K : EReal)
    ∧ Ideal.ofBits .f32 0x358637BD#32 = (Mix.eps : EReal) ∧ Ideal.ofBits .f32 0x472EAB00#32 = ((44715 : ℝ) : EReal)
    ∧ Ideal.ofBits .f32 0x49742400#32 = ((1000000 : ℝ) : EReal)
    ∧ (∀ (ι : Type) (s : Finset ι) (f : ι → ℝ), ∑ i ∈ s, (f i : EReal) = ((∑ i ∈ s, f i : ℝ) : EReal))
    ∧ (∀ x y : ℝ, (x : EReal) * (y : EReal) = ((x * y : ℝ) : EReal)) ∧ (∀ x y : ℝ, (x : EReal) + (y : EReal) = ((x + y : ℝ) : EReal))
    ∧ (∀ x y : ℝ, (x : EReal) - (y : EReal) = ((x - y : ℝ) : EReal)) ∧ (∀ x : ℝ, -(x : EReal) = ((-x : ℝ) : EReal)) :=
  ⟨fun _ _ _ => rfl, fun _ _ _ => rfl, fun _ _ _ => rfl, fun _ _ _ => rfl, fun _ _ => rfl, fun _ _ => rfl, fun _ _ => rfl, fun _ _ _ _ => rfl,
    fun _ _ => rfl, fun _ _ => rfl, fun _ _ => rfl, fun _ => rfl, fun _ => rfl, Mix.rsqrt_vare, Mix.div_vare, Mix.div_512, Mix.div_1e6, Mix.div_sig,
    Mix.c_zero, Mix.c_half, Mix.c_neghalf, Mix.c_one, Mix.c_two, Mix.c_three, Mix.c_512, Mix.c_K, Mix.c_eps, Mix.c_44715, Mix.c_1e6,
    fun _ => Mix.coe_sum, fun x y => (EReal.coe_mul x y).symm, fun x y => (EReal.coe_add x y).symm, fun x y => (EReal.coe_sub x y).symm,
    fun x => (EReal.coe_neg x).symm⟩

/-! ## The arguments -/

def aD : (⟨S8192x1024, .f32⟩ : BufTy).Contents (Elt Ideal) := fun i => ((a.D (i 0) (i 1) : ℝ) : EReal)
def aZ : (⟨S8192x2048, .f32⟩ : BufTy).Contents (Elt Ideal) := fun i => ((a.Z (i 0) (i 1) : ℝ) : EReal)
def aC : (⟨S8192x512, .f32⟩ : BufTy).Contents (Elt Ideal) := fun i => ((a.C (i 0) (i 1) : ℝ) : EReal)
def aW : (⟨S8x128x128, .f32⟩ : BufTy).Contents (Elt Ideal) := fun i => ((a.W (i 0) (i 1) (i 2) : ℝ) : EReal)
def aB : (⟨S8x128, .f32⟩ : BufTy).Contents (Elt Ideal) := fun i => ((a.B (i 0) (i 1) : ℝ) : EReal)
def avg : (⟨S512, .f32⟩ : BufTy).Contents (Elt Ideal) := fun i => ((a.vg (i 0) : ℝ) : EReal)
def avb : (⟨S512, .f32⟩ : BufTy).Contents (Elt Ideal) := fun i => ((a.vb (i 0) : ℝ) : EReal)
def acb : (⟨S512, .f32⟩ : BufTy).Contents (Elt Ideal) := fun i => ((a.cb (i 0) : ℝ) : EReal)
def acg : (⟨S512, .f32⟩ : BufTy).Contents (Elt Ideal) := fun i => ((a.cg (i 0) : ℝ) : EReal)
def acn : (⟨S512, .f32⟩ : BufTy).Contents (Elt Ideal) := fun i => ((a.cn (i 0) : ℝ) : EReal)

/-! ## Reshapes between 8192 rows of 512 and 64 runs of 128 rows of 8 groups of 64 -/

theorem reshape_row (i : S64x128x8x64.Idx) : (idx_main_v55 i 0 : Fin 8192) = Mix.row (i 0) (i 1) := Fin.ext (by
  have h2 : (i 2).val < 8 := (i 2).isLt
  have h3 : (i 3).val < 64 := (i 3).isLt
  show ((((i 0).val * 128 + (i 1).val) * 8 + (i 2).val) * 64 + (i 3).val) / 512 = 128 * (i 0).val + (i 1).val
  omega)
theorem reshape_col (i : S64x128x8x64.Idx) : (idx_main_v55 i 1 : Fin 512) = Mix.col (i 2) (i 3) := Fin.ext (by
  have h2 : (i 2).val < 8 := (i 2).isLt
  have h3 : (i 3).val < 64 := (i 3).isLt
  show ((((i 0).val * 128 + (i 1).val) * 8 + (i 2).val) * 64 + (i 3).val) % 512 = 64 * (i 2).val + (i 3).val
  omega)
theorem back_run (i : S8192x512.Idx) : (idx_main_v63 i 0 : Fin 64) = Mix.chunk (i 0) := Fin.ext (by
  have h1 : (i 1).val < 512 := (i 1).isLt
  show ((i 0).val * 512 + (i 1).val) / 65536 = (i 0).val / 128
  omega)
theorem back_pos (i : S8192x512.Idx) : (idx_main_v63 i 1 : Fin 128) = Mix.pos (i 0) := Fin.ext (by
  have h1 : (i 1).val < 512 := (i 1).isLt
  show ((i 0).val * 512 + (i 1).val) / 512 % 128 = (i 0).val % 128
  omega)
theorem back_grp (i : S8192x512.Idx) : (idx_main_v63 i 2 : Fin 8) = Mix.grp (i 1) := Fin.ext (by
  have h1 : (i 1).val < 512 := (i 1).isLt
  show ((i 0).val * 512 + (i 1).val) / 64 % 8 = (i 1).val / 64
  omega)
theorem back_col (i : S8192x512.Idx) : Mix.col (idx_main_v63 i 2) (idx_main_v63 i 3) = i 1 := Fin.ext (by
  have h1 : (i 1).val < 512 := (i 1).isLt
  show 64 * (((i 0).val * 512 + (i 1).val) / 64 % 8) + ((i 0).val * 512 + (i 1).val) % 64 = (i 1).val
  omega)
theorem row_one (i : S1x512.Idx) : (idx_main_v103 i 0 : Fin 512) = i 1 := Fin.ext (by
  have h : (i 0).val < 1 := (i 0).isLt
  show (i 0).val * 512 + (i 1).val = (i 1).val
  omega)
theorem col_one (i : S8192x1.Idx) : (idx_main_v113 i 0 : Fin 8192) = i 0 := Fin.ext (by
  have h : (i 1).val < 1 := (i 1).isLt
  show (i 0).val * 1 + (i 1).val = (i 0).val
  omega)

theorem back_sv (i : S8192x512.Idx) :
    (∑ q, a.W (idx_main_v63 i 2) (idx_main_v63 i 1) q * a.vl (Mix.row (idx_main_v63 i 0) q) (Mix.col (idx_main_v63 i 2) (idx_main_v63 i 3)))
      + a.B (idx_main_v63 i 2) (idx_main_v63 i 1) = a.sv (i 0) (i 1) := by
  rw [back_col, back_run, back_pos, back_grp]; rfl
theorem back_dvl (i : S8192x512.Idx) :
    (∑ p, a.W (idx_main_v63 i 2) p (idx_main_v63 i 1) * a.dsv (Mix.row (idx_main_v63 i 0) p) (Mix.col (idx_main_v63 i 2) (idx_main_v63 i 3)))
      = a.dvl (i 0) (i 1) := by
  rw [back_col, back_run, back_pos, back_grp]; rfl

/-! ## The smooth rectifier -/

theorem r_0 (i : S8192x1024.Idx) : val_main_v0 (F := Ideal) (aZ a) i = (((a.zz (i 0) (i 1)) : ℝ) : EReal) := by
  simp only [val_main_v0_apply, ops, zero_add]
  <;> rfl

theorem r_1 (i : S8192x1024.Idx) : val_main_v1 (F := Ideal) (aZ a) i = (((a.zz (i 0) (i 1)) * (a.zz (i 0) (i 1)) : ℝ) : EReal) := by
  simp only [val_main_v1_apply, r_0, ops, zero_add]
  <;> rfl

theorem r_2 (i : S8192x1024.Idx) : val_main_v2 (F := Ideal) (aZ a) i = (((a.zz (i 0) (i 1)) * (a.zz (i 0) (i 1)) * (a.zz (i 0) (i 1)) : ℝ) : EReal) := by
  simp only [val_main_v2_apply, r_1, r_0, ops, zero_add]
  <;> rfl

theorem r_3 (i : S8192x1024.Idx) : val_main_v3 (F := Ideal) (aZ a) i = (((a.zz (i 0) (i 1)) * (a.zz (i 0) (i 1)) : ℝ) : EReal) := by
  simp only [val_main_v3_apply, r_0, ops, zero_add]
  <;> rfl

theorem r_5 (i : S8192x1024.Idx) : val_main_v5 (F := Ideal) (aZ a) i = ((3 * ((a.zz (i 0) (i 1)) * (a.zz (i 0) (i 1))) : ℝ) : EReal) := by
  simp only [val_main_v5_apply, val_main_v4_apply, val_main_cst_apply, r_3, ops, zero_add]
  <;> rfl

theorem r_7 (i : S8192x1024.Idx) : val_main_v7 (F := Ideal) (aZ a) i = ((44715 * ((a.zz (i 0) (i 1)) * (a.zz (i 0) (i 1)) * (a.zz (i 0) (i 1))) : ℝ) : EReal) := by
  simp only [val_main_v7_apply, val_main_v6_apply, val_main_cst_0_apply, r_2, ops, zero_add]
  <;> rfl

theorem r_9 (i : S8192x1024.Idx) : val_main_v9 (F := Ideal) (aZ a) i = ((44715 * ((a.zz (i 0) (i 1)) * (a.zz (i 0) (i 1)) * (a.zz (i 0) (i 1))) / 1000000 : ℝ) : EReal) := by
  simp only [val_main_v9_apply, r_7, val_main_v8_apply, val_main_cst_1_apply, ops, zero_add]
  <;> rfl

theorem r_10 (i : S8192x1024.Idx) : val_main_v10 (F := Ideal) (aZ a) i = (((a.zz (i 0) (i 1)) + 44715 * ((a.zz (i 0) (i 1)) * (a.zz (i 0) (i 1)) * (a.zz (i 0) (i 1))) / 1000000 : ℝ) : EReal) := by
  simp only [val_main_v10_apply, r_0, r_9, ops, zero_add]
  <;> rfl

theorem r_13 (i : S8192x1024.Idx) : val_main_v13 (F := Ideal) (aZ a) i = ((Mix.th (a.zz (i 0) (i 1)) : ℝ) : EReal) := by
  simp only [val_main_v13_apply, val_main_v11_apply, val_main_cst_2_apply, r_10, val_main_v12_apply, ops, zero_add]
  <;> exact congrArg (fun x => ((Real.tanh x : ℝ) : EReal)) (by ring)

theorem r_15 (i : S8192x1024.Idx) : val_main_v15 (F := Ideal) (aZ a) i = ((1 + Mix.th (a.zz (i 0) (i 1)) : ℝ) : EReal) := by
  simp only [val_main_v15_apply, val_main_v14_apply, val_main_cst_3_apply, r_13, ops, zero_add]
  <;> rfl

theorem r_17 (i : S8192x1024.Idx) : val_main_v17 (F := Ideal) (aZ a) i = ((1 - Mix.th (a.zz (i 0) (i 1)) : ℝ) : EReal) := by
  simp only [val_main_v17_apply, val_main_v16_apply, val_main_cst_4_apply, r_13, ops, zero_add]
  <;> rfl

theorem r_18 (i : S8192x1024.Idx) : val_main_v18 (F := Ideal) (aZ a) i = (((1 + Mix.th (a.zz (i 0) (i 1))) * (1 - Mix.th (a.zz (i 0) (i 1))) : ℝ) : EReal) := by
  simp only [val_main_v18_apply, r_15, r_17, ops, zero_add]
  <;> rfl

theorem r_20 (i : S8192x1024.Idx) : val_main_v20 (F := Ideal) (aZ a) i = ((1 + Mix.th (a.zz (i 0) (i 1)) : ℝ) : EReal) := by
  simp only [val_main_v20_apply, val_main_v19_apply, val_main_cst_5_apply, r_13, ops, zero_add]
  <;> rfl

theorem r_22 (i : S8192x1024.Idx) : val_main_v22 (F := Ideal) (aZ a) i = ((1 / 2 * (1 + Mix.th (a.zz (i 0) (i 1))) : ℝ) : EReal) := by
  simp only [val_main_v22_apply, val_main_v21_apply, val_main_cst_6_apply, r_20, ops, zero_add]
  <;> rfl

theorem r_23 (i : S8192x1024.Idx) : val_main_v23 (F := Ideal) (aZ a) i = ((Mix.gl (a.zz (i 0) (i 1)) : ℝ) : EReal) := by
  simp only [val_main_v23_apply, r_0, r_22, ops, zero_add]
  <;> exact congrArg _ (by unfold Mix.gl; ring)

theorem r_24 (i : S8192x512.Idx) : val_main_v24 (F := Ideal) (aZ a) i = ((Mix.gl (a.zu (i 0) (i 1)) : ℝ) : EReal) := by
  simp only [val_main_v24_apply, r_23, ops, zero_add]
  <;> rfl

theorem r_25 (i : S8192x512.Idx) : val_main_v25 (F := Ideal) (aZ a) i = ((a.V (i 0) (i 1) : ℝ) : EReal) := by
  simp only [val_main_v25_apply, r_23, ops, zero_add]
  <;> rfl

/-! ## The value's normalisation -/

theorem r_26 (i : S8192.Idx) : val_main_v26 (F := Ideal) (aZ a) i = ((∑ k, a.V (i 0) k : ℝ) : EReal) := by
  simp only [val_main_v26_apply, r_25, val_main_cst_7_apply, ops, zero_add]
  <;> rfl

theorem r_27 (i : S8192x1.Idx) : val_main_v27 (F := Ideal) (aZ a) i = ((∑ k, a.V (i 0) k : ℝ) : EReal) := by
  simp only [val_main_v27_apply, r_26, ops, zero_add]
  <;> rfl

theorem r_29 (i : S8192x1.Idx) : val_main_v29 (F := Ideal) (aZ a) i = ((Mix.mean (a.V (i 0)) : ℝ) : EReal) := by
  simp only [val_main_v29_apply, r_27, val_main_v28_apply, val_main_cst_8_apply, ops, zero_add]
  <;> rfl

theorem r_30 (i : S8192x512.Idx) : val_main_v30 (F := Ideal) (aZ a) i = ((Mix.mean (a.V (i 0)) : ℝ) : EReal) := by
  simp only [val_main_v30_apply, r_29, ops, zero_add]
  <;> rfl

theorem r_31 (i : S8192x512.Idx) : val_main_v31 (F := Ideal) (aZ a) i = ((Mix.cen (a.V (i 0)) (i 1) : ℝ) : EReal) := by
  simp only [val_main_v31_apply, r_25, r_30, ops, zero_add]
  <;> rfl

theorem r_32 (i : S8192x512.Idx) : val_main_v32 (F := Ideal) (aZ a) i = ((Mix.cen (a.V (i 0)) (i 1) * Mix.cen (a.V (i 0)) (i 1) : ℝ) : EReal) := by
  simp only [val_main_v32_apply, r_31, ops, zero_add]
  <;> rfl

theorem r_34 (i : S8192x512.Idx) : val_main_v34 (F := Ideal) (aZ a) i = ((2 * Mix.cen (a.V (i 0)) (i 1) : ℝ) : EReal) := by
  simp only [val_main_v34_apply, val_main_v33_apply, val_main_cst_9_apply, r_31, ops, zero_add]
  <;> rfl

theorem r_35 (i : S8192.Idx) : val_main_v35 (F := Ideal) (aZ a) i = ((∑ k, Mix.cen (a.V (i 0)) k * Mix.cen (a.V (i 0)) k : ℝ) : EReal) := by
  simp only [val_main_v35_apply, r_32, val_main_cst_10_apply, ops, zero_add]
  <;> rfl

theorem r_36 (i : S8192x1.Idx) : val_main_v36 (F := Ideal) (aZ a) i = ((∑ k, Mix.cen (a.V (i 0)) k * Mix.cen (a.V (i 0)) k : ℝ) : EReal) := by
  simp only [val_main_v36_apply, r_35, ops, zero_add]
  <;> rfl

theorem r_38 (i : S8192x1.Idx) : val_main_v38 (F := Ideal) (aZ a) i = (((∑ k, Mix.cen (a.V (i 0)) k * Mix.cen (a.V (i 0)) k) / 512 : ℝ) : EReal) := by
  simp only [val_main_v38_apply, r_36, val_main_v37_apply, val_main_cst_11_apply, ops, zero_add]
  <;> rfl

theorem r_39 (i : S8192x512.Idx) : val_main_v39 (F := Ideal) (aZ a) i = ((Mix.mean (a.V (i 0)) : ℝ) : EReal) := by
  simp only [val_main_v39_apply, r_29, ops, zero_add]
  <;> rfl

theorem r_40 (i : S8192x512.Idx) : val_main_v40 (F := Ideal) (aZ a) i = ((Mix.cen (a.V (i 0)) (i 1) : ℝ) : EReal) := by
  simp only [val_main_v40_apply, r_25, r_39, ops, zero_add]
  <;> rfl

theorem r_42 (i : S8192x1.Idx) : val_main_v42 (F := Ideal) (aZ a) i = ((Mix.vare (a.V (i 0)) : ℝ) : EReal) := by
  simp only [val_main_v42_apply, r_38, val_main_v41_apply, val_main_cst_12_apply, ops, zero_add]
  <;> rfl

theorem r_43 (i : S8192x1.Idx) : val_main_v43 (F := Ideal) (aZ a) i = ((Mix.rst (a.V (i 0)) : ℝ) : EReal) := by
  simp only [val_main_v43_apply, r_42, ops, zero_add]
  <;> rfl

theorem r_44 (i : S8192x1.Idx) : val_main_v44 (F := Ideal) (aZ a) i = ((Mix.rst (a.V (i 0)) / Mix.vare (a.V (i 0)) : ℝ) : EReal) := by
  simp only [val_main_v44_apply, r_43, r_42, ops, zero_add]
  <;> rfl

theorem r_46 (i : S8192x1.Idx) : val_main_v46 (F := Ideal) (aZ a) i = ((-1 / 2 * (Mix.rst (a.V (i 0)) / Mix.vare (a.V (i 0))) : ℝ) : EReal) := by
  simp only [val_main_v46_apply, val_main_v45_apply, val_main_cst_13_apply, r_44, ops, zero_add]
  <;> rfl

theorem r_47 (i : S8192x512.Idx) : val_main_v47 (F := Ideal) (aZ a) i = ((Mix.rst (a.V (i 0)) : ℝ) : EReal) := by
  simp only [val_main_v47_apply, r_43, ops, zero_add]
  <;> rfl

theorem r_48 (i : S8192x512.Idx) : val_main_v48 (F := Ideal) (aZ a) i = ((Mix.nrm (a.V (i 0)) (i 1) : ℝ) : EReal) := by
  simp only [val_main_v48_apply, r_40, r_47, ops, zero_add]
  <;> rfl

theorem r_49 (i : S1x512.Idx) : val_main_v49 (F := Ideal) (avg a) i = ((a.vg (i 1) : ℝ) : EReal) := by
  simp only [val_main_v49_apply, ops, zero_add]
  <;> rfl

theorem r_50 (i : S8192x512.Idx) : val_main_v50 (F := Ideal) (avg a) i = ((a.vg (i 1) : ℝ) : EReal) := by
  simp only [val_main_v50_apply, r_49, ops, zero_add]
  <;> rfl

theorem r_51 (i : S8192x512.Idx) : val_main_v51 (F := Ideal) (aZ a) (avg a) i = ((Mix.nrm (a.V (i 0)) (i 1) * a.vg (i 1) : ℝ) : EReal) := by
  simp only [val_main_v51_apply, r_48, r_50, ops, zero_add]
  <;> rfl

theorem r_52 (i : S1x512.Idx) : val_main_v52 (F := Ideal) (avb a) i = ((a.vb (i 1) : ℝ) : EReal) := by
  simp only [val_main_v52_apply, ops, zero_add]
  <;> rfl

theorem r_53 (i : S8192x512.Idx) : val_main_v53 (F := Ideal) (avb a) i = ((a.vb (i 1) : ℝ) : EReal) := by
  simp only [val_main_v53_apply, r_52, ops, zero_add]
  <;> rfl

theorem r_54 (i : S8192x512.Idx) : val_main_v54 (F := Ideal) (aZ a) (avg a) (avb a) i = ((a.vl (i 0) (i 1) : ℝ) : EReal) := by
  simp only [val_main_v54_apply, r_51, r_53, ops, zero_add]
  <;> rfl

/-! ## The spatial product -/

theorem r_55 (i : S64x128x8x64.Idx) : val_main_v55 (F := Ideal) (aZ a) (avg a) (avb a) i = ((a.vl (Mix.row (i 0) (i 1)) (Mix.col (i 2) (i 3)) : ℝ) : EReal) := by
  simp only [val_main_v55_apply, r_54, ops, zero_add]
  <;> exact congrArg (fun x : ℝ => (x : EReal)) (congrArg₂ a.vl (reshape_row i) (reshape_col i))

theorem r_56 (i : S8x64x64x128.Idx) : val_main_v56 (F := Ideal) (aZ a) (aW a) (avg a) (avb a) i = ((∑ q, a.W (i 0) (i 3) q * a.vl (Mix.row (i 1) q) (Mix.col (i 0) (i 2)) : ℝ) : EReal) := by
  simp only [val_main_v56_apply, r_55, aW, ops, zero_add]
  <;> exact congrArg (fun x : ℝ => (x : EReal)) (Finset.sum_congr rfl fun q _ => mul_comm _ _)

theorem r_57 (i : S64x128x8x64.Idx) : val_main_v57 (F := Ideal) (aZ a) (aW a) (avg a) (avb a) i = ((∑ q, a.W (i 2) (i 1) q * a.vl (Mix.row (i 0) q) (Mix.col (i 2) (i 3)) : ℝ) : EReal) := by
  simp only [val_main_v57_apply, r_56, ops, zero_add]
  <;> rfl

theorem r_58 (i : S128x8.Idx) : val_main_v58 (F := Ideal) (aB a) i = ((a.B (i 1) (i 0) : ℝ) : EReal) := by
  simp only [val_main_v58_apply, ops, zero_add]
  <;> rfl

theorem r_59 (i : S128x8x1.Idx) : val_main_v59 (F := Ideal) (aB a) i = ((a.B (i 1) (i 0) : ℝ) : EReal) := by
  simp only [val_main_v59_apply, r_58, ops, zero_add]
  <;> rfl

theorem r_60 (i : S1x128x8x1.Idx) : val_main_v60 (F := Ideal) (aB a) i = ((a.B (i 2) (i 1) : ℝ) : EReal) := by
  simp only [val_main_v60_apply, r_59, ops, zero_add]
  <;> rfl

theorem r_61 (i : S64x128x8x64.Idx) : val_main_v61 (F := Ideal) (aB a) i = ((a.B (i 2) (i 1) : ℝ) : EReal) := by
  simp only [val_main_v61_apply, r_60, ops, zero_add]
  <;> rfl

theorem r_62 (i : S64x128x8x64.Idx) : val_main_v62 (F := Ideal) (aZ a) (aW a) (aB a) (avg a) (avb a) i = (((∑ q, a.W (i 2) (i 1) q * a.vl (Mix.row (i 0) q) (Mix.col (i 2) (i 3))) + a.B (i 2) (i 1) : ℝ) : EReal) := by
  simp only [val_main_v62_apply, r_57, r_61, ops, zero_add]
  <;> rfl

theorem r_63 (i : S8192x512.Idx) : val_main_v63 (F := Ideal) (aZ a) (aW a) (aB a) (avg a) (avb a) i = ((a.sv (i 0) (i 1) : ℝ) : EReal) := by
  simp only [val_main_v63_apply, r_62, ops, zero_add]
  <;> exact congrArg (fun x : ℝ => (x : EReal)) (back_sv a i)

/-! ## The convolution's normalisation and its gate -/

theorem r_65 (i : S1x512.Idx) : val_main_v65 (F := Ideal) (acb a) i = ((a.cb (i 1) : ℝ) : EReal) := by
  simp only [val_main_v65_apply, ops, zero_add]
  <;> rfl

theorem r_66 (i : S8192x512.Idx) : val_main_v66 (F := Ideal) (acb a) i = ((a.cb (i 1) : ℝ) : EReal) := by
  simp only [val_main_v66_apply, r_65, ops, zero_add]
  <;> rfl

theorem r_67 (i : S8192x512.Idx) : val_main_v67 (F := Ideal) (aC a) (acb a) i = ((a.G (i 0) (i 1) : ℝ) : EReal) := by
  simp only [val_main_v67_apply, r_66, aC, ops, zero_add]
  <;> rfl

theorem r_68 (i : S8192.Idx) : val_main_v68 (F := Ideal) (aC a) (acb a) i = ((∑ k, a.G (i 0) k : ℝ) : EReal) := by
  simp only [val_main_v68_apply, r_67, val_main_cst_14_apply, ops, zero_add]
  <;> rfl

theorem r_69 (i : S8192x1.Idx) : val_main_v69 (F := Ideal) (aC a) (acb a) i = ((∑ k, a.G (i 0) k : ℝ) : EReal) := by
  simp only [val_main_v69_apply, r_68, ops, zero_add]
  <;> rfl

theorem r_71 (i : S8192x1.Idx) : val_main_v71 (F := Ideal) (aC a) (acb a) i = ((Mix.mean (a.G (i 0)) : ℝ) : EReal) := by
  simp only [val_main_v71_apply, r_69, val_main_v70_apply, val_main_cst_15_apply, ops, zero_add]
  <;> rfl

theorem r_72 (i : S8192x512.Idx) : val_main_v72 (F := Ideal) (aC a) (acb a) i = ((Mix.mean (a.G (i 0)) : ℝ) : EReal) := by
  simp only [val_main_v72_apply, r_71, ops, zero_add]
  <;> rfl

theorem r_73 (i : S8192x512.Idx) : val_main_v73 (F := Ideal) (aC a) (acb a) i = ((Mix.cen (a.G (i 0)) (i 1) : ℝ) : EReal) := by
  simp only [val_main_v73_apply, r_67, r_72, ops, zero_add]
  <;> rfl

theorem r_74 (i : S8192x512.Idx) : val_main_v74 (F := Ideal) (aC a) (acb a) i = ((Mix.cen (a.G (i 0)) (i 1) * Mix.cen (a.G (i 0)) (i 1) : ℝ) : EReal) := by
  simp only [val_main_v74_apply, r_73, ops, zero_add]
  <;> rfl

theorem r_76 (i : S8192x512.Idx) : val_main_v76 (F := Ideal) (aC a) (acb a) i = ((2 * Mix.cen (a.G (i 0)) (i 1) : ℝ) : EReal) := by
  simp only [val_main_v76_apply, val_main_v75_apply, val_main_cst_16_apply, r_73, ops, zero_add]
  <;> rfl

theorem r_77 (i : S8192.Idx) : val_main_v77 (F := Ideal) (aC a) (acb a) i = ((∑ k, Mix.cen (a.G (i 0)) k * Mix.cen (a.G (i 0)) k : ℝ) : EReal) := by
  simp only [val_main_v77_apply, r_74, val_main_cst_17_apply, ops, zero_add]
  <;> rfl

theorem r_78 (i : S8192x1.Idx) : val_main_v78 (F := Ideal) (aC a) (acb a) i = ((∑ k, Mix.cen (a.G (i 0)) k * Mix.cen (a.G (i 0)) k : ℝ) : EReal) := by
  simp only [val_main_v78_apply, r_77, ops, zero_add]
  <;> rfl

theorem r_80 (i : S8192x1.Idx) : val_main_v80 (F := Ideal) (aC a) (acb a) i = (((∑ k, Mix.cen (a.G (i 0)) k * Mix.cen (a.G (i 0)) k) / 512 : ℝ) : EReal) := by
  simp only [val_main_v80_apply, r_78, val_main_v79_apply, val_main_cst_18_apply, ops, zero_add]
  <;> rfl

theorem r_81 (i : S8192x512.Idx) : val_main_v81 (F := Ideal) (aC a) (acb a) i = ((Mix.mean (a.G (i 0)) : ℝ) : EReal) := by
  simp only [val_main_v81_apply, r_71, ops, zero_add]
  <;> rfl

theorem r_82 (i : S8192x512.Idx) : val_main_v82 (F := Ideal) (aC a) (acb a) i = ((Mix.cen (a.G (i 0)) (i 1) : ℝ) : EReal) := by
  simp only [val_main_v82_apply, r_67, r_81, ops, zero_add]
  <;> rfl

theorem r_84 (i : S8192x1.Idx) : val_main_v84 (F := Ideal) (aC a) (acb a) i = ((Mix.vare (a.G (i 0)) : ℝ) : EReal) := by
  simp only [val_main_v84_apply, r_80, val_main_v83_apply, val_main_cst_19_apply, ops, zero_add]
  <;> rfl

theorem r_85 (i : S8192x1.Idx) : val_main_v85 (F := Ideal) (aC a) (acb a) i = ((Mix.rst (a.G (i 0)) : ℝ) : EReal) := by
  simp only [val_main_v85_apply, r_84, ops, zero_add]
  <;> rfl

theorem r_86 (i : S8192x1.Idx) : val_main_v86 (F := Ideal) (aC a) (acb a) i = ((Mix.rst (a.G (i 0)) / Mix.vare (a.G (i 0)) : ℝ) : EReal) := by
  simp only [val_main_v86_apply, r_85, r_84, ops, zero_add]
  <;> rfl

theorem r_88 (i : S8192x1.Idx) : val_main_v88 (F := Ideal) (aC a) (acb a) i = ((-1 / 2 * (Mix.rst (a.G (i 0)) / Mix.vare (a.G (i 0))) : ℝ) : EReal) := by
  simp only [val_main_v88_apply, val_main_v87_apply, val_main_cst_20_apply, r_86, ops, zero_add]
  <;> rfl

theorem r_89 (i : S8192x512.Idx) : val_main_v89 (F := Ideal) (aC a) (acb a) i = ((Mix.rst (a.G (i 0)) : ℝ) : EReal) := by
  simp only [val_main_v89_apply, r_85, ops, zero_add]
  <;> rfl

theorem r_90 (i : S8192x512.Idx) : val_main_v90 (F := Ideal) (aC a) (acb a) i = ((Mix.nrm (a.G (i 0)) (i 1) : ℝ) : EReal) := by
  simp only [val_main_v90_apply, r_82, r_89, ops, zero_add]
  <;> rfl

theorem r_91 (i : S1x512.Idx) : val_main_v91 (F := Ideal) (acg a) i = ((a.cg (i 1) : ℝ) : EReal) := by
  simp only [val_main_v91_apply, ops, zero_add]
  <;> rfl

theorem r_92 (i : S8192x512.Idx) : val_main_v92 (F := Ideal) (acg a) i = ((a.cg (i 1) : ℝ) : EReal) := by
  simp only [val_main_v92_apply, r_91, ops, zero_add]
  <;> rfl

theorem r_93 (i : S8192x512.Idx) : val_main_v93 (F := Ideal) (aC a) (acb a) (acg a) i = ((Mix.nrm (a.G (i 0)) (i 1) * a.cg (i 1) : ℝ) : EReal) := by
  simp only [val_main_v93_apply, r_90, r_92, ops, zero_add]
  <;> rfl

theorem r_94 (i : S1x512.Idx) : val_main_v94 (F := Ideal) (acn a) i = ((a.cn (i 1) : ℝ) : EReal) := by
  simp only [val_main_v94_apply, ops, zero_add]
  <;> rfl

theorem r_95 (i : S8192x512.Idx) : val_main_v95 (F := Ideal) (acn a) i = ((a.cn (i 1) : ℝ) : EReal) := by
  simp only [val_main_v95_apply, r_94, ops, zero_add]
  <;> rfl

theorem r_96 (i : S8192x512.Idx) : val_main_v96 (F := Ideal) (aC a) (acb a) (acg a) (acn a) i = ((a.yl (i 0) (i 1) : ℝ) : EReal) := by
  simp only [val_main_v96_apply, r_93, r_95, ops, zero_add]
  <;> rfl

theorem r_call0_v1 (i : S8192x512.Idx) : val_main_call0_v1 (F := Ideal) (aC a) (acb a) (acg a) (acn a) i = ((Real.exp (-(a.yl (i 0) (i 1))) : ℝ) : EReal) := by
  simp only [val_main_call0_v1_apply, r_96, val_main_call0_v0_apply, ops, zero_add]
  <;> rfl

theorem r_call0_v3 (i : S8192x512.Idx) : val_main_call0_v3 (F := Ideal) (aC a) (acb a) (acg a) (acn a) i = ((1 + Real.exp (-(a.yl (i 0) (i 1))) : ℝ) : EReal) := by
  simp only [val_main_call0_v3_apply, val_main_call0_v2_apply, val_main_call0_cst_apply, r_call0_v1, ops, zero_add]
  <;> rfl

theorem r_v97_2 (i : S8192x512.Idx) : val_main_v97_2 (F := Ideal) (aC a) (acb a) (acg a) (acn a) i = ((Mix.sig (a.yl (i 0) (i 1)) : ℝ) : EReal) := by
  simp only [val_main_v97_2_apply, val_main_call0_v4_apply, val_main_call0_cst_0_apply, r_call0_v3, ops, zero_add]
  <;> rfl

theorem r_v97_1 (i : S8192x512.Idx) : val_main_v97_1 (F := Ideal) (aC a) (acb a) (acg a) (acn a) i = ((Mix.sig (a.yl (i 0) (i 1)) * (1 - Mix.sig (a.yl (i 0) (i 1))) : ℝ) : EReal) := by
  simp only [val_main_v97_1_apply, r_v97_2, val_main_call0_v6_apply, val_main_call0_cst_1_apply, val_main_call0_v7_apply, ops, zero_add]
  <;> rfl

theorem r_99 (i : S8192x512.Idx) : val_main_v99 (F := Ideal) (aD a) i = ((a.dya (i 0) (i 1) : ℝ) : EReal) := by
  simp only [val_main_v99_apply, ops, zero_add]
  <;> rfl

theorem r_100 (i : S8192x512.Idx) : val_main_v100 (F := Ideal) (aD a) i = ((a.dyb (i 0) (i 1) : ℝ) : EReal) := by
  simp only [val_main_v100_apply, ops, zero_add]
  <;> rfl

theorem r_101 (i : S8192x512.Idx) : val_main_v101 (F := Ideal) (aD a) (aC a) (acb a) (acg a) (acn a) i = ((a.dyl (i 0) (i 1) : ℝ) : EReal) := by
  simp only [val_main_v101_apply, r_96, r_100, r_v97_2, r_v97_1, val_main_call1_v0_apply, val_main_call1_v1_apply, val_main_call1_v2_apply, ops, zero_add]
  <;> exact congrArg _ (by unfold Mix.Args.dyl Mix.swg; ring)

/-! ## The gradient through the convolution's normalisation -/

theorem r_102 (i : S512.Idx) : val_main_v102 (F := Ideal) (aD a) (aC a) (acb a) (acg a) (acn a) i = ((a.dcn (i 0) : ℝ) : EReal) := by
  simp only [val_main_v102_apply, r_101, val_main_cst_21_apply, ops, zero_add]
  <;> rfl

theorem r_103 (i : S1x512.Idx) : val_main_v103 (F := Ideal) (aD a) (aC a) (acb a) (acg a) (acn a) i = ((a.dcn (i 1) : ℝ) : EReal) := by
  simp only [val_main_v103_apply, r_102, ops, zero_add]
  <;> exact congrArg (fun j => ((a.dcn j : ℝ) : EReal)) (row_one i)

theorem r_104 (i : S512.Idx) : val_main_v104 (F := Ideal) (aD a) (aC a) (acb a) (acg a) (acn a) i = ((a.dcn (i 0) : ℝ) : EReal) := by
  simp only [val_main_v104_apply, r_103, val_main_cst_22_apply, Finset.univ_unique, Finset.sum_singleton, ops, zero_add]
  <;> rfl

theorem r_105 (i : S8192x512.Idx) : val_main_v105 (F := Ideal) (aD a) (aC a) (acb a) (acg a) (acn a) i = ((a.dyl (i 0) (i 1) * Mix.nrm (a.G (i 0)) (i 1) : ℝ) : EReal) := by
  simp only [val_main_v105_apply, r_90, r_101, ops, zero_add]
  <;> exact congrArg _ (by ring)

theorem r_106 (i : S512.Idx) : val_main_v106 (F := Ideal) (aD a) (aC a) (acb a) (acg a) (acn a) i = ((a.dcg (i 0) : ℝ) : EReal) := by
  simp only [val_main_v106_apply, r_105, val_main_cst_23_apply, ops, zero_add]
  <;> rfl

theorem r_107 (i : S1x512.Idx) : val_main_v107 (F := Ideal) (aD a) (aC a) (acb a) (acg a) (acn a) i = ((a.dcg (i 1) : ℝ) : EReal) := by
  simp only [val_main_v107_apply, r_106, ops, zero_add]
  <;> exact congrArg (fun j => ((a.dcg j : ℝ) : EReal)) (row_one i)

theorem r_108 (i : S8192x512.Idx) : val_main_v108 (F := Ideal) (acg a) i = ((a.cg (i 1) : ℝ) : EReal) := by
  simp only [val_main_v108_apply, r_91, ops, zero_add]
  <;> rfl

theorem r_109 (i : S8192x512.Idx) : val_main_v109 (F := Ideal) (aD a) (aC a) (acb a) (acg a) (acn a) i = (((a.dyl (i 0) (i 1) * a.cg (i 1)) : ℝ) : EReal) := by
  simp only [val_main_v109_apply, r_101, r_108, ops, zero_add]
  <;> rfl

theorem r_110 (i : S512.Idx) : val_main_v110 (F := Ideal) (aD a) (aC a) (acb a) (acg a) (acn a) i = ((a.dcg (i 0) : ℝ) : EReal) := by
  simp only [val_main_v110_apply, r_107, val_main_cst_24_apply, Finset.univ_unique, Finset.sum_singleton, ops, zero_add]
  <;> rfl

theorem r_111 (i : S8192x512.Idx) : val_main_v111 (F := Ideal) (aD a) (aC a) (acb a) (acg a) (acn a) i = ((Mix.cen (a.G (i 0)) (i 1) * (a.dyl (i 0) (i 1) * a.cg (i 1)) : ℝ) : EReal) := by
  simp only [val_main_v111_apply, r_82, r_109, ops, zero_add]
  <;> rfl

theorem r_112 (i : S8192.Idx) : val_main_v112 (F := Ideal) (aD a) (aC a) (acb a) (acg a) (acn a) i = (((∑ k, Mix.cen (a.G (i 0)) k * (a.dyl (i 0) k * a.cg k)) : ℝ) : EReal) := by
  simp only [val_main_v112_apply, r_111, val_main_cst_25_apply, ops, zero_add]
  <;> rfl

theorem r_113 (i : S8192x1.Idx) : val_main_v113 (F := Ideal) (aD a) (aC a) (acb a) (acg a) (acn a) i = (((∑ k, Mix.cen (a.G (i 0)) k * (a.dyl (i 0) k * a.cg k)) : ℝ) : EReal) := by
  simp only [val_main_v113_apply, r_112, ops, zero_add]
  <;> exact congrArg (fun R => ((((∑ k, Mix.cen (a.G R) k * (a.dyl R k * a.cg k))) : ℝ) : EReal)) (col_one i)

theorem r_114 (i : S8192x512.Idx) : val_main_v114 (F := Ideal) (aC a) (acb a) i = ((Mix.rst (a.G (i 0)) : ℝ) : EReal) := by
  simp only [val_main_v114_apply, r_85, ops, zero_add]
  <;> rfl

theorem r_115 (i : S8192x512.Idx) : val_main_v115 (F := Ideal) (aD a) (aC a) (acb a) (acg a) (acn a) i = (((a.dyl (i 0) (i 1) * a.cg (i 1)) * Mix.rst (a.G (i 0)) : ℝ) : EReal) := by
  simp only [val_main_v115_apply, r_109, r_114, ops, zero_add]
  <;> rfl

theorem r_116 (i : S8192x1.Idx) : val_main_v116 (F := Ideal) (aD a) (aC a) (acb a) (acg a) (acn a) i = (((∑ k, Mix.cen (a.G (i 0)) k * (a.dyl (i 0) k * a.cg k)) * (-1 / 2 * (Mix.rst (a.G (i 0)) / Mix.vare (a.G (i 0)))) : ℝ) : EReal) := by
  simp only [val_main_v116_apply, r_113, r_88, ops, zero_add]
  <;> rfl

theorem r_117 (i : S8192x512.Idx) : val_main_v117 (F := Ideal) (aD a) (aC a) (acb a) (acg a) (acn a) i = ((-((a.dyl (i 0) (i 1) * a.cg (i 1)) * Mix.rst (a.G (i 0))) : ℝ) : EReal) := by
  simp only [val_main_v117_apply, r_115, ops, zero_add]
  <;> rfl

theorem r_118 (i : S8192.Idx) : val_main_v118 (F := Ideal) (aD a) (aC a) (acb a) (acg a) (acn a) i = (((∑ k, -(a.dyl (i 0) k * a.cg k * Mix.rst (a.G (i 0)))) : ℝ) : EReal) := by
  simp only [val_main_v118_apply, r_117, val_main_cst_26_apply, ops, zero_add]
  <;> rfl

theorem r_119 (i : S8192x1.Idx) : val_main_v119 (F := Ideal) (aD a) (aC a) (acb a) (acg a) (acn a) i = (((∑ k, -(a.dyl (i 0) k * a.cg k * Mix.rst (a.G (i 0)))) : ℝ) : EReal) := by
  simp only [val_main_v119_apply, r_118, ops, zero_add]
  <;> exact congrArg (fun R => ((((∑ k, -(a.dyl R k * a.cg k * Mix.rst (a.G R)))) : ℝ) : EReal)) (col_one i)

theorem r_121 (i : S8192x1.Idx) : val_main_v121 (F := Ideal) (aD a) (aC a) (acb a) (acg a) (acn a) i = ((((∑ k, Mix.cen (a.G (i 0)) k * (a.dyl (i 0) k * a.cg k)) * (-1 / 2 * (Mix.rst (a.G (i 0)) / Mix.vare (a.G (i 0)))) / 512) : ℝ) : EReal) := by
  simp only [val_main_v121_apply, r_116, val_main_v120_apply, val_main_cst_27_apply, ops, zero_add]
  <;> rfl

theorem r_122 (i : S8192.Idx) : val_main_v122 (F := Ideal) (aD a) (aC a) (acb a) (acg a) (acn a) i = ((((∑ k, Mix.cen (a.G (i 0)) k * (a.dyl (i 0) k * a.cg k)) * (-1 / 2 * (Mix.rst (a.G (i 0)) / Mix.vare (a.G (i 0)))) / 512) : ℝ) : EReal) := by
  simp only [val_main_v122_apply, r_121, val_main_cst_28_apply, Finset.univ_unique, Finset.sum_singleton, ops, zero_add]
  <;> rfl

theorem r_123 (i : S8192x512.Idx) : val_main_v123 (F := Ideal) (aD a) (aC a) (acb a) (acg a) (acn a) i = ((((∑ k, Mix.cen (a.G (i 0)) k * (a.dyl (i 0) k * a.cg k)) * (-1 / 2 * (Mix.rst (a.G (i 0)) / Mix.vare (a.G (i 0)))) / 512) : ℝ) : EReal) := by
  simp only [val_main_v123_apply, r_122, ops, zero_add]
  <;> rfl

theorem r_124 (i : S8192x512.Idx) : val_main_v124 (F := Ideal) (aD a) (aC a) (acb a) (acg a) (acn a) i = ((((∑ k, Mix.cen (a.G (i 0)) k * (a.dyl (i 0) k * a.cg k)) * (-1 / 2 * (Mix.rst (a.G (i 0)) / Mix.vare (a.G (i 0)))) / 512) * (2 * Mix.cen (a.G (i 0)) (i 1)) : ℝ) : EReal) := by
  simp only [val_main_v124_apply, r_123, r_76, ops, zero_add]
  <;> rfl

theorem r_125 (i : S8192x512.Idx) : val_main_v125 (F := Ideal) (aD a) (aC a) (acb a) (acg a) (acn a) i = ((-(((∑ k, Mix.cen (a.G (i 0)) k * (a.dyl (i 0) k * a.cg k)) * (-1 / 2 * (Mix.rst (a.G (i 0)) / Mix.vare (a.G (i 0)))) / 512) * (2 * Mix.cen (a.G (i 0)) (i 1))) : ℝ) : EReal) := by
  simp only [val_main_v125_apply, r_124, ops, zero_add]
  <;> rfl

theorem r_126 (i : S8192.Idx) : val_main_v126 (F := Ideal) (aD a) (aC a) (acb a) (acg a) (acn a) i = (((∑ k', -(((∑ k, Mix.cen (a.G (i 0)) k * (a.dyl (i 0) k * a.cg k)) * (-1 / 2 * (Mix.rst (a.G (i 0)) / Mix.vare (a.G (i 0)))) / 512) * (2 * Mix.cen (a.G (i 0)) k'))) : ℝ) : EReal) := by
  simp only [val_main_v126_apply, r_125, val_main_cst_29_apply, ops, zero_add]
  <;> rfl

theorem r_127 (i : S8192x1.Idx) : val_main_v127 (F := Ideal) (aD a) (aC a) (acb a) (acg a) (acn a) i = (((∑ k', -(((∑ k, Mix.cen (a.G (i 0)) k * (a.dyl (i 0) k * a.cg k)) * (-1 / 2 * (Mix.rst (a.G (i 0)) / Mix.vare (a.G (i 0)))) / 512) * (2 * Mix.cen (a.G (i 0)) k'))) : ℝ) : EReal) := by
  simp only [val_main_v127_apply, r_126, ops, zero_add]
  <;> exact congrArg (fun R => ((((∑ k', -(((∑ k, Mix.cen (a.G R) k * (a.dyl R k * a.cg k)) * (-1 / 2 * (Mix.rst (a.G R) / Mix.vare (a.G R))) / 512) * (2 * Mix.cen (a.G R) k')))) : ℝ) : EReal)) (col_one i)

theorem r_128 (i : S8192x512.Idx) : val_main_v128 (F := Ideal) (aD a) (aC a) (acb a) (acg a) (acn a) i = (((a.dyl (i 0) (i 1) * a.cg (i 1)) * Mix.rst (a.G (i 0)) + ((∑ k, Mix.cen (a.G (i 0)) k * (a.dyl (i 0) k * a.cg k)) * (-1 / 2 * (Mix.rst (a.G (i 0)) / Mix.vare (a.G (i 0)))) / 512) * (2 * Mix.cen (a.G (i 0)) (i 1)) : ℝ) : EReal) := by
  simp only [val_main_v128_apply, r_115, r_124, ops, zero_add]
  <;> rfl

theorem r_129 (i : S8192x1.Idx) : val_main_v129 (F := Ideal) (aD a) (aC a) (acb a) (acg a) (acn a) i = (((∑ k, -(a.dyl (i 0) k * a.cg k * Mix.rst (a.G (i 0)))) + (∑ k', -(((∑ k, Mix.cen (a.G (i 0)) k * (a.dyl (i 0) k * a.cg k)) * (-1 / 2 * (Mix.rst (a.G (i 0)) / Mix.vare (a.G (i 0)))) / 512) * (2 * Mix.cen (a.G (i 0)) k'))) : ℝ) : EReal) := by
  simp only [val_main_v129_apply, r_119, r_127, ops, zero_add]
  <;> rfl

theorem r_131 (i : S8192x1.Idx) : val_main_v131 (F := Ideal) (aD a) (aC a) (acb a) (acg a) (acn a) i = ((((∑ k, -(a.dyl (i 0) k * a.cg k * Mix.rst (a.G (i 0)))) + (∑ k', -(((∑ k, Mix.cen (a.G (i 0)) k * (a.dyl (i 0) k * a.cg k)) * (-1 / 2 * (Mix.rst (a.G (i 0)) / Mix.vare (a.G (i 0)))) / 512) * (2 * Mix.cen (a.G (i 0)) k')))) / 512 : ℝ) : EReal) := by
  simp only [val_main_v131_apply, r_129, val_main_v130_apply, val_main_cst_30_apply, ops, zero_add]
  <;> rfl

theorem r_132 (i : S8192.Idx) : val_main_v132 (F := Ideal) (aD a) (aC a) (acb a) (acg a) (acn a) i = ((((∑ k, -(a.dyl (i 0) k * a.cg k * Mix.rst (a.G (i 0)))) + (∑ k', -(((∑ k, Mix.cen (a.G (i 0)) k * (a.dyl (i 0) k * a.cg k)) * (-1 / 2 * (Mix.rst (a.G (i 0)) / Mix.vare (a.G (i 0)))) / 512) * (2 * Mix.cen (a.G (i 0)) k')))) / 512 : ℝ) : EReal) := by
  simp only [val_main_v132_apply, r_131, val_main_cst_31_apply, Finset.univ_unique, Finset.sum_singleton, ops, zero_add]
  <;> rfl

theorem r_133 (i : S8192x512.Idx) : val_main_v133 (F := Ideal) (aD a) (aC a) (acb a) (acg a) (acn a) i = ((((∑ k, -(a.dyl (i 0) k * a.cg k * Mix.rst (a.G (i 0)))) + (∑ k', -(((∑ k, Mix.cen (a.G (i 0)) k * (a.dyl (i 0) k * a.cg k)) * (-1 / 2 * (Mix.rst (a.G (i 0)) / Mix.vare (a.G (i 0)))) / 512) * (2 * Mix.cen (a.G (i 0)) k')))) / 512 : ℝ) : EReal) := by
  simp only [val_main_v133_apply, r_132, ops, zero_add]
  <;> rfl

theorem r_134 (i : S8192x512.Idx) : val_main_v134 (F := Ideal) (aD a) (aC a) (acb a) (acg a) (acn a) i = ((Mix.lnb (a.dyl (i 0)) (a.G (i 0)) a.cg (i 1) : ℝ) : EReal) := by
  simp only [val_main_v134_apply, r_128, r_133, ops, zero_add]
  <;> exact congrArg _ (Mix.lnb_chain (a.dyl (i 0)) (a.G (i 0)) a.cg (i 1))

theorem r_135 (i : S512.Idx) : val_main_v135 (F := Ideal) (aD a) (aC a) (acb a) (acg a) (acn a) i = ((a.dcb (i 0) : ℝ) : EReal) := by
  simp only [val_main_v135_apply, r_134, val_main_cst_32_apply, ops, zero_add]
  <;> rfl

theorem r_136 (i : S1x512.Idx) : val_main_v136 (F := Ideal) (aD a) (aC a) (acb a) (acg a) (acn a) i = ((a.dcb (i 1) : ℝ) : EReal) := by
  simp only [val_main_v136_apply, r_135, ops, zero_add]
  <;> exact congrArg (fun j => ((a.dcb j : ℝ) : EReal)) (row_one i)

theorem r_137 (i : S512.Idx) : val_main_v137 (F := Ideal) (aD a) (aC a) (acb a) (acg a) (acn a) i = ((a.dcb (i 0) : ℝ) : EReal) := by
  simp only [val_main_v137_apply, r_136, val_main_cst_33_apply, Finset.univ_unique, Finset.sum_singleton, ops, zero_add]
  <;> rfl

/-! ## The gate's gradient and the spatial product's -/

theorem r_138 (i : S8192x512.Idx) : val_main_v138 (F := Ideal) (aD a) (aZ a) i = ((a.dsv (i 0) (i 1) : ℝ) : EReal) := by
  simp only [val_main_v138_apply, r_24, r_99, ops, zero_add]
  <;> exact congrArg _ (mul_comm _ _)

theorem r_139 (i : S8192x512.Idx) : val_main_v139 (F := Ideal) (aD a) (aZ a) (aW a) (aB a) (avg a) (avb a) i = ((a.dya (i 0) (i 1) * a.sv (i 0) (i 1) : ℝ) : EReal) := by
  simp only [val_main_v139_apply, r_99, r_63, ops, zero_add]
  <;> rfl

theorem r_140 (i : S64x128x8x64.Idx) : val_main_v140 (F := Ideal) (aD a) (aZ a) i = ((a.dsv (Mix.row (i 0) (i 1)) (Mix.col (i 2) (i 3)) : ℝ) : EReal) := by
  simp only [val_main_v140_apply, r_138, ops, zero_add]
  <;> exact congrArg (fun x : ℝ => (x : EReal)) (congrArg₂ a.dsv (reshape_row i) (reshape_col i))

theorem r_147 (i : S8x64x64x128.Idx) : val_main_v147 (F := Ideal) (aD a) (aZ a) i = ((a.dsv (Mix.row (i 1) (i 3)) (Mix.col (i 0) (i 2)) : ℝ) : EReal) := by
  simp only [val_main_v147_apply, r_140, ops, zero_add]
  <;> rfl

theorem r_149 (i : S8x64x64x128.Idx) : val_main_v149 (F := Ideal) (aD a) (aZ a) (aW a) i = ((∑ p, a.W (i 0) p (i 3) * a.dsv (Mix.row (i 1) p) (Mix.col (i 0) (i 2)) : ℝ) : EReal) := by
  simp only [val_main_v149_apply, r_147, aW, ops, zero_add]
  <;> exact congrArg (fun x : ℝ => (x : EReal)) (Finset.sum_congr rfl fun q _ => mul_comm _ _)

theorem r_150 (i : S64x128x8x64.Idx) : val_main_v150 (F := Ideal) (aD a) (aZ a) (aW a) i = ((∑ p, a.W (i 2) p (i 1) * a.dsv (Mix.row (i 0) p) (Mix.col (i 2) (i 3)) : ℝ) : EReal) := by
  simp only [val_main_v150_apply, r_149, ops, zero_add]
  <;> rfl

theorem r_151 (i : S8192x512.Idx) : val_main_v151 (F := Ideal) (aD a) (aZ a) (aW a) i = ((a.dvl (i 0) (i 1) : ℝ) : EReal) := by
  simp only [val_main_v151_apply, r_150, ops, zero_add]
  <;> exact congrArg (fun x : ℝ => (x : EReal)) (back_dvl a i)

/-! ## The gradient through the value's normalisation -/

theorem r_152 (i : S512.Idx) : val_main_v152 (F := Ideal) (aD a) (aZ a) (aW a) i = ((a.dvb (i 0) : ℝ) : EReal) := by
  simp only [val_main_v152_apply, r_151, val_main_cst_37_apply, ops, zero_add]
  <;> rfl

theorem r_153 (i : S1x512.Idx) : val_main_v153 (F := Ideal) (aD a) (aZ a) (aW a) i = ((a.dvb (i 1) : ℝ) : EReal) := by
  simp only [val_main_v153_apply, r_152, ops, zero_add]
  <;> exact congrArg (fun j => ((a.dvb j : ℝ) : EReal)) (row_one i)

theorem r_154 (i : S512.Idx) : val_main_v154 (F := Ideal) (aD a) (aZ a) (aW a) i = ((a.dvb (i 0) : ℝ) : EReal) := by
  simp only [val_main_v154_apply, r_153, val_main_cst_38_apply, Finset.univ_unique, Finset.sum_singleton, ops, zero_add]
  <;> rfl

theorem r_155 (i : S8192x512.Idx) : val_main_v155 (F := Ideal) (aD a) (aZ a) (aW a) i = ((a.dvl (i 0) (i 1) * Mix.nrm (a.V (i 0)) (i 1) : ℝ) : EReal) := by
  simp only [val_main_v155_apply, r_48, r_151, ops, zero_add]
  <;> exact congrArg _ (by ring)

theorem r_156 (i : S512.Idx) : val_main_v156 (F := Ideal) (aD a) (aZ a) (aW a) i = ((a.dvg (i 0) : ℝ) : EReal) := by
  simp only [val_main_v156_apply, r_155, val_main_cst_39_apply, ops, zero_add]
  <;> rfl

theorem r_157 (i : S1x512.Idx) : val_main_v157 (F := Ideal) (aD a) (aZ a) (aW a) i = ((a.dvg (i 1) : ℝ) : EReal) := by
  simp only [val_main_v157_apply, r_156, ops, zero_add]
  <;> exact congrArg (fun j => ((a.dvg j : ℝ) : EReal)) (row_one i)

theorem r_158 (i : S8192x512.Idx) : val_main_v158 (F := Ideal) (avg a) i = ((a.vg (i 1) : ℝ) : EReal) := by
  simp only [val_main_v158_apply, r_49, ops, zero_add]
  <;> rfl

theorem r_159 (i : S8192x512.Idx) : val_main_v159 (F := Ideal) (aD a) (aZ a) (aW a) (avg a) i = (((a.dvl (i 0) (i 1) * a.vg (i 1)) : ℝ) : EReal) := by
  simp only [val_main_v159_apply, r_151, r_158, ops, zero_add]
  <;> rfl

theorem r_160 (i : S512.Idx) : val_main_v160 (F := Ideal) (aD a) (aZ a) (aW a) i = ((a.dvg (i 0) : ℝ) : EReal) := by
  simp only [val_main_v160_apply, r_157, val_main_cst_40_apply, Finset.univ_unique, Finset.sum_singleton, ops, zero_add]
  <;> rfl

theorem r_161 (i : S8192x512.Idx) : val_main_v161 (F := Ideal) (aD a) (aZ a) (aW a) (avg a) i = ((Mix.cen (a.V (i 0)) (i 1) * (a.dvl (i 0) (i 1) * a.vg (i 1)) : ℝ) : EReal) := by
  simp only [val_main_v161_apply, r_40, r_159, ops, zero_add]
  <;> rfl

theorem r_162 (i : S8192.Idx) : val_main_v162 (F := Ideal) (aD a) (aZ a) (aW a) (avg a) i = (((∑ k, Mix.cen (a.V (i 0)) k * (a.dvl (i 0) k * a.vg k)) : ℝ) : EReal) := by
  simp only [val_main_v162_apply, r_161, val_main_cst_41_apply, ops, zero_add]
  <;> rfl

theorem r_163 (i : S8192x1.Idx) : val_main_v163 (F := Ideal) (aD a) (aZ a) (aW a) (avg a) i = (((∑ k, Mix.cen (a.V (i 0)) k * (a.dvl (i 0) k * a.vg k)) : ℝ) : EReal) := by
  simp only [val_main_v163_apply, r_162, ops, zero_add]
  <;> exact congrArg (fun R => ((((∑ k, Mix.cen (a.V R) k * (a.dvl R k * a.vg k))) : ℝ) : EReal)) (col_one i)

theorem r_164 (i : S8192x512.Idx) : val_main_v164 (F := Ideal) (aZ a) i = ((Mix.rst (a.V (i 0)) : ℝ) : EReal) := by
  simp only [val_main_v164_apply, r_43, ops, zero_add]
  <;> rfl

theorem r_165 (i : S8192x512.Idx) : val_main_v165 (F := Ideal) (aD a) (aZ a) (aW a) (avg a) i = (((a.dvl (i 0) (i 1) * a.vg (i 1)) * Mix.rst (a.V (i 0)) : ℝ) : EReal) := by
  simp only [val_main_v165_apply, r_159, r_164, ops, zero_add]
  <;> rfl

theorem r_166 (i : S8192x1.Idx) : val_main_v166 (F := Ideal) (aD a) (aZ a) (aW a) (avg a) i = (((∑ k, Mix.cen (a.V (i 0)) k * (a.dvl (i 0) k * a.vg k)) * (-1 / 2 * (Mix.rst (a.V (i 0)) / Mix.vare (a.V (i 0)))) : ℝ) : EReal) := by
  simp only [val_main_v166_apply, r_163, r_46, ops, zero_add]
  <;> rfl

theorem r_167 (i : S8192x512.Idx) : val_main_v167 (F := Ideal) (aD a) (aZ a) (aW a) (avg a) i = ((-((a.dvl (i 0) (i 1) * a.vg (i 1)) * Mix.rst (a.V (i 0))) : ℝ) : EReal) := by
  simp only [val_main_v167_apply, r_165, ops, zero_add]
  <;> rfl

theorem r_168 (i : S8192.Idx) : val_main_v168 (F := Ideal) (aD a) (aZ a) (aW a) (avg a) i = (((∑ k, -(a.dvl (i 0) k * a.vg k * Mix.rst (a.V (i 0)))) : ℝ) : EReal) := by
  simp only [val_main_v168_apply, r_167, val_main_cst_42_apply, ops, zero_add]
  <;> rfl

theorem r_169 (i : S8192x1.Idx) : val_main_v169 (F := Ideal) (aD a) (aZ a) (aW a) (avg a) i = (((∑ k, -(a.dvl (i 0) k * a.vg k * Mix.rst (a.V (i 0)))) : ℝ) : EReal) := by
  simp only [val_main_v169_apply, r_168, ops, zero_add]
  <;> exact congrArg (fun R => ((((∑ k, -(a.dvl R k * a.vg k * Mix.rst (a.V R)))) : ℝ) : EReal)) (col_one i)

theorem r_171 (i : S8192x1.Idx) : val_main_v171 (F := Ideal) (aD a) (aZ a) (aW a) (avg a) i = ((((∑ k, Mix.cen (a.V (i 0)) k * (a.dvl (i 0) k * a.vg k)) * (-1 / 2 * (Mix.rst (a.V (i 0)) / Mix.vare (a.V (i 0)))) / 512) : ℝ) : EReal) := by
  simp only [val_main_v171_apply, r_166, val_main_v170_apply, val_main_cst_43_apply, ops, zero_add]
  <;> rfl

theorem r_172 (i : S8192.Idx) : val_main_v172 (F := Ideal) (aD a) (aZ a) (aW a) (avg a) i = ((((∑ k, Mix.cen (a.V (i 0)) k * (a.dvl (i 0) k * a.vg k)) * (-1 / 2 * (Mix.rst (a.V (i 0)) / Mix.vare (a.V (i 0)))) / 512) : ℝ) : EReal) := by
  simp only [val_main_v172_apply, r_171, val_main_cst_44_apply, Finset.univ_unique, Finset.sum_singleton, ops, zero_add]
  <;> rfl

theorem r_173 (i : S8192x512.Idx) : val_main_v173 (F := Ideal) (aD a) (aZ a) (aW a) (avg a) i = ((((∑ k, Mix.cen (a.V (i 0)) k * (a.dvl (i 0) k * a.vg k)) * (-1 / 2 * (Mix.rst (a.V (i 0)) / Mix.vare (a.V (i 0)))) / 512) : ℝ) : EReal) := by
  simp only [val_main_v173_apply, r_172, ops, zero_add]
  <;> rfl

theorem r_174 (i : S8192x512.Idx) : val_main_v174 (F := Ideal) (aD a) (aZ a) (aW a) (avg a) i = ((((∑ k, Mix.cen (a.V (i 0)) k * (a.dvl (i 0) k * a.vg k)) * (-1 / 2 * (Mix.rst (a.V (i 0)) / Mix.vare (a.V (i 0)))) / 512) * (2 * Mix.cen (a.V (i 0)) (i 1)) : ℝ) : EReal) := by
  simp only [val_main_v174_apply, r_173, r_34, ops, zero_add]
  <;> rfl

theorem r_175 (i : S8192x512.Idx) : val_main_v175 (F := Ideal) (aD a) (aZ a) (aW a) (avg a) i = ((-(((∑ k, Mix.cen (a.V (i 0)) k * (a.dvl (i 0) k * a.vg k)) * (-1 / 2 * (Mix.rst (a.V (i 0)) / Mix.vare (a.V (i 0)))) / 512) * (2 * Mix.cen (a.V (i 0)) (i 1))) : ℝ) : EReal) := by
  simp only [val_main_v175_apply, r_174, ops, zero_add]
  <;> rfl

theorem r_176 (i : S8192.Idx) : val_main_v176 (F := Ideal) (aD a) (aZ a) (aW a) (avg a) i = (((∑ k', -(((∑ k, Mix.cen (a.V (i 0)) k * (a.dvl (i 0) k * a.vg k)) * (-1 / 2 * (Mix.rst (a.V (i 0)) / Mix.vare (a.V (i 0)))) / 512) * (2 * Mix.cen (a.V (i 0)) k'))) : ℝ) : EReal) := by
  simp only [val_main_v176_apply, r_175, val_main_cst_45_apply, ops, zero_add]
  <;> rfl

theorem r_177 (i : S8192x1.Idx) : val_main_v177 (F := Ideal) (aD a) (aZ a) (aW a) (avg a) i = (((∑ k', -(((∑ k, Mix.cen (a.V (i 0)) k * (a.dvl (i 0) k * a.vg k)) * (-1 / 2 * (Mix.rst (a.V (i 0)) / Mix.vare (a.V (i 0)))) / 512) * (2 * Mix.cen (a.V (i 0)) k'))) : ℝ) : EReal) := by
  simp only [val_main_v177_apply, r_176, ops, zero_add]
  <;> exact congrArg (fun R => ((((∑ k', -(((∑ k, Mix.cen (a.V R) k * (a.dvl R k * a.vg k)) * (-1 / 2 * (Mix.rst (a.V R) / Mix.vare (a.V R))) / 512) * (2 * Mix.cen (a.V R) k')))) : ℝ) : EReal)) (col_one i)

theorem r_178 (i : S8192x512.Idx) : val_main_v178 (F := Ideal) (aD a) (aZ a) (aW a) (avg a) i = (((a.dvl (i 0) (i 1) * a.vg (i 1)) * Mix.rst (a.V (i 0)) + ((∑ k, Mix.cen (a.V (i 0)) k * (a.dvl (i 0) k * a.vg k)) * (-1 / 2 * (Mix.rst (a.V (i 0)) / Mix.vare (a.V (i 0)))) / 512) * (2 * Mix.cen (a.V (i 0)) (i 1)) : ℝ) : EReal) := by
  simp only [val_main_v178_apply, r_165, r_174, ops, zero_add]
  <;> rfl

theorem r_179 (i : S8192x1.Idx) : val_main_v179 (F := Ideal) (aD a) (aZ a) (aW a) (avg a) i = (((∑ k, -(a.dvl (i 0) k * a.vg k * Mix.rst (a.V (i 0)))) + (∑ k', -(((∑ k, Mix.cen (a.V (i 0)) k * (a.dvl (i 0) k * a.vg k)) * (-1 / 2 * (Mix.rst (a.V (i 0)) / Mix.vare (a.V (i 0)))) / 512) * (2 * Mix.cen (a.V (i 0)) k'))) : ℝ) : EReal) := by
  simp only [val_main_v179_apply, r_169, r_177, ops, zero_add]
  <;> rfl

theorem r_181 (i : S8192x1.Idx) : val_main_v181 (F := Ideal) (aD a) (aZ a) (aW a) (avg a) i = ((((∑ k, -(a.dvl (i 0) k * a.vg k * Mix.rst (a.V (i 0)))) + (∑ k', -(((∑ k, Mix.cen (a.V (i 0)) k * (a.dvl (i 0) k * a.vg k)) * (-1 / 2 * (Mix.rst (a.V (i 0)) / Mix.vare (a.V (i 0)))) / 512) * (2 * Mix.cen (a.V (i 0)) k')))) / 512 : ℝ) : EReal) := by
  simp only [val_main_v181_apply, r_179, val_main_v180_apply, val_main_cst_46_apply, ops, zero_add]
  <;> rfl

theorem r_182 (i : S8192.Idx) : val_main_v182 (F := Ideal) (aD a) (aZ a) (aW a) (avg a) i = ((((∑ k, -(a.dvl (i 0) k * a.vg k * Mix.rst (a.V (i 0)))) + (∑ k', -(((∑ k, Mix.cen (a.V (i 0)) k * (a.dvl (i 0) k * a.vg k)) * (-1 / 2 * (Mix.rst (a.V (i 0)) / Mix.vare (a.V (i 0)))) / 512) * (2 * Mix.cen (a.V (i 0)) k')))) / 512 : ℝ) : EReal) := by
  simp only [val_main_v182_apply, r_181, val_main_cst_47_apply, Finset.univ_unique, Finset.sum_singleton, ops, zero_add]
  <;> rfl

theorem r_183 (i : S8192x512.Idx) : val_main_v183 (F := Ideal) (aD a) (aZ a) (aW a) (avg a) i = ((((∑ k, -(a.dvl (i 0) k * a.vg k * Mix.rst (a.V (i 0)))) + (∑ k', -(((∑ k, Mix.cen (a.V (i 0)) k * (a.dvl (i 0) k * a.vg k)) * (-1 / 2 * (Mix.rst (a.V (i 0)) / Mix.vare (a.V (i 0)))) / 512) * (2 * Mix.cen (a.V (i 0)) k')))) / 512 : ℝ) : EReal) := by
  simp only [val_main_v183_apply, r_182, ops, zero_add]
  <;> rfl

theorem r_184 (i : S8192x512.Idx) : val_main_v184 (F := Ideal) (aD a) (aZ a) (aW a) (avg a) i = ((Mix.lnb (a.dvl (i 0)) (a.V (i 0)) a.vg (i 1) : ℝ) : EReal) := by
  simp only [val_main_v184_apply, r_178, r_183, ops, zero_add]
  <;> exact congrArg _ (Mix.lnb_chain (a.dvl (i 0)) (a.V (i 0)) a.vg (i 1))

theorem r_204 (i : S1x512.Idx) : val_main_v204 (F := Ideal) (aD a) (aZ a) (aW a) i = ((a.dvg (i 1) : ℝ) : EReal) := by
  simp only [val_main_v204_apply, r_160, ops, zero_add]
  <;> rfl

theorem r_205 (i : S1x512.Idx) : val_main_v205 (F := Ideal) (aD a) (aZ a) (aW a) i = ((a.dvb (i 1) : ℝ) : EReal) := by
  simp only [val_main_v205_apply, r_154, ops, zero_add]
  <;> rfl

theorem r_206 (i : S1x512.Idx) : val_main_v206 (F := Ideal) (aD a) (aC a) (acb a) (acg a) (acn a) i = ((a.dcg (i 1) : ℝ) : EReal) := by
  simp only [val_main_v206_apply, r_110, ops, zero_add]
  <;> rfl

theorem r_207 (i : S1x512.Idx) : val_main_v207 (F := Ideal) (aD a) (aC a) (acb a) (acg a) (acn a) i = ((a.dcn (i 1) : ℝ) : EReal) := by
  simp only [val_main_v207_apply, r_104, ops, zero_add]
  <;> rfl

theorem r_208 (i : S1x512.Idx) : val_main_v208 (F := Ideal) (aD a) (aC a) (acb a) (acg a) (acn a) i = ((a.dcb (i 1) : ℝ) : EReal) := by
  simp only [val_main_v208_apply, r_137, ops, zero_add]
  <;> rfl

end Stages

end
-- ==== Proof.RefB.lean ====
/- The reference's last stages at arguments that are real: the spatial weights' and bias's gradients, and the gradient through the rectifier. -/
module

public import proofs.«01_k».proof.Proof.RefA
public import Idealize.ShloMosaic.Lib.TwoAxisContraction
public import Idealize.ShloMosaic.Lib.KernelVsHost
public import Idealize.ShloMosaic.Lib.IdealHost
public import Idealize.ShloMosaic.Lib.Pointwise.Reduce

@[expose] public section

noncomputable section

namespace Stages

open Idealize.ShloMosaic Cert.ReferenceIdeal Cert.ReferenceIdeal.Gen Cert.ReferenceIdeal.Read

variable (a : Mix.Args)

/-! ## The spatial bias's gradient -/

theorem drops_ends {n0 n3 : Nat} (h : (⟨4, ![n0, 128, 8, n3]⟩ : Shape).ReducesTo [0, 3] S128x8) (j : S128x8.Idx)
    (i : (⟨4, ![n0, 128, 8, n3]⟩ : Shape).Idx) :
    h.drop i = j ↔ ∃ k : Fin n0 × Fin n3, (ValueIdx.ix4 k.1 (j 0) (j 1) k.2 : (⟨4, ![n0, 128, 8, n3]⟩ : Shape).Idx) = i := by
  constructor
  · rintro rfl
    refine ⟨(i 0, i 3), ?_⟩
    funext b; apply Fin.ext
    match b with
    | ⟨0, _⟩ => rfl
    | ⟨1, _⟩ => rfl
    | ⟨2, _⟩ => rfl
    | ⟨3, _⟩ => rfl
  · rintro ⟨k, rfl⟩
    funext b; apply Fin.ext
    match b with
    | ⟨0, _⟩ => rfl
    | ⟨1, _⟩ => rfl

theorem sum_ends {n0 n3 : Nat} (h : (⟨4, ![n0, 128, 8, n3]⟩ : Shape).ReducesTo [0, 3] S128x8)
    (x : (⟨4, ![n0, 128, 8, n3]⟩ : Shape).Idx → EReal) (init : EReal) (j : S128x8.Idx) :
    Ideal.hostReduceAdd h x init j = init + ∑ n : Fin n0, ∑ c : Fin n3, x (ValueIdx.ix4 n (j 0) (j 1) c) := by
  unfold Ideal.hostReduceAdd
  refine congrArg (init + ·) ?_
  refine (Finset.sum_filter_eq_sum_of_fiber _
    (fun k : Fin n0 × Fin n3 => (ValueIdx.ix4 k.1 (j 0) (j 1) k.2 : (⟨4, ![n0, 128, 8, n3]⟩ : Shape).Idx))
    (fun _ _ e => Prod.ext (congrFun e 0) (congrFun e 3)) (drops_ends h j) x).trans ?_
  rw [Fintype.sum_prod_type]

theorem r_141 (i : S128x8.Idx) : val_main_v141 (F := Ideal) (aD a) (aZ a) i = ((a.dsb (i 1) (i 0) : ℝ) : EReal) := by
  unfold val_main_v141
  rw [ValueIdx.hostReduceAdd_apply]
  refine (sum_ends _ _ _ i).trans ?_
  simp only [r_140, val_main_cst_34_apply, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  rfl

theorem r_142 (i : S1x128x8x1.Idx) : val_main_v142 (F := Ideal) (aD a) (aZ a) i = ((a.dsb (i 2) (i 1) : ℝ) : EReal) := by
  rw [val_main_v142_apply, r_141]
  have h0 : (i 0).val < 1 := (i 0).isLt
  have h2 : (i 2).val < 8 := (i 2).isLt
  have h3 : (i 3).val < 1 := (i 3).isLt
  have e0 : (idx_main_v142 i 0 : Fin 128) = i 1 := Fin.ext (by
    show ((((i 0).val * 128 + (i 1).val) * 8 + (i 2).val) * 1 + (i 3).val) / 8 = (i 1).val
    omega)
  have e1 : (idx_main_v142 i 1 : Fin 8) = i 2 := Fin.ext (by
    show ((((i 0).val * 128 + (i 1).val) * 8 + (i 2).val) * 1 + (i 3).val) % 8 = (i 2).val
    omega)
  exact congrArg (fun x : ℝ => (x : EReal)) (congrArg₂ a.dsb e1 e0)

theorem r_143 (i : S128x8.Idx) : val_main_v143 (F := Ideal) (aD a) (aZ a) i = ((a.dsb (i 1) (i 0) : ℝ) : EReal) := by
  unfold val_main_v143
  rw [ValueIdx.hostReduceAdd_apply]
  refine (sum_ends _ _ _ i).trans ?_
  simp only [r_142, val_main_cst_35_apply, Finset.univ_unique, Finset.sum_singleton, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]

theorem r_144 (i : S128x8x1.Idx) : val_main_v144 (F := Ideal) (aD a) (aZ a) i = ((a.dsb (i 1) (i 0) : ℝ) : EReal) := by
  rw [val_main_v144_apply, r_143]; rfl

theorem r_145 (i : S128x8.Idx) : val_main_v145 (F := Ideal) (aD a) (aZ a) i = ((a.dsb (i 1) (i 0) : ℝ) : EReal) := by
  simp only [val_main_v145_apply, r_144, val_main_cst_36_apply, Finset.univ_unique, Finset.sum_singleton, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  rfl

theorem r_146 (i : S8x128.Idx) : val_main_v146 (F := Ideal) (aD a) (aZ a) i = ((a.dsb (i 0) (i 1) : ℝ) : EReal) := by
  rw [val_main_v146_apply, r_145]; rfl

/-! ## The spatial weights' gradient -/

abbrev Dw : DotDims S8x64x64x128 S64x128x8x64 S8x128x128 := dot_S8x64x64x128_S64x128x8x64_S8x128x128_12_03_3_1_0_2
theorem lhs_dw_0 (i : S8x128x128.Idx) (q : Dw.contr.Idx) : (Dw.lhsIdx i q 0).val = (i 0).val := by
  unfold DotDims.lhsIdx
  rw [dif_pos (show (0 : Fin S8x64x64x128.rank) ∈ Dw.lhsBatch by decide)]
  rfl
theorem lhs_dw_1 (i : S8x128x128.Idx) (q : Dw.contr.Idx) : (Dw.lhsIdx i q 1).val = (q ⟨0, by decide⟩).val := by
  unfold DotDims.lhsIdx
  rw [dif_neg (show ¬(1 : Fin S8x64x64x128.rank) ∈ Dw.lhsBatch by decide), dif_neg (show ¬(1 : Fin S8x64x64x128.rank) ∈ Dw.lhsNonContracting by decide)]
  rfl
theorem lhs_dw_2 (i : S8x128x128.Idx) (q : Dw.contr.Idx) : (Dw.lhsIdx i q 2).val = (q ⟨1, by decide⟩).val := by
  unfold DotDims.lhsIdx
  rw [dif_neg (show ¬(2 : Fin S8x64x64x128.rank) ∈ Dw.lhsBatch by decide), dif_neg (show ¬(2 : Fin S8x64x64x128.rank) ∈ Dw.lhsNonContracting by decide)]
  rfl
theorem lhs_dw_3 (i : S8x128x128.Idx) (q : Dw.contr.Idx) : (Dw.lhsIdx i q 3).val = (i 1).val := by
  unfold DotDims.lhsIdx
  rw [dif_neg (show ¬(3 : Fin S8x64x64x128.rank) ∈ Dw.lhsBatch by decide), dif_pos (show (3 : Fin S8x64x64x128.rank) ∈ Dw.lhsNonContracting by decide)]
  rfl
theorem rhs_dw_0 (i : S8x128x128.Idx) (q : Dw.contr.Idx) : (Dw.rhsIdx i q 0).val = (q ⟨0, by decide⟩).val := by
  unfold DotDims.rhsIdx
  rw [dif_neg (show ¬(0 : Fin S64x128x8x64.rank) ∈ Dw.rhsBatch by decide), dif_neg (show ¬(0 : Fin S64x128x8x64.rank) ∈ Dw.rhsNonContracting by decide)]
  rfl
theorem rhs_dw_1 (i : S8x128x128.Idx) (q : Dw.contr.Idx) : (Dw.rhsIdx i q 1).val = (i 2).val := by
  unfold DotDims.rhsIdx
  rw [dif_neg (show ¬(1 : Fin S64x128x8x64.rank) ∈ Dw.rhsBatch by decide), dif_pos (show (1 : Fin S64x128x8x64.rank) ∈ Dw.rhsNonContracting by decide)]
  rfl
theorem rhs_dw_2 (i : S8x128x128.Idx) (q : Dw.contr.Idx) : (Dw.rhsIdx i q 2).val = (i 0).val := by
  unfold DotDims.rhsIdx
  rw [dif_pos (show (2 : Fin S64x128x8x64.rank) ∈ Dw.rhsBatch by decide)]
  rfl
theorem rhs_dw_3 (i : S8x128x128.Idx) (q : Dw.contr.Idx) : (Dw.rhsIdx i q 3).val = (q ⟨1, by decide⟩).val := by
  unfold DotDims.rhsIdx
  rw [dif_neg (show ¬(3 : Fin S64x128x8x64.rank) ∈ Dw.rhsBatch by decide), dif_neg (show ¬(3 : Fin S64x128x8x64.rank) ∈ Dw.rhsNonContracting by decide)]
  rfl

theorem r_148 (i : S8x128x128.Idx) :
    val_main_v148 (F := Ideal) (aD a) (aZ a) (avg a) (avb a) i = ((a.dw (i 0) (i 1) (i 2) : ℝ) : EReal) := by
  unfold val_main_v148
  have hl := r_147 a
  have hr := r_55 a
  generalize val_main_v147 (F := Ideal) (aD a) (aZ a) = y0 at hl
  generalize val_main_v55 (F := Ideal) (aZ a) (avg a) (avb a) = y1 at hr
  simp only [Host.dotGeneral]
  rw [Ideal.dotGeneral_apply]
  refine (ValueIdx.sum_contr2 Dw 64 64 rfl rfl rfl _).trans ?_
  have key : ∀ n c : Fin 64, y0 (Dw.lhsIdx i ((ValueIdx.contrEquiv2 Dw 64 64 rfl rfl rfl).symm (n, c)))
      * y1 (Dw.rhsIdx i ((ValueIdx.contrEquiv2 Dw 64 64 rfl rfl rfl).symm (n, c)))
      = ((a.dsv (Mix.row n (i 1)) (Mix.col (i 0) c) * a.vl (Mix.row n (i 2)) (Mix.col (i 0) c) : ℝ) : EReal) := fun n c => by
    have h0 := ValueIdx.contrEquiv2_symm_val0 Dw 64 64 rfl rfl rfl (n, c)
    have h1 := ValueIdx.contrEquiv2_symm_val1 Dw 64 64 rfl rfl rfl (n, c)
    have el : Dw.lhsIdx i ((ValueIdx.contrEquiv2 Dw 64 64 rfl rfl rfl).symm (n, c)) = (ValueIdx.ix4 (i 0) n c (i 1) : S8x64x64x128.Idx) :=
      funext fun b => Fin.ext (by
        match b with
        | ⟨0, _⟩ => exact lhs_dw_0 _ _
        | ⟨1, _⟩ => exact (lhs_dw_1 _ _).trans h0
        | ⟨2, _⟩ => exact (lhs_dw_2 _ _).trans h1
        | ⟨3, _⟩ => exact lhs_dw_3 _ _)
    have er : Dw.rhsIdx i ((ValueIdx.contrEquiv2 Dw 64 64 rfl rfl rfl).symm (n, c)) = (ValueIdx.ix4 n (i 2) (i 0) c : S64x128x8x64.Idx) :=
      funext fun b => Fin.ext (by
        match b with
        | ⟨0, _⟩ => exact (rhs_dw_0 _ _).trans h0
        | ⟨1, _⟩ => exact rhs_dw_1 _ _
        | ⟨2, _⟩ => exact rhs_dw_2 _ _
        | ⟨3, _⟩ => exact (rhs_dw_3 _ _).trans h1)
    rw [el, er, hl, hr, ← EReal.coe_mul]
  refine (Finset.sum_congr rfl fun n _ => Finset.sum_congr rfl fun c _ => key n c).trans ?_
  simp only [Mix.coe_sum]
  rfl

/-! ## The gradient through the rectifier -/

/-- The gradient at the rectifier's output: the gate's at the first 512 columns, the normalisation's at the last. -/
def up (R : Fin 8192) (c : Fin 1024) : ℝ :=
  if h : c.val < 512 then a.dya R ⟨c.val, h⟩ * a.sv R ⟨c.val, h⟩
  else Mix.lnb (a.dvl R) (a.V R) a.vg ⟨c.val - 512, by omega⟩

theorem r_187 (i : S8192x1024.Idx) :
    val_main_v187 (F := Ideal) (aD a) (aZ a) (aW a) (aB a) (avg a) (avb a) i = ((up a (i 0) (i 1) : ℝ) : EReal) := by
  have hc : (i 1).val < 1024 := (i 1).isLt
  rw [val_main_v187_apply]
  by_cases h : (i 1).val < 512
  · have e0 : val_main_v185 (F := Ideal) (aD a) (aZ a) (aW a) (avg a) i = ((0 : ℝ) : EReal) := by
      unfold val_main_v185
      refine (pad_apply_of_not_inside _ _ _ _ _ _ _ i (1 : Fin 2) ?_).trans ?_
      · rintro ⟨h1, -⟩
        exact absurd (show 512 ≤ (i 1).val from h1) (by omega)
      · rw [val_main_cst_48_apply, Ideal.ofBits_def, Mix.c_zero]
    have e1 : val_main_v186 (F := Ideal) (aD a) (aZ a) (aW a) (aB a) (avg a) (avb a) i
        = ((a.dya (i 0) ⟨(i 1).val, h⟩ * a.sv (i 0) ⟨(i 1).val, h⟩ : ℝ) : EReal) := by
      unfold val_main_v186
      refine (pad_apply_of_inside _ _ _ _ _ _ _ i (ValueIdx.ix2 (i 0) ⟨(i 1).val, h⟩ : S8192x512.Idx) ?_).trans ?_
      · intro b
        match b with
        | ⟨0, _⟩ => exact (show (i 0).val = 0 + (i 0).val * (0 + 1) by omega)
        | ⟨1, _⟩ => exact (show (i 1).val = 0 + (i 1).val * (0 + 1) by omega)
      · rw [r_139]
    rw [e0, e1, Ideal.addf_def, ← EReal.coe_add, zero_add]
    exact congrArg (fun x : ℝ => (x : EReal)) (dif_pos h : up a (i 0) (i 1) = _).symm
  · have e0 : val_main_v185 (F := Ideal) (aD a) (aZ a) (aW a) (avg a) i
        = ((Mix.lnb (a.dvl (i 0)) (a.V (i 0)) a.vg ⟨(i 1).val - 512, by omega⟩ : ℝ) : EReal) := by
      unfold val_main_v185
      refine (pad_apply_of_inside _ _ _ _ _ _ _ i (ValueIdx.ix2 (i 0) ⟨(i 1).val - 512, by omega⟩ : S8192x512.Idx) ?_).trans ?_
      · intro b
        match b with
        | ⟨0, _⟩ => exact (show (i 0).val = 0 + (i 0).val * (0 + 1) by omega)
        | ⟨1, _⟩ => exact (show (i 1).val = 512 + ((i 1).val - 512) * (0 + 1) by omega)
      · rw [r_184]
    have e1 : val_main_v186 (F := Ideal) (aD a) (aZ a) (aW a) (aB a) (avg a) (avb a) i = ((0 : ℝ) : EReal) := by
      unfold val_main_v186
      refine (pad_apply_of_not_inside _ _ _ _ _ _ _ i (1 : Fin 2) ?_).trans ?_
      · rintro ⟨-, -, h1⟩
        exact absurd (show ((i 1).val - 0) / (0 + 1) < 512 from h1) (by omega)
      · rw [val_main_cst_49_apply, Ideal.ofBits_def, Mix.c_zero]
    rw [e0, e1, Ideal.addf_def, ← EReal.coe_add, add_zero]
    exact congrArg (fun x : ℝ => (x : EReal)) (dif_neg h : up a (i 0) (i 1) = _).symm

theorem r_188 (i : S8192x1024.Idx) : val_main_v188 (F := Ideal) (aD a) (aZ a) (aW a) (aB a) (avg a) (avb a) i = ((a.zz (i 0) (i 1) * up a (i 0) (i 1) : ℝ) : EReal) := by
  simp only [val_main_v188_apply, r_0, r_187, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> rfl

theorem r_189 (i : S8192x1024.Idx) : val_main_v189 (F := Ideal) (aD a) (aZ a) (aW a) (aB a) (avg a) (avb a) i = ((up a (i 0) (i 1) * (1 / 2 * (1 + Mix.th (a.zz (i 0) (i 1)))) : ℝ) : EReal) := by
  simp only [val_main_v189_apply, r_187, r_22, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> rfl

theorem r_191 (i : S8192x1024.Idx) : val_main_v191 (F := Ideal) (aD a) (aZ a) (aW a) (aB a) (avg a) (avb a) i = ((1 / 2 * (a.zz (i 0) (i 1) * up a (i 0) (i 1)) : ℝ) : EReal) := by
  simp only [val_main_v191_apply, r_188, val_main_v190_apply, val_main_cst_50_apply, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> rfl

theorem r_192 (i : S8192x1024.Idx) : val_main_v192 (F := Ideal) (aD a) (aZ a) (aW a) (aB a) (avg a) (avb a) i = ((1 / 2 * (a.zz (i 0) (i 1) * up a (i 0) (i 1)) * ((1 + Mix.th (a.zz (i 0) (i 1))) * (1 - Mix.th (a.zz (i 0) (i 1)))) : ℝ) : EReal) := by
  simp only [val_main_v192_apply, r_191, r_18, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> rfl

theorem r_194 (i : S8192x1024.Idx) : val_main_v194 (F := Ideal) (aD a) (aZ a) (aW a) (aB a) (avg a) (avb a) i = ((Mix.K * (1 / 2 * (a.zz (i 0) (i 1) * up a (i 0) (i 1)) * ((1 + Mix.th (a.zz (i 0) (i 1))) * (1 - Mix.th (a.zz (i 0) (i 1))))) : ℝ) : EReal) := by
  simp only [val_main_v194_apply, r_192, val_main_v193_apply, val_main_cst_51_apply, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> rfl

theorem r_195 (i : S8192x1024.Idx) : val_main_v195 (F := Ideal) (aD a) (aZ a) (aW a) (aB a) (avg a) (avb a) i = ((up a (i 0) (i 1) * (1 / 2 * (1 + Mix.th (a.zz (i 0) (i 1)))) + Mix.K * (1 / 2 * (a.zz (i 0) (i 1) * up a (i 0) (i 1)) * ((1 + Mix.th (a.zz (i 0) (i 1))) * (1 - Mix.th (a.zz (i 0) (i 1))))) : ℝ) : EReal) := by
  simp only [val_main_v195_apply, r_189, r_194, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> rfl

theorem r_197 (i : S8192x1024.Idx) : val_main_v197 (F := Ideal) (aD a) (aZ a) (aW a) (aB a) (avg a) (avb a) i = ((Mix.K * (1 / 2 * (a.zz (i 0) (i 1) * up a (i 0) (i 1)) * ((1 + Mix.th (a.zz (i 0) (i 1))) * (1 - Mix.th (a.zz (i 0) (i 1))))) / 1000000 : ℝ) : EReal) := by
  simp only [val_main_v197_apply, r_194, val_main_v196_apply, val_main_cst_52_apply, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> rfl

theorem r_199 (i : S8192x1024.Idx) : val_main_v199 (F := Ideal) (aD a) (aZ a) (aW a) (aB a) (avg a) (avb a) i = ((44715 * (Mix.K * (1 / 2 * (a.zz (i 0) (i 1) * up a (i 0) (i 1)) * ((1 + Mix.th (a.zz (i 0) (i 1))) * (1 - Mix.th (a.zz (i 0) (i 1))))) / 1000000) : ℝ) : EReal) := by
  simp only [val_main_v199_apply, r_197, val_main_v198_apply, val_main_cst_53_apply, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> rfl

theorem r_200 (i : S8192x1024.Idx) : val_main_v200 (F := Ideal) (aD a) (aZ a) (aW a) (aB a) (avg a) (avb a) i = ((44715 * (Mix.K * (1 / 2 * (a.zz (i 0) (i 1) * up a (i 0) (i 1)) * ((1 + Mix.th (a.zz (i 0) (i 1))) * (1 - Mix.th (a.zz (i 0) (i 1))))) / 1000000) * (3 * (a.zz (i 0) (i 1) * a.zz (i 0) (i 1))) : ℝ) : EReal) := by
  simp only [val_main_v200_apply, r_199, r_5, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> rfl

theorem r_201 (i : S8192x1024.Idx) : val_main_v201 (F := Ideal) (aD a) (aZ a) (aW a) (aB a) (avg a) (avb a) i = ((up a (i 0) (i 1) * Mix.gd (a.zz (i 0) (i 1)) : ℝ) : EReal) := by
  simp only [val_main_v201_apply, r_195, r_200, Ideal.mulf_def, Ideal.addf_def, Ideal.subf_def, Ideal.hostDivf_def, Ideal.ofBits_def, Ideal.truncf_def, Mix.div_1e6, Mix.c_zero, Mix.c_half, Mix.c_K, Mix.c_44715, Mix.c_1e6, Mix.coe_sum, ← EReal.coe_mul, ← EReal.coe_add, zero_add]
  <;> exact congrArg (fun x : ℝ => (x : EReal)) (by unfold Mix.gd; ring)

theorem r_203_lo (i : S8192x2048.Idx) (h : (i 1).val < 512) :
    val_main_v203 (F := Ideal) (aD a) (aZ a) (aW a) (aB a) (avg a) (avb a) i = ((a.dzl (i 0) ⟨(i 1).val, h⟩ : ℝ) : EReal) := by
  rw [val_main_v203_apply, Ideal.truncf_def]
  unfold val_main_v202
  refine (pad_apply_of_inside _ _ _ _ _ _ _ i (ValueIdx.ix2 (i 0) ⟨(i 1).val, by omega⟩ : S8192x1024.Idx) ?_).trans ?_
  · intro b
    match b with
    | ⟨0, _⟩ => exact (show (i 0).val = 0 + (i 0).val * (0 + 1) by omega)
    | ⟨1, _⟩ => exact (show (i 1).val = 0 + (i 1).val * (0 + 1) by omega)
  · rw [r_201]
    exact congrArg (fun x : ℝ => ((x * Mix.gd (a.zu (i 0) ⟨(i 1).val, h⟩) : ℝ) : EReal)) (dif_pos h)

theorem r_203_hi (i : S8192x2048.Idx) (h : ¬ (i 1).val < 512) (h' : (i 1).val < 1024) :
    val_main_v203 (F := Ideal) (aD a) (aZ a) (aW a) (aB a) (avg a) (avb a) i = ((a.dzr (i 0) ⟨(i 1).val - 512, by omega⟩ : ℝ) : EReal) := by
  rw [val_main_v203_apply, Ideal.truncf_def]
  unfold val_main_v202
  refine (pad_apply_of_inside _ _ _ _ _ _ _ i (ValueIdx.ix2 (i 0) ⟨(i 1).val, h'⟩ : S8192x1024.Idx) ?_).trans ?_
  · intro b
    match b with
    | ⟨0, _⟩ => exact (show (i 0).val = 0 + (i 0).val * (0 + 1) by omega)
    | ⟨1, _⟩ => exact (show (i 1).val = 0 + (i 1).val * (0 + 1) by omega)
  · rw [r_201]
    have e : a.zz (i 0) ⟨(i 1).val, h'⟩ = a.zv (i 0) ⟨(i 1).val - 512, by omega⟩ :=
      congrArg (a.Z (i 0)) (Fin.ext (show (i 1).val = 512 + ((i 1).val - 512) by omega))
    refine congrArg (fun x : ℝ => (x : EReal)) ?_
    show up a (i 0) ⟨(i 1).val, h'⟩ * Mix.gd (a.zz (i 0) ⟨(i 1).val, h'⟩) = _
    rw [e]
    exact congrArg (· * Mix.gd (a.zv (i 0) ⟨(i 1).val - 512, by omega⟩)) (dif_neg h)

end Stages

end
-- ==== Proof.RealArgs.lean ====
/- Where the precondition holds every argument is real, and where the mask is set the column is one of the first 1024. -/
module

public import proofs.«01_k».proof.Proof.Spec
public import proofs.«01_k».proof.Proof.Gen.Pre_finite
public import proofs.«01_k».proof.Proof.Gen.On_written
public import Idealize.ShloMosaic.PureOps.Reduce
public import Idealize.ShloMosaic.Lib.ValueIdx
public import Idealize.ShloMosaic.Lib.WordCmp

@[expose] public section

noncomputable section

namespace Real1

open Idealize.ShloMosaic

theorem and_one : ∀ x y : BitVec 1, IntOp.andi x y = 1#1 → x = 1#1 ∧ y = 1#1 := by decide

theorem fold_and {ι : Type} (x : ι → BitVec 1) (b : BitVec 1) (S : Finset ι) :
    S.fold IntOp.andi b x = 1#1 → b = 1#1 ∧ ∀ i ∈ S, x i = 1#1 := by
  classical
  induction S using Finset.induction_on with
  | empty => intro h; exact ⟨h, fun i hi => absurd hi (Finset.notMem_empty i)⟩
  | insert j S hj ih =>
    intro h
    rw [Finset.fold_insert hj] at h
    obtain ⟨h1, h2⟩ := and_one _ _ h
    obtain ⟨h3, h4⟩ := ih h2
    refine ⟨h3, fun i hi => ?_⟩
    rcases Finset.mem_insert.mp hi with rfl | hi
    · exact h1
    · exact h4 i hi

/-- A conjunction over every entry of an array is true only where every entry is. -/
theorem all_entries {s : Shape} {axes : List (Fin s.rank)} (x : IVec s 1) (init : IVec ⟨0, ![]⟩ 1) (h : s.ReducesTo axes ⟨0, ![]⟩)
    (hu : 0 < (⟨0, ![]⟩ : Shape).numel) (j : (⟨0, ![]⟩ : Shape).Idx) (e : Host.reduce IntOp.andi x init h hu j = 1#1) (i : s.Idx) : x i = 1#1 := by
  rw [Host.reduce_eq_fold] at e
  exact (fold_and _ _ _ e).2 i (Finset.mem_filter.mpr ⟨Finset.mem_univ i, funext fun b => b.elim0⟩)

theorem top : Ideal.ofBits .f32 0x7F800000#32 = (⊤ : EReal) := by
  simp [Ideal.ofBits, Ideal.ieee]

/-- An extended real whose absolute value is below infinity is real. -/
theorem real_of_lt (x : EReal) (h : Ideal.cmp .olt (max x (-x)) ⊤ = 1#1) : x = ((x.toReal : ℝ) : EReal) := by
  have h' : max x (-x) < ⊤ := by
    by_contra hn
    rw [show Ideal.cmp .olt (max x (-x)) ⊤ = BitVec.ofBool (decide (max x (-x) < ⊤)) from rfl, decide_eq_false hn] at h
    exact absurd h (by decide)
  refine (EReal.coe_toReal (fun e => ?_) (fun e => ?_)).symm
  · rw [e] at h'; simp at h'
  · rw [e] at h'; simp at h'

theorem entries_real {s : Shape} {axes : List (Fin s.rank)} (x : FVec Ideal s .f32) (init : IVec ⟨0, ![]⟩ 1) (h : s.ReducesTo axes ⟨0, ![]⟩)
    (hu : 0 < (⟨0, ![]⟩ : Shape).numel) (hb : (⟨0, ![]⟩ : Shape).BroadcastsInDim s ![]) (j : (⟨0, ![]⟩ : Shape).Idx)
    (e : Host.reduce IntOp.andi (cmpf .olt (Host.absf x) (broadcastInDim s ![] hb (constant (F := Ideal) ⟨0, ![]⟩ .f32 0x7F800000#32))) init h hu j = 1#1)
    (i : s.Idx) : x i = (((x i : EReal).toReal : ℝ) : EReal) := by
  have e' := all_entries _ _ _ _ _ e i
  refine real_of_lt (x i) (Eq.trans ?_ e')
  refine (congrArg (Ideal.cmp .olt (max (x i : EReal) (-(x i : EReal)))) top.symm).trans ?_
  rfl

section
open Cert.Pre_finite Cert.Pre_finite.Facts

theorem args_real (x0 : FVec Ideal S8192x1024 .f32) (x1 : FVec Ideal S8192x2048 .f32) (x2 : FVec Ideal S8192x512 .f32) (x3 : FVec Ideal S8x128x128 .f32) (x4 : FVec Ideal S8x128 .f32) (x5 : FVec Ideal S512 .f32) (x6 : FVec Ideal S512 .f32) (x7 : FVec Ideal S512 .f32) (x8 : FVec Ideal S512 .f32) (x9 : FVec Ideal S512 .f32) (e : Cert.Pre_finite.fn (F := Ideal) x0 x1 x2 x3 x4 x5 x6 x7 x8 x9 = fun _ => 1#1) :
    (∀ i, x0 i = (((x0 i : EReal).toReal : ℝ) : EReal)) ∧ (∀ i, x1 i = (((x1 i : EReal).toReal : ℝ) : EReal)) ∧ (∀ i, x2 i = (((x2 i : EReal).toReal : ℝ) : EReal)) ∧ (∀ i, x3 i = (((x3 i : EReal).toReal : ℝ) : EReal)) ∧ (∀ i, x4 i = (((x4 i : EReal).toReal : ℝ) : EReal)) ∧ (∀ i, x5 i = (((x5 i : EReal).toReal : ℝ) : EReal)) ∧ (∀ i, x6 i = (((x6 i : EReal).toReal : ℝ) : EReal)) ∧ (∀ i, x7 i = (((x7 i : EReal).toReal : ℝ) : EReal)) ∧ (∀ i, x8 i = (((x8 i : EReal).toReal : ℝ) : EReal)) ∧ (∀ i, x9 i = (((x9 i : EReal).toReal : ℝ) : EReal)) := by
  have e := congrFun e ValueIdx.ix0
  have e9 := and_one _ _ e
  have e8 := and_one _ _ e9.1
  have e7 := and_one _ _ e8.1
  have e6 := and_one _ _ e7.1
  have e5 := and_one _ _ e6.1
  have e4 := and_one _ _ e5.1
  have e3 := and_one _ _ e4.1
  have e2 := and_one _ _ e3.1
  have e1 := and_one _ _ e2.1
  exact ⟨fun i => entries_real x0 _ _ _ _ _ e1.1 i, fun i => entries_real x1 _ _ _ _ _ e1.2 i, fun i => entries_real x2 _ _ _ _ _ e2.2 i, fun i => entries_real x3 _ _ _ _ _ e3.2 i, fun i => entries_real x4 _ _ _ _ _ e4.2 i, fun i => entries_real x5 _ _ _ _ _ e5.2 i, fun i => entries_real x6 _ _ _ _ _ e6.2 i, fun i => entries_real x7 _ _ _ _ _ e7.2 i, fun i => entries_real x8 _ _ _ _ _ e8.2 i, fun i => entries_real x9 _ _ _ _ _ e9.2 i⟩

end

section
open Cert.On_written Cert.On_written.Facts

theorem col_lt (x0 : FVec Ideal S8192x1024 .f32) (x1 : FVec Ideal S8192x2048 .f32) (x2 : FVec Ideal S8192x512 .f32) (x3 : FVec Ideal S8x128x128 .f32) (x4 : FVec Ideal S8x128 .f32) (x5 : FVec Ideal S512 .f32) (x6 : FVec Ideal S512 .f32) (x7 : FVec Ideal S512 .f32) (x8 : FVec Ideal S512 .f32) (x9 : FVec Ideal S512 .f32) (i : S8192x2048.Idx) (e : (Cert.On_written.fn (F := Ideal) x0 x1 x2 x3 x4 x5 x6 x7 x8 x9).1 i = 1#1) : (i 1).val < 1024 := by
  have e' : BitVec.ofBool (BitVec.slt (BitVec.ofNat 32 (i 1).val) 1024#32) = 1#1 := e
  have hi : (i 1).val < 2048 := (i 1).isLt
  generalize (i 1).val = n at e' hi ⊢
  by_contra hn
  have : BitVec.slt (BitVec.ofNat 32 n) 1024#32 = false := by
    rw [BitVec.slt_eq_decide, BitVec.toInt_eq_toNat_cond, BitVec.toInt_eq_toNat_cond]
    simp only [BitVec.toNat_ofNat]
    rw [Nat.mod_eq_of_lt (by omega : n < 2 ^ 32)]
    simp
    omega
  rw [this] at e'
  exact absurd e' (by decide)

end

end Real1

end
-- ==== Proof.Mixer.lean ====
/- The claims: the frames, the sanctioned idealization, and the equality of the kernel's results with the gradient the reference computes. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.KerFin
public import proofs.«01_k».proof.Proof.RefB
public import proofs.«01_k».proof.Proof.RealArgs
public import Idealize.ShloMosaic.Adequacy

@[expose] public section

set_option maxRecDepth 16384

noncomputable section

namespace Mixer

open Idealize.ShloMosaic Idealize.ShloMosaic.TcCoe Idealize.SL.Sem

/-! ## Frames and the idealization -/

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ

theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
        ∧ r.2.sem = fun _ => 0) :=
  (θ_run Cert.ReferenceIdeal.defs _ _).mono (fun r h => ⟨fun c => (h c).2.2.2.2.2.2.2.2.2,
      sem_eq_zero_of_no_sems (by decide) r.2⟩)
    (Cert.ReferenceIdeal.Value.run (F := Ideal) m ρ)

theorem frame_ri : Cert.quiescent_ReferenceIdeal := fun m ρ _ => ref_frame m ρ
theorem frame_ri_finite : Cert.quiescent_ReferenceIdeal_pre_finite := fun m ρ _ => ref_frame m ρ

theorem preserves : Cert.preserves_Kernel_KernelIdeal :=
  ⟨IdealRules.named_const.statement Cert.KernelIdeal.κ "c" .f32 0x3D372713#32 ((8943 / 200000 : ℝ) : EReal) rfl,
   IdealRules.named_const.statement Cert.KernelIdeal.κ "c3" .f32 0x3E095D4F#32 ((26829 / 200000 : ℝ) : EReal) rfl⟩

/-! ## The launch's real arguments -/

section
open Cert.KernelIdeal Cert.KernelIdeal.Gen Cert.KernelIdeal.Value

/-- The real arguments a memory holds. -/
def argsOf (m : (ℓ : Loc nD τ sig) → Buf (Elt Ideal) ℓ) (c : Dev nD) : Mix.Args where
  D R k := ((m ((c : Thread nD τ).loc main_arg0) : FVec Ideal S8192x1024 .f32) (ValueIdx.ix2 R k) : EReal).toReal
  Z R k := ((m ((c : Thread nD τ).loc main_arg1) : FVec Ideal S8192x2048 .f32) (ValueIdx.ix2 R k) : EReal).toReal
  C R k := ((m ((c : Thread nD τ).loc main_arg2) : FVec Ideal S8192x512 .f32) (ValueIdx.ix2 R k) : EReal).toReal
  W g p q := ((m ((c : Thread nD τ).loc main_arg3) : FVec Ideal S8x128x128 .f32) (ValueIdx.ix3 g p q) : EReal).toReal
  B g p := ((m ((c : Thread nD τ).loc main_arg4) : FVec Ideal S8x128 .f32) (ValueIdx.ix2 g p) : EReal).toReal
  vg k := ((m ((c : Thread nD τ).loc main_arg5) : FVec Ideal S512 .f32) (ValueIdx.ix1 k) : EReal).toReal
  vb k := ((m ((c : Thread nD τ).loc main_arg6) : FVec Ideal S512 .f32) (ValueIdx.ix1 k) : EReal).toReal
  cb k := ((m ((c : Thread nD τ).loc main_arg7) : FVec Ideal S512 .f32) (ValueIdx.ix1 k) : EReal).toReal
  cg k := ((m ((c : Thread nD τ).loc main_arg8) : FVec Ideal S512 .f32) (ValueIdx.ix1 k) : EReal).toReal
  cn k := ((m ((c : Thread nD τ).loc main_arg9) : FVec Ideal S512 .f32) (ValueIdx.ix1 k) : EReal).toReal

theorem ins (m : (ℓ : Loc nD τ sig) → Buf (Elt Ideal) ℓ) (h : Cert.Pre_KernelIdeal_finite m) (c : Dev nD) : Blk.Ins m c (argsOf m c) := by
  have e := Real1.args_real _ _ _ _ _ _ _ _ _ _ (h c)
  exact ⟨fun i => (e.1 i).trans (congrArg (fun j => (((m ((c : Thread nD τ).loc main_arg0) : FVec Ideal S8192x1024 .f32) j : EReal).toReal : EReal)) (ValueIdx.eq_ix2 i)),
    fun i => (e.2.1 i).trans (congrArg (fun j => (((m ((c : Thread nD τ).loc main_arg1) : FVec Ideal S8192x2048 .f32) j : EReal).toReal : EReal)) (ValueIdx.eq_ix2 i)),
    fun i => (e.2.2.1 i).trans (congrArg (fun j => (((m ((c : Thread nD τ).loc main_arg2) : FVec Ideal S8192x512 .f32) j : EReal).toReal : EReal)) (ValueIdx.eq_ix2 i)),
    fun i => (e.2.2.2.1 i).trans (congrArg (fun j => (((m ((c : Thread nD τ).loc main_arg3) : FVec Ideal S8x128x128 .f32) j : EReal).toReal : EReal)) (ValueIdx.eq_ix3 i)),
    fun i => (e.2.2.2.2.1 i).trans (congrArg (fun j => (((m ((c : Thread nD τ).loc main_arg4) : FVec Ideal S8x128 .f32) j : EReal).toReal : EReal)) (ValueIdx.eq_ix2 i)),
    fun i => (e.2.2.2.2.2.1 i).trans (congrArg (fun j => (((m ((c : Thread nD τ).loc main_arg5) : FVec Ideal S512 .f32) j : EReal).toReal : EReal)) (ValueIdx.eq_ix1 i)),
    fun i => (e.2.2.2.2.2.2.1 i).trans (congrArg (fun j => (((m ((c : Thread nD τ).loc main_arg6) : FVec Ideal S512 .f32) j : EReal).toReal : EReal)) (ValueIdx.eq_ix1 i)),
    fun i => (e.2.2.2.2.2.2.2.1 i).trans (congrArg (fun j => (((m ((c : Thread nD τ).loc main_arg7) : FVec Ideal S512 .f32) j : EReal).toReal : EReal)) (ValueIdx.eq_ix1 i)),
    fun i => (e.2.2.2.2.2.2.2.2.1 i).trans (congrArg (fun j => (((m ((c : Thread nD τ).loc main_arg8) : FVec Ideal S512 .f32) j : EReal).toReal : EReal)) (ValueIdx.eq_ix1 i)),
    fun i => (e.2.2.2.2.2.2.2.2.2 i).trans (congrArg (fun j => (((m ((c : Thread nD τ).loc main_arg9) : FVec Ideal S512 .f32) j : EReal).toReal : EReal)) (ValueIdx.eq_ix1 i))⟩

end

/-! ## The reference's results -/

section
open Cert.ReferenceIdeal Cert.ReferenceIdeal.Gen Cert.ReferenceIdeal.Read Idealize.ShloMosaic.StableHlo Stages

/-- The reference's initial memory holds the real arguments. -/
structure RefIns (m : (ℓ : Loc nD τ sig) → Buf (Elt Ideal) ℓ) (c : Dev nD) (a : Mix.Args) : Prop where
  h0 : launchContents m c (Proc.devRef .tc main_arg0) = aD a
  h1 : launchContents m c (Proc.devRef .tc main_arg1) = aZ a
  h2 : launchContents m c (Proc.devRef .tc main_arg2) = aC a
  h3 : launchContents m c (Proc.devRef .tc main_arg3) = aW a
  h4 : launchContents m c (Proc.devRef .tc main_arg4) = aB a
  h5 : launchContents m c (Proc.devRef .tc main_arg5) = avg a
  h6 : launchContents m c (Proc.devRef .tc main_arg6) = avb a
  h7 : launchContents m c (Proc.devRef .tc main_arg7) = acb a
  h8 : launchContents m c (Proc.devRef .tc main_arg8) = acg a
  h9 : launchContents m c (Proc.devRef .tc main_arg9) = acn a

theorem ref_results (m : (ℓ : Loc nD τ sig) → Buf (Elt Ideal) ℓ) (ρ : Dev nD → PrngReg) (a : Dev nD → Mix.Args) (I : ∀ c, RefIns m c (a c)) :
    θ_run (defs (F := Ideal)) (onTc (τ := τ) (main (F := Ideal))) ⟨m, fun _ => 0, ρ⟩ fun r => ∀ c : Dev nD,
      r.2.mem ((c.tc : Thread nD τ).loc main_v203) = val_main_v203 (F := Ideal) (aD (a c)) (aZ (a c)) (aW (a c)) (aB (a c)) (avg (a c)) (avb (a c))
      ∧ r.2.mem ((c.tc : Thread nD τ).loc main_v134) = val_main_v134 (F := Ideal) (aD (a c)) (aC (a c)) (acb (a c)) (acg (a c)) (acn (a c))
      ∧ r.2.mem ((c.tc : Thread nD τ).loc main_v148) = val_main_v148 (F := Ideal) (aD (a c)) (aZ (a c)) (avg (a c)) (avb (a c))
      ∧ r.2.mem ((c.tc : Thread nD τ).loc main_v146) = val_main_v146 (F := Ideal) (aD (a c)) (aZ (a c))
      ∧ r.2.mem ((c.tc : Thread nD τ).loc main_v204) = val_main_v204 (F := Ideal) (aD (a c)) (aZ (a c)) (aW (a c))
      ∧ r.2.mem ((c.tc : Thread nD τ).loc main_v205) = val_main_v205 (F := Ideal) (aD (a c)) (aZ (a c)) (aW (a c))
      ∧ r.2.mem ((c.tc : Thread nD τ).loc main_v206) = val_main_v206 (F := Ideal) (aD (a c)) (aC (a c)) (acb (a c)) (acg (a c)) (acn (a c))
      ∧ r.2.mem ((c.tc : Thread nD τ).loc main_v207) = val_main_v207 (F := Ideal) (aD (a c)) (aC (a c)) (acb (a c)) (acg (a c)) (acn (a c))
      ∧ r.2.mem ((c.tc : Thread nD τ).loc main_v208) = val_main_v208 (F := Ideal) (aD (a c)) (aC (a c)) (acb (a c)) (acg (a c)) (acn (a c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Cert.ReferenceIdeal.Value.run (F := Ideal) m ρ)
  have I := I c
  obtain ⟨q0, q1, q2, q3, q4, q5, q6, q7, q8, q9⟩ := h c
  refine ⟨?_, ?_, ?_, ?_, ?_, ?_, ?_, ?_, ?_, q9⟩
  · refine q0.trans ((val_main_v203_eq (launchContents m c)).trans ?_)
    rw [I.h0, I.h1, I.h3, I.h4, I.h5, I.h6]
  · refine q1.trans ((val_main_v134_eq (launchContents m c)).trans ?_)
    rw [I.h0, I.h2, I.h7, I.h8, I.h9]
  · refine q2.trans ((val_main_v148_eq (launchContents m c)).trans ?_)
    rw [I.h0, I.h1, I.h5, I.h6]
  · refine q3.trans ((val_main_v146_eq (launchContents m c)).trans ?_)
    rw [I.h0, I.h1]
  · refine q4.trans ((val_main_v204_eq (launchContents m c)).trans ?_)
    rw [I.h0, I.h1, I.h3]
  · refine q5.trans ((val_main_v205_eq (launchContents m c)).trans ?_)
    rw [I.h0, I.h1, I.h3]
  · refine q6.trans ((val_main_v206_eq (launchContents m c)).trans ?_)
    rw [I.h0, I.h2, I.h7, I.h8, I.h9]
  · refine q7.trans ((val_main_v207_eq (launchContents m c)).trans ?_)
    rw [I.h0, I.h2, I.h7, I.h8, I.h9]
  · refine q8.trans ((val_main_v208_eq (launchContents m c)).trans ?_)
    rw [I.h0, I.h2, I.h7, I.h8, I.h9]

end

/-! ## The equality -/

open Blk in
theorem algebraic : Cert.algebraic_KernelIdeal_ReferenceIdeal_on_written_pre_finite := by
  intro m ρ m' ρ' hp hag
  have I := ins m hp
  have J : ∀ c : Dev Cert.ReferenceIdeal.nD, RefIns m' c (argsOf m c) := fun c => by
    obtain ⟨g0, g1, g2, g3, g4, g5, g6, g7, g8, g9⟩ := hag c
    exact ⟨g0.trans (funext fun i => (I c).h0 i),
      g1.trans (funext fun i => (I c).h1 i),
      g2.trans (funext fun i => (I c).h2 i),
      g3.trans (funext fun i => (I c).h3 i),
      g4.trans (funext fun i => (I c).h4 i),
      g5.trans (funext fun i => (I c).h5 i),
      g6.trans (funext fun i => (I c).h6 i),
      g7.trans (funext fun i => (I c).h7 i),
      g8.trans (funext fun i => (I c).h8 i),
      g9.trans (funext fun i => (I c).h9 i)⟩
  refine ⟨fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, fun c => (Cert.KernelIdeal.Gen.dats m 0 c).arrAt 15 Cert.KernelIdeal.cfg0.N, fun c => (Cert.KernelIdeal.Gen.dats m 0 c).arrAt 16 Cert.KernelIdeal.cfg0.N, fun c => (Cert.KernelIdeal.Gen.dats m 0 c).arrAt 17 Cert.KernelIdeal.cfg0.N, fun c => (Cert.KernelIdeal.Gen.dats m 0 c).arrAt 18 Cert.KernelIdeal.cfg0.N, fun c => (Cert.KernelIdeal.Gen.dats m 0 c).arrAt 19 Cert.KernelIdeal.cfg0.N, fun c => (Cert.KernelIdeal.Gen.dats m 0 c).arrAt 20 Cert.KernelIdeal.cfg0.N, ?_, ?_⟩
  · refine (θ_run Cert.KernelIdeal.defs _ _).mono (fun r h c => ?_) (Cert.KernelIdeal.Value.run_blocks m ρ)
    obtain ⟨q0, q1, q2, q3, q4, q5, q6, q7, q8, q9⟩ := h c
    exact ⟨fun i _ => congrFun q0 i, fun i _ => congrFun q1 i, fun i _ => congrFun q2 i, fun i _ => congrFun q3 i, fun i _ => congrFun q4 i, fun i _ => congrFun q5 i, fun i _ => congrFun q6 i, fun i _ => congrFun q7 i, fun i _ => congrFun q8 i, q9⟩
  · refine (θ_run Cert.ReferenceIdeal.defs _ _).mono (fun r h c => ?_) (ref_results m' ρ' (argsOf m) J)
    obtain ⟨q0, q1, q2, q3, q4, q5, q6, q7, q8, q9⟩ := h c
    refine ⟨fun i hm => ?_, fun i _ => (congrFun q1 i).trans ?_, fun i _ => (congrFun q2 i).trans ?_, fun i _ => (congrFun q3 i).trans ?_, fun i _ => (congrFun q4 i).trans ?_, fun i _ => (congrFun q5 i).trans ?_, fun i _ => (congrFun q6 i).trans ?_, fun i _ => (congrFun q7 i).trans ?_, fun i _ => (congrFun q8 i).trans ?_, q9⟩
    · have hi := Real1.col_lt _ _ _ _ _ _ _ _ _ _ i hm
      refine (congrFun q0 i).trans (Eq.trans ?_ (fin_dz (I c) i hi).symm)
      unfold dzG
      by_cases h5 : (i 1).val < 512
      · rw [dif_pos h5]; exact Stages.r_203_lo (argsOf m c) i h5
      · rw [dif_neg h5, dif_pos hi]; exact Stages.r_203_hi (argsOf m c) i h5 hi
    · exact (Stages.r_134 (argsOf m c) i).trans (congrFun (fin_dgc (I c)) i).symm
    · exact (Stages.r_148 (argsOf m c) i).trans (fin_dw (I c) i).symm
    · exact (Stages.r_146 (argsOf m c) i).trans (fin_dsb (I c) i).symm
    · exact (Stages.r_204 (argsOf m c) i).trans (fin_dvg (I c) i).symm
    · exact (Stages.r_205 (argsOf m c) i).trans (fin_dvb (I c) i).symm
    · exact (Stages.r_206 (argsOf m c) i).trans (fin_dcg (I c) i).symm
    · exact (Stages.r_207 (argsOf m c) i).trans (fin_dcn (I c) i).symm
    · exact (Stages.r_208 (argsOf m c) i).trans (fin_dcb (I c) i).symm

end Mixer

end
-- ==== Proof.Runs.lean ====
/- Four runs of 2048 rows are the 8192 rows: the sums. -/
module

public import Idealize.ShloMosaic.Lib.Pipeline.ValueKit

@[expose] public section

noncomputable section

namespace Runs

open Idealize.ShloMosaic

/-- Row `q` of run `s`. -/
def row (s : Fin 4) (q : Fin 2048) : Fin 8192 := ⟨2048 * s.val + q.val, by omega⟩

/-- A sum over the runs and their rows is a sum over all rows. -/
theorem sum_row (f : Fin 8192 → EReal) : ∑ s : Fin 4, ∑ q : Fin 2048, f (row s q) = ∑ k, f k := by
  refine (Fin.sum_divmod_congr (N := 8192) (A := 4) (S := 2048) (f := fun s q => f (row s q)) (fun R h0 h1 => ?_) (by norm_num)).symm
  refine congrArg f (Fin.ext ?_)
  show (R : ℕ) = 2048 * ((R : ℕ) / 2048) + (R : ℕ) % 2048
  omega

/-- A sum that restarts at every fourth point and takes one run of rows' terms at each holds, at the fourth, all rows' terms. -/
theorem total {N : ℕ} {ι : Type} (acc : (n : ℕ) → n < N → ι → EReal) (part : Fin N → ι → EReal)
    (hA : ∀ t : Fin N, t.val % 4 = 0 → ∀ j, acc t.val t.isLt j = 0 + part t j)
    (hB : ∀ t : Fin N, ¬ t.val % 4 = 0 → ∀ j, acc t.val t.isLt j = acc (t.val - 1) (Nat.lt_of_le_of_lt (Nat.sub_le _ _) t.isLt) j + part t j)
    (g : ℕ → ι → Fin 8192 → EReal) (hp : ∀ (t : Fin N) (s : Fin 4), t.val % 4 = s.val → ∀ j, part t j = ∑ q : Fin 2048, g (t.val / 4) j (row s q))
    (t : Fin N) (h : t.val % 4 = 3) (j : ι) : acc t.val t.isLt j = ∑ k, g (t.val / 4) j k := by
  rw [Pipeline.eq_sum_fin_of_reset_step_apply_of_flush acc 4 (fun _ => 0) part hA hB t h j, zero_add, ← sum_row]
  refine Finset.sum_congr rfl fun s _ => (hp _ s (show (4 * (t.val / 4) + s.val) % 4 = s.val by omega) j).trans ?_
  rw [show (4 * (t.val / 4) + s.val) / 4 = t.val / 4 by omega]

end Runs

end
-- ==== Proof.Dw1.lean ====
/- The gradient of the channel mixer's first weights: what the accumulated product holds. -/
module

public import proofs.«01_k».proof.Proof.Gen.Kernel2Ideal.Frame
public import proofs.«01_k».proof.Proof.Runs
public import Idealize.ShloMosaic.Lib.Pipeline.ReadBack

@[expose] public section

set_option maxRecDepth 16384

noncomputable section

namespace Dw1

open Idealize.ShloMosaic Idealize.ShloMosaic.TcCoe Cert.Kernel2Ideal Cert.Kernel2Ideal.Gen

variable (m : (ℓ : Loc nD τ sig) → Buf (Elt Ideal) ℓ) (c : Dev nD)

/-- The two arrays the product takes. -/
abbrev H : FVec Ideal S8192x1024 .bf16 := m ((c : Thread nD τ).loc main_arg0)
abbrev D : FVec Ideal S8192x4096 .bf16 := m ((c : Thread nD τ).loc main_arg1)

/-- The blocks a point reads. -/
abbrev X (t : Fin cfg0.N) : FVec Ideal S2048x1024 .bf16 := iblk m c 0 t
abbrev Y (t : Fin cfg0.N) : FVec Ideal S2048x2048 .bf16 := iblk m c 1 t

/-- One point's share of an entry: 2048 rows' products. -/
def part (t : Fin cfg0.N) (j : S1024x2048.Idx) : EReal :=
  ∑ q : Fin 2048, X m c t (ix2 q (j 0)) * Y m c t (ix2 q (j 1))

theorem p1 (x : FVec Ideal S2048x1024 .bf16) (y : FVec Ideal S2048x2048 .bf16) (j : S1024x2048.Idx) :
    k0_pay1 (F := Ideal) x y j = ∑ q : Fin 2048, x (ix2 q (j 0)) * y (ix2 q (j 1)) := by
  pointwise [k0_pay1]
theorem p2 (x : FVec Ideal S2048x1024 .bf16) (y : FVec Ideal S2048x2048 .bf16) (j : S1024x2048.Idx) :
    k0_pay2 (F := Ideal) x y j = 0 + ∑ q : Fin 2048, x (ix2 q (j 0)) * y (ix2 q (j 1)) := by
  unfold k0_pay2; rw [shapeCast_self, zero_add]; exact p1 x y j
theorem p3 (x : FVec Ideal S2048x1024 .bf16) (y : FVec Ideal S2048x2048 .bf16) (z : FVec Ideal S1024x2048 .f32) (j : S1024x2048.Idx) :
    k0_pay3 (F := Ideal) x y z j = z j + ∑ q : Fin 2048, x (ix2 q (j 0)) * y (ix2 q (j 1)) := by
  unfold k0_pay3; rw [shapeCast_self]; exact congrArg (z j + ·) (p1 x y j)

abbrev before (t : Fin cfg0.N) := outsAt0 m c (t.val - 1) (lt_of_le_of_lt (Nat.sub_le _ _) t.isLt)

/-- The sum as a point reads it back. -/
def held (t : Fin cfg0.N) : FVec Ideal S1024x2048 .f32 :=
  View.read (Elt Ideal) (View.whole cc0_scratch0) ((Memref.isWhole_whole cc0_scratch0).unread (before m c t).2)
theorem held_eq (t : Fin cfg0.N) : held m c t = (before m c t).2 := Memref.IsWhole.read_unread _ _

theorem acc_A (t : Fin cfg0.N) (h0 : t.val % 4 = 0) (j : S1024x2048.Idx) : (outsAt0 m c t.val t.isLt).2 j = 0 + part m c t j := by
  rw [outsAt0_A m c t h0 (by omega) (by omega)]
  frame_open
  frame_out
  exact Eq.trans (b := k0_pay2 (F := Ideal) (X m c t) (Y m c t) j) (by sl_kernel_rfl) (p2 _ _ j)
theorem acc_B (t : Fin cfg0.N) (h0 : ¬ t.val % 4 = 0) (j : S1024x2048.Idx) : (outsAt0 m c t.val t.isLt).2 j = (before m c t).2 j + part m c t j := by
  by_cases h2 : t.val % 4 = 3
  · rw [outsAt0_C m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
  · rw [outsAt0_B m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
theorem out_C (t : Fin cfg0.N) (h2 : t.val % 4 = 3) (j : S1024x2048.Idx) : (outsAt0 m c t.val t.isLt).1 j = (before m c t).2 j + part m c t j := by
  rw [outsAt0_C m c t (by omega) (by omega) h2]
  frame_open
  frame_out
  exact Eq.trans (b := k0_pay3 (F := Ideal) (X m c t) (Y m c t) (held m c t) j) (by sl_kernel_rfl) ((p3 _ _ _ j).trans (congrArg (fun z => z j + part m c t j) (held_eq m c t)))

theorem idx : ∀ t : Fin cfg0.N, win0_0.index t = ![t.val % 4, 0] ∧ win0_1.index t = ![t.val % 4, t.val / 4] ∧ win0_2.index t = ![0, t.val / 4] ∧ t.val < 8 :=
  (by decide +kernel : ∀ t : Fin grid0.N, _)

/-- Column `j` of the column block that point `t` works on. -/
def col (b : ℕ) (j : Fin 2048) : Fin 4096 := ⟨2048 * (b % 2) + j.val, by omega⟩

theorem part_eq (t : Fin cfg0.N) (s : Fin 4) (hs : t.val % 4 = s.val) (j : S1024x2048.Idx) :
    part m c t j = ∑ q : Fin 2048, H m c (ix2 (Runs.row s q) (j 0)) * D m c (ix2 (Runs.row s q) (col (t.val / 4) (j 1))) := by
  have h8 := (idx t).2.2.2
  have hb : t.val / 4 % 2 = t.val / 4 := by omega
  refine Finset.sum_congr rfl fun q _ => congrArg₂ (· * ·) ?_ ?_
  · blk_ext [iblk, V, Runs.row, idx t, hs]
  · blk_ext [iblk, V, Runs.row, col, idx t, hs, hb]

theorem out_eq (t : Fin cfg0.N) (h : t.val % 4 = 3) (j : S1024x2048.Idx) :
    (outsAt0 m c t.val t.isLt).1 j = ∑ k : Fin 8192, H m c (ix2 k (j 0)) * D m c (ix2 k (col (t.val / 4) (j 1))) := by
  rw [out_C m c t h j, ← acc_B m c t (by omega) j]
  exact Runs.total (fun n h j => ((outsAt0 m c n h).2 j : EReal)) (part m c) (acc_A m c) (acc_B m c)
    (fun b j k => H m c (ix2 k (j 0)) * D m c (ix2 k (col b (j 1)))) (part_eq m c) t h j

/-- The whole product. -/
def G (i : S1024x4096.Idx) : EReal := ∑ k : Fin 8192, H m c (ix2 k (i 0)) * D m c (ix2 k (i 1))

theorem fin_dw : (dats m 0 c).arrAt 2 cfg0.N = (G m c : FVec Ideal S1024x4096 .bf16) := by
  refine (dats m 0 c).arrAt_eq_of_covers 2 _ (by decide +kernel) fun t hf y => ?_
  blk_simp
  rw [after0_2]
  have h8 := (idx t).2.2.2
  have hb : t.val / 4 % 2 = t.val / 4 := by omega
  refine (out_eq m c t ((flush0_2 t).mp hf) _).trans ?_
  refine Eq.trans (b := G m c (ix2 (y 0) (col (t.val / 4) (y 1)))) rfl ?_
  blk_ext [col, idx t, hb]

end Dw1

end
-- ==== Proof.Dw2.lean ====
/- The gradient of the channel mixer's second weights: what the accumulated product holds. -/
module

public import proofs.«01_k».proof.Proof.Gen.Kernel3Ideal.Frame
public import proofs.«01_k».proof.Proof.Runs
public import Idealize.ShloMosaic.Lib.Pipeline.ReadBack

@[expose] public section

set_option maxRecDepth 16384

noncomputable section

namespace Dw2

open Idealize.ShloMosaic Idealize.ShloMosaic.TcCoe Cert.Kernel3Ideal Cert.Kernel3Ideal.Gen

variable (m : (ℓ : Loc nD τ sig) → Buf (Elt Ideal) ℓ) (c : Dev nD)

/-- The square of the positive part. -/
abbrev sq (a : EReal) : EReal := max a 0 * max a 0

/-- The two arrays the product takes. -/
abbrev A : FVec Ideal S8192x4096 .bf16 := m ((c : Thread nD τ).loc main_arg0)
abbrev D : FVec Ideal S8192x1024 .bf16 := m ((c : Thread nD τ).loc main_arg1)

/-- The blocks a point reads. -/
abbrev X (t : Fin cfg0.N) : FVec Ideal S2048x1024 .bf16 := iblk m c 0 t
abbrev Y (t : Fin cfg0.N) : FVec Ideal S2048x1024 .bf16 := iblk m c 1 t

/-- One point's share of an entry: 2048 rows' products. -/
def part (t : Fin cfg0.N) (j : S1024x1024.Idx) : EReal :=
  ∑ q : Fin 2048, sq (X m c t (ix2 q (j 0))) * Y m c t (ix2 q (j 1))

theorem p1 (x : FVec Ideal S2048x1024 .bf16) (y : FVec Ideal S2048x1024 .bf16) (j : S1024x1024.Idx) :
    k0_pay1 (F := Ideal) x y j = ∑ q : Fin 2048, sq (x (ix2 q (j 0))) * y (ix2 q (j 1)) := by
  pointwise [k0_pay1, sq]
theorem p2 (x : FVec Ideal S2048x1024 .bf16) (y : FVec Ideal S2048x1024 .bf16) (j : S1024x1024.Idx) :
    k0_pay2 (F := Ideal) x y j = 0 + ∑ q : Fin 2048, sq (x (ix2 q (j 0))) * y (ix2 q (j 1)) := by
  unfold k0_pay2; rw [shapeCast_self, zero_add]; exact p1 x y j
theorem p3 (x : FVec Ideal S2048x1024 .bf16) (y : FVec Ideal S2048x1024 .bf16) (z : FVec Ideal S1024x1024 .f32) (j : S1024x1024.Idx) :
    k0_pay3 (F := Ideal) x y z j = z j + ∑ q : Fin 2048, sq (x (ix2 q (j 0))) * y (ix2 q (j 1)) := by
  unfold k0_pay3; rw [shapeCast_self]; exact congrArg (z j + ·) (p1 x y j)

abbrev before (t : Fin cfg0.N) := outsAt0 m c (t.val - 1) (lt_of_le_of_lt (Nat.sub_le _ _) t.isLt)

/-- The sum as a point reads it back. -/
def held (t : Fin cfg0.N) : FVec Ideal S1024x1024 .f32 :=
  View.read (Elt Ideal) (View.whole cc0_scratch0) ((Memref.isWhole_whole cc0_scratch0).unread (before m c t).2)
theorem held_eq (t : Fin cfg0.N) : held m c t = (before m c t).2 := Memref.IsWhole.read_unread _ _

theorem acc_A (t : Fin cfg0.N) (h0 : t.val % 4 = 0) (j : S1024x1024.Idx) : (outsAt0 m c t.val t.isLt).2 j = 0 + part m c t j := by
  rw [outsAt0_A m c t h0 (by omega) (by omega)]
  frame_open
  frame_out
  exact Eq.trans (b := k0_pay2 (F := Ideal) (X m c t) (Y m c t) j) (by sl_kernel_rfl) (p2 _ _ j)
theorem acc_B (t : Fin cfg0.N) (h0 : ¬ t.val % 4 = 0) (j : S1024x1024.Idx) : (outsAt0 m c t.val t.isLt).2 j = (before m c t).2 j + part m c t j := by
  by_cases h2 : t.val % 4 = 3
  · rw [outsAt0_C m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
  · rw [outsAt0_B m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
theorem out_C (t : Fin cfg0.N) (h2 : t.val % 4 = 3) (j : S1024x1024.Idx) : (outsAt0 m c t.val t.isLt).1 j = (before m c t).2 j + part m c t j := by
  rw [outsAt0_C m c t (by omega) (by omega) h2]
  frame_open
  frame_out
  exact Eq.trans (b := k0_pay3 (F := Ideal) (X m c t) (Y m c t) (held m c t) j) (by sl_kernel_rfl) ((p3 _ _ _ j).trans (congrArg (fun z => z j + part m c t j) (held_eq m c t)))

theorem idx : ∀ t : Fin cfg0.N, win0_0.index t = ![t.val % 4, t.val / 4] ∧ win0_1.index t = ![t.val % 4, 0] ∧ win0_2.index t = ![t.val / 4, 0] ∧ t.val < 16 :=
  (by decide +kernel : ∀ t : Fin grid0.N, _)

/-- Row `j` of the row block that point `t` works on. -/
def rowOf (b : ℕ) (j : Fin 1024) : Fin 4096 := ⟨1024 * (b % 4) + j.val, by omega⟩

theorem part_eq (t : Fin cfg0.N) (s : Fin 4) (hs : t.val % 4 = s.val) (j : S1024x1024.Idx) :
    part m c t j = ∑ q : Fin 2048, sq (A m c (ix2 (Runs.row s q) (rowOf (t.val / 4) (j 0)))) * D m c (ix2 (Runs.row s q) (j 1)) := by
  have h16 := (idx t).2.2.2
  have hb : t.val / 4 % 4 = t.val / 4 := by omega
  refine Finset.sum_congr rfl fun q _ => congrArg₂ (· * ·) ?_ ?_
  · refine congrArg sq ?_
    blk_ext [iblk, V, Runs.row, rowOf, idx t, hs, hb]
  · blk_ext [iblk, V, Runs.row, idx t, hs]

theorem out_eq (t : Fin cfg0.N) (h : t.val % 4 = 3) (j : S1024x1024.Idx) :
    (outsAt0 m c t.val t.isLt).1 j = ∑ k : Fin 8192, sq (A m c (ix2 k (rowOf (t.val / 4) (j 0)))) * D m c (ix2 k (j 1)) := by
  rw [out_C m c t h j, ← acc_B m c t (by omega) j]
  exact Runs.total (fun n h j => ((outsAt0 m c n h).2 j : EReal)) (part m c) (acc_A m c) (acc_B m c)
    (fun b j k => sq (A m c (ix2 k (rowOf b (j 0)))) * D m c (ix2 k (j 1))) (part_eq m c) t h j

/-- The whole product. -/
def G (i : S4096x1024.Idx) : EReal := ∑ k : Fin 8192, sq (A m c (ix2 k (i 0))) * D m c (ix2 k (i 1))

theorem fin_dw : (dats m 0 c).arrAt 2 cfg0.N = (G m c : FVec Ideal S4096x1024 .bf16) := by
  refine (dats m 0 c).arrAt_eq_of_covers 2 _ (by decide +kernel) fun t hf y => ?_
  blk_simp
  rw [after0_2]
  have h16 := (idx t).2.2.2
  have hb : t.val / 4 % 4 = t.val / 4 := by omega
  refine (out_eq m c t ((flush0_2 t).mp hf) _).trans ?_
  refine Eq.trans (b := G m c (ix2 (rowOf (t.val / 4) (y 0)) (y 1))) rfl ?_
  blk_ext [rowOf, idx t, hb]

end Dw2

end
-- ==== Proof.Weights.lean ====
/- The claims about the two programs for the channel mixer's weight gradients. -/
module

public import proofs.«01_k».proof.Defs
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Dw1
public import proofs.«01_k».proof.Proof.Dw2
public import Idealize.ShloMosaic.Adequacy

@[expose] public section

set_option maxRecDepth 16384

noncomputable section

open Idealize.ShloMosaic Idealize.ShloMosaic.TcCoe Idealize.SL.Sem

namespace Dw1

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem preserves : Cert.preserves_Kernel2_Kernel2Ideal := trivial

open Cert.Reference2Ideal Cert.Reference2Ideal.Read in
/-- The reference's result is the product the kernel accumulates. -/
theorem ref_eq (x : FVec Ideal S8192x1024 .bf16) (y : FVec Ideal S8192x4096 .bf16) (i : S1024x4096.Idx) :
    val_main_v6 (F := Ideal) x y i = ∑ k : Fin 8192, x (ix2 k (i 0)) * y (ix2 k (i 1)) := by
  show val_main_v5 (F := Ideal) x y i = _
  rw [val_main_v5_apply, val_main_v4_apply]
  refine Finset.sum_congr rfl fun k _ => (mul_comm _ _).trans (congrArg₂ (· * ·) ?_ ?_)
  · exact congrArg x (funext fun a => by fin_cases a <;> rfl)
  · exact congrArg y (funext fun a => by fin_cases a <;> rfl)

theorem algebraic : Cert.algebraic_Kernel2Ideal_Reference2Ideal := by
  intro m ρ m' ρ' _ hag
  refine ⟨fun c => (Cert.Kernel2Ideal.Gen.dats m 0 c).arrAt 2 Cert.Kernel2Ideal.cfg0.N, Cert.Kernel2Ideal.Value.run_blocks m ρ, ?_⟩
  refine (θ_run Cert.Reference2Ideal.defs _ _).mono (fun r h c => ⟨(h c).1.trans ?_, (h c).2⟩) (Cert.Reference2Ideal.Value.run m' ρ')
  obtain ⟨g0, g1⟩ := hag c
  refine (Cert.Reference2Ideal.Read.val_main_v6_eq _ _).trans ?_
  rw [g0, g1]
  exact (funext fun i => ref_eq _ _ i).trans (fin_dw m c).symm

end Dw1

namespace Dw2

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
theorem preserves : Cert.preserves_Kernel3_Kernel3Ideal := trivial

open Cert.Reference3Ideal Cert.Reference3Ideal.Read in
/-- The reference's result is the product the kernel accumulates. -/
theorem ref_eq (x : FVec Ideal S8192x4096 .bf16) (y : FVec Ideal S8192x1024 .bf16) (i : S4096x1024.Idx) :
    val_main_v8 (F := Ideal) x y i = ∑ k : Fin 8192, sq (x (ix2 k (i 0))) * y (ix2 k (i 1)) := by
  show val_main_v7 (F := Ideal) x y i = _
  rw [val_main_v7_apply, val_main_v6_apply]
  refine Finset.sum_congr rfl fun k _ => (mul_comm _ _).trans (congrArg₂ (· * ·) ?_ ?_)
  · rw [val_main_v4_apply, val_main_v3_apply, val_main_call0_v0_apply]
    refine Eq.trans (congrArg (fun z : EReal => max (x _) z * max (x _) z) Ideal.ofBits_zero_f32) ?_
    exact congrArg sq (congrArg x (funext fun a => by fin_cases a <;> rfl))
  · exact congrArg y (funext fun a => by fin_cases a <;> rfl)

theorem algebraic : Cert.algebraic_Kernel3Ideal_Reference3Ideal := by
  intro m ρ m' ρ' _ hag
  refine ⟨fun c => (Cert.Kernel3Ideal.Gen.dats m 0 c).arrAt 2 Cert.Kernel3Ideal.cfg0.N, Cert.Kernel3Ideal.Value.run_blocks m ρ, ?_⟩
  refine (θ_run Cert.Reference3Ideal.defs _ _).mono (fun r h c => ⟨(h c).1.trans ?_, (h c).2⟩) (Cert.Reference3Ideal.Value.run m' ρ')
  obtain ⟨g0, g1⟩ := hag c
  refine (Cert.Reference3Ideal.Read.val_main_v8_eq _ _).trans ?_
  rw [g0, g1]
  exact (funext fun i => ref_eq _ _ i).trans (fin_dw m c).symm

end Dw2

end
-- ==== Proof.FwdRun.lean ====
/- The channel mixer's forward call: its run, at every grid point and over any float values. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

abbrev M1 := Memref sig .tc .vmem S1024x1024 .f32
abbrev M2 := Memref sig .tc .vmem S1024x1024 .bf16

/-- A load of a whole block reads the block. -/
theorem ld {e : EltTy} (v : View sig .tc .vmem S1024x1024 e) (f : v.ty.Contents (Elt F)) :
    View.readAt (Elt F) v (Rect.unit ![0, 0] ![1024, 1024] inb_S1024x1024_S1024x1024_0_0).toLoadRect f = v.read (Elt F) f :=
  View.readAt_full v f _
theorem ld1 {e : EltTy} (v : View sig .tc .vmem S1x1024 e) (f : v.ty.Contents (Elt F)) :
    View.readAt (Elt F) v (Rect.unit ![0, 0] ![1, 1024] inb_S1x1024_S1x1024_0_0).toLoadRect f = v.read (Elt F) f :=
  View.readAt_full v f _

set_option maxHeartbeats 1000000 in
/-- The body in the first column: the normalised rows are made, the sum starts from the rows themselves. -/
theorem run_A (c : Dev nD) (i : grid0.Coords) (arg2 : M1) (harg2 : arg2.IsWhole) (arg3 : Memref sig .tc .vmem S1x1024 .f32) (harg3 : arg3.IsWhole)
    (arg4 : M2) (harg4 : arg4.IsWhole) (arg5 : M2) (harg5 : arg5.IsWhole) (arg6 : M1) (harg6 : arg6.IsWhole) (arg7 : M2) (harg7 : arg7.IsWhole)
    (arg8 : M2) (harg8 : arg8.IsWhole) (hc : k0_cond1 i = 1#1)
    (x0 : Vec F S1024x1024 .f32) (x1 : Vec F S1x1024 .f32) (x2 x3 : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (k0_pay1 x0 x1) x2 x0 x3) ∗ owns (c : Thread nD τ) arg7 fullShare (k0_pay3 (k0_pay1 x0 x1) x2) ∗ owns (c : Thread nD τ) arg8 fullShare (k0_pay1 x0 x1)) -∗ K ⟨⟩))
      ⊢ wp frame (wpE (defs₀ (F := F)) Variants.none c none) E (cc0_mlp_3 i arg2 harg2 arg3 harg3 arg4 harg4 arg5 harg5 arg6 harg6 arg7 harg7 arg8 harg8) K := by
  simp only [cc0_mlp_3_eq_skeleton]; unfold cc0_mlp_3_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  obtain rfl := harg2.eq_unread hf0; obtain rfl := harg3.eq_unread hf1; obtain rfl := harg4.eq_unread hf2; obtain rfl := harg5.eq_unread hf3
  sl_exec (disch := sl_exact hc)
  sl_step
  have e3 : run_A.sl.v3 c arg2 harg2 arg3 harg3 arg8 x0 x1 = k0_pay1 x0 x1 := by
    unfold run_A.sl.v3 run_A.sl.H6_1
    exact (View.readCov_full _ _ _ _ _).trans (by simp only [ld, ld1, hf0, hf1])
  have e12 : run_A.sl.v12 c arg2 harg2 arg6 x0 = x0 := by
    unfold run_A.sl.v12 run_A.sl.H4_1
    exact (View.readCov_full _ _ _ _ _).trans (by simp only [ld, hf0])
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    exact (View.read_writes_full _ _ _ _ _).trans (by simp only [ld, ld1, hf0, hf1, hf2, hf3, e3, e12])
  isplitl [H5]
  · iexists _; isplitr
    swap; · iexact H5
    ipureintro
    exact (View.read_writes_full _ _ _ _ _).trans (by simp only [ld, ld1, hf0, hf1, hf2, hf3, e3, e12])
  iexists _; isplitr
  swap; · iexact H6
  ipureintro
  exact (View.read_writes_full _ _ _ _ _).trans (by simp only [ld, ld1, hf0, hf1, hf2, hf3, e3, e12])

set_option maxHeartbeats 1000000 in
/-- The body past the first column: the normalised rows are kept, the sum grows by one product. -/
theorem run_B (c : Dev nD) (i : grid0.Coords) (arg2 : M1) (harg2 : arg2.IsWhole) (arg3 : Memref sig .tc .vmem S1x1024 .f32) (harg3 : arg3.IsWhole)
    (arg4 : M2) (harg4 : arg4.IsWhole) (arg5 : M2) (harg5 : arg5.IsWhole) (arg6 : M1) (harg6 : arg6.IsWhole) (arg7 : M2) (harg7 : arg7.IsWhole)
    (arg8 : M2) (harg8 : arg8.IsWhole) (hc : ¬ k0_cond1 i = 1#1)
    (x0 : Vec F S1024x1024 .f32) (x1 : Vec F S1x1024 .f32) (x2 x3 : Vec F S1024x1024 .bf16) (xo : Vec F S1024x1024 .f32) (xh : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xo ∗ (∃ d, owns (c : Thread nD τ) arg7 fullShare d) ∗ owns (c : Thread nD τ) arg8 fullShare xh
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 xh x2 xo x3) ∗ owns (c : Thread nD τ) arg7 fullShare (k0_pay3 xh x2) ∗ owns (c : Thread nD τ) arg8 fullShare xh) -∗ K ⟨⟩))
      ⊢ wp frame (wpE (defs₀ (F := F)) Variants.none c none) E (cc0_mlp_3 i arg2 harg2 arg3 harg3 arg4 harg4 arg5 harg5 arg6 harg6 arg7 harg7 arg8 harg8) K := by
  simp only [cc0_mlp_3_eq_skeleton]; unfold cc0_mlp_3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hf6
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    exact (View.read_writes_full _ _ _ _ _).trans (by simp only [ld, ld1, hf0, hf1, hf2, hf3, hf4, hf6])
  isplitl [H5]
  · iexists _; isplitr
    swap; · iexact H5
    ipureintro
    exact (View.read_writes_full _ _ _ _ _).trans (by simp only [ld, ld1, hf0, hf1, hf2, hf3, hf4, hf6])
  iexists _; isplitr; · ipureintro; exact harg8.read_unread _
  iexact H6

variable (m : (ℓ : Loc nD τ sig) → Buf (Elt F) ℓ) (ρ : Dev nD → PrngReg)

/-- What core `c`'s buffers hold when the grid starts: after the casts of the arguments. -/
abbrev V (c : Dev nD) (b : Ref sig .tc) : Buf (Elt F) ((c : Thread nD τ).loc b) := StableHlo.after hostOps0 (fun b => m (c, b)) b

theorem fresh_ops : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh_ops main_chain

/-- No cast writes an argument. -/
theorem V_arg (c : Dev nD) (b : Ref sig .tc) (h : b = main_arg0 ∨ b = main_arg1 ∨ b = main_arg2 ∨ b = main_arg3) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases h with rfl | rfl | rfl | rfl
    all_goals repeat' apply And.intro
    all_goals exact StableHlo.devRef_ne_of_ne (by decide)))

/-- Window `w`'s block at point `t`, of its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point. -/
abbrev bx (c : Dev nD) (t : Fin cfg0.N) : Vec F S1024x1024 .f32 := iblk m c 0 t
abbrev bg (c : Dev nD) (t : Fin cfg0.N) : Vec F S1x1024 .f32 := iblk m c 1 t
abbrev bu (c : Dev nD) (t : Fin cfg0.N) : Vec F S1024x1024 .bf16 := iblk m c 2 t
abbrev bv (c : Dev nD) (t : Fin cfg0.N) : Vec F S1024x1024 .bf16 := iblk m c 3 t

/-- What the body in the first column leaves of the sum and of the normalised rows. -/
abbrev start (c : Dev nD) (t : Fin cfg0.N) : Vec F S1024x1024 .f32 × Vec F S1024x1024 .bf16 :=
  (k0_pay4 (k0_pay1 (bx m c t) (bg m c t)) (bu m c t) (bx m c t) (bv m c t), k0_pay1 (bx m c t) (bg m c t))

/-- The sum and the normalised rows after point `n`. -/
def st (c : Dev nD) : (n : ℕ) → n < cfg0.N → Vec F S1024x1024 .f32 × Vec F S1024x1024 .bf16
  | 0, hn => start m c ⟨0, hn⟩
  | n + 1, hn =>
    if (n + 1) % 4 = 0 then start m c ⟨n + 1, hn⟩
    else (k0_pay4 (st c n (Nat.lt_of_succ_lt hn)).2 (bu m c ⟨n + 1, hn⟩) (st c n (Nat.lt_of_succ_lt hn)).1 (bv m c ⟨n + 1, hn⟩), (st c n (Nat.lt_of_succ_lt hn)).2)

/-- The same at a grid point, and at the point before it. -/
abbrev at_ (c : Dev nD) (t : Fin cfg0.N) := st m c t.val t.isLt
abbrev prev (c : Dev nD) (t : Fin cfg0.N) := st m c (t.val - 1) (Nat.lt_of_le_of_lt (Nat.sub_le _ _) t.isLt)

theorem at_A (c : Dev nD) (t : Fin cfg0.N) (h : t.val % 4 = 0) : at_ m c t = start m c t := by
  obtain ⟨n, hn⟩ := t
  cases n with
  | zero => rfl
  | succ n => exact if_pos h

theorem at_B (c : Dev nD) (t : Fin cfg0.N) (h : ¬ t.val % 4 = 0) :
    at_ m c t = (k0_pay4 (prev m c t).2 (bu m c t) (prev m c t).1 (bv m c t), (prev m c t).2) := by
  obtain ⟨n, hn⟩ := t
  cases n with
  | zero => exact absurd (Nat.zero_mod _) h
  | succ n => exact if_neg h

/-- The buffers point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (at_ m c t).1
    | ⟨5, _⟩ => k0_pay3 (at_ m c t).2 (bu m c t)
    | ⟨6, _⟩ => (at_ m c t).2
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's buffer holds its block at every point, whether or not the point fetches it. -/
theorem before_in (c : Dev nD) (w : Fin cfg0.W) (hw : w.val < 4) (t : Fin cfg0.N) (d) : (dats m 0 c).before w t d = (dats m 0 c).after w t := by
  match w, hw with
  | 0, _ => exact ((dats m 0 c).before_in_eq_fetched 0 rfl (fun _ => rfl) (fun _ _ _ => rfl) (fun t => by dsimp only [dats]; unfold Dat.blockOf iblk; rfl) t d)
  | 1, _ => exact ((dats m 0 c).before_in_eq_fetched 1 rfl (fun _ => rfl) (fun _ _ _ => rfl) (fun t => by dsimp only [dats]; unfold Dat.blockOf iblk; rfl) t d)
  | 2, _ => exact ((dats m 0 c).before_in_eq_fetched 2 rfl (fun _ => rfl) (fun _ _ _ => rfl) (fun t => by dsimp only [dats]; unfold Dat.blockOf iblk; rfl) t d)
  | 3, _ => exact ((dats m 0 c).before_in_eq_fetched 3 rfl (fun _ => rfl) (fun _ _ _ => rfl) (fun t => by dsimp only [dats]; unfold Dat.blockOf iblk; rfl) t d)

/-- The first column, by the point's number. -/
theorem hcond : ∀ t : Fin cfg0.N, k0_cond1 (grid0.coords t) = 1#1 ↔ t.val % 4 = 0 :=
  (by decide +kernel : ∀ t : Fin grid0.N, k0_cond1 (grid0.coords t) = 1#1 ↔ t.val % 4 = 0)

/-- The normalised rows are stored in the first column only, and kept until the last. -/
theorem idle6 : ∀ t : Fin cfg0.N, cfg0.idle 6 (grid0.coords t) = !decide (t.val % 4 = 0) := by decide +kernel
def tab6 : ℕ → Bool
  | 0 => true
  | n + 1 => (0x88888888 : ℕ).testBit n
theorem tab6_step : ∀ t : Fin cfg0.N,
    tab6 (t.val + 1) = ((cfg0.win 6).flush t || (cfg0.idle 6 (cfg0.grid.coords t) && tab6 t.val)) := by decide +kernel
theorem tab6_false : ∀ t : Fin cfg0.N, ¬ t.val % 4 = 0 → tab6 t.val = false := by decide +kernel
theorem notFresh6 (t : Fin cfg0.N) (h : ¬ t.val % 4 = 0) : cfg0.fresh 6 t.val = false :=
  (Pipeline.Cfg.fresh_tab cfg0 6 tab6 rfl tab6_step t.val (Nat.le_of_lt t.isLt)).trans (tab6_false t h)

theorem before4 (c : Dev nD) (t : Fin cfg0.N) (h : ¬ t.val % 4 = 0) (d) : (dats m 0 c).before 4 t d = (prev m c t).1 := by
  have hN : t.val < 32 := lt_of_lt_of_eq t.isLt (show cfg0.N = 32 from N_0)
  rw [Dat.before_out_kept _ 4 rfl t (by omega) (Bool.eq_false_iff.mpr fun h => by have := (flush0_4 _).mp h; dsimp only at this; omega)
    (fun _ => rfl) (fun _ _ => rfl)]
  dsimp only [dats]

theorem before6 (c : Dev nD) (t : Fin cfg0.N) (h : ¬ t.val % 4 = 0) (d) : (dats m 0 c).before 6 t d = (prev m c t).2 := by
  rw [Dat.before_out_traj _ 6 rfl (fun _ _ => rfl) (fun t _ hi _ => by
      have h : ¬ t.val % 4 = 0 := fun e => absurd (hi.symm.trans ((idle6 t).trans (show (!decide (t.val % 4 = 0)) = false by simp [e]))) (show ¬ true = false by decide)
      have e : (at_ m c t).2 = (prev m c t).2 := by rw [at_B m c t h]
      exact e) t.val t rfl d, if_neg (by rw [notFresh6 t h]; exact Bool.false_ne_true)]
  dsimp only [dats]

/-- What a point leaves of the normalised rows: what it found, past the first column. -/
theorem leaves6 (c : Dev nD) (t : Fin cfg0.N) : owns (c : Thread nD τ) (win0_6.stage (cfg0.slots t 6)) fullShare (at_ m c t).2 ⊢ ((dats m 0 c).leavesExact 6 t : sProp 𝕄) := by
  unfold Dat.leavesExact
  by_cases h : t.val % 4 = 0
  · rw [show cfg0.idle 6 (cfg0.grid.coords t) = false from (idle6 t).trans (by simp [h])]
    dsimp only [dats]; exact .rfl
  · rw [show cfg0.idle 6 (cfg0.grid.coords t) = true from (idle6 t).trans (by simp [h])]
    cases hf : (cfg0.win 6).flush t with
    | false =>
      simp only [before6 m c t h]
      rw [at_B m c t h]
      iintro H; iexists (prev m c t).2; iexact H
    | true => dsimp only [dats]; exact .rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have b0 : ∀ d, (dats m 0 c).before 0 t d = iblk m c 0 t := before_in m c 0 (by decide) t
  have b1 : ∀ d, (dats m 0 c).before 1 t d = iblk m c 1 t := before_in m c 1 (by decide) t
  have b2 : ∀ d, (dats m 0 c).before 2 t d = iblk m c 2 t := before_in m c 2 (by decide) t
  have b3 : ∀ d, (dats m 0 c).before 3 t d = iblk m c 3 t := before_in m c 3 (by decide) t
  simp only [b0, b1, b2, b3]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare (iblk m c 0 t) from rfl,
    show (dats m 0 c).leavesExact 1 t = owns (c : Thread nD τ) (win0_1.stage (cfg0.slots t 1)) fullShare (iblk m c 1 t) from rfl,
    show (dats m 0 c).leavesExact 2 t = owns (c : Thread nD τ) (win0_2.stage (cfg0.slots t 2)) fullShare (iblk m c 2 t) from rfl,
    show (dats m 0 c).leavesExact 3 t = owns (c : Thread nD τ) (win0_3.stage (cfg0.slots t 3)) fullShare (iblk m c 3 t) from rfl,
    show (dats m 0 c).leavesExact 4 t = owns (c : Thread nD τ) (win0_4.stage (cfg0.slots t 4)) fullShare (at_ m c t).1 from rfl,
    show (dats m 0 c).leavesExact 5 t = owns (c : Thread nD τ) (win0_5.stage (cfg0.slots t 5)) fullShare (k0_pay3 (at_ m c t).2 (bu m c t)) from rfl]
  by_cases h : t.val % 4 = 0
  · have e := at_A m c t h
    have L := leaves6 m c t
    rw [e] at L ⊢
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ ((hcond t).mpr h) (bx m c t) (bg m c t) (bu m c t) (bv m c t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply L; iexact H6
  · have e := at_B m c t h
    have L := leaves6 m c t
    rw [e] at L ⊢
    simp only [before4 m c t h, before6 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run_B c (grid0.coords t) _ _ _ _ _ _ _ _ _ _ _ _ _ _ (fun k => h ((hcond t).mp k)) (bx m c t) (bg m c t) (bu m c t) (bv m c t) (prev m c t).1 (prev m c t).2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply L; iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the grid ends at what the points wrote into it, every counter ends at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).1 0).trans (((dats m 0 c).arrAt_in 0 rfl _).trans ((A_eq m c 0).trans (V_arg m c main_arg0 (by simp)))),
    ((h c).2 main_arg1 (Pipeline.mem_restRefs_of main_arg1 (by decide) (by decide))).trans (V_arg m c main_arg1 (by simp)),
    ((h c).2 main_arg2 (Pipeline.mem_restRefs_of main_arg2 (by decide) (by decide))).trans (V_arg m c main_arg2 (by simp)),
    ((h c).2 main_arg3 (Pipeline.mem_restRefs_of main_arg3 (by decide) (by decide))).trans (V_arg m c main_arg3 (by simp))⟩

end Fwd

end
-- ==== Proof.Fwd.lean ====
/- The channel mixer's forward call: what its three results hold. -/
module

public import proofs.«01_k».proof.Proof.FwdRun
public import proofs.«01_k».proof.Proof.Gen.Reference4Ideal.Read
public import proofs.«01_k».proof.Proof.Runs
public import Idealize.ShloMosaic.Lib.Pipeline.ReadBack

@[expose] public section

set_option maxRecDepth 16384

noncomputable section

namespace Fwd

open Idealize.ShloMosaic Idealize.ShloMosaic.TcCoe Cert.Kernel4Ideal Cert.Kernel4Ideal.Gen

variable (m : (ℓ : Loc nD τ sig) → Buf (Elt Ideal) ℓ) (c : Dev nD)

/-- The four arguments. -/
abbrev A0 : FVec Ideal S8192x1024 .f32 := m ((c : Thread nD τ).loc main_arg0)
abbrev A1 : FVec Ideal S1024 .f32 := m ((c : Thread nD τ).loc main_arg1)
abbrev A2 : FVec Ideal S1024x4096 .f32 := m ((c : Thread nD τ).loc main_arg2)
abbrev A3 : FVec Ideal S4096x1024 .f32 := m ((c : Thread nD τ).loc main_arg3)

/-- The normalised rows, the hidden layer before its activation, and the result. -/
def H (i : S8192x1024.Idx) : EReal :=
  A0 m c i * Ideal.rsqrt (Ideal.div (∑ k : Fin 1024, A0 m c (ix2 (i 0) k) * A0 m c (ix2 (i 0) k)) (Ideal.ofBits .f32 1149239296#32) + Ideal.ofBits .f32 897988541#32) * A1 m c (ix1 (i 1))
def A (i : S8192x4096.Idx) : EReal := ∑ k : Fin 1024, H m c (ix2 (i 0) k) * A2 m c (ix2 k (i 1))
def act (i : S8192x4096.Idx) : EReal := max (A m c i) 0 * max (A m c i) 0
def O (i : S8192x1024.Idx) : EReal := A0 m c i + ∑ k : Fin 4096, act m c (ix2 (i 0) k) * A3 m c (ix2 k (i 1))

theorem p1 (x : FVec Ideal S1024x1024 .f32) (g : FVec Ideal S1x1024 .f32) (j : S1024x1024.Idx) :
    k0_pay1 (F := Ideal) x g j = x j * Ideal.rsqrt (Ideal.div (∑ k : Fin 1024, x (ix2 (j 0) k) * x (ix2 (j 0) k)) (Ideal.ofBits .f32 1149239296#32) + Ideal.ofBits .f32 897988541#32) * g (ix2 0 (j 1)) := by
  pointwise [k0_pay1]
theorem p2 (h u : FVec Ideal S1024x1024 .bf16) (j : S1024x1024.Idx) :
    k0_pay2 (F := Ideal) h u j = ∑ k : Fin 1024, h (ix2 (j 0) k) * u (ix2 k (j 1)) := by
  pointwise [k0_pay2]
theorem p3 (h u : FVec Ideal S1024x1024 .bf16) (j : S1024x1024.Idx) :
    k0_pay3 (F := Ideal) h u j = ∑ k : Fin 1024, h (ix2 (j 0) k) * u (ix2 k (j 1)) := by
  pointwise [k0_pay3, p2]
theorem p4 (h u v : FVec Ideal S1024x1024 .bf16) (z : FVec Ideal S1024x1024 .f32) (j : S1024x1024.Idx) :
    k0_pay4 (F := Ideal) h u z v j = z j + ∑ q : Fin 1024, max (∑ k : Fin 1024, h (ix2 (j 0) k) * u (ix2 k q)) 0 * max (∑ k : Fin 1024, h (ix2 (j 0) k) * u (ix2 k q)) 0 * v (ix2 q (j 1)) := by
  pointwise [k0_pay4, p2]

theorem g_eq (i : S1x1024.Idx) : (V m c main_v0 : FVec Ideal S1x1024 .f32) i = A1 m c (ix1 (i 1)) := by
  unfold V hostOps0
  after_results
  exact congrArg (A1 m c) (funext fun a => by fin_cases a <;> rfl)
theorem u_eq : (V m c main_v1 : FVec Ideal S1024x4096 .bf16) = A2 m c := by
  unfold V hostOps0
  after_results
  rfl
theorem v_eq : (V m c main_v2 : FVec Ideal S4096x1024 .bf16) = A3 m c := by
  unfold V hostOps0
  after_results
  rfl

theorem idx : ∀ t : Fin cfg0.N, win0_0.index t = ![t.val / 4, 0] ∧ win0_1.index t = ![0, 0] ∧ win0_2.index t = ![0, t.val % 4] ∧ win0_3.index t = ![t.val % 4, 0]
    ∧ win0_4.index t = ![t.val / 4, 0] ∧ win0_5.index t = ![t.val / 4, t.val % 4] ∧ win0_6.index t = ![t.val / 4, 0] ∧ t.val < 32 :=
  (by decide +kernel : ∀ t : Fin grid0.N, _)

/-- Row `i` of the rows that point `t` works on, and column `j` of the `s`-th column block. -/
def row (t : Fin cfg0.N) (i : Fin 1024) : Fin 8192 := ⟨1024 * (t.val / 4) + i.val, by have := (idx t).2.2.2.2.2.2.2; omega⟩
def col (s : Fin 4) (j : Fin 1024) : Fin 4096 := ⟨1024 * s.val + j.val, by omega⟩

/-- A sum over the column blocks and their columns is a sum over all columns. -/
theorem sum_col (f : Fin 4096 → EReal) : ∑ s : Fin 4, ∑ q : Fin 1024, f (col s q) = ∑ k, f k := by
  refine (Fin.sum_divmod_congr (N := 4096) (A := 4) (S := 1024) (f := fun s q => f (col s q)) (fun R h0 h1 => ?_) (by norm_num)).symm
  refine congrArg f (Fin.ext ?_)
  show (R : ℕ) = 1024 * ((R : ℕ) / 1024) + (R : ℕ) % 1024
  omega

theorem bx_eq (t : Fin cfg0.N) (j : S1024x1024.Idx) : bx m c t j = A0 m c (ix2 (row t (j 0)) (j 1)) := by
  have e : V m c main_arg0 = A0 m c := V_arg m c main_arg0 (by simp)
  refine Eq.trans (b := ((cfg0.win 0).blk t).view.read (Elt Ideal) (A0 m c) j) (congrArg (fun f => ((cfg0.win 0).blk t).view.read (Elt Ideal) f j) e) ?_
  blk_ext [row, idx t]
theorem bg_eq (t : Fin cfg0.N) (j : Fin 1024) : bg m c t (ix2 0 j) = A1 m c (ix1 j) := by
  refine Eq.trans (b := (V m c main_v0 : FVec Ideal S1x1024 .f32) (ix2 0 j)) ?_ (g_eq m c _)
  blk_ext [bg, iblk, idx t]
theorem bu_eq (t : Fin cfg0.N) (s : Fin 4) (hs : t.val % 4 = s.val) (j : S1024x1024.Idx) : bu m c t j = A2 m c (ix2 (j 0) (col s (j 1))) := by
  refine Eq.trans (b := ((cfg0.win 2).blk t).view.read (Elt Ideal) (A2 m c) j) (congrArg (fun f => ((cfg0.win 2).blk t).view.read (Elt Ideal) f j) (u_eq m c)) ?_
  blk_ext [col, idx t, hs]
theorem bv_eq (t : Fin cfg0.N) (s : Fin 4) (hs : t.val % 4 = s.val) (j : S1024x1024.Idx) : bv m c t j = A3 m c (ix2 (col s (j 0)) (j 1)) := by
  refine Eq.trans (b := ((cfg0.win 3).blk t).view.read (Elt Ideal) (A3 m c) j) (congrArg (fun f => ((cfg0.win 3).blk t).view.read (Elt Ideal) f j) (v_eq m c)) ?_
  blk_ext [col, idx t, hs]

theorem start_h (t : Fin cfg0.N) (j : S1024x1024.Idx) : (start m c t).2 j = H m c (ix2 (row t (j 0)) (j 1)) := by
  refine (p1 _ _ j).trans ?_
  have e (i k : Fin 1024) : bx m c t (ix2 i k) = A0 m c (ix2 (row t i) k) := bx_eq m c t (ix2 i k)
  refine congrArg₂ (· * ·) (congrArg₂ (· * ·) (bx_eq m c t j) (congrArg (fun z => Ideal.rsqrt (Ideal.div z _ + _)) ?_)) (bg_eq m c t (j 1))
  exact Finset.sum_congr rfl fun k _ => congrArg₂ (· * ·) (e (j 0) k) (e (j 0) k)

/-- The normalised rows stay through a row of the grid. -/
theorem st_h (n : ℕ) (hn : n < cfg0.N) (j : S1024x1024.Idx) : (st m c n hn).2 j = H m c (ix2 (row ⟨n, hn⟩ (j 0)) (j 1)) := by
  induction n with
  | zero => exact start_h m c ⟨0, hn⟩ j
  | succ n ih =>
    by_cases h : (n + 1) % 4 = 0
    · rw [st, if_pos h]; exact start_h m c _ j
    · rw [st, if_neg h]
      refine (ih _).trans (congrArg (fun r => H m c (ix2 r (j 1))) (Fin.ext ?_))
      show 1024 * (n / 4) + (j 0).val = 1024 * ((n + 1) / 4) + (j 0).val
      omega

/-- The hidden layer at a point. -/
theorem a_eq (t : Fin cfg0.N) (s : Fin 4) (hs : t.val % 4 = s.val) (i q : Fin 1024) :
    (∑ k : Fin 1024, (at_ m c t).2 (ix2 i k) * bu m c t (ix2 k q) : EReal) = A m c (ix2 (row t i) (col s q)) := by
  refine Finset.sum_congr rfl fun k _ => congrArg₂ (· * ·) ?_ ?_
  · exact st_h m c t.val t.isLt (ix2 i k)
  · exact bu_eq m c t s hs (ix2 k q)

/-- One point's share of the result: its 1024 columns of the hidden layer. -/
def part (t : Fin cfg0.N) (j : S1024x1024.Idx) : EReal :=
  ∑ q : Fin 1024, max (∑ k : Fin 1024, (at_ m c t).2 (ix2 (j 0) k) * bu m c t (ix2 k q)) 0 * max (∑ k : Fin 1024, (at_ m c t).2 (ix2 (j 0) k) * bu m c t (ix2 k q)) 0 * bv m c t (ix2 q (j 1))

theorem part_eq (t : Fin cfg0.N) (s : Fin 4) (hs : t.val % 4 = s.val) (j : S1024x1024.Idx) :
    part m c t j = ∑ q : Fin 1024, act m c (ix2 (row t (j 0)) (col s q)) * A3 m c (ix2 (col s q) (j 1)) := by
  refine Finset.sum_congr rfl fun q _ => congrArg₂ (· * ·) ?_ (bv_eq m c t s hs (ix2 q (j 1)))
  exact congrArg (fun z : EReal => max z 0 * max z 0) (a_eq m c t s hs (j 0) q)

theorem acc_A (t : Fin cfg0.N) (h : t.val % 4 = 0) (j : S1024x1024.Idx) : (at_ m c t).1 j = bx m c t j + part m c t j := by
  have e := at_A m c t h
  unfold part
  rw [e]
  exact p4 _ _ _ _ j
theorem acc_B (t : Fin cfg0.N) (h : ¬ t.val % 4 = 0) (j : S1024x1024.Idx) : (at_ m c t).1 j = (prev m c t).1 j + part m c t j := by
  have e := at_B m c t h
  unfold part
  rw [e]
  exact p4 _ _ _ _ j

/-- The rows themselves count once, at the first column. -/
def term (t : Fin cfg0.N) (j : S1024x1024.Idx) : EReal := (if t.val % 4 = 0 then bx m c t j else 0) + part m c t j

theorem out_eq (t : Fin cfg0.N) (h : t.val % 4 = 3) (j : S1024x1024.Idx) : (at_ m c t).1 j = O m c (ix2 (row t (j 0)) (j 1)) := by
  refine (Pipeline.eq_sum_fin_of_reset_step_apply_of_flush (fun n h => (st m c n h).1) 4 (fun _ => (0 : EReal)) (term m c)
    (fun t h j => by unfold term; rw [if_pos h, zero_add]; exact acc_A m c t h j)
    (fun t h j => by unfold term; rw [if_neg h, zero_add]; exact acc_B m c t h j) t h j).trans ?_
  rw [zero_add]
  refine Eq.trans Finset.sum_add_distrib (congrArg₂ (· + ·) ?_ ?_)
  · rw [Finset.sum_eq_single (0 : Fin 4) (fun s _ hs => if_neg fun e => hs (Fin.ext (by
      have e : (4 * (t.val / 4) + s.val) % 4 = 0 := e
      show s.val = 0
      omega))) (fun h => absurd (Finset.mem_univ _) h)]
    refine (if_pos (show (4 * (t.val / 4) + 0) % 4 = 0 by omega)).trans ((bx_eq m c _ j).trans (congrArg (fun r => A0 m c (ix2 r (j 1))) (Fin.ext ?_)))
    show 1024 * ((4 * (t.val / 4) + 0) / 4) + (j 0).val = 1024 * (t.val / 4) + (j 0).val
    omega
  · refine Eq.trans (Finset.sum_congr rfl fun s _ => ?_) (sum_col fun k => act m c (ix2 (row t (j 0)) k) * A3 m c (ix2 k (j 1)))
    refine (part_eq m c _ s (by show (4 * (t.val / 4) + s.val) % 4 = s.val; omega) j).trans ?_
    refine Finset.sum_congr rfl fun q _ => congrArg (fun r => act m c (ix2 r (col s q)) * _) (Fin.ext ?_)
    show 1024 * ((4 * (t.val / 4) + s.val) / 4) + (j 0).val = 1024 * (t.val / 4) + (j 0).val
    omega

theorem fin_o : (dats m 0 c).arrAt 4 cfg0.N = (O m c : FVec Ideal S8192x1024 .f32) := by
  refine (dats m 0 c).arrAt_eq_of_covers 4 _ (by decide +kernel) fun t hf y => ?_
  blk_simp
  refine Eq.trans (b := (at_ m c t).1 y) rfl ?_
  refine (out_eq m c t ((flush0_4 t).mp hf) y).trans ?_
  blk_ext [row, idx t]

theorem fin_a : (dats m 0 c).arrAt 5 cfg0.N = (A m c : FVec Ideal S8192x4096 .bf16) := by
  refine (dats m 0 c).arrAt_eq_of_covers 5 _ (by decide +kernel) fun t hf y => ?_
  blk_simp
  have ht := (idx t).2.2.2.2.2.2.2
  refine Eq.trans (b := k0_pay3 (F := Ideal) (at_ m c t).2 (bu m c t) y) rfl ?_
  refine (p3 _ _ y).trans ((a_eq m c t ⟨t.val % 4, by omega⟩ rfl (y 0) (y 1)).trans ?_)
  blk_ext [row, col, idx t]

theorem fin_h : (dats m 0 c).arrAt 6 cfg0.N = (H m c : FVec Ideal S8192x1024 .bf16) := by
  refine (dats m 0 c).arrAt_eq_of_covers 6 _ (by decide +kernel) fun t hf y => ?_
  blk_simp
  refine Eq.trans (b := (at_ m c t).2 y) rfl ?_
  refine (st_h m c t.val t.isLt y).trans ?_
  blk_ext [row, idx t]

end Fwd

end
-- ==== Proof.Forward.lean ====
/- The claims about the program for the channel mixer's forward call. -/
module

public import proofs.«01_k».proof.Defs
public import proofs.«01_k».proof.Proof.Gen.Kernel4.Launch
public import proofs.«01_k».proof.Proof.Fwd
public import Idealize.ShloMosaic.Adequacy

@[expose] public section

set_option maxRecDepth 16384

noncomputable section

open Idealize.ShloMosaic Idealize.ShloMosaic.TcCoe Idealize.SL.Sem

namespace Fwd

/-- The kernel and its idealization have the same body table at the formats' own values. -/
theorem defs_eq : Cert.Kernel4.defs (F := Bits) = Cert.Kernel4Ideal.defs (F := Bits) :=
  congrArg (Pipeline.defs Cert.Kernel4.pcfgs)
    (congrArg (@Defs.onTc Cert.Kernel4.nD Cert.Kernel4.τ Cert.Kernel4.sig (Elt Bits) Cert.Kernel4.Λ₀) (funext fun l => funext fun x => by
      match l, x with
      | 0, (t, s) => rfl
      | ⟨_ + 1, h⟩, _ => exact absurd h (Nat.not_lt.2 (Nat.le_add_left _ _))))

theorem frame_p : Cert.quiescent_Kernel4 := fun m ρ _ => by
  rw [defs_eq]
  exact (θ_run Cert.Kernel4Ideal.defs _ _).mono (fun r h => And.intro (fun c => kept m r h.1 c) h.2) (run_main (F := Bits) m ρ)
theorem frame_pi : Cert.quiescent_Kernel4Ideal := fun m ρ _ =>
  (θ_run Cert.Kernel4Ideal.defs _ _).mono (fun r h => ⟨fun c => kept m r h.1 c, h.2⟩) (run_main (F := Ideal) m ρ)
theorem frame_ri : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)
theorem preserves : Cert.preserves_Kernel4_Kernel4Ideal := trivial

variable (m : (ℓ : Loc Cert.Kernel4Ideal.nD Cert.Kernel4Ideal.τ Cert.Kernel4Ideal.sig) → Buf (Elt Ideal) ℓ) (c : Dev Cert.Kernel4Ideal.nD)

open Cert.Reference4Ideal Cert.Reference4Ideal.Read

/-- The reference's normalised rows. -/
theorem ref_h (i : S8192x1024.Idx) : val_main_v12 (F := Ideal) (A0 m c) (A1 m c) i = H m c i := by
  rw [val_main_v12_apply, val_main_v9_apply, val_main_v11_apply, val_main_v10_apply, val_main_v8_apply, val_main_v7_apply, val_main_v6_apply,
    val_main_v4_apply, val_main_v2_apply, val_main_v1_apply, val_main_v3_apply, val_main_v5_apply, val_main_cst_apply, val_main_cst_0_apply, val_main_cst_1_apply]
  refine congrArg₂ (· * ·) (congrArg₂ (· * ·) rfl (congrArg (fun z => Ideal.rsqrt (Ideal.div z _ + _)) ?_)) ?_
  · refine (congrArg (· + _) Ideal.ofBits_zero_f32).trans ((zero_add _).trans (Finset.sum_congr rfl fun k _ => ?_))
    rw [val_main_v0_apply]
    exact congrArg (fun j => A0 m c j * A0 m c j) (funext fun a => by fin_cases a <;> rfl)
  · exact congrArg (A1 m c) (funext fun a => by fin_cases a <;> rfl)

theorem ref_a (i : S8192x4096.Idx) : val_main_v13 (F := Ideal) (A0 m c) (A1 m c) (A2 m c) i = A m c i := by
  rw [val_main_v13_apply]
  refine Finset.sum_congr rfl fun k _ => congrArg₂ (· * ·) ((ref_h m c _).trans ?_) ?_
  · exact congrArg (H m c) (funext fun a => by fin_cases a <;> rfl)
  · exact congrArg (A2 m c) (funext fun a => by fin_cases a <;> rfl)

theorem ref_o (i : S8192x1024.Idx) : val_main_v17 (F := Ideal) (A0 m c) (A1 m c) (A2 m c) (A3 m c) i = O m c i := by
  rw [val_main_v17_apply, val_main_v16_apply]
  refine congrArg (A0 m c i + ·) (Finset.sum_congr rfl fun k _ => congrArg₂ (· * ·) ?_ ?_)
  · rw [val_main_v15_apply, val_main_v14_apply, ref_a, val_main_call0_v0_apply, val_main_call0_cst_apply]
    refine Eq.trans (congrArg (fun z : EReal => max (A m c _) z * max (A m c _) z) Ideal.ofBits_zero_f32) ?_
    exact congrArg (act m c) (funext fun a => by fin_cases a <;> rfl)
  · exact congrArg (A3 m c) (funext fun a => by fin_cases a <;> rfl)

theorem algebraic : Cert.algebraic_Kernel4Ideal_Reference4Ideal := by
  intro m ρ m' ρ' _ hag
  refine ⟨fun c => O m c, fun c => A m c, fun c => H m c,
    (θ_run Cert.Kernel4Ideal.defs _ _).mono (fun r h c => ⟨((h.1 c).1 4).trans (fin_o m c), ((h.1 c).1 5).trans (fin_a m c), ((h.1 c).1 6).trans (fin_h m c), kept m r h.1 c⟩)
      (run_main (F := Ideal) m ρ), ?_⟩
  refine (θ_run Cert.Reference4Ideal.defs _ _).mono (fun r h c => ?_) (Cert.Reference4Ideal.Value.run (F := Ideal) m' ρ')
  obtain ⟨g0, g1, g2, g3⟩ := hag c
  refine ⟨(h c).1.trans ((val_main_v17_eq _ _ _ _).trans ?_), (h c).2.1.trans ((val_main_v19_eq _ _ _).trans ?_), (h c).2.2.1.trans ((val_main_v20_eq _ _).trans ?_), (h c).2.2.2⟩
  · rw [g0, g1, g2, g3]; exact funext fun i => ref_o m c i
  · rw [g0, g1, g2]; exact funext fun i => ref_a m c i
  · rw [g0, g1]; exact funext fun i => ref_h m c i

end Fwd

end
-- ==== Proof.BwdBody.lean ====
/- The channel mixer's backward call: its runs over one grid point, over any float values. -/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

abbrev M1 := Memref sig .tc .vmem S1024x1024 .f32
abbrev M2 := Memref sig .tc .vmem S1024x1024 .bf16
abbrev M3 := Memref sig .tc .vmem S1024x512 .bf16
abbrev M4 := Memref sig .tc .vmem S512x1024 .bf16
abbrev MR := Memref sig .tc .vmem S1x1024 .f32

/-- A load of a whole block reads the block. -/
theorem ld {e : EltTy} (v : View sig .tc .vmem S1024x1024 e) (f : v.ty.Contents (Elt F)) :
    View.readAt (Elt F) v (Rect.unit ![0, 0] ![1024, 1024] inb_S1024x1024_S1024x1024_0_0).toLoadRect f = v.read (Elt F) f :=
  View.readAt_full v f _
theorem ld1 {e : EltTy} (v : View sig .tc .vmem S1x1024 e) (f : v.ty.Contents (Elt F)) :
    View.readAt (Elt F) v (Rect.unit ![0, 0] ![1, 1024] inb_S1x1024_S1x1024_0_0).toLoadRect f = v.read (Elt F) f :=
  View.readAt_full v f _
theorem ldA {e : EltTy} (v : View sig .tc .vmem S1024x512 e) (f : v.ty.Contents (Elt F)) :
    View.readAt (Elt F) v (Rect.unit ![0, 0] ![1024, 512] inb_S1024x512_S1024x512_0_0).toLoadRect f = v.read (Elt F) f :=
  View.readAt_full v f _
theorem ldB {e : EltTy} (v : View sig .tc .vmem S512x1024 e) (f : v.ty.Contents (Elt F)) :
    View.readAt (Elt F) v (Rect.unit ![0, 0] ![512, 1024] inb_S512x1024_S512x1024_0_0).toLoadRect f = v.read (Elt F) f :=
  View.readAt_full v f _

set_option maxHeartbeats 2000000 in
/-- The body in the first column: dy is rounded, the sum starts from zero. -/
theorem run_A (c : Dev nD) (i : grid0.Coords) (arg2 : M1) (harg2 : arg2.IsWhole) (arg3 : M3) (harg3 : arg3.IsWhole) (arg4 : M1) (harg4 : arg4.IsWhole)
    (arg5 : MR) (harg5 : arg5.IsWhole) (arg6 : M3) (harg6 : arg6.IsWhole) (arg7 : M4) (harg7 : arg7.IsWhole) (arg8 : M1) (harg8 : arg8.IsWhole)
    (arg9 : M3) (harg9 : arg9.IsWhole) (arg10 : MR) (harg10 : arg10.IsWhole) (arg11 : M2) (harg11 : arg11.IsWhole) (arg12 : M1) (harg12 : arg12.IsWhole)
    (hc1 : k0_cond1 i = 1#1) (hc2 : ¬ k0_cond2 i = 1#1)
    (x2 : Vec F S1024x1024 .f32) (x3 : Vec F S1024x512 .bf16) (x6 : Vec F S1024x512 .bf16) (x7 : Vec F S512x1024 .bf16)
    (E : Set ℕ) (K : PUnit → sProp 𝕄) :
    iprop(owns (c : Thread nD τ) arg2 fullShare x2 ∗ owns (c : Thread nD τ) arg3 fullShare x3 ∗ owns (c : Thread nD τ) arg6 fullShare x6 ∗ owns (c : Thread nD τ) arg7 fullShare x7 ∗ (∃ d, owns (c : Thread nD τ) arg9 fullShare d) ∗ (∃ d, owns (c : Thread nD τ) arg11 fullShare d) ∗ (∃ d, owns (c : Thread nD τ) arg12 fullShare d)
        ∗ (iprop(owns (c : Thread nD τ) arg2 fullShare x2 ∗ owns (c : Thread nD τ) arg3 fullShare x3 ∗ owns (c : Thread nD τ) arg6 fullShare x6 ∗ owns (c : Thread nD τ) arg7 fullShare x7 ∗ owns (c : Thread nD τ) arg9 fullShare (k0_pay3 (k0_pay1 x2) x7 x3) ∗ owns (c : Thread nD τ) arg11 fullShare (k0_pay1 x2) ∗ owns (c : Thread nD τ) arg12 fullShare (k0_pay4 (k0_pay1 x2) x7 x3 k0_pay2 x6)) -∗ K ⟨⟩))
      ⊢ wp frame (wpE (defs₀ (F := F)) Variants.none c none) E (cc0_mlp_bwd_3 i arg2 harg2 arg3 harg3 arg4 harg4 arg5 harg5 arg6 harg6 arg7 harg7 arg8 harg8 arg9 harg9 arg10 harg10 arg11 harg11 arg12 harg12) K := by
  simp only [cc0_mlp_bwd_3_eq_skeleton]; unfold cc0_mlp_bwd_3_skel
  unfold owns
  iintro ⟨⟨%f2, %hf2, H2⟩, ⟨%f3, %hf3, H3⟩, ⟨%f6, %hf6, H6⟩, ⟨%f7, %hf7, H7⟩, ⟨%d9, %f9, -, H9⟩, ⟨%d11, %f11, -, H11⟩, ⟨%d12, %f12, -, H12⟩, Hk⟩
  obtain rfl := harg2.eq_unread hf2; obtain rfl := harg3.eq_unread hf3; obtain rfl := harg6.eq_unread hf6; obtain rfl := harg7.eq_unread hf7
  sl_exec (disch := first | sl_exact hc1 | sl_exact hc2)
  sl_step
  have e3 : run_A.sl.v3 c arg2 harg2 arg11 x2 = k0_pay1 x2 := by
    unfold run_A.sl.v3
    exact (View.readCov_full _ _ _ _ _).trans (by simp only [ld, hf2])
  have e18 : run_A.sl.v18 c arg12 = (k0_pay2 (F := F)) := by
    unfold run_A.sl.v18
    exact View.readCov_full _ _ _ _ _
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr; · ipureintro; exact harg6.read_unread _
    iexact H6
  isplitl [H7]
  · iexists _; isplitr; · ipureintro; exact harg7.read_unread _
    iexact H7
  isplitl [H9]
  · iexists _; isplitr
    swap; · iexact H9
    ipureintro
    exact (View.read_writes_full _ _ _ _ _).trans (by simp only [ld, ld1, ldA, ldB, hf2, hf3, hf6, hf7, e3, e18])
  isplitl [H11]
  · iexists _; isplitr
    swap; · iexact H11
    ipureintro
    exact (View.read_writes_full _ _ _ _ _).trans (by simp only [ld, ld1, ldA, ldB, hf2, hf3, hf6, hf7, e3, e18])
  iexists _; isplitr
  swap; · iexact H12
  ipureintro
  exact (View.read_writes_full _ _ _ _ _).trans (by simp only [ld, ld1, ldA, ldB, hf2, hf3, hf6, hf7, e3, e18])

set_option maxHeartbeats 2000000 in
/-- The body between the first and the last column: the sum grows by one product. -/
theorem run_B (c : Dev nD) (i : grid0.Coords) (arg2 : M1) (harg2 : arg2.IsWhole) (arg3 : M3) (harg3 : arg3.IsWhole) (arg4 : M1) (harg4 : arg4.IsWhole)
    (arg5 : MR) (harg5 : arg5.IsWhole) (arg6 : M3) (harg6 : arg6.IsWhole) (arg7 : M4) (harg7 : arg7.IsWhole) (arg8 : M1) (harg8 : arg8.IsWhole)
    (arg9 : M3) (harg9 : arg9.IsWhole) (arg10 : MR) (harg10 : arg10.IsWhole) (arg11 : M2) (harg11 : arg11.IsWhole) (arg12 : M1) (harg12 : arg12.IsWhole)
    (hc1 : ¬ k0_cond1 i = 1#1) (hc2 : ¬ k0_cond2 i = 1#1)
    (x3 : Vec F S1024x512 .bf16) (x6 : Vec F S1024x512 .bf16) (x7 : Vec F S512x1024 .bf16) (x11 : Vec F S1024x1024 .bf16) (x12 : Vec F S1024x1024 .f32)
    (E : Set ℕ) (K : PUnit → sProp 𝕄) :
    iprop(owns (c : Thread nD τ) arg3 fullShare x3 ∗ owns (c : Thread nD τ) arg6 fullShare x6 ∗ owns (c : Thread nD τ) arg7 fullShare x7 ∗ (∃ d, owns (c : Thread nD τ) arg9 fullShare d) ∗ owns (c : Thread nD τ) arg11 fullShare x11 ∗ owns (c : Thread nD τ) arg12 fullShare x12
        ∗ (iprop(owns (c : Thread nD τ) arg3 fullShare x3 ∗ owns (c : Thread nD τ) arg6 fullShare x6 ∗ owns (c : Thread nD τ) arg7 fullShare x7 ∗ owns (c : Thread nD τ) arg9 fullShare (k0_pay3 x11 x7 x3) ∗ owns (c : Thread nD τ) arg11 fullShare x11 ∗ owns (c : Thread nD τ) arg12 fullShare (k0_pay4 x11 x7 x3 x12 x6)) -∗ K ⟨⟩))
      ⊢ wp frame (wpE (defs₀ (F := F)) Variants.none c none) E (cc0_mlp_bwd_3 i arg2 harg2 arg3 harg3 arg4 harg4 arg5 harg5 arg6 harg6 arg7 harg7 arg8 harg8 arg9 harg9 arg10 harg10 arg11 harg11 arg12 harg12) K := by
  simp only [cc0_mlp_bwd_3_eq_skeleton]; unfold cc0_mlp_bwd_3_skel
  unfold owns
  iintro ⟨⟨%f3, %hf3, H3⟩, ⟨%f6, %hf6, H6⟩, ⟨%f7, %hf7, H7⟩, ⟨%d9, %f9, -, H9⟩, ⟨%f11, %hf11, H11⟩, ⟨%f12, %hf12, H12⟩, Hk⟩
  obtain rfl := harg3.eq_unread hf3; obtain rfl := harg6.eq_unread hf6; obtain rfl := harg7.eq_unread hf7; obtain rfl := harg11.eq_unread hf11; obtain rfl := harg12.eq_unread hf12
  sl_exec (disch := first | sl_exact hc1 | sl_exact hc2)
  sl_step
  iapply Hk
  isplitl [H3]
  · iexists _; isplitr; · ipureintro; exact harg3.read_unread _
    iexact H3
  isplitl [H6]
  · iexists _; isplitr; · ipureintro; exact harg6.read_unread _
    iexact H6
  isplitl [H7]
  · iexists _; isplitr; · ipureintro; exact harg7.read_unread _
    iexact H7
  isplitl [H9]
  · iexists _; isplitr
    swap; · iexact H9
    ipureintro
    exact (View.read_writes_full _ _ _ _ _).trans (by simp only [ld, ld1, ldA, ldB, hf3, hf6, hf7, hf11, hf12])
  isplitl [H11]
  · iexists _; isplitr; · ipureintro; exact harg11.read_unread _
    iexact H11
  iexists _; isplitr
  swap; · iexact H12
  ipureintro
  exact (View.read_writes_full _ _ _ _ _).trans (by simp only [ld, ld1, ldA, ldB, hf3, hf6, hf7, hf11, hf12])

set_option maxHeartbeats 2000000 in
/-- The body in the last column of the first row: dx is stored, and the gains' gradient starts. -/
theorem run_C (c : Dev nD) (i : grid0.Coords) (arg2 : M1) (harg2 : arg2.IsWhole) (arg3 : M3) (harg3 : arg3.IsWhole) (arg4 : M1) (harg4 : arg4.IsWhole)
    (arg5 : MR) (harg5 : arg5.IsWhole) (arg6 : M3) (harg6 : arg6.IsWhole) (arg7 : M4) (harg7 : arg7.IsWhole) (arg8 : M1) (harg8 : arg8.IsWhole)
    (arg9 : M3) (harg9 : arg9.IsWhole) (arg10 : MR) (harg10 : arg10.IsWhole) (arg11 : M2) (harg11 : arg11.IsWhole) (arg12 : M1) (harg12 : arg12.IsWhole)
    (hc1 : ¬ k0_cond1 i = 1#1) (hc2 : k0_cond2 i = 1#1) (hc3 : k0_cond3 i = 1#1) (hc4 : ¬ k0_cond4 i = 1#1)
    (x2 : Vec F S1024x1024 .f32) (x3 : Vec F S1024x512 .bf16) (x4 : Vec F S1024x1024 .f32) (x5 : Vec F S1x1024 .f32) (x6 : Vec F S1024x512 .bf16) (x7 : Vec F S512x1024 .bf16) (x11 : Vec F S1024x1024 .bf16) (x12 : Vec F S1024x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay8 (k0_pay4 x11 x7 x3 x12 x6) x4 x5 x2) ∗ owns (c : Thread nD τ) arg9 fullShare (k0_pay3 x11 x7 x3) ∗ owns (c : Thread nD τ) arg10 fullShare (k0_pay9 (k0_pay4 x11 x7 x3 x12 x6) x4) ∗ owns (c : Thread nD τ) arg11 fullShare x11 ∗ owns (c : Thread nD τ) arg12 fullShare (k0_pay4 x11 x7 x3 x12 x6)) -∗ K ⟨⟩))
      ⊢ wp frame (wpE (defs₀ (F := F)) Variants.none c none) E (cc0_mlp_bwd_3 i arg2 harg2 arg3 harg3 arg4 harg4 arg5 harg5 arg6 harg6 arg7 harg7 arg8 harg8 arg9 harg9 arg10 harg10 arg11 harg11 arg12 harg12) K := by
  simp only [cc0_mlp_bwd_3_eq_skeleton]; unfold cc0_mlp_bwd_3_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg11.eq_unread hf11; obtain rfl := harg12.eq_unread hf12
  sl_exec (disch := first | sl_exact hc1 | sl_exact hc2 | sl_exact hc3 | sl_exact hc4)
  sl_step
  have e29 : run_C.sl.v29 c arg3 harg3 arg6 harg6 arg7 harg7 arg11 harg11 arg12 harg12 x3 x6 x7 x11 x12 = k0_pay4 x11 x7 x3 x12 x6 := by
    unfold run_C.sl.v29
    exact (View.readAt_writes_full _ _ _ _ _ _).trans (by simp only [ld, ldA, ldB, hf3, hf6, hf7, hf11, hf12])
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact (View.read_writes_full _ _ _ _ _).trans (by simp only [ld, ld1, ldA, ldB, hf2, hf3, hf4, hf5, hf6, hf7, hf11, hf12, e29])
  isplitl [H9]
  · iexists _; isplitr
    swap; · iexact H9
    ipureintro
    exact (View.read_writes_full _ _ _ _ _).trans (by simp only [ld, ld1, ldA, ldB, hf2, hf3, hf4, hf5, hf6, hf7, hf11, hf12, e29])
  isplitl [H10]
  · iexists _; isplitr
    swap; · iexact H10
    ipureintro
    exact (View.read_writes_full _ _ _ _ _).trans (by simp only [ld, ld1, ldA, ldB, hf2, hf3, hf4, hf5, hf6, hf7, hf11, hf12, e29])
  isplitl [H11]
  · iexists _; isplitr; · ipureintro; exact harg11.read_unread _
    iexact H11
  iexists _; isplitr
  swap; · iexact H12
  ipureintro
  exact (View.read_writes_full _ _ _ _ _).trans (by simp only [ld, ld1, ldA, ldB, hf2, hf3, hf4, hf5, hf6, hf7, hf11, hf12, e29])

set_option maxHeartbeats 2000000 in
/-- The body in the last column of a later row: dx is stored, and the gains' gradient grows. -/
theorem run_D (c : Dev nD) (i : grid0.Coords) (arg2 : M1) (harg2 : arg2.IsWhole) (arg3 : M3) (harg3 : arg3.IsWhole) (arg4 : M1) (harg4 : arg4.IsWhole)
    (arg5 : MR) (harg5 : arg5.IsWhole) (arg6 : M3) (harg6 : arg6.IsWhole) (arg7 : M4) (harg7 : arg7.IsWhole) (arg8 : M1) (harg8 : arg8.IsWhole)
    (arg9 : M3) (harg9 : arg9.IsWhole) (arg10 : MR) (harg10 : arg10.IsWhole) (arg11 : M2) (harg11 : arg11.IsWhole) (arg12 : M1) (harg12 : arg12.IsWhole)
    (hc1 : ¬ k0_cond1 i = 1#1) (hc2 : k0_cond2 i = 1#1) (hc3 : ¬ k0_cond3 i = 1#1) (hc4 : k0_cond4 i = 1#1)
    (x2 : Vec F S1024x1024 .f32) (x3 : Vec F S1024x512 .bf16) (x4 : Vec F S1024x1024 .f32) (x5 : Vec F S1x1024 .f32) (x6 : Vec F S1024x512 .bf16) (x7 : Vec F S512x1024 .bf16) (x10 : Vec F S1x1024 .f32) (x11 : Vec F S1024x1024 .bf16) (x12 : Vec F S1024x1024 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare x10 ∗ owns (c : Thread nD τ) arg11 fullShare x11 ∗ owns (c : Thread nD τ) arg12 fullShare x12
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (k0_pay8 (k0_pay4 x11 x7 x3 x12 x6) x4 x5 x2) ∗ owns (c : Thread nD τ) arg9 fullShare (k0_pay3 x11 x7 x3) ∗ owns (c : Thread nD τ) arg10 fullShare (k0_pay5 (k0_pay9 (k0_pay4 x11 x7 x3 x12 x6) x4) x10) ∗ owns (c : Thread nD τ) arg11 fullShare x11 ∗ owns (c : Thread nD τ) arg12 fullShare (k0_pay4 x11 x7 x3 x12 x6)) -∗ K ⟨⟩))
      ⊢ wp frame (wpE (defs₀ (F := F)) Variants.none c none) E (cc0_mlp_bwd_3 i arg2 harg2 arg3 harg3 arg4 harg4 arg5 harg5 arg6 harg6 arg7 harg7 arg8 harg8 arg9 harg9 arg10 harg10 arg11 harg11 arg12 harg12) K := by
  simp only [cc0_mlp_bwd_3_eq_skeleton]; unfold cc0_mlp_bwd_3_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11; obtain rfl := harg12.eq_unread hf12
  sl_exec (disch := first | sl_exact hc1 | sl_exact hc2 | sl_exact hc3 | sl_exact hc4)
  sl_step
  have e29 : run_D.sl.v29 c arg3 harg3 arg6 harg6 arg7 harg7 arg11 harg11 arg12 harg12 x3 x6 x7 x11 x12 = k0_pay4 x11 x7 x3 x12 x6 := by
    unfold run_D.sl.v29
    exact (View.readAt_writes_full _ _ _ _ _ _).trans (by simp only [ld, ldA, ldB, hf3, hf6, hf7, hf11, hf12])
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    exact (View.read_writes_full _ _ _ _ _).trans (by simp only [ld, ld1, ldA, ldB, hf2, hf3, hf4, hf5, hf6, hf7, hf10, hf11, hf12, e29])
  isplitl [H9]
  · iexists _; isplitr
    swap; · iexact H9
    ipureintro
    exact (View.read_writes_full _ _ _ _ _).trans (by simp only [ld, ld1, ldA, ldB, hf2, hf3, hf4, hf5, hf6, hf7, hf10, hf11, hf12, e29])
  isplitl [H10]
  · iexists _; isplitr
    swap; · iexact H10
    ipureintro
    exact (View.read_writes_full _ _ _ _ _).trans (by simp only [ld, ld1, ldA, ldB, hf2, hf3, hf4, hf5, hf6, hf7, hf10, hf11, hf12, e29])
  isplitl [H11]
  · iexists _; isplitr; · ipureintro; exact harg11.read_unread _
    iexact H11
  iexists _; isplitr
  swap; · iexact H12
  ipureintro
  exact (View.read_writes_full _ _ _ _ _).trans (by simp only [ld, ld1, ldA, ldB, hf2, hf3, hf4, hf5, hf6, hf7, hf10, hf11, hf12, e29])

end Bwd

end
-- ==== Proof.BwdRun.lean ====
/- The channel mixer's backward call: its run, at every grid point and over any float values. -/
module

public import proofs.«01_k».proof.Proof.BwdBody

@[expose] public section

set_option maxRecDepth 16384

noncomputable section

namespace Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What core `c`'s buffers hold when the grid starts: after the host's operations. -/
abbrev V (c : Dev nD) (b : Ref sig .tc) : Buf (Elt F) ((c : Thread nD τ).loc b) := StableHlo.after hostOps0 (fun b => m (c, b)) b

theorem fresh_ops : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh_ops main_chain

set_option maxHeartbeats 800000 in
/-- No host operation writes an argument. -/
theorem V_arg (c : Dev nD) (b : Ref sig .tc) (h : b = main_arg0 ∨ b = main_arg1 ∨ b = main_arg2 ∨ b = main_arg3 ∨ b = main_arg4) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases h with rfl | rfl | rfl | rfl | rfl
    all_goals repeat' apply And.intro
    all_goals exact StableHlo.devRef_ne_of_ne (by decide)))

/-- Window `w`'s block at point `t`, of its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The six input blocks at a point. -/
abbrev by_ (c : Dev nD) (t : Fin cfg0.N) : Vec F S1024x1024 .f32 := iblk m c 0 t
abbrev ba (c : Dev nD) (t : Fin cfg0.N) : Vec F S1024x512 .bf16 := iblk m c 1 t
abbrev bx (c : Dev nD) (t : Fin cfg0.N) : Vec F S1024x1024 .f32 := iblk m c 2 t
abbrev bg (c : Dev nD) (t : Fin cfg0.N) : Vec F S1x1024 .f32 := iblk m c 3 t
abbrev bu (c : Dev nD) (t : Fin cfg0.N) : Vec F S1024x512 .bf16 := iblk m c 4 t
abbrev bv (c : Dev nD) (t : Fin cfg0.N) : Vec F S512x1024 .bf16 := iblk m c 5 t

/-- What is kept between points: the sum of products, the rounded dy, the gains' gradient. -/
abbrev S (F : FTy → Type) := Vec F S1024x1024 .f32 × Vec F S1024x1024 .bf16 × Vec F S1x1024 .f32

/-- Each of the three after a point, from the three before it. -/
def nextY (c : Dev nD) (t : Fin cfg0.N) (p : S F) : Vec F S1024x1024 .bf16 := if t.val % 8 = 0 then k0_pay1 (by_ m c t) else p.2.1
def nextH (c : Dev nD) (t : Fin cfg0.N) (p : S F) : Vec F S1024x1024 .f32 :=
  k0_pay4 (nextY m c t p) (bv m c t) (ba m c t) (if t.val % 8 = 0 then k0_pay2 else p.1) (bu m c t)
def nextG (c : Dev nD) (t : Fin cfg0.N) (p : S F) : Vec F S1x1024 .f32 :=
  if t.val % 8 = 7 then (if t.val < 8 then k0_pay9 (nextH m c t p) (bx m c t) else k0_pay5 (k0_pay9 (nextH m c t p) (bx m c t)) p.2.2) else p.2.2
def next (c : Dev nD) (t : Fin cfg0.N) (p : S F) : S F := (nextH m c t p, nextY m c t p, nextG m c t p)

/-- The three before point `n` (before the first: anything, the first column starts them anew). -/
def pre (c : Dev nD) : (n : ℕ) → n ≤ cfg0.N → S F
  | 0, _ => (k0_pay2, k0_pay1 k0_pay2, k0_pay9 k0_pay2 k0_pay2)
  | n + 1, hn => next m c ⟨n, hn⟩ (pre c n (Nat.le_of_succ_le hn))

/-- The same at a grid point, and after it. -/
abbrev at_ (c : Dev nD) (t : Fin cfg0.N) := pre m c t.val (Nat.le_of_lt t.isLt)
abbrev aft (c : Dev nD) (t : Fin cfg0.N) := next m c t (at_ m c t)

/-- What the point before left is what a point finds. -/
theorem aft_pred (c : Dev nD) (t : Fin cfg0.N) (h : t.val ≠ 0) (h' : t.val - 1 < cfg0.N) : aft m c ⟨t.val - 1, h'⟩ = at_ m c t := by
  obtain ⟨n, hn⟩ := t
  cases n with
  | zero => exact absurd rfl h
  | succ n => rfl

/-- The scratch that carries the sum, and the invariant before a point. -/
abbrev scM : M1 := Memref.whole cc0_scratch0
def Phi (c : Dev nD) : (n : ℕ) → n ≤ cfg0.N → sProp 𝕄
  | 0, _ => Pipeline.ΦA spec0 c
  | n + 1, hn => iprop(owns (c : Thread nD τ) scM fullShare (pre m c (n + 1) hn).1 ∗ (∃ r, prngReg c r))

theorem PhiA_eq (c : Dev nD) : (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem Phi_pos (c : Dev nD) (n : ℕ) (h : n ≤ cfg0.N) (hz : n ≠ 0) :
    Phi m c n h = iprop(owns (c : Thread nD τ) scM fullShare (pre m c n h).1 ∗ (∃ r, prngReg c r)) := by
  cases n with
  | zero => exact absurd rfl hz
  | succ n => rfl

theorem Phi_any (c : Dev nD) (n : ℕ) (h : n ≤ cfg0.N) : Phi m c n h ⊢ iprop((∃ d, owns (c : Thread nD τ) scM fullShare d) ∗ (∃ r, prngReg c r)) := by
  cases n with
  | zero => rw [show Phi m c 0 h = Pipeline.ΦA spec0 c from rfl, PhiA_eq]
  | succ n =>
    rw [Phi_pos m c _ h (Nat.succ_ne_zero n)]
    iintro ⟨HS, Hg⟩
    isplitl [HS]
    · iexists _; iexact HS
    iexact Hg

/-- The buffers point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay8 (aft m c t).1 (bx m c t) (bg m c t) (by_ m c t)
    | ⟨7, _⟩ => k0_pay3 (aft m c t).2.1 (bv m c t) (ba m c t)
    | ⟨8, _⟩ => (aft m c t).2.2
    | ⟨9, _⟩ => (aft m c t).2.1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

/-- An input's buffer holds its block at every point, whether or not the point fetches it. -/
theorem before_in (c : Dev nD) (w : Fin cfg0.W) (hw : w.val < 6) (t : Fin cfg0.N) (d) : (dats m 0 c).before w t d = (dats m 0 c).after w t := by
  match w, hw with
  | 0, _ => exact ((dats m 0 c).before_in_eq_fetched 0 rfl (fun _ => rfl) (fun _ _ _ => rfl) (fun t => by dsimp only [dats]; unfold Dat.blockOf iblk; rfl) t d)
  | 1, _ => exact ((dats m 0 c).before_in_eq_fetched 1 rfl (fun _ => rfl) (fun _ _ _ => rfl) (fun t => by dsimp only [dats]; unfold Dat.blockOf iblk; rfl) t d)
  | 2, _ => exact ((dats m 0 c).before_in_eq_fetched 2 rfl (fun _ => rfl) (fun _ _ _ => rfl) (fun t => by dsimp only [dats]; unfold Dat.blockOf iblk; rfl) t d)
  | 3, _ => exact ((dats m 0 c).before_in_eq_fetched 3 rfl (fun _ => rfl) (fun _ _ _ => rfl) (fun t => by dsimp only [dats]; unfold Dat.blockOf iblk; rfl) t d)
  | 4, _ => exact ((dats m 0 c).before_in_eq_fetched 4 rfl (fun _ => rfl) (fun _ _ _ => rfl) (fun t => by dsimp only [dats]; unfold Dat.blockOf iblk; rfl) t d)
  | 5, _ => exact ((dats m 0 c).before_in_eq_fetched 5 rfl (fun _ => rfl) (fun _ _ _ => rfl) (fun t => by dsimp only [dats]; unfold Dat.blockOf iblk; rfl) t d)

/-- The body's four conditions, by the point's number. -/
theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ t.val % 8 = 7 :=
  (by decide +kernel : ∀ t : Fin grid0.N, k0_cond2 (grid0.coords t) = 1#1 ↔ t.val % 8 = 7)
theorem hcond3 : ∀ t : Fin cfg0.N, k0_cond3 (grid0.coords t) = 1#1 ↔ t.val < 8 :=
  (by decide +kernel : ∀ t : Fin grid0.N, k0_cond3 (grid0.coords t) = 1#1 ↔ t.val < 8)
theorem hcond4 : ∀ t : Fin cfg0.N, k0_cond4 (grid0.coords t) = 1#1 ↔ ¬ t.val < 8 :=
  (by decide +kernel : ∀ t : Fin grid0.N, k0_cond4 (grid0.coords t) = 1#1 ↔ ¬ t.val < 8)

/-- The points that leave an output alone. -/
theorem idle6 : ∀ t : Fin cfg0.N, cfg0.idle 6 (grid0.coords t) = !decide (t.val % 8 = 7) := by decide +kernel
theorem idle8 : ∀ t : Fin cfg0.N, cfg0.idle 8 (grid0.coords t) = !decide (t.val % 8 = 7) := by decide +kernel
theorem idle9 : ∀ t : Fin cfg0.N, cfg0.idle 9 (grid0.coords t) = !decide (t.val % 8 = 0) := by decide +kernel

/-- The gains' gradient is carried from the first row to the last, the rounded dy from the first column to the last. -/
def tab8 (n : ℕ) : Bool := decide (n < 8) || decide (n = 64)
theorem tab8_step : ∀ t : Fin cfg0.N, tab8 (t.val + 1) = ((cfg0.win 8).flush t || (cfg0.idle 8 (cfg0.grid.coords t) && tab8 t.val)) := by decide +kernel
def tab9 (n : ℕ) : Bool := decide (n % 8 = 0)
theorem tab9_step : ∀ t : Fin cfg0.N, tab9 (t.val + 1) = ((cfg0.win 9).flush t || (cfg0.idle 9 (cfg0.grid.coords t) && tab9 t.val)) := by decide +kernel
theorem fresh8 (t : Fin cfg0.N) : cfg0.fresh 8 t.val = tab8 t.val := Pipeline.Cfg.fresh_tab cfg0 8 tab8 rfl tab8_step t.val (Nat.le_of_lt t.isLt)
theorem fresh9 (t : Fin cfg0.N) : cfg0.fresh 9 t.val = tab9 t.val := Pipeline.Cfg.fresh_tab cfg0 9 tab9 rfl tab9_step t.val (Nat.le_of_lt t.isLt)

theorem not_of_idle {p : Prop} [Decidable p] {b : Bool} (h : b = !decide p) (hb : b = true) : ¬ p := by
  rw [h] at hb; simpa using hb

theorem before8 (c : Dev nD) (t : Fin cfg0.N) (h : ¬ t.val < 8) (d) : (dats m 0 c).before 8 t d = (at_ m c t).2.2 := by
  have hN : t.val < 64 := lt_of_lt_of_eq t.isLt (show cfg0.N = 64 from N_0)
  rw [Dat.before_out_traj _ 8 rfl (fun _ _ => rfl) (fun t hz hi _ => by
      have e : nextG m c t (at_ m c t) = (at_ m c t).2.2 := if_neg (not_of_idle (idle8 t) hi)
      exact e.trans (congrArg (fun p : S F => p.2.2) (aft_pred m c t hz _)).symm) t.val t rfl d,
    if_neg (by rw [fresh8]; simp [tab8]; omega)]
  exact congrArg (fun p : S F => p.2.2) (aft_pred m c t (by omega) _)

theorem before9 (c : Dev nD) (t : Fin cfg0.N) (h : ¬ t.val % 8 = 0) (d) : (dats m 0 c).before 9 t d = (at_ m c t).2.1 := by
  rw [Dat.before_out_traj _ 9 rfl (fun _ _ => rfl) (fun t hz hi _ => by
      have e : nextY m c t (at_ m c t) = (at_ m c t).2.1 := if_neg (not_of_idle (idle9 t) hi)
      exact e.trans (congrArg (fun p : S F => p.2.1) (aft_pred m c t hz _)).symm) t.val t rfl d,
    if_neg (by rw [fresh9]; simp [tab9]; omega)]
  exact congrArg (fun p : S F => p.2.1) (aft_pred m c t (by omega) _)

/-- What a point leaves of the rounded dy: what it found, past the first column. -/
theorem leaves9 (c : Dev nD) (t : Fin cfg0.N) : owns (c : Thread nD τ) (win0_9.stage (cfg0.slots t 9)) fullShare (nextY m c t (at_ m c t)) ⊢ ((dats m 0 c).leavesExact 9 t : sProp 𝕄) := by
  unfold Dat.leavesExact
  by_cases h : t.val % 8 = 0
  · rw [show cfg0.idle 9 (cfg0.grid.coords t) = false from (idle9 t).trans (by simp [h])]
    dsimp only [dats]; exact .rfl
  · rw [show cfg0.idle 9 (cfg0.grid.coords t) = true from (idle9 t).trans (by simp [h])]
    cases hf : (cfg0.win 9).flush t with
    | false =>
      simp only [before9 m c t h]
      rw [show nextY m c t (at_ m c t) = (at_ m c t).2.1 from if_neg h]
      iintro H; iexists (at_ m c t).2.1; iexact H
    | true => dsimp only [dats]; exact .rfl

/-- A point outside the last column leaves dx's block and the gains' gradient as they were. -/
theorem leaves6 (c : Dev nD) (t : Fin cfg0.N) (h : ¬ t.val % 8 = 7) : (dats m 0 c).leavesExact 6 t
    = iprop(∃ d, owns (c : Thread nD τ) (win0_6.stage (cfg0.slots t 6)) fullShare ((dats m 0 c).before 6 t d)) :=
  Dat.leavesExact_idle (dats m 0 c) 6 t ((idle6 t).trans (by simp [h])) (Bool.eq_false_iff.mpr fun k => h ((flush0_6 t).mp k))
theorem leaves8 (c : Dev nD) (t : Fin cfg0.N) (h : ¬ t.val % 8 = 7) : (dats m 0 c).leavesExact 8 t
    = iprop(∃ d, owns (c : Thread nD τ) (win0_8.stage (cfg0.slots t 8)) fullShare ((dats m 0 c).before 8 t d)) :=
  Dat.leavesExact_idle (dats m 0 c) 8 t ((idle8 t).trans (by simp [h])) (Bool.eq_false_iff.mpr fun k => h (by have := (flush0_8 t).mp k; omega))

/-- A point of the last column leaves both at their new contents. -/
theorem leaves6' (c : Dev nD) (t : Fin cfg0.N) (h : t.val % 8 = 7) : (dats m 0 c).leavesExact 6 t
    = owns (c : Thread nD τ) (win0_6.stage (cfg0.slots t 6)) fullShare (k0_pay8 (nextH m c t (at_ m c t)) (bx m c t) (bg m c t) (by_ m c t)) := by
  unfold Dat.leavesExact; rw [show cfg0.idle 6 (cfg0.grid.coords t) = false from (idle6 t).trans (by simp [h])]; rfl
theorem leaves8' (c : Dev nD) (t : Fin cfg0.N) (h : t.val % 8 = 7) : (dats m 0 c).leavesExact 8 t
    = owns (c : Thread nD τ) (win0_8.stage (cfg0.slots t 8)) fullShare (nextG m c t (at_ m c t)) := by
  unfold Dat.leavesExact; rw [show cfg0.idle 8 (cfg0.grid.coords t) = false from (idle8 t).trans (by simp [h])]; rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (dats m 0 c).leavesExact 5 t ∗ (dats m 0 c).leavesExact 6 t ∗ (dats m 0 c).leavesExact 7 t ∗ (dats m 0 c).leavesExact 8 t ∗ (dats m 0 c).leavesExact 9 t)

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have b0 : ∀ d, (dats m 0 c).before 0 t d = iblk m c 0 t := before_in m c 0 (by decide) t
  have b1 : ∀ d, (dats m 0 c).before 1 t d = iblk m c 1 t := before_in m c 1 (by decide) t
  have b2 : ∀ d, (dats m 0 c).before 2 t d = iblk m c 2 t := before_in m c 2 (by decide) t
  have b3 : ∀ d, (dats m 0 c).before 3 t d = iblk m c 3 t := before_in m c 3 (by decide) t
  have b4 : ∀ d, (dats m 0 c).before 4 t d = iblk m c 4 t := before_in m c 4 (by decide) t
  have b5 : ∀ d, (dats m 0 c).before 5 t d = iblk m c 5 t := before_in m c 5 (by decide) t
  simp only [b0, b1, b2, b3, b4, b5]
  rw [show (dats m 0 c).Φ t.succ = iprop(owns (c : Thread nD τ) scM fullShare (nextH m c t (at_ m c t)) ∗ (∃ r, prngReg c r)) from rfl,
    show (dats m 0 c).owesAt () t.succ = (dats m 0 c).owesAt () t.castSucc from rfl, Phi_castSucc]
  rw [show (dats m 0 c).leavesExact 0 t = owns (c : Thread nD τ) (win0_0.stage (cfg0.slots t 0)) fullShare (iblk m c 0 t) from rfl,
    show (dats m 0 c).leavesExact 1 t = owns (c : Thread nD τ) (win0_1.stage (cfg0.slots t 1)) fullShare (iblk m c 1 t) from rfl,
    show (dats m 0 c).leavesExact 2 t = owns (c : Thread nD τ) (win0_2.stage (cfg0.slots t 2)) fullShare (iblk m c 2 t) from rfl,
    show (dats m 0 c).leavesExact 3 t = owns (c : Thread nD τ) (win0_3.stage (cfg0.slots t 3)) fullShare (iblk m c 3 t) from rfl,
    show (dats m 0 c).leavesExact 4 t = owns (c : Thread nD τ) (win0_4.stage (cfg0.slots t 4)) fullShare (iblk m c 4 t) from rfl,
    show (dats m 0 c).leavesExact 5 t = owns (c : Thread nD τ) (win0_5.stage (cfg0.slots t 5)) fullShare (iblk m c 5 t) from rfl,
    show (dats m 0 c).leavesExact 7 t = owns (c : Thread nD τ) (win0_7.stage (cfg0.slots t 7)) fullShare (k0_pay3 (nextY m c t (at_ m c t)) (bv m c t) (ba m c t)) from rfl]
  have L := leaves9 m c t
  by_cases h0 : t.val % 8 = 0
  · have h7 : ¬ t.val % 8 = 7 := by omega
    have eY : nextY m c t (at_ m c t) = k0_pay1 (by_ m c t) := if_pos h0
    have eH : nextH m c t (at_ m c t) = k0_pay4 (k0_pay1 (by_ m c t)) (bv m c t) (ba m c t) k0_pay2 (bu m c t) := by
      unfold nextH; rw [eY, if_pos h0]
    rw [leaves6 m c t h7, leaves8 m c t h7, eH, eY]
    rw [eY] at L
    iintro ⟨HΦ, Ho, ⟨%d0, H0⟩, ⟨%d1, H1⟩, ⟨%d2, H2⟩, ⟨%d3, H3⟩, ⟨%d4, H4⟩, ⟨%d5, H5⟩, H6, ⟨%d7, H7⟩, H8, ⟨%d9, H9⟩⟩
    ihave HΦ := (Phi_any m c t.val (Nat.le_of_lt t.isLt)) $$ HΦ
    icases HΦ with ⟨HS, Hg⟩
    iapply (run_A c (grid0.coords t) _ _ _ _ _ _ _ _ _ _ _ _ _ _ _ _ _ _ _ _ _ _ ((hcond1 t).mpr h0) (fun k => h7 ((hcond2 t).mp k)) (by_ m c t) (ba m c t) (bu m c t) (bv m c t) Set.univ _)
    isplitl [H0]; · iexact H0
    isplitl [H1]; · iexact H1
    isplitl [H4]; · iexact H4
    isplitl [H5]; · iexact H5
    isplitl [H7]; · iexists _; iexact H7
    isplitl [H9]; · iexists _; iexact H9
    isplitl [HS]; · iexact HS
    iintro ⟨H0, H1, H4, H5, H7, H9, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iapply L; iexact H9
  · have hz : t.val ≠ 0 := fun k => h0 (by rw [k])
    have eY : nextY m c t (at_ m c t) = (at_ m c t).2.1 := if_neg h0
    have eH : nextH m c t (at_ m c t) = k0_pay4 (at_ m c t).2.1 (bv m c t) (ba m c t) (at_ m c t).1 (bu m c t) := by
      unfold nextH; rw [eY, if_neg h0]
    rw [eY] at L
    simp only [before9 m c t h0]
    rw [Phi_pos m c t.val _ hz]
    by_cases h7 : t.val % 8 = 7
    · by_cases h8 : t.val < 8
      · have eG : nextG m c t (at_ m c t) = k0_pay9 (nextH m c t (at_ m c t)) (bx m c t) := (if_pos h7).trans (if_pos h8)
        rw [leaves6' m c t h7, leaves8' m c t h7, eG, eH, eY]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (run_C c (grid0.coords t) _ _ _ _ _ _ _ _ _ _ _ _ _ _ _ _ _ _ _ _ _ _ (fun k => h0 ((hcond1 t).mp k)) ((hcond2 t).mpr h7) ((hcond3 t).mpr h8) (fun k => (hcond4 t).mp k h8)
          (by_ m c t) (ba m c t) (bx m c t) (bg m c t) (bu m c t) (bv m c t) (at_ m c t).2.1 (at_ m c t).1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexact H9
        isplitl [HS]; · iexact HS
        iintro ⟨H0, H1, H2, H3, H4, H5, H6, H7, H8, H9, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iapply L; iexact H9
      · have eG : nextG m c t (at_ m c t) = k0_pay5 (k0_pay9 (nextH m c t (at_ m c t)) (bx m c t)) (at_ m c t).2.2 := (if_pos h7).trans (if_neg h8)
        rw [leaves6' m c t h7, leaves8' m c t h7, eG, eH, eY]
        simp only [before8 m c t h8]
        iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply (run_D c (grid0.coords t) _ _ _ _ _ _ _ _ _ _ _ _ _ _ _ _ _ _ _ _ _ _ (fun k => h0 ((hcond1 t).mp k)) ((hcond2 t).mpr h7) (fun k => h8 ((hcond3 t).mp k)) ((hcond4 t).mpr h8)
          (by_ m c t) (ba m c t) (bx m c t) (bg m c t) (bu m c t) (bv m c t) (at_ m c t).2.2 (at_ m c t).2.1 (at_ m c t).1 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexact H8
        isplitl [H9]; · iexact H9
        isplitl [HS]; · iexact HS
        iintro ⟨H0, H1, H2, H3, H4, H5, H6, H7, H8, H9, HS⟩
        isplitl [HS Hg]
        · isplitl [HS]; · iexact HS
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iapply L; iexact H9
    · rw [leaves6 m c t h7, leaves8 m c t h7, eH, eY]
      iintro ⟨⟨HS, Hg⟩, Ho, ⟨%d0, H0⟩, ⟨%d1, H1⟩, ⟨%d2, H2⟩, ⟨%d3, H3⟩, ⟨%d4, H4⟩, ⟨%d5, H5⟩, H6, ⟨%d7, H7⟩, H8, ⟨%d9, H9⟩⟩
      iapply (run_B c (grid0.coords t) _ _ _ _ _ _ _ _ _ _ _ _ _ _ _ _ _ _ _ _ _ _ (fun k => h0 ((hcond1 t).mp k)) (fun k => h7 ((hcond2 t).mp k)) (ba m c t) (bu m c t) (bv m c t) (at_ m c t).2.1 (at_ m c t).1 Set.univ _)
      isplitl [H1]; · iexact H1
      isplitl [H4]; · iexact H4
      isplitl [H5]; · iexact H5
      isplitl [H7]; · iexists _; iexact H7
      isplitl [H9]; · iexact H9
      isplitl [HS]; · iexact HS
      iintro ⟨H1, H4, H5, H7, H9, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iapply L; iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl
theorem hout (c : Dev nD) : (dats m 0 c).Φ (Fin.last cfg0.N) ⊢ Pipeline.ΦA spec0 c := by
  rw [PhiA_eq]; exact Phi_any m c cfg0.N (Nat.le_refl _)

set_option backward.isDefEq.respectTransparency.types false in
/-- The run: every array of the grid ends at what the points wrote into it, every counter ends at zero. -/
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they began. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).1 0).trans (((dats m 0 c).arrAt_in 0 rfl _).trans ((A_eq m c 0).trans (V_arg m c main_arg0 (by simp)))),
    ((h c).1 2).trans (((dats m 0 c).arrAt_in 2 rfl _).trans ((A_eq m c 2).trans (V_arg m c main_arg1 (by simp)))),
    ((h c).2 main_arg2 (Pipeline.mem_restRefs_of main_arg2 (by decide) (by decide))).trans (V_arg m c main_arg2 (by simp)),
    ((h c).2 main_arg3 (Pipeline.mem_restRefs_of main_arg3 (by decide) (by decide))).trans (V_arg m c main_arg3 (by simp)),
    ((h c).2 main_arg4 (Pipeline.mem_restRefs_of main_arg4 (by decide) (by decide))).trans (V_arg m c main_arg4 (by simp))⟩

end Bwd

end
-- ==== Proof.Bwd.lean ====
/- The channel mixer's backward call: what its four results hold. -/
module

public import proofs.«01_k».proof.Proof.BwdRun
public import proofs.«01_k».proof.Proof.Gen.Reference5Ideal.Read
public import proofs.«01_k».proof.Proof.Runs
public import Idealize.ShloMosaic.Lib.Pipeline.ReadBack

@[expose] public section

set_option maxRecDepth 16384

noncomputable section

namespace Bwd

open Idealize.ShloMosaic Idealize.ShloMosaic.TcCoe Cert.Kernel5Ideal Cert.Kernel5Ideal.Gen

variable (m : (ℓ : Loc nD τ sig) → Buf (Elt Ideal) ℓ) (c : Dev nD)

/-- The five arguments: the result's gradient, the rows, the gains, the two weight matrices. -/
abbrev A0 : FVec Ideal S8192x1024 .f32 := m ((c : Thread nD τ).loc main_arg0)
abbrev A1 : FVec Ideal S8192x1024 .f32 := m ((c : Thread nD τ).loc main_arg1)
abbrev A2 : FVec Ideal S1024 .f32 := m ((c : Thread nD τ).loc main_arg2)
abbrev A3 : FVec Ideal S1024x4096 .f32 := m ((c : Thread nD τ).loc main_arg3)
abbrev A4 : FVec Ideal S4096x1024 .f32 := m ((c : Thread nD τ).loc main_arg4)

/-- The mean square of a row plus the small constant, its inverse root, and the hidden layer before its activation. -/
def ms (i : Fin 8192) : EReal :=
  Ideal.div (∑ k : Fin 1024, A1 m c (ix2 i k) * A1 m c (ix2 i k)) (Ideal.ofBits .f32 1149239296#32) + Ideal.ofBits .f32 897988541#32
def R (i : Fin 8192) : EReal := Ideal.rsqrt (ms m c i)
def H (i : S8192x1024.Idx) : EReal := A1 m c i * R m c (i 0) * A2 m c (ix1 (i 1))
def A (i : S8192x4096.Idx) : EReal := ∑ k : Fin 1024, H m c (ix2 (i 0) k) * A3 m c (ix2 k (i 1))

/-- The hidden layer's gradient, the normalised rows' gradient, the gains' gradient and the rows' gradient. -/
def DA (i : S8192x4096.Idx) : EReal :=
  (∑ k : Fin 1024, A0 m c (ix2 (i 0) k) * A4 m c (ix2 (i 1) k)) * (Ideal.ofBits .f32 1073741824#32 * max (A m c i) 0)
def T (i : S8192x1024.Idx) : EReal := ∑ q : Fin 4096, DA m c (ix2 (i 0) q) * A3 m c (ix2 (i 1) q)
def DG (i : S1x1024.Idx) : EReal := ∑ k : Fin 8192, T m c (ix2 k (i 1)) * (A1 m c (ix2 k (i 1)) * R m c k)
def DX (i : S8192x1024.Idx) : EReal :=
  A0 m c i + R m c (i 0) * (T m c i * A2 m c (ix1 (i 1))
    - A1 m c i * R m c (i 0) * Ideal.div (∑ k : Fin 1024, T m c (ix2 (i 0) k) * A2 m c (ix1 k) * (A1 m c (ix2 (i 0) k) * R m c (i 0))) (Ideal.ofBits .f32 1149239296#32))

/-- The inverse root of a block's row. -/
def rr (x : FVec Ideal S1024x1024 .f32) (i : Fin 1024) : EReal :=
  Ideal.rsqrt (Ideal.div (∑ k : Fin 1024, x (ix2 i k) * x (ix2 i k)) (Ideal.ofBits .f32 1149239296#32) + Ideal.ofBits .f32 897988541#32)

theorem p3 (d : FVec Ideal S1024x1024 .bf16) (v : FVec Ideal S512x1024 .bf16) (a : FVec Ideal S1024x512 .bf16) (j : S1024x512.Idx) :
    k0_pay3 (F := Ideal) d v a j = (∑ k : Fin 1024, d (ix2 (j 0) k) * v (ix2 (j 1) k)) * (Ideal.ofBits .f32 1073741824#32 * max (a j) 0) := by
  pointwise [k0_pay3]
theorem p4 (d : FVec Ideal S1024x1024 .bf16) (v : FVec Ideal S512x1024 .bf16) (a u : FVec Ideal S1024x512 .bf16) (z : FVec Ideal S1024x1024 .f32) (j : S1024x1024.Idx) :
    k0_pay4 (F := Ideal) d v a z u j = z j + ∑ q : Fin 512, (k0_pay3 (F := Ideal) d v a (ix2 (j 0) q) : EReal) * u (ix2 (j 1) q) := by
  pointwise [k0_pay4]
theorem p2 (j : S1024x1024.Idx) : k0_pay2 (F := Ideal) j = (0 : EReal) := by
  pointwise [k0_pay2]
theorem p5 (a b : FVec Ideal S1x1024 .f32) (j : S1x1024.Idx) : k0_pay5 (F := Ideal) a b j = (b j + a j : EReal) := by
  pointwise [k0_pay5]
theorem p6 (x : FVec Ideal S1024x1024 .f32) (j : S1024x1.Idx) : k0_pay6 (F := Ideal) x j = rr x (j 0) := by
  pointwise [k0_pay6, rr]
theorem p7 (x : FVec Ideal S1024x1024 .f32) (j : S1024x1024.Idx) : k0_pay7 (F := Ideal) x j = x j * rr x (j 0) := by
  pointwise [k0_pay7, p6]
theorem p8 (h x y : FVec Ideal S1024x1024 .f32) (g : FVec Ideal S1x1024 .f32) (j : S1024x1024.Idx) :
    k0_pay8 (F := Ideal) h x g y j = y j + rr x (j 0) * (h j * g (ix2 0 (j 1))
      - x j * rr x (j 0) * Ideal.div (∑ k : Fin 1024, h (ix2 (j 0) k) * g (ix2 0 k) * (x (ix2 (j 0) k) * rr x (j 0))) (Ideal.ofBits .f32 1149239296#32)) := by
  pointwise [k0_pay8, p6, p7]
theorem p9 (h x : FVec Ideal S1024x1024 .f32) (j : S1x1024.Idx) :
    k0_pay9 (F := Ideal) h x j = ∑ k : Fin 1024, h (ix2 k (j 1)) * (x (ix2 k (j 1)) * rr x k) := by
  pointwise [k0_pay9, p7]

theorem g_eq (i : S1x1024.Idx) : (V m c main_v17 : FVec Ideal S1x1024 .f32) i = A2 m c (ix1 (i 1)) := by
  unfold V hostOps0
  after_results
  exact congrArg (A2 m c) (funext fun a => by fin_cases a <;> rfl)
theorem u_eq : (V m c main_v18 : FVec Ideal S1024x4096 .bf16) = A3 m c := by
  unfold V hostOps0
  after_results
  rfl
theorem v_eq : (V m c main_v19 : FVec Ideal S4096x1024 .bf16) = A4 m c := by
  unfold V hostOps0
  after_results
  rfl
theorem a_host : (V m c main_v16 : FVec Ideal S8192x4096 .bf16) = Cert.Reference5Ideal.Read.val_main_v16 (F := Ideal) (A1 m c) (A2 m c) (A3 m c) := by
  unfold V hostOps0
  after_results
  rfl

open Cert.Reference5Ideal.Read in
theorem ref_h (i : S8192x1024.Idx) : val_main_v15 (F := Ideal) (A1 m c) (A2 m c) i = H m c i := by
  rw [val_main_v15_apply, val_main_v12_apply, val_main_v14_apply, val_main_v13_apply, val_main_v11_apply, val_main_v7_apply, val_main_v6_apply,
    val_main_v4_apply, val_main_v2_apply, val_main_v1_apply, val_main_v3_apply, val_main_v5_apply, val_main_cst_apply, val_main_cst_0_apply, val_main_cst_1_apply]
  refine congrArg₂ (· * ·) (congrArg₂ (· * ·) rfl (congrArg (fun z => Ideal.rsqrt (Ideal.div z _ + _)) ?_)) ?_
  · refine (congrArg (· + _) Ideal.ofBits_zero_f32).trans ((zero_add _).trans (Finset.sum_congr rfl fun k _ => ?_))
    rw [val_main_v0_apply]
    exact congrArg (fun j => A1 m c j * A1 m c j) (funext fun a => by fin_cases a <;> rfl)
  · exact congrArg (A2 m c) (funext fun a => by fin_cases a <;> rfl)

open Cert.Reference5Ideal.Read in
theorem ref_a (i : S8192x4096.Idx) : val_main_v16 (F := Ideal) (A1 m c) (A2 m c) (A3 m c) i = A m c i := by
  rw [val_main_v16_apply]
  refine Finset.sum_congr rfl fun k _ => congrArg₂ (· * ·) ((ref_h m c _).trans ?_) ?_
  · exact congrArg (H m c) (funext fun a => by fin_cases a <;> rfl)
  · exact congrArg (A3 m c) (funext fun a => by fin_cases a <;> rfl)

/-- The host's hidden layer is the reference's. -/
theorem a_eq : (V m c main_v16 : FVec Ideal S8192x4096 .bf16) = A m c := (a_host m c).trans (funext fun i => ref_a m c i)

theorem idx : ∀ t : Fin cfg0.N, win0_0.index t = ![t.val / 8, 0] ∧ win0_1.index t = ![t.val / 8, t.val % 8] ∧ win0_2.index t = ![t.val / 8, 0] ∧ win0_3.index t = ![0, 0]
    ∧ win0_4.index t = ![0, t.val % 8] ∧ win0_5.index t = ![t.val % 8, 0] ∧ win0_6.index t = ![t.val / 8, 0] ∧ win0_7.index t = ![t.val / 8, t.val % 8]
    ∧ win0_8.index t = ![0, 0] ∧ win0_9.index t = ![t.val / 8, 0] ∧ t.val < 64 :=
  (by decide +kernel : ∀ t : Fin grid0.N, _)

theorem lt64 (t : Fin cfg0.N) : t.val < 64 := (idx t).2.2.2.2.2.2.2.2.2.2

/-- Row `i` of the rows that point `t` works on, and column `q` of the `s`-th column block. -/
def row (t : Fin cfg0.N) (i : Fin 1024) : Fin 8192 := ⟨1024 * (t.val / 8) + i.val, by have := lt64 t; omega⟩
def col (s : Fin 8) (q : Fin 512) : Fin 4096 := ⟨512 * s.val + q.val, by omega⟩

/-- A sum over the column blocks and their columns is a sum over all columns. -/
theorem sum_col (f : Fin 4096 → EReal) : ∑ s : Fin 8, ∑ q : Fin 512, f (col s q) = ∑ k, f k := by
  refine (Fin.sum_divmod_congr (N := 4096) (A := 8) (S := 512) (f := fun s q => f (col s q)) (fun R h0 h1 => ?_) (by norm_num)).symm
  refine congrArg f (Fin.ext ?_)
  show (R : ℕ) = 512 * ((R : ℕ) / 512) + (R : ℕ) % 512
  omega

theorem by_eq (t : Fin cfg0.N) (j : S1024x1024.Idx) : by_ m c t j = A0 m c (ix2 (row t (j 0)) (j 1)) := by
  have e : V m c main_arg0 = A0 m c := V_arg m c main_arg0 (by simp)
  refine Eq.trans (b := ((cfg0.win 0).blk t).view.read (Elt Ideal) (A0 m c) j) (congrArg (fun f => ((cfg0.win 0).blk t).view.read (Elt Ideal) f j) e) ?_
  blk_ext [row, idx t]
theorem ba_eq (t : Fin cfg0.N) (s : Fin 8) (hs : t.val % 8 = s.val) (j : S1024x512.Idx) : ba m c t j = A m c (ix2 (row t (j 0)) (col s (j 1))) := by
  refine Eq.trans (b := ((cfg0.win 1).blk t).view.read (Elt Ideal) (A m c) j) (congrArg (fun f => ((cfg0.win 1).blk t).view.read (Elt Ideal) f j) (a_eq m c)) ?_
  blk_ext [row, col, idx t, hs]
theorem bx_eq (t : Fin cfg0.N) (j : S1024x1024.Idx) : bx m c t j = A1 m c (ix2 (row t (j 0)) (j 1)) := by
  have e : V m c main_arg1 = A1 m c := V_arg m c main_arg1 (by simp)
  refine Eq.trans (b := ((cfg0.win 2).blk t).view.read (Elt Ideal) (A1 m c) j) (congrArg (fun f => ((cfg0.win 2).blk t).view.read (Elt Ideal) f j) e) ?_
  blk_ext [row, idx t]
theorem bg_eq (t : Fin cfg0.N) (j : Fin 1024) : bg m c t (ix2 0 j) = A2 m c (ix1 j) := by
  refine Eq.trans (b := (V m c main_v17 : FVec Ideal S1x1024 .f32) (ix2 0 j)) ?_ (g_eq m c _)
  blk_ext [bg, iblk, idx t]
theorem bu_eq (t : Fin cfg0.N) (s : Fin 8) (hs : t.val % 8 = s.val) (j : S1024x512.Idx) : bu m c t j = A3 m c (ix2 (j 0) (col s (j 1))) := by
  refine Eq.trans (b := ((cfg0.win 4).blk t).view.read (Elt Ideal) (A3 m c) j) (congrArg (fun f => ((cfg0.win 4).blk t).view.read (Elt Ideal) f j) (u_eq m c)) ?_
  blk_ext [col, idx t, hs]
theorem bv_eq (t : Fin cfg0.N) (s : Fin 8) (hs : t.val % 8 = s.val) (j : S512x1024.Idx) : bv m c t j = A4 m c (ix2 (col s (j 0)) (j 1)) := by
  refine Eq.trans (b := ((cfg0.win 5).blk t).view.read (Elt Ideal) (A4 m c) j) (congrArg (fun f => ((cfg0.win 5).blk t).view.read (Elt Ideal) f j) (v_eq m c)) ?_
  blk_ext [col, idx t, hs]

/-- The rounded dy stays through a row of the grid. -/
theorem st_y (n : ℕ) (hn : n < cfg0.N) (j : S1024x1024.Idx) : (pre m c (n + 1) hn).2.1 j = A0 m c (ix2 (row ⟨n, hn⟩ (j 0)) (j 1)) := by
  induction n with
  | zero => exact by_eq m c ⟨0, hn⟩ j
  | succ n ih =>
    by_cases h : (n + 1) % 8 = 0
    · exact Eq.trans (congrFun (if_pos h : nextY m c ⟨n + 1, hn⟩ (pre m c (n + 1) _) = k0_pay1 (by_ m c ⟨n + 1, hn⟩)) j) (by_eq m c ⟨n + 1, hn⟩ j)
    · refine Eq.trans (congrFun (if_neg h : nextY m c ⟨n + 1, hn⟩ (pre m c (n + 1) _) = (pre m c (n + 1) _).2.1) j) ?_
      refine (ih _).trans (congrArg (fun r => A0 m c (ix2 r (j 1))) (Fin.ext ?_))
      show 1024 * (n / 8) + (j 0).val = 1024 * ((n + 1) / 8) + (j 0).val
      omega
theorem y_eq (t : Fin cfg0.N) (j : S1024x1024.Idx) : nextY m c t (at_ m c t) j = A0 m c (ix2 (row t (j 0)) (j 1)) := st_y m c t.val t.isLt j

/-- The hidden layer's gradient at a point. -/
theorem d_eq (t : Fin cfg0.N) (s : Fin 8) (hs : t.val % 8 = s.val) (j : S1024x512.Idx) :
    k0_pay3 (F := Ideal) (nextY m c t (at_ m c t)) (bv m c t) (ba m c t) j = DA m c (ix2 (row t (j 0)) (col s (j 1))) := by
  refine (p3 _ _ _ j).trans (congrArg₂ (· * ·) (Finset.sum_congr rfl fun k _ => congrArg₂ (· * ·) ?_ ?_) (congrArg (fun z : EReal => _ * max z 0) ?_))
  · exact y_eq m c t (ix2 (j 0) k)
  · exact bv_eq m c t s hs (ix2 (j 1) k)
  · exact ba_eq m c t s hs j

/-- One point's share of the normalised rows' gradient: its 512 columns of the hidden layer. -/
def part (t : Fin cfg0.N) (j : S1024x1024.Idx) : EReal :=
  ∑ q : Fin 512, (k0_pay3 (F := Ideal) (nextY m c t (at_ m c t)) (bv m c t) (ba m c t) (ix2 (j 0) q) : EReal) * bu m c t (ix2 (j 1) q)

theorem part_eq (t : Fin cfg0.N) (s : Fin 8) (hs : t.val % 8 = s.val) (j : S1024x1024.Idx) :
    part m c t j = ∑ q : Fin 512, DA m c (ix2 (row t (j 0)) (col s q)) * A3 m c (ix2 (j 1) (col s q)) :=
  Finset.sum_congr rfl fun q _ => congrArg₂ (· * ·) (d_eq m c t s hs (ix2 (j 0) q)) (bu_eq m c t s hs (ix2 (j 1) q))

theorem acc_A (t : Fin cfg0.N) (h : t.val % 8 = 0) (j : S1024x1024.Idx) : (nextH m c t (at_ m c t) j : EReal) = 0 + part m c t j := by
  refine (p4 _ _ _ _ _ j).trans (congrArg (· + part m c t j) ?_)
  rw [if_pos h]; exact p2 j
theorem acc_B (t : Fin cfg0.N) (h : ¬ t.val % 8 = 0) (j : S1024x1024.Idx) : (nextH m c t (at_ m c t) j : EReal) = (at_ m c t).1 j + part m c t j := by
  refine (p4 _ _ _ _ _ j).trans (congrArg (· + part m c t j) ?_)
  rw [if_neg h]

/-- The sum in the last column. -/
theorem out_eq (t : Fin cfg0.N) (h : t.val % 8 = 7) (j : S1024x1024.Idx) : nextH m c t (at_ m c t) j = T m c (ix2 (row t (j 0)) (j 1)) := by
  refine (Pipeline.eq_sum_fin_of_reset_step_apply_of_flush (fun n h => (pre m c (n + 1) h).1) 8 (fun _ => (0 : EReal)) (part m c)
    (fun t h j => acc_A m c t h j)
    (fun t h j => (acc_B m c t h j).trans (congrArg (fun p : S Ideal => (p.1 j + part m c t j : EReal)) (aft_pred m c t (fun k => h (by rw [k])) _).symm)) t h j).trans ?_
  rw [zero_add]
  refine Eq.trans (Finset.sum_congr rfl fun s _ => ?_) (sum_col fun k => DA m c (ix2 (row t (j 0)) k) * A3 m c (ix2 (j 1) k))
  refine (part_eq m c _ s (by show (8 * (t.val / 8) + s.val) % 8 = s.val; omega) j).trans ?_
  refine Finset.sum_congr rfl fun q _ => congrArg (fun r => DA m c (ix2 r (col s q)) * _) (Fin.ext ?_)
  show 1024 * ((8 * (t.val / 8) + s.val) / 8) + (j 0).val = 1024 * (t.val / 8) + (j 0).val
  omega

theorem rr_eq (t : Fin cfg0.N) (i : Fin 1024) : rr (bx m c t) i = R m c (row t i) :=
  congrArg (fun z => Ideal.rsqrt (Ideal.div z _ + _)) (Finset.sum_congr rfl fun k _ => congrArg₂ (· * ·) (bx_eq m c t (ix2 i k)) (bx_eq m c t (ix2 i k)))

/-- One row tile's share of the gains' gradient. -/
def tile (s : ℕ) (j : Fin 1024) : EReal :=
  ∑ k : Fin 1024, if h : s < 8 then T m c (ix2 ⟨1024 * s + k.val, by omega⟩ j) * (A1 m c (ix2 ⟨1024 * s + k.val, by omega⟩ j) * R m c ⟨1024 * s + k.val, by omega⟩) else 0

theorem tile_eq (t : Fin cfg0.N) (h : t.val % 8 = 7) (j : S1x1024.Idx) :
    k0_pay9 (F := Ideal) (nextH m c t (at_ m c t)) (bx m c t) j = tile m c (t.val / 8) (j 1) := by
  refine (p9 _ _ j).trans (Finset.sum_congr rfl fun k _ => ?_)
  rw [dif_pos (show t.val / 8 < 8 by have := lt64 t; omega), rr_eq]
  refine congrArg₂ (· * ·) (out_eq m c t h (ix2 k (j 1))) (congrArg₂ (· * ·) (bx_eq m c t (ix2 k (j 1))) rfl)

/-- The gains' gradient after `n` points: the row tiles that are done. -/
theorem st_g (n : ℕ) (hn : n ≤ cfg0.N) (h8 : 8 ≤ n) (j : S1x1024.Idx) : (pre m c n hn).2.2 j = ∑ s ∈ Finset.range (n / 8), tile m c s (j 1) := by
  induction n with
  | zero => omega
  | succ n ih =>
    show nextG m c ⟨n, hn⟩ (at_ m c ⟨n, hn⟩) j = _
    by_cases h : n % 8 = 7
    · have e := tile_eq m c ⟨n, hn⟩ h j
      rw [show (n + 1) / 8 = n / 8 + 1 by omega, Finset.sum_range_succ]
      by_cases h' : n < 8
      · refine Eq.trans (congrFun ((if_pos h).trans (if_pos h')) j) (e.trans ?_)
        rw [show n / 8 = 0 by omega, Finset.sum_range_zero, zero_add]
      · refine Eq.trans (congrFun ((if_pos h).trans (if_neg h')) j) ((p5 _ _ j).trans (congrArg₂ (· + ·) (ih _ (by omega)) e))
    · refine Eq.trans (congrFun (if_neg h) j) ((ih _ (by omega)).trans ?_)
      rw [show (n + 1) / 8 = n / 8 by omega]

theorem g_all (j : S1x1024.Idx) : ∑ s ∈ Finset.range 8, tile m c s (j 1) = DG m c j := by
  rw [Finset.sum_range]
  refine Eq.trans (Finset.sum_congr rfl fun s _ => Finset.sum_congr rfl fun k _ => dif_pos s.isLt) ?_
  refine (Fin.sum_divmod_congr (N := 8192) (A := 8) (S := 1024) (f := fun s k => T m c (ix2 ⟨1024 * s.val + k.val, by omega⟩ (j 1)) * (A1 m c (ix2 ⟨1024 * s.val + k.val, by omega⟩ (j 1)) * R m c ⟨1024 * s.val + k.val, by omega⟩))
    (fun r h0 h1 => ?_) (by norm_num)).symm
  refine congrArg (fun i => T m c (ix2 i (j 1)) * (A1 m c (ix2 i (j 1)) * R m c i)) (Fin.ext ?_)
  show (r : ℕ) = 1024 * ((r : ℕ) / 1024) + (r : ℕ) % 1024
  omega

theorem x_eq (t : Fin cfg0.N) (h : t.val % 8 = 7) (j : S1024x1024.Idx) :
    k0_pay8 (F := Ideal) (nextH m c t (at_ m c t)) (bx m c t) (bg m c t) (by_ m c t) j = DX m c (ix2 (row t (j 0)) (j 1)) := by
  refine (p8 _ _ _ _ j).trans ?_
  have t_ (j : S1024x1024.Idx) := out_eq m c t h j
  have r_ : rr (bx m c t) (j 0) = R m c (row t (j 0)) := rr_eq m c t (j 0)
  refine congrArg₂ (· + ·) (by_eq m c t j) (congrArg₂ (· * ·) r_ (congrArg₂ (· - ·) (congrArg₂ (· * ·) (t_ j) (bg_eq m c t (j 1))) ?_))
  refine congrArg₂ (· * ·) (congrArg₂ (· * ·) (bx_eq m c t j) r_) (congrArg (Ideal.div · _) (Finset.sum_congr rfl fun k _ => ?_))
  exact congrArg₂ (· * ·) (congrArg₂ (· * ·) (t_ (ix2 (j 0) k)) (bg_eq m c t k)) (congrArg₂ (· * ·) (bx_eq m c t (ix2 (j 0) k)) r_)

theorem fin_x : (dats m 0 c).arrAt 6 cfg0.N = (DX m c : FVec Ideal S8192x1024 .f32) := by
  refine (dats m 0 c).arrAt_eq_of_covers 6 _ (by decide +kernel) fun t hf y => ?_
  blk_simp
  refine Eq.trans (b := k0_pay8 (F := Ideal) (nextH m c t (at_ m c t)) (bx m c t) (bg m c t) (by_ m c t) y) rfl ?_
  refine (x_eq m c t ((flush0_6 t).mp hf) y).trans ?_
  blk_ext [row, idx t]

theorem fin_a : (dats m 0 c).arrAt 7 cfg0.N = (DA m c : FVec Ideal S8192x4096 .bf16) := by
  refine (dats m 0 c).arrAt_eq_of_covers 7 _ (by decide +kernel) fun t hf y => ?_
  blk_simp
  have ht := lt64 t
  refine Eq.trans (b := k0_pay3 (F := Ideal) (nextY m c t (at_ m c t)) (bv m c t) (ba m c t) y) rfl ?_
  refine (d_eq m c t ⟨t.val % 8, by omega⟩ rfl y).trans ?_
  blk_ext [row, col, idx t]

theorem fin_g : (dats m 0 c).arrAt 8 cfg0.N = (DG m c : FVec Ideal S1x1024 .f32) := by
  refine (dats m 0 c).arrAt_eq_of_covers 8 _ (by decide +kernel) fun t hf y => ?_
  blk_simp
  have ht := lt64 t
  have h63 : t.val = 63 := by have := (flush0_8 t).mp hf; omega
  refine Eq.trans (b := (pre m c (t.val + 1) t.isLt).2.2 y) rfl ?_
  refine (st_g m c (t.val + 1) t.isLt (by omega) y).trans ?_
  rw [show (t.val + 1) / 8 = 8 by omega, g_all]
  blk_ext [idx t]

theorem fin_y : (dats m 0 c).arrAt 9 cfg0.N = (A0 m c : FVec Ideal S8192x1024 .bf16) := by
  refine (dats m 0 c).arrAt_eq_of_covers 9 _ (by decide +kernel) fun t hf y => ?_
  blk_simp
  refine Eq.trans (b := nextY m c t (at_ m c t) y) rfl ?_
  refine (y_eq m c t y).trans ?_
  blk_ext [row, idx t]

end Bwd

end
-- ==== Proof.BwdMath.lean ====
/- Laws of the extended reals that carry the two writings of the normalised rows' gradient into one another. -/
module

public import proofs.«01_k».proof.Proof.Spec
public import Idealize.ShloMosaic.Lib.Pipeline.ReadBack

@[expose] public section

noncomputable section

namespace Bwd

open Idealize.ShloMosaic

theorem c_1024 : Ideal.ofBits .f32 0x44800000#32 = ((1024 : ℝ) : EReal) := by
  simp [Ideal.ofBits, Ideal.ieee, -EReal.coe_mul]; norm_num

/-- The square of an extended real is not negative. -/
theorem sq_nonneg' (x : EReal) : 0 ≤ x * x := by
  induction x with
  | bot => simp
  | top => simp
  | coe r => exact_mod_cast mul_self_nonneg r

/-- The root's argument, a mean of squares plus a positive constant, is positive. -/
theorem ms_pos {n : ℕ} (x : Fin n → EReal) : 0 < Ideal.div (∑ k, x k * x k) (Ideal.ofBits .f32 0x44800000#32) + Ideal.ofBits .f32 0x358637BD#32 := by
  rw [c_1024, Mix.c_eps, Ideal.div_coe (by norm_num)]
  have h : (0 : EReal) ≤ (∑ k, x k * x k) * ((1 / 1024 : ℝ) : EReal) :=
    mul_nonneg (Finset.sum_nonneg fun k _ => sq_nonneg' (x k)) (by exact_mod_cast (by norm_num : (0 : ℝ) ≤ 1 / 1024))
  have e : (0 : EReal) < (Mix.eps : EReal) := by exact_mod_cast Mix.eps_pos
  exact lt_of_lt_of_le e (le_add_of_nonneg_left h)

/-- The inverse root of a positive value is a real, and divided by the value it is the real's cube. -/
theorem rsqrt_pos (v : EReal) (hv : 0 < v) : ∃ p : ℝ, 0 ≤ p ∧ Ideal.rsqrt v = (p : EReal) ∧ Ideal.div (Ideal.rsqrt v) v = ((p * p * p : ℝ) : EReal) := by
  induction v with
  | bot => exact absurd hv (by simp)
  | top => exact ⟨0, le_refl _, by simp, by simp [Ideal.div]⟩
  | coe r =>
    have h : 0 < r := by exact_mod_cast hv
    refine ⟨(Real.sqrt r)⁻¹, by positivity, Mix.rsqrt_real r h, ?_⟩
    rw [Mix.rsqrt_real r h, Mix.div_real _ _ h.ne']
    congr 1
    have e : Real.sqrt r * Real.sqrt r = r := Real.mul_self_sqrt h.le
    have s : 0 < Real.sqrt r := Real.sqrt_pos.mpr h
    field_simp
    nlinarith [e]

/-- A nonnegative real goes into a sum. -/
theorem mul_sum' {n : ℕ} (p : ℝ) (hp : 0 ≤ p) (f : Fin n → EReal) : ∑ k, f k * (p : EReal) = (∑ k, f k) * (p : EReal) := by
  have hp' : (0 : EReal) ≤ (p : EReal) := by exact_mod_cast hp
  induction n with
  | zero => simp
  | succ n ih =>
    rw [Fin.sum_univ_succ, Fin.sum_univ_succ, ih, EReal.right_distrib_of_nonneg_of_ne_top hp' (EReal.coe_ne_top p)]

theorem twice (w : EReal) (k : ℝ) : w * (k : EReal) + w * (k : EReal) = w * ((2 * k : ℝ) : EReal) := by
  induction w with
  | coe r => norm_cast; ring
  | top =>
    rcases lt_trichotomy k 0 with h | rfl | h
    · rw [EReal.top_mul_coe_of_neg h, EReal.top_mul_coe_of_neg (by linarith)]; rfl
    · simp
    · rw [EReal.top_mul_coe_of_pos h, EReal.top_mul_coe_of_pos (by linarith)]; rfl
  | bot =>
    rcases lt_trichotomy k 0 with h | rfl | h
    · rw [EReal.bot_mul_coe_of_neg h, EReal.bot_mul_coe_of_neg (by linarith)]; rfl
    · simp
    · rw [EReal.bot_mul_coe_of_pos h, EReal.bot_mul_coe_of_pos (by linarith)]; rfl

/-- The rows' gradient, written as the kernel computes it and as the reference's derivative does: `p` the row's inverse
    root, `q` the same over the root's argument, `t` the normalised rows' gradient after the gains. -/
theorem dx_eq {n : ℕ} (v : EReal) (hv : 0 < v) (y a t : EReal) (x u : Fin n → EReal) :
    y + Ideal.rsqrt v * (t - a * Ideal.rsqrt v * Ideal.div (∑ k, u k * (x k * Ideal.rsqrt v)) (Ideal.ofBits .f32 0x44800000#32))
      = ((y + t * Ideal.rsqrt v) + a * Ideal.div ((∑ k, x k * u k) * (Ideal.ofBits .f32 0xBF000000#32 * Ideal.div (Ideal.rsqrt v) v)) (Ideal.ofBits .f32 0x44800000#32))
        + Ideal.div ((∑ k, x k * u k) * (Ideal.ofBits .f32 0xBF000000#32 * Ideal.div (Ideal.rsqrt v) v)) (Ideal.ofBits .f32 0x44800000#32) * a := by
  obtain ⟨p, hp, e, e3⟩ := rsqrt_pos v hv
  have hp' : (0 : EReal) ≤ (p : EReal) := by exact_mod_cast hp
  rw [e3, e, c_1024, Mix.c_neghalf, Ideal.div_coe (by norm_num), Ideal.div_coe (by norm_num)]
  have hs : ∑ k, u k * (x k * (p : EReal)) = (∑ k, x k * u k) * (p : EReal) := by
    rw [← mul_sum' p hp]; exact Finset.sum_congr rfl fun k _ => by rw [← mul_assoc, mul_comm (u k)]
  rw [hs]
  generalize (∑ k, x k * u k) = s
  have hz : a * (s * (((-1 / 2 : ℝ) : EReal) * ((p * p * p : ℝ) : EReal)) * ((1 / 1024 : ℝ) : EReal)) = a * s * ((-1 / 2 * (p * p * p) * (1 / 1024) : ℝ) : EReal) := by
    rw [← EReal.coe_mul, mul_assoc s, ← EReal.coe_mul, ← mul_assoc a]
  rw [mul_comm _ a, hz, add_assoc (y + _), twice, add_assoc, sub_eq_add_neg, EReal.left_distrib_of_nonneg_of_ne_top hp' (EReal.coe_ne_top p), mul_comm t]
  refine congrArg (fun z => y + ((p : EReal) * t + z)) ?_
  rw [mul_neg, show (2 * (-1 / 2 * (p * p * p) * (1 / 1024)) : ℝ) = -(p * (p * (p * (1 / 1024)))) by ring, EReal.coe_neg, mul_neg]
  refine congrArg Neg.neg ?_
  rw [EReal.coe_mul, EReal.coe_mul, EReal.coe_mul]
  ac_rfl

/-- Where the hidden layer is not positive the factor is zero, so the reference's choice changes nothing. -/
theorem sel_eq (a d b : EReal) : Scalar.select (Ideal.cmp .ogt a 0) (d * (b * max a 0)) 0 = d * (b * max a 0) := by
  by_cases h : 0 < a
  · simp [Scalar.select, Ideal.cmp, h]
  · simp [Scalar.select, Ideal.cmp, h, max_eq_right (not_lt.mp h)]

end Bwd

end
-- ==== Proof.Backward.lean ====
/- The claims about the program for the channel mixer's backward call. -/
module

public import proofs.«01_k».proof.Defs
public import proofs.«01_k».proof.Proof.Gen.Kernel5.Launch
public import proofs.«01_k».proof.Proof.Bwd
public import proofs.«01_k».proof.Proof.BwdMath
public import Idealize.ShloMosaic.Adequacy

@[expose] public section

set_option maxRecDepth 16384

noncomputable section

open Idealize.ShloMosaic Idealize.ShloMosaic.TcCoe Idealize.SL.Sem

namespace Bwd

/-- The kernel and its idealization have the same body table at the formats' own values. -/
theorem defs_eq : Cert.Kernel5.defs (F := Bits) = Cert.Kernel5Ideal.defs (F := Bits) :=
  congrArg (Pipeline.defs Cert.Kernel5.pcfgs)
    (congrArg (@Defs.onTc Cert.Kernel5.nD Cert.Kernel5.τ Cert.Kernel5.sig (Elt Bits) Cert.Kernel5.Λ₀) (funext fun l => funext fun x => by
      match l, x with
      | 0, (t, s) => rfl
      | ⟨_ + 1, h⟩, _ => exact absurd h (Nat.not_lt.2 (Nat.le_add_left _ _))))

theorem frame_p : Cert.quiescent_Kernel5 := fun m ρ _ => by
  rw [defs_eq]
  exact (θ_run Cert.Kernel5Ideal.defs _ _).mono (fun r h => And.intro (fun c => kept m r h.1 c) h.2) (run_main (F := Bits) m ρ)
theorem frame_pi : Cert.quiescent_Kernel5Ideal := fun m ρ _ =>
  (θ_run Cert.Kernel5Ideal.defs _ _).mono (fun r h => ⟨fun c => kept m r h.1 c, h.2⟩) (run_main (F := Ideal) m ρ)
theorem frame_ri : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)
theorem preserves : Cert.preserves_Kernel5_Kernel5Ideal := trivial

variable (m : (ℓ : Loc Cert.Kernel5Ideal.nD Cert.Kernel5Ideal.τ Cert.Kernel5Ideal.sig) → Buf (Elt Ideal) ℓ) (c : Dev Cert.Kernel5Ideal.nD)

open Cert.Reference5Ideal Cert.Reference5Ideal.Read

/-- The reference's inverse roots and the factor its derivative takes from them. -/
theorem ref_ms (i : S8192x1.Idx) : val_main_v6 (F := Ideal) (A1 m c) i = ms m c (i 0) := by
  rw [val_main_v6_apply, val_main_v4_apply, val_main_v2_apply, val_main_v1_apply, val_main_v3_apply, val_main_v5_apply, val_main_cst_apply, val_main_cst_0_apply, val_main_cst_1_apply]
  refine congrArg (fun z => Ideal.div z _ + _) ?_
  refine (congrArg (· + _) Ideal.ofBits_zero_f32).trans ((zero_add _).trans (Finset.sum_congr rfl fun k _ => ?_))
  rw [val_main_v0_apply]
  exact congrArg (fun j => A1 m c j * A1 m c j) (funext fun a => by fin_cases a <;> rfl)
theorem ref_r (i : S8192x1.Idx) : val_main_v7 (F := Ideal) (A1 m c) i = R m c (i 0) :=
  congrArg Ideal.rsqrt (ref_ms m c i)
theorem ref_q (i : S8192x1.Idx) : val_main_v10 (F := Ideal) (A1 m c) i = Ideal.ofBits .f32 0xBF000000#32 * Ideal.div (R m c (i 0)) (ms m c (i 0)) := by
  rw [val_main_v10_apply, val_main_v8_apply, val_main_v9_apply, val_main_cst_2_apply]
  exact congrArg₂ (fun r v => _ * Ideal.div r v) (ref_r m c i) (ref_ms m c i)

/-- The derivative through the activation, once with the choice where the hidden layer is not positive, once without. -/
theorem choose (a d : EReal) : Scalar.select (Ideal.cmp .ogt a (Ideal.ofBits .f32 0#32)) (d * (Ideal.ofBits .f32 0x40000000#32 * max a (Ideal.ofBits .f32 0#32))) (Ideal.ofBits .f32 0#32)
    = d * (Ideal.ofBits .f32 0x40000000#32 * max a 0) := by
  rw [Ideal.ofBits_zero_f32]; exact sel_eq a d _

theorem ref_d (i : S8192x4096.Idx) : val_main_v30 (F := Ideal) (A0 m c) (A1 m c) (A2 m c) (A3 m c) (A4 m c) i = DA m c i := by
  rw [val_main_v30_apply, val_main_v19_apply, val_main_v28_apply, val_main_v23_apply, val_main_v17_apply, val_main_v22_apply, val_main_v18_apply, val_main_v29_apply,
    val_main_call0_v0_apply, val_main_call0_cst_apply, val_main_cst_3_apply, val_main_cst_5_apply, val_main_cst_6_apply, ref_a, val_main_v27_apply]
  refine (choose (A m c i) _).trans (congrArg (· * _) (Finset.sum_congr rfl fun k _ => congrArg₂ (· * ·) ?_ ?_))
  · rw [val_main_v26_apply]
    refine congrArg (A0 m c) (funext fun a => Fin.ext ?_)
    have h0 : (i 0).val < 8192 := (i 0).isLt
    have h1 : k.val < 1024 := k.isLt
    match a with
    | ⟨0, _⟩ => show ((i 0).val * 1024 + k.val) / 1024 = (i 0).val; omega
    | ⟨1, _⟩ => show ((i 0).val * 1024 + k.val) % 1024 = k.val; omega
  · exact congrArg (A4 m c) (funext fun a => by fin_cases a <;> rfl)

/-- The second writing of the hidden layer is the first. -/
theorem v66_eq (x1 : FVec Ideal S8192x1024 .f32) (x2 : FVec Ideal S1024 .f32) (x3 : FVec Ideal S1024x4096 .f32) :
    val_main_v66 (F := Ideal) x1 x2 x3 = val_main_v16 (F := Ideal) x1 x2 x3 := rfl

theorem ref_d' (i : S8192x4096.Idx) : val_main_v79 (F := Ideal) (A0 m c) (A1 m c) (A2 m c) (A3 m c) (A4 m c) i = DA m c i := by
  rw [val_main_v79_apply]
  refine Eq.trans (b := val_main_v78 (F := Ideal) (A0 m c) (A1 m c) (A2 m c) (A3 m c) (A4 m c) i) rfl ?_
  rw [val_main_v78_apply, val_main_v69_apply, val_main_v76_apply, val_main_v73_apply, val_main_v67_apply, val_main_v72_apply, val_main_v68_apply, val_main_v77_apply,
    val_main_call1_v0_apply, val_main_call1_cst_apply, val_main_cst_15_apply, val_main_cst_17_apply, val_main_cst_18_apply, v66_eq, ref_a, val_main_v75_apply]
  refine (choose (A m c i) _).trans (congrArg (· * _) (Finset.sum_congr rfl fun k _ => congrArg₂ (· * ·) ?_ ?_))
  · exact congrArg (A0 m c) (funext fun a => by fin_cases a <;> rfl)
  · exact congrArg (A4 m c) (funext fun a => by fin_cases a <;> rfl)

theorem ref_t (i : S8192x1024.Idx) : val_main_v31 (F := Ideal) (A0 m c) (A1 m c) (A2 m c) (A3 m c) (A4 m c) i = T m c i := by
  rw [val_main_v31_apply]
  refine Finset.sum_congr rfl fun k _ => congrArg₂ (· * ·) ((ref_d m c _).trans ?_) ?_
  · exact congrArg (DA m c) (funext fun a => by fin_cases a <;> rfl)
  · exact congrArg (A3 m c) (funext fun a => by fin_cases a <;> rfl)

theorem ref_g (i : S1x1024.Idx) : val_main_v80 (F := Ideal) (A0 m c) (A1 m c) (A2 m c) (A3 m c) (A4 m c) i = DG m c i := by
  rw [val_main_v80_apply, val_main_v37_apply, val_main_cst_8_apply, Fin.sum_univ_one, val_main_v34_apply, val_main_v33_apply, val_main_cst_7_apply]
  refine (congrArg₂ (· + ·) Ideal.ofBits_zero_f32 (congrArg (· + _) Ideal.ofBits_zero_f32)).trans ((zero_add _).trans ((zero_add _).trans (Finset.sum_congr rfl fun k _ => ?_)))
  rw [val_main_v32_apply, val_main_v12_apply, val_main_v11_apply, ref_t, ref_r]
  refine (mul_comm _ _).trans (congrArg₂ (fun j r => T m c j * (A1 m c j * R m c r)) (funext fun a => Fin.ext ?_) rfl)
  match a with
  | ⟨0, _⟩ => rfl
  | ⟨1, _⟩ => show 0 * 1024 + (i 1).val = (i 1).val; omega

/-- The normalised rows' gradient after the gains, and its sum against the rows. -/
theorem ref_u (i : S8192x1024.Idx) : val_main_v36 (F := Ideal) (A0 m c) (A1 m c) (A2 m c) (A3 m c) (A4 m c) i = T m c i * A2 m c (ix1 (i 1)) := by
  rw [val_main_v36_apply, val_main_v35_apply, val_main_v13_apply, ref_t]
  exact congrArg (fun j => T m c i * A2 m c j) (funext fun a => by fin_cases a <;> rfl)
theorem ref_c (i : S8192x1024.Idx) : val_main_v48 (F := Ideal) (A0 m c) (A1 m c) (A2 m c) (A3 m c) (A4 m c) i
    = Ideal.div ((∑ k : Fin 1024, A1 m c (ix2 (i 0) k) * (T m c (ix2 (i 0) k) * A2 m c (ix1 k))) * (Ideal.ofBits .f32 0xBF000000#32 * Ideal.div (R m c (i 0)) (ms m c (i 0))))
        (Ideal.ofBits .f32 0x44800000#32) := by
  rw [val_main_v48_apply, val_main_v47_apply, val_main_cst_11_apply, Fin.sum_univ_one, val_main_v46_apply, val_main_v45_apply, val_main_cst_10_apply, val_main_v44_apply, val_main_v40_apply,
    val_main_v39_apply, val_main_cst_9_apply, ref_q]
  refine (congrArg (· + _) Ideal.ofBits_zero_f32).trans ((zero_add _).trans (congrArg (fun s => Ideal.div (s * _) _) ?_))
  refine (congrArg (· + _) Ideal.ofBits_zero_f32).trans ((zero_add _).trans (Finset.sum_congr rfl fun k _ => ?_))
  rw [val_main_v38_apply, ref_u]
  refine congrArg (fun j : S8192x1024.Idx => A1 m c j * (T m c j * A2 m c (ix1 (j 1)))) (funext fun a => Fin.ext ?_)
  match a with
  | ⟨0, _⟩ => show (i 0).val * 1 + 0 = (i 0).val; omega
  | ⟨1, _⟩ => rfl

theorem ref_x (i : S8192x1024.Idx) : val_main_v52 (F := Ideal) (A0 m c) (A1 m c) (A2 m c) (A3 m c) (A4 m c) i = DX m c i := by
  rw [val_main_v52_apply, val_main_v50_apply, val_main_v51_apply, val_main_v49_apply, val_main_v43_apply, val_main_v42_apply, val_main_v41_apply, ref_c, ref_u, ref_r]
  exact (dx_eq (ms m c (i 0)) (ms_pos fun k => A1 m c (ix2 (i 0) k)) (A0 m c i) (A1 m c i) (T m c i * A2 m c (ix1 (i 1)))
    (fun k => A1 m c (ix2 (i 0) k)) (fun k => T m c (ix2 (i 0) k) * A2 m c (ix1 k))).symm

theorem algebraic : Cert.algebraic_Kernel5Ideal_Reference5Ideal := by
  intro m ρ m' ρ' _ hag
  refine ⟨fun c => DX m c, fun c => DA m c, fun c => DG m c, fun c => A0 m c,
    (θ_run Cert.Kernel5Ideal.defs _ _).mono (fun r h c => ⟨((h.1 c).1 6).trans (fin_x m c), ((h.1 c).1 7).trans (fin_a m c), ((h.1 c).1 8).trans (fin_g m c),
      ((h.1 c).1 9).trans (fin_y m c), kept m r h.1 c⟩) (run_main (F := Ideal) m ρ), ?_⟩
  refine (θ_run Cert.Reference5Ideal.defs _ _).mono (fun r h c => ?_) (Cert.Reference5Ideal.Value.run (F := Ideal) m' ρ')
  obtain ⟨g0, g1, g2, g3, g4⟩ := hag c
  refine ⟨(h c).1.trans ((val_main_v52_eq m' c).trans ?_), (h c).2.1.trans ((val_main_v79_eq _ _ _ _ _).trans ?_), (h c).2.2.1.trans ((val_main_v80_eq _ _ _ _ _).trans ?_),
    (h c).2.2.2.1.trans ((val_main_v81_eq _).trans ?_), (h c).2.2.2.2⟩
  · rw [g0, g1, g2, g3, g4]; exact funext fun i => ref_x m c i
  · rw [g0, g1, g2, g3, g4]; exact funext fun i => ref_d' m c i
  · rw [g0, g1, g2, g3, g4]; exact funext fun i => ref_g m c i
  · rw [g0]; exact funext fun i => rfl

end Bwd

end
-- ==== Proof.Outproj.lean ====
/- The output projection of a mixer: the product with the residual, and its backward call. -/
module

public import proofs.«01_k».proof.Defs
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Runs
public import Idealize.ShloMosaic.Lib.Pipeline.ReadBack
public import Idealize.ShloMosaic.Adequacy

@[expose] public section

set_option maxRecDepth 16384

noncomputable section

open Idealize.ShloMosaic Idealize.ShloMosaic.TcCoe Idealize.SL.Sem

namespace OutF

section
open Cert.Kernel6Ideal Cert.Kernel6Ideal.Gen
variable (m : (ℓ : Loc nD τ sig) → Buf (Elt Ideal) ℓ) (c : Dev nD)

/-- The three arguments: the rows, the mixer's result, the weights. -/
abbrev A0 : FVec Ideal S8192x1024 .f32 := m ((c : Thread nD τ).loc main_arg0)
abbrev A1 : FVec Ideal S8192x1024 .bf16 := m ((c : Thread nD τ).loc main_arg1)
abbrev A2 : FVec Ideal S1024x1024 .f32 := m ((c : Thread nD τ).loc main_arg2)

/-- The result. -/
def O (i : S8192x1024.Idx) : EReal := A0 m c i + ∑ k : Fin 1024, A1 m c (ix2 (i 0) k) * A2 m c (ix2 k (i 1))

theorem p1 (x : FVec Ideal S1024x1024 .f32) (y w : FVec Ideal S1024x1024 .bf16) (j : S1024x1024.Idx) :
    k0_pay1 (F := Ideal) x y w j = x j + ∑ k : Fin 1024, y (ix2 (j 0) k) * w (ix2 k (j 1)) := by
  pointwise [k0_pay1]

theorem w_eq : (V m c main_v0 : FVec Ideal S1024x1024 .bf16) = A2 m c := by
  unfold V hostOps0
  after_results
  rfl

theorem idx : ∀ t : Fin cfg0.N, win0_0.index t = ![t.val, 0] ∧ win0_1.index t = ![t.val, 0] ∧ win0_2.index t = ![0, 0] ∧ win0_3.index t = ![t.val, 0] ∧ t.val < 8 :=
  (by decide +kernel : ∀ t : Fin grid0.N, _)

/-- Row `i` of the rows that point `t` works on. -/
def row (t : Fin cfg0.N) (i : Fin 1024) : Fin 8192 := ⟨1024 * t.val + i.val, by have := (idx t).2.2.2.2; omega⟩

theorem x_eq (t : Fin cfg0.N) (j : S1024x1024.Idx) : (iblk m c 0 t : FVec Ideal S1024x1024 .f32) j = A0 m c (ix2 (row t (j 0)) (j 1)) := by
  refine Eq.trans (b := ((cfg0.win 0).blk t).view.read (Elt Ideal) (A0 m c) j) (congrArg (fun f => ((cfg0.win 0).blk t).view.read (Elt Ideal) f j) (V_main_arg0 m c)) ?_
  blk_ext [row, idx t]
theorem y_eq (t : Fin cfg0.N) (j : S1024x1024.Idx) : (iblk m c 1 t : FVec Ideal S1024x1024 .bf16) j = A1 m c (ix2 (row t (j 0)) (j 1)) := by
  refine Eq.trans (b := ((cfg0.win 1).blk t).view.read (Elt Ideal) (A1 m c) j) (congrArg (fun f => ((cfg0.win 1).blk t).view.read (Elt Ideal) f j) (V_main_arg1 m c)) ?_
  blk_ext [row, idx t]
theorem bw_eq (t : Fin cfg0.N) (j : S1024x1024.Idx) : (iblk m c 2 t : FVec Ideal S1024x1024 .bf16) j = A2 m c j := by
  refine Eq.trans (b := ((cfg0.win 2).blk t).view.read (Elt Ideal) (A2 m c) j) (congrArg (fun f => ((cfg0.win 2).blk t).view.read (Elt Ideal) f j) (w_eq m c)) ?_
  blk_ext [idx t]

theorem fin_o : (dats m 0 c).arrAt 3 cfg0.N = (O m c : FVec Ideal S8192x1024 .f32) := by
  refine (dats m 0 c).arrAt_eq_of_covers 3 _ (by decide +kernel) fun t hf y => ?_
  blk_simp
  rw [after0_3]
  frame_out
  refine Eq.trans (b := k0_pay1 (F := Ideal) (iblk m c 0 t) (iblk m c 1 t) (iblk m c 2 t) y) (by sl_kernel_rfl) ?_
  refine (p1 _ _ _ y).trans ?_
  refine Eq.trans (b := O m c (ix2 (row t (y 0)) (y 1))) ?_ ?_
  · exact congrArg₂ (· + ·) (x_eq m c t y) (Finset.sum_congr rfl fun k _ => congrArg₂ (· * ·) (y_eq m c t (ix2 (y 0) k)) (bw_eq m c t (ix2 k (y 1))))
  · blk_ext [row, idx t]
end

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem preserves : Cert.preserves_Kernel6_Kernel6Ideal := trivial

theorem algebraic : Cert.algebraic_Kernel6Ideal_Reference6Ideal := by
  intro m ρ m' ρ' _ hag
  refine ⟨fun c => (Cert.Kernel6Ideal.Gen.dats m 0 c).arrAt 3 Cert.Kernel6Ideal.cfg0.N, Cert.Kernel6Ideal.Value.run_blocks m ρ, ?_⟩
  refine (θ_run Cert.Reference6Ideal.defs _ _).mono (fun r h c => ⟨(h c).1.trans ?_, (h c).2⟩) (Cert.Reference6Ideal.Value.run m' ρ')
  obtain ⟨g0, g1, g2⟩ := hag c
  refine (Cert.Reference6Ideal.Read.val_main_v2_eq _ _ _).trans ?_
  rw [g0, g1, g2]
  refine Eq.trans (funext fun i => ?_) (fin_o m c).symm
  rw [Cert.Reference6Ideal.Read.val_main_v2_apply, Cert.Reference6Ideal.Read.val_main_v1_apply]
  refine congrArg (A0 m c i + ·) (Finset.sum_congr rfl fun k _ => congrArg₂ (· * ·) ?_ ?_)
  · exact congrArg (A1 m c) (funext fun a => by fin_cases a <;> rfl)
  · exact congrArg (A2 m c) (funext fun a => by fin_cases a <;> rfl)

end OutF

namespace OutB

section
open Cert.Kernel7Ideal Cert.Kernel7Ideal.Gen
variable (m : (ℓ : Loc nD τ sig) → Buf (Elt Ideal) ℓ) (c : Dev nD)

/-- The two arguments: the result's gradient and the weights. -/
abbrev A0 : FVec Ideal S8192x1024 .f32 := m ((c : Thread nD τ).loc main_arg0)
abbrev A1 : FVec Ideal S1024x1024 .f32 := m ((c : Thread nD τ).loc main_arg1)

/-- The gradient of the mixer's result. -/
def O (i : S8192x1024.Idx) : EReal := ∑ k : Fin 1024, A0 m c (ix2 (i 0) k) * A1 m c (ix2 (i 1) k)

theorem p1 (x : FVec Ideal S1024x1024 .f32) (w : FVec Ideal S1024x1024 .bf16) (j : S1024x1024.Idx) :
    k0_pay1 (F := Ideal) x w j = ∑ k : Fin 1024, x (ix2 (j 0) k) * w (ix2 (j 1) k) := by
  pointwise [k0_pay1]

theorem w_eq : (V m c main_v0 : FVec Ideal S1024x1024 .bf16) = A1 m c := by
  unfold V hostOps0
  after_results
  rfl

theorem idx : ∀ t : Fin cfg0.N, win0_0.index t = ![t.val, 0] ∧ win0_1.index t = ![0, 0] ∧ win0_2.index t = ![t.val, 0] ∧ t.val < 8 :=
  (by decide +kernel : ∀ t : Fin grid0.N, _)

/-- Row `i` of the rows that point `t` works on. -/
def row (t : Fin cfg0.N) (i : Fin 1024) : Fin 8192 := ⟨1024 * t.val + i.val, by have := (idx t).2.2.2; omega⟩

theorem x_eq (t : Fin cfg0.N) (j : S1024x1024.Idx) : (iblk m c 0 t : FVec Ideal S1024x1024 .f32) j = A0 m c (ix2 (row t (j 0)) (j 1)) := by
  refine Eq.trans (b := ((cfg0.win 0).blk t).view.read (Elt Ideal) (A0 m c) j) (congrArg (fun f => ((cfg0.win 0).blk t).view.read (Elt Ideal) f j) (V_main_arg0 m c)) ?_
  blk_ext [row, idx t]
theorem bw_eq (t : Fin cfg0.N) (j : S1024x1024.Idx) : (iblk m c 1 t : FVec Ideal S1024x1024 .bf16) j = A1 m c j := by
  refine Eq.trans (b := ((cfg0.win 1).blk t).view.read (Elt Ideal) (A1 m c) j) (congrArg (fun f => ((cfg0.win 1).blk t).view.read (Elt Ideal) f j) (w_eq m c)) ?_
  blk_ext [idx t]

theorem fin_o : (dats m 0 c).arrAt 2 cfg0.N = (O m c : FVec Ideal S8192x1024 .f32) := by
  refine (dats m 0 c).arrAt_eq_of_covers 2 _ (by decide +kernel) fun t hf y => ?_
  blk_simp
  rw [after0_2]
  frame_out
  refine Eq.trans (b := k0_pay1 (F := Ideal) (iblk m c 0 t) (iblk m c 1 t) y) (by sl_kernel_rfl) ?_
  refine (p1 _ _ y).trans ?_
  refine Eq.trans (b := O m c (ix2 (row t (y 0)) (y 1))) ?_ ?_
  · exact Finset.sum_congr rfl fun k _ => congrArg₂ (· * ·) (x_eq m c t (ix2 (y 0) k)) (bw_eq m c t (ix2 (y 1) k))
  · blk_ext [row, idx t]
end

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)
theorem preserves : Cert.preserves_Kernel7_Kernel7Ideal := trivial

theorem algebraic : Cert.algebraic_Kernel7Ideal_Reference7Ideal := by
  intro m ρ m' ρ' _ hag
  refine ⟨fun c => (Cert.Kernel7Ideal.Gen.dats m 0 c).arrAt 2 Cert.Kernel7Ideal.cfg0.N, Cert.Kernel7Ideal.Value.run_blocks m ρ, ?_⟩
  refine (θ_run Cert.Reference7Ideal.defs _ _).mono (fun r h c => ⟨(h c).1.trans ?_, (h c).2⟩) (Cert.Reference7Ideal.Value.run m' ρ')
  obtain ⟨g0, g1⟩ := hag c
  refine (Cert.Reference7Ideal.Read.val_main_v2_eq _ _).trans ?_
  rw [g0, g1]
  refine Eq.trans (funext fun i => ?_) (fin_o m c).symm
  rw [Cert.Reference7Ideal.Read.val_main_v2_apply]
  refine Finset.sum_congr rfl fun k _ => congrArg₂ (· * ·) ?_ ?_
  · exact congrArg (A0 m c) (funext fun a => by fin_cases a <;> rfl)
  · exact congrArg (A1 m c) (funext fun a => by fin_cases a <;> rfl)

end OutB

end
-- ==== Proof.InBack.lean ====
/- The backward call of attention's input projection with its RMS norm. -/
module

public import proofs.«01_k».proof.Defs
public import proofs.«01_k».proof.Proof.Gen.Kernel8.Frame
public import proofs.«01_k».proof.Proof.Gen.Kernel8Ideal.Value
public import proofs.«01_k».proof.Proof.Gen.Reference8Ideal.Read
public import proofs.«01_k».proof.Proof.Runs
public import proofs.«01_k».proof.Proof.BwdMath
public import Idealize.ShloMosaic.Lib.Pipeline.ReadBack
public import Idealize.ShloMosaic.Adequacy

@[expose] public section

set_option maxRecDepth 16384

noncomputable section

open Idealize.ShloMosaic Idealize.ShloMosaic.TcCoe Idealize.SL.Sem

namespace InB

section
open Cert.Kernel8Ideal Cert.Kernel8Ideal.Gen
variable (m : (ℓ : Loc nD τ sig) → Buf (Elt Ideal) ℓ) (c : Dev nD)

/-- The five arguments: the projection's gradient, the weights, the rows, the gains, the residual's gradient. -/
abbrev A0 : FVec Ideal S8192x3072 .bf16 := m ((c : Thread nD τ).loc main_arg0)
abbrev A1 : FVec Ideal S1024x3072 .f32 := m ((c : Thread nD τ).loc main_arg1)
abbrev A2 : FVec Ideal S8192x1024 .f32 := m ((c : Thread nD τ).loc main_arg2)
abbrev A3 : FVec Ideal S1024 .f32 := m ((c : Thread nD τ).loc main_arg3)
abbrev A4 : FVec Ideal S8192x1024 .f32 := m ((c : Thread nD τ).loc main_arg4)

/-- The mean square of a row plus the small constant, and its inverse root. -/
def ms (i : Fin 8192) : EReal :=
  Ideal.div (∑ k : Fin 1024, A2 m c (ix2 i k) * A2 m c (ix2 i k)) (Ideal.ofBits .f32 1149239296#32) + Ideal.ofBits .f32 897988541#32
def R (i : Fin 8192) : EReal := Ideal.rsqrt (ms m c i)

/-- The normalised rows' gradient, the gains' gradient and the rows' gradient. -/
def T (i : S8192x1024.Idx) : EReal := ∑ q : Fin 3072, A0 m c (ix2 (i 0) q) * A1 m c (ix2 (i 1) q)
def DG (i : S1x1024.Idx) : EReal := ∑ k : Fin 8192, T m c (ix2 k (i 1)) * (A2 m c (ix2 k (i 1)) * R m c k)
def DX (i : S8192x1024.Idx) : EReal :=
  A4 m c i + R m c (i 0) * (T m c i * A3 m c (ix1 (i 1))
    - A2 m c i * R m c (i 0) * Ideal.div (∑ k : Fin 1024, T m c (ix2 (i 0) k) * A3 m c (ix1 k) * (A2 m c (ix2 (i 0) k) * R m c (i 0))) (Ideal.ofBits .f32 1149239296#32))

/-- The inverse root of a block's row. -/
def rr (x : FVec Ideal S512x1024 .f32) (i : Fin 512) : EReal :=
  Ideal.rsqrt (Ideal.div (∑ k : Fin 1024, x (ix2 i k) * x (ix2 i k)) (Ideal.ofBits .f32 1149239296#32) + Ideal.ofBits .f32 897988541#32)

theorem p1 (a b : FVec Ideal S1x1024 .f32) (j : S1x1024.Idx) : k0_pay1 (F := Ideal) a b j = (b j + a j : EReal) := by
  pointwise [k0_pay1]
theorem p2 (d : FVec Ideal S512x3072 .bf16) (w : FVec Ideal S1024x3072 .bf16) (j : S512x1024.Idx) :
    k0_pay2 (F := Ideal) d w j = ∑ q : Fin 3072, d (ix2 (j 0) q) * w (ix2 (j 1) q) := by
  pointwise [k0_pay2]
theorem p3 (x : FVec Ideal S512x1024 .f32) (j : S512x1.Idx) : k0_pay3 (F := Ideal) x j = rr x (j 0) := by
  pointwise [k0_pay3, rr]
theorem p4 (x : FVec Ideal S512x1024 .f32) (j : S512x1024.Idx) : k0_pay4 (F := Ideal) x j = x j * rr x (j 0) := by
  pointwise [k0_pay4, p3]
theorem p5 (d : FVec Ideal S512x3072 .bf16) (w : FVec Ideal S1024x3072 .bf16) (x y : FVec Ideal S512x1024 .f32) (g : FVec Ideal S1x1024 .f32) (j : S512x1024.Idx) :
    k0_pay5 (F := Ideal) d w x g y j = y j + rr x (j 0) * ((k0_pay2 (F := Ideal) d w j : EReal) * g (ix2 0 (j 1))
      - x j * rr x (j 0) * Ideal.div (∑ k : Fin 1024, (k0_pay2 (F := Ideal) d w (ix2 (j 0) k) : EReal) * g (ix2 0 k) * (x (ix2 (j 0) k) * rr x (j 0))) (Ideal.ofBits .f32 1149239296#32)) := by
  pointwise [k0_pay5, p3, p4]
theorem p6 (d : FVec Ideal S512x3072 .bf16) (w : FVec Ideal S1024x3072 .bf16) (x : FVec Ideal S512x1024 .f32) (j : S1x1024.Idx) :
    k0_pay6 (F := Ideal) d w x j = ∑ k : Fin 512, (k0_pay2 (F := Ideal) d w (ix2 k (j 1)) : EReal) * (x (ix2 k (j 1)) * rr x k) := by
  pointwise [k0_pay6, p4]

theorem w_eq : (V m c main_v0 : FVec Ideal S1024x3072 .bf16) = A1 m c := by
  unfold V hostOps0
  after_results
  rfl
theorem g_eq (i : S1x1024.Idx) : (V m c main_v1 : FVec Ideal S1x1024 .f32) i = A3 m c (ix1 (i 1)) := by
  unfold V hostOps0
  after_results
  exact congrArg (A3 m c) (funext fun a => by fin_cases a <;> rfl)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ t.val < 16 :=
  (by decide +kernel : ∀ t : Fin grid0.N, _)

theorem lt16 (t : Fin cfg0.N) : t.val < 16 := (idx t).2.2.2.2.2.2.2

/-- Row `i` of the rows that point `t` works on. -/
def row (t : Fin cfg0.N) (i : Fin 512) : Fin 8192 := ⟨512 * t.val + i.val, by have := lt16 t; omega⟩

/-- The blocks a point reads. -/
abbrev bd (t : Fin cfg0.N) : FVec Ideal S512x3072 .bf16 := iblk m c 0 t
abbrev bw (t : Fin cfg0.N) : FVec Ideal S1024x3072 .bf16 := iblk m c 1 t
abbrev bx (t : Fin cfg0.N) : FVec Ideal S512x1024 .f32 := iblk m c 2 t
abbrev bg (t : Fin cfg0.N) : FVec Ideal S1x1024 .f32 := iblk m c 3 t
abbrev by_ (t : Fin cfg0.N) : FVec Ideal S512x1024 .f32 := iblk m c 4 t

theorem bd_eq (t : Fin cfg0.N) (j : S512x3072.Idx) : bd m c t j = A0 m c (ix2 (row t (j 0)) (j 1)) := by
  refine Eq.trans (b := ((cfg0.win 0).blk t).view.read (Elt Ideal) (A0 m c) j) (congrArg (fun f => ((cfg0.win 0).blk t).view.read (Elt Ideal) f j) (V_main_arg0 m c)) ?_
  blk_ext [row, idx t]
theorem bw_eq (t : Fin cfg0.N) (j : S1024x3072.Idx) : bw m c t j = A1 m c j := by
  refine Eq.trans (b := ((cfg0.win 1).blk t).view.read (Elt Ideal) (A1 m c) j) (congrArg (fun f => ((cfg0.win 1).blk t).view.read (Elt Ideal) f j) (w_eq m c)) ?_
  blk_ext [idx t]
theorem bx_eq (t : Fin cfg0.N) (j : S512x1024.Idx) : bx m c t j = A2 m c (ix2 (row t (j 0)) (j 1)) := by
  refine Eq.trans (b := ((cfg0.win 2).blk t).view.read (Elt Ideal) (A2 m c) j) (congrArg (fun f => ((cfg0.win 2).blk t).view.read (Elt Ideal) f j) (V_main_arg2 m c)) ?_
  blk_ext [row, idx t]
theorem bg_eq (t : Fin cfg0.N) (j : Fin 1024) : bg m c t (ix2 0 j) = A3 m c (ix1 j) := by
  refine Eq.trans (b := (V m c main_v1 : FVec Ideal S1x1024 .f32) (ix2 0 j)) ?_ (g_eq m c _)
  blk_ext [bg, iblk, idx t]
theorem by_eq (t : Fin cfg0.N) (j : S512x1024.Idx) : by_ m c t j = A4 m c (ix2 (row t (j 0)) (j 1)) := by
  refine Eq.trans (b := ((cfg0.win 4).blk t).view.read (Elt Ideal) (A4 m c) j) (congrArg (fun f => ((cfg0.win 4).blk t).view.read (Elt Ideal) f j) (V_main_arg4 m c)) ?_
  blk_ext [row, idx t]

theorem t_eq (t : Fin cfg0.N) (j : S512x1024.Idx) : k0_pay2 (F := Ideal) (bd m c t) (bw m c t) j = T m c (ix2 (row t (j 0)) (j 1)) :=
  (p2 _ _ j).trans (Finset.sum_congr rfl fun q _ => congrArg₂ (· * ·) (bd_eq m c t (ix2 (j 0) q)) (bw_eq m c t (ix2 (j 1) q)))

theorem rr_eq (t : Fin cfg0.N) (i : Fin 512) : rr (bx m c t) i = R m c (row t i) :=
  congrArg (fun z => Ideal.rsqrt (Ideal.div z _ + _)) (Finset.sum_congr rfl fun k _ => congrArg₂ (· * ·) (bx_eq m c t (ix2 i k)) (bx_eq m c t (ix2 i k)))

theorem x_eq (t : Fin cfg0.N) (j : S512x1024.Idx) :
    k0_pay5 (F := Ideal) (bd m c t) (bw m c t) (bx m c t) (bg m c t) (by_ m c t) j = DX m c (ix2 (row t (j 0)) (j 1)) := by
  refine (p5 _ _ _ _ _ j).trans ?_
  have r_ : rr (bx m c t) (j 0) = R m c (row t (j 0)) := rr_eq m c t (j 0)
  refine congrArg₂ (· + ·) (by_eq m c t j) (congrArg₂ (· * ·) r_ (congrArg₂ (· - ·) (congrArg₂ (· * ·) (t_eq m c t j) (bg_eq m c t (j 1))) ?_))
  refine congrArg₂ (· * ·) (congrArg₂ (· * ·) (bx_eq m c t j) r_) (congrArg (Ideal.div · _) (Finset.sum_congr rfl fun k _ => ?_))
  exact congrArg₂ (· * ·) (congrArg₂ (· * ·) (t_eq m c t (ix2 (j 0) k)) (bg_eq m c t k)) (congrArg₂ (· * ·) (bx_eq m c t (ix2 (j 0) k)) r_)

/-- One point's share of the gains' gradient. -/
def tile (s : ℕ) (j : Fin 1024) : EReal :=
  ∑ k : Fin 512, if h : s < 16 then T m c (ix2 ⟨512 * s + k.val, by omega⟩ j) * (A2 m c (ix2 ⟨512 * s + k.val, by omega⟩ j) * R m c ⟨512 * s + k.val, by omega⟩) else 0

theorem tile_eq (t : Fin cfg0.N) (j : S1x1024.Idx) : k0_pay6 (F := Ideal) (bd m c t) (bw m c t) (bx m c t) j = tile m c t.val (j 1) := by
  refine (p6 _ _ _ j).trans (Finset.sum_congr rfl fun k _ => ?_)
  rw [dif_pos (lt16 t), rr_eq]
  exact congrArg₂ (· * ·) (t_eq m c t (ix2 k (j 1))) (congrArg₂ (· * ·) (bx_eq m c t (ix2 k (j 1))) rfl)

theorem g_all (j : S1x1024.Idx) : ∑ s ∈ Finset.range 16, tile m c s (j 1) = DG m c j := by
  rw [Finset.sum_range]
  refine Eq.trans (Finset.sum_congr rfl fun s _ => Finset.sum_congr rfl fun k _ => dif_pos s.isLt) ?_
  refine (Fin.sum_divmod_congr (N := 8192) (A := 16) (S := 512) (f := fun s k => T m c (ix2 ⟨512 * s.val + k.val, by omega⟩ (j 1)) * (A2 m c (ix2 ⟨512 * s.val + k.val, by omega⟩ (j 1)) * R m c ⟨512 * s.val + k.val, by omega⟩))
    (fun r h0 h1 => ?_) (by norm_num)).symm
  refine congrArg (fun i => T m c (ix2 i (j 1)) * (A2 m c (ix2 i (j 1)) * R m c i)) (Fin.ext ?_)
  show (r : ℕ) = 512 * ((r : ℕ) / 512) + (r : ℕ) % 512
  omega

/-- What a point leaves in the rows' gradient's block. -/
theorem out_x (t : Fin cfg0.N) (j : S512x1024.Idx) : (outsAt0 m c t.val t.isLt).1 j = DX m c (ix2 (row t (j 0)) (j 1)) := by
  have := lt16 t
  refine Eq.trans (b := k0_pay5 (F := Ideal) (bd m c t) (bw m c t) (bx m c t) (bg m c t) (by_ m c t) j) ?_ (x_eq m c t j)
  by_cases h : t.val % 16 = 0
  · rw [outsAt0_A m c t h (by omega)]
    frame_open
    frame_out
  · rw [outsAt0_B m c t h (by omega)]
    frame_open
    frame_out

abbrev before (t : Fin cfg0.N) := outsAt0 m c (t.val - 1) (lt_of_le_of_lt (Nat.sub_le _ _) t.isLt)

theorem acc_A (t : Fin cfg0.N) (h : t.val % 16 = 0) (j : S1x1024.Idx) : (outsAt0 m c t.val t.isLt).2 j = tile m c t.val (j 1) := by
  have := lt16 t
  rw [outsAt0_A m c t h (by omega)]
  frame_open
  frame_out
  exact Eq.trans (b := k0_pay6 (F := Ideal) (bd m c t) (bw m c t) (bx m c t) j) (by sl_kernel_rfl) (tile_eq m c t j)
theorem acc_B (t : Fin cfg0.N) (h : ¬ t.val % 16 = 0) (j : S1x1024.Idx) : (outsAt0 m c t.val t.isLt).2 j = ((before m c t).2 j + tile m c t.val (j 1) : EReal) := by
  rw [outsAt0_B m c t h (by omega)]
  frame_open
  frame_out
  refine Eq.trans (b := k0_pay1 (F := Ideal) (k0_pay6 (F := Ideal) (bd m c t) (bw m c t) (bx m c t)) (before m c t).2 j) rfl ?_
  exact (p1 _ _ j).trans (congrArg₂ (· + ·) rfl (tile_eq m c t j))

/-- The gains' gradient after point `n`. -/
theorem st_g (n : ℕ) (hn : n < cfg0.N) (j : S1x1024.Idx) : (outsAt0 m c n hn).2 j = ∑ s ∈ Finset.range (n + 1), tile m c s (j 1) := by
  induction n with
  | zero => rw [Finset.sum_range_succ, Finset.sum_range_zero, zero_add]; exact acc_A m c ⟨0, hn⟩ rfl j
  | succ n ih =>
    have := lt16 ⟨n + 1, hn⟩
    rw [Finset.sum_range_succ]
    refine (acc_B m c ⟨n + 1, hn⟩ (by show ¬ (n + 1) % 16 = 0; simp only at this; omega) j).trans (congrArg (· + tile m c (n + 1) (j 1)) ?_)
    exact ih _

theorem fin_x : (dats m 0 c).arrAt 5 cfg0.N = (DX m c : FVec Ideal S8192x1024 .f32) := by
  refine (dats m 0 c).arrAt_eq_of_covers 5 _ (by decide +kernel) fun t hf y => ?_
  blk_simp
  rw [after0_5]
  refine (out_x m c t y).trans ?_
  blk_ext [row, idx t]

theorem fin_g : (dats m 0 c).arrAt 6 cfg0.N = (DG m c : FVec Ideal S1x1024 .f32) := by
  refine (dats m 0 c).arrAt_eq_of_covers 6 _ (by decide +kernel) fun t hf y => ?_
  blk_simp
  rw [after0_6]
  have ht := lt16 t
  have h15 : t.val = 15 := by have := (flush0_6 t).mp hf; omega
  refine (st_g m c t.val t.isLt y).trans ?_
  rw [show t.val + 1 = 16 by omega, g_all]
  blk_ext [idx t]
end

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)
theorem preserves : Cert.preserves_Kernel8_Kernel8Ideal := trivial

variable (m : (ℓ : Loc Cert.Kernel8Ideal.nD Cert.Kernel8Ideal.τ Cert.Kernel8Ideal.sig) → Buf (Elt Ideal) ℓ) (c : Dev Cert.Kernel8Ideal.nD)

open Cert.Reference8Ideal Cert.Reference8Ideal.Read

/-- The reference's inverse roots and the factor its derivative takes from them. -/
theorem ref_ms (i : S8192x1.Idx) : val_main_v6 (F := Ideal) (A2 m c) i = ms m c (i 0) := by
  rw [val_main_v6_apply, val_main_v4_apply, val_main_v2_apply, val_main_v1_apply, val_main_v3_apply, val_main_v5_apply, val_main_cst_apply, val_main_cst_0_apply, val_main_cst_1_apply]
  refine congrArg (fun z => Ideal.div z _ + _) ?_
  refine (congrArg (· + _) Ideal.ofBits_zero_f32).trans ((zero_add _).trans (Finset.sum_congr rfl fun k _ => ?_))
  rw [val_main_v0_apply]
  exact congrArg (fun j => A2 m c j * A2 m c j) (funext fun a => by fin_cases a <;> rfl)
theorem ref_r (i : S8192x1.Idx) : val_main_v7 (F := Ideal) (A2 m c) i = R m c (i 0) :=
  congrArg Ideal.rsqrt (ref_ms m c i)
theorem ref_q (i : S8192x1.Idx) : val_main_v10 (F := Ideal) (A2 m c) i = Ideal.ofBits .f32 0xBF000000#32 * Ideal.div (R m c (i 0)) (ms m c (i 0)) := by
  rw [val_main_v10_apply, val_main_v8_apply, val_main_v9_apply, val_main_cst_2_apply]
  exact congrArg₂ (fun r v => _ * Ideal.div r v) (ref_r m c i) (ref_ms m c i)

theorem ref_t (i : S8192x1024.Idx) : val_main_v18 (F := Ideal) (A0 m c) (A1 m c) i = T m c i := by
  rw [val_main_v18_apply]
  refine Finset.sum_congr rfl fun k _ => congrArg₂ (· * ·) ?_ ?_
  · rw [val_main_v17_apply]
    exact congrArg (A0 m c) (funext fun a => by fin_cases a <;> rfl)
  · exact congrArg (A1 m c) (funext fun a => by fin_cases a <;> rfl)

theorem ref_g (i : S1x1024.Idx) : val_main_v40 (F := Ideal) (A0 m c) (A1 m c) (A2 m c) i = DG m c i := by
  rw [val_main_v40_apply, val_main_v24_apply, val_main_cst_4_apply, Fin.sum_univ_one, val_main_v21_apply, val_main_v20_apply, val_main_cst_3_apply]
  refine (congrArg₂ (· + ·) Ideal.ofBits_zero_f32 (congrArg (· + _) Ideal.ofBits_zero_f32)).trans ((zero_add _).trans ((zero_add _).trans (Finset.sum_congr rfl fun k _ => ?_)))
  rw [val_main_v19_apply, val_main_v12_apply, val_main_v11_apply, ref_t, ref_r]
  refine (mul_comm _ _).trans (congrArg₂ (fun j r => T m c j * (A2 m c j * R m c r)) (funext fun a => Fin.ext ?_) rfl)
  match a with
  | ⟨0, _⟩ => rfl
  | ⟨1, _⟩ => show 0 * 1024 + (i 1).val = (i 1).val; omega

/-- The normalised rows' gradient after the gains, and its sum against the rows. -/
theorem ref_u (i : S8192x1024.Idx) : val_main_v23 (F := Ideal) (A0 m c) (A1 m c) (A3 m c) i = T m c i * A3 m c (ix1 (i 1)) := by
  rw [val_main_v23_apply, val_main_v22_apply, val_main_v13_apply, ref_t]
  exact congrArg (fun j => T m c i * A3 m c j) (funext fun a => by fin_cases a <;> rfl)
theorem ref_c (i : S8192x1024.Idx) : val_main_v35 (F := Ideal) (A0 m c) (A1 m c) (A2 m c) (A3 m c) i
    = Ideal.div ((∑ k : Fin 1024, A2 m c (ix2 (i 0) k) * (T m c (ix2 (i 0) k) * A3 m c (ix1 k))) * (Ideal.ofBits .f32 0xBF000000#32 * Ideal.div (R m c (i 0)) (ms m c (i 0))))
        (Ideal.ofBits .f32 0x44800000#32) := by
  rw [val_main_v35_apply, val_main_v34_apply, val_main_cst_7_apply, Fin.sum_univ_one, val_main_v33_apply, val_main_v32_apply, val_main_cst_6_apply, val_main_v31_apply, val_main_v27_apply,
    val_main_v26_apply, val_main_cst_5_apply, ref_q]
  refine (congrArg (· + _) Ideal.ofBits_zero_f32).trans ((zero_add _).trans (congrArg (fun s => Ideal.div (s * _) _) ?_))
  refine (congrArg (· + _) Ideal.ofBits_zero_f32).trans ((zero_add _).trans (Finset.sum_congr rfl fun k _ => ?_))
  rw [val_main_v25_apply, ref_u]
  refine congrArg (fun j : S8192x1024.Idx => A2 m c j * (T m c j * A3 m c (ix1 (j 1)))) (funext fun a => Fin.ext ?_)
  match a with
  | ⟨0, _⟩ => show (i 0).val * 1 + 0 = (i 0).val; omega
  | ⟨1, _⟩ => rfl

theorem ref_x (i : S8192x1024.Idx) : val_main_v39 (F := Ideal) (A0 m c) (A1 m c) (A2 m c) (A3 m c) (A4 m c) i = DX m c i := by
  rw [val_main_v39_apply, val_main_v37_apply, val_main_v38_apply, val_main_v36_apply, val_main_v30_apply, val_main_v29_apply, val_main_v28_apply, ref_c, ref_u, ref_r]
  exact (Bwd.dx_eq (ms m c (i 0)) (Bwd.ms_pos fun k => A2 m c (ix2 (i 0) k)) (A4 m c i) (A2 m c i) (T m c i * A3 m c (ix1 (i 1)))
    (fun k => A2 m c (ix2 (i 0) k)) (fun k => T m c (ix2 (i 0) k) * A3 m c (ix1 k))).symm

theorem algebraic : Cert.algebraic_Kernel8Ideal_Reference8Ideal := by
  intro m ρ m' ρ' _ hag
  refine ⟨fun c => DX m c, fun c => DG m c,
    (θ_run Cert.Kernel8Ideal.defs _ _).mono (fun r h c => ⟨(h c).1.trans (fin_x m c), (h c).2.1.trans (fin_g m c), (h c).2.2⟩) (Cert.Kernel8Ideal.Value.run_blocks (F := Ideal) m ρ), ?_⟩
  refine (θ_run Cert.Reference8Ideal.defs _ _).mono (fun r h c => ?_) (Cert.Reference8Ideal.Value.run (F := Ideal) m' ρ')
  obtain ⟨g0, g1, g2, g3, g4⟩ := hag c
  refine ⟨(h c).1.trans ((val_main_v39_eq m' c).trans ?_), (h c).2.1.trans ((val_main_v40_eq _ _ _).trans ?_), (h c).2.2⟩
  · rw [g0, g1, g2, g3, g4]; exact funext fun i => ref_x m c i
  · rw [g0, g1, g2]; exact funext fun i => ref_g m c i

end InB

end
-- ==== Proof.InFwdRun.lean ====
/- An input projection with its RMS norm: its run, at every grid point and over any float values. -/
module

public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace InF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel9Ideal Cert.Kernel9Ideal.Gen

variable {F : FTy → Type} [FloatOps F]

local notation "𝕄" => MT nD τ sig Unit (Elt F) ℕ (UR sig nD τ) ℕ

abbrev M1 := Memref sig .tc .vmem S1024x1024 .f32
abbrev M2 := Memref sig .tc .vmem S1024x1024 .bf16

/-- A load of a whole block reads the block. -/
theorem ld {e : EltTy} (v : View sig .tc .vmem S1024x1024 e) (f : v.ty.Contents (Elt F)) :
    View.readAt (Elt F) v (Rect.unit ![0, 0] ![1024, 1024] inb_S1024x1024_S1024x1024_0_0).toLoadRect f = v.read (Elt F) f :=
  View.readAt_full v f _
theorem ld1 {e : EltTy} (v : View sig .tc .vmem S1x1024 e) (f : v.ty.Contents (Elt F)) :
    View.readAt (Elt F) v (Rect.unit ![0, 0] ![1, 1024] inb_S1x1024_S1x1024_0_0).toLoadRect f = v.read (Elt F) f :=
  View.readAt_full v f _

set_option maxHeartbeats 1000000 in
/-- The body in the first column: the normalised rows are made. -/
theorem run_A (c : Dev nD) (i : grid0.Coords) (arg2 : M1) (harg2 : arg2.IsWhole) (arg3 : Memref sig .tc .vmem S1x1024 .f32) (harg3 : arg3.IsWhole)
    (arg4 : M2) (harg4 : arg4.IsWhole) (arg5 : M1) (harg5 : arg5.IsWhole) (arg6 : M2) (harg6 : arg6.IsWhole) (hc : k0_cond1 i = 1#1)
    (x0 : Vec F S1024x1024 .f32) (x1 : Vec F S1x1024 .f32) (x2 : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_c_qkv_3 i arg2 harg2 arg3 harg3 arg4 harg4 arg5 harg5 arg6 harg6) K := by
  simp only [cc0_c_qkv_3_eq_skeleton]; unfold cc0_c_qkv_3_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := sl_exact hc)
  sl_step
  have e3 : run_A.sl.v3 c arg2 harg2 arg3 harg3 arg6 x0 x1 = k0_pay1 x0 x1 := by
    unfold run_A.sl.v3 run_A.sl.H4_1
    exact (View.readCov_full _ _ _ _ _).trans (by simp only [ld, ld1, hf0, hf1])
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact (View.read_writes_full _ _ _ _ _).trans (by simp only [ld, ld1, hf0, hf1, hf2, e3])
  iexists _; isplitr
  swap; · iexact H4
  ipureintro
  exact (View.read_writes_full _ _ _ _ _).trans (by simp only [ld, ld1, hf0, hf1, hf2, e3])

set_option maxHeartbeats 1000000 in
/-- The body past the first column: the normalised rows are kept. -/
theorem run_B (c : Dev nD) (i : grid0.Coords) (arg2 : M1) (harg2 : arg2.IsWhole) (arg3 : Memref sig .tc .vmem S1x1024 .f32) (harg3 : arg3.IsWhole)
    (arg4 : M2) (harg4 : arg4.IsWhole) (arg5 : M1) (harg5 : arg5.IsWhole) (arg6 : M2) (harg6 : arg6.IsWhole) (hc : ¬ k0_cond1 i = 1#1)
    (x0 : Vec F S1024x1024 .f32) (x1 : Vec F S1x1024 .f32) (x2 xh : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xh
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 xh x2) ∗ owns (c : Thread nD τ) arg6 fullShare xh) -∗ K ⟨⟩))
      ⊢ wp frame (wpE (defs₀ (F := F)) Variants.none c none) E (cc0_c_qkv_3 i arg2 harg2 arg3 harg3 arg4 harg4 arg5 harg5 arg6 harg6) K := by
  simp only [cc0_c_qkv_3_eq_skeleton]; unfold cc0_c_qkv_3_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact (View.read_writes_full _ _ _ _ _).trans (by simp only [ld, ld1, hf0, hf1, hf2, hf4])
  iexists _; isplitr; · ipureintro; exact harg6.read_unread _
  iexact H4

variable (m : (ℓ : Loc nD τ sig) → Buf (Elt F) ℓ) (ρ : Dev nD → PrngReg)

/-- What core `c`'s buffers hold when the grid starts: after the casts of the arguments. -/
abbrev V (c : Dev nD) (b : Ref sig .tc) : Buf (Elt F) ((c : Thread nD τ).loc b) := StableHlo.after hostOps0 (fun b => m (c, b)) b

theorem fresh_ops : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh_ops main_chain

/-- No cast writes an argument. -/
theorem V_arg (c : Dev nD) (b : Ref sig .tc) (h : b = main_arg0 ∨ b = main_arg1 ∨ b = main_arg2) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases h with rfl | rfl | rfl
    all_goals repeat' apply And.intro
    all_goals exact StableHlo.devRef_ne_of_ne (by decide)))

/-- Window `w`'s block at point `t`, of its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three input blocks at a point. -/
abbrev bx (c : Dev nD) (t : Fin cfg0.N) : Vec F S1024x1024 .f32 := iblk m c 0 t
abbrev bg (c : Dev nD) (t : Fin cfg0.N) : Vec F S1x1024 .f32 := iblk m c 1 t
abbrev bw (c : Dev nD) (t : Fin cfg0.N) : Vec F S1024x1024 .bf16 := iblk m c 2 t

/-- The normalised rows after point `n`. -/
def st (c : Dev nD) : (n : ℕ) → n < cfg0.N → Vec F S1024x1024 .bf16
  | 0, hn => k0_pay1 (bx m c ⟨0, hn⟩) (bg m c ⟨0, hn⟩)
  | n + 1, hn => if (n + 1) % 3 = 0 then k0_pay1 (bx m c ⟨n + 1, hn⟩) (bg m c ⟨n + 1, hn⟩) else st c n (Nat.lt_of_succ_lt hn)

/-- The same at a grid point, and at the point before it. -/
abbrev at_ (c : Dev nD) (t : Fin cfg0.N) := st m c t.val t.isLt
abbrev prev (c : Dev nD) (t : Fin cfg0.N) := st m c (t.val - 1) (Nat.lt_of_le_of_lt (Nat.sub_le _ _) t.isLt)

theorem at_A (c : Dev nD) (t : Fin cfg0.N) (h : t.val % 3 = 0) : at_ m c t = k0_pay1 (bx m c t) (bg m c t) := by
  obtain ⟨n, hn⟩ := t
  cases n with
  | zero => rfl
  | succ n => exact if_pos h

theorem at_B (c : Dev nD) (t : Fin cfg0.N) (h : ¬ t.val % 3 = 0) : at_ m c t = prev m c t := by
  obtain ⟨n, hn⟩ := t
  cases n with
  | zero => exact absurd (Nat.zero_mod _) h
  | succ n => exact if_neg h

/-- The buffers point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (at_ m c t) (bw m c t)
    | ⟨4, _⟩ => at_ m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's buffer holds its block at every point, whether or not the point fetches it. -/
theorem before_in (c : Dev nD) (w : Fin cfg0.W) (hw : w.val < 3) (t : Fin cfg0.N) (d) : (dats m 0 c).before w t d = (dats m 0 c).after w t := by
  match w, hw with
  | 0, _ => exact ((dats m 0 c).before_in_eq_fetched 0 rfl (fun _ => rfl) (fun _ _ _ => rfl) (fun t => by dsimp only [dats]; unfold Dat.blockOf iblk; rfl) t d)
  | 1, _ => exact ((dats m 0 c).before_in_eq_fetched 1 rfl (fun _ => rfl) (fun _ _ _ => rfl) (fun t => by dsimp only [dats]; unfold Dat.blockOf iblk; rfl) t d)
  | 2, _ => exact ((dats m 0 c).before_in_eq_fetched 2 rfl (fun _ => rfl) (fun _ _ _ => rfl) (fun t => by dsimp only [dats]; unfold Dat.blockOf iblk; rfl) t d)

/-- The first column, by the point's number. -/
theorem hcond : ∀ t : Fin cfg0.N, k0_cond1 (grid0.coords t) = 1#1 ↔ t.val % 3 = 0 :=
  (by decide +kernel : ∀ t : Fin grid0.N, k0_cond1 (grid0.coords t) = 1#1 ↔ t.val % 3 = 0)

/-- The normalised rows are stored in the first column only, and kept until the last. -/
theorem idle4 : ∀ t : Fin cfg0.N, cfg0.idle 4 (grid0.coords t) = !decide (t.val % 3 = 0) := by decide +kernel
def tab4 : ℕ → Bool
  | 0 => true
  | n + 1 => (0x924924 : ℕ).testBit n
theorem tab4_step : ∀ t : Fin cfg0.N,
    tab4 (t.val + 1) = ((cfg0.win 4).flush t || (cfg0.idle 4 (cfg0.grid.coords t) && tab4 t.val)) := by decide +kernel
theorem tab4_false : ∀ t : Fin cfg0.N, ¬ t.val % 3 = 0 → tab4 t.val = false := by decide +kernel
theorem notFresh4 (t : Fin cfg0.N) (h : ¬ t.val % 3 = 0) : cfg0.fresh 4 t.val = false :=
  (Pipeline.Cfg.fresh_tab cfg0 4 tab4 rfl tab4_step t.val (Nat.le_of_lt t.isLt)).trans (tab4_false t h)

theorem before4 (c : Dev nD) (t : Fin cfg0.N) (h : ¬ t.val % 3 = 0) (d) : (dats m 0 c).before 4 t d = prev m c t := by
  rw [Dat.before_out_traj _ 4 rfl (fun _ _ => rfl) (fun t _ hi _ => by
      have h : ¬ t.val % 3 = 0 := fun e => absurd (hi.symm.trans ((idle4 t).trans (show (!decide (t.val % 3 = 0)) = false by simp [e]))) (show ¬ true = false by decide)
      exact at_B m c t h) t.val t rfl d, if_neg (by rw [notFresh4 t h]; exact Bool.false_ne_true)]
  dsimp only [dats]

/-- What a point leaves of the normalised rows: what it found, past the first column. -/
theorem leaves4 (c : Dev nD) (t : Fin cfg0.N) : owns (c : Thread nD τ) (win0_4.stage (cfg0.slots t 4)) fullShare (at_ m c t) ⊢ ((dats m 0 c).leavesExact 4 t : sProp 𝕄) := by
  unfold Dat.leavesExact
  by_cases h : t.val % 3 = 0
  · rw [show cfg0.idle 4 (cfg0.grid.coords t) = false from (idle4 t).trans (by simp [h])]
    dsimp only [dats]; exact .rfl
  · rw [show cfg0.idle 4 (cfg0.grid.coords t) = true from (idle4 t).trans (by simp [h])]
    cases hf : (cfg0.win 4).flush t with
    | false =>
      simp only [before4 m c t h]
      rw [at_B m c t h]
      iintro H; iexists prev m c t; iexact H
    | true => dsimp only [dats]; exact .rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have b0 : ∀ d, (dats m 0 c).before 0 t d = iblk m c 0 t := before_in m c 0 (by decide) t
  have b1 : ∀ d, (dats m 0 c).before 1 t d = iblk m c 1 t := before_in m c 1 (by decide) t
  have b2 : ∀ d, (dats m 0 c).before 2 t d = iblk m c 2 t := before_in m c 2 (by decide) t
  simp only [b0, b1, b2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare (iblk m c 0 t) from rfl,
    show (dats m 0 c).leavesExact 1 t = owns (c : Thread nD τ) (win0_1.stage (cfg0.slots t 1)) fullShare (iblk m c 1 t) from rfl,
    show (dats m 0 c).leavesExact 2 t = owns (c : Thread nD τ) (win0_2.stage (cfg0.slots t 2)) fullShare (iblk m c 2 t) from rfl,
    show (dats m 0 c).leavesExact 3 t = owns (c : Thread nD τ) (win0_3.stage (cfg0.slots t 3)) fullShare (k0_pay2 (at_ m c t) (bw m c t)) from rfl]
  have L := leaves4 m c t
  by_cases h : t.val % 3 = 0
  · have e := at_A m c t h
    rw [e] at L ⊢
    iintro ⟨HΦ, Ho, ⟨%d0, H0⟩, ⟨%d1, H1⟩, ⟨%d2, H2⟩, ⟨%d3, H3⟩, ⟨%d4, H4⟩⟩
    iapply (run_A c (grid0.coords t) _ _ _ _ _ _ _ _ _ _ ((hcond t).mpr h) (bx m c t) (bg m c t) (bw m c t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply L; iexact H4
  · have e := at_B m c t h
    rw [e] at L ⊢
    simp only [before4 m c t h]
    iintro ⟨HΦ, Ho, ⟨%d0, H0⟩, ⟨%d1, H1⟩, ⟨%d2, H2⟩, ⟨%d3, H3⟩, ⟨%d4, H4⟩⟩
    iapply (run_B c (grid0.coords t) _ _ _ _ _ _ _ _ _ _ (fun k => h ((hcond t).mp k)) (bx m c t) (bg m c t) (bw m c t) (prev m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply L; iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the grid ends at what the points wrote into it, every counter ends at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).1 0).trans (((dats m 0 c).arrAt_in 0 rfl _).trans ((A_eq m c 0).trans (V_arg m c main_arg0 (by simp)))),
    ((h c).2 main_arg1 (Pipeline.mem_restRefs_of main_arg1 (by decide) (by decide))).trans (V_arg m c main_arg1 (by simp)),
    ((h c).2 main_arg2 (Pipeline.mem_restRefs_of main_arg2 (by decide) (by decide))).trans (V_arg m c main_arg2 (by simp))⟩

end InF

end
-- ==== Proof.InFwd.lean ====
/- An input projection with its RMS norm: what its two results hold, and the claims about it. -/
module

public import proofs.«01_k».proof.Defs
public import proofs.«01_k».proof.Proof.Gen.Kernel9.Launch
public import proofs.«01_k».proof.Proof.InFwdRun
public import proofs.«01_k».proof.Proof.Gen.Reference9Ideal.Read
public import proofs.«01_k».proof.Proof.Runs
public import Idealize.ShloMosaic.Lib.Pipeline.ReadBack
public import Idealize.ShloMosaic.Adequacy

@[expose] public section

set_option maxRecDepth 16384

noncomputable section

namespace InF

open Idealize.ShloMosaic Idealize.ShloMosaic.TcCoe Idealize.SL.Sem

section
open Cert.Kernel9Ideal Cert.Kernel9Ideal.Gen
variable (m : (ℓ : Loc nD τ sig) → Buf (Elt Ideal) ℓ) (c : Dev nD)

/-- The three arguments: the rows, the gains, the weights. -/
abbrev A0 : FVec Ideal S8192x1024 .f32 := m ((c : Thread nD τ).loc main_arg0)
abbrev A1 : FVec Ideal S1024 .f32 := m ((c : Thread nD τ).loc main_arg1)
abbrev A2 : FVec Ideal S1024x3072 .f32 := m ((c : Thread nD τ).loc main_arg2)

/-- The normalised rows and their projection. -/
def H (i : S8192x1024.Idx) : EReal :=
  A0 m c i * Ideal.rsqrt (Ideal.div (∑ k : Fin 1024, A0 m c (ix2 (i 0) k) * A0 m c (ix2 (i 0) k)) (Ideal.ofBits .f32 1149239296#32) + Ideal.ofBits .f32 897988541#32) * A1 m c (ix1 (i 1))
def Z (i : S8192x3072.Idx) : EReal := ∑ k : Fin 1024, H m c (ix2 (i 0) k) * A2 m c (ix2 k (i 1))

theorem p1 (x : FVec Ideal S1024x1024 .f32) (g : FVec Ideal S1x1024 .f32) (j : S1024x1024.Idx) :
    k0_pay1 (F := Ideal) x g j = x j * Ideal.rsqrt (Ideal.div (∑ k : Fin 1024, x (ix2 (j 0) k) * x (ix2 (j 0) k)) (Ideal.ofBits .f32 1149239296#32) + Ideal.ofBits .f32 897988541#32) * g (ix2 0 (j 1)) := by
  pointwise [k0_pay1]
theorem p2 (h w : FVec Ideal S1024x1024 .bf16) (j : S1024x1024.Idx) :
    k0_pay2 (F := Ideal) h w j = ∑ k : Fin 1024, h (ix2 (j 0) k) * w (ix2 k (j 1)) := by
  pointwise [k0_pay2]

theorem g_eq (i : S1x1024.Idx) : (V m c main_v0 : FVec Ideal S1x1024 .f32) i = A1 m c (ix1 (i 1)) := by
  unfold V hostOps0
  after_results
  exact congrArg (A1 m c) (funext fun a => by fin_cases a <;> rfl)
theorem w_eq : (V m c main_v1 : FVec Ideal S1024x3072 .bf16) = A2 m c := by
  unfold V hostOps0
  after_results
  rfl

theorem idx : ∀ t : Fin cfg0.N, win0_0.index t = ![t.val / 3, 0] ∧ win0_1.index t = ![0, 0] ∧ win0_2.index t = ![0, t.val % 3]
    ∧ win0_3.index t = ![t.val / 3, t.val % 3] ∧ win0_4.index t = ![t.val / 3, 0] ∧ t.val < 24 :=
  (by decide +kernel : ∀ t : Fin grid0.N, _)

/-- Row `i` of the rows and column `j` of the columns that point `t` works on. -/
def row (t : Fin cfg0.N) (i : Fin 1024) : Fin 8192 := ⟨1024 * (t.val / 3) + i.val, by have := (idx t).2.2.2.2.2; omega⟩
def col (t : Fin cfg0.N) (j : Fin 1024) : Fin 3072 := ⟨1024 * (t.val % 3) + j.val, by omega⟩

theorem bx_eq (t : Fin cfg0.N) (j : S1024x1024.Idx) : bx m c t j = A0 m c (ix2 (row t (j 0)) (j 1)) := by
  have e : V m c main_arg0 = A0 m c := V_arg m c main_arg0 (by simp)
  refine Eq.trans (b := ((cfg0.win 0).blk t).view.read (Elt Ideal) (A0 m c) j) (congrArg (fun f => ((cfg0.win 0).blk t).view.read (Elt Ideal) f j) e) ?_
  blk_ext [row, idx t]
theorem bg_eq (t : Fin cfg0.N) (j : Fin 1024) : bg m c t (ix2 0 j) = A1 m c (ix1 j) := by
  refine Eq.trans (b := (V m c main_v0 : FVec Ideal S1x1024 .f32) (ix2 0 j)) ?_ (g_eq m c _)
  blk_ext [bg, iblk, idx t]
theorem bw_eq (t : Fin cfg0.N) (j : S1024x1024.Idx) : bw m c t j = A2 m c (ix2 (j 0) (col t (j 1))) := by
  refine Eq.trans (b := ((cfg0.win 2).blk t).view.read (Elt Ideal) (A2 m c) j) (congrArg (fun f => ((cfg0.win 2).blk t).view.read (Elt Ideal) f j) (w_eq m c)) ?_
  blk_ext [col, idx t]

theorem start_h (t : Fin cfg0.N) (j : S1024x1024.Idx) : k0_pay1 (F := Ideal) (bx m c t) (bg m c t) j = H m c (ix2 (row t (j 0)) (j 1)) := by
  refine (p1 _ _ j).trans ?_
  have e (i k : Fin 1024) : bx m c t (ix2 i k) = A0 m c (ix2 (row t i) k) := bx_eq m c t (ix2 i k)
  refine congrArg₂ (· * ·) (congrArg₂ (· * ·) (bx_eq m c t j) (congrArg (fun z => Ideal.rsqrt (Ideal.div z _ + _)) ?_)) (bg_eq m c t (j 1))
  exact Finset.sum_congr rfl fun k _ => congrArg₂ (· * ·) (e (j 0) k) (e (j 0) k)

/-- The normalised rows stay through a row of the grid. -/
theorem st_h (n : ℕ) (hn : n < cfg0.N) (j : S1024x1024.Idx) : st m c n hn j = H m c (ix2 (row ⟨n, hn⟩ (j 0)) (j 1)) := by
  induction n with
  | zero => exact start_h m c ⟨0, hn⟩ j
  | succ n ih =>
    by_cases h : (n + 1) % 3 = 0
    · rw [st, if_pos h]; exact start_h m c _ j
    · rw [st, if_neg h]
      refine (ih _).trans (congrArg (fun r => H m c (ix2 r (j 1))) (Fin.ext ?_))
      show 1024 * (n / 3) + (j 0).val = 1024 * ((n + 1) / 3) + (j 0).val
      omega

theorem fin_z : (dats m 0 c).arrAt 3 cfg0.N = (Z m c : FVec Ideal S8192x3072 .f32) := by
  refine (dats m 0 c).arrAt_eq_of_covers 3 _ (by decide +kernel) fun t hf y => ?_
  blk_simp
  refine Eq.trans (b := k0_pay2 (F := Ideal) (at_ m c t) (bw m c t) y) rfl ((p2 _ _ y).trans ?_)
  refine Eq.trans (b := Z m c (ix2 (row t (y 0)) (col t (y 1)))) ?_ ?_
  · exact Finset.sum_congr rfl fun k _ => congrArg₂ (· * ·) (st_h m c t.val t.isLt (ix2 (y 0) k)) (bw_eq m c t (ix2 k (y 1)))
  · blk_ext [row, col, idx t]

theorem fin_h : (dats m 0 c).arrAt 4 cfg0.N = (H m c : FVec Ideal S8192x1024 .bf16) := by
  refine (dats m 0 c).arrAt_eq_of_covers 4 _ (by decide +kernel) fun t hf y => ?_
  blk_simp
  refine Eq.trans (b := at_ m c t y) rfl ?_
  refine (st_h m c t.val t.isLt y).trans ?_
  blk_ext [row, idx t]
end

/-- The kernel and its idealization have the same body table at the formats' own values. -/
theorem defs_eq : Cert.Kernel9.defs (F := Bits) = Cert.Kernel9Ideal.defs (F := Bits) :=
  congrArg (Pipeline.defs Cert.Kernel9.pcfgs)
    (congrArg (@Defs.onTc Cert.Kernel9.nD Cert.Kernel9.τ Cert.Kernel9.sig (Elt Bits) Cert.Kernel9.Λ₀) (funext fun l => funext fun x => by
      match l, x with
      | 0, (t, s) => rfl
      | ⟨_ + 1, h⟩, _ => exact absurd h (Nat.not_lt.2 (Nat.le_add_left _ _))))

theorem frame_p : Cert.quiescent_Kernel9 := fun m ρ _ => by
  rw [defs_eq]
  exact (θ_run Cert.Kernel9Ideal.defs _ _).mono (fun r h => And.intro (fun c => kept m r h.1 c) h.2) (run_main (F := Bits) m ρ)
theorem frame_pi : Cert.quiescent_Kernel9Ideal := fun m ρ _ =>
  (θ_run Cert.Kernel9Ideal.defs _ _).mono (fun r h => ⟨fun c => kept m r h.1 c, h.2⟩) (run_main (F := Ideal) m ρ)
theorem frame_ri : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)
theorem preserves : Cert.preserves_Kernel9_Kernel9Ideal := trivial

variable (m : (ℓ : Loc Cert.Kernel9Ideal.nD Cert.Kernel9Ideal.τ Cert.Kernel9Ideal.sig) → Buf (Elt Ideal) ℓ) (c : Dev Cert.Kernel9Ideal.nD)

open Cert.Reference9Ideal Cert.Reference9Ideal.Read

/-- The reference's normalised rows and their projection. -/
theorem ref_h (i : S8192x1024.Idx) : val_main_v12 (F := Ideal) (A0 m c) (A1 m c) i = H m c i := by
  rw [val_main_v12_apply, val_main_v9_apply, val_main_v11_apply, val_main_v10_apply, val_main_v8_apply, val_main_v7_apply, val_main_v6_apply,
    val_main_v4_apply, val_main_v2_apply, val_main_v1_apply, val_main_v3_apply, val_main_v5_apply, val_main_cst_apply, val_main_cst_0_apply, val_main_cst_1_apply]
  refine congrArg₂ (· * ·) (congrArg₂ (· * ·) rfl (congrArg (fun z => Ideal.rsqrt (Ideal.div z _ + _)) ?_)) ?_
  · refine (congrArg (· + _) Ideal.ofBits_zero_f32).trans ((zero_add _).trans (Finset.sum_congr rfl fun k _ => ?_))
    rw [val_main_v0_apply]
    exact congrArg (fun j => A0 m c j * A0 m c j) (funext fun a => by fin_cases a <;> rfl)
  · exact congrArg (A1 m c) (funext fun a => by fin_cases a <;> rfl)
theorem ref_z (i : S8192x3072.Idx) : val_main_v13 (F := Ideal) (A0 m c) (A1 m c) (A2 m c) i = Z m c i := by
  rw [val_main_v13_apply]
  refine Finset.sum_congr rfl fun k _ => congrArg₂ (· * ·) ((ref_h m c _).trans ?_) ?_
  · exact congrArg (H m c) (funext fun a => by fin_cases a <;> rfl)
  · exact congrArg (A2 m c) (funext fun a => by fin_cases a <;> rfl)

theorem algebraic : Cert.algebraic_Kernel9Ideal_Reference9Ideal := by
  intro m ρ m' ρ' _ hag
  refine ⟨fun c => Z m c, fun c => H m c,
    (θ_run Cert.Kernel9Ideal.defs _ _).mono (fun r h c => ⟨((h.1 c).1 3).trans (fin_z m c), ((h.1 c).1 4).trans (fin_h m c), kept m r h.1 c⟩) (run_main (F := Ideal) m ρ), ?_⟩
  refine (θ_run Cert.Reference9Ideal.defs _ _).mono (fun r h c => ?_) (Cert.Reference9Ideal.Value.run (F := Ideal) m' ρ')
  obtain ⟨g0, g1, g2⟩ := hag c
  refine ⟨(h c).1.trans ((val_main_v13_eq _ _ _).trans ?_), (h c).2.1.trans ((val_main_v14_eq _ _).trans ?_), (h c).2.2⟩
  · rw [g0, g1, g2]; exact funext fun i => ref_z m c i
  · rw [g0, g1]; exact funext fun i => ref_h m c i

end InF

end
-- ==== Proof.ProjDw.lean ====
/- The gradients of the projections' weights: what the accumulated products hold, and the claims about them. -/
module

public import proofs.«01_k».proof.Defs
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Runs
public import Idealize.ShloMosaic.Lib.Pipeline.ReadBack
public import Idealize.ShloMosaic.Adequacy

@[expose] public section

set_option maxRecDepth 16384

noncomputable section

open Idealize.ShloMosaic Idealize.ShloMosaic.TcCoe Idealize.SL.Sem

/-! ## The attention's input projection: two column blocks -/

namespace DwQ

section
open Cert.Kernel10Ideal Cert.Kernel10Ideal.Gen
variable (m : (ℓ : Loc nD τ sig) → Buf (Elt Ideal) ℓ) (c : Dev nD)

/-- The two arrays the product takes. -/
abbrev H : FVec Ideal S8192x1024 .bf16 := m ((c : Thread nD τ).loc main_arg0)
abbrev D : FVec Ideal S8192x3072 .bf16 := m ((c : Thread nD τ).loc main_arg1)

/-- The blocks a point reads. -/
abbrev X (t : Fin cfg0.N) : FVec Ideal S2048x1024 .bf16 := iblk m c 0 t
abbrev Y (t : Fin cfg0.N) : FVec Ideal S2048x1536 .bf16 := iblk m c 1 t

/-- One point's share of an entry: 2048 rows' products. -/
def part (t : Fin cfg0.N) (j : S1024x1536.Idx) : EReal :=
  ∑ q : Fin 2048, X m c t (ix2 q (j 0)) * Y m c t (ix2 q (j 1))

theorem p1 (x : FVec Ideal S2048x1024 .bf16) (y : FVec Ideal S2048x1536 .bf16) (j : S1024x1536.Idx) :
    k0_pay1 (F := Ideal) x y j = ∑ q : Fin 2048, x (ix2 q (j 0)) * y (ix2 q (j 1)) := by
  pointwise [k0_pay1]
theorem p2 (x : FVec Ideal S2048x1024 .bf16) (y : FVec Ideal S2048x1536 .bf16) (j : S1024x1536.Idx) :
    k0_pay2 (F := Ideal) x y j = 0 + ∑ q : Fin 2048, x (ix2 q (j 0)) * y (ix2 q (j 1)) := by
  unfold k0_pay2; rw [shapeCast_self, zero_add]; exact p1 x y j
theorem p3 (x : FVec Ideal S2048x1024 .bf16) (y : FVec Ideal S2048x1536 .bf16) (z : FVec Ideal S1024x1536 .f32) (j : S1024x1536.Idx) :
    k0_pay3 (F := Ideal) x y z j = z j + ∑ q : Fin 2048, x (ix2 q (j 0)) * y (ix2 q (j 1)) := by
  unfold k0_pay3; rw [shapeCast_self]; exact congrArg (z j + ·) (p1 x y j)

abbrev before (t : Fin cfg0.N) := outsAt0 m c (t.val - 1) (lt_of_le_of_lt (Nat.sub_le _ _) t.isLt)

/-- The sum as a point reads it back. -/
def held (t : Fin cfg0.N) : FVec Ideal S1024x1536 .f32 :=
  View.read (Elt Ideal) (View.whole cc0_scratch0) ((Memref.isWhole_whole cc0_scratch0).unread (before m c t).2)
theorem held_eq (t : Fin cfg0.N) : held m c t = (before m c t).2 := Memref.IsWhole.read_unread _ _

theorem acc_A (t : Fin cfg0.N) (h0 : t.val % 4 = 0) (j : S1024x1536.Idx) : (outsAt0 m c t.val t.isLt).2 j = 0 + part m c t j := by
  rw [outsAt0_A m c t h0 (by omega) (by omega)]
  frame_open
  frame_out
  exact Eq.trans (b := k0_pay2 (F := Ideal) (X m c t) (Y m c t) j) (by sl_kernel_rfl) (p2 _ _ j)
theorem acc_B (t : Fin cfg0.N) (h0 : ¬ t.val % 4 = 0) (j : S1024x1536.Idx) : (outsAt0 m c t.val t.isLt).2 j = (before m c t).2 j + part m c t j := by
  by_cases h2 : t.val % 4 = 3
  · rw [outsAt0_C m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
  · rw [outsAt0_B m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
theorem out_C (t : Fin cfg0.N) (h2 : t.val % 4 = 3) (j : S1024x1536.Idx) : (outsAt0 m c t.val t.isLt).1 j = (before m c t).2 j + part m c t j := by
  rw [outsAt0_C m c t (by omega) (by omega) h2]
  frame_open
  frame_out
  exact Eq.trans (b := k0_pay3 (F := Ideal) (X m c t) (Y m c t) (held m c t) j) (by sl_kernel_rfl) ((p3 _ _ _ j).trans (congrArg (fun z => z j + part m c t j) (held_eq m c t)))

theorem idx : ∀ t : Fin cfg0.N, win0_0.index t = ![t.val % 4, 0] ∧ win0_1.index t = ![t.val % 4, t.val / 4] ∧ win0_2.index t = ![0, t.val / 4] ∧ t.val < 8 :=
  (by decide +kernel : ∀ t : Fin grid0.N, _)

/-- Column `j` of column block `b`. -/
def col (b : ℕ) (j : Fin 1536) : Fin 3072 := ⟨1536 * (b % 2) + j.val, by omega⟩

theorem part_eq (t : Fin cfg0.N) (s : Fin 4) (hs : t.val % 4 = s.val) (j : S1024x1536.Idx) :
    part m c t j = ∑ q : Fin 2048, H m c (ix2 (Runs.row s q) (j 0)) * D m c (ix2 (Runs.row s q) (col (t.val / 4) (j 1))) := by
  have h8 := (idx t).2.2.2
  have hb : t.val / 4 % 2 = t.val / 4 := by omega
  refine Finset.sum_congr rfl fun q _ => congrArg₂ (· * ·) ?_ ?_
  · blk_ext [iblk, V, Runs.row, idx t, hs]
  · blk_ext [iblk, V, Runs.row, col, idx t, hs, hb]

/-- The whole product. -/
def G (i : S1024x3072.Idx) : EReal := ∑ k : Fin 8192, H m c (ix2 k (i 0)) * D m c (ix2 k (i 1))

theorem out_eq (t : Fin cfg0.N) (h : t.val % 4 = 3) (j : S1024x1536.Idx) : (outsAt0 m c t.val t.isLt).1 j = G m c (ix2 (j 0) (col (t.val / 4) (j 1))) := by
  rw [out_C m c t h j, ← acc_B m c t (by omega) j]
  exact Runs.total (fun n h j => ((outsAt0 m c n h).2 j : EReal)) (part m c) (acc_A m c) (acc_B m c)
    (fun b j k => H m c (ix2 k (j 0)) * D m c (ix2 k (col b (j 1)))) (part_eq m c) t h j

theorem fin_dw : (dats m 0 c).arrAt 2 cfg0.N = (G m c : FVec Ideal S1024x3072 .bf16) := by
  refine (dats m 0 c).arrAt_eq_of_covers 2 _ (by decide +kernel) fun t hf y => ?_
  blk_simp
  rw [after0_2]
  have h8 := (idx t).2.2.2
  have hb : t.val / 4 % 2 = t.val / 4 := by omega
  refine (out_eq m c t ((flush0_2 t).mp hf) y).trans ?_
  blk_ext [col, idx t, hb]
end

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)
theorem preserves : Cert.preserves_Kernel10_Kernel10Ideal := trivial

open Cert.Reference10Ideal Cert.Reference10Ideal.Read in
/-- The reference's result is the product the kernel accumulates. -/
theorem ref_eq (x : FVec Ideal S8192x1024 .bf16) (y : FVec Ideal S8192x3072 .bf16) (i : S1024x3072.Idx) :
    val_main_v6 (F := Ideal) x y i = ∑ k : Fin 8192, x (ix2 k (i 0)) * y (ix2 k (i 1)) := by
  show val_main_v5 (F := Ideal) x y i = _
  rw [val_main_v5_apply, val_main_v4_apply]
  refine Finset.sum_congr rfl fun k _ => (mul_comm _ _).trans (congrArg₂ (· * ·) ?_ ?_)
  · exact congrArg x (funext fun a => by fin_cases a <;> rfl)
  · exact congrArg y (funext fun a => by fin_cases a <;> rfl)

theorem algebraic : Cert.algebraic_Kernel10Ideal_Reference10Ideal := by
  intro m ρ m' ρ' _ hag
  refine ⟨fun c => (Cert.Kernel10Ideal.Gen.dats m 0 c).arrAt 2 Cert.Kernel10Ideal.cfg0.N, Cert.Kernel10Ideal.Value.run_blocks m ρ, ?_⟩
  refine (θ_run Cert.Reference10Ideal.defs _ _).mono (fun r h c => ⟨(h c).1.trans ?_, (h c).2⟩) (Cert.Reference10Ideal.Value.run m' ρ')
  obtain ⟨g0, g1⟩ := hag c
  refine (Cert.Reference10Ideal.Read.val_main_v6_eq _ _).trans ?_
  rw [g0, g1]
  exact (funext fun i => ref_eq _ _ i).trans (fin_dw m c).symm

end DwQ

/-! ## The output projection: one block -/

namespace DwO

section
open Cert.Kernel11Ideal Cert.Kernel11Ideal.Gen
variable (m : (ℓ : Loc nD τ sig) → Buf (Elt Ideal) ℓ) (c : Dev nD)

/-- The two arrays the product takes. -/
abbrev H : FVec Ideal S8192x1024 .bf16 := m ((c : Thread nD τ).loc main_arg0)
abbrev D : FVec Ideal S8192x1024 .f32 := m ((c : Thread nD τ).loc main_arg1)

/-- The blocks a point reads. -/
abbrev X (t : Fin cfg0.N) : FVec Ideal S2048x1024 .bf16 := iblk m c 0 t
abbrev Y (t : Fin cfg0.N) : FVec Ideal S2048x1024 .f32 := iblk m c 1 t

/-- One point's share of an entry: 2048 rows' products. -/
def part (t : Fin cfg0.N) (j : S1024x1024.Idx) : EReal :=
  ∑ q : Fin 2048, X m c t (ix2 q (j 0)) * Y m c t (ix2 q (j 1))

theorem p1 (x : FVec Ideal S2048x1024 .bf16) (y : FVec Ideal S2048x1024 .f32) (j : S1024x1024.Idx) :
    k0_pay1 (F := Ideal) x y j = ∑ q : Fin 2048, x (ix2 q (j 0)) * y (ix2 q (j 1)) := by
  pointwise [k0_pay1]
theorem p2 (x : FVec Ideal S2048x1024 .bf16) (y : FVec Ideal S2048x1024 .f32) (j : S1024x1024.Idx) :
    k0_pay2 (F := Ideal) x y j = 0 + ∑ q : Fin 2048, x (ix2 q (j 0)) * y (ix2 q (j 1)) := by
  unfold k0_pay2; rw [shapeCast_self, zero_add]; exact p1 x y j
theorem p3 (x : FVec Ideal S2048x1024 .bf16) (y : FVec Ideal S2048x1024 .f32) (z : FVec Ideal S1024x1024 .f32) (j : S1024x1024.Idx) :
    k0_pay3 (F := Ideal) x y z j = z j + ∑ q : Fin 2048, x (ix2 q (j 0)) * y (ix2 q (j 1)) := by
  unfold k0_pay3; rw [shapeCast_self]; exact congrArg (z j + ·) (p1 x y j)

theorem idx : ∀ t : Fin cfg0.N, win0_0.index t = ![t.val % 4, 0] ∧ win0_1.index t = ![t.val % 4, 0] ∧ win0_2.index t = ![0, 0] ∧ t.val < 4 :=
  (by decide +kernel : ∀ t : Fin grid0.N, _)
theorem lt4 (t : Fin cfg0.N) : t.val < 4 := (idx t).2.2.2

abbrev before (t : Fin cfg0.N) := outsAt0 m c (t.val - 1) (lt_of_le_of_lt (Nat.sub_le _ _) t.isLt)

/-- The sum as a point reads it back. -/
def held (t : Fin cfg0.N) : FVec Ideal S1024x1024 .f32 :=
  View.read (Elt Ideal) (View.whole cc0_scratch0) ((Memref.isWhole_whole cc0_scratch0).unread (before m c t).2)
theorem held_eq (t : Fin cfg0.N) : held m c t = (before m c t).2 := Memref.IsWhole.read_unread _ _

theorem acc_A (t : Fin cfg0.N) (h0 : t.val % 4 = 0) (j : S1024x1024.Idx) : (outsAt0 m c t.val t.isLt).2 j = 0 + part m c t j := by
  have := lt4 t
  rw [outsAt0_A m c t h0 (by omega) (by omega)]
  frame_open
  frame_out
  exact Eq.trans (b := k0_pay2 (F := Ideal) (X m c t) (Y m c t) j) (by sl_kernel_rfl) (p2 _ _ j)
theorem acc_B (t : Fin cfg0.N) (h0 : ¬ t.val % 4 = 0) (j : S1024x1024.Idx) : (outsAt0 m c t.val t.isLt).2 j = (before m c t).2 j + part m c t j := by
  by_cases h2 : t.val % 4 = 3
  · rw [outsAt0_C m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
  · rw [outsAt0_B m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
theorem out_C (t : Fin cfg0.N) (h2 : t.val % 4 = 3) (j : S1024x1024.Idx) : (outsAt0 m c t.val t.isLt).1 j = (before m c t).2 j + part m c t j := by
  rw [outsAt0_C m c t (by omega) (by omega) h2]
  frame_open
  frame_out
  exact Eq.trans (b := k0_pay3 (F := Ideal) (X m c t) (Y m c t) (held m c t) j) (by sl_kernel_rfl) ((p3 _ _ _ j).trans (congrArg (fun z => z j + part m c t j) (held_eq m c t)))

theorem part_eq (t : Fin cfg0.N) (s : Fin 4) (hs : t.val % 4 = s.val) (j : S1024x1024.Idx) :
    part m c t j = ∑ q : Fin 2048, H m c (ix2 (Runs.row s q) (j 0)) * D m c (ix2 (Runs.row s q) (j 1)) := by
  refine Finset.sum_congr rfl fun q _ => congrArg₂ (· * ·) ?_ ?_
  · blk_ext [iblk, V, Runs.row, idx t, hs]
  · blk_ext [iblk, V, Runs.row, idx t, hs]

/-- The whole product. -/
def G (i : S1024x1024.Idx) : EReal := ∑ k : Fin 8192, H m c (ix2 k (i 0)) * D m c (ix2 k (i 1))

theorem out_eq (t : Fin cfg0.N) (h : t.val % 4 = 3) (j : S1024x1024.Idx) : (outsAt0 m c t.val t.isLt).1 j = G m c j := by
  rw [out_C m c t h j, ← acc_B m c t (by omega) j]
  exact Runs.total (fun n h j => ((outsAt0 m c n h).2 j : EReal)) (part m c) (acc_A m c) (acc_B m c)
    (fun _ j k => H m c (ix2 k (j 0)) * D m c (ix2 k (j 1))) (part_eq m c) t h j

theorem fin_dw : (dats m 0 c).arrAt 2 cfg0.N = (G m c : FVec Ideal S1024x1024 .bf16) := by
  refine (dats m 0 c).arrAt_eq_of_covers 2 _ (by decide +kernel) fun t hf y => ?_
  blk_simp
  rw [after0_2]
  refine (out_eq m c t ((flush0_2 t).mp hf) y).trans ?_
  blk_ext [idx t]
end

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)
theorem preserves : Cert.preserves_Kernel11_Kernel11Ideal := trivial

open Cert.Reference11Ideal Cert.Reference11Ideal.Read in
/-- The reference's result is the product the kernel accumulates. -/
theorem ref_eq (x : FVec Ideal S8192x1024 .bf16) (y : FVec Ideal S8192x1024 .f32) (i : S1024x1024.Idx) :
    val_main_v5 (F := Ideal) x y i = ∑ k : Fin 8192, x (ix2 k (i 0)) * y (ix2 k (i 1)) := by
  show val_main_v4 (F := Ideal) x y i = _
  rw [val_main_v4_apply, val_main_v3_apply]
  refine Finset.sum_congr rfl fun k _ => (mul_comm _ _).trans (congrArg₂ (· * ·) ?_ ?_)
  · exact congrArg x (funext fun a => by fin_cases a <;> rfl)
  · exact congrArg y (funext fun a => by fin_cases a <;> rfl)

theorem algebraic : Cert.algebraic_Kernel11Ideal_Reference11Ideal := by
  intro m ρ m' ρ' _ hag
  refine ⟨fun c => (Cert.Kernel11Ideal.Gen.dats m 0 c).arrAt 2 Cert.Kernel11Ideal.cfg0.N, Cert.Kernel11Ideal.Value.run_blocks m ρ, ?_⟩
  refine (θ_run Cert.Reference11Ideal.defs _ _).mono (fun r h c => ⟨(h c).1.trans ?_, (h c).2⟩) (Cert.Reference11Ideal.Value.run m' ρ')
  obtain ⟨g0, g1⟩ := hag c
  refine (Cert.Reference11Ideal.Read.val_main_v5_eq _ _).trans ?_
  rw [g0, g1]
  exact (funext fun i => ref_eq _ _ i).trans (fin_dw m c).symm

end DwO

end
-- ==== Proof.Adam.lean ====
/- The optimiser's call for the MLP's first weights: the gradient summed over the devices, the step, the two moments. -/
module

public import proofs.«01_k».proof.Defs
public import proofs.«01_k».proof.Proof.Gen.Kernel12.Frame
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import Idealize.ShloMosaic.Adequacy

@[expose] public section

set_option maxRecDepth 16384

noncomputable section

open Idealize.ShloMosaic Idealize.ShloMosaic.TcCoe Idealize.SL.Sem

namespace Adam

/-- The first moment, the second moment and the step, from one entry's weight, moments and gradient. -/
def mom (u g : EReal) : EReal := Ideal.ofBits .f32 0x3F666666#32 * u + Ideal.ofBits .f32 0x3DCCCCCD#32 * g
def vel (u g : EReal) : EReal := Ideal.ofBits .f32 0x3F7FBE77#32 * u + Ideal.ofBits .f32 0x3A83126F#32 * (g * g)
def step (w u v g : EReal) : EReal :=
  Ideal.ofBits .f32 0xBA83126F#32 *
    (Ideal.div (Ideal.div (mom u g) (Ideal.ofBits .f32 0x3F26BD02#32)) (Ideal.sqrt (Ideal.div (vel v g) (Ideal.ofBits .f32 0x3C231ACC#32)) + Ideal.ofBits .f32 0x322BCC77#32)
      + Ideal.ofBits .f32 0x3C23D70A#32 * w)

theorem inb {R C : ℕ} (k : Fin 8) : ∀ a, (![k.val, 0, 0] : Fin 3 → ℕ) a + (![1, R, C] : Fin 3 → ℕ) a ≤ (⟨3, ![8, R, C]⟩ : Shape).size a := fun a =>
  match a with
  | 0 => k.isLt
  | 1 => (Nat.zero_add R).le
  | 2 => (Nat.zero_add C).le

/-- Piece `k` of eight, as the kernel loads it; and the eight added one after the other. -/
abbrev pc {R C : ℕ} (x : (⟨3, ![8, R, C]⟩ : Shape).Idx → Elt Ideal .bf16) (k : Fin 8) : FVec Ideal (⟨3, ![1, R, C]⟩ : Shape) .bf16 :=
  View.ld x (Rect.unit (s := ⟨3, ![8, R, C]⟩) ![k.val, 0, 0] ![1, R, C] (inb k))

theorem pc_at {R C : ℕ} (x : (⟨3, ![8, R, C]⟩ : Shape).Idx → Elt Ideal .bf16) (k : Fin 8) (i : Fin R) (l : Fin C) : pc x k (ix3 0 i l) = x (ix3 k i l) := by
  refine congrArg x (funext fun a => Fin.ext ?_)
  match a with
  | 0 => show k.val + 1 * 0 = k.val; omega
  | 1 => show 0 + 1 * i.val = i.val; omega
  | 2 => show 0 + 1 * l.val = l.val; omega

theorem sum8 {R C : ℕ} (x : (⟨3, ![8, R, C]⟩ : Shape).Idx → Elt Ideal .bf16) (i : Fin R) (l : Fin C) :
    (pc x 0 (ix3 0 i l) + pc x 1 (ix3 0 i l) + pc x 2 (ix3 0 i l) + pc x 3 (ix3 0 i l) + pc x 4 (ix3 0 i l) + pc x 5 (ix3 0 i l) + pc x 6 (ix3 0 i l)
      + pc x 7 (ix3 0 i l) : EReal) = ∑ k : Fin 8, x (ix3 k i l) := by
  rw [Fin.sum_univ_eight, pc_at, pc_at, pc_at, pc_at, pc_at, pc_at, pc_at, pc_at]

section
open Cert.Kernel12Ideal Cert.Kernel12Ideal.Gen
variable (m : (ℓ : Loc nD τ sig) → Buf (Elt Ideal) ℓ) (c : Dev nD)

/-- The arguments: each layer's pieces from the eight devices, the weights and the two moments. -/
abbrev A0 : FVec Ideal S8x1024x512 .bf16 := m ((c : Thread nD τ).loc main_arg0)
abbrev A1 : FVec Ideal S8x1024x512 .bf16 := m ((c : Thread nD τ).loc main_arg1)
abbrev A2 : FVec Ideal S8x1024x512 .bf16 := m ((c : Thread nD τ).loc main_arg2)
abbrev A3 : FVec Ideal S8x1024x512 .bf16 := m ((c : Thread nD τ).loc main_arg3)
abbrev W : FVec Ideal S4x1024x512 .f32 := m ((c : Thread nD τ).loc main_arg4)
abbrev U : FVec Ideal S4x1024x512 .f32 := m ((c : Thread nD τ).loc main_arg5)
abbrev Q : FVec Ideal S4x1024x512 .f32 := m ((c : Thread nD τ).loc main_arg6)

def layer : Fin 4 → FVec Ideal S8x1024x512 .bf16
  | 0 => A0 m c
  | 1 => A1 m c
  | 2 => A2 m c
  | 3 => A3 m c

/-- The gradient of a layer's entry: the devices' pieces summed. -/
def G (i : S4x1024x512.Idx) : EReal := ∑ k : Fin 8, layer m c (i 0) (ix3 k (i 1) (i 2))

/-- Row `r` of the flat arrays is row `r % 1024` of layer `r / 1024`. -/
def at3 (i : S4096x512.Idx) : S4x1024x512.Idx :=
  ix3 ⟨(i 0).val / 1024, by have : (i 0).val < 4096 := (i 0).isLt; omega⟩ ⟨(i 0).val % 1024, Nat.mod_lt _ (by decide)⟩ (i 1)

def GG (i : S4096x512.Idx) : EReal := G m c (at3 i)
def DD (i : S4096x512.Idx) : EReal := step (W m c (at3 i)) (U m c (at3 i)) (Q m c (at3 i)) (G m c (at3 i))
def MM (i : S4096x512.Idx) : EReal := mom (U m c (at3 i)) (G m c (at3 i))
def VV (i : S4096x512.Idx) : EReal := vel (Q m c (at3 i)) (G m c (at3 i))

abbrev Pieces := S8x256x512.Idx → Elt Ideal .bf16

/-- The eight pieces of a block summed, as the kernel sums them. -/
def tot (x : Pieces) : FVec Ideal S256x512 .f32 := k0_pay13 (F := Ideal) (pc x 0) (pc x 1) (pc x 2) (pc x 3) (pc x 4) (pc x 5) (pc x 6) (pc x 7)

theorem p13 (x0 x1 x2 x3 x4 x5 x6 x7 : FVec Ideal S1x256x512 .bf16) (j : S256x512.Idx) :
    k0_pay13 (F := Ideal) x0 x1 x2 x3 x4 x5 x6 x7 j
      = (x0 (ix3 0 (j 0) (j 1)) + x1 (ix3 0 (j 0) (j 1)) + x2 (ix3 0 (j 0) (j 1)) + x3 (ix3 0 (j 0) (j 1)) + x4 (ix3 0 (j 0) (j 1))
          + x5 (ix3 0 (j 0) (j 1)) + x6 (ix3 0 (j 0) (j 1)) + x7 (ix3 0 (j 0) (j 1)) : EReal) := by
  pointwise [k0_pay13]

theorem tot_eq (x : Pieces) (j : S256x512.Idx) : tot x j = ∑ k : Fin 8, x (ix3 k (j 0) (j 1)) := (p13 _ _ _ _ _ _ _ _ j).trans (sum8 x (j 0) (j 1))

theorem p1 (g u : FVec Ideal S256x512 .f32) (j : S256x512.Idx) :
    k0_pay1 (F := Ideal) g (k0_pay14 (F := Ideal) u) (FloatOps.ofBits .f32 0x3F666666#32) j = mom (u j) (g j) := by
  pointwise [k0_pay1, k0_pay14, mom]
theorem p2 (g v : FVec Ideal S256x512 .f32) (j : S256x512.Idx) : k0_pay2 (F := Ideal) g v j = vel (v j) (g j) := by
  pointwise [k0_pay2, vel]
theorem p3 (g u v w : FVec Ideal S256x512 .f32) (j : S256x512.Idx) :
    k0_pay3 (F := Ideal) g (k0_pay14 (F := Ideal) u) (FloatOps.ofBits .f32 0x3F666666#32) v w j = step (w j) (u j) (v j) (g j) := by
  pointwise [k0_pay3, p2, step]
  exact congrArg (fun z => _ * (Ideal.div (Ideal.div z _) _ + _)) (p1 g u j)

theorem flat (y : FVec Ideal S4x1024x512 .f32) (i : S4096x512.Idx) :
    (shapeCast S4096x512 y shapeCasts_S4x1024x512_S4096x512 : FVec Ideal S4096x512 .f32) i = y (at3 i) :=
  shapeCast_apply y shapeCasts_S4x1024x512_S4096x512 i (at3 i) (by
    rewrite [Shape.rowMajor_val_three, Shape.rowMajor_val_two]
    have h0 : (i 0).val < 4096 := (i 0).isLt
    show ((i 0).val / 1024 * 1024 + (i 0).val % 1024) * 512 + (i 1).val = (i 0).val * 512 + (i 1).val
    omega)

theorem w_eq (i : S4096x512.Idx) : (V m c main_v0 : FVec Ideal S4096x512 .f32) i = W m c (at3 i) := by
  unfold V hostOps0; after_results; exact flat (W m c) i
theorem u_eq (i : S4096x512.Idx) : (V m c main_v1 : FVec Ideal S4096x512 .f32) i = U m c (at3 i) := by
  unfold V hostOps0; after_results; exact flat (U m c) i
theorem q_eq (i : S4096x512.Idx) : (V m c main_v2 : FVec Ideal S4096x512 .f32) i = Q m c (at3 i) := by
  unfold V hostOps0; after_results; exact flat (Q m c) i

theorem idx : ∀ t : Fin cfg0.N, win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ t.val < 16 :=
  (by decide +kernel : ∀ t : Fin grid0.N, _)
theorem idx_layer : ∀ t : Fin cfg0.N, (t.val / 4 = 0 → win0_0.index t = ![0, t.val % 4, 0]) ∧ (t.val / 4 = 1 → win0_1.index t = ![0, t.val % 4, 0])
    ∧ (t.val / 4 = 2 → win0_2.index t = ![0, t.val % 4, 0]) ∧ (t.val / 4 = 3 → win0_3.index t = ![0, t.val % 4, 0]) :=
  (by decide +kernel : ∀ t : Fin grid0.N, _)

theorem lt16 (t : Fin cfg0.N) : t.val < 16 := (idx t).2.2.2.2.2.2.2

/-- The flat arrays' entry that point `t` works on, and the layer's row. -/
def flatAt (t : Fin cfg0.N) (j : S256x512.Idx) : S4096x512.Idx :=
  ix2 ⟨256 * t.val + (j 0).val, by have := lt16 t; have : (j 0).val < 256 := (j 0).isLt; omega⟩ (j 1)
def row (t : Fin cfg0.N) (i : Fin 256) : Fin 1024 := ⟨256 * (t.val % 4) + i.val, by omega⟩

/-- The blocks a point reads. -/
abbrev bw (t : Fin cfg0.N) : FVec Ideal S256x512 .f32 := iblk m c 4 t
abbrev bu (t : Fin cfg0.N) : FVec Ideal S256x512 .f32 := iblk m c 5 t
abbrev bq (t : Fin cfg0.N) : FVec Ideal S256x512 .f32 := iblk m c 6 t
def bl (t : Fin cfg0.N) : Fin 4 → FVec Ideal S8x256x512 .bf16
  | 0 => iblk m c 0 t
  | 1 => iblk m c 1 t
  | 2 => iblk m c 2 t
  | 3 => iblk m c 3 t

theorem bw_eq (t : Fin cfg0.N) (j : S256x512.Idx) : bw m c t j = W m c (at3 (flatAt t j)) := by
  refine Eq.trans (b := (V m c main_v0 : FVec Ideal S4096x512 .f32) (flatAt t j)) ?_ (w_eq m c _)
  blk_ext [bw, iblk, flatAt, idx t]
theorem bu_eq (t : Fin cfg0.N) (j : S256x512.Idx) : bu m c t j = U m c (at3 (flatAt t j)) := by
  refine Eq.trans (b := (V m c main_v1 : FVec Ideal S4096x512 .f32) (flatAt t j)) ?_ (u_eq m c _)
  blk_ext [bu, iblk, flatAt, idx t]
theorem bq_eq (t : Fin cfg0.N) (j : S256x512.Idx) : bq m c t j = Q m c (at3 (flatAt t j)) := by
  refine Eq.trans (b := (V m c main_v2 : FVec Ideal S4096x512 .f32) (flatAt t j)) ?_ (q_eq m c _)
  blk_ext [bq, iblk, flatAt, idx t]

theorem bl_eq (t : Fin cfg0.N) (l : Fin 4) (h : t.val / 4 = l.val) (j : S8x256x512.Idx) : bl m c t l j = layer m c l (ix3 (j 0) (row t (j 1)) (j 2)) := by
  obtain ⟨e0, e1, e2, e3⟩ := idx_layer t
  fin_cases l
  · refine Eq.trans (b := ((cfg0.win 0).blk t).view.read (Elt Ideal) (A0 m c) j) (congrArg (fun f => ((cfg0.win 0).blk t).view.read (Elt Ideal) f j) (V_main_arg0 m c)) ?_
    blk_ext [row, e0 h]
  · refine Eq.trans (b := ((cfg0.win 1).blk t).view.read (Elt Ideal) (A1 m c) j) (congrArg (fun f => ((cfg0.win 1).blk t).view.read (Elt Ideal) f j) (V_main_arg1 m c)) ?_
    blk_ext [row, e1 h]
  · refine Eq.trans (b := ((cfg0.win 2).blk t).view.read (Elt Ideal) (A2 m c) j) (congrArg (fun f => ((cfg0.win 2).blk t).view.read (Elt Ideal) f j) (V_main_arg2 m c)) ?_
    blk_ext [row, e2 h]
  · refine Eq.trans (b := ((cfg0.win 3).blk t).view.read (Elt Ideal) (A3 m c) j) (congrArg (fun f => ((cfg0.win 3).blk t).view.read (Elt Ideal) f j) (V_main_arg3 m c)) ?_
    blk_ext [row, e3 h]

theorem g_eq (t : Fin cfg0.N) (l : Fin 4) (h : t.val / 4 = l.val) (j : S256x512.Idx) : tot (bl m c t l) j = G m c (at3 (flatAt t j)) := by
  refine (tot_eq _ j).trans (Finset.sum_congr rfl fun k _ => (bl_eq m c t l h _).trans ?_)
  have hj : (j 0).val < 256 := (j 0).isLt
  have e : at3 (flatAt t j) = ix3 l (row t (j 0)) (j 1) := by
    funext a
    apply Fin.ext
    match a with
    | 0 => show (256 * t.val + (j 0).val) / 1024 = l.val; omega
    | 1 => show (256 * t.val + (j 0).val) % 1024 = 256 * (t.val % 4) + (j 0).val; omega
    | 2 => rfl
  rw [e]
  rfl

/-- What a point leaves in its four blocks, from the sum of its layer's pieces. -/
theorem outs (t : Fin cfg0.N) (l : Fin 4) (h : t.val / 4 = l.val) (j : S256x512.Idx) :
    (outsAt0 m c t.val t.isLt).1 j = tot (bl m c t l) j
    ∧ (outsAt0 m c t.val t.isLt).2.1 j = k0_pay3 (F := Ideal) (tot (bl m c t l)) (k0_pay14 (F := Ideal) (bu m c t)) (FloatOps.ofBits .f32 0x3F666666#32) (bq m c t) (bw m c t) j
    ∧ (outsAt0 m c t.val t.isLt).2.2.1 j = k0_pay1 (F := Ideal) (tot (bl m c t l)) (k0_pay14 (F := Ideal) (bu m c t)) (FloatOps.ofBits .f32 0x3F666666#32) j
    ∧ (outsAt0 m c t.val t.isLt).2.2.2 j = k0_pay2 (F := Ideal) (tot (bl m c t l)) (bq m c t) j := by
  have ht := lt16 t
  fin_cases l
  · have h' : t.val / 4 = 0 := h
    rw [outsAt0_A m c t (by omega) (by omega) (by omega) (by omega)]
    refine ⟨?_, ?_, ?_, ?_⟩ <;> (frame_open; frame_out; rfl)
  · have h' : t.val / 4 = 1 := h
    rw [outsAt0_B m c t (by omega) (by omega) (by omega) (by omega)]
    refine ⟨?_, ?_, ?_, ?_⟩ <;> (frame_open; frame_out; rfl)
  · have h' : t.val / 4 = 2 := h
    rw [outsAt0_C m c t (by omega) (by omega) (by omega) (by omega)]
    refine ⟨?_, ?_, ?_, ?_⟩ <;> (frame_open; frame_out; rfl)
  · have h' : t.val / 4 = 3 := h
    rw [outsAt0_D m c t (by omega) (by omega) (by omega) (by omega)]
    refine ⟨?_, ?_, ?_, ?_⟩ <;> (frame_open; frame_out; rfl)

/-- The same, from the arguments. -/
theorem leaves (t : Fin cfg0.N) (j : S256x512.Idx) :
    (outsAt0 m c t.val t.isLt).1 j = GG m c (flatAt t j) ∧ (outsAt0 m c t.val t.isLt).2.1 j = DD m c (flatAt t j)
    ∧ (outsAt0 m c t.val t.isLt).2.2.1 j = MM m c (flatAt t j) ∧ (outsAt0 m c t.val t.isLt).2.2.2 j = VV m c (flatAt t j) := by
  have ht := lt16 t
  obtain ⟨o7, o8, o9, o10⟩ := outs m c t ⟨t.val / 4, by omega⟩ rfl j
  have g := g_eq m c t ⟨t.val / 4, by omega⟩ rfl j
  refine ⟨o7.trans g, o8.trans ((p3 _ _ _ _ j).trans ?_), o9.trans ((p1 _ _ j).trans ?_), o10.trans ((p2 _ _ j).trans ?_)⟩
  · rw [g, bw_eq, bu_eq, bq_eq]; rfl
  · rw [g, bu_eq]; rfl
  · rw [g, bq_eq]; rfl

theorem fin_g : (dats m 0 c).arrAt 7 cfg0.N = (GG m c : FVec Ideal S4096x512 .f32) := by
  refine (dats m 0 c).arrAt_eq_of_covers 7 _ (by decide +kernel) fun t hf y => ?_
  blk_simp
  rw [after0_7]
  refine (leaves m c t y).1.trans ?_
  blk_ext [flatAt, idx t]
theorem fin_d : (dats m 0 c).arrAt 8 cfg0.N = (DD m c : FVec Ideal S4096x512 .f32) := by
  refine (dats m 0 c).arrAt_eq_of_covers 8 _ (by decide +kernel) fun t hf y => ?_
  blk_simp
  rw [after0_8]
  refine (leaves m c t y).2.1.trans ?_
  blk_ext [flatAt, idx t]
theorem fin_m : (dats m 0 c).arrAt 9 cfg0.N = (MM m c : FVec Ideal S4096x512 .f32) := by
  refine (dats m 0 c).arrAt_eq_of_covers 9 _ (by decide +kernel) fun t hf y => ?_
  blk_simp
  rw [after0_9]
  refine (leaves m c t y).2.2.1.trans ?_
  blk_ext [flatAt, idx t]
theorem fin_v : (dats m 0 c).arrAt 10 cfg0.N = (VV m c : FVec Ideal S4096x512 .f32) := by
  refine (dats m 0 c).arrAt_eq_of_covers 10 _ (by decide +kernel) fun t hf y => ?_
  blk_simp
  rw [after0_10]
  refine (leaves m c t y).2.2.2.trans ?_
  blk_ext [flatAt, idx t]
end

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)
theorem preserves : Cert.preserves_Kernel12_Kernel12Ideal := trivial

variable (m : (ℓ : Loc Cert.Kernel12Ideal.nD Cert.Kernel12Ideal.τ Cert.Kernel12Ideal.sig) → Buf (Elt Ideal) ℓ) (c : Dev Cert.Kernel12Ideal.nD)

open Cert.Reference12Ideal Cert.Reference12Ideal.Read

/-- One layer's pieces summed, as the reference stacks them. -/
theorem ref_sum (x : FVec Ideal S8x1024x512 .bf16) (i : S1x1024x512.Idx) : val_main_v8 (F := Ideal) x i = ∑ k : Fin 8, x (ix3 k (i 1) (i 2)) := by
  rw [val_main_v8_apply, val_main_v1_apply, val_main_cst_apply]
  refine (congrArg (· + _) Ideal.ofBits_zero_f32).trans ((zero_add _).trans (Finset.sum_congr rfl fun k _ => ?_))
  rw [val_main_v0_apply]
  exact congrArg x (funext fun a => by fin_cases a <;> rfl)

theorem piece (l : Fin 4) (j : S4x1024x512.Idx) :
    PieceAt (t := S4x1024x512) 0 j (G m c j) S1x1024x512 (val_main_v8 (F := Ideal) (layer m c l)) l.val := by
  intro hl hr i h0 hb
  refine (ref_sum _ i).trans (Finset.sum_congr rfl fun k _ => ?_)
  have e0 : j 0 = l := Fin.ext hl
  have e1 : i 1 = j 1 := Fin.ext (hb 1 (by decide))
  have e2 : i 2 = j 2 := Fin.ext (hb 2 (by decide))
  rw [e0, e1, e2]

theorem ref_g (j : S4x1024x512.Idx) : val_main_v12 (F := Ideal) (A0 m c) (A1 m c) (A2 m c) (A3 m c) j = G m c j := by
  unfold val_main_v12
  exact concatenate_unit_eq _ _ _ j _ rfl ⟨piece m c 0 j, piece m c 1 j, piece m c 2 j, piece m c 3 j, trivial⟩

theorem ref_m (j : S4x1024x512.Idx) : val_main_v17 (F := Ideal) (A0 m c) (A1 m c) (A2 m c) (A3 m c) (U m c) j = mom (U m c j) (G m c j) := by
  rw [← ref_g]
  rfl
theorem ref_v (j : S4x1024x512.Idx) : val_main_v23 (F := Ideal) (A0 m c) (A1 m c) (A2 m c) (A3 m c) (Q m c) j = vel (Q m c j) (G m c j) := by
  rw [← ref_g]
  rfl
theorem ref_d (j : S4x1024x512.Idx) :
    val_main_v36 (F := Ideal) (A0 m c) (A1 m c) (A2 m c) (A3 m c) (W m c) (U m c) (Q m c) j = step (W m c j) (U m c j) (Q m c j) (G m c j) := by
  rw [← ref_g]
  rfl

theorem algebraic : Cert.algebraic_Kernel12Ideal_Reference12Ideal := by
  intro m ρ m' ρ' _ hag
  refine ⟨fun c => GG m c, fun c => DD m c, fun c => MM m c, fun c => VV m c,
    (θ_run Cert.Kernel12Ideal.defs _ _).mono (fun r h c => ⟨(h c).1.trans (fin_g m c), (h c).2.1.trans (fin_d m c), (h c).2.2.1.trans (fin_m m c), (h c).2.2.2.1.trans (fin_v m c), (h c).2.2.2.2⟩)
      (Cert.Kernel12Ideal.Value.run_blocks (F := Ideal) m ρ), ?_⟩
  refine (θ_run Cert.Reference12Ideal.defs _ _).mono (fun r h c => ?_) (Cert.Reference12Ideal.Value.run (F := Ideal) m' ρ')
  obtain ⟨g0, g1, g2, g3, g4, g5, g6⟩ := hag c
  refine ⟨(h c).1.trans ((val_main_v37_eq _ _ _ _).trans ?_), (h c).2.1.trans ((val_main_v38_eq m' c).trans ?_), (h c).2.2.1.trans ((val_main_v39_eq _ _ _ _ _).trans ?_),
    (h c).2.2.2.1.trans ((val_main_v40_eq _ _ _ _ _).trans ?_), (h c).2.2.2.2⟩
  · rw [g0, g1, g2, g3]; exact funext fun i => (flat _ i).trans (ref_g m c (at3 i))
  · rw [g0, g1, g2, g3, g4, g5, g6]; exact funext fun i => (flat _ i).trans (ref_d m c (at3 i))
  · rw [g0, g1, g2, g3, g5]; exact funext fun i => (flat _ i).trans (ref_m m c (at3 i))
  · rw [g0, g1, g2, g3, g6]; exact funext fun i => (flat _ i).trans (ref_v m c (at3 i))

end Adam

end
-- ==== Proof.Loss.lean ====
/- The loss's call: the rows' gradient and the loss by feature. -/
module

public import proofs.«01_k».proof.Defs
public import proofs.«01_k».proof.Proof.Gen.Kernel13.Frame
public import proofs.«01_k».proof.Proof.Gen.Kernel13Ideal.Value
public import proofs.«01_k».proof.Proof.Gen.Reference13Ideal.Read
public import proofs.«01_k».proof.Proof.Runs
public import proofs.«01_k».proof.Proof.BwdMath
public import Idealize.ShloMosaic.Lib.Pipeline.ReadBack
public import Idealize.ShloMosaic.Adequacy

@[expose] public section

set_option maxRecDepth 16384

noncomputable section

open Idealize.ShloMosaic Idealize.ShloMosaic.TcCoe Idealize.SL.Sem

namespace Loss

theorem c_2048 : Ideal.ofBits .f32 0x3A000000#32 = ((1 / 2048 : ℝ) : EReal) := by
  simp [Ideal.ofBits, Ideal.ieee, -EReal.coe_mul]; norm_num

section
open Cert.Kernel13Ideal Cert.Kernel13Ideal.Gen
variable (m : (ℓ : Loc nD τ sig) → Buf (Elt Ideal) ℓ) (c : Dev nD)

/-- The two arguments: the rows and their targets. -/
abbrev A0 : FVec Ideal S8192x1024 .f32 := m ((c : Thread nD τ).loc main_arg0)
abbrev A1 : FVec Ideal S8192x1024 .f32 := m ((c : Thread nD τ).loc main_arg1)

/-- The difference, the rows' gradient and the loss by feature. -/
def E (i : S8192x1024.Idx) : EReal := A0 m c i - A1 m c i
def DY (i : S8192x1024.Idx) : EReal := Ideal.div (E m c i) (Ideal.ofBits .f32 0x44800000#32)
def LS (i : S1x1024.Idx) : EReal := (∑ k : Fin 8192, E m c (ix2 k (i 1)) * E m c (ix2 k (i 1))) * ((1 / 2048 : ℝ) : EReal)

theorem p2 (x y : FVec Ideal S1024x1024 .f32) (j : S1024x1024.Idx) :
    k0_pay2 (F := Ideal) x y j = Ideal.div (x j - y j) (Ideal.ofBits .f32 0x44800000#32) := by
  pointwise [k0_pay2, k0_pay1]
theorem p3 (x y : FVec Ideal S1024x1024 .f32) (j : S1x1024.Idx) :
    k0_pay3 (F := Ideal) x y j
      = (∑ k : Fin 1024, (x (ix2 k (j 1)) - y (ix2 k (j 1)) : EReal) * (x (ix2 k (j 1)) - y (ix2 k (j 1)))) * Ideal.ofBits .f32 0x3A000000#32 := by
  pointwise [k0_pay3, k0_pay1]
theorem p4 (x y : FVec Ideal S1024x1024 .f32) (z : FVec Ideal S1x1024 .f32) (j : S1x1024.Idx) :
    k0_pay4 (F := Ideal) x y z j = (z j + k0_pay3 (F := Ideal) x y j : EReal) := by
  pointwise [k0_pay4]

theorem idx : ∀ t : Fin cfg0.N, win0_0.index t = ![t.val, 0] ∧ win0_1.index t = ![t.val, 0] ∧ win0_2.index t = ![t.val, 0] ∧ win0_3.index t = ![0, 0] ∧ t.val < 8 :=
  (by decide +kernel : ∀ t : Fin grid0.N, _)

theorem lt8 (t : Fin cfg0.N) : t.val < 8 := (idx t).2.2.2.2

/-- Row `i` of the rows that point `t` works on. -/
def row (t : Fin cfg0.N) (i : Fin 1024) : Fin 8192 := ⟨1024 * t.val + i.val, by have := lt8 t; omega⟩

/-- The blocks a point reads. -/
abbrev bx (t : Fin cfg0.N) : FVec Ideal S1024x1024 .f32 := iblk m c 0 t
abbrev by_ (t : Fin cfg0.N) : FVec Ideal S1024x1024 .f32 := iblk m c 1 t

theorem bx_eq (t : Fin cfg0.N) (j : S1024x1024.Idx) : bx m c t j = A0 m c (ix2 (row t (j 0)) (j 1)) := by
  refine Eq.trans (b := ((cfg0.win 0).blk t).view.read (Elt Ideal) (A0 m c) j) (congrArg (fun f => ((cfg0.win 0).blk t).view.read (Elt Ideal) f j) (V_main_arg0 m c)) ?_
  blk_ext [row, idx t]
theorem by_eq (t : Fin cfg0.N) (j : S1024x1024.Idx) : by_ m c t j = A1 m c (ix2 (row t (j 0)) (j 1)) := by
  refine Eq.trans (b := ((cfg0.win 1).blk t).view.read (Elt Ideal) (A1 m c) j) (congrArg (fun f => ((cfg0.win 1).blk t).view.read (Elt Ideal) f j) (V_main_arg1 m c)) ?_
  blk_ext [row, idx t]
theorem e_eq (t : Fin cfg0.N) (j : S1024x1024.Idx) : (bx m c t j - by_ m c t j : EReal) = E m c (ix2 (row t (j 0)) (j 1)) :=
  congrArg₂ (· - ·) (bx_eq m c t j) (by_eq m c t j)

/-- One point's share of the loss, before the factor. -/
def tile (s : ℕ) (j : Fin 1024) : EReal :=
  ∑ k : Fin 1024, if h : s < 8 then E m c (ix2 ⟨1024 * s + k.val, by omega⟩ j) * E m c (ix2 ⟨1024 * s + k.val, by omega⟩ j) else 0

theorem tile_eq (t : Fin cfg0.N) (j : S1x1024.Idx) : k0_pay3 (F := Ideal) (bx m c t) (by_ m c t) j = tile m c t.val (j 1) * ((1 / 2048 : ℝ) : EReal) := by
  refine (p3 _ _ j).trans (congrArg₂ (· * ·) (Finset.sum_congr rfl fun k _ => ?_) c_2048)
  rw [dif_pos (lt8 t)]
  exact congrArg₂ (· * ·) (e_eq m c t (ix2 k (j 1))) (e_eq m c t (ix2 k (j 1)))

theorem all (j : S1x1024.Idx) : ∑ s ∈ Finset.range 8, tile m c s (j 1) * ((1 / 2048 : ℝ) : EReal) = LS m c j := by
  rw [Finset.sum_range, Bwd.mul_sum' _ (by norm_num)]
  refine congrArg (· * _) ?_
  refine Eq.trans (Finset.sum_congr rfl fun s _ => Finset.sum_congr rfl fun k _ => dif_pos s.isLt) ?_
  refine (Fin.sum_divmod_congr (N := 8192) (A := 8) (S := 1024) (f := fun s k => E m c (ix2 ⟨1024 * s.val + k.val, by omega⟩ (j 1)) * E m c (ix2 ⟨1024 * s.val + k.val, by omega⟩ (j 1)))
    (fun r h0 h1 => ?_) (by norm_num)).symm
  refine congrArg (fun i => E m c (ix2 i (j 1)) * E m c (ix2 i (j 1))) (Fin.ext ?_)
  show (r : ℕ) = 1024 * ((r : ℕ) / 1024) + (r : ℕ) % 1024
  omega

/-- What a point leaves in the rows' gradient's block. -/
theorem out_y (t : Fin cfg0.N) (j : S1024x1024.Idx) : (outsAt0 m c t.val t.isLt).1 j = DY m c (ix2 (row t (j 0)) (j 1)) := by
  have := lt8 t
  refine Eq.trans (b := k0_pay2 (F := Ideal) (bx m c t) (by_ m c t) j) ?_ ((p2 _ _ j).trans (congrArg (Ideal.div · _) (e_eq m c t j)))
  by_cases h : t.val % 8 = 0
  · rw [outsAt0_A m c t h (by omega)]
    frame_open
    frame_out
  · rw [outsAt0_B m c t h (by omega)]
    frame_open
    frame_out

abbrev before (t : Fin cfg0.N) := outsAt0 m c (t.val - 1) (lt_of_le_of_lt (Nat.sub_le _ _) t.isLt)

theorem acc_A (t : Fin cfg0.N) (h : t.val % 8 = 0) (j : S1x1024.Idx) : (outsAt0 m c t.val t.isLt).2 j = tile m c t.val (j 1) * ((1 / 2048 : ℝ) : EReal) := by
  have := lt8 t
  rw [outsAt0_A m c t h (by omega)]
  frame_open
  frame_out
  exact Eq.trans (b := k0_pay3 (F := Ideal) (bx m c t) (by_ m c t) j) (by sl_kernel_rfl) (tile_eq m c t j)
theorem acc_B (t : Fin cfg0.N) (h : ¬ t.val % 8 = 0) (j : S1x1024.Idx) :
    (outsAt0 m c t.val t.isLt).2 j = ((before m c t).2 j + tile m c t.val (j 1) * ((1 / 2048 : ℝ) : EReal) : EReal) := by
  rw [outsAt0_B m c t h (by omega)]
  frame_open
  frame_out
  refine Eq.trans (b := k0_pay4 (F := Ideal) (bx m c t) (by_ m c t) (before m c t).2 j) rfl ?_
  exact (p4 _ _ _ j).trans (congrArg₂ (· + ·) rfl (tile_eq m c t j))

/-- The loss after point `n`. -/
theorem st (n : ℕ) (hn : n < cfg0.N) (j : S1x1024.Idx) :
    (outsAt0 m c n hn).2 j = ∑ s ∈ Finset.range (n + 1), tile m c s (j 1) * ((1 / 2048 : ℝ) : EReal) := by
  induction n with
  | zero => rw [Finset.sum_range_succ, Finset.sum_range_zero, zero_add]; exact acc_A m c ⟨0, hn⟩ rfl j
  | succ n ih =>
    have := lt8 ⟨n + 1, hn⟩
    rw [Finset.sum_range_succ]
    refine (acc_B m c ⟨n + 1, hn⟩ (by show ¬ (n + 1) % 8 = 0; simp only at this; omega) j).trans (congrArg (· + tile m c (n + 1) (j 1) * _) ?_)
    exact ih _

theorem fin_y : (dats m 0 c).arrAt 2 cfg0.N = (DY m c : FVec Ideal S8192x1024 .f32) := by
  refine (dats m 0 c).arrAt_eq_of_covers 2 _ (by decide +kernel) fun t hf y => ?_
  blk_simp
  rw [after0_2]
  refine (out_y m c t y).trans ?_
  blk_ext [row, idx t]

theorem fin_l : (dats m 0 c).arrAt 3 cfg0.N = (LS m c : FVec Ideal S1x1024 .f32) := by
  refine (dats m 0 c).arrAt_eq_of_covers 3 _ (by decide +kernel) fun t hf y => ?_
  blk_simp
  rw [after0_3]
  have ht := lt8 t
  have h7 : t.val = 7 := by have := (flush0_3 t).mp hf; omega
  refine (st m c t.val t.isLt y).trans ?_
  rw [show t.val + 1 = 8 by omega, all]
  blk_ext [idx t]
end

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)
theorem preserves : Cert.preserves_Kernel13_Kernel13Ideal := trivial

variable (m : (ℓ : Loc Cert.Kernel13Ideal.nD Cert.Kernel13Ideal.τ Cert.Kernel13Ideal.sig) → Buf (Elt Ideal) ℓ) (c : Dev Cert.Kernel13Ideal.nD)

open Cert.Reference13Ideal Cert.Reference13Ideal.Read

/-- The factors of the derivative and of the mean, multiplied out. -/
theorem factor_y (e : EReal) :
    Ideal.div (Ideal.ofBits .f32 0x3F000000#32 * Ideal.ofBits .f32 0x3F800000#32) (Ideal.ofBits .f32 0x44800000#32) * (Ideal.ofBits .f32 0x40000000#32 * e)
      = Ideal.div e (Ideal.ofBits .f32 0x44800000#32) := by
  rw [Mix.c_half, Mix.c_one, Mix.c_two, Bwd.c_1024, Ideal.div_coe (by norm_num), Ideal.div_coe (by norm_num), ← mul_assoc, mul_comm e,
    ← EReal.coe_mul, ← EReal.coe_mul, ← EReal.coe_mul]
  norm_num
theorem factor_l (s : EReal) :
    Ideal.div (Ideal.ofBits .f32 0x3F000000#32 * s) (Ideal.ofBits .f32 0x44800000#32) = s * ((1 / 2048 : ℝ) : EReal) := by
  rw [Mix.c_half, Bwd.c_1024, Ideal.div_coe (by norm_num), mul_comm _ s, mul_assoc, ← EReal.coe_mul]
  norm_num

theorem ref_y (i : S8192x1024.Idx) : val_main_v14 (F := Ideal) (A0 m c) (A1 m c) i = DY m c i := by
  rw [val_main_v14_apply, val_main_v13_apply, val_main_v12_apply, val_main_v10_apply, val_main_v9_apply, val_main_v11_apply, val_main_v3_apply, val_main_v2_apply, val_main_v0_apply,
    val_main_cst_4_apply, val_main_cst_5_apply, val_main_cst_6_apply, val_main_cst_apply]
  exact factor_y (E m c i)

theorem ref_l (i : S1x1024.Idx) : val_main_v22 (F := Ideal) (A0 m c) (A1 m c) i = LS m c i := by
  rw [val_main_v22_apply, val_main_v20_apply, val_main_v19_apply, val_main_v18_apply, val_main_v21_apply, val_main_v17_apply, val_main_cst_7_apply, val_main_cst_8_apply, val_main_cst_9_apply]
  refine (factor_l _).trans (congrArg (· * _) ((congrArg (· + _) Ideal.ofBits_zero_f32).trans ((zero_add _).trans (Finset.sum_congr rfl fun k _ => ?_))))
  rw [val_main_v16_apply, val_main_v15_apply]
  exact congrArg (fun j => E m c j * E m c j) (funext fun a => by fin_cases a <;> rfl)

theorem algebraic : Cert.algebraic_Kernel13Ideal_Reference13Ideal := by
  intro m ρ m' ρ' _ hag
  refine ⟨fun c => DY m c, fun c => LS m c,
    (θ_run Cert.Kernel13Ideal.defs _ _).mono (fun r h c => ⟨(h c).1.trans (fin_y m c), (h c).2.1.trans (fin_l m c), (h c).2.2⟩) (Cert.Kernel13Ideal.Value.run_blocks (F := Ideal) m ρ), ?_⟩
  refine (θ_run Cert.Reference13Ideal.defs _ _).mono (fun r h c => ?_) (Cert.Reference13Ideal.Value.run (F := Ideal) m' ρ')
  obtain ⟨g0, g1⟩ := hag c
  refine ⟨(h c).1.trans ((val_main_v14_eq _ _).trans ?_), (h c).2.1.trans ((val_main_v22_eq _ _).trans ?_), (h c).2.2⟩
  · rw [g0, g1]; exact funext fun i => ref_y m c i
  · rw [g0, g1]; exact funext fun i => ref_l m c i

end Loss

end
-- ==== Proof.ZDw.lean ====
/- The gradient of the even layers' input projection's weights: what the accumulated product holds, and the claims about it. -/
module

public import proofs.«01_k».proof.Defs
public import proofs.«01_k».proof.Proof.Gen.Kernel14.Frame
public import proofs.«01_k».proof.Proof.Gen.Kernel14Ideal.Value
public import proofs.«01_k».proof.Proof.Gen.Reference14Ideal.Read
public import proofs.«01_k».proof.Proof.Runs
public import Idealize.ShloMosaic.Lib.Pipeline.ReadBack
public import Idealize.ShloMosaic.Adequacy

@[expose] public section

set_option maxRecDepth 16384

noncomputable section

open Idealize.ShloMosaic Idealize.ShloMosaic.TcCoe Idealize.SL.Sem

namespace DwZ

section
open Cert.Kernel14Ideal Cert.Kernel14Ideal.Gen
variable (m : (ℓ : Loc nD τ sig) → Buf (Elt Ideal) ℓ) (c : Dev nD)

/-- The two arrays the product takes. -/
abbrev H : FVec Ideal S8192x1024 .bf16 := m ((c : Thread nD τ).loc main_arg0)
abbrev D : FVec Ideal S8192x2048 .bf16 := m ((c : Thread nD τ).loc main_arg1)

/-- The blocks a point reads. -/
abbrev X (t : Fin cfg0.N) : FVec Ideal S2048x1024 .bf16 := iblk m c 0 t
abbrev Y (t : Fin cfg0.N) : FVec Ideal S2048x2048 .bf16 := iblk m c 1 t

/-- One point's share of an entry: 2048 rows' products. -/
def part (t : Fin cfg0.N) (j : S1024x2048.Idx) : EReal :=
  ∑ q : Fin 2048, X m c t (ix2 q (j 0)) * Y m c t (ix2 q (j 1))

theorem p1 (x : FVec Ideal S2048x1024 .bf16) (y : FVec Ideal S2048x2048 .bf16) (j : S1024x2048.Idx) :
    k0_pay1 (F := Ideal) x y j = ∑ q : Fin 2048, x (ix2 q (j 0)) * y (ix2 q (j 1)) := by
  pointwise [k0_pay1]
theorem p2 (x : FVec Ideal S2048x1024 .bf16) (y : FVec Ideal S2048x2048 .bf16) (j : S1024x2048.Idx) :
    k0_pay2 (F := Ideal) x y j = 0 + ∑ q : Fin 2048, x (ix2 q (j 0)) * y (ix2 q (j 1)) := by
  unfold k0_pay2; rw [shapeCast_self, zero_add]; exact p1 x y j
theorem p3 (x : FVec Ideal S2048x1024 .bf16) (y : FVec Ideal S2048x2048 .bf16) (z : FVec Ideal S1024x2048 .f32) (j : S1024x2048.Idx) :
    k0_pay3 (F := Ideal) x y z j = z j + ∑ q : Fin 2048, x (ix2 q (j 0)) * y (ix2 q (j 1)) := by
  unfold k0_pay3; rw [shapeCast_self]; exact congrArg (z j + ·) (p1 x y j)

theorem idx : ∀ t : Fin cfg0.N, win0_0.index t = ![t.val % 4, 0] ∧ win0_1.index t = ![t.val % 4, 0] ∧ win0_2.index t = ![0, 0] ∧ t.val < 4 :=
  (by decide +kernel : ∀ t : Fin grid0.N, _)
theorem lt4 (t : Fin cfg0.N) : t.val < 4 := (idx t).2.2.2

abbrev before (t : Fin cfg0.N) := outsAt0 m c (t.val - 1) (lt_of_le_of_lt (Nat.sub_le _ _) t.isLt)

/-- The sum as a point reads it back. -/
def held (t : Fin cfg0.N) : FVec Ideal S1024x2048 .f32 :=
  View.read (Elt Ideal) (View.whole cc0_scratch0) ((Memref.isWhole_whole cc0_scratch0).unread (before m c t).2)
theorem held_eq (t : Fin cfg0.N) : held m c t = (before m c t).2 := Memref.IsWhole.read_unread _ _

theorem acc_A (t : Fin cfg0.N) (h0 : t.val % 4 = 0) (j : S1024x2048.Idx) : (outsAt0 m c t.val t.isLt).2 j = 0 + part m c t j := by
  have := lt4 t
  rw [outsAt0_A m c t h0 (by omega) (by omega)]
  frame_open
  frame_out
  exact Eq.trans (b := k0_pay2 (F := Ideal) (X m c t) (Y m c t) j) (by sl_kernel_rfl) (p2 _ _ j)
theorem acc_B (t : Fin cfg0.N) (h0 : ¬ t.val % 4 = 0) (j : S1024x2048.Idx) : (outsAt0 m c t.val t.isLt).2 j = (before m c t).2 j + part m c t j := by
  by_cases h2 : t.val % 4 = 3
  · rw [outsAt0_C m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
  · rw [outsAt0_B m c t h0 (by omega) h2]
    frame_open
    frame_out
    exact Eq.trans (b := k0_pay3 (F := Ideal) (X m c t) (Y m c t) (held m c t) j) (by sl_kernel_rfl) ((p3 _ _ _ j).trans (congrArg (fun z => z j + part m c t j) (held_eq m c t)))
theorem out_C (t : Fin cfg0.N) (h2 : t.val % 4 = 3) (j : S1024x2048.Idx) : (outsAt0 m c t.val t.isLt).1 j = (before m c t).2 j + part m c t j := by
  rw [outsAt0_C m c t (by omega) (by omega) h2]
  frame_open
  frame_out
  exact Eq.trans (b := k0_pay3 (F := Ideal) (X m c t) (Y m c t) (held m c t) j) (by sl_kernel_rfl) ((p3 _ _ _ j).trans (congrArg (fun z => z j + part m c t j) (held_eq m c t)))

theorem part_eq (t : Fin cfg0.N) (s : Fin 4) (hs : t.val % 4 = s.val) (j : S1024x2048.Idx) :
    part m c t j = ∑ q : Fin 2048, H m c (ix2 (Runs.row s q) (j 0)) * D m c (ix2 (Runs.row s q) (j 1)) := by
  refine Finset.sum_congr rfl fun q _ => congrArg₂ (· * ·) ?_ ?_
  · blk_ext [iblk, V, Runs.row, idx t, hs]
  · blk_ext [iblk, V, Runs.row, idx t, hs]

/-- The whole product. -/
def G (i : S1024x2048.Idx) : EReal := ∑ k : Fin 8192, H m c (ix2 k (i 0)) * D m c (ix2 k (i 1))

theorem out_eq (t : Fin cfg0.N) (h : t.val % 4 = 3) (j : S1024x2048.Idx) : (outsAt0 m c t.val t.isLt).1 j = G m c j := by
  rw [out_C m c t h j, ← acc_B m c t (by omega) j]
  exact Runs.total (fun n h j => ((outsAt0 m c n h).2 j : EReal)) (part m c) (acc_A m c) (acc_B m c)
    (fun _ j k => H m c (ix2 k (j 0)) * D m c (ix2 k (j 1))) (part_eq m c) t h j

theorem fin_dw : (dats m 0 c).arrAt 2 cfg0.N = (G m c : FVec Ideal S1024x2048 .bf16) := by
  refine (dats m 0 c).arrAt_eq_of_covers 2 _ (by decide +kernel) fun t hf y => ?_
  blk_simp
  rw [after0_2]
  refine (out_eq m c t ((flush0_2 t).mp hf) y).trans ?_
  blk_ext [idx t]
end

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)
theorem preserves : Cert.preserves_Kernel14_Kernel14Ideal := trivial

open Cert.Reference14Ideal Cert.Reference14Ideal.Read in
/-- The reference's result is the product the kernel accumulates. -/
theorem ref_eq (x : FVec Ideal S8192x1024 .bf16) (y : FVec Ideal S8192x2048 .bf16) (i : S1024x2048.Idx) :
    val_main_v6 (F := Ideal) x y i = ∑ k : Fin 8192, x (ix2 k (i 0)) * y (ix2 k (i 1)) := by
  show val_main_v5 (F := Ideal) x y i = _
  rw [val_main_v5_apply, val_main_v4_apply]
  refine Finset.sum_congr rfl fun k _ => (mul_comm _ _).trans (congrArg₂ (· * ·) ?_ ?_)
  · exact congrArg x (funext fun a => by fin_cases a <;> rfl)
  · exact congrArg y (funext fun a => by fin_cases a <;> rfl)

theorem algebraic : Cert.algebraic_Kernel14Ideal_Reference14Ideal := by
  intro m ρ m' ρ' _ hag
  refine ⟨fun c => (Cert.Kernel14Ideal.Gen.dats m 0 c).arrAt 2 Cert.Kernel14Ideal.cfg0.N, Cert.Kernel14Ideal.Value.run_blocks m ρ, ?_⟩
  refine (θ_run Cert.Reference14Ideal.defs _ _).mono (fun r h c => ⟨(h c).1.trans ?_, (h c).2⟩) (Cert.Reference14Ideal.Value.run m' ρ')
  obtain ⟨g0, g1⟩ := hag c
  refine (Cert.Reference14Ideal.Read.val_main_v6_eq _ _).trans ?_
  rw [g0, g1]
  exact (funext fun i => ref_eq _ _ i).trans (fin_dw m c).symm

end DwZ

end
-- ==== Proof.ZBack.lean ====
/- The backward call of the even layers' input projection with its RMS norm. -/
module

public import proofs.«01_k».proof.Defs
public import proofs.«01_k».proof.Proof.Gen.Kernel15.Frame
public import proofs.«01_k».proof.Proof.Gen.Kernel15Ideal.Value
public import proofs.«01_k».proof.Proof.Gen.Reference15Ideal.Read
public import proofs.«01_k».proof.Proof.Runs
public import proofs.«01_k».proof.Proof.BwdMath
public import Idealize.ShloMosaic.Lib.Pipeline.ReadBack
public import Idealize.ShloMosaic.Adequacy

@[expose] public section

set_option maxRecDepth 16384

noncomputable section

open Idealize.ShloMosaic Idealize.ShloMosaic.TcCoe Idealize.SL.Sem

namespace ZB

section
open Cert.Kernel15Ideal Cert.Kernel15Ideal.Gen
variable (m : (ℓ : Loc nD τ sig) → Buf (Elt Ideal) ℓ) (c : Dev nD)

/-- The five arguments: the projection's gradient, the weights, the rows, the gains, the residual's gradient. -/
abbrev A0 : FVec Ideal S8192x2048 .bf16 := m ((c : Thread nD τ).loc main_arg0)
abbrev A1 : FVec Ideal S1024x2048 .f32 := m ((c : Thread nD τ).loc main_arg1)
abbrev A2 : FVec Ideal S8192x1024 .f32 := m ((c : Thread nD τ).loc main_arg2)
abbrev A3 : FVec Ideal S1024 .f32 := m ((c : Thread nD τ).loc main_arg3)
abbrev A4 : FVec Ideal S8192x1024 .f32 := m ((c : Thread nD τ).loc main_arg4)

/-- The mean square of a row plus the small constant, and its inverse root. -/
def ms (i : Fin 8192) : EReal :=
  Ideal.div (∑ k : Fin 1024, A2 m c (ix2 i k) * A2 m c (ix2 i k)) (Ideal.ofBits .f32 1149239296#32) + Ideal.ofBits .f32 897988541#32
def R (i : Fin 8192) : EReal := Ideal.rsqrt (ms m c i)

/-- The normalised rows' gradient, the gains' gradient and the rows' gradient. -/
def T (i : S8192x1024.Idx) : EReal := ∑ q : Fin 2048, A0 m c (ix2 (i 0) q) * A1 m c (ix2 (i 1) q)
def DG (i : S1x1024.Idx) : EReal := ∑ k : Fin 8192, T m c (ix2 k (i 1)) * (A2 m c (ix2 k (i 1)) * R m c k)
def DX (i : S8192x1024.Idx) : EReal :=
  A4 m c i + R m c (i 0) * (T m c i * A3 m c (ix1 (i 1))
    - A2 m c i * R m c (i 0) * Ideal.div (∑ k : Fin 1024, T m c (ix2 (i 0) k) * A3 m c (ix1 k) * (A2 m c (ix2 (i 0) k) * R m c (i 0))) (Ideal.ofBits .f32 1149239296#32))

/-- The inverse root of a block's row. -/
def rr (x : FVec Ideal S512x1024 .f32) (i : Fin 512) : EReal :=
  Ideal.rsqrt (Ideal.div (∑ k : Fin 1024, x (ix2 i k) * x (ix2 i k)) (Ideal.ofBits .f32 1149239296#32) + Ideal.ofBits .f32 897988541#32)

theorem p1 (a b : FVec Ideal S1x1024 .f32) (j : S1x1024.Idx) : k0_pay1 (F := Ideal) a b j = (b j + a j : EReal) := by
  pointwise [k0_pay1]
theorem p2 (d : FVec Ideal S512x2048 .bf16) (w : FVec Ideal S1024x2048 .bf16) (j : S512x1024.Idx) :
    k0_pay2 (F := Ideal) d w j = ∑ q : Fin 2048, d (ix2 (j 0) q) * w (ix2 (j 1) q) := by
  pointwise [k0_pay2]
theorem p3 (x : FVec Ideal S512x1024 .f32) (j : S512x1.Idx) : k0_pay3 (F := Ideal) x j = rr x (j 0) := by
  pointwise [k0_pay3, rr]
theorem p4 (x : FVec Ideal S512x1024 .f32) (j : S512x1024.Idx) : k0_pay4 (F := Ideal) x j = x j * rr x (j 0) := by
  pointwise [k0_pay4, p3]
theorem p5 (d : FVec Ideal S512x2048 .bf16) (w : FVec Ideal S1024x2048 .bf16) (x y : FVec Ideal S512x1024 .f32) (g : FVec Ideal S1x1024 .f32) (j : S512x1024.Idx) :
    k0_pay5 (F := Ideal) d w x g y j = y j + rr x (j 0) * ((k0_pay2 (F := Ideal) d w j : EReal) * g (ix2 0 (j 1))
      - x j * rr x (j 0) * Ideal.div (∑ k : Fin 1024, (k0_pay2 (F := Ideal) d w (ix2 (j 0) k) : EReal) * g (ix2 0 k) * (x (ix2 (j 0) k) * rr x (j 0))) (Ideal.ofBits .f32 1149239296#32)) := by
  pointwise [k0_pay5, p3, p4]
theorem p6 (d : FVec Ideal S512x2048 .bf16) (w : FVec Ideal S1024x2048 .bf16) (x : FVec Ideal S512x1024 .f32) (j : S1x1024.Idx) :
    k0_pay6 (F := Ideal) d w x j = ∑ k : Fin 512, (k0_pay2 (F := Ideal) d w (ix2 k (j 1)) : EReal) * (x (ix2 k (j 1)) * rr x k) := by
  pointwise [k0_pay6, p4]

theorem w_eq : (V m c main_v0 : FVec Ideal S1024x2048 .bf16) = A1 m c := by
  unfold V hostOps0
  after_results
  rfl
theorem g_eq (i : S1x1024.Idx) : (V m c main_v1 : FVec Ideal S1x1024 .f32) i = A3 m c (ix1 (i 1)) := by
  unfold V hostOps0
  after_results
  exact congrArg (A3 m c) (funext fun a => by fin_cases a <;> rfl)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ t.val < 16 :=
  (by decide +kernel : ∀ t : Fin grid0.N, _)

theorem lt16 (t : Fin cfg0.N) : t.val < 16 := (idx t).2.2.2.2.2.2.2

/-- Row `i` of the rows that point `t` works on. -/
def row (t : Fin cfg0.N) (i : Fin 512) : Fin 8192 := ⟨512 * t.val + i.val, by have := lt16 t; omega⟩

/-- The blocks a point reads. -/
abbrev bd (t : Fin cfg0.N) : FVec Ideal S512x2048 .bf16 := iblk m c 0 t
abbrev bw (t : Fin cfg0.N) : FVec Ideal S1024x2048 .bf16 := iblk m c 1 t
abbrev bx (t : Fin cfg0.N) : FVec Ideal S512x1024 .f32 := iblk m c 2 t
abbrev bg (t : Fin cfg0.N) : FVec Ideal S1x1024 .f32 := iblk m c 3 t
abbrev by_ (t : Fin cfg0.N) : FVec Ideal S512x1024 .f32 := iblk m c 4 t

theorem bd_eq (t : Fin cfg0.N) (j : S512x2048.Idx) : bd m c t j = A0 m c (ix2 (row t (j 0)) (j 1)) := by
  refine Eq.trans (b := ((cfg0.win 0).blk t).view.read (Elt Ideal) (A0 m c) j) (congrArg (fun f => ((cfg0.win 0).blk t).view.read (Elt Ideal) f j) (V_main_arg0 m c)) ?_
  blk_ext [row, idx t]
theorem bw_eq (t : Fin cfg0.N) (j : S1024x2048.Idx) : bw m c t j = A1 m c j := by
  refine Eq.trans (b := ((cfg0.win 1).blk t).view.read (Elt Ideal) (A1 m c) j) (congrArg (fun f => ((cfg0.win 1).blk t).view.read (Elt Ideal) f j) (w_eq m c)) ?_
  blk_ext [idx t]
theorem bx_eq (t : Fin cfg0.N) (j : S512x1024.Idx) : bx m c t j = A2 m c (ix2 (row t (j 0)) (j 1)) := by
  refine Eq.trans (b := ((cfg0.win 2).blk t).view.read (Elt Ideal) (A2 m c) j) (congrArg (fun f => ((cfg0.win 2).blk t).view.read (Elt Ideal) f j) (V_main_arg2 m c)) ?_
  blk_ext [row, idx t]
theorem bg_eq (t : Fin cfg0.N) (j : Fin 1024) : bg m c t (ix2 0 j) = A3 m c (ix1 j) := by
  refine Eq.trans (b := (V m c main_v1 : FVec Ideal S1x1024 .f32) (ix2 0 j)) ?_ (g_eq m c _)
  blk_ext [bg, iblk, idx t]
theorem by_eq (t : Fin cfg0.N) (j : S512x1024.Idx) : by_ m c t j = A4 m c (ix2 (row t (j 0)) (j 1)) := by
  refine Eq.trans (b := ((cfg0.win 4).blk t).view.read (Elt Ideal) (A4 m c) j) (congrArg (fun f => ((cfg0.win 4).blk t).view.read (Elt Ideal) f j) (V_main_arg4 m c)) ?_
  blk_ext [row, idx t]

theorem t_eq (t : Fin cfg0.N) (j : S512x1024.Idx) : k0_pay2 (F := Ideal) (bd m c t) (bw m c t) j = T m c (ix2 (row t (j 0)) (j 1)) :=
  (p2 _ _ j).trans (Finset.sum_congr rfl fun q _ => congrArg₂ (· * ·) (bd_eq m c t (ix2 (j 0) q)) (bw_eq m c t (ix2 (j 1) q)))

theorem rr_eq (t : Fin cfg0.N) (i : Fin 512) : rr (bx m c t) i = R m c (row t i) :=
  congrArg (fun z => Ideal.rsqrt (Ideal.div z _ + _)) (Finset.sum_congr rfl fun k _ => congrArg₂ (· * ·) (bx_eq m c t (ix2 i k)) (bx_eq m c t (ix2 i k)))

theorem x_eq (t : Fin cfg0.N) (j : S512x1024.Idx) :
    k0_pay5 (F := Ideal) (bd m c t) (bw m c t) (bx m c t) (bg m c t) (by_ m c t) j = DX m c (ix2 (row t (j 0)) (j 1)) := by
  refine (p5 _ _ _ _ _ j).trans ?_
  have r_ : rr (bx m c t) (j 0) = R m c (row t (j 0)) := rr_eq m c t (j 0)
  refine congrArg₂ (· + ·) (by_eq m c t j) (congrArg₂ (· * ·) r_ (congrArg₂ (· - ·) (congrArg₂ (· * ·) (t_eq m c t j) (bg_eq m c t (j 1))) ?_))
  refine congrArg₂ (· * ·) (congrArg₂ (· * ·) (bx_eq m c t j) r_) (congrArg (Ideal.div · _) (Finset.sum_congr rfl fun k _ => ?_))
  exact congrArg₂ (· * ·) (congrArg₂ (· * ·) (t_eq m c t (ix2 (j 0) k)) (bg_eq m c t k)) (congrArg₂ (· * ·) (bx_eq m c t (ix2 (j 0) k)) r_)

/-- One point's share of the gains' gradient. -/
def tile (s : ℕ) (j : Fin 1024) : EReal :=
  ∑ k : Fin 512, if h : s < 16 then T m c (ix2 ⟨512 * s + k.val, by omega⟩ j) * (A2 m c (ix2 ⟨512 * s + k.val, by omega⟩ j) * R m c ⟨512 * s + k.val, by omega⟩) else 0

theorem tile_eq (t : Fin cfg0.N) (j : S1x1024.Idx) : k0_pay6 (F := Ideal) (bd m c t) (bw m c t) (bx m c t) j = tile m c t.val (j 1) := by
  refine (p6 _ _ _ j).trans (Finset.sum_congr rfl fun k _ => ?_)
  rw [dif_pos (lt16 t), rr_eq]
  exact congrArg₂ (· * ·) (t_eq m c t (ix2 k (j 1))) (congrArg₂ (· * ·) (bx_eq m c t (ix2 k (j 1))) rfl)

theorem g_all (j : S1x1024.Idx) : ∑ s ∈ Finset.range 16, tile m c s (j 1) = DG m c j := by
  rw [Finset.sum_range]
  refine Eq.trans (Finset.sum_congr rfl fun s _ => Finset.sum_congr rfl fun k _ => dif_pos s.isLt) ?_
  refine (Fin.sum_divmod_congr (N := 8192) (A := 16) (S := 512) (f := fun s k => T m c (ix2 ⟨512 * s.val + k.val, by omega⟩ (j 1)) * (A2 m c (ix2 ⟨512 * s.val + k.val, by omega⟩ (j 1)) * R m c ⟨512 * s.val + k.val, by omega⟩))
    (fun r h0 h1 => ?_) (by norm_num)).symm
  refine congrArg (fun i => T m c (ix2 i (j 1)) * (A2 m c (ix2 i (j 1)) * R m c i)) (Fin.ext ?_)
  show (r : ℕ) = 512 * ((r : ℕ) / 512) + (r : ℕ) % 512
  omega

/-- What a point leaves in the rows' gradient's block. -/
theorem out_x (t : Fin cfg0.N) (j : S512x1024.Idx) : (outsAt0 m c t.val t.isLt).1 j = DX m c (ix2 (row t (j 0)) (j 1)) := by
  have := lt16 t
  refine Eq.trans (b := k0_pay5 (F := Ideal) (bd m c t) (bw m c t) (bx m c t) (bg m c t) (by_ m c t) j) ?_ (x_eq m c t j)
  by_cases h : t.val % 16 = 0
  · rw [outsAt0_A m c t h (by omega)]
    frame_open
    frame_out
  · rw [outsAt0_B m c t h (by omega)]
    frame_open
    frame_out

abbrev before (t : Fin cfg0.N) := outsAt0 m c (t.val - 1) (lt_of_le_of_lt (Nat.sub_le _ _) t.isLt)

theorem acc_A (t : Fin cfg0.N) (h : t.val % 16 = 0) (j : S1x1024.Idx) : (outsAt0 m c t.val t.isLt).2 j = tile m c t.val (j 1) := by
  have := lt16 t
  rw [outsAt0_A m c t h (by omega)]
  frame_open
  frame_out
  exact Eq.trans (b := k0_pay6 (F := Ideal) (bd m c t) (bw m c t) (bx m c t) j) (by sl_kernel_rfl) (tile_eq m c t j)
theorem acc_B (t : Fin cfg0.N) (h : ¬ t.val % 16 = 0) (j : S1x1024.Idx) : (outsAt0 m c t.val t.isLt).2 j = ((before m c t).2 j + tile m c t.val (j 1) : EReal) := by
  rw [outsAt0_B m c t h (by omega)]
  frame_open
  frame_out
  refine Eq.trans (b := k0_pay1 (F := Ideal) (k0_pay6 (F := Ideal) (bd m c t) (bw m c t) (bx m c t)) (before m c t).2 j) rfl ?_
  exact (p1 _ _ j).trans (congrArg₂ (· + ·) rfl (tile_eq m c t j))

/-- The gains' gradient after point `n`. -/
theorem st_g (n : ℕ) (hn : n < cfg0.N) (j : S1x1024.Idx) : (outsAt0 m c n hn).2 j = ∑ s ∈ Finset.range (n + 1), tile m c s (j 1) := by
  induction n with
  | zero => rw [Finset.sum_range_succ, Finset.sum_range_zero, zero_add]; exact acc_A m c ⟨0, hn⟩ rfl j
  | succ n ih =>
    have := lt16 ⟨n + 1, hn⟩
    rw [Finset.sum_range_succ]
    refine (acc_B m c ⟨n + 1, hn⟩ (by show ¬ (n + 1) % 16 = 0; simp only at this; omega) j).trans (congrArg (· + tile m c (n + 1) (j 1)) ?_)
    exact ih _

theorem fin_x : (dats m 0 c).arrAt 5 cfg0.N = (DX m c : FVec Ideal S8192x1024 .f32) := by
  refine (dats m 0 c).arrAt_eq_of_covers 5 _ (by decide +kernel) fun t hf y => ?_
  blk_simp
  rw [after0_5]
  refine (out_x m c t y).trans ?_
  blk_ext [row, idx t]

theorem fin_g : (dats m 0 c).arrAt 6 cfg0.N = (DG m c : FVec Ideal S1x1024 .f32) := by
  refine (dats m 0 c).arrAt_eq_of_covers 6 _ (by decide +kernel) fun t hf y => ?_
  blk_simp
  rw [after0_6]
  have ht := lt16 t
  have h15 : t.val = 15 := by have := (flush0_6 t).mp hf; omega
  refine (st_g m c t.val t.isLt y).trans ?_
  rw [show t.val + 1 = 16 by omega, g_all]
  blk_ext [idx t]
end

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)
theorem preserves : Cert.preserves_Kernel15_Kernel15Ideal := trivial

variable (m : (ℓ : Loc Cert.Kernel15Ideal.nD Cert.Kernel15Ideal.τ Cert.Kernel15Ideal.sig) → Buf (Elt Ideal) ℓ) (c : Dev Cert.Kernel15Ideal.nD)

open Cert.Reference15Ideal Cert.Reference15Ideal.Read

/-- The reference's inverse roots and the factor its derivative takes from them. -/
theorem ref_ms (i : S8192x1.Idx) : val_main_v6 (F := Ideal) (A2 m c) i = ms m c (i 0) := by
  rw [val_main_v6_apply, val_main_v4_apply, val_main_v2_apply, val_main_v1_apply, val_main_v3_apply, val_main_v5_apply, val_main_cst_apply, val_main_cst_0_apply, val_main_cst_1_apply]
  refine congrArg (fun z => Ideal.div z _ + _) ?_
  refine (congrArg (· + _) Ideal.ofBits_zero_f32).trans ((zero_add _).trans (Finset.sum_congr rfl fun k _ => ?_))
  rw [val_main_v0_apply]
  exact congrArg (fun j => A2 m c j * A2 m c j) (funext fun a => by fin_cases a <;> rfl)
theorem ref_r (i : S8192x1.Idx) : val_main_v7 (F := Ideal) (A2 m c) i = R m c (i 0) :=
  congrArg Ideal.rsqrt (ref_ms m c i)
theorem ref_q (i : S8192x1.Idx) : val_main_v10 (F := Ideal) (A2 m c) i = Ideal.ofBits .f32 0xBF000000#32 * Ideal.div (R m c (i 0)) (ms m c (i 0)) := by
  rw [val_main_v10_apply, val_main_v8_apply, val_main_v9_apply, val_main_cst_2_apply]
  exact congrArg₂ (fun r v => _ * Ideal.div r v) (ref_r m c i) (ref_ms m c i)

theorem ref_t (i : S8192x1024.Idx) : val_main_v18 (F := Ideal) (A0 m c) (A1 m c) i = T m c i := by
  rw [val_main_v18_apply]
  refine Finset.sum_congr rfl fun k _ => congrArg₂ (· * ·) ?_ ?_
  · rw [val_main_v17_apply]
    exact congrArg (A0 m c) (funext fun a => by fin_cases a <;> rfl)
  · exact congrArg (A1 m c) (funext fun a => by fin_cases a <;> rfl)

theorem ref_g (i : S1x1024.Idx) : val_main_v40 (F := Ideal) (A0 m c) (A1 m c) (A2 m c) i = DG m c i := by
  rw [val_main_v40_apply, val_main_v24_apply, val_main_cst_4_apply, Fin.sum_univ_one, val_main_v21_apply, val_main_v20_apply, val_main_cst_3_apply]
  refine (congrArg₂ (· + ·) Ideal.ofBits_zero_f32 (congrArg (· + _) Ideal.ofBits_zero_f32)).trans ((zero_add _).trans ((zero_add _).trans (Finset.sum_congr rfl fun k _ => ?_)))
  rw [val_main_v19_apply, val_main_v12_apply, val_main_v11_apply, ref_t, ref_r]
  refine (mul_comm _ _).trans (congrArg₂ (fun j r => T m c j * (A2 m c j * R m c r)) (funext fun a => Fin.ext ?_) rfl)
  match a with
  | ⟨0, _⟩ => rfl
  | ⟨1, _⟩ => show 0 * 1024 + (i 1).val = (i 1).val; omega

/-- The normalised rows' gradient after the gains, and its sum against the rows. -/
theorem ref_u (i : S8192x1024.Idx) : val_main_v23 (F := Ideal) (A0 m c) (A1 m c) (A3 m c) i = T m c i * A3 m c (ix1 (i 1)) := by
  rw [val_main_v23_apply, val_main_v22_apply, val_main_v13_apply, ref_t]
  exact congrArg (fun j => T m c i * A3 m c j) (funext fun a => by fin_cases a <;> rfl)
theorem ref_c (i : S8192x1024.Idx) : val_main_v35 (F := Ideal) (A0 m c) (A1 m c) (A2 m c) (A3 m c) i
    = Ideal.div ((∑ k : Fin 1024, A2 m c (ix2 (i 0) k) * (T m c (ix2 (i 0) k) * A3 m c (ix1 k))) * (Ideal.ofBits .f32 0xBF000000#32 * Ideal.div (R m c (i 0)) (ms m c (i 0))))
        (Ideal.ofBits .f32 0x44800000#32) := by
  rw [val_main_v35_apply, val_main_v34_apply, val_main_cst_7_apply, Fin.sum_univ_one, val_main_v33_apply, val_main_v32_apply, val_main_cst_6_apply, val_main_v31_apply, val_main_v27_apply,
    val_main_v26_apply, val_main_cst_5_apply, ref_q]
  refine (congrArg (· + _) Ideal.ofBits_zero_f32).trans ((zero_add _).trans (congrArg (fun s => Ideal.div (s * _) _) ?_))
  refine (congrArg (· + _) Ideal.ofBits_zero_f32).trans ((zero_add _).trans (Finset.sum_congr rfl fun k _ => ?_))
  rw [val_main_v25_apply, ref_u]
  refine congrArg (fun j : S8192x1024.Idx => A2 m c j * (T m c j * A3 m c (ix1 (j 1)))) (funext fun a => Fin.ext ?_)
  match a with
  | ⟨0, _⟩ => show (i 0).val * 1 + 0 = (i 0).val; omega
  | ⟨1, _⟩ => rfl

theorem ref_x (i : S8192x1024.Idx) : val_main_v39 (F := Ideal) (A0 m c) (A1 m c) (A2 m c) (A3 m c) (A4 m c) i = DX m c i := by
  rw [val_main_v39_apply, val_main_v37_apply, val_main_v38_apply, val_main_v36_apply, val_main_v30_apply, val_main_v29_apply, val_main_v28_apply, ref_c, ref_u, ref_r]
  exact (Bwd.dx_eq (ms m c (i 0)) (Bwd.ms_pos fun k => A2 m c (ix2 (i 0) k)) (A4 m c i) (A2 m c i) (T m c i * A3 m c (ix1 (i 1)))
    (fun k => A2 m c (ix2 (i 0) k)) (fun k => T m c (ix2 (i 0) k) * A3 m c (ix1 k))).symm

theorem algebraic : Cert.algebraic_Kernel15Ideal_Reference15Ideal := by
  intro m ρ m' ρ' _ hag
  refine ⟨fun c => DX m c, fun c => DG m c,
    (θ_run Cert.Kernel15Ideal.defs _ _).mono (fun r h c => ⟨(h c).1.trans (fin_x m c), (h c).2.1.trans (fin_g m c), (h c).2.2⟩) (Cert.Kernel15Ideal.Value.run_blocks (F := Ideal) m ρ), ?_⟩
  refine (θ_run Cert.Reference15Ideal.defs _ _).mono (fun r h c => ?_) (Cert.Reference15Ideal.Value.run (F := Ideal) m' ρ')
  obtain ⟨g0, g1, g2, g3, g4⟩ := hag c
  refine ⟨(h c).1.trans ((val_main_v39_eq m' c).trans ?_), (h c).2.1.trans ((val_main_v40_eq _ _ _).trans ?_), (h c).2.2⟩
  · rw [g0, g1, g2, g3, g4]; exact funext fun i => ref_x m c i
  · rw [g0, g1, g2]; exact funext fun i => ref_g m c i

end ZB

end
-- ==== Proof.ZFwdRun.lean ====
/- The even layers' input projection with its RMS norm: its run, at every grid point and over any float values. -/
module

public import proofs.«01_k».proof.Proof.Gen.Kernel16Ideal.Launch
public import proofs.«01_k».proof.Proof.Gen.Kernel16Ideal.Skeleton
public import proofs.«01_k».proof.Proof.Gen.Kernel16Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace ZF

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel16Ideal Cert.Kernel16Ideal.Gen

variable {F : FTy → Type} [FloatOps F]

local notation "𝕄" => MT nD τ sig Unit (Elt F) ℕ (UR sig nD τ) ℕ

abbrev M1 := Memref sig .tc .vmem S1024x1024 .f32
abbrev M2 := Memref sig .tc .vmem S1024x1024 .bf16

/-- A load of a whole block reads the block. -/
theorem ld {e : EltTy} (v : View sig .tc .vmem S1024x1024 e) (f : v.ty.Contents (Elt F)) :
    View.readAt (Elt F) v (Rect.unit ![0, 0] ![1024, 1024] inb_S1024x1024_S1024x1024_0_0).toLoadRect f = v.read (Elt F) f :=
  View.readAt_full v f _
theorem ld1 {e : EltTy} (v : View sig .tc .vmem S1x1024 e) (f : v.ty.Contents (Elt F)) :
    View.readAt (Elt F) v (Rect.unit ![0, 0] ![1, 1024] inb_S1x1024_S1x1024_0_0).toLoadRect f = v.read (Elt F) f :=
  View.readAt_full v f _

set_option maxHeartbeats 1000000 in
/-- The body in the first column: the normalised rows are made. -/
theorem run_A (c : Dev nD) (i : grid0.Coords) (arg2 : M1) (harg2 : arg2.IsWhole) (arg3 : Memref sig .tc .vmem S1x1024 .f32) (harg3 : arg3.IsWhole)
    (arg4 : M2) (harg4 : arg4.IsWhole) (arg5 : M1) (harg5 : arg5.IsWhole) (arg6 : M2) (harg6 : arg6.IsWhole) (hc : k0_cond1 i = 1#1)
    (x0 : Vec F S1024x1024 .f32) (x1 : Vec F S1x1024 .f32) (x2 : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 (k0_pay1 x0 x1) x2) ∗ owns (c : Thread nD τ) arg6 fullShare (k0_pay1 x0 x1)) -∗ K ⟨⟩))
      ⊢ wp frame (wpE (defs₀ (F := F)) Variants.none c none) E (cc0_ab_in_2 i arg2 harg2 arg3 harg3 arg4 harg4 arg5 harg5 arg6 harg6) K := by
  simp only [cc0_ab_in_2_eq_skeleton]; unfold cc0_ab_in_2_skel
  unfold owns
  iintro ⟨⟨%f0, %hf0, H0⟩, ⟨%f1, %hf1, H1⟩, ⟨%f2, %hf2, H2⟩, ⟨%d3, %f3, -, H3⟩, ⟨%d4, %f4, -, H4⟩, Hk⟩
  obtain rfl := harg2.eq_unread hf0; obtain rfl := harg3.eq_unread hf1; obtain rfl := harg4.eq_unread hf2
  sl_exec (disch := sl_exact hc)
  sl_step
  have e3 : run_A.sl.v3 c arg2 harg2 arg3 harg3 arg6 x0 x1 = k0_pay1 x0 x1 := by
    unfold run_A.sl.v3 run_A.sl.H4_1
    exact (View.readCov_full _ _ _ _ _).trans (by simp only [ld, ld1, hf0, hf1])
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact (View.read_writes_full _ _ _ _ _).trans (by simp only [ld, ld1, hf0, hf1, hf2, e3])
  iexists _; isplitr
  swap; · iexact H4
  ipureintro
  exact (View.read_writes_full _ _ _ _ _).trans (by simp only [ld, ld1, hf0, hf1, hf2, e3])

set_option maxHeartbeats 1000000 in
/-- The body past the first column: the normalised rows are kept. -/
theorem run_B (c : Dev nD) (i : grid0.Coords) (arg2 : M1) (harg2 : arg2.IsWhole) (arg3 : Memref sig .tc .vmem S1x1024 .f32) (harg3 : arg3.IsWhole)
    (arg4 : M2) (harg4 : arg4.IsWhole) (arg5 : M1) (harg5 : arg5.IsWhole) (arg6 : M2) (harg6 : arg6.IsWhole) (hc : ¬ k0_cond1 i = 1#1)
    (x0 : Vec F S1024x1024 .f32) (x1 : Vec F S1x1024 .f32) (x2 xh : Vec F S1024x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xh
        ∗ (iprop(owns (c : Thread nD τ) arg2 fullShare x0 ∗ owns (c : Thread nD τ) arg3 fullShare x1 ∗ owns (c : Thread nD τ) arg4 fullShare x2
            ∗ owns (c : Thread nD τ) arg5 fullShare (k0_pay2 xh x2) ∗ owns (c : Thread nD τ) arg6 fullShare xh) -∗ K ⟨⟩))
      ⊢ wp frame (wpE (defs₀ (F := F)) Variants.none c none) E (cc0_ab_in_2 i arg2 harg2 arg3 harg3 arg4 harg4 arg5 harg5 arg6 harg6) K := by
  simp only [cc0_ab_in_2_eq_skeleton]; unfold cc0_ab_in_2_skel
  unfold owns
  iintro ⟨⟨%f0, %hf0, H0⟩, ⟨%f1, %hf1, H1⟩, ⟨%f2, %hf2, H2⟩, ⟨%d3, %f3, -, H3⟩, ⟨%f4, %hf4, H4⟩, Hk⟩
  obtain rfl := harg2.eq_unread hf0; obtain rfl := harg3.eq_unread hf1; obtain rfl := harg4.eq_unread hf2; obtain rfl := harg6.eq_unread hf4
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact (View.read_writes_full _ _ _ _ _).trans (by simp only [ld, ld1, hf0, hf1, hf2, hf4])
  iexists _; isplitr; · ipureintro; exact harg6.read_unread _
  iexact H4

variable (m : (ℓ : Loc nD τ sig) → Buf (Elt F) ℓ) (ρ : Dev nD → PrngReg)

/-- What core `c`'s buffers hold when the grid starts: after the casts of the arguments. -/
abbrev V (c : Dev nD) (b : Ref sig .tc) : Buf (Elt F) ((c : Thread nD τ).loc b) := StableHlo.after hostOps0 (fun b => m (c, b)) b

theorem fresh_ops : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh_ops main_chain

/-- No cast writes an argument. -/
theorem V_arg (c : Dev nD) (b : Ref sig .tc) (h : b = main_arg0 ∨ b = main_arg1 ∨ b = main_arg2) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    rcases h with rfl | rfl | rfl
    all_goals repeat' apply And.intro
    all_goals exact StableHlo.devRef_ne_of_ne (by decide)))

/-- Window `w`'s block at point `t`, of its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The three input blocks at a point. -/
abbrev bx (c : Dev nD) (t : Fin cfg0.N) : Vec F S1024x1024 .f32 := iblk m c 0 t
abbrev bg (c : Dev nD) (t : Fin cfg0.N) : Vec F S1x1024 .f32 := iblk m c 1 t
abbrev bw (c : Dev nD) (t : Fin cfg0.N) : Vec F S1024x1024 .bf16 := iblk m c 2 t

/-- The normalised rows after point `n`. -/
def st (c : Dev nD) : (n : ℕ) → n < cfg0.N → Vec F S1024x1024 .bf16
  | 0, hn => k0_pay1 (bx m c ⟨0, hn⟩) (bg m c ⟨0, hn⟩)
  | n + 1, hn => if (n + 1) % 2 = 0 then k0_pay1 (bx m c ⟨n + 1, hn⟩) (bg m c ⟨n + 1, hn⟩) else st c n (Nat.lt_of_succ_lt hn)

/-- The same at a grid point, and at the point before it. -/
abbrev at_ (c : Dev nD) (t : Fin cfg0.N) := st m c t.val t.isLt
abbrev prev (c : Dev nD) (t : Fin cfg0.N) := st m c (t.val - 1) (Nat.lt_of_le_of_lt (Nat.sub_le _ _) t.isLt)

theorem at_A (c : Dev nD) (t : Fin cfg0.N) (h : t.val % 2 = 0) : at_ m c t = k0_pay1 (bx m c t) (bg m c t) := by
  obtain ⟨n, hn⟩ := t
  cases n with
  | zero => rfl
  | succ n => exact if_pos h

theorem at_B (c : Dev nD) (t : Fin cfg0.N) (h : ¬ t.val % 2 = 0) : at_ m c t = prev m c t := by
  obtain ⟨n, hn⟩ := t
  cases n with
  | zero => exact absurd (Nat.zero_mod _) h
  | succ n => exact if_neg h

/-- The buffers point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (at_ m c t) (bw m c t)
    | ⟨4, _⟩ => at_ m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- An input's buffer holds its block at every point, whether or not the point fetches it. -/
theorem before_in (c : Dev nD) (w : Fin cfg0.W) (hw : w.val < 3) (t : Fin cfg0.N) (d) : (dats m 0 c).before w t d = (dats m 0 c).after w t := by
  match w, hw with
  | 0, _ => exact ((dats m 0 c).before_in_eq_fetched 0 rfl (fun _ => rfl) (fun _ _ _ => rfl) (fun t => by dsimp only [dats]; unfold Dat.blockOf iblk; rfl) t d)
  | 1, _ => exact ((dats m 0 c).before_in_eq_fetched 1 rfl (fun _ => rfl) (fun _ _ _ => rfl) (fun t => by dsimp only [dats]; unfold Dat.blockOf iblk; rfl) t d)
  | 2, _ => exact ((dats m 0 c).before_in_eq_fetched 2 rfl (fun _ => rfl) (fun _ _ _ => rfl) (fun t => by dsimp only [dats]; unfold Dat.blockOf iblk; rfl) t d)

/-- The first column, by the point's number. -/
theorem hcond : ∀ t : Fin cfg0.N, k0_cond1 (grid0.coords t) = 1#1 ↔ t.val % 2 = 0 :=
  (by decide +kernel : ∀ t : Fin grid0.N, k0_cond1 (grid0.coords t) = 1#1 ↔ t.val % 2 = 0)

/-- The normalised rows are stored in the first column only, and kept until the last. -/
theorem idle4 : ∀ t : Fin cfg0.N, cfg0.idle 4 (grid0.coords t) = !decide (t.val % 2 = 0) := by decide +kernel
def tab4 : ℕ → Bool
  | 0 => true
  | n + 1 => (0xAAAA : ℕ).testBit n
theorem tab4_step : ∀ t : Fin cfg0.N,
    tab4 (t.val + 1) = ((cfg0.win 4).flush t || (cfg0.idle 4 (cfg0.grid.coords t) && tab4 t.val)) := by decide +kernel
theorem tab4_false : ∀ t : Fin cfg0.N, ¬ t.val % 2 = 0 → tab4 t.val = false := by decide +kernel
theorem notFresh4 (t : Fin cfg0.N) (h : ¬ t.val % 2 = 0) : cfg0.fresh 4 t.val = false :=
  (Pipeline.Cfg.fresh_tab cfg0 4 tab4 rfl tab4_step t.val (Nat.le_of_lt t.isLt)).trans (tab4_false t h)

theorem before4 (c : Dev nD) (t : Fin cfg0.N) (h : ¬ t.val % 2 = 0) (d) : (dats m 0 c).before 4 t d = prev m c t := by
  rw [Dat.before_out_traj _ 4 rfl (fun _ _ => rfl) (fun t _ hi _ => by
      have h : ¬ t.val % 2 = 0 := fun e => absurd (hi.symm.trans ((idle4 t).trans (show (!decide (t.val % 2 = 0)) = false by simp [e]))) (show ¬ true = false by decide)
      exact at_B m c t h) t.val t rfl d, if_neg (by rw [notFresh4 t h]; exact Bool.false_ne_true)]
  dsimp only [dats]

/-- What a point leaves of the normalised rows: what it found, past the first column. -/
theorem leaves4 (c : Dev nD) (t : Fin cfg0.N) : owns (c : Thread nD τ) (win0_4.stage (cfg0.slots t 4)) fullShare (at_ m c t) ⊢ ((dats m 0 c).leavesExact 4 t : sProp 𝕄) := by
  unfold Dat.leavesExact
  by_cases h : t.val % 2 = 0
  · rw [show cfg0.idle 4 (cfg0.grid.coords t) = false from (idle4 t).trans (by simp [h])]
    dsimp only [dats]; exact .rfl
  · rw [show cfg0.idle 4 (cfg0.grid.coords t) = true from (idle4 t).trans (by simp [h])]
    cases hf : (cfg0.win 4).flush t with
    | false =>
      simp only [before4 m c t h]
      rw [at_B m c t h]
      iintro H; iexists prev m c t; iexact H
    | true => dsimp only [dats]; exact .rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  have b0 : ∀ d, (dats m 0 c).before 0 t d = iblk m c 0 t := before_in m c 0 (by decide) t
  have b1 : ∀ d, (dats m 0 c).before 1 t d = iblk m c 1 t := before_in m c 1 (by decide) t
  have b2 : ∀ d, (dats m 0 c).before 2 t d = iblk m c 2 t := before_in m c 2 (by decide) t
  simp only [b0, b1, b2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (win0_0.stage (cfg0.slots t 0)) fullShare (iblk m c 0 t) from rfl,
    show (dats m 0 c).leavesExact 1 t = owns (c : Thread nD τ) (win0_1.stage (cfg0.slots t 1)) fullShare (iblk m c 1 t) from rfl,
    show (dats m 0 c).leavesExact 2 t = owns (c : Thread nD τ) (win0_2.stage (cfg0.slots t 2)) fullShare (iblk m c 2 t) from rfl,
    show (dats m 0 c).leavesExact 3 t = owns (c : Thread nD τ) (win0_3.stage (cfg0.slots t 3)) fullShare (k0_pay2 (at_ m c t) (bw m c t)) from rfl]
  have L := leaves4 m c t
  by_cases h : t.val % 2 = 0
  · have e := at_A m c t h
    rw [e] at L ⊢
    iintro ⟨HΦ, Ho, ⟨%d0, H0⟩, ⟨%d1, H1⟩, ⟨%d2, H2⟩, ⟨%d3, H3⟩, ⟨%d4, H4⟩⟩
    iapply (run_A c (grid0.coords t) _ _ _ _ _ _ _ _ _ _ ((hcond t).mpr h) (bx m c t) (bg m c t) (bw m c t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply L; iexact H4
  · have e := at_B m c t h
    rw [e] at L ⊢
    simp only [before4 m c t h]
    iintro ⟨HΦ, Ho, ⟨%d0, H0⟩, ⟨%d1, H1⟩, ⟨%d2, H2⟩, ⟨%d3, H3⟩, ⟨%d4, H4⟩⟩
    iapply (run_B c (grid0.coords t) _ _ _ _ _ _ _ _ _ _ (fun k => h ((hcond t).mp k)) (bx m c t) (bg m c t) (bw m c t) (prev m c t) Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iapply L; iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the grid ends at what the points wrote into it, every counter ends at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began. -/
theorem kept (r : PUnit × MemSt nD τ sig (Elt F)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).1 0).trans (((dats m 0 c).arrAt_in 0 rfl _).trans ((A_eq m c 0).trans (V_arg m c main_arg0 (by simp)))),
    ((h c).2 main_arg1 (Pipeline.mem_restRefs_of main_arg1 (by decide) (by decide))).trans (V_arg m c main_arg1 (by simp)),
    ((h c).2 main_arg2 (Pipeline.mem_restRefs_of main_arg2 (by decide) (by decide))).trans (V_arg m c main_arg2 (by simp))⟩

end ZF

end
-- ==== Proof.ZFwd.lean ====
/- The even layers' input projection with its RMS norm: what its two results hold, and the claims about it. -/
module

public import proofs.«01_k».proof.Defs
public import proofs.«01_k».proof.Proof.Gen.Kernel16.Launch
public import proofs.«01_k».proof.Proof.ZFwdRun
public import proofs.«01_k».proof.Proof.Gen.Reference16Ideal.Read
public import proofs.«01_k».proof.Proof.Runs
public import Idealize.ShloMosaic.Lib.Pipeline.ReadBack
public import Idealize.ShloMosaic.Adequacy

@[expose] public section

set_option maxRecDepth 16384

noncomputable section

namespace ZF

open Idealize.ShloMosaic Idealize.ShloMosaic.TcCoe Idealize.SL.Sem

section
open Cert.Kernel16Ideal Cert.Kernel16Ideal.Gen
variable (m : (ℓ : Loc nD τ sig) → Buf (Elt Ideal) ℓ) (c : Dev nD)

/-- The three arguments: the rows, the gains, the weights. -/
abbrev A0 : FVec Ideal S8192x1024 .f32 := m ((c : Thread nD τ).loc main_arg0)
abbrev A1 : FVec Ideal S1024 .f32 := m ((c : Thread nD τ).loc main_arg1)
abbrev A2 : FVec Ideal S1024x2048 .f32 := m ((c : Thread nD τ).loc main_arg2)

/-- The normalised rows and their projection. -/
def H (i : S8192x1024.Idx) : EReal :=
  A0 m c i * Ideal.rsqrt (Ideal.div (∑ k : Fin 1024, A0 m c (ix2 (i 0) k) * A0 m c (ix2 (i 0) k)) (Ideal.ofBits .f32 1149239296#32) + Ideal.ofBits .f32 897988541#32) * A1 m c (ix1 (i 1))
def Z (i : S8192x2048.Idx) : EReal := ∑ k : Fin 1024, H m c (ix2 (i 0) k) * A2 m c (ix2 k (i 1))

theorem p1 (x : FVec Ideal S1024x1024 .f32) (g : FVec Ideal S1x1024 .f32) (j : S1024x1024.Idx) :
    k0_pay1 (F := Ideal) x g j = x j * Ideal.rsqrt (Ideal.div (∑ k : Fin 1024, x (ix2 (j 0) k) * x (ix2 (j 0) k)) (Ideal.ofBits .f32 1149239296#32) + Ideal.ofBits .f32 897988541#32) * g (ix2 0 (j 1)) := by
  pointwise [k0_pay1]
theorem p2 (h w : FVec Ideal S1024x1024 .bf16) (j : S1024x1024.Idx) :
    k0_pay2 (F := Ideal) h w j = ∑ k : Fin 1024, h (ix2 (j 0) k) * w (ix2 k (j 1)) := by
  pointwise [k0_pay2]

theorem g_eq (i : S1x1024.Idx) : (V m c main_v0 : FVec Ideal S1x1024 .f32) i = A1 m c (ix1 (i 1)) := by
  unfold V hostOps0
  after_results
  exact congrArg (A1 m c) (funext fun a => by fin_cases a <;> rfl)
theorem w_eq : (V m c main_v1 : FVec Ideal S1024x2048 .bf16) = A2 m c := by
  unfold V hostOps0
  after_results
  rfl

theorem idx : ∀ t : Fin cfg0.N, win0_0.index t = ![t.val / 2, 0] ∧ win0_1.index t = ![0, 0] ∧ win0_2.index t = ![0, t.val % 2]
    ∧ win0_3.index t = ![t.val / 2, t.val % 2] ∧ win0_4.index t = ![t.val / 2, 0] ∧ t.val < 16 :=
  (by decide +kernel : ∀ t : Fin grid0.N, _)

/-- Row `i` of the rows and column `j` of the columns that point `t` works on. -/
def row (t : Fin cfg0.N) (i : Fin 1024) : Fin 8192 := ⟨1024 * (t.val / 2) + i.val, by have := (idx t).2.2.2.2.2; omega⟩
def col (t : Fin cfg0.N) (j : Fin 1024) : Fin 2048 := ⟨1024 * (t.val % 2) + j.val, by omega⟩

theorem bx_eq (t : Fin cfg0.N) (j : S1024x1024.Idx) : bx m c t j = A0 m c (ix2 (row t (j 0)) (j 1)) := by
  have e : V m c main_arg0 = A0 m c := V_arg m c main_arg0 (by simp)
  refine Eq.trans (b := ((cfg0.win 0).blk t).view.read (Elt Ideal) (A0 m c) j) (congrArg (fun f => ((cfg0.win 0).blk t).view.read (Elt Ideal) f j) e) ?_
  blk_ext [row, idx t]
theorem bg_eq (t : Fin cfg0.N) (j : Fin 1024) : bg m c t (ix2 0 j) = A1 m c (ix1 j) := by
  refine Eq.trans (b := (V m c main_v0 : FVec Ideal S1x1024 .f32) (ix2 0 j)) ?_ (g_eq m c _)
  blk_ext [bg, iblk, idx t]
theorem bw_eq (t : Fin cfg0.N) (j : S1024x1024.Idx) : bw m c t j = A2 m c (ix2 (j 0) (col t (j 1))) := by
  refine Eq.trans (b := ((cfg0.win 2).blk t).view.read (Elt Ideal) (A2 m c) j) (congrArg (fun f => ((cfg0.win 2).blk t).view.read (Elt Ideal) f j) (w_eq m c)) ?_
  blk_ext [col, idx t]

theorem start_h (t : Fin cfg0.N) (j : S1024x1024.Idx) : k0_pay1 (F := Ideal) (bx m c t) (bg m c t) j = H m c (ix2 (row t (j 0)) (j 1)) := by
  refine (p1 _ _ j).trans ?_
  have e (i k : Fin 1024) : bx m c t (ix2 i k) = A0 m c (ix2 (row t i) k) := bx_eq m c t (ix2 i k)
  refine congrArg₂ (· * ·) (congrArg₂ (· * ·) (bx_eq m c t j) (congrArg (fun z => Ideal.rsqrt (Ideal.div z _ + _)) ?_)) (bg_eq m c t (j 1))
  exact Finset.sum_congr rfl fun k _ => congrArg₂ (· * ·) (e (j 0) k) (e (j 0) k)

/-- The normalised rows stay through a row of the grid. -/
theorem st_h (n : ℕ) (hn : n < cfg0.N) (j : S1024x1024.Idx) : st m c n hn j = H m c (ix2 (row ⟨n, hn⟩ (j 0)) (j 1)) := by
  induction n with
  | zero => exact start_h m c ⟨0, hn⟩ j
  | succ n ih =>
    by_cases h : (n + 1) % 2 = 0
    · rw [st, if_pos h]; exact start_h m c _ j
    · rw [st, if_neg h]
      refine (ih _).trans (congrArg (fun r => H m c (ix2 r (j 1))) (Fin.ext ?_))
      show 1024 * (n / 2) + (j 0).val = 1024 * ((n + 1) / 2) + (j 0).val
      omega

theorem fin_z : (dats m 0 c).arrAt 3 cfg0.N = (Z m c : FVec Ideal S8192x2048 .f32) := by
  refine (dats m 0 c).arrAt_eq_of_covers 3 _ (by decide +kernel) fun t hf y => ?_
  blk_simp
  refine Eq.trans (b := k0_pay2 (F := Ideal) (at_ m c t) (bw m c t) y) rfl ((p2 _ _ y).trans ?_)
  refine Eq.trans (b := Z m c (ix2 (row t (y 0)) (col t (y 1)))) ?_ ?_
  · exact Finset.sum_congr rfl fun k _ => congrArg₂ (· * ·) (st_h m c t.val t.isLt (ix2 (y 0) k)) (bw_eq m c t (ix2 k (y 1)))
  · blk_ext [row, col, idx t]

theorem fin_h : (dats m 0 c).arrAt 4 cfg0.N = (H m c : FVec Ideal S8192x1024 .bf16) := by
  refine (dats m 0 c).arrAt_eq_of_covers 4 _ (by decide +kernel) fun t hf y => ?_
  blk_simp
  refine Eq.trans (b := at_ m c t y) rfl ?_
  refine (st_h m c t.val t.isLt y).trans ?_
  blk_ext [row, idx t]
end

/-- The kernel and its idealization have the same body table at the formats' own values. -/
theorem defs_eq : Cert.Kernel16.defs (F := Bits) = Cert.Kernel16Ideal.defs (F := Bits) :=
  congrArg (Pipeline.defs Cert.Kernel16.pcfgs)
    (congrArg (@Defs.onTc Cert.Kernel16.nD Cert.Kernel16.τ Cert.Kernel16.sig (Elt Bits) Cert.Kernel16.Λ₀) (funext fun l => funext fun x => by
      match l, x with
      | 0, (t, s) => rfl
      | ⟨_ + 1, h⟩, _ => exact absurd h (Nat.not_lt.2 (Nat.le_add_left _ _))))

theorem frame_p : Cert.quiescent_Kernel16 := fun m ρ _ => by
  rw [defs_eq]
  exact (θ_run Cert.Kernel16Ideal.defs _ _).mono (fun r h => And.intro (fun c => kept m r h.1 c) h.2) (run_main (F := Bits) m ρ)
theorem frame_pi : Cert.quiescent_Kernel16Ideal := fun m ρ _ =>
  (θ_run Cert.Kernel16Ideal.defs _ _).mono (fun r h => ⟨fun c => kept m r h.1 c, h.2⟩) (run_main (F := Ideal) m ρ)
theorem frame_ri : Cert.quiescent_Reference16Ideal := fun m ρ _ =>
  (θ_run Cert.Reference16Ideal.defs _ _).mono (fun r h => ⟨fun c => (h c).2.2, sem_eq_zero_of_no_sems (by decide) r.2⟩)
    (Cert.Reference16Ideal.Value.run (F := Ideal) m ρ)
theorem preserves : Cert.preserves_Kernel16_Kernel16Ideal := trivial

variable (m : (ℓ : Loc Cert.Kernel16Ideal.nD Cert.Kernel16Ideal.τ Cert.Kernel16Ideal.sig) → Buf (Elt Ideal) ℓ) (c : Dev Cert.Kernel16Ideal.nD)

open Cert.Reference16Ideal Cert.Reference16Ideal.Read

/-- The reference's normalised rows and their projection. -/
theorem ref_h (i : S8192x1024.Idx) : val_main_v12 (F := Ideal) (A0 m c) (A1 m c) i = H m c i := by
  rw [val_main_v12_apply, val_main_v9_apply, val_main_v11_apply, val_main_v10_apply, val_main_v8_apply, val_main_v7_apply, val_main_v6_apply,
    val_main_v4_apply, val_main_v2_apply, val_main_v1_apply, val_main_v3_apply, val_main_v5_apply, val_main_cst_apply, val_main_cst_0_apply, val_main_cst_1_apply]
  refine congrArg₂ (· * ·) (congrArg₂ (· * ·) rfl (congrArg (fun z => Ideal.rsqrt (Ideal.div z _ + _)) ?_)) ?_
  · refine (congrArg (· + _) Ideal.ofBits_zero_f32).trans ((zero_add _).trans (Finset.sum_congr rfl fun k _ => ?_))
    rw [val_main_v0_apply]
    exact congrArg (fun j => A0 m c j * A0 m c j) (funext fun a => by fin_cases a <;> rfl)
  · exact congrArg (A1 m c) (funext fun a => by fin_cases a <;> rfl)
theorem ref_z (i : S8192x2048.Idx) : val_main_v13 (F := Ideal) (A0 m c) (A1 m c) (A2 m c) i = Z m c i := by
  rw [val_main_v13_apply]
  refine Finset.sum_congr rfl fun k _ => congrArg₂ (· * ·) ((ref_h m c _).trans ?_) ?_
  · exact congrArg (H m c) (funext fun a => by fin_cases a <;> rfl)
  · exact congrArg (A2 m c) (funext fun a => by fin_cases a <;> rfl)

theorem algebraic : Cert.algebraic_Kernel16Ideal_Reference16Ideal := by
  intro m ρ m' ρ' _ hag
  refine ⟨fun c => Z m c, fun c => H m c,
    (θ_run Cert.Kernel16Ideal.defs _ _).mono (fun r h c => ⟨((h.1 c).1 3).trans (fin_z m c), ((h.1 c).1 4).trans (fin_h m c), kept m r h.1 c⟩) (run_main (F := Ideal) m ρ), ?_⟩
  refine (θ_run Cert.Reference16Ideal.defs _ _).mono (fun r h c => ?_) (Cert.Reference16Ideal.Value.run (F := Ideal) m' ρ')
  obtain ⟨g0, g1, g2⟩ := hag c
  refine ⟨(h c).1.trans ((val_main_v13_eq _ _ _).trans ?_), (h c).2.1.trans ((val_main_v14_eq _ _).trans ?_), (h c).2.2⟩
  · rw [g0, g1, g2]; exact funext fun i => ref_z m c i
  · rw [g0, g1]; exact funext fun i => ref_h m c i

end ZF

end
-- ==== Proof.Adam2.lean ====
/- The optimiser's call for the MLP's second weights: the gradient summed over the devices, the step, the two moments. -/
module

public import proofs.«01_k».proof.Defs
public import proofs.«01_k».proof.Proof.Gen.Kernel17.Frame
public import proofs.«01_k».proof.Proof.Gen.Kernel17Ideal.Value
public import proofs.«01_k».proof.Proof.Gen.Reference17Ideal.Read
public import proofs.«01_k».proof.Proof.Adam

@[expose] public section

set_option maxRecDepth 16384

noncomputable section

open Idealize.ShloMosaic Idealize.ShloMosaic.TcCoe Idealize.SL.Sem

namespace Adam2

open Adam (mom vel step pc sum8)

section
open Cert.Kernel17Ideal Cert.Kernel17Ideal.Gen
variable (m : (ℓ : Loc nD τ sig) → Buf (Elt Ideal) ℓ) (c : Dev nD)

/-- The arguments: each layer's pieces from the eight devices, the weights and the two moments. -/
abbrev A0 : FVec Ideal S8x512x1024 .bf16 := m ((c : Thread nD τ).loc main_arg0)
abbrev A1 : FVec Ideal S8x512x1024 .bf16 := m ((c : Thread nD τ).loc main_arg1)
abbrev A2 : FVec Ideal S8x512x1024 .bf16 := m ((c : Thread nD τ).loc main_arg2)
abbrev A3 : FVec Ideal S8x512x1024 .bf16 := m ((c : Thread nD τ).loc main_arg3)
abbrev W : FVec Ideal S4x512x1024 .f32 := m ((c : Thread nD τ).loc main_arg4)
abbrev U : FVec Ideal S4x512x1024 .f32 := m ((c : Thread nD τ).loc main_arg5)
abbrev Q : FVec Ideal S4x512x1024 .f32 := m ((c : Thread nD τ).loc main_arg6)

def layer : Fin 4 → FVec Ideal S8x512x1024 .bf16
  | 0 => A0 m c
  | 1 => A1 m c
  | 2 => A2 m c
  | 3 => A3 m c

/-- The gradient of a layer's entry: the devices' pieces summed. -/
def G (i : S4x512x1024.Idx) : EReal := ∑ k : Fin 8, layer m c (i 0) (ix3 k (i 1) (i 2))

/-- Row `r` of the flat arrays is row `r % 512` of layer `r / 512`. -/
def at3 (i : S2048x1024.Idx) : S4x512x1024.Idx :=
  ix3 ⟨(i 0).val / 512, by have : (i 0).val < 2048 := (i 0).isLt; omega⟩ ⟨(i 0).val % 512, Nat.mod_lt _ (by decide)⟩ (i 1)

def GG (i : S2048x1024.Idx) : EReal := G m c (at3 i)
def DD (i : S2048x1024.Idx) : EReal := step (W m c (at3 i)) (U m c (at3 i)) (Q m c (at3 i)) (G m c (at3 i))
def MM (i : S2048x1024.Idx) : EReal := mom (U m c (at3 i)) (G m c (at3 i))
def VV (i : S2048x1024.Idx) : EReal := vel (Q m c (at3 i)) (G m c (at3 i))

abbrev Pieces := S8x256x1024.Idx → Elt Ideal .bf16

/-- The eight pieces of a block summed, as the kernel sums them. -/
def tot (x : Pieces) : FVec Ideal S256x1024 .f32 := k0_pay13 (F := Ideal) (pc x 0) (pc x 1) (pc x 2) (pc x 3) (pc x 4) (pc x 5) (pc x 6) (pc x 7)

theorem p13 (x0 x1 x2 x3 x4 x5 x6 x7 : FVec Ideal S1x256x1024 .bf16) (j : S256x1024.Idx) :
    k0_pay13 (F := Ideal) x0 x1 x2 x3 x4 x5 x6 x7 j
      = (x0 (ix3 0 (j 0) (j 1)) + x1 (ix3 0 (j 0) (j 1)) + x2 (ix3 0 (j 0) (j 1)) + x3 (ix3 0 (j 0) (j 1)) + x4 (ix3 0 (j 0) (j 1))
          + x5 (ix3 0 (j 0) (j 1)) + x6 (ix3 0 (j 0) (j 1)) + x7 (ix3 0 (j 0) (j 1)) : EReal) := by
  pointwise [k0_pay13]

theorem tot_eq (x : Pieces) (j : S256x1024.Idx) : tot x j = ∑ k : Fin 8, x (ix3 k (j 0) (j 1)) := (p13 _ _ _ _ _ _ _ _ j).trans (sum8 x (j 0) (j 1))

theorem p1 (g u : FVec Ideal S256x1024 .f32) (j : S256x1024.Idx) :
    k0_pay1 (F := Ideal) g (k0_pay14 (F := Ideal) u) (FloatOps.ofBits .f32 0x3F666666#32) j = mom (u j) (g j) := by
  pointwise [k0_pay1, k0_pay14, mom]
theorem p2 (g v : FVec Ideal S256x1024 .f32) (j : S256x1024.Idx) : k0_pay2 (F := Ideal) g v j = vel (v j) (g j) := by
  pointwise [k0_pay2, vel]
theorem p3 (g u v w : FVec Ideal S256x1024 .f32) (j : S256x1024.Idx) :
    k0_pay3 (F := Ideal) g (k0_pay14 (F := Ideal) u) (FloatOps.ofBits .f32 0x3F666666#32) v w j = step (w j) (u j) (v j) (g j) := by
  pointwise [k0_pay3, p2, step]
  exact congrArg (fun z => _ * (Ideal.div (Ideal.div z _) _ + _)) (p1 g u j)

theorem flat (y : FVec Ideal S4x512x1024 .f32) (i : S2048x1024.Idx) :
    (shapeCast S2048x1024 y shapeCasts_S4x512x1024_S2048x1024 : FVec Ideal S2048x1024 .f32) i = y (at3 i) :=
  shapeCast_apply y shapeCasts_S4x512x1024_S2048x1024 i (at3 i) (by
    rewrite [Shape.rowMajor_val_three, Shape.rowMajor_val_two]
    have h0 : (i 0).val < 2048 := (i 0).isLt
    show ((i 0).val / 512 * 512 + (i 0).val % 512) * 1024 + (i 1).val = (i 0).val * 1024 + (i 1).val
    omega)

theorem w_eq (i : S2048x1024.Idx) : (V m c main_v0 : FVec Ideal S2048x1024 .f32) i = W m c (at3 i) := by
  unfold V hostOps0; after_results; exact flat (W m c) i
theorem u_eq (i : S2048x1024.Idx) : (V m c main_v1 : FVec Ideal S2048x1024 .f32) i = U m c (at3 i) := by
  unfold V hostOps0; after_results; exact flat (U m c) i
theorem q_eq (i : S2048x1024.Idx) : (V m c main_v2 : FVec Ideal S2048x1024 .f32) i = Q m c (at3 i) := by
  unfold V hostOps0; after_results; exact flat (Q m c) i

theorem idx : ∀ t : Fin cfg0.N, win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ t.val < 8 :=
  (by decide +kernel : ∀ t : Fin grid0.N, _)
theorem idx_layer : ∀ t : Fin cfg0.N, (t.val / 2 = 0 → win0_0.index t = ![0, t.val % 2, 0]) ∧ (t.val / 2 = 1 → win0_1.index t = ![0, t.val % 2, 0])
    ∧ (t.val / 2 = 2 → win0_2.index t = ![0, t.val % 2, 0]) ∧ (t.val / 2 = 3 → win0_3.index t = ![0, t.val % 2, 0]) :=
  (by decide +kernel : ∀ t : Fin grid0.N, _)

theorem lt (t : Fin cfg0.N) : t.val < 8 := (idx t).2.2.2.2.2.2.2

/-- The flat arrays' entry that point `t` works on, and the layer's row. -/
def flatAt (t : Fin cfg0.N) (j : S256x1024.Idx) : S2048x1024.Idx :=
  ix2 ⟨256 * t.val + (j 0).val, by have := lt t; have : (j 0).val < 256 := (j 0).isLt; omega⟩ (j 1)
def row (t : Fin cfg0.N) (i : Fin 256) : Fin 512 := ⟨256 * (t.val % 2) + i.val, by omega⟩

/-- The blocks a point reads. -/
abbrev bw (t : Fin cfg0.N) : FVec Ideal S256x1024 .f32 := iblk m c 4 t
abbrev bu (t : Fin cfg0.N) : FVec Ideal S256x1024 .f32 := iblk m c 5 t
abbrev bq (t : Fin cfg0.N) : FVec Ideal S256x1024 .f32 := iblk m c 6 t
def bl (t : Fin cfg0.N) : Fin 4 → FVec Ideal S8x256x1024 .bf16
  | 0 => iblk m c 0 t
  | 1 => iblk m c 1 t
  | 2 => iblk m c 2 t
  | 3 => iblk m c 3 t

theorem bw_eq (t : Fin cfg0.N) (j : S256x1024.Idx) : bw m c t j = W m c (at3 (flatAt t j)) := by
  refine Eq.trans (b := (V m c main_v0 : FVec Ideal S2048x1024 .f32) (flatAt t j)) ?_ (w_eq m c _)
  blk_ext [bw, iblk, flatAt, idx t]
theorem bu_eq (t : Fin cfg0.N) (j : S256x1024.Idx) : bu m c t j = U m c (at3 (flatAt t j)) := by
  refine Eq.trans (b := (V m c main_v1 : FVec Ideal S2048x1024 .f32) (flatAt t j)) ?_ (u_eq m c _)
  blk_ext [bu, iblk, flatAt, idx t]
theorem bq_eq (t : Fin cfg0.N) (j : S256x1024.Idx) : bq m c t j = Q m c (at3 (flatAt t j)) := by
  refine Eq.trans (b := (V m c main_v2 : FVec Ideal S2048x1024 .f32) (flatAt t j)) ?_ (q_eq m c _)
  blk_ext [bq, iblk, flatAt, idx t]

theorem bl_eq (t : Fin cfg0.N) (l : Fin 4) (h : t.val / 2 = l.val) (j : S8x256x1024.Idx) : bl m c t l j = layer m c l (ix3 (j 0) (row t (j 1)) (j 2)) := by
  obtain ⟨e0, e1, e2, e3⟩ := idx_layer t
  fin_cases l
  · refine Eq.trans (b := ((cfg0.win 0).blk t).view.read (Elt Ideal) (A0 m c) j) (congrArg (fun f => ((cfg0.win 0).blk t).view.read (Elt Ideal) f j) (V_main_arg0 m c)) ?_
    blk_ext [row, e0 h]
  · refine Eq.trans (b := ((cfg0.win 1).blk t).view.read (Elt Ideal) (A1 m c) j) (congrArg (fun f => ((cfg0.win 1).blk t).view.read (Elt Ideal) f j) (V_main_arg1 m c)) ?_
    blk_ext [row, e1 h]
  · refine Eq.trans (b := ((cfg0.win 2).blk t).view.read (Elt Ideal) (A2 m c) j) (congrArg (fun f => ((cfg0.win 2).blk t).view.read (Elt Ideal) f j) (V_main_arg2 m c)) ?_
    blk_ext [row, e2 h]
  · refine Eq.trans (b := ((cfg0.win 3).blk t).view.read (Elt Ideal) (A3 m c) j) (congrArg (fun f => ((cfg0.win 3).blk t).view.read (Elt Ideal) f j) (V_main_arg3 m c)) ?_
    blk_ext [row, e3 h]

theorem g_eq (t : Fin cfg0.N) (l : Fin 4) (h : t.val / 2 = l.val) (j : S256x1024.Idx) : tot (bl m c t l) j = G m c (at3 (flatAt t j)) := by
  refine (tot_eq _ j).trans (Finset.sum_congr rfl fun k _ => (bl_eq m c t l h _).trans ?_)
  have hj : (j 0).val < 256 := (j 0).isLt
  have e : at3 (flatAt t j) = ix3 l (row t (j 0)) (j 1) := by
    funext a
    apply Fin.ext
    match a with
    | 0 => show (256 * t.val + (j 0).val) / 512 = l.val; omega
    | 1 => show (256 * t.val + (j 0).val) % 512 = 256 * (t.val % 2) + (j 0).val; omega
    | 2 => rfl
  rw [e]
  rfl

/-- What a point leaves in its four blocks, from the sum of its layer's pieces. -/
theorem outs (t : Fin cfg0.N) (l : Fin 4) (h : t.val / 2 = l.val) (j : S256x1024.Idx) :
    (outsAt0 m c t.val t.isLt).1 j = tot (bl m c t l) j
    ∧ (outsAt0 m c t.val t.isLt).2.1 j = k0_pay3 (F := Ideal) (tot (bl m c t l)) (k0_pay14 (F := Ideal) (bu m c t)) (FloatOps.ofBits .f32 0x3F666666#32) (bq m c t) (bw m c t) j
    ∧ (outsAt0 m c t.val t.isLt).2.2.1 j = k0_pay1 (F := Ideal) (tot (bl m c t l)) (k0_pay14 (F := Ideal) (bu m c t)) (FloatOps.ofBits .f32 0x3F666666#32) j
    ∧ (outsAt0 m c t.val t.isLt).2.2.2 j = k0_pay2 (F := Ideal) (tot (bl m c t l)) (bq m c t) j := by
  have ht := lt t
  fin_cases l
  · have h' : t.val / 2 = 0 := h
    rw [outsAt0_A m c t (by omega) (by omega) (by omega) (by omega)]
    refine ⟨?_, ?_, ?_, ?_⟩ <;> (frame_open; frame_out; rfl)
  · have h' : t.val / 2 = 1 := h
    rw [outsAt0_B m c t (by omega) (by omega) (by omega) (by omega)]
    refine ⟨?_, ?_, ?_, ?_⟩ <;> (frame_open; frame_out; rfl)
  · have h' : t.val / 2 = 2 := h
    rw [outsAt0_C m c t (by omega) (by omega) (by omega) (by omega)]
    refine ⟨?_, ?_, ?_, ?_⟩ <;> (frame_open; frame_out; rfl)
  · have h' : t.val / 2 = 3 := h
    rw [outsAt0_D m c t (by omega) (by omega) (by omega) (by omega)]
    refine ⟨?_, ?_, ?_, ?_⟩ <;> (frame_open; frame_out; rfl)

/-- The same, from the arguments. -/
theorem leaves (t : Fin cfg0.N) (j : S256x1024.Idx) :
    (outsAt0 m c t.val t.isLt).1 j = GG m c (flatAt t j) ∧ (outsAt0 m c t.val t.isLt).2.1 j = DD m c (flatAt t j)
    ∧ (outsAt0 m c t.val t.isLt).2.2.1 j = MM m c (flatAt t j) ∧ (outsAt0 m c t.val t.isLt).2.2.2 j = VV m c (flatAt t j) := by
  have ht := lt t
  obtain ⟨o7, o8, o9, o10⟩ := outs m c t ⟨t.val / 2, by omega⟩ rfl j
  have g := g_eq m c t ⟨t.val / 2, by omega⟩ rfl j
  refine ⟨o7.trans g, o8.trans ((p3 _ _ _ _ j).trans ?_), o9.trans ((p1 _ _ j).trans ?_), o10.trans ((p2 _ _ j).trans ?_)⟩
  · rw [g, bw_eq, bu_eq, bq_eq]; rfl
  · rw [g, bu_eq]; rfl
  · rw [g, bq_eq]; rfl

theorem fin_g : (dats m 0 c).arrAt 7 cfg0.N = (GG m c : FVec Ideal S2048x1024 .f32) := by
  refine (dats m 0 c).arrAt_eq_of_covers 7 _ (by decide +kernel) fun t hf y => ?_
  blk_simp
  rw [after0_7]
  refine (leaves m c t y).1.trans ?_
  blk_ext [flatAt, idx t]
theorem fin_d : (dats m 0 c).arrAt 8 cfg0.N = (DD m c : FVec Ideal S2048x1024 .f32) := by
  refine (dats m 0 c).arrAt_eq_of_covers 8 _ (by decide +kernel) fun t hf y => ?_
  blk_simp
  rw [after0_8]
  refine (leaves m c t y).2.1.trans ?_
  blk_ext [flatAt, idx t]
theorem fin_m : (dats m 0 c).arrAt 9 cfg0.N = (MM m c : FVec Ideal S2048x1024 .f32) := by
  refine (dats m 0 c).arrAt_eq_of_covers 9 _ (by decide +kernel) fun t hf y => ?_
  blk_simp
  rw [after0_9]
  refine (leaves m c t y).2.2.1.trans ?_
  blk_ext [flatAt, idx t]
theorem fin_v : (dats m 0 c).arrAt 10 cfg0.N = (VV m c : FVec Ideal S2048x1024 .f32) := by
  refine (dats m 0 c).arrAt_eq_of_covers 10 _ (by decide +kernel) fun t hf y => ?_
  blk_simp
  rw [after0_10]
  refine (leaves m c t y).2.2.2.trans ?_
  blk_ext [flatAt, idx t]
end

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)
theorem preserves : Cert.preserves_Kernel17_Kernel17Ideal := trivial

variable (m : (ℓ : Loc Cert.Kernel17Ideal.nD Cert.Kernel17Ideal.τ Cert.Kernel17Ideal.sig) → Buf (Elt Ideal) ℓ) (c : Dev Cert.Kernel17Ideal.nD)

open Cert.Reference17Ideal Cert.Reference17Ideal.Read

/-- One layer's pieces summed, as the reference stacks them. -/
theorem ref_sum (x : FVec Ideal S8x512x1024 .bf16) (i : S1x512x1024.Idx) : val_main_v8 (F := Ideal) x i = ∑ k : Fin 8, x (ix3 k (i 1) (i 2)) := by
  rw [val_main_v8_apply, val_main_v1_apply, val_main_cst_apply]
  refine (congrArg (· + _) Ideal.ofBits_zero_f32).trans ((zero_add _).trans (Finset.sum_congr rfl fun k _ => ?_))
  rw [val_main_v0_apply]
  exact congrArg x (funext fun a => by fin_cases a <;> rfl)

theorem piece (l : Fin 4) (j : S4x512x1024.Idx) :
    PieceAt (t := S4x512x1024) 0 j (G m c j) S1x512x1024 (val_main_v8 (F := Ideal) (layer m c l)) l.val := by
  intro hl hr i h0 hb
  refine (ref_sum _ i).trans (Finset.sum_congr rfl fun k _ => ?_)
  have e0 : j 0 = l := Fin.ext hl
  have e1 : i 1 = j 1 := Fin.ext (hb 1 (by decide))
  have e2 : i 2 = j 2 := Fin.ext (hb 2 (by decide))
  rw [e0, e1, e2]

theorem ref_g (j : S4x512x1024.Idx) : val_main_v12 (F := Ideal) (A0 m c) (A1 m c) (A2 m c) (A3 m c) j = G m c j := by
  unfold val_main_v12
  exact concatenate_unit_eq _ _ _ j _ rfl ⟨piece m c 0 j, piece m c 1 j, piece m c 2 j, piece m c 3 j, trivial⟩

theorem ref_m (j : S4x512x1024.Idx) : val_main_v17 (F := Ideal) (A0 m c) (A1 m c) (A2 m c) (A3 m c) (U m c) j = mom (U m c j) (G m c j) := by
  rw [← ref_g]
  rfl
theorem ref_v (j : S4x512x1024.Idx) : val_main_v23 (F := Ideal) (A0 m c) (A1 m c) (A2 m c) (A3 m c) (Q m c) j = vel (Q m c j) (G m c j) := by
  rw [← ref_g]
  rfl
theorem ref_d (j : S4x512x1024.Idx) :
    val_main_v36 (F := Ideal) (A0 m c) (A1 m c) (A2 m c) (A3 m c) (W m c) (U m c) (Q m c) j = step (W m c j) (U m c j) (Q m c j) (G m c j) := by
  rw [← ref_g]
  rfl

theorem algebraic : Cert.algebraic_Kernel17Ideal_Reference17Ideal := by
  intro m ρ m' ρ' _ hag
  refine ⟨fun c => GG m c, fun c => DD m c, fun c => MM m c, fun c => VV m c,
    (θ_run Cert.Kernel17Ideal.defs _ _).mono (fun r h c => ⟨(h c).1.trans (fin_g m c), (h c).2.1.trans (fin_d m c), (h c).2.2.1.trans (fin_m m c), (h c).2.2.2.1.trans (fin_v m c), (h c).2.2.2.2⟩)
      (Cert.Kernel17Ideal.Value.run_blocks (F := Ideal) m ρ), ?_⟩
  refine (θ_run Cert.Reference17Ideal.defs _ _).mono (fun r h c => ?_) (Cert.Reference17Ideal.Value.run (F := Ideal) m' ρ')
  obtain ⟨g0, g1, g2, g3, g4, g5, g6⟩ := hag c
  refine ⟨(h c).1.trans ((val_main_v37_eq _ _ _ _).trans ?_), (h c).2.1.trans ((val_main_v38_eq m' c).trans ?_), (h c).2.2.1.trans ((val_main_v39_eq _ _ _ _ _).trans ?_),
    (h c).2.2.2.1.trans ((val_main_v40_eq _ _ _ _ _).trans ?_), (h c).2.2.2.2⟩
  · rw [g0, g1, g2, g3]; exact funext fun i => (flat _ i).trans (ref_g m c (at3 i))
  · rw [g0, g1, g2, g3, g4, g5, g6]; exact funext fun i => (flat _ i).trans (ref_d m c (at3 i))
  · rw [g0, g1, g2, g3, g5]; exact funext fun i => (flat _ i).trans (ref_m m c (at3 i))
  · rw [g0, g1, g2, g3, g6]; exact funext fun i => (flat _ i).trans (ref_v m c (at3 i))

end Adam2

end
-- ==== Proof.AdamO.lean ====
/- The optimiser's call for the output projections of either mixer: the gradient summed over the devices, the step, the two moments. -/
module

public import proofs.«01_k».proof.Defs
public import proofs.«01_k».proof.Proof.Gen.Kernel18.Frame
public import proofs.«01_k».proof.Proof.Gen.Kernel18Ideal.Value
public import proofs.«01_k».proof.Proof.Gen.Reference18Ideal.Read
public import proofs.«01_k».proof.Proof.Adam

@[expose] public section

set_option maxRecDepth 16384

noncomputable section

open Idealize.ShloMosaic Idealize.ShloMosaic.TcCoe Idealize.SL.Sem

namespace AdamO

open Adam (mom vel step pc sum8)

section
open Cert.Kernel18Ideal Cert.Kernel18Ideal.Gen
variable (m : (ℓ : Loc nD τ sig) → Buf (Elt Ideal) ℓ) (c : Dev nD)

/-- The arguments: each layer's pieces from the eight devices, the weights and the two moments. -/
abbrev A0 : FVec Ideal S8x128x1024 .bf16 := m ((c : Thread nD τ).loc main_arg0)
abbrev A1 : FVec Ideal S8x128x1024 .bf16 := m ((c : Thread nD τ).loc main_arg1)
abbrev W : FVec Ideal S2x128x1024 .f32 := m ((c : Thread nD τ).loc main_arg2)
abbrev U : FVec Ideal S2x128x1024 .f32 := m ((c : Thread nD τ).loc main_arg3)
abbrev Q : FVec Ideal S2x128x1024 .f32 := m ((c : Thread nD τ).loc main_arg4)

def layer : Fin 2 → FVec Ideal S8x128x1024 .bf16
  | 0 => A0 m c
  | 1 => A1 m c

/-- The gradient of a layer's entry: the devices' pieces summed. -/
def G (i : S2x128x1024.Idx) : EReal := ∑ k : Fin 8, layer m c (i 0) (ix3 k (i 1) (i 2))

/-- Row `r` of the flat arrays is row `r % 128` of layer `r / 128`. -/
def at3 (i : S256x1024.Idx) : S2x128x1024.Idx :=
  ix3 ⟨(i 0).val / 128, by have : (i 0).val < 256 := (i 0).isLt; omega⟩ ⟨(i 0).val % 128, Nat.mod_lt _ (by decide)⟩ (i 1)

def GG (i : S256x1024.Idx) : EReal := G m c (at3 i)
def DD (i : S256x1024.Idx) : EReal := step (W m c (at3 i)) (U m c (at3 i)) (Q m c (at3 i)) (G m c (at3 i))
def MM (i : S256x1024.Idx) : EReal := mom (U m c (at3 i)) (G m c (at3 i))
def VV (i : S256x1024.Idx) : EReal := vel (Q m c (at3 i)) (G m c (at3 i))

abbrev Pieces := S8x128x1024.Idx → Elt Ideal .bf16

/-- The eight pieces of a block summed, as the kernel sums them. -/
def tot (x : Pieces) : FVec Ideal S128x1024 .f32 := k0_pay7 (F := Ideal) (pc x 0) (pc x 1) (pc x 2) (pc x 3) (pc x 4) (pc x 5) (pc x 6) (pc x 7)

theorem p13 (x0 x1 x2 x3 x4 x5 x6 x7 : FVec Ideal S1x128x1024 .bf16) (j : S128x1024.Idx) :
    k0_pay7 (F := Ideal) x0 x1 x2 x3 x4 x5 x6 x7 j
      = (x0 (ix3 0 (j 0) (j 1)) + x1 (ix3 0 (j 0) (j 1)) + x2 (ix3 0 (j 0) (j 1)) + x3 (ix3 0 (j 0) (j 1)) + x4 (ix3 0 (j 0) (j 1))
          + x5 (ix3 0 (j 0) (j 1)) + x6 (ix3 0 (j 0) (j 1)) + x7 (ix3 0 (j 0) (j 1)) : EReal) := by
  pointwise [k0_pay7]

theorem tot_eq (x : Pieces) (j : S128x1024.Idx) : tot x j = ∑ k : Fin 8, x (ix3 k (j 0) (j 1)) := (p13 _ _ _ _ _ _ _ _ j).trans (sum8 x (j 0) (j 1))

theorem p1 (g u : FVec Ideal S128x1024 .f32) (j : S128x1024.Idx) :
    k0_pay1 (F := Ideal) g (k0_pay8 (F := Ideal) u) (FloatOps.ofBits .f32 0x3F666666#32) j = mom (u j) (g j) := by
  pointwise [k0_pay1, k0_pay8, mom]
theorem p2 (g v : FVec Ideal S128x1024 .f32) (j : S128x1024.Idx) : k0_pay2 (F := Ideal) g v j = vel (v j) (g j) := by
  pointwise [k0_pay2, vel]
theorem p3 (g u v w : FVec Ideal S128x1024 .f32) (j : S128x1024.Idx) :
    k0_pay3 (F := Ideal) g (k0_pay8 (F := Ideal) u) (FloatOps.ofBits .f32 0x3F666666#32) v w j = step (w j) (u j) (v j) (g j) := by
  pointwise [k0_pay3, p2, step]
  exact congrArg (fun z => _ * (Ideal.div (Ideal.div z _) _ + _)) (p1 g u j)

theorem flat (y : FVec Ideal S2x128x1024 .f32) (i : S256x1024.Idx) :
    (shapeCast S256x1024 y shapeCasts_S2x128x1024_S256x1024 : FVec Ideal S256x1024 .f32) i = y (at3 i) :=
  shapeCast_apply y shapeCasts_S2x128x1024_S256x1024 i (at3 i) (by
    rewrite [Shape.rowMajor_val_three, Shape.rowMajor_val_two]
    have h0 : (i 0).val < 256 := (i 0).isLt
    show ((i 0).val / 128 * 128 + (i 0).val % 128) * 1024 + (i 1).val = (i 0).val * 1024 + (i 1).val
    omega)

theorem w_eq (i : S256x1024.Idx) : (V m c main_v0 : FVec Ideal S256x1024 .f32) i = W m c (at3 i) := by
  unfold V hostOps0; after_results; exact flat (W m c) i
theorem u_eq (i : S256x1024.Idx) : (V m c main_v1 : FVec Ideal S256x1024 .f32) i = U m c (at3 i) := by
  unfold V hostOps0; after_results; exact flat (U m c) i
theorem q_eq (i : S256x1024.Idx) : (V m c main_v2 : FVec Ideal S256x1024 .f32) i = Q m c (at3 i) := by
  unfold V hostOps0; after_results; exact flat (Q m c) i

theorem idx : ∀ t : Fin cfg0.N, win0_2.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] ∧ t.val < 2 :=
  (by decide +kernel : ∀ t : Fin grid0.N, _)
theorem idx_layer : ∀ t : Fin cfg0.N, (t.val / 1 = 0 → win0_0.index t = ![0, t.val % 1, 0]) ∧ (t.val / 1 = 1 → win0_1.index t = ![0, t.val % 1, 0]) :=
  (by decide +kernel : ∀ t : Fin grid0.N, _)

theorem lt (t : Fin cfg0.N) : t.val < 2 := (idx t).2.2.2.2.2.2.2

/-- The flat arrays' entry that point `t` works on, and the layer's row. -/
def flatAt (t : Fin cfg0.N) (j : S128x1024.Idx) : S256x1024.Idx :=
  ix2 ⟨128 * t.val + (j 0).val, by have := lt t; have : (j 0).val < 128 := (j 0).isLt; omega⟩ (j 1)
def row (t : Fin cfg0.N) (i : Fin 128) : Fin 128 := ⟨128 * (t.val % 1) + i.val, by omega⟩

/-- The blocks a point reads. -/
abbrev bw (t : Fin cfg0.N) : FVec Ideal S128x1024 .f32 := iblk m c 2 t
abbrev bu (t : Fin cfg0.N) : FVec Ideal S128x1024 .f32 := iblk m c 3 t
abbrev bq (t : Fin cfg0.N) : FVec Ideal S128x1024 .f32 := iblk m c 4 t
def bl (t : Fin cfg0.N) : Fin 2 → FVec Ideal S8x128x1024 .bf16
  | 0 => iblk m c 0 t
  | 1 => iblk m c 1 t

theorem bw_eq (t : Fin cfg0.N) (j : S128x1024.Idx) : bw m c t j = W m c (at3 (flatAt t j)) := by
  refine Eq.trans (b := (V m c main_v0 : FVec Ideal S256x1024 .f32) (flatAt t j)) ?_ (w_eq m c _)
  blk_ext [bw, iblk, flatAt, idx t]
theorem bu_eq (t : Fin cfg0.N) (j : S128x1024.Idx) : bu m c t j = U m c (at3 (flatAt t j)) := by
  refine Eq.trans (b := (V m c main_v1 : FVec Ideal S256x1024 .f32) (flatAt t j)) ?_ (u_eq m c _)
  blk_ext [bu, iblk, flatAt, idx t]
theorem bq_eq (t : Fin cfg0.N) (j : S128x1024.Idx) : bq m c t j = Q m c (at3 (flatAt t j)) := by
  refine Eq.trans (b := (V m c main_v2 : FVec Ideal S256x1024 .f32) (flatAt t j)) ?_ (q_eq m c _)
  blk_ext [bq, iblk, flatAt, idx t]

theorem bl_eq (t : Fin cfg0.N) (l : Fin 2) (h : t.val / 1 = l.val) (j : S8x128x1024.Idx) : bl m c t l j = layer m c l (ix3 (j 0) (row t (j 1)) (j 2)) := by
  obtain ⟨e0, e1⟩ := idx_layer t
  fin_cases l
  · refine Eq.trans (b := ((cfg0.win 0).blk t).view.read (Elt Ideal) (A0 m c) j) (congrArg (fun f => ((cfg0.win 0).blk t).view.read (Elt Ideal) f j) (V_main_arg0 m c)) ?_
    blk_ext [row, e0 h]
  · refine Eq.trans (b := ((cfg0.win 1).blk t).view.read (Elt Ideal) (A1 m c) j) (congrArg (fun f => ((cfg0.win 1).blk t).view.read (Elt Ideal) f j) (V_main_arg1 m c)) ?_
    blk_ext [row, e1 h]

theorem g_eq (t : Fin cfg0.N) (l : Fin 2) (h : t.val / 1 = l.val) (j : S128x1024.Idx) : tot (bl m c t l) j = G m c (at3 (flatAt t j)) := by
  refine (tot_eq _ j).trans (Finset.sum_congr rfl fun k _ => (bl_eq m c t l h _).trans ?_)
  have hj : (j 0).val < 128 := (j 0).isLt
  have e : at3 (flatAt t j) = ix3 l (row t (j 0)) (j 1) := by
    funext a
    apply Fin.ext
    match a with
    | 0 => show (128 * t.val + (j 0).val) / 128 = l.val; omega
    | 1 => show (128 * t.val + (j 0).val) % 128 = 128 * (t.val % 1) + (j 0).val; omega
    | 2 => rfl
  rw [e]
  rfl

/-- What a point leaves in its four blocks, from the sum of its layer's pieces. -/
theorem outs (t : Fin cfg0.N) (l : Fin 2) (h : t.val / 1 = l.val) (j : S128x1024.Idx) :
    (outsAt0 m c t.val t.isLt).1 j = tot (bl m c t l) j
    ∧ (outsAt0 m c t.val t.isLt).2.1 j = k0_pay3 (F := Ideal) (tot (bl m c t l)) (k0_pay8 (F := Ideal) (bu m c t)) (FloatOps.ofBits .f32 0x3F666666#32) (bq m c t) (bw m c t) j
    ∧ (outsAt0 m c t.val t.isLt).2.2.1 j = k0_pay1 (F := Ideal) (tot (bl m c t l)) (k0_pay8 (F := Ideal) (bu m c t)) (FloatOps.ofBits .f32 0x3F666666#32) j
    ∧ (outsAt0 m c t.val t.isLt).2.2.2 j = k0_pay2 (F := Ideal) (tot (bl m c t l)) (bq m c t) j := by
  have ht := lt t
  fin_cases l
  · have h' : t.val / 1 = 0 := h
    rw [outsAt0_A m c t (by omega) (by omega)]
    refine ⟨?_, ?_, ?_, ?_⟩ <;> (frame_open; frame_out; rfl)
  · have h' : t.val / 1 = 1 := h
    rw [outsAt0_B m c t (by omega) (by omega)]
    refine ⟨?_, ?_, ?_, ?_⟩ <;> (frame_open; frame_out; rfl)

/-- The same, from the arguments. -/
theorem leaves (t : Fin cfg0.N) (j : S128x1024.Idx) :
    (outsAt0 m c t.val t.isLt).1 j = GG m c (flatAt t j) ∧ (outsAt0 m c t.val t.isLt).2.1 j = DD m c (flatAt t j)
    ∧ (outsAt0 m c t.val t.isLt).2.2.1 j = MM m c (flatAt t j) ∧ (outsAt0 m c t.val t.isLt).2.2.2 j = VV m c (flatAt t j) := by
  have ht := lt t
  obtain ⟨o7, o8, o9, o10⟩ := outs m c t ⟨t.val / 1, by omega⟩ rfl j
  have g := g_eq m c t ⟨t.val / 1, by omega⟩ rfl j
  refine ⟨o7.trans g, o8.trans ((p3 _ _ _ _ j).trans ?_), o9.trans ((p1 _ _ j).trans ?_), o10.trans ((p2 _ _ j).trans ?_)⟩
  · rw [g, bw_eq, bu_eq, bq_eq]; rfl
  · rw [g, bu_eq]; rfl
  · rw [g, bq_eq]; rfl

theorem fin_g : (dats m 0 c).arrAt 5 cfg0.N = (GG m c : FVec Ideal S256x1024 .f32) := by
  refine (dats m 0 c).arrAt_eq_of_covers 5 _ (by decide +kernel) fun t hf y => ?_
  blk_simp
  rw [after0_5]
  refine (leaves m c t y).1.trans ?_
  blk_ext [flatAt, idx t]
theorem fin_d : (dats m 0 c).arrAt 6 cfg0.N = (DD m c : FVec Ideal S256x1024 .f32) := by
  refine (dats m 0 c).arrAt_eq_of_covers 6 _ (by decide +kernel) fun t hf y => ?_
  blk_simp
  rw [after0_6]
  refine (leaves m c t y).2.1.trans ?_
  blk_ext [flatAt, idx t]
theorem fin_m : (dats m 0 c).arrAt 7 cfg0.N = (MM m c : FVec Ideal S256x1024 .f32) := by
  refine (dats m 0 c).arrAt_eq_of_covers 7 _ (by decide +kernel) fun t hf y => ?_
  blk_simp
  rw [after0_7]
  refine (leaves m c t y).2.2.1.trans ?_
  blk_ext [flatAt, idx t]
theorem fin_v : (dats m 0 c).arrAt 8 cfg0.N = (VV m c : FVec Ideal S256x1024 .f32) := by
  refine (dats m 0 c).arrAt_eq_of_covers 8 _ (by decide +kernel) fun t hf y => ?_
  blk_simp
  rw [after0_8]
  refine (leaves m c t y).2.2.2.trans ?_
  blk_ext [flatAt, idx t]
end

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)
theorem preserves : Cert.preserves_Kernel18_Kernel18Ideal := trivial

variable (m : (ℓ : Loc Cert.Kernel18Ideal.nD Cert.Kernel18Ideal.τ Cert.Kernel18Ideal.sig) → Buf (Elt Ideal) ℓ) (c : Dev Cert.Kernel18Ideal.nD)

open Cert.Reference18Ideal Cert.Reference18Ideal.Read

/-- One layer's pieces summed, as the reference stacks them. -/
theorem ref_sum (x : FVec Ideal S8x128x1024 .bf16) (i : S1x128x1024.Idx) : val_main_v4 (F := Ideal) x i = ∑ k : Fin 8, x (ix3 k (i 1) (i 2)) := by
  rw [val_main_v4_apply, val_main_v1_apply, val_main_cst_apply]
  refine (congrArg (· + _) Ideal.ofBits_zero_f32).trans ((zero_add _).trans (Finset.sum_congr rfl fun k _ => ?_))
  rw [val_main_v0_apply]
  exact congrArg x (funext fun a => by fin_cases a <;> rfl)

theorem piece (l : Fin 2) (j : S2x128x1024.Idx) :
    PieceAt (t := S2x128x1024) 0 j (G m c j) S1x128x1024 (val_main_v4 (F := Ideal) (layer m c l)) l.val := by
  intro hl hr i h0 hb
  refine (ref_sum _ i).trans (Finset.sum_congr rfl fun k _ => ?_)
  have e0 : j 0 = l := Fin.ext hl
  have e1 : i 1 = j 1 := Fin.ext (hb 1 (by decide))
  have e2 : i 2 = j 2 := Fin.ext (hb 2 (by decide))
  rw [e0, e1, e2]

theorem ref_g (j : S2x128x1024.Idx) : val_main_v6 (F := Ideal) (A0 m c) (A1 m c) j = G m c j := by
  unfold val_main_v6
  exact concatenate_unit_eq _ _ _ j _ rfl ⟨piece m c 0 j, piece m c 1 j, trivial⟩

theorem ref_m (j : S2x128x1024.Idx) : val_main_v11 (F := Ideal) (A0 m c) (A1 m c) (U m c) j = mom (U m c j) (G m c j) := by
  rw [← ref_g]
  rfl
theorem ref_v (j : S2x128x1024.Idx) : val_main_v17 (F := Ideal) (A0 m c) (A1 m c) (Q m c) j = vel (Q m c j) (G m c j) := by
  rw [← ref_g]
  rfl
theorem ref_d (j : S2x128x1024.Idx) :
    val_main_v30 (F := Ideal) (A0 m c) (A1 m c) (W m c) (U m c) (Q m c) j = step (W m c j) (U m c j) (Q m c j) (G m c j) := by
  rw [← ref_g]
  rfl

theorem algebraic : Cert.algebraic_Kernel18Ideal_Reference18Ideal := by
  intro m ρ m' ρ' _ hag
  refine ⟨fun c => GG m c, fun c => DD m c, fun c => MM m c, fun c => VV m c,
    (θ_run Cert.Kernel18Ideal.defs _ _).mono (fun r h c => ⟨(h c).1.trans (fin_g m c), (h c).2.1.trans (fin_d m c), (h c).2.2.1.trans (fin_m m c), (h c).2.2.2.1.trans (fin_v m c), (h c).2.2.2.2⟩)
      (Cert.Kernel18Ideal.Value.run_blocks (F := Ideal) m ρ), ?_⟩
  refine (θ_run Cert.Reference18Ideal.defs _ _).mono (fun r h c => ?_) (Cert.Reference18Ideal.Value.run (F := Ideal) m' ρ')
  obtain ⟨g0, g1, g2, g3, g4⟩ := hag c
  refine ⟨(h c).1.trans ((val_main_v31_eq _ _).trans ?_), (h c).2.1.trans ((val_main_v32_eq _ _ _ _ _).trans ?_), (h c).2.2.1.trans ((val_main_v33_eq _ _ _).trans ?_),
    (h c).2.2.2.1.trans ((val_main_v34_eq _ _ _).trans ?_), (h c).2.2.2.2⟩
  · rw [g0, g1]; exact funext fun i => (flat _ i).trans (ref_g m c (at3 i))
  · rw [g0, g1, g2, g3, g4]; exact funext fun i => (flat _ i).trans (ref_d m c (at3 i))
  · rw [g0, g1, g3]; exact funext fun i => (flat _ i).trans (ref_m m c (at3 i))
  · rw [g0, g1, g4]; exact funext fun i => (flat _ i).trans (ref_v m c (at3 i))

end AdamO

end
-- ==== Proof.AdamQ.lean ====
/- The optimiser's call for the input projections of the attention mixer: the gradient summed over the devices, the step, the two moments. -/
module

public import proofs.«01_k».proof.Defs
public import proofs.«01_k».proof.Proof.Gen.Kernel19.Frame
public import proofs.«01_k».proof.Proof.Gen.Kernel19Ideal.Value
public import proofs.«01_k».proof.Proof.Gen.Reference19Ideal.Read
public import proofs.«01_k».proof.Proof.Adam

@[expose] public section

set_option maxRecDepth 16384

noncomputable section

open Idealize.ShloMosaic Idealize.ShloMosaic.TcCoe Idealize.SL.Sem

namespace AdamQ

open Adam (mom vel step pc sum8)

section
open Cert.Kernel19Ideal Cert.Kernel19Ideal.Gen
variable (m : (ℓ : Loc nD τ sig) → Buf (Elt Ideal) ℓ) (c : Dev nD)

/-- The arguments: each layer's pieces from the eight devices, the weights and the two moments. -/
abbrev A0 : FVec Ideal S8x1024x384 .bf16 := m ((c : Thread nD τ).loc main_arg0)
abbrev A1 : FVec Ideal S8x1024x384 .bf16 := m ((c : Thread nD τ).loc main_arg1)
abbrev W : FVec Ideal S2x1024x384 .f32 := m ((c : Thread nD τ).loc main_arg2)
abbrev U : FVec Ideal S2x1024x384 .f32 := m ((c : Thread nD τ).loc main_arg3)
abbrev Q : FVec Ideal S2x1024x384 .f32 := m ((c : Thread nD τ).loc main_arg4)

def layer : Fin 2 → FVec Ideal S8x1024x384 .bf16
  | 0 => A0 m c
  | 1 => A1 m c

/-- The gradient of a layer's entry: the devices' pieces summed. -/
def G (i : S2x1024x384.Idx) : EReal := ∑ k : Fin 8, layer m c (i 0) (ix3 k (i 1) (i 2))

/-- Row `r` of the flat arrays is row `r % 1024` of layer `r / 1024`. -/
def at3 (i : S2048x384.Idx) : S2x1024x384.Idx :=
  ix3 ⟨(i 0).val / 1024, by have : (i 0).val < 2048 := (i 0).isLt; omega⟩ ⟨(i 0).val % 1024, Nat.mod_lt _ (by decide)⟩ (i 1)

def GG (i : S2048x384.Idx) : EReal := G m c (at3 i)
def DD (i : S2048x384.Idx) : EReal := step (W m c (at3 i)) (U m c (at3 i)) (Q m c (at3 i)) (G m c (at3 i))
def MM (i : S2048x384.Idx) : EReal := mom (U m c (at3 i)) (G m c (at3 i))
def VV (i : S2048x384.Idx) : EReal := vel (Q m c (at3 i)) (G m c (at3 i))

abbrev Pieces := S8x256x384.Idx → Elt Ideal .bf16

/-- The eight pieces of a block summed, as the kernel sums them. -/
def tot (x : Pieces) : FVec Ideal S256x384 .f32 := k0_pay7 (F := Ideal) (pc x 0) (pc x 1) (pc x 2) (pc x 3) (pc x 4) (pc x 5) (pc x 6) (pc x 7)

theorem p13 (x0 x1 x2 x3 x4 x5 x6 x7 : FVec Ideal S1x256x384 .bf16) (j : S256x384.Idx) :
    k0_pay7 (F := Ideal) x0 x1 x2 x3 x4 x5 x6 x7 j
      = (x0 (ix3 0 (j 0) (j 1)) + x1 (ix3 0 (j 0) (j 1)) + x2 (ix3 0 (j 0) (j 1)) + x3 (ix3 0 (j 0) (j 1)) + x4 (ix3 0 (j 0) (j 1))
          + x5 (ix3 0 (j 0) (j 1)) + x6 (ix3 0 (j 0) (j 1)) + x7 (ix3 0 (j 0) (j 1)) : EReal) := by
  pointwise [k0_pay7]

theorem tot_eq (x : Pieces) (j : S256x384.Idx) : tot x j = ∑ k : Fin 8, x (ix3 k (j 0) (j 1)) := (p13 _ _ _ _ _ _ _ _ j).trans (sum8 x (j 0) (j 1))

theorem p1 (g u : FVec Ideal S256x384 .f32) (j : S256x384.Idx) :
    k0_pay1 (F := Ideal) g (k0_pay8 (F := Ideal) u) (FloatOps.ofBits .f32 0x3F666666#32) j = mom (u j) (g j) := by
  pointwise [k0_pay1, k0_pay8, mom]
theorem p2 (g v : FVec Ideal S256x384 .f32) (j : S256x384.Idx) : k0_pay2 (F := Ideal) g v j = vel (v j) (g j) := by
  pointwise [k0_pay2, vel]
theorem p3 (g u v w : FVec Ideal S256x384 .f32) (j : S256x384.Idx) :
    k0_pay3 (F := Ideal) g (k0_pay8 (F := Ideal) u) (FloatOps.ofBits .f32 0x3F666666#32) v w j = step (w j) (u j) (v j) (g j) := by
  pointwise [k0_pay3, p2, step]
  exact congrArg (fun z => _ * (Ideal.div (Ideal.div z _) _ + _)) (p1 g u j)

theorem flat (y : FVec Ideal S2x1024x384 .f32) (i : S2048x384.Idx) :
    (shapeCast S2048x384 y shapeCasts_S2x1024x384_S2048x384 : FVec Ideal S2048x384 .f32) i = y (at3 i) :=
  shapeCast_apply y shapeCasts_S2x1024x384_S2048x384 i (at3 i) (by
    rewrite [Shape.rowMajor_val_three, Shape.rowMajor_val_two]
    have h0 : (i 0).val < 2048 := (i 0).isLt
    show ((i 0).val / 1024 * 1024 + (i 0).val % 1024) * 384 + (i 1).val = (i 0).val * 384 + (i 1).val
    omega)

theorem w_eq (i : S2048x384.Idx) : (V m c main_v0 : FVec Ideal S2048x384 .f32) i = W m c (at3 i) := by
  unfold V hostOps0; after_results; exact flat (W m c) i
theorem u_eq (i : S2048x384.Idx) : (V m c main_v1 : FVec Ideal S2048x384 .f32) i = U m c (at3 i) := by
  unfold V hostOps0; after_results; exact flat (U m c) i
theorem q_eq (i : S2048x384.Idx) : (V m c main_v2 : FVec Ideal S2048x384 .f32) i = Q m c (at3 i) := by
  unfold V hostOps0; after_results; exact flat (Q m c) i

theorem idx : ∀ t : Fin cfg0.N, win0_2.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] ∧ t.val < 8 :=
  (by decide +kernel : ∀ t : Fin grid0.N, _)
theorem idx_layer : ∀ t : Fin cfg0.N, (t.val / 4 = 0 → win0_0.index t = ![0, t.val % 4, 0]) ∧ (t.val / 4 = 1 → win0_1.index t = ![0, t.val % 4, 0]) :=
  (by decide +kernel : ∀ t : Fin grid0.N, _)

theorem lt (t : Fin cfg0.N) : t.val < 8 := (idx t).2.2.2.2.2.2.2

/-- The flat arrays' entry that point `t` works on, and the layer's row. -/
def flatAt (t : Fin cfg0.N) (j : S256x384.Idx) : S2048x384.Idx :=
  ix2 ⟨256 * t.val + (j 0).val, by have := lt t; have : (j 0).val < 256 := (j 0).isLt; omega⟩ (j 1)
def row (t : Fin cfg0.N) (i : Fin 256) : Fin 1024 := ⟨256 * (t.val % 4) + i.val, by omega⟩

/-- The blocks a point reads. -/
abbrev bw (t : Fin cfg0.N) : FVec Ideal S256x384 .f32 := iblk m c 2 t
abbrev bu (t : Fin cfg0.N) : FVec Ideal S256x384 .f32 := iblk m c 3 t
abbrev bq (t : Fin cfg0.N) : FVec Ideal S256x384 .f32 := iblk m c 4 t
def bl (t : Fin cfg0.N) : Fin 2 → FVec Ideal S8x256x384 .bf16
  | 0 => iblk m c 0 t
  | 1 => iblk m c 1 t

theorem bw_eq (t : Fin cfg0.N) (j : S256x384.Idx) : bw m c t j = W m c (at3 (flatAt t j)) := by
  refine Eq.trans (b := (V m c main_v0 : FVec Ideal S2048x384 .f32) (flatAt t j)) ?_ (w_eq m c _)
  blk_ext [bw, iblk, flatAt, idx t]
theorem bu_eq (t : Fin cfg0.N) (j : S256x384.Idx) : bu m c t j = U m c (at3 (flatAt t j)) := by
  refine Eq.trans (b := (V m c main_v1 : FVec Ideal S2048x384 .f32) (flatAt t j)) ?_ (u_eq m c _)
  blk_ext [bu, iblk, flatAt, idx t]
theorem bq_eq (t : Fin cfg0.N) (j : S256x384.Idx) : bq m c t j = Q m c (at3 (flatAt t j)) := by
  refine Eq.trans (b := (V m c main_v2 : FVec Ideal S2048x384 .f32) (flatAt t j)) ?_ (q_eq m c _)
  blk_ext [bq, iblk, flatAt, idx t]

theorem bl_eq (t : Fin cfg0.N) (l : Fin 2) (h : t.val / 4 = l.val) (j : S8x256x384.Idx) : bl m c t l j = layer m c l (ix3 (j 0) (row t (j 1)) (j 2)) := by
  obtain ⟨e0, e1⟩ := idx_layer t
  fin_cases l
  · refine Eq.trans (b := ((cfg0.win 0).blk t).view.read (Elt Ideal) (A0 m c) j) (congrArg (fun f => ((cfg0.win 0).blk t).view.read (Elt Ideal) f j) (V_main_arg0 m c)) ?_
    blk_ext [row, e0 h]
  · refine Eq.trans (b := ((cfg0.win 1).blk t).view.read (Elt Ideal) (A1 m c) j) (congrArg (fun f => ((cfg0.win 1).blk t).view.read (Elt Ideal) f j) (V_main_arg1 m c)) ?_
    blk_ext [row, e1 h]

theorem g_eq (t : Fin cfg0.N) (l : Fin 2) (h : t.val / 4 = l.val) (j : S256x384.Idx) : tot (bl m c t l) j = G m c (at3 (flatAt t j)) := by
  refine (tot_eq _ j).trans (Finset.sum_congr rfl fun k _ => (bl_eq m c t l h _).trans ?_)
  have hj : (j 0).val < 256 := (j 0).isLt
  have e : at3 (flatAt t j) = ix3 l (row t (j 0)) (j 1) := by
    funext a
    apply Fin.ext
    match a with
    | 0 => show (256 * t.val + (j 0).val) / 1024 = l.val; omega
    | 1 => show (256 * t.val + (j 0).val) % 1024 = 256 * (t.val % 4) + (j 0).val; omega
    | 2 => rfl
  rw [e]
  rfl

/-- What a point leaves in its four blocks, from the sum of its layer's pieces. -/
theorem outs (t : Fin cfg0.N) (l : Fin 2) (h : t.val / 4 = l.val) (j : S256x384.Idx) :
    (outsAt0 m c t.val t.isLt).1 j = tot (bl m c t l) j
    ∧ (outsAt0 m c t.val t.isLt).2.1 j = k0_pay3 (F := Ideal) (tot (bl m c t l)) (k0_pay8 (F := Ideal) (bu m c t)) (FloatOps.ofBits .f32 0x3F666666#32) (bq m c t) (bw m c t) j
    ∧ (outsAt0 m c t.val t.isLt).2.2.1 j = k0_pay1 (F := Ideal) (tot (bl m c t l)) (k0_pay8 (F := Ideal) (bu m c t)) (FloatOps.ofBits .f32 0x3F666666#32) j
    ∧ (outsAt0 m c t.val t.isLt).2.2.2 j = k0_pay2 (F := Ideal) (tot (bl m c t l)) (bq m c t) j := by
  have ht := lt t
  fin_cases l
  · have h' : t.val / 4 = 0 := h
    rw [outsAt0_A m c t (by omega) (by omega)]
    refine ⟨?_, ?_, ?_, ?_⟩ <;> (frame_open; frame_out; rfl)
  · have h' : t.val / 4 = 1 := h
    rw [outsAt0_B m c t (by omega) (by omega)]
    refine ⟨?_, ?_, ?_, ?_⟩ <;> (frame_open; frame_out; rfl)

/-- The same, from the arguments. -/
theorem leaves (t : Fin cfg0.N) (j : S256x384.Idx) :
    (outsAt0 m c t.val t.isLt).1 j = GG m c (flatAt t j) ∧ (outsAt0 m c t.val t.isLt).2.1 j = DD m c (flatAt t j)
    ∧ (outsAt0 m c t.val t.isLt).2.2.1 j = MM m c (flatAt t j) ∧ (outsAt0 m c t.val t.isLt).2.2.2 j = VV m c (flatAt t j) := by
  have ht := lt t
  obtain ⟨o7, o8, o9, o10⟩ := outs m c t ⟨t.val / 4, by omega⟩ rfl j
  have g := g_eq m c t ⟨t.val / 4, by omega⟩ rfl j
  refine ⟨o7.trans g, o8.trans ((p3 _ _ _ _ j).trans ?_), o9.trans ((p1 _ _ j).trans ?_), o10.trans ((p2 _ _ j).trans ?_)⟩
  · rw [g, bw_eq, bu_eq, bq_eq]; rfl
  · rw [g, bu_eq]; rfl
  · rw [g, bq_eq]; rfl

theorem fin_g : (dats m 0 c).arrAt 5 cfg0.N = (GG m c : FVec Ideal S2048x384 .f32) := by
  refine (dats m 0 c).arrAt_eq_of_covers 5 _ (by decide +kernel) fun t hf y => ?_
  blk_simp
  rw [after0_5]
  refine (leaves m c t y).1.trans ?_
  blk_ext [flatAt, idx t]
theorem fin_d : (dats m 0 c).arrAt 6 cfg0.N = (DD m c : FVec Ideal S2048x384 .f32) := by
  refine (dats m 0 c).arrAt_eq_of_covers 6 _ (by decide +kernel) fun t hf y => ?_
  blk_simp
  rw [after0_6]
  refine (leaves m c t y).2.1.trans ?_
  blk_ext [flatAt, idx t]
theorem fin_m : (dats m 0 c).arrAt 7 cfg0.N = (MM m c : FVec Ideal S2048x384 .f32) := by
  refine (dats m 0 c).arrAt_eq_of_covers 7 _ (by decide +kernel) fun t hf y => ?_
  blk_simp
  rw [after0_7]
  refine (leaves m c t y).2.2.1.trans ?_
  blk_ext [flatAt, idx t]
theorem fin_v : (dats m 0 c).arrAt 8 cfg0.N = (VV m c : FVec Ideal S2048x384 .f32) := by
  refine (dats m 0 c).arrAt_eq_of_covers 8 _ (by decide +kernel) fun t hf y => ?_
  blk_simp
  rw [after0_8]
  refine (leaves m c t y).2.2.2.trans ?_
  blk_ext [flatAt, idx t]
end

theorem frame_p : Cert.quiescent_Kernel19 := fun m ρ _ => Cert.Kernel19.Gen.frame m ρ
theorem frame_pi : Cert.quiescent_Kernel19Ideal := fun m ρ _ => Cert.Kernel19Ideal.Gen.frame m ρ
theorem frame_ri : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)
theorem preserves : Cert.preserves_Kernel19_Kernel19Ideal := trivial

variable (m : (ℓ : Loc Cert.Kernel19Ideal.nD Cert.Kernel19Ideal.τ Cert.Kernel19Ideal.sig) → Buf (Elt Ideal) ℓ) (c : Dev Cert.Kernel19Ideal.nD)

open Cert.Reference19Ideal Cert.Reference19Ideal.Read

/-- One layer's pieces summed, as the reference stacks them. -/
theorem ref_sum (x : FVec Ideal S8x1024x384 .bf16) (i : S1x1024x384.Idx) : val_main_v4 (F := Ideal) x i = ∑ k : Fin 8, x (ix3 k (i 1) (i 2)) := by
  rw [val_main_v4_apply, val_main_v1_apply, val_main_cst_apply]
  refine (congrArg (· + _) Ideal.ofBits_zero_f32).trans ((zero_add _).trans (Finset.sum_congr rfl fun k _ => ?_))
  rw [val_main_v0_apply]
  exact congrArg x (funext fun a => by fin_cases a <;> rfl)

theorem piece (l : Fin 2) (j : S2x1024x384.Idx) :
    PieceAt (t := S2x1024x384) 0 j (G m c j) S1x1024x384 (val_main_v4 (F := Ideal) (layer m c l)) l.val := by
  intro hl hr i h0 hb
  refine (ref_sum _ i).trans (Finset.sum_congr rfl fun k _ => ?_)
  have e0 : j 0 = l := Fin.ext hl
  have e1 : i 1 = j 1 := Fin.ext (hb 1 (by decide))
  have e2 : i 2 = j 2 := Fin.ext (hb 2 (by decide))
  rw [e0, e1, e2]

theorem ref_g (j : S2x1024x384.Idx) : val_main_v6 (F := Ideal) (A0 m c) (A1 m c) j = G m c j := by
  unfold val_main_v6
  exact concatenate_unit_eq _ _ _ j _ rfl ⟨piece m c 0 j, piece m c 1 j, trivial⟩

theorem ref_m (j : S2x1024x384.Idx) : val_main_v11 (F := Ideal) (A0 m c) (A1 m c) (U m c) j = mom (U m c j) (G m c j) := by
  rw [← ref_g]
  rfl
theorem ref_v (j : S2x1024x384.Idx) : val_main_v17 (F := Ideal) (A0 m c) (A1 m c) (Q m c) j = vel (Q m c j) (G m c j) := by
  rw [← ref_g]
  rfl
theorem ref_d (j : S2x1024x384.Idx) :
    val_main_v30 (F := Ideal) (A0 m c) (A1 m c) (W m c) (U m c) (Q m c) j = step (W m c j) (U m c j) (Q m c j) (G m c j) := by
  rw [← ref_g]
  rfl

theorem algebraic : Cert.algebraic_Kernel19Ideal_Reference19Ideal := by
  intro m ρ m' ρ' _ hag
  refine ⟨fun c => GG m c, fun c => DD m c, fun c => MM m c, fun c => VV m c,
    (θ_run Cert.Kernel19Ideal.defs _ _).mono (fun r h c => ⟨(h c).1.trans (fin_g m c), (h c).2.1.trans (fin_d m c), (h c).2.2.1.trans (fin_m m c), (h c).2.2.2.1.trans (fin_v m c), (h c).2.2.2.2⟩)
      (Cert.Kernel19Ideal.Value.run_blocks (F := Ideal) m ρ), ?_⟩
  refine (θ_run Cert.Reference19Ideal.defs _ _).mono (fun r h c => ?_) (Cert.Reference19Ideal.Value.run (F := Ideal) m' ρ')
  obtain ⟨g0, g1, g2, g3, g4⟩ := hag c
  refine ⟨(h c).1.trans ((val_main_v31_eq _ _).trans ?_), (h c).2.1.trans ((val_main_v32_eq _ _ _ _ _).trans ?_), (h c).2.2.1.trans ((val_main_v33_eq _ _ _).trans ?_),
    (h c).2.2.2.1.trans ((val_main_v34_eq _ _ _).trans ?_), (h c).2.2.2.2⟩
  · rw [g0, g1]; exact funext fun i => (flat _ i).trans (ref_g m c (at3 i))
  · rw [g0, g1, g2, g3, g4]; exact funext fun i => (flat _ i).trans (ref_d m c (at3 i))
  · rw [g0, g1, g3]; exact funext fun i => (flat _ i).trans (ref_m m c (at3 i))
  · rw [g0, g1, g4]; exact funext fun i => (flat _ i).trans (ref_v m c (at3 i))

end AdamQ

end
-- ==== Proof.AdamI.lean ====
/- The optimiser's call for the input projections of the gating mixer: the gradient summed over the devices, the step, the two moments. -/
module

public import proofs.«01_k».proof.Defs
public import proofs.«01_k».proof.Proof.Gen.Kernel20.Frame
public import proofs.«01_k».proof.Proof.Gen.Kernel20Ideal.Value
public import proofs.«01_k».proof.Proof.Gen.Reference20Ideal.Read
public import proofs.«01_k».proof.Proof.Adam

@[expose] public section

set_option maxRecDepth 16384

noncomputable section

open Idealize.ShloMosaic Idealize.ShloMosaic.TcCoe Idealize.SL.Sem

namespace AdamI

open Adam (mom vel step pc sum8)

section
open Cert.Kernel20Ideal Cert.Kernel20Ideal.Gen
variable (m : (ℓ : Loc nD τ sig) → Buf (Elt Ideal) ℓ) (c : Dev nD)

/-- The arguments: each layer's pieces from the eight devices, the weights and the two moments. -/
abbrev A0 : FVec Ideal S8x1024x256 .bf16 := m ((c : Thread nD τ).loc main_arg0)
abbrev A1 : FVec Ideal S8x1024x256 .bf16 := m ((c : Thread nD τ).loc main_arg1)
abbrev W : FVec Ideal S2x1024x256 .f32 := m ((c : Thread nD τ).loc main_arg2)
abbrev U : FVec Ideal S2x1024x256 .f32 := m ((c : Thread nD τ).loc main_arg3)
abbrev Q : FVec Ideal S2x1024x256 .f32 := m ((c : Thread nD τ).loc main_arg4)

def layer : Fin 2 → FVec Ideal S8x1024x256 .bf16
  | 0 => A0 m c
  | 1 => A1 m c

/-- The gradient of a layer's entry: the devices' pieces summed. -/
def G (i : S2x1024x256.Idx) : EReal := ∑ k : Fin 8, layer m c (i 0) (ix3 k (i 1) (i 2))

/-- Row `r` of the flat arrays is row `r % 1024` of layer `r / 1024`. -/
def at3 (i : S2048x256.Idx) : S2x1024x256.Idx :=
  ix3 ⟨(i 0).val / 1024, by have : (i 0).val < 2048 := (i 0).isLt; omega⟩ ⟨(i 0).val % 1024, Nat.mod_lt _ (by decide)⟩ (i 1)

def GG (i : S2048x256.Idx) : EReal := G m c (at3 i)
def DD (i : S2048x256.Idx) : EReal := step (W m c (at3 i)) (U m c (at3 i)) (Q m c (at3 i)) (G m c (at3 i))
def MM (i : S2048x256.Idx) : EReal := mom (U m c (at3 i)) (G m c (at3 i))
def VV (i : S2048x256.Idx) : EReal := vel (Q m c (at3 i)) (G m c (at3 i))

abbrev Pieces := S8x256x256.Idx → Elt Ideal .bf16

/-- The eight pieces of a block summed, as the kernel sums them. -/
def tot (x : Pieces) : FVec Ideal S256x256 .f32 := k0_pay7 (F := Ideal) (pc x 0) (pc x 1) (pc x 2) (pc x 3) (pc x 4) (pc x 5) (pc x 6) (pc x 7)

theorem p13 (x0 x1 x2 x3 x4 x5 x6 x7 : FVec Ideal S1x256x256 .bf16) (j : S256x256.Idx) :
    k0_pay7 (F := Ideal) x0 x1 x2 x3 x4 x5 x6 x7 j
      = (x0 (ix3 0 (j 0) (j 1)) + x1 (ix3 0 (j 0) (j 1)) + x2 (ix3 0 (j 0) (j 1)) + x3 (ix3 0 (j 0) (j 1)) + x4 (ix3 0 (j 0) (j 1))
          + x5 (ix3 0 (j 0) (j 1)) + x6 (ix3 0 (j 0) (j 1)) + x7 (ix3 0 (j 0) (j 1)) : EReal) := by
  pointwise [k0_pay7]

theorem tot_eq (x : Pieces) (j : S256x256.Idx) : tot x j = ∑ k : Fin 8, x (ix3 k (j 0) (j 1)) := (p13 _ _ _ _ _ _ _ _ j).trans (sum8 x (j 0) (j 1))

theorem p1 (g u : FVec Ideal S256x256 .f32) (j : S256x256.Idx) :
    k0_pay1 (F := Ideal) g (k0_pay8 (F := Ideal) u) (FloatOps.ofBits .f32 0x3F666666#32) j = mom (u j) (g j) := by
  pointwise [k0_pay1, k0_pay8, mom]
theorem p2 (g v : FVec Ideal S256x256 .f32) (j : S256x256.Idx) : k0_pay2 (F := Ideal) g v j = vel (v j) (g j) := by
  pointwise [k0_pay2, vel]
theorem p3 (g u v w : FVec Ideal S256x256 .f32) (j : S256x256.Idx) :
    k0_pay3 (F := Ideal) g (k0_pay8 (F := Ideal) u) (FloatOps.ofBits .f32 0x3F666666#32) v w j = step (w j) (u j) (v j) (g j) := by
  pointwise [k0_pay3, p2, step]
  exact congrArg (fun z => _ * (Ideal.div (Ideal.div z _) _ + _)) (p1 g u j)

theorem flat (y : FVec Ideal S2x1024x256 .f32) (i : S2048x256.Idx) :
    (shapeCast S2048x256 y shapeCasts_S2x1024x256_S2048x256 : FVec Ideal S2048x256 .f32) i = y (at3 i) :=
  shapeCast_apply y shapeCasts_S2x1024x256_S2048x256 i (at3 i) (by
    rewrite [Shape.rowMajor_val_three, Shape.rowMajor_val_two]
    have h0 : (i 0).val < 2048 := (i 0).isLt
    show ((i 0).val / 1024 * 1024 + (i 0).val % 1024) * 256 + (i 1).val = (i 0).val * 256 + (i 1).val
    omega)

theorem w_eq (i : S2048x256.Idx) : (V m c main_v0 : FVec Ideal S2048x256 .f32) i = W m c (at3 i) := by
  unfold V hostOps0; after_results; exact flat (W m c) i
theorem u_eq (i : S2048x256.Idx) : (V m c main_v1 : FVec Ideal S2048x256 .f32) i = U m c (at3 i) := by
  unfold V hostOps0; after_results; exact flat (U m c) i
theorem q_eq (i : S2048x256.Idx) : (V m c main_v2 : FVec Ideal S2048x256 .f32) i = Q m c (at3 i) := by
  unfold V hostOps0; after_results; exact flat (Q m c) i

theorem idx : ∀ t : Fin cfg0.N, win0_2.index t = ![t.val, 0] ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0] ∧ t.val < 8 :=
  (by decide +kernel : ∀ t : Fin grid0.N, _)
theorem idx_layer : ∀ t : Fin cfg0.N, (t.val / 4 = 0 → win0_0.index t = ![0, t.val % 4, 0]) ∧ (t.val / 4 = 1 → win0_1.index t = ![0, t.val % 4, 0]) :=
  (by decide +kernel : ∀ t : Fin grid0.N, _)

theorem lt (t : Fin cfg0.N) : t.val < 8 := (idx t).2.2.2.2.2.2.2

/-- The flat arrays' entry that point `t` works on, and the layer's row. -/
def flatAt (t : Fin cfg0.N) (j : S256x256.Idx) : S2048x256.Idx :=
  ix2 ⟨256 * t.val + (j 0).val, by have := lt t; have : (j 0).val < 256 := (j 0).isLt; omega⟩ (j 1)
def row (t : Fin cfg0.N) (i : Fin 256) : Fin 1024 := ⟨256 * (t.val % 4) + i.val, by omega⟩

/-- The blocks a point reads. -/
abbrev bw (t : Fin cfg0.N) : FVec Ideal S256x256 .f32 := iblk m c 2 t
abbrev bu (t : Fin cfg0.N) : FVec Ideal S256x256 .f32 := iblk m c 3 t
abbrev bq (t : Fin cfg0.N) : FVec Ideal S256x256 .f32 := iblk m c 4 t
def bl (t : Fin cfg0.N) : Fin 2 → FVec Ideal S8x256x256 .bf16
  | 0 => iblk m c 0 t
  | 1 => iblk m c 1 t

theorem bw_eq (t : Fin cfg0.N) (j : S256x256.Idx) : bw m c t j = W m c (at3 (flatAt t j)) := by
  refine Eq.trans (b := (V m c main_v0 : FVec Ideal S2048x256 .f32) (flatAt t j)) ?_ (w_eq m c _)
  blk_ext [bw, iblk, flatAt, idx t]
theorem bu_eq (t : Fin cfg0.N) (j : S256x256.Idx) : bu m c t j = U m c (at3 (flatAt t j)) := by
  refine Eq.trans (b := (V m c main_v1 : FVec Ideal S2048x256 .f32) (flatAt t j)) ?_ (u_eq m c _)
  blk_ext [bu, iblk, flatAt, idx t]
theorem bq_eq (t : Fin cfg0.N) (j : S256x256.Idx) : bq m c t j = Q m c (at3 (flatAt t j)) := by
  refine Eq.trans (b := (V m c main_v2 : FVec Ideal S2048x256 .f32) (flatAt t j)) ?_ (q_eq m c _)
  blk_ext [bq, iblk, flatAt, idx t]

theorem bl_eq (t : Fin cfg0.N) (l : Fin 2) (h : t.val / 4 = l.val) (j : S8x256x256.Idx) : bl m c t l j = layer m c l (ix3 (j 0) (row t (j 1)) (j 2)) := by
  obtain ⟨e0, e1⟩ := idx_layer t
  fin_cases l
  · refine Eq.trans (b := ((cfg0.win 0).blk t).view.read (Elt Ideal) (A0 m c) j) (congrArg (fun f => ((cfg0.win 0).blk t).view.read (Elt Ideal) f j) (V_main_arg0 m c)) ?_
    blk_ext [row, e0 h]
  · refine Eq.trans (b := ((cfg0.win 1).blk t).view.read (Elt Ideal) (A1 m c) j) (congrArg (fun f => ((cfg0.win 1).blk t).view.read (Elt Ideal) f j) (V_main_arg1 m c)) ?_
    blk_ext [row, e1 h]

theorem g_eq (t : Fin cfg0.N) (l : Fin 2) (h : t.val / 4 = l.val) (j : S256x256.Idx) : tot (bl m c t l) j = G m c (at3 (flatAt t j)) := by
  refine (tot_eq _ j).trans (Finset.sum_congr rfl fun k _ => (bl_eq m c t l h _).trans ?_)
  have hj : (j 0).val < 256 := (j 0).isLt
  have e : at3 (flatAt t j) = ix3 l (row t (j 0)) (j 1) := by
    funext a
    apply Fin.ext
    match a with
    | 0 => show (256 * t.val + (j 0).val) / 1024 = l.val; omega
    | 1 => show (256 * t.val + (j 0).val) % 1024 = 256 * (t.val % 4) + (j 0).val; omega
    | 2 => rfl
  rw [e]
  rfl

/-- What a point leaves in its four blocks, from the sum of its layer's pieces. -/
theorem outs (t : Fin cfg0.N) (l : Fin 2) (h : t.val / 4 = l.val) (j : S256x256.Idx) :
    (outsAt0 m c t.val t.isLt).1 j = tot (bl m c t l) j
    ∧ (outsAt0 m c t.val t.isLt).2.1 j = k0_pay3 (F := Ideal) (tot (bl m c t l)) (k0_pay8 (F := Ideal) (bu m c t)) (FloatOps.ofBits .f32 0x3F666666#32) (bq m c t) (bw m c t) j
    ∧ (outsAt0 m c t.val t.isLt).2.2.1 j = k0_pay1 (F := Ideal) (tot (bl m c t l)) (k0_pay8 (F := Ideal) (bu m c t)) (FloatOps.ofBits .f32 0x3F666666#32) j
    ∧ (outsAt0 m c t.val t.isLt).2.2.2 j = k0_pay2 (F := Ideal) (tot (bl m c t l)) (bq m c t) j := by
  have ht := lt t
  fin_cases l
  · have h' : t.val / 4 = 0 := h
    rw [outsAt0_A m c t (by omega) (by omega)]
    refine ⟨?_, ?_, ?_, ?_⟩ <;> (frame_open; frame_out; rfl)
  · have h' : t.val / 4 = 1 := h
    rw [outsAt0_B m c t (by omega) (by omega)]
    refine ⟨?_, ?_, ?_, ?_⟩ <;> (frame_open; frame_out; rfl)

/-- The same, from the arguments. -/
theorem leaves (t : Fin cfg0.N) (j : S256x256.Idx) :
    (outsAt0 m c t.val t.isLt).1 j = GG m c (flatAt t j) ∧ (outsAt0 m c t.val t.isLt).2.1 j = DD m c (flatAt t j)
    ∧ (outsAt0 m c t.val t.isLt).2.2.1 j = MM m c (flatAt t j) ∧ (outsAt0 m c t.val t.isLt).2.2.2 j = VV m c (flatAt t j) := by
  have ht := lt t
  obtain ⟨o7, o8, o9, o10⟩ := outs m c t ⟨t.val / 4, by omega⟩ rfl j
  have g := g_eq m c t ⟨t.val / 4, by omega⟩ rfl j
  refine ⟨o7.trans g, o8.trans ((p3 _ _ _ _ j).trans ?_), o9.trans ((p1 _ _ j).trans ?_), o10.trans ((p2 _ _ j).trans ?_)⟩
  · rw [g, bw_eq, bu_eq, bq_eq]; rfl
  · rw [g, bu_eq]; rfl
  · rw [g, bq_eq]; rfl

theorem fin_g : (dats m 0 c).arrAt 5 cfg0.N = (GG m c : FVec Ideal S2048x256 .f32) := by
  refine (dats m 0 c).arrAt_eq_of_covers 5 _ (by decide +kernel) fun t hf y => ?_
  blk_simp
  rw [after0_5]
  refine (leaves m c t y).1.trans ?_
  blk_ext [flatAt, idx t]
theorem fin_d : (dats m 0 c).arrAt 6 cfg0.N = (DD m c : FVec Ideal S2048x256 .f32) := by
  refine (dats m 0 c).arrAt_eq_of_covers 6 _ (by decide +kernel) fun t hf y => ?_
  blk_simp
  rw [after0_6]
  refine (leaves m c t y).2.1.trans ?_
  blk_ext [flatAt, idx t]
theorem fin_m : (dats m 0 c).arrAt 7 cfg0.N = (MM m c : FVec Ideal S2048x256 .f32) := by
  refine (dats m 0 c).arrAt_eq_of_covers 7 _ (by decide +kernel) fun t hf y => ?_
  blk_simp
  rw [after0_7]
  refine (leaves m c t y).2.2.1.trans ?_
  blk_ext [flatAt, idx t]
theorem fin_v : (dats m 0 c).arrAt 8 cfg0.N = (VV m c : FVec Ideal S2048x256 .f32) := by
  refine (dats m 0 c).arrAt_eq_of_covers 8 _ (by decide +kernel) fun t hf y => ?_
  blk_simp
  rw [after0_8]
  refine (leaves m c t y).2.2.2.trans ?_
  blk_ext [flatAt, idx t]
end

theorem frame_p : Cert.quiescent_Kernel20 := fun m ρ _ => Cert.Kernel20.Gen.frame m ρ
theorem frame_pi : Cert.quiescent_Kernel20Ideal := fun m ρ _ => Cert.Kernel20Ideal.Gen.frame m ρ
theorem frame_ri : Cert.quiescent_Reference20Ideal := fun m ρ _ =>
  (θ_run Cert.Reference20Ideal.defs _ _).mono (fun r h => ⟨fun c => (h c).2.2.2.2, sem_eq_zero_of_no_sems (by decide) r.2⟩)
    (Cert.Reference20Ideal.Value.run (F := Ideal) m ρ)
theorem preserves : Cert.preserves_Kernel20_Kernel20Ideal := trivial

variable (m : (ℓ : Loc Cert.Kernel20Ideal.nD Cert.Kernel20Ideal.τ Cert.Kernel20Ideal.sig) → Buf (Elt Ideal) ℓ) (c : Dev Cert.Kernel20Ideal.nD)

open Cert.Reference20Ideal Cert.Reference20Ideal.Read

/-- One layer's pieces summed, as the reference stacks them. -/
theorem ref_sum (x : FVec Ideal S8x1024x256 .bf16) (i : S1x1024x256.Idx) : val_main_v4 (F := Ideal) x i = ∑ k : Fin 8, x (ix3 k (i 1) (i 2)) := by
  rw [val_main_v4_apply, val_main_v1_apply, val_main_cst_apply]
  refine (congrArg (· + _) Ideal.ofBits_zero_f32).trans ((zero_add _).trans (Finset.sum_congr rfl fun k _ => ?_))
  rw [val_main_v0_apply]
  exact congrArg x (funext fun a => by fin_cases a <;> rfl)

theorem piece (l : Fin 2) (j : S2x1024x256.Idx) :
    PieceAt (t := S2x1024x256) 0 j (G m c j) S1x1024x256 (val_main_v4 (F := Ideal) (layer m c l)) l.val := by
  intro hl hr i h0 hb
  refine (ref_sum _ i).trans (Finset.sum_congr rfl fun k _ => ?_)
  have e0 : j 0 = l := Fin.ext hl
  have e1 : i 1 = j 1 := Fin.ext (hb 1 (by decide))
  have e2 : i 2 = j 2 := Fin.ext (hb 2 (by decide))
  rw [e0, e1, e2]

theorem ref_g (j : S2x1024x256.Idx) : val_main_v6 (F := Ideal) (A0 m c) (A1 m c) j = G m c j := by
  unfold val_main_v6
  exact concatenate_unit_eq _ _ _ j _ rfl ⟨piece m c 0 j, piece m c 1 j, trivial⟩

theorem ref_m (j : S2x1024x256.Idx) : val_main_v11 (F := Ideal) (A0 m c) (A1 m c) (U m c) j = mom (U m c j) (G m c j) := by
  rw [← ref_g]
  rfl
theorem ref_v (j : S2x1024x256.Idx) : val_main_v17 (F := Ideal) (A0 m c) (A1 m c) (Q m c) j = vel (Q m c j) (G m c j) := by
  rw [← ref_g]
  rfl
theorem ref_d (j : S2x1024x256.Idx) :
    val_main_v30 (F := Ideal) (A0 m c) (A1 m c) (W m c) (U m c) (Q m c) j = step (W m c j) (U m c j) (Q m c j) (G m c j) := by
  rw [← ref_g]
  rfl

theorem algebraic : Cert.algebraic_Kernel20Ideal_Reference20Ideal := by
  intro m ρ m' ρ' _ hag
  refine ⟨fun c => GG m c, fun c => DD m c, fun c => MM m c, fun c => VV m c,
    (θ_run Cert.Kernel20Ideal.defs _ _).mono (fun r h c => ⟨(h c).1.trans (fin_g m c), (h c).2.1.trans (fin_d m c), (h c).2.2.1.trans (fin_m m c), (h c).2.2.2.1.trans (fin_v m c), (h c).2.2.2.2⟩)
      (Cert.Kernel20Ideal.Value.run_blocks (F := Ideal) m ρ), ?_⟩
  refine (θ_run Cert.Reference20Ideal.defs _ _).mono (fun r h c => ?_) (Cert.Reference20Ideal.Value.run (F := Ideal) m' ρ')
  obtain ⟨g0, g1, g2, g3, g4⟩ := hag c
  refine ⟨(h c).1.trans ((val_main_v31_eq _ _).trans ?_), (h c).2.1.trans ((val_main_v32_eq _ _ _ _ _).trans ?_), (h c).2.2.1.trans ((val_main_v33_eq _ _ _).trans ?_),
    (h c).2.2.2.1.trans ((val_main_v34_eq _ _ _).trans ?_), (h c).2.2.2.2⟩
  · rw [g0, g1]; exact funext fun i => (flat _ i).trans (ref_g m c (at3 i))
  · rw [g0, g1, g2, g3, g4]; exact funext fun i => (flat _ i).trans (ref_d m c (at3 i))
  · rw [g0, g1, g3]; exact funext fun i => (flat _ i).trans (ref_m m c (at3 i))
  · rw [g0, g1, g4]; exact funext fun i => (flat _ i).trans (ref_v m c (at3 i))

end AdamI

end
-- ==== Proof.lean ====
module

public import proofs.«01_k».proof.Defs
public import proofs.«01_k».proof.Proof.Gen.Kernel.Frame
public import proofs.«01_k».proof.Proof.Gen.Pre_finite
public import proofs.«01_k».proof.Proof.Gen.On_written
public import Idealize.ShloMosaic.Adequacy
public import Idealize.ShloMosaic.Init
public import proofs.«01_k».proof.Proof.Gen.KernelIdeal.Value
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Read
public import proofs.«01_k».proof.Proof.Gen.Kernel18.Frame
public import proofs.«01_k».proof.Proof.Gen.Kernel18Ideal.Value
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Read
public import proofs.«01_k».proof.Proof.Mixer
public import proofs.«01_k».proof.Proof.Weights
public import proofs.«01_k».proof.Proof.Forward
public import proofs.«01_k».proof.Proof.Backward
public import proofs.«01_k».proof.Proof.Outproj
public import proofs.«01_k».proof.Proof.InBack
public import proofs.«01_k».proof.Proof.InFwd
public import proofs.«01_k».proof.Proof.ProjDw
public import proofs.«01_k».proof.Proof.Adam
public import proofs.«01_k».proof.Proof.Loss
public import proofs.«01_k».proof.Proof.ZDw
public import proofs.«01_k».proof.Proof.ZBack
public import proofs.«01_k».proof.Proof.ZFwd
public import proofs.«01_k».proof.Proof.Adam2
public import proofs.«01_k».proof.Proof.AdamO
public import proofs.«01_k».proof.Proof.AdamQ
public import proofs.«01_k».proof.Proof.AdamI

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Kernel14.Gen.facts, Cert.Kernel14Ideal.Gen.facts, Cert.Reference14Ideal.Gen.facts,
   Cert.Kernel15.Gen.facts, Cert.Kernel15Ideal.Gen.facts, Cert.Reference15Ideal.Gen.facts,
   Cert.Kernel16.Gen.facts, Cert.Kernel16Ideal.Gen.facts, Cert.Reference16Ideal.Gen.facts,
   Cert.Kernel17.Gen.facts, Cert.Kernel17Ideal.Gen.facts, Cert.Reference17Ideal.Gen.facts,
   Cert.Kernel18.Gen.facts, Cert.Kernel18Ideal.Gen.facts, Cert.Reference18Ideal.Gen.facts,
   Cert.Kernel19.Gen.facts, Cert.Kernel19Ideal.Gen.facts, Cert.Reference19Ideal.Gen.facts,
   Cert.Kernel20.Gen.facts, Cert.Kernel20Ideal.Gen.facts, Cert.Reference20Ideal.Gen.facts,
   Cert.Pre_finite.Gen.facts, Cert.On_written.Gen.facts,
   Mixer.frame_p, Mixer.frame_pi, Mixer.frame_pi_finite, Mixer.frame_ri, Mixer.frame_ri_finite,
   Dw1.frame_p, Dw1.frame_pi, Dw1.frame_ri, Dw2.frame_p, Dw2.frame_pi, Dw2.frame_ri,
   Fwd.frame_p, Fwd.frame_pi, Fwd.frame_ri,
   Bwd.frame_p, Bwd.frame_pi, Bwd.frame_ri,
   OutF.frame_p, OutF.frame_pi, OutF.frame_ri,
   OutB.frame_p, OutB.frame_pi, OutB.frame_ri,
   InB.frame_p, InB.frame_pi, InB.frame_ri,
   InF.frame_p, InF.frame_pi, InF.frame_ri,
   DwQ.frame_p, DwQ.frame_pi, DwQ.frame_ri,
   DwO.frame_p, DwO.frame_pi, DwO.frame_ri,
   Adam.frame_p, Adam.frame_pi, Adam.frame_ri,
   Loss.frame_p, Loss.frame_pi, Loss.frame_ri,
   DwZ.frame_p, DwZ.frame_pi, DwZ.frame_ri,
   ZB.frame_p, ZB.frame_pi, ZB.frame_ri,
   ZF.frame_p, ZF.frame_pi, ZF.frame_ri,
   Adam2.frame_p, Adam2.frame_pi, Adam2.frame_ri,
   AdamO.frame_p, AdamO.frame_pi, AdamO.frame_ri,
   AdamQ.frame_p, AdamQ.frame_pi, AdamQ.frame_ri,
   AdamI.frame_p, AdamI.frame_pi, AdamI.frame_ri,
   Mixer.preserves, Mixer.algebraic, Dw1.preserves, Dw1.algebraic, Dw2.preserves, Dw2.algebraic,
   Fwd.preserves, Fwd.algebraic, Bwd.preserves, Bwd.algebraic,
   OutF.preserves, OutF.algebraic, OutB.preserves, OutB.algebraic, InB.preserves, InB.algebraic,
   InF.preserves, InF.algebraic, DwQ.preserves, DwQ.algebraic, DwO.preserves, DwO.algebraic,
   Adam.preserves, Adam.algebraic, Loss.preserves, Loss.algebraic,
   DwZ.preserves, DwZ.algebraic, ZB.preserves, ZB.algebraic, ZF.preserves, ZF.algebraic, Adam2.preserves, Adam2.algebraic, AdamO.preserves, AdamO.algebraic, AdamQ.preserves, AdamQ.algebraic, AdamI.preserves, AdamI.algebraic⟩

end Cert.Proof

end
